-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_finite_routing [hPre_finite_routing : Cert.Pre_finite_routing.Facts] (m : (ℓ : Loc Cert.MoeIdeal.nD Cert.MoeIdeal.τ Cert.MoeIdeal.sig) → Buf (Elt Ideal) ℓ) : Prop :=
  ∀ c : Dev Cert.MoeIdeal.nD,
    (Cert.Pre_finite_routing.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_finite_routing [hPre_finite_routing : Cert.Pre_finite_routing.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_finite_routing.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Steps (m : (ℓ : Loc Cert.Steps.nD Cert.Steps.τ Cert.Steps.sig) → Buf (Elt Bits) ℓ) : Prop :=
  True

def Pre_StepsIdeal (m : (ℓ : Loc Cert.StepsIdeal.nD Cert.StepsIdeal.τ Cert.StepsIdeal.sig) → Buf (Elt Ideal) ℓ) : Prop :=
  True

def Pre_StepsIdeal_finite_steps [hPre_finite_steps : Cert.Pre_finite_steps.Facts] (m : (ℓ : Loc Cert.StepsIdeal.nD Cert.StepsIdeal.τ Cert.StepsIdeal.sig) → Buf (Elt Ideal) ℓ) : Prop :=
  ∀ c : Dev Cert.StepsIdeal.nD,
    (Cert.Pre_finite_steps.fn (F := Ideal) (m ((c.tc : Thread Cert.StepsIdeal.nD Cert.StepsIdeal.τ).loc Cert.StepsIdeal.main_arg0)) (m ((c.tc : Thread Cert.StepsIdeal.nD Cert.StepsIdeal.τ).loc Cert.StepsIdeal.main_arg1)) (m ((c.tc : Thread Cert.StepsIdeal.nD Cert.StepsIdeal.τ).loc Cert.StepsIdeal.main_arg2)) (m ((c.tc : Thread Cert.StepsIdeal.nD Cert.StepsIdeal.τ).loc Cert.StepsIdeal.main_arg3)) (m ((c.tc : Thread Cert.StepsIdeal.nD Cert.StepsIdeal.τ).loc Cert.StepsIdeal.main_arg4)) (m ((c.tc : Thread Cert.StepsIdeal.nD Cert.StepsIdeal.τ).loc Cert.StepsIdeal.main_arg5)) (m ((c.tc : Thread Cert.StepsIdeal.nD Cert.StepsIdeal.τ).loc Cert.StepsIdeal.main_arg6)) (m ((c.tc : Thread Cert.StepsIdeal.nD Cert.StepsIdeal.τ).loc Cert.StepsIdeal.main_arg7)) (m ((c.tc : Thread Cert.StepsIdeal.nD Cert.StepsIdeal.τ).loc Cert.StepsIdeal.main_arg8)) (m ((c.tc : Thread Cert.StepsIdeal.nD Cert.StepsIdeal.τ).loc Cert.StepsIdeal.main_arg9)) (m ((c.tc : Thread Cert.StepsIdeal.nD Cert.StepsIdeal.τ).loc Cert.StepsIdeal.main_arg10))) = (fun _ => 1#1)

def Pre_StepsRefIdeal (m : (ℓ : Loc Cert.StepsRefIdeal.nD Cert.StepsRefIdeal.τ Cert.StepsRefIdeal.sig) → Buf (Elt Ideal) ℓ) : Prop :=
  True

def Pre_StepsRefIdeal_finite_steps [hPre_finite_steps : Cert.Pre_finite_steps.Facts] (m : (ℓ : Loc Cert.StepsRefIdeal.nD Cert.StepsRefIdeal.τ Cert.StepsRefIdeal.sig) → Buf (Elt Ideal) ℓ) : Prop :=
  ∀ c : Dev Cert.StepsRefIdeal.nD,
    (Cert.Pre_finite_steps.fn (F := Ideal) (m ((c.tc : Thread Cert.StepsRefIdeal.nD Cert.StepsRefIdeal.τ).loc Cert.StepsRefIdeal.main_arg0)) (m ((c.tc : Thread Cert.StepsRefIdeal.nD Cert.StepsRefIdeal.τ).loc Cert.StepsRefIdeal.main_arg1)) (m ((c.tc : Thread Cert.StepsRefIdeal.nD Cert.StepsRefIdeal.τ).loc Cert.StepsRefIdeal.main_arg2)) (m ((c.tc : Thread Cert.StepsRefIdeal.nD Cert.StepsRefIdeal.τ).loc Cert.StepsRefIdeal.main_arg3)) (m ((c.tc : Thread Cert.StepsRefIdeal.nD Cert.StepsRefIdeal.τ).loc Cert.StepsRefIdeal.main_arg4)) (m ((c.tc : Thread Cert.StepsRefIdeal.nD Cert.StepsRefIdeal.τ).loc Cert.StepsRefIdeal.main_arg5)) (m ((c.tc : Thread Cert.StepsRefIdeal.nD Cert.StepsRefIdeal.τ).loc Cert.StepsRefIdeal.main_arg6)) (m ((c.tc : Thread Cert.StepsRefIdeal.nD Cert.StepsRefIdeal.τ).loc Cert.StepsRefIdeal.main_arg7)) (m ((c.tc : Thread Cert.StepsRefIdeal.nD Cert.StepsRefIdeal.τ).loc Cert.StepsRefIdeal.main_arg8)) (m ((c.tc : Thread Cert.StepsRefIdeal.nD Cert.StepsRefIdeal.τ).loc Cert.StepsRefIdeal.main_arg9)) (m ((c.tc : Thread Cert.StepsRefIdeal.nD Cert.StepsRefIdeal.τ).loc Cert.StepsRefIdeal.main_arg10))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attention [hPre_finite_attention : Cert.Pre_finite_attention.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attention.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attention [hPre_finite_attention : Cert.Pre_finite_attention.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attention.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSIdeal_finite_projection [hPre_finite_projection : Cert.Pre_finite_projection.Facts] (m : (ℓ : Loc Cert.InprojSIdeal.nD Cert.InprojSIdeal.τ Cert.InprojSIdeal.sig) → Buf (Elt Ideal) ℓ) : Prop :=
  ∀ c : Dev Cert.InprojSIdeal.nD,
    (Cert.Pre_finite_projection.fn (F := Ideal) (m ((c.tc : Thread Cert.InprojSIdeal.nD Cert.InprojSIdeal.τ).loc Cert.InprojSIdeal.main_arg0)) (m ((c.tc : Thread Cert.InprojSIdeal.nD Cert.InprojSIdeal.τ).loc Cert.InprojSIdeal.main_arg1)) (m ((c.tc : Thread Cert.InprojSIdeal.nD Cert.InprojSIdeal.τ).loc Cert.InprojSIdeal.main_arg2)) (m ((c.tc : Thread Cert.InprojSIdeal.nD Cert.InprojSIdeal.τ).loc Cert.InprojSIdeal.main_arg3)) (m ((c.tc : Thread Cert.InprojSIdeal.nD Cert.InprojSIdeal.τ).loc Cert.InprojSIdeal.main_arg4))) = (fun _ => 1#1)

def Pre_InprojSRefIdeal (m : (ℓ : Loc Cert.InprojSRefIdeal.nD Cert.InprojSRefIdeal.τ Cert.InprojSRefIdeal.sig) → Buf (Elt Ideal) ℓ) : Prop :=
  True

def Pre_InprojSRefIdeal_finite_projection [hPre_finite_projection : Cert.Pre_finite_projection.Facts] (m : (ℓ : Loc Cert.InprojSRefIdeal.nD Cert.InprojSRefIdeal.τ Cert.InprojSRefIdeal.sig) → Buf (Elt Ideal) ℓ) : Prop :=
  ∀ c : Dev Cert.InprojSRefIdeal.nD,
    (Cert.Pre_finite_projection.fn (F := Ideal) (m ((c.tc : Thread Cert.InprojSRefIdeal.nD Cert.InprojSRefIdeal.τ).loc Cert.InprojSRefIdeal.main_arg0)) (m ((c.tc : Thread Cert.InprojSRefIdeal.nD Cert.InprojSRefIdeal.τ).loc Cert.InprojSRefIdeal.main_arg1)) (m ((c.tc : Thread Cert.InprojSRefIdeal.nD Cert.InprojSRefIdeal.τ).loc Cert.InprojSRefIdeal.main_arg2)) (m ((c.tc : Thread Cert.InprojSRefIdeal.nD Cert.InprojSRefIdeal.τ).loc Cert.InprojSRefIdeal.main_arg3)) (m ((c.tc : Thread Cert.InprojSRefIdeal.nD Cert.InprojSRefIdeal.τ).loc Cert.InprojSRefIdeal.main_arg4))) = (fun _ => 1#1)

def Pre_GmlpS (m : (ℓ : Loc Cert.GmlpS.nD Cert.GmlpS.τ Cert.GmlpS.sig) → Buf (Elt Bits) ℓ) : Prop :=
  True

def Pre_GmlpSIdeal (m : (ℓ : Loc Cert.GmlpSIdeal.nD Cert.GmlpSIdeal.τ Cert.GmlpSIdeal.sig) → Buf (Elt Ideal) ℓ) : Prop :=
  True

def Pre_GmlpSIdeal_finite_gating [hPre_finite_gating : Cert.Pre_finite_gating.Facts] (m : (ℓ : Loc Cert.GmlpSIdeal.nD Cert.GmlpSIdeal.τ Cert.GmlpSIdeal.sig) → Buf (Elt Ideal) ℓ) : Prop :=
  ∀ c : Dev Cert.GmlpSIdeal.nD,
    (Cert.Pre_finite_gating.fn (F := Ideal) (m ((c.tc : Thread Cert.GmlpSIdeal.nD Cert.GmlpSIdeal.τ).loc Cert.GmlpSIdeal.main_arg0)) (m ((c.tc : Thread Cert.GmlpSIdeal.nD Cert.GmlpSIdeal.τ).loc Cert.GmlpSIdeal.main_arg1)) (m ((c.tc : Thread Cert.GmlpSIdeal.nD Cert.GmlpSIdeal.τ).loc Cert.GmlpSIdeal.main_arg2)) (m ((c.tc : Thread Cert.GmlpSIdeal.nD Cert.GmlpSIdeal.τ).loc Cert.GmlpSIdeal.main_arg3)) (m ((c.tc : Thread Cert.GmlpSIdeal.nD Cert.GmlpSIdeal.τ).loc Cert.GmlpSIdeal.main_arg4)) (m ((c.tc : Thread Cert.GmlpSIdeal.nD Cert.GmlpSIdeal.τ).loc Cert.GmlpSIdeal.main_arg5))) = (fun _ => 1#1)

def Pre_GmlpSRefIdeal (m : (ℓ : Loc Cert.GmlpSRefIdeal.nD Cert.GmlpSRefIdeal.τ Cert.GmlpSRefIdeal.sig) → Buf (Elt Ideal) ℓ) : Prop :=
  True

def Pre_GmlpSRefIdeal_finite_gating [hPre_finite_gating : Cert.Pre_finite_gating.Facts] (m : (ℓ : Loc Cert.GmlpSRefIdeal.nD Cert.GmlpSRefIdeal.τ Cert.GmlpSRefIdeal.sig) → Buf (Elt Ideal) ℓ) : Prop :=
  ∀ c : Dev Cert.GmlpSRefIdeal.nD,
    (Cert.Pre_finite_gating.fn (F := Ideal) (m ((c.tc : Thread Cert.GmlpSRefIdeal.nD Cert.GmlpSRefIdeal.τ).loc Cert.GmlpSRefIdeal.main_arg0)) (m ((c.tc : Thread Cert.GmlpSRefIdeal.nD Cert.GmlpSRefIdeal.τ).loc Cert.GmlpSRefIdeal.main_arg1)) (m ((c.tc : Thread Cert.GmlpSRefIdeal.nD Cert.GmlpSRefIdeal.τ).loc Cert.GmlpSRefIdeal.main_arg2)) (m ((c.tc : Thread Cert.GmlpSRefIdeal.nD Cert.GmlpSRefIdeal.τ).loc Cert.GmlpSRefIdeal.main_arg3)) (m ((c.tc : Thread Cert.GmlpSRefIdeal.nD Cert.GmlpSRefIdeal.τ).loc Cert.GmlpSRefIdeal.main_arg4)) (m ((c.tc : Thread Cert.GmlpSRefIdeal.nD Cert.GmlpSRefIdeal.τ).loc Cert.GmlpSRefIdeal.main_arg5))) = (fun _ => 1#1)

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeIdeal_pre_finite_routing [hMoeIdeal : Cert.MoeIdeal.Facts] [hPre_finite_routing : Cert.Pre_finite_routing.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_finite_routing m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_finite_routing [hMoeRefIdeal : Cert.MoeRefIdeal.Facts] [hPre_finite_routing : Cert.Pre_finite_routing.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_finite_routing m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_Steps [hSteps : Cert.Steps.Facts] : Prop :=
  ∀ (m : (ℓ : Loc Cert.Steps.nD Cert.Steps.τ Cert.Steps.sig) → Buf (Elt Bits) ℓ) (g : Dev Cert.Steps.nD → PrngReg), Pre_Steps m →
    θ_run (Cert.Steps.defs (F := Bits)) (onTc (τ := Cert.Steps.τ) (Cert.Steps.main (F := Bits))) ⟨m, fun _ => 0, g⟩ (fun r => (∀ c : Dev Cert.Steps.nD,
      r.2.mem ((c.tc : Thread Cert.Steps.nD Cert.Steps.τ).loc Cert.Steps.main_arg0) = m ((c.tc : Thread Cert.Steps.nD Cert.Steps.τ).loc Cert.Steps.main_arg0)
      ∧ r.2.mem ((c.tc : Thread Cert.Steps.nD Cert.Steps.τ).loc Cert.Steps.main_arg1) = m ((c.tc : Thread Cert.Steps.nD Cert.Steps.τ).loc Cert.Steps.main_arg1)
      ∧ r.2.mem ((c.tc : Thread Cert.Steps.nD Cert.Steps.τ).loc Cert.Steps.main_arg2) = m ((c.tc : Thread Cert.Steps.nD Cert.Steps.τ).loc Cert.Steps.main_arg2)
      ∧ r.2.mem ((c.tc : Thread Cert.Steps.nD Cert.Steps.τ).loc Cert.Steps.main_arg3) = m ((c.tc : Thread Cert.Steps.nD Cert.Steps.τ).loc Cert.Steps.main_arg3)
      ∧ r.2.mem ((c.tc : Thread Cert.Steps.nD Cert.Steps.τ).loc Cert.Steps.main_arg4) = m ((c.tc : Thread Cert.Steps.nD Cert.Steps.τ).loc Cert.Steps.main_arg4)
      ∧ r.2.mem ((c.tc : Thread Cert.Steps.nD Cert.Steps.τ).loc Cert.Steps.main_arg5) = m ((c.tc : Thread Cert.Steps.nD Cert.Steps.τ).loc Cert.Steps.main_arg5)
      ∧ r.2.mem ((c.tc : Thread Cert.Steps.nD Cert.Steps.τ).loc Cert.Steps.main_arg6) = m ((c.tc : Thread Cert.Steps.nD Cert.Steps.τ).loc Cert.Steps.main_arg6)
      ∧ r.2.mem ((c.tc : Thread Cert.Steps.nD Cert.Steps.τ).loc Cert.Steps.main_arg7) = m ((c.tc : Thread Cert.Steps.nD Cert.Steps.τ).loc Cert.Steps.main_arg7)
      ∧ r.2.mem ((c.tc : Thread Cert.Steps.nD Cert.Steps.τ).loc Cert.Steps.main_arg8) = m ((c.tc : Thread Cert.Steps.nD Cert.Steps.τ).loc Cert.Steps.main_arg8)
      ∧ r.2.mem ((c.tc : Thread Cert.Steps.nD Cert.Steps.τ).loc Cert.Steps.main_arg9) = m ((c.tc : Thread Cert.Steps.nD Cert.Steps.τ).loc Cert.Steps.main_arg9)
      ∧ r.2.mem ((c.tc : Thread Cert.Steps.nD Cert.Steps.τ).loc Cert.Steps.main_arg10) = m ((c.tc : Thread Cert.Steps.nD Cert.Steps.τ).loc Cert.Steps.main_arg10))
      ∧ r.2.sem = fun _ => 0)

def quiescent_StepsIdeal [hStepsIdeal : Cert.StepsIdeal.Facts] : Prop :=
  ∀ (m : (ℓ : Loc Cert.StepsIdeal.nD Cert.StepsIdeal.τ Cert.StepsIdeal.sig) → Buf (Elt Ideal) ℓ) (g : Dev Cert.StepsIdeal.nD → PrngReg), Pre_StepsIdeal m →
    θ_run (Cert.StepsIdeal.defs (F := Ideal)) (onTc (τ := Cert.StepsIdeal.τ) (Cert.StepsIdeal.main (F := Ideal))) ⟨m, fun _ => 0, g⟩ (fun r => (∀ c : Dev Cert.StepsIdeal.nD,
      r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
      ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
      ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2)
      ∧ r.2.mem ((c.tc : Thread Cert.StepsIdeal.nD Cert.StepsIdeal.τ).loc Cert.StepsIdeal.main_arg3) = m ((c.tc : Thread Cert.StepsIdeal.nD Cert.StepsIdeal.τ).loc Cert.StepsIdeal.main_arg3)
      ∧ r.2.mem ((c.tc : Thread Cert.StepsIdeal.nD Cert.StepsIdeal.τ).loc Cert.StepsIdeal.main_arg4) = m ((c.tc : Thread Cert.StepsIdeal.nD Cert.StepsIdeal.τ).loc Cert.StepsIdeal.main_arg4)
      ∧ r.2.mem ((c.tc : Thread Cert.StepsIdeal.nD Cert.StepsIdeal.τ).loc Cert.StepsIdeal.main_arg5) = m ((c.tc : Thread Cert.StepsIdeal.nD Cert.StepsIdeal.τ).loc Cert.StepsIdeal.main_arg5)
      ∧ r.2.mem ((c.tc : Thread Cert.StepsIdeal.nD Cert.StepsIdeal.τ).loc Cert.StepsIdeal.main_arg6) = m ((c.tc : Thread Cert.StepsIdeal.nD Cert.StepsIdeal.τ).loc Cert.StepsIdeal.main_arg6)
      ∧ r.2.mem ((c.tc : Thread Cert.StepsIdeal.nD Cert.StepsIdeal.τ).loc Cert.StepsIdeal.main_arg7) = m ((c.tc : Thread Cert.StepsIdeal.nD Cert.StepsIdeal.τ).loc Cert.StepsIdeal.main_arg7)
      ∧ r.2.mem ((c.tc : Thread Cert.StepsIdeal.nD Cert.StepsIdeal.τ).loc Cert.StepsIdeal.main_arg8) = m ((c.tc : Thread Cert.StepsIdeal.nD Cert.StepsIdeal.τ).loc Cert.StepsIdeal.main_arg8)
      ∧ r.2.mem ((c.tc : Thread Cert.StepsIdeal.nD Cert.StepsIdeal.τ).loc Cert.StepsIdeal.main_arg9) = m ((c.tc : Thread Cert.StepsIdeal.nD Cert.StepsIdeal.τ).loc Cert.StepsIdeal.main_arg9)
      ∧ r.2.mem ((c.tc : Thread Cert.StepsIdeal.nD Cert.StepsIdeal.τ).loc Cert.StepsIdeal.main_arg10) = m ((c.tc : Thread Cert.StepsIdeal.nD Cert.StepsIdeal.τ).loc Cert.StepsIdeal.main_arg10))
      ∧ r.2.sem = fun _ => 0)

def quiescent_StepsIdeal_pre_finite_steps [hStepsIdeal : Cert.StepsIdeal.Facts] [hPre_finite_steps : Cert.Pre_finite_steps.Facts] : Prop :=
  ∀ (m : (ℓ : Loc Cert.StepsIdeal.nD Cert.StepsIdeal.τ Cert.StepsIdeal.sig) → Buf (Elt Ideal) ℓ) (g : Dev Cert.StepsIdeal.nD → PrngReg), Pre_StepsIdeal_finite_steps m →
    θ_run (Cert.StepsIdeal.defs (F := Ideal)) (onTc (τ := Cert.StepsIdeal.τ) (Cert.StepsIdeal.main (F := Ideal))) ⟨m, fun _ => 0, g⟩ (fun r => (∀ c : Dev Cert.StepsIdeal.nD,
      r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
      ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
      ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2)
      ∧ r.2.mem ((c.tc : Thread Cert.StepsIdeal.nD Cert.StepsIdeal.τ).loc Cert.StepsIdeal.main_arg3) = m ((c.tc : Thread Cert.StepsIdeal.nD Cert.StepsIdeal.τ).loc Cert.StepsIdeal.main_arg3)
      ∧ r.2.mem ((c.tc : Thread Cert.StepsIdeal.nD Cert.StepsIdeal.τ).loc Cert.StepsIdeal.main_arg4) = m ((c.tc : Thread Cert.StepsIdeal.nD Cert.StepsIdeal.τ).loc Cert.StepsIdeal.main_arg4)
      ∧ r.2.mem ((c.tc : Thread Cert.StepsIdeal.nD Cert.StepsIdeal.τ).loc Cert.StepsIdeal.main_arg5) = m ((c.tc : Thread Cert.StepsIdeal.nD Cert.StepsIdeal.τ).loc Cert.StepsIdeal.main_arg5)
      ∧ r.2.mem ((c.tc : Thread Cert.StepsIdeal.nD Cert.StepsIdeal.τ).loc Cert.StepsIdeal.main_arg6) = m ((c.tc : Thread Cert.StepsIdeal.nD Cert.StepsIdeal.τ).loc Cert.StepsIdeal.main_arg6)
      ∧ r.2.mem ((c.tc : Thread Cert.StepsIdeal.nD Cert.StepsIdeal.τ).loc Cert.StepsIdeal.main_arg7) = m ((c.tc : Thread Cert.StepsIdeal.nD Cert.StepsIdeal.τ).loc Cert.StepsIdeal.main_arg7)
      ∧ r.2.mem ((c.tc : Thread Cert.StepsIdeal.nD Cert.StepsIdeal.τ).loc Cert.StepsIdeal.main_arg8) = m ((c.tc : Thread Cert.StepsIdeal.nD Cert.StepsIdeal.τ).loc Cert.StepsIdeal.main_arg8)
      ∧ r.2.mem ((c.tc : Thread Cert.StepsIdeal.nD Cert.StepsIdeal.τ).loc Cert.StepsIdeal.main_arg9) = m ((c.tc : Thread Cert.StepsIdeal.nD Cert.StepsIdeal.τ).loc Cert.StepsIdeal.main_arg9)
      ∧ r.2.mem ((c.tc : Thread Cert.StepsIdeal.nD Cert.StepsIdeal.τ).loc Cert.StepsIdeal.main_arg10) = m ((c.tc : Thread Cert.StepsIdeal.nD Cert.StepsIdeal.τ).loc Cert.StepsIdeal.main_arg10))
      ∧ r.2.sem = fun _ => 0)

def quiescent_StepsRefIdeal [hStepsRefIdeal : Cert.StepsRefIdeal.Facts] : Prop :=
  ∀ (m : (ℓ : Loc Cert.StepsRefIdeal.nD Cert.StepsRefIdeal.τ Cert.StepsRefIdeal.sig) → Buf (Elt Ideal) ℓ) (g : Dev Cert.StepsRefIdeal.nD → PrngReg), Pre_StepsRefIdeal m →
    θ_run (Cert.StepsRefIdeal.defs (F := Ideal)) (onTc (τ := Cert.StepsRefIdeal.τ) (Cert.StepsRefIdeal.main (F := Ideal))) ⟨m, fun _ => 0, g⟩ (fun r => (∀ c : Dev Cert.StepsRefIdeal.nD,
      r.2.mem ((c.tc : Thread Cert.StepsRefIdeal.nD Cert.StepsRefIdeal.τ).loc Cert.StepsRefIdeal.main_arg0) = m ((c.tc : Thread Cert.StepsRefIdeal.nD Cert.StepsRefIdeal.τ).loc Cert.StepsRefIdeal.main_arg0)
      ∧ r.2.mem ((c.tc : Thread Cert.StepsRefIdeal.nD Cert.StepsRefIdeal.τ).loc Cert.StepsRefIdeal.main_arg1) = m ((c.tc : Thread Cert.StepsRefIdeal.nD Cert.StepsRefIdeal.τ).loc Cert.StepsRefIdeal.main_arg1)
      ∧ r.2.mem ((c.tc : Thread Cert.StepsRefIdeal.nD Cert.StepsRefIdeal.τ).loc Cert.StepsRefIdeal.main_arg2) = m ((c.tc : Thread Cert.StepsRefIdeal.nD Cert.StepsRefIdeal.τ).loc Cert.StepsRefIdeal.main_arg2)
      ∧ r.2.mem ((c.tc : Thread Cert.StepsRefIdeal.nD Cert.StepsRefIdeal.τ).loc Cert.StepsRefIdeal.main_arg3) = m ((c.tc : Thread Cert.StepsRefIdeal.nD Cert.StepsRefIdeal.τ).loc Cert.StepsRefIdeal.main_arg3)
      ∧ r.2.mem ((c.tc : Thread Cert.StepsRefIdeal.nD Cert.StepsRefIdeal.τ).loc Cert.StepsRefIdeal.main_arg4) = m ((c.tc : Thread Cert.StepsRefIdeal.nD Cert.StepsRefIdeal.τ).loc Cert.StepsRefIdeal.main_arg4)
      ∧ r.2.mem ((c.tc : Thread Cert.StepsRefIdeal.nD Cert.StepsRefIdeal.τ).loc Cert.StepsRefIdeal.main_arg5) = m ((c.tc : Thread Cert.StepsRefIdeal.nD Cert.StepsRefIdeal.τ).loc Cert.StepsRefIdeal.main_arg5)
      ∧ r.2.mem ((c.tc : Thread Cert.StepsRefIdeal.nD Cert.StepsRefIdeal.τ).loc Cert.StepsRefIdeal.main_arg6) = m ((c.tc : Thread Cert.StepsRefIdeal.nD Cert.StepsRefIdeal.τ).loc Cert.StepsRefIdeal.main_arg6)
      ∧ r.2.mem ((c.tc : Thread Cert.StepsRefIdeal.nD Cert.StepsRefIdeal.τ).loc Cert.StepsRefIdeal.main_arg7) = m ((c.tc : Thread Cert.StepsRefIdeal.nD Cert.StepsRefIdeal.τ).loc Cert.StepsRefIdeal.main_arg7)
      ∧ r.2.mem ((c.tc : Thread Cert.StepsRefIdeal.nD Cert.StepsRefIdeal.τ).loc Cert.StepsRefIdeal.main_arg8) = m ((c.tc : Thread Cert.StepsRefIdeal.nD Cert.StepsRefIdeal.τ).loc Cert.StepsRefIdeal.main_arg8)
      ∧ r.2.mem ((c.tc : Thread Cert.StepsRefIdeal.nD Cert.StepsRefIdeal.τ).loc Cert.StepsRefIdeal.main_arg9) = m ((c.tc : Thread Cert.StepsRefIdeal.nD Cert.StepsRefIdeal.τ).loc Cert.StepsRefIdeal.main_arg9)
      ∧ r.2.mem ((c.tc : Thread Cert.StepsRefIdeal.nD Cert.StepsRefIdeal.τ).loc Cert.StepsRefIdeal.main_arg10) = m ((c.tc : Thread Cert.StepsRefIdeal.nD Cert.StepsRefIdeal.τ).loc Cert.StepsRefIdeal.main_arg10))
      ∧ r.2.sem = fun _ => 0)

def quiescent_StepsRefIdeal_pre_finite_steps [hStepsRefIdeal : Cert.StepsRefIdeal.Facts] [hPre_finite_steps : Cert.Pre_finite_steps.Facts] : Prop :=
  ∀ (m : (ℓ : Loc Cert.StepsRefIdeal.nD Cert.StepsRefIdeal.τ Cert.StepsRefIdeal.sig) → Buf (Elt Ideal) ℓ) (g : Dev Cert.StepsRefIdeal.nD → PrngReg), Pre_StepsRefIdeal_finite_steps m →
    θ_run (Cert.StepsRefIdeal.defs (F := Ideal)) (onTc (τ := Cert.StepsRefIdeal.τ) (Cert.StepsRefIdeal.main (F := Ideal))) ⟨m, fun _ => 0, g⟩ (fun r => (∀ c : Dev Cert.StepsRefIdeal.nD,
      r.2.mem ((c.tc : Thread Cert.StepsRefIdeal.nD Cert.StepsRefIdeal.τ).loc Cert.StepsRefIdeal.main_arg0) = m ((c.tc : Thread Cert.StepsRefIdeal.nD Cert.StepsRefIdeal.τ).loc Cert.StepsRefIdeal.main_arg0)
      ∧ r.2.mem ((c.tc : Thread Cert.StepsRefIdeal.nD Cert.StepsRefIdeal.τ).loc Cert.StepsRefIdeal.main_arg1) = m ((c.tc : Thread Cert.StepsRefIdeal.nD Cert.StepsRefIdeal.τ).loc Cert.StepsRefIdeal.main_arg1)
      ∧ r.2.mem ((c.tc : Thread Cert.StepsRefIdeal.nD Cert.StepsRefIdeal.τ).loc Cert.StepsRefIdeal.main_arg2) = m ((c.tc : Thread Cert.StepsRefIdeal.nD Cert.StepsRefIdeal.τ).loc Cert.StepsRefIdeal.main_arg2)
      ∧ r.2.mem ((c.tc : Thread Cert.StepsRefIdeal.nD Cert.StepsRefIdeal.τ).loc Cert.StepsRefIdeal.main_arg3) = m ((c.tc : Thread Cert.StepsRefIdeal.nD Cert.StepsRefIdeal.τ).loc Cert.StepsRefIdeal.main_arg3)
      ∧ r.2.mem ((c.tc : Thread Cert.StepsRefIdeal.nD Cert.StepsRefIdeal.τ).loc Cert.StepsRefIdeal.main_arg4) = m ((c.tc : Thread Cert.StepsRefIdeal.nD Cert.StepsRefIdeal.τ).loc Cert.StepsRefIdeal.main_arg4)
      ∧ r.2.mem ((c.tc : Thread Cert.StepsRefIdeal.nD Cert.StepsRefIdeal.τ).loc Cert.StepsRefIdeal.main_arg5) = m ((c.tc : Thread Cert.StepsRefIdeal.nD Cert.StepsRefIdeal.τ).loc Cert.StepsRefIdeal.main_arg5)
      ∧ r.2.mem ((c.tc : Thread Cert.StepsRefIdeal.nD Cert.StepsRefIdeal.τ).loc Cert.StepsRefIdeal.main_arg6) = m ((c.tc : Thread Cert.StepsRefIdeal.nD Cert.StepsRefIdeal.τ).loc Cert.StepsRefIdeal.main_arg6)
      ∧ r.2.mem ((c.tc : Thread Cert.StepsRefIdeal.nD Cert.StepsRefIdeal.τ).loc Cert.StepsRefIdeal.main_arg7) = m ((c.tc : Thread Cert.StepsRefIdeal.nD Cert.StepsRefIdeal.τ).loc Cert.StepsRefIdeal.main_arg7)
      ∧ r.2.mem ((c.tc : Thread Cert.StepsRefIdeal.nD Cert.StepsRefIdeal.τ).loc Cert.StepsRefIdeal.main_arg8) = m ((c.tc : Thread Cert.StepsRefIdeal.nD Cert.StepsRefIdeal.τ).loc Cert.StepsRefIdeal.main_arg8)
      ∧ r.2.mem ((c.tc : Thread Cert.StepsRefIdeal.nD Cert.StepsRefIdeal.τ).loc Cert.StepsRefIdeal.main_arg9) = m ((c.tc : Thread Cert.StepsRefIdeal.nD Cert.StepsRefIdeal.τ).loc Cert.StepsRefIdeal.main_arg9)
      ∧ r.2.mem ((c.tc : Thread Cert.StepsRefIdeal.nD Cert.StepsRefIdeal.τ).loc Cert.StepsRefIdeal.main_arg10) = m ((c.tc : Thread Cert.StepsRefIdeal.nD Cert.StepsRefIdeal.τ).loc Cert.StepsRefIdeal.main_arg10))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attention [hAttnIdeal : Cert.AttnIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attention m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attention [hAttnRefIdeal : Cert.AttnRefIdeal.Facts] [hPre_finite_attention : Cert.Pre_finite_attention.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attention m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3)
      ∧ r.2.mem ((c.tc : Thread Cert.InprojS.nD Cert.InprojS.τ).loc Cert.InprojS.main_arg4) = m ((c.tc : Thread Cert.InprojS.nD Cert.InprojS.τ).loc Cert.InprojS.main_arg4))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSIdeal_pre_finite_projection [hInprojSIdeal : Cert.InprojSIdeal.Facts] [hPre_finite_projection : Cert.Pre_finite_projection.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal_finite_projection m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
      ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_InprojSRefIdeal_pre_finite_projection [hInprojSRefIdeal : Cert.InprojSRefIdeal.Facts] [hPre_finite_projection : Cert.Pre_finite_projection.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal_finite_projection m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3)
      ∧ r.2.mem ((c.tc : Thread Cert.InprojSRefIdeal.nD Cert.InprojSRefIdeal.τ).loc Cert.InprojSRefIdeal.main_arg4) = m ((c.tc : Thread Cert.InprojSRefIdeal.nD Cert.InprojSRefIdeal.τ).loc Cert.InprojSRefIdeal.main_arg4))
      ∧ r.2.sem = fun _ => 0)

def quiescent_GmlpS [hGmlpS : Cert.GmlpS.Facts] : Prop :=
  ∀ (m : (ℓ : Loc Cert.GmlpS.nD Cert.GmlpS.τ Cert.GmlpS.sig) → Buf (Elt Bits) ℓ) (g : Dev Cert.GmlpS.nD → PrngReg), Pre_GmlpS m →
    θ_run (Cert.GmlpS.defs (F := Bits)) (onTc (τ := Cert.GmlpS.τ) (Cert.GmlpS.main (F := Bits))) ⟨m, fun _ => 0, g⟩ (fun r => (∀ c : Dev Cert.GmlpS.nD,
      r.2.mem ((c.tc : Thread Cert.GmlpS.nD Cert.GmlpS.τ).loc Cert.GmlpS.main_arg0) = m ((c.tc : Thread Cert.GmlpS.nD Cert.GmlpS.τ).loc Cert.GmlpS.main_arg0)
      ∧ r.2.mem ((c.tc : Thread Cert.GmlpS.nD Cert.GmlpS.τ).loc Cert.GmlpS.main_arg1) = m ((c.tc : Thread Cert.GmlpS.nD Cert.GmlpS.τ).loc Cert.GmlpS.main_arg1)
      ∧ r.2.mem ((c.tc : Thread Cert.GmlpS.nD Cert.GmlpS.τ).loc Cert.GmlpS.main_arg2) = m ((c.tc : Thread Cert.GmlpS.nD Cert.GmlpS.τ).loc Cert.GmlpS.main_arg2)
      ∧ r.2.mem ((c.tc : Thread Cert.GmlpS.nD Cert.GmlpS.τ).loc Cert.GmlpS.main_arg3) = m ((c.tc : Thread Cert.GmlpS.nD Cert.GmlpS.τ).loc Cert.GmlpS.main_arg3)
      ∧ r.2.mem ((c.tc : Thread Cert.GmlpS.nD Cert.GmlpS.τ).loc Cert.GmlpS.main_arg4) = m ((c.tc : Thread Cert.GmlpS.nD Cert.GmlpS.τ).loc Cert.GmlpS.main_arg4)
      ∧ r.2.mem ((c.tc : Thread Cert.GmlpS.nD Cert.GmlpS.τ).loc Cert.GmlpS.main_arg5) = m ((c.tc : Thread Cert.GmlpS.nD Cert.GmlpS.τ).loc Cert.GmlpS.main_arg5))
      ∧ r.2.sem = fun _ => 0)

def quiescent_GmlpSIdeal [hGmlpSIdeal : Cert.GmlpSIdeal.Facts] : Prop :=
  ∀ (m : (ℓ : Loc Cert.GmlpSIdeal.nD Cert.GmlpSIdeal.τ Cert.GmlpSIdeal.sig) → Buf (Elt Ideal) ℓ) (g : Dev Cert.GmlpSIdeal.nD → PrngReg), Pre_GmlpSIdeal m →
    θ_run (Cert.GmlpSIdeal.defs (F := Ideal)) (onTc (τ := Cert.GmlpSIdeal.τ) (Cert.GmlpSIdeal.main (F := Ideal))) ⟨m, fun _ => 0, g⟩ (fun r => (∀ c : Dev Cert.GmlpSIdeal.nD,
      r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
      ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
      ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2)
      ∧ r.2.mem ((c.tc : Thread Cert.GmlpSIdeal.nD Cert.GmlpSIdeal.τ).loc Cert.GmlpSIdeal.main_arg3) = m ((c.tc : Thread Cert.GmlpSIdeal.nD Cert.GmlpSIdeal.τ).loc Cert.GmlpSIdeal.main_arg3)
      ∧ r.2.mem ((c.tc : Thread Cert.GmlpSIdeal.nD Cert.GmlpSIdeal.τ).loc Cert.GmlpSIdeal.main_arg4) = m ((c.tc : Thread Cert.GmlpSIdeal.nD Cert.GmlpSIdeal.τ).loc Cert.GmlpSIdeal.main_arg4)
      ∧ r.2.mem ((c.tc : Thread Cert.GmlpSIdeal.nD Cert.GmlpSIdeal.τ).loc Cert.GmlpSIdeal.main_arg5) = m ((c.tc : Thread Cert.GmlpSIdeal.nD Cert.GmlpSIdeal.τ).loc Cert.GmlpSIdeal.main_arg5))
      ∧ r.2.sem = fun _ => 0)

def quiescent_GmlpSIdeal_pre_finite_gating [hGmlpSIdeal : Cert.GmlpSIdeal.Facts] [hPre_finite_gating : Cert.Pre_finite_gating.Facts] : Prop :=
  ∀ (m : (ℓ : Loc Cert.GmlpSIdeal.nD Cert.GmlpSIdeal.τ Cert.GmlpSIdeal.sig) → Buf (Elt Ideal) ℓ) (g : Dev Cert.GmlpSIdeal.nD → PrngReg), Pre_GmlpSIdeal_finite_gating m →
    θ_run (Cert.GmlpSIdeal.defs (F := Ideal)) (onTc (τ := Cert.GmlpSIdeal.τ) (Cert.GmlpSIdeal.main (F := Ideal))) ⟨m, fun _ => 0, g⟩ (fun r => (∀ c : Dev Cert.GmlpSIdeal.nD,
      r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
      ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
      ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2)
      ∧ r.2.mem ((c.tc : Thread Cert.GmlpSIdeal.nD Cert.GmlpSIdeal.τ).loc Cert.GmlpSIdeal.main_arg3) = m ((c.tc : Thread Cert.GmlpSIdeal.nD Cert.GmlpSIdeal.τ).loc Cert.GmlpSIdeal.main_arg3)
      ∧ r.2.mem ((c.tc : Thread Cert.GmlpSIdeal.nD Cert.GmlpSIdeal.τ).loc Cert.GmlpSIdeal.main_arg4) = m ((c.tc : Thread Cert.GmlpSIdeal.nD Cert.GmlpSIdeal.τ).loc Cert.GmlpSIdeal.main_arg4)
      ∧ r.2.mem ((c.tc : Thread Cert.GmlpSIdeal.nD Cert.GmlpSIdeal.τ).loc Cert.GmlpSIdeal.main_arg5) = m ((c.tc : Thread Cert.GmlpSIdeal.nD Cert.GmlpSIdeal.τ).loc Cert.GmlpSIdeal.main_arg5))
      ∧ r.2.sem = fun _ => 0)

def quiescent_GmlpSRefIdeal [hGmlpSRefIdeal : Cert.GmlpSRefIdeal.Facts] : Prop :=
  ∀ (m : (ℓ : Loc Cert.GmlpSRefIdeal.nD Cert.GmlpSRefIdeal.τ Cert.GmlpSRefIdeal.sig) → Buf (Elt Ideal) ℓ) (g : Dev Cert.GmlpSRefIdeal.nD → PrngReg), Pre_GmlpSRefIdeal m →
    θ_run (Cert.GmlpSRefIdeal.defs (F := Ideal)) (onTc (τ := Cert.GmlpSRefIdeal.τ) (Cert.GmlpSRefIdeal.main (F := Ideal))) ⟨m, fun _ => 0, g⟩ (fun r => (∀ c : Dev Cert.GmlpSRefIdeal.nD,
      r.2.mem ((c.tc : Thread Cert.GmlpSRefIdeal.nD Cert.GmlpSRefIdeal.τ).loc Cert.GmlpSRefIdeal.main_arg0) = m ((c.tc : Thread Cert.GmlpSRefIdeal.nD Cert.GmlpSRefIdeal.τ).loc Cert.GmlpSRefIdeal.main_arg0)
      ∧ r.2.mem ((c.tc : Thread Cert.GmlpSRefIdeal.nD Cert.GmlpSRefIdeal.τ).loc Cert.GmlpSRefIdeal.main_arg1) = m ((c.tc : Thread Cert.GmlpSRefIdeal.nD Cert.GmlpSRefIdeal.τ).loc Cert.GmlpSRefIdeal.main_arg1)
      ∧ r.2.mem ((c.tc : Thread Cert.GmlpSRefIdeal.nD Cert.GmlpSRefIdeal.τ).loc Cert.GmlpSRefIdeal.main_arg2) = m ((c.tc : Thread Cert.GmlpSRefIdeal.nD Cert.GmlpSRefIdeal.τ).loc Cert.GmlpSRefIdeal.main_arg2)
      ∧ r.2.mem ((c.tc : Thread Cert.GmlpSRefIdeal.nD Cert.GmlpSRefIdeal.τ).loc Cert.GmlpSRefIdeal.main_arg3) = m ((c.tc : Thread Cert.GmlpSRefIdeal.nD Cert.GmlpSRefIdeal.τ).loc Cert.GmlpSRefIdeal.main_arg3)
      ∧ r.2.mem ((c.tc : Thread Cert.GmlpSRefIdeal.nD Cert.GmlpSRefIdeal.τ).loc Cert.GmlpSRefIdeal.main_arg4) = m ((c.tc : Thread Cert.GmlpSRefIdeal.nD Cert.GmlpSRefIdeal.τ).loc Cert.GmlpSRefIdeal.main_arg4)
      ∧ r.2.mem ((c.tc : Thread Cert.GmlpSRefIdeal.nD Cert.GmlpSRefIdeal.τ).loc Cert.GmlpSRefIdeal.main_arg5) = m ((c.tc : Thread Cert.GmlpSRefIdeal.nD Cert.GmlpSRefIdeal.τ).loc Cert.GmlpSRefIdeal.main_arg5))
      ∧ r.2.sem = fun _ => 0)

def quiescent_GmlpSRefIdeal_pre_finite_gating [hGmlpSRefIdeal : Cert.GmlpSRefIdeal.Facts] [hPre_finite_gating : Cert.Pre_finite_gating.Facts] : Prop :=
  ∀ (m : (ℓ : Loc Cert.GmlpSRefIdeal.nD Cert.GmlpSRefIdeal.τ Cert.GmlpSRefIdeal.sig) → Buf (Elt Ideal) ℓ) (g : Dev Cert.GmlpSRefIdeal.nD → PrngReg), Pre_GmlpSRefIdeal_finite_gating m →
    θ_run (Cert.GmlpSRefIdeal.defs (F := Ideal)) (onTc (τ := Cert.GmlpSRefIdeal.τ) (Cert.GmlpSRefIdeal.main (F := Ideal))) ⟨m, fun _ => 0, g⟩ (fun r => (∀ c : Dev Cert.GmlpSRefIdeal.nD,
      r.2.mem ((c.tc : Thread Cert.GmlpSRefIdeal.nD Cert.GmlpSRefIdeal.τ).loc Cert.GmlpSRefIdeal.main_arg0) = m ((c.tc : Thread Cert.GmlpSRefIdeal.nD Cert.GmlpSRefIdeal.τ).loc Cert.GmlpSRefIdeal.main_arg0)
      ∧ r.2.mem ((c.tc : Thread Cert.GmlpSRefIdeal.nD Cert.GmlpSRefIdeal.τ).loc Cert.GmlpSRefIdeal.main_arg1) = m ((c.tc : Thread Cert.GmlpSRefIdeal.nD Cert.GmlpSRefIdeal.τ).loc Cert.GmlpSRefIdeal.main_arg1)
      ∧ r.2.mem ((c.tc : Thread Cert.GmlpSRefIdeal.nD Cert.GmlpSRefIdeal.τ).loc Cert.GmlpSRefIdeal.main_arg2) = m ((c.tc : Thread Cert.GmlpSRefIdeal.nD Cert.GmlpSRefIdeal.τ).loc Cert.GmlpSRefIdeal.main_arg2)
      ∧ r.2.mem ((c.tc : Thread Cert.GmlpSRefIdeal.nD Cert.GmlpSRefIdeal.τ).loc Cert.GmlpSRefIdeal.main_arg3) = m ((c.tc : Thread Cert.GmlpSRefIdeal.nD Cert.GmlpSRefIdeal.τ).loc Cert.GmlpSRefIdeal.main_arg3)
      ∧ r.2.mem ((c.tc : Thread Cert.GmlpSRefIdeal.nD Cert.GmlpSRefIdeal.τ).loc Cert.GmlpSRefIdeal.main_arg4) = m ((c.tc : Thread Cert.GmlpSRefIdeal.nD Cert.GmlpSRefIdeal.τ).loc Cert.GmlpSRefIdeal.main_arg4)
      ∧ r.2.mem ((c.tc : Thread Cert.GmlpSRefIdeal.nD Cert.GmlpSRefIdeal.τ).loc Cert.GmlpSRefIdeal.main_arg5) = m ((c.tc : Thread Cert.GmlpSRefIdeal.nD Cert.GmlpSRefIdeal.τ).loc Cert.GmlpSRefIdeal.main_arg5))
      ∧ r.2.sem = fun _ => 0)

def preserves_Moe_MoeIdeal : Prop :=
  True

def algebraic_MoeIdeal_MoeRefIdeal_pre_finite_routing [hMoeIdeal : Cert.MoeIdeal.Facts] [hMoeRefIdeal : Cert.MoeRefIdeal.Facts] [hPre_finite_routing : Cert.Pre_finite_routing.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_finite_routing m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v148) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Dense_DenseIdeal : Prop :=
  True

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v4)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v4) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v18) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v22) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v27_0)) (v1 : (c : Dev Cert.GmlpIdeal.nD) → Buf (Elt Ideal) ((c.tc : Thread Cert.GmlpIdeal.nD Cert.GmlpIdeal.τ).loc Cert.GmlpIdeal.main_v27_1)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v27_0) = v0 c
          ∧ r.2.mem ((c.tc : Thread Cert.GmlpIdeal.nD Cert.GmlpIdeal.τ).loc Cert.GmlpIdeal.main_v27_1) = v1 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v57) = v0 c
          ∧ r.2.mem ((c.tc : Thread Cert.GmlpRefIdeal.nD Cert.GmlpRefIdeal.τ).loc Cert.GmlpRefIdeal.main_v42) = v1 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_Steps_StepsIdeal : Prop :=
  True

def algebraic_StepsIdeal_StepsRefIdeal_pre_finite_steps [hStepsIdeal : Cert.StepsIdeal.Facts] [hStepsRefIdeal : Cert.StepsRefIdeal.Facts] [hPre_finite_steps : Cert.Pre_finite_steps.Facts] : Prop :=
  ∀ (m : (ℓ : Loc Cert.StepsIdeal.nD Cert.StepsIdeal.τ Cert.StepsIdeal.sig) → Buf (Elt Ideal) ℓ) (g : Dev Cert.StepsIdeal.nD → PrngReg)
    (m' : (ℓ : Loc Cert.StepsRefIdeal.nD Cert.StepsRefIdeal.τ Cert.StepsRefIdeal.sig) → Buf (Elt Ideal) ℓ) (g' : Dev Cert.StepsRefIdeal.nD → PrngReg), Pre_StepsIdeal_finite_steps m →
    (∀ c : Dev Cert.StepsIdeal.nD,
      m' ((c.tc : Thread Cert.StepsRefIdeal.nD Cert.StepsRefIdeal.τ).loc Cert.StepsRefIdeal.main_arg0) = m ((c.tc : Thread Cert.StepsIdeal.nD Cert.StepsIdeal.τ).loc Cert.StepsIdeal.main_arg0)
      ∧ m' ((c.tc : Thread Cert.StepsRefIdeal.nD Cert.StepsRefIdeal.τ).loc Cert.StepsRefIdeal.main_arg1) = m ((c.tc : Thread Cert.StepsIdeal.nD Cert.StepsIdeal.τ).loc Cert.StepsIdeal.main_arg1)
      ∧ m' ((c.tc : Thread Cert.StepsRefIdeal.nD Cert.StepsRefIdeal.τ).loc Cert.StepsRefIdeal.main_arg2) = m ((c.tc : Thread Cert.StepsIdeal.nD Cert.StepsIdeal.τ).loc Cert.StepsIdeal.main_arg2)
      ∧ m' ((c.tc : Thread Cert.StepsRefIdeal.nD Cert.StepsRefIdeal.τ).loc Cert.StepsRefIdeal.main_arg3) = m ((c.tc : Thread Cert.StepsIdeal.nD Cert.StepsIdeal.τ).loc Cert.StepsIdeal.main_arg3)
      ∧ m' ((c.tc : Thread Cert.StepsRefIdeal.nD Cert.StepsRefIdeal.τ).loc Cert.StepsRefIdeal.main_arg4) = m ((c.tc : Thread Cert.StepsIdeal.nD Cert.StepsIdeal.τ).loc Cert.StepsIdeal.main_arg4)
      ∧ m' ((c.tc : Thread Cert.StepsRefIdeal.nD Cert.StepsRefIdeal.τ).loc Cert.StepsRefIdeal.main_arg5) = m ((c.tc : Thread Cert.StepsIdeal.nD Cert.StepsIdeal.τ).loc Cert.StepsIdeal.main_arg5)
      ∧ m' ((c.tc : Thread Cert.StepsRefIdeal.nD Cert.StepsRefIdeal.τ).loc Cert.StepsRefIdeal.main_arg6) = m ((c.tc : Thread Cert.StepsIdeal.nD Cert.StepsIdeal.τ).loc Cert.StepsIdeal.main_arg6)
      ∧ m' ((c.tc : Thread Cert.StepsRefIdeal.nD Cert.StepsRefIdeal.τ).loc Cert.StepsRefIdeal.main_arg7) = m ((c.tc : Thread Cert.StepsIdeal.nD Cert.StepsIdeal.τ).loc Cert.StepsIdeal.main_arg7)
      ∧ m' ((c.tc : Thread Cert.StepsRefIdeal.nD Cert.StepsRefIdeal.τ).loc Cert.StepsRefIdeal.main_arg8) = m ((c.tc : Thread Cert.StepsIdeal.nD Cert.StepsIdeal.τ).loc Cert.StepsIdeal.main_arg8)
      ∧ m' ((c.tc : Thread Cert.StepsRefIdeal.nD Cert.StepsRefIdeal.τ).loc Cert.StepsRefIdeal.main_arg9) = m ((c.tc : Thread Cert.StepsIdeal.nD Cert.StepsIdeal.τ).loc Cert.StepsIdeal.main_arg9)
      ∧ m' ((c.tc : Thread Cert.StepsRefIdeal.nD Cert.StepsRefIdeal.τ).loc Cert.StepsRefIdeal.main_arg10) = m ((c.tc : Thread Cert.StepsIdeal.nD Cert.StepsIdeal.τ).loc Cert.StepsIdeal.main_arg10)) →
    ∃ (v0 : (c : Dev Cert.StepsIdeal.nD) → Buf (Elt Ideal) ((c.tc : Thread Cert.StepsIdeal.nD Cert.StepsIdeal.τ).loc Cert.StepsIdeal.main_v2_0)) (v1 : (c : Dev Cert.StepsIdeal.nD) → Buf (Elt Ideal) ((c.tc : Thread Cert.StepsIdeal.nD Cert.StepsIdeal.τ).loc Cert.StepsIdeal.main_v2_1)),
      θ_run (Cert.StepsIdeal.defs (F := Ideal)) (onTc (τ := Cert.StepsIdeal.τ) (Cert.StepsIdeal.main (F := Ideal))) ⟨m, fun _ => 0, g⟩ (fun r => ∀ c : Dev Cert.StepsIdeal.nD,
          r.2.mem ((c.tc : Thread Cert.StepsIdeal.nD Cert.StepsIdeal.τ).loc Cert.StepsIdeal.main_v2_0) = v0 c
          ∧ r.2.mem ((c.tc : Thread Cert.StepsIdeal.nD Cert.StepsIdeal.τ).loc Cert.StepsIdeal.main_v2_1) = v1 c
          ∧ r.2.mem ((c.tc : Thread Cert.StepsIdeal.nD Cert.StepsIdeal.τ).loc Cert.StepsIdeal.main_arg0) = m ((c.tc : Thread Cert.StepsIdeal.nD Cert.StepsIdeal.τ).loc Cert.StepsIdeal.main_arg0)
          ∧ r.2.mem ((c.tc : Thread Cert.StepsIdeal.nD Cert.StepsIdeal.τ).loc Cert.StepsIdeal.main_arg1) = m ((c.tc : Thread Cert.StepsIdeal.nD Cert.StepsIdeal.τ).loc Cert.StepsIdeal.main_arg1)
          ∧ r.2.mem ((c.tc : Thread Cert.StepsIdeal.nD Cert.StepsIdeal.τ).loc Cert.StepsIdeal.main_arg2) = m ((c.tc : Thread Cert.StepsIdeal.nD Cert.StepsIdeal.τ).loc Cert.StepsIdeal.main_arg2)
          ∧ r.2.mem ((c.tc : Thread Cert.StepsIdeal.nD Cert.StepsIdeal.τ).loc Cert.StepsIdeal.main_arg3) = m ((c.tc : Thread Cert.StepsIdeal.nD Cert.StepsIdeal.τ).loc Cert.StepsIdeal.main_arg3)
          ∧ r.2.mem ((c.tc : Thread Cert.StepsIdeal.nD Cert.StepsIdeal.τ).loc Cert.StepsIdeal.main_arg4) = m ((c.tc : Thread Cert.StepsIdeal.nD Cert.StepsIdeal.τ).loc Cert.StepsIdeal.main_arg4)
          ∧ r.2.mem ((c.tc : Thread Cert.StepsIdeal.nD Cert.StepsIdeal.τ).loc Cert.StepsIdeal.main_arg5) = m ((c.tc : Thread Cert.StepsIdeal.nD Cert.StepsIdeal.τ).loc Cert.StepsIdeal.main_arg5)
          ∧ r.2.mem ((c.tc : Thread Cert.StepsIdeal.nD Cert.StepsIdeal.τ).loc Cert.StepsIdeal.main_arg6) = m ((c.tc : Thread Cert.StepsIdeal.nD Cert.StepsIdeal.τ).loc Cert.StepsIdeal.main_arg6)
          ∧ r.2.mem ((c.tc : Thread Cert.StepsIdeal.nD Cert.StepsIdeal.τ).loc Cert.StepsIdeal.main_arg7) = m ((c.tc : Thread Cert.StepsIdeal.nD Cert.StepsIdeal.τ).loc Cert.StepsIdeal.main_arg7)
          ∧ r.2.mem ((c.tc : Thread Cert.StepsIdeal.nD Cert.StepsIdeal.τ).loc Cert.StepsIdeal.main_arg8) = m ((c.tc : Thread Cert.StepsIdeal.nD Cert.StepsIdeal.τ).loc Cert.StepsIdeal.main_arg8)
          ∧ r.2.mem ((c.tc : Thread Cert.StepsIdeal.nD Cert.StepsIdeal.τ).loc Cert.StepsIdeal.main_arg9) = m ((c.tc : Thread Cert.StepsIdeal.nD Cert.StepsIdeal.τ).loc Cert.StepsIdeal.main_arg9)
          ∧ r.2.mem ((c.tc : Thread Cert.StepsIdeal.nD Cert.StepsIdeal.τ).loc Cert.StepsIdeal.main_arg10) = m ((c.tc : Thread Cert.StepsIdeal.nD Cert.StepsIdeal.τ).loc Cert.StepsIdeal.main_arg10))
      ∧ θ_run (Cert.StepsRefIdeal.defs (F := Ideal)) (onTc (τ := Cert.StepsRefIdeal.τ) (Cert.StepsRefIdeal.main (F := Ideal))) ⟨m', fun _ => 0, g'⟩ (fun r => ∀ c : Dev Cert.StepsRefIdeal.nD,
          r.2.mem ((c.tc : Thread Cert.StepsRefIdeal.nD Cert.StepsRefIdeal.τ).loc Cert.StepsRefIdeal.main_v180) = v0 c
          ∧ r.2.mem ((c.tc : Thread Cert.StepsRefIdeal.nD Cert.StepsRefIdeal.τ).loc Cert.StepsRefIdeal.main_v135) = v1 c
          ∧ r.2.mem ((c.tc : Thread Cert.StepsRefIdeal.nD Cert.StepsRefIdeal.τ).loc Cert.StepsRefIdeal.main_arg0) = m' ((c.tc : Thread Cert.StepsRefIdeal.nD Cert.StepsRefIdeal.τ).loc Cert.StepsRefIdeal.main_arg0)
          ∧ r.2.mem ((c.tc : Thread Cert.StepsRefIdeal.nD Cert.StepsRefIdeal.τ).loc Cert.StepsRefIdeal.main_arg1) = m' ((c.tc : Thread Cert.StepsRefIdeal.nD Cert.StepsRefIdeal.τ).loc Cert.StepsRefIdeal.main_arg1)
          ∧ r.2.mem ((c.tc : Thread Cert.StepsRefIdeal.nD Cert.StepsRefIdeal.τ).loc Cert.StepsRefIdeal.main_arg2) = m' ((c.tc : Thread Cert.StepsRefIdeal.nD Cert.StepsRefIdeal.τ).loc Cert.StepsRefIdeal.main_arg2)
          ∧ r.2.mem ((c.tc : Thread Cert.StepsRefIdeal.nD Cert.StepsRefIdeal.τ).loc Cert.StepsRefIdeal.main_arg3) = m' ((c.tc : Thread Cert.StepsRefIdeal.nD Cert.StepsRefIdeal.τ).loc Cert.StepsRefIdeal.main_arg3)
          ∧ r.2.mem ((c.tc : Thread Cert.StepsRefIdeal.nD Cert.StepsRefIdeal.τ).loc Cert.StepsRefIdeal.main_arg4) = m' ((c.tc : Thread Cert.StepsRefIdeal.nD Cert.StepsRefIdeal.τ).loc Cert.StepsRefIdeal.main_arg4)
          ∧ r.2.mem ((c.tc : Thread Cert.StepsRefIdeal.nD Cert.StepsRefIdeal.τ).loc Cert.StepsRefIdeal.main_arg5) = m' ((c.tc : Thread Cert.StepsRefIdeal.nD Cert.StepsRefIdeal.τ).loc Cert.StepsRefIdeal.main_arg5)
          ∧ r.2.mem ((c.tc : Thread Cert.StepsRefIdeal.nD Cert.StepsRefIdeal.τ).loc Cert.StepsRefIdeal.main_arg6) = m' ((c.tc : Thread Cert.StepsRefIdeal.nD Cert.StepsRefIdeal.τ).loc Cert.StepsRefIdeal.main_arg6)
          ∧ r.2.mem ((c.tc : Thread Cert.StepsRefIdeal.nD Cert.StepsRefIdeal.τ).loc Cert.StepsRefIdeal.main_arg7) = m' ((c.tc : Thread Cert.StepsRefIdeal.nD Cert.StepsRefIdeal.τ).loc Cert.StepsRefIdeal.main_arg7)
          ∧ r.2.mem ((c.tc : Thread Cert.StepsRefIdeal.nD Cert.StepsRefIdeal.τ).loc Cert.StepsRefIdeal.main_arg8) = m' ((c.tc : Thread Cert.StepsRefIdeal.nD Cert.StepsRefIdeal.τ).loc Cert.StepsRefIdeal.main_arg8)
          ∧ r.2.mem ((c.tc : Thread Cert.StepsRefIdeal.nD Cert.StepsRefIdeal.τ).loc Cert.StepsRefIdeal.main_arg9) = m' ((c.tc : Thread Cert.StepsRefIdeal.nD Cert.StepsRefIdeal.τ).loc Cert.StepsRefIdeal.main_arg9)
          ∧ r.2.mem ((c.tc : Thread Cert.StepsRefIdeal.nD Cert.StepsRefIdeal.τ).loc Cert.StepsRefIdeal.main_arg10) = m' ((c.tc : Thread Cert.StepsRefIdeal.nD Cert.StepsRefIdeal.τ).loc Cert.StepsRefIdeal.main_arg10))

def preserves_Attn_AttnIdeal : Prop :=
  True

def algebraic_AttnIdeal_AttnRefIdeal_pre_finite_attention [hAttnIdeal : Cert.AttnIdeal.Facts] [hAttnRefIdeal : Cert.AttnRefIdeal.Facts] [hPre_finite_attention : Cert.Pre_finite_attention.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attention m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v161) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v39_0)) (v1 : (c : Dev Cert.InprojIdeal.nD) → Buf (Elt Ideal) ((c.tc : Thread Cert.InprojIdeal.nD Cert.InprojIdeal.τ).loc Cert.InprojIdeal.main_v39_1)) (v2 : (c : Dev Cert.InprojIdeal.nD) → Buf (Elt Ideal) ((c.tc : Thread Cert.InprojIdeal.nD Cert.InprojIdeal.τ).loc Cert.InprojIdeal.main_v39_2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v39_0) = v0 c
          ∧ r.2.mem ((c.tc : Thread Cert.InprojIdeal.nD Cert.InprojIdeal.τ).loc Cert.InprojIdeal.main_v39_1) = v1 c
          ∧ r.2.mem ((c.tc : Thread Cert.InprojIdeal.nD Cert.InprojIdeal.τ).loc Cert.InprojIdeal.main_v39_2) = v2 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v116) = v0 c
          ∧ r.2.mem ((c.tc : Thread Cert.InprojRefIdeal.nD Cert.InprojRefIdeal.τ).loc Cert.InprojRefIdeal.main_v117) = v1 c
          ∧ r.2.mem ((c.tc : Thread Cert.InprojRefIdeal.nD Cert.InprojRefIdeal.τ).loc Cert.InprojRefIdeal.main_v118) = v2 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_InprojS_InprojSIdeal : Prop :=
  True

def algebraic_InprojSIdeal_InprojSRefIdeal_pre_finite_projection [hInprojSIdeal : Cert.InprojSIdeal.Facts] [hInprojSRefIdeal : Cert.InprojSRefIdeal.Facts] [hPre_finite_projection : Cert.Pre_finite_projection.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal_finite_projection m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)
      ∧ m' ((c.tc : Thread Cert.InprojSRefIdeal.nD Cert.InprojSRefIdeal.τ).loc Cert.InprojSRefIdeal.main_arg4) = m ((c.tc : Thread Cert.InprojSIdeal.nD Cert.InprojSIdeal.τ).loc Cert.InprojSIdeal.main_arg4)) →
    ∃ (v0 : (c : Dev Cert.InprojSIdeal.nD) → Buf (Elt Ideal) ((c.tc : Thread Cert.InprojSIdeal.nD Cert.InprojSIdeal.τ).loc Cert.InprojSIdeal.main_v40_0)) (v1 : (c : Dev Cert.InprojSIdeal.nD) → Buf (Elt Ideal) ((c.tc : Thread Cert.InprojSIdeal.nD Cert.InprojSIdeal.τ).loc Cert.InprojSIdeal.main_v40_1)) (v2 : (c : Dev Cert.InprojSIdeal.nD) → Buf (Elt Ideal) ((c.tc : Thread Cert.InprojSIdeal.nD Cert.InprojSIdeal.τ).loc Cert.InprojSIdeal.main_v40_2)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v40_0) = v0 c
          ∧ r.2.mem ((c.tc : Thread Cert.InprojSIdeal.nD Cert.InprojSIdeal.τ).loc Cert.InprojSIdeal.main_v40_1) = v1 c
          ∧ r.2.mem ((c.tc : Thread Cert.InprojSIdeal.nD Cert.InprojSIdeal.τ).loc Cert.InprojSIdeal.main_v40_2) = v2 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3)
          ∧ r.2.mem ((c.tc : Thread Cert.InprojSIdeal.nD Cert.InprojSIdeal.τ).loc Cert.InprojSIdeal.main_arg4) = m ((c.tc : Thread Cert.InprojSIdeal.nD Cert.InprojSIdeal.τ).loc Cert.InprojSIdeal.main_arg4))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v118) = v0 c
          ∧ r.2.mem ((c.tc : Thread Cert.InprojSRefIdeal.nD Cert.InprojSRefIdeal.τ).loc Cert.InprojSRefIdeal.main_v119) = v1 c
          ∧ r.2.mem ((c.tc : Thread Cert.InprojSRefIdeal.nD Cert.InprojSRefIdeal.τ).loc Cert.InprojSRefIdeal.main_v120) = v2 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3)
          ∧ r.2.mem ((c.tc : Thread Cert.InprojSRefIdeal.nD Cert.InprojSRefIdeal.τ).loc Cert.InprojSRefIdeal.main_arg4) = m' ((c.tc : Thread Cert.InprojSRefIdeal.nD Cert.InprojSRefIdeal.τ).loc Cert.InprojSRefIdeal.main_arg4))

def preserves_GmlpS_GmlpSIdeal : Prop :=
  True

def algebraic_GmlpSIdeal_GmlpSRefIdeal_pre_finite_gating [hGmlpSIdeal : Cert.GmlpSIdeal.Facts] [hGmlpSRefIdeal : Cert.GmlpSRefIdeal.Facts] [hPre_finite_gating : Cert.Pre_finite_gating.Facts] : Prop :=
  ∀ (m : (ℓ : Loc Cert.GmlpSIdeal.nD Cert.GmlpSIdeal.τ Cert.GmlpSIdeal.sig) → Buf (Elt Ideal) ℓ) (g : Dev Cert.GmlpSIdeal.nD → PrngReg)
    (m' : (ℓ : Loc Cert.GmlpSRefIdeal.nD Cert.GmlpSRefIdeal.τ Cert.GmlpSRefIdeal.sig) → Buf (Elt Ideal) ℓ) (g' : Dev Cert.GmlpSRefIdeal.nD → PrngReg), Pre_GmlpSIdeal_finite_gating m →
    (∀ c : Dev Cert.GmlpSIdeal.nD,
      m' ((c.tc : Thread Cert.GmlpSRefIdeal.nD Cert.GmlpSRefIdeal.τ).loc Cert.GmlpSRefIdeal.main_arg0) = m ((c.tc : Thread Cert.GmlpSIdeal.nD Cert.GmlpSIdeal.τ).loc Cert.GmlpSIdeal.main_arg0)
      ∧ m' ((c.tc : Thread Cert.GmlpSRefIdeal.nD Cert.GmlpSRefIdeal.τ).loc Cert.GmlpSRefIdeal.main_arg1) = m ((c.tc : Thread Cert.GmlpSIdeal.nD Cert.GmlpSIdeal.τ).loc Cert.GmlpSIdeal.main_arg1)
      ∧ m' ((c.tc : Thread Cert.GmlpSRefIdeal.nD Cert.GmlpSRefIdeal.τ).loc Cert.GmlpSRefIdeal.main_arg2) = m ((c.tc : Thread Cert.GmlpSIdeal.nD Cert.GmlpSIdeal.τ).loc Cert.GmlpSIdeal.main_arg2)
      ∧ m' ((c.tc : Thread Cert.GmlpSRefIdeal.nD Cert.GmlpSRefIdeal.τ).loc Cert.GmlpSRefIdeal.main_arg3) = m ((c.tc : Thread Cert.GmlpSIdeal.nD Cert.GmlpSIdeal.τ).loc Cert.GmlpSIdeal.main_arg3)
      ∧ m' ((c.tc : Thread Cert.GmlpSRefIdeal.nD Cert.GmlpSRefIdeal.τ).loc Cert.GmlpSRefIdeal.main_arg4) = m ((c.tc : Thread Cert.GmlpSIdeal.nD Cert.GmlpSIdeal.τ).loc Cert.GmlpSIdeal.main_arg4)
      ∧ m' ((c.tc : Thread Cert.GmlpSRefIdeal.nD Cert.GmlpSRefIdeal.τ).loc Cert.GmlpSRefIdeal.main_arg5) = m ((c.tc : Thread Cert.GmlpSIdeal.nD Cert.GmlpSIdeal.τ).loc Cert.GmlpSIdeal.main_arg5)) →
    ∃ (v0 : (c : Dev Cert.GmlpSIdeal.nD) → Buf (Elt Ideal) ((c.tc : Thread Cert.GmlpSIdeal.nD Cert.GmlpSIdeal.τ).loc Cert.GmlpSIdeal.main_v28_0)) (v1 : (c : Dev Cert.GmlpSIdeal.nD) → Buf (Elt Ideal) ((c.tc : Thread Cert.GmlpSIdeal.nD Cert.GmlpSIdeal.τ).loc Cert.GmlpSIdeal.main_v28_1)),
      θ_run (Cert.GmlpSIdeal.defs (F := Ideal)) (onTc (τ := Cert.GmlpSIdeal.τ) (Cert.GmlpSIdeal.main (F := Ideal))) ⟨m, fun _ => 0, g⟩ (fun r => ∀ c : Dev Cert.GmlpSIdeal.nD,
          r.2.mem ((c.tc : Thread Cert.GmlpSIdeal.nD Cert.GmlpSIdeal.τ).loc Cert.GmlpSIdeal.main_v28_0) = v0 c
          ∧ r.2.mem ((c.tc : Thread Cert.GmlpSIdeal.nD Cert.GmlpSIdeal.τ).loc Cert.GmlpSIdeal.main_v28_1) = v1 c
          ∧ r.2.mem ((c.tc : Thread Cert.GmlpSIdeal.nD Cert.GmlpSIdeal.τ).loc Cert.GmlpSIdeal.main_arg0) = m ((c.tc : Thread Cert.GmlpSIdeal.nD Cert.GmlpSIdeal.τ).loc Cert.GmlpSIdeal.main_arg0)
          ∧ r.2.mem ((c.tc : Thread Cert.GmlpSIdeal.nD Cert.GmlpSIdeal.τ).loc Cert.GmlpSIdeal.main_arg1) = m ((c.tc : Thread Cert.GmlpSIdeal.nD Cert.GmlpSIdeal.τ).loc Cert.GmlpSIdeal.main_arg1)
          ∧ r.2.mem ((c.tc : Thread Cert.GmlpSIdeal.nD Cert.GmlpSIdeal.τ).loc Cert.GmlpSIdeal.main_arg2) = m ((c.tc : Thread Cert.GmlpSIdeal.nD Cert.GmlpSIdeal.τ).loc Cert.GmlpSIdeal.main_arg2)
          ∧ r.2.mem ((c.tc : Thread Cert.GmlpSIdeal.nD Cert.GmlpSIdeal.τ).loc Cert.GmlpSIdeal.main_arg3) = m ((c.tc : Thread Cert.GmlpSIdeal.nD Cert.GmlpSIdeal.τ).loc Cert.GmlpSIdeal.main_arg3)
          ∧ r.2.mem ((c.tc : Thread Cert.GmlpSIdeal.nD Cert.GmlpSIdeal.τ).loc Cert.GmlpSIdeal.main_arg4) = m ((c.tc : Thread Cert.GmlpSIdeal.nD Cert.GmlpSIdeal.τ).loc Cert.GmlpSIdeal.main_arg4)
          ∧ r.2.mem ((c.tc : Thread Cert.GmlpSIdeal.nD Cert.GmlpSIdeal.τ).loc Cert.GmlpSIdeal.main_arg5) = m ((c.tc : Thread Cert.GmlpSIdeal.nD Cert.GmlpSIdeal.τ).loc Cert.GmlpSIdeal.main_arg5))
      ∧ θ_run (Cert.GmlpSRefIdeal.defs (F := Ideal)) (onTc (τ := Cert.GmlpSRefIdeal.τ) (Cert.GmlpSRefIdeal.main (F := Ideal))) ⟨m', fun _ => 0, g'⟩ (fun r => ∀ c : Dev Cert.GmlpSRefIdeal.nD,
          r.2.mem ((c.tc : Thread Cert.GmlpSRefIdeal.nD Cert.GmlpSRefIdeal.τ).loc Cert.GmlpSRefIdeal.main_v59) = v0 c
          ∧ r.2.mem ((c.tc : Thread Cert.GmlpSRefIdeal.nD Cert.GmlpSRefIdeal.τ).loc Cert.GmlpSRefIdeal.main_v42) = v1 c
          ∧ r.2.mem ((c.tc : Thread Cert.GmlpSRefIdeal.nD Cert.GmlpSRefIdeal.τ).loc Cert.GmlpSRefIdeal.main_arg0) = m' ((c.tc : Thread Cert.GmlpSRefIdeal.nD Cert.GmlpSRefIdeal.τ).loc Cert.GmlpSRefIdeal.main_arg0)
          ∧ r.2.mem ((c.tc : Thread Cert.GmlpSRefIdeal.nD Cert.GmlpSRefIdeal.τ).loc Cert.GmlpSRefIdeal.main_arg1) = m' ((c.tc : Thread Cert.GmlpSRefIdeal.nD Cert.GmlpSRefIdeal.τ).loc Cert.GmlpSRefIdeal.main_arg1)
          ∧ r.2.mem ((c.tc : Thread Cert.GmlpSRefIdeal.nD Cert.GmlpSRefIdeal.τ).loc Cert.GmlpSRefIdeal.main_arg2) = m' ((c.tc : Thread Cert.GmlpSRefIdeal.nD Cert.GmlpSRefIdeal.τ).loc Cert.GmlpSRefIdeal.main_arg2)
          ∧ r.2.mem ((c.tc : Thread Cert.GmlpSRefIdeal.nD Cert.GmlpSRefIdeal.τ).loc Cert.GmlpSRefIdeal.main_arg3) = m' ((c.tc : Thread Cert.GmlpSRefIdeal.nD Cert.GmlpSRefIdeal.τ).loc Cert.GmlpSRefIdeal.main_arg3)
          ∧ r.2.mem ((c.tc : Thread Cert.GmlpSRefIdeal.nD Cert.GmlpSRefIdeal.τ).loc Cert.GmlpSRefIdeal.main_arg4) = m' ((c.tc : Thread Cert.GmlpSRefIdeal.nD Cert.GmlpSRefIdeal.τ).loc Cert.GmlpSRefIdeal.main_arg4)
          ∧ r.2.mem ((c.tc : Thread Cert.GmlpSRefIdeal.nD Cert.GmlpSRefIdeal.τ).loc Cert.GmlpSRefIdeal.main_arg5) = m' ((c.tc : Thread Cert.GmlpSRefIdeal.nD Cert.GmlpSRefIdeal.τ).loc Cert.GmlpSRefIdeal.main_arg5))

def Claim : Prop :=
  ∃ (hMoe : Cert.Moe.Facts) (hMoeIdeal : Cert.MoeIdeal.Facts) (hMoeRefIdeal : Cert.MoeRefIdeal.Facts) (hMerge : Cert.Merge.Facts) (hMergeIdeal : Cert.MergeIdeal.Facts) (hMergeRefIdeal : Cert.MergeRefIdeal.Facts) (hDense : Cert.Dense.Facts) (hDenseIdeal : Cert.DenseIdeal.Facts) (hDenseRefIdeal : Cert.DenseRefIdeal.Facts) (hPle : Cert.Ple.Facts) (hPleIdeal : Cert.PleIdeal.Facts) (hPleRefIdeal : Cert.PleRefIdeal.Facts) (hGmlp : Cert.Gmlp.Facts) (hGmlpIdeal : Cert.GmlpIdeal.Facts) (hGmlpRefIdeal : Cert.GmlpRefIdeal.Facts) (hSteps : Cert.Steps.Facts) (hStepsIdeal : Cert.StepsIdeal.Facts) (hStepsRefIdeal : Cert.StepsRefIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hInprojS : Cert.InprojS.Facts) (hInprojSIdeal : Cert.InprojSIdeal.Facts) (hInprojSRefIdeal : Cert.InprojSRefIdeal.Facts) (hGmlpS : Cert.GmlpS.Facts) (hGmlpSIdeal : Cert.GmlpSIdeal.Facts) (hGmlpSRefIdeal : Cert.GmlpSRefIdeal.Facts) (hPre_finite_routing : Cert.Pre_finite_routing.Facts) (hPre_finite_steps : Cert.Pre_finite_steps.Facts) (hPre_finite_attention : Cert.Pre_finite_attention.Facts) (hPre_finite_projection : Cert.Pre_finite_projection.Facts) (hPre_finite_gating : Cert.Pre_finite_gating.Facts),
    quiescent_Moe (hMoe := hMoe)
    ∧ quiescent_MoeIdeal (hMoeIdeal := hMoeIdeal)
    ∧ quiescent_MoeIdeal_pre_finite_routing (hMoeIdeal := hMoeIdeal) (hPre_finite_routing := hPre_finite_routing)
    ∧ quiescent_MoeRefIdeal (hMoeRefIdeal := hMoeRefIdeal)
    ∧ quiescent_MoeRefIdeal_pre_finite_routing (hMoeRefIdeal := hMoeRefIdeal) (hPre_finite_routing := hPre_finite_routing)
    ∧ quiescent_Merge (hMerge := hMerge)
    ∧ quiescent_MergeIdeal (hMergeIdeal := hMergeIdeal)
    ∧ quiescent_MergeRefIdeal (hMergeRefIdeal := hMergeRefIdeal)
    ∧ quiescent_Dense (hDense := hDense)
    ∧ quiescent_DenseIdeal (hDenseIdeal := hDenseIdeal)
    ∧ quiescent_DenseRefIdeal (hDenseRefIdeal := hDenseRefIdeal)
    ∧ quiescent_Ple (hPle := hPle)
    ∧ quiescent_PleIdeal (hPleIdeal := hPleIdeal)
    ∧ quiescent_PleRefIdeal (hPleRefIdeal := hPleRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Steps (hSteps := hSteps)
    ∧ quiescent_StepsIdeal (hStepsIdeal := hStepsIdeal)
    ∧ quiescent_StepsIdeal_pre_finite_steps (hStepsIdeal := hStepsIdeal) (hPre_finite_steps := hPre_finite_steps)
    ∧ quiescent_StepsRefIdeal (hStepsRefIdeal := hStepsRefIdeal)
    ∧ quiescent_StepsRefIdeal_pre_finite_steps (hStepsRefIdeal := hStepsRefIdeal) (hPre_finite_steps := hPre_finite_steps)
    ∧ quiescent_Attn (hAttn := hAttn)
    ∧ quiescent_AttnIdeal (hAttnIdeal := hAttnIdeal)
    ∧ quiescent_AttnIdeal_pre_finite_attention (hAttnIdeal := hAttnIdeal) (hPre_finite_attention := hPre_finite_attention)
    ∧ quiescent_AttnRefIdeal (hAttnRefIdeal := hAttnRefIdeal)
    ∧ quiescent_AttnRefIdeal_pre_finite_attention (hAttnRefIdeal := hAttnRefIdeal) (hPre_finite_attention := hPre_finite_attention)
    ∧ quiescent_Inproj (hInproj := hInproj)
    ∧ quiescent_InprojIdeal (hInprojIdeal := hInprojIdeal)
    ∧ quiescent_InprojRefIdeal (hInprojRefIdeal := hInprojRefIdeal)
    ∧ quiescent_InprojS (hInprojS := hInprojS)
    ∧ quiescent_InprojSIdeal (hInprojSIdeal := hInprojSIdeal)
    ∧ quiescent_InprojSIdeal_pre_finite_projection (hInprojSIdeal := hInprojSIdeal) (hPre_finite_projection := hPre_finite_projection)
    ∧ quiescent_InprojSRefIdeal (hInprojSRefIdeal := hInprojSRefIdeal)
    ∧ quiescent_InprojSRefIdeal_pre_finite_projection (hInprojSRefIdeal := hInprojSRefIdeal) (hPre_finite_projection := hPre_finite_projection)
    ∧ quiescent_GmlpS (hGmlpS := hGmlpS)
    ∧ quiescent_GmlpSIdeal (hGmlpSIdeal := hGmlpSIdeal)
    ∧ quiescent_GmlpSIdeal_pre_finite_gating (hGmlpSIdeal := hGmlpSIdeal) (hPre_finite_gating := hPre_finite_gating)
    ∧ quiescent_GmlpSRefIdeal (hGmlpSRefIdeal := hGmlpSRefIdeal)
    ∧ quiescent_GmlpSRefIdeal_pre_finite_gating (hGmlpSRefIdeal := hGmlpSRefIdeal) (hPre_finite_gating := hPre_finite_gating)
    ∧ preserves_Moe_MoeIdeal
    ∧ algebraic_MoeIdeal_MoeRefIdeal_pre_finite_routing (hMoeIdeal := hMoeIdeal) (hMoeRefIdeal := hMoeRefIdeal) (hPre_finite_routing := hPre_finite_routing)
    ∧ preserves_Merge_MergeIdeal
    ∧ algebraic_MergeIdeal_MergeRefIdeal (hMergeIdeal := hMergeIdeal) (hMergeRefIdeal := hMergeRefIdeal)
    ∧ preserves_Dense_DenseIdeal
    ∧ algebraic_DenseIdeal_DenseRefIdeal (hDenseIdeal := hDenseIdeal) (hDenseRefIdeal := hDenseRefIdeal)
    ∧ preserves_Ple_PleIdeal
    ∧ algebraic_PleIdeal_PleRefIdeal (hPleIdeal := hPleIdeal) (hPleRefIdeal := hPleRefIdeal)
    ∧ preserves_Gmlp_GmlpIdeal
    ∧ algebraic_GmlpIdeal_GmlpRefIdeal (hGmlpIdeal := hGmlpIdeal) (hGmlpRefIdeal := hGmlpRefIdeal)
    ∧ preserves_Steps_StepsIdeal
    ∧ algebraic_StepsIdeal_StepsRefIdeal_pre_finite_steps (hStepsIdeal := hStepsIdeal) (hStepsRefIdeal := hStepsRefIdeal) (hPre_finite_steps := hPre_finite_steps)
    ∧ preserves_Attn_AttnIdeal
    ∧ algebraic_AttnIdeal_AttnRefIdeal_pre_finite_attention (hAttnIdeal := hAttnIdeal) (hAttnRefIdeal := hAttnRefIdeal) (hPre_finite_attention := hPre_finite_attention)
    ∧ preserves_Inproj_InprojIdeal
    ∧ algebraic_InprojIdeal_InprojRefIdeal (hInprojIdeal := hInprojIdeal) (hInprojRefIdeal := hInprojRefIdeal)
    ∧ preserves_InprojS_InprojSIdeal
    ∧ algebraic_InprojSIdeal_InprojSRefIdeal_pre_finite_projection (hInprojSIdeal := hInprojSIdeal) (hInprojSRefIdeal := hInprojSRefIdeal) (hPre_finite_projection := hPre_finite_projection)
    ∧ preserves_GmlpS_GmlpSIdeal
    ∧ algebraic_GmlpSIdeal_GmlpSRefIdeal_pre_finite_gating (hGmlpSIdeal := hGmlpSIdeal) (hGmlpSRefIdeal := hGmlpSRefIdeal) (hPre_finite_gating := hPre_finite_gating)
-- ==== Pre_finite_attention.lean ====
abbrev S128x4x8x64 : Shape := ⟨4, ![128, 4, 8, 64]⟩
abbrev S2x128x2048x8x64 : Shape := ⟨5, ![2, 128, 2048, 8, 64]⟩
abbrev S1x128x2048x8x64 : Shape := ⟨5, ![1, 128, 2048, 8, 64]⟩
abbrev S128x2048x8x64 : Shape := ⟨4, ![128, 2048, 8, 64]⟩
abbrev S128x2056x8x64 : Shape := ⟨4, ![128, 2056, 8, 64]⟩
abbrev S_ : Shape := ⟨0, ![]⟩

class Facts : Prop where
  slices_S2x128x2048x8x64_S1x128x2048x8x64_1_0_0_0_0 : S2x128x2048x8x64.Slices ![1, 0, 0, 0, 0] S1x128x2048x8x64
  shapeCasts_S1x128x2048x8x64_S128x2048x8x64 : S1x128x2048x8x64.ShapeCasts S128x2048x8x64
  concatenates_S128x2048x8x64_S128x4x8x64_S128x4x8x64_S128x2056x8x64_d1 : Shape.Concatenates [S128x2048x8x64, S128x4x8x64, S128x4x8x64] S128x2056x8x64 1
  bcast_S_S128x2056x8x64 : S_.BroadcastsInDim S128x2056x8x64 (![] : Fin 0 → Fin S128x2056x8x64.rank)

variable [Facts]

def fn {F : FTy → Type} [FloatOps F] (main_arg0 : FVec F S128x4x8x64 .f32) (main_arg1 : FVec F S128x4x8x64 .f32) (main_arg2 : FVec F S128x4x8x64 .f32) (main_arg3 : FVec F S2x128x2048x8x64 .f32) (main_arg4 : FVec F S2x128x2048x8x64 .f32) : IVec S128x2056x8x64 1 :=
  let main_v0 : FVec F S1x128x2048x8x64 .f32 := (extractStridedSlice S1x128x2048x8x64 ![1, 0, 0, 0, 0] · slices_S2x128x2048x8x64_S1x128x2048x8x64_1_0_0_0_0) main_arg3
  let main_v1 : FVec F S128x2048x8x64 .f32 := shapeCast S128x2048x8x64 main_v0 shapeCasts_S1x128x2048x8x64_S128x2048x8x64
  let main_v2 : FVec F S128x2056x8x64 .f32 := concatenate S128x2056x8x64 1 [⟨S128x2048x8x64, main_v1⟩, ⟨S128x4x8x64, main_arg1⟩, ⟨S128x4x8x64, main_arg0⟩] concatenates_S128x2048x8x64_S128x4x8x64_S128x4x8x64_S128x2056x8x64_d1
  let main_v3 : FVec F S128x2056x8x64 .f32 := Host.absf main_v2
  let main_cst : FVec F S_ .f32 := constant S_ .f32 0x7F800000#32
  let main_v4 : FVec F S128x2056x8x64 .f32 := broadcastInDim S128x2056x8x64 ![] bcast_S_S128x2056x8x64 main_cst
  let main_v5 : IVec S128x2056x8x64 1 := cmpf .olt main_v3 main_v4
  main_v5
-- ==== Pre_finite_gating.lean ====
abbrev S512x1024 : Shape := ⟨2, ![512, 1024]⟩
abbrev S1024 : Shape := ⟨1, ![1024]⟩
abbrev S1024x7456 : Shape := ⟨2, ![1024, 7456]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x4 : Shape := ⟨2, ![4, 4]⟩
abbrev S4x4x4 : Shape := ⟨3, ![4, 4, 4]⟩
abbrev S64 : Shape := ⟨1, ![64]⟩
abbrev S448 : Shape := ⟨1, ![448]⟩
abbrev S1x1024 : Shape := ⟨2, ![1, 1024]⟩
abbrev S1024x1024 : Shape := ⟨2, ![1024, 1024]⟩
abbrev S1538x1024 : Shape := ⟨2, ![1538, 1024]⟩

class Facts : Prop where
  bcast_S_S4x4 : S_.BroadcastsInDim S4x4 (![] : Fin 0 → Fin S4x4.rank)
  slices_S4x128x128_S4x4x4_0_0_0 : S4x128x128.Slices ![0, 0, 0] S4x4x4
  bcast_S4x4_S4x4x4_1_2 : S4x4.BroadcastsInDim S4x4x4 (![1, 2] : Fin 2 → Fin S4x4x4.rank)
  bcast_S_S4x4x4 : S_.BroadcastsInDim S4x4x4 (![] : Fin 0 → Fin S4x4x4.rank)
  shapeCasts_S4x4x4_S64 : S4x4x4.ShapeCasts S64
  bcast_S_S448 : S_.BroadcastsInDim S448 (![] : Fin 0 → Fin S448.rank)
  concatenates_S512_S64_S448_S1024_d0 : Shape.Concatenates [S512, S64, S448] S1024 0
  bcast_S1024_S1x1024_1 : S1024.BroadcastsInDim S1x1024 (![1] : Fin 1 → Fin S1x1024.rank)
  slices_S1024x7456_S1024x1024_0_1536 : S1024x7456.Slices ![0, 1536] S1024x1024
  transposes_S1024x1024_S1024x1024_1_0 : S1024x1024.Transposes [1, 0] S1024x1024
  concatenates_S512x1024_S1x1024_S1024x1024_S1x1024_S1538x1024_d0 : Shape.Concatenates [S512x1024, S1x1024, S1024x1024, S1x1024] S1538x1024 0
  bcast_S_S1538x1024 : S_.BroadcastsInDim S1538x1024 (![] : Fin 0 → Fin S1538x1024.rank)

variable [Facts]

def fn_tril {F : FTy → Type} [FloatOps F] (arg0 : IVec S4x4 1) : IVec S4x4 1 :=
  let v0 : IVec S4x4 32 := iotaInDim S4x4 32 0
  let c : IVec S_ 32 := constantI S_ 32 0#32
  let v1 : IVec S4x4 32 := broadcastInDim S4x4 ![] bcast_S_S4x4 c
  let v2 : IVec S4x4 32 := addi v0 v1
  let v3 : IVec S4x4 32 := iotaInDim S4x4 32 1
  let v4 : IVec S4x4 1 := cmpi .sge v2 v3
  let c_0 : IVec S_ 1 := constantI S_ 1 0#1
  let v5 : IVec S4x4 1 := broadcastInDim S4x4 ![] bcast_S_S4x4 c_0
  let v6 : IVec S4x4 1 := select v4 arg0 v5
  v6

def fn_where {F : FTy → Type} [FloatOps F] (arg0 : IVec S4x4 1) (arg1 : FVec F S4x4x4 .f32) (arg2 : IVec S_ 32) : FVec F S4x4x4 .f32 :=
  let v0 : FVec F S_ .f32 := sitofp .f32 arg2
  let v1 : IVec S4x4x4 1 := broadcastInDim S4x4x4 ![1, 2] bcast_S4x4_S4x4x4_1_2 arg0
  let v2 : FVec F S4x4x4 .f32 := broadcastInDim S4x4x4 ![] bcast_S_S4x4x4 v0
  let v3 : FVec F S4x4x4 .f32 := select v1 arg1 v2
  v3

def fn {F : FTy → Type} [FloatOps F] (main_arg0 : FVec F S512x1024 .f32) (main_arg1 : FVec F S1024 .f32) (main_arg2 : FVec F S1024x7456 .f32) (main_arg3 : FVec F S512 .f32) (main_arg4 : FVec F S4x128x128 .f32) (main_arg5 : FVec F S4x128 .f32) : IVec S1538x1024 1 :=
  let main_c : IVec S_ 1 := constantI S_ 1 1#1
  let main_v0 : IVec S4x4 1 := broadcastInDim S4x4 ![] bcast_S_S4x4 main_c
  let main_v1 : IVec S4x4 1 := fn_tril (F := F) main_v0
  let main_v2 : FVec F S4x4x4 .f32 := (extractStridedSlice S4x4x4 ![0, 0, 0] · slices_S4x128x128_S4x4x4_0_0_0) main_arg4
  let main_c_0 : IVec S_ 32 := constantI S_ 32 0#32
  let main_v3 : FVec F S4x4x4 .f32 := fn_where (F := F) main_v1 main_v2 main_c_0
  let main_v4 : FVec F S64 .f32 := shapeCast S64 main_v3 shapeCasts_S4x4x4_S64
  let main_cst : FVec F S_ .f32 := constant S_ .f32 0x00000000#32
  let main_v5 : FVec F S448 .f32 := broadcastInDim S448 ![] bcast_S_S448 main_cst
  let main_v6 : FVec F S1024 .f32 := concatenate S1024 0 [⟨S512, main_arg3⟩, ⟨S64, main_v4⟩, ⟨S448, main_v5⟩] concatenates_S512_S64_S448_S1024_d0
  let main_v7 : FVec F S1x1024 .f32 := broadcastInDim S1x1024 ![1] bcast_S1024_S1x1024_1 main_arg1
  let main_v8 : FVec F S1024x1024 .f32 := (extractStridedSlice S1024x1024 ![0, 1536] · slices_S1024x7456_S1024x1024_0_1536) main_arg2
  let main_v9 : FVec F S1024x1024 .f32 := (transpose S1024x1024 [1, 0] · transposes_S1024x1024_S1024x1024_1_0) main_v8
  let main_v10 : FVec F S1x1024 .f32 := broadcastInDim S1x1024 ![1] bcast_S1024_S1x1024_1 main_v6
  let main_v11 : FVec F S1538x1024 .f32 := concatenate S1538x1024 0 [⟨S512x1024, main_arg0⟩, ⟨S1x1024, main_v7⟩, ⟨S1024x1024, main_v9⟩, ⟨S1x1024, main_v10⟩] concatenates_S512x1024_S1x1024_S1024x1024_S1x1024_S1538x1024_d0
  let main_v12 : FVec F S1538x1024 .f32 := Host.absf main_v11
  let main_cst_1 : FVec F S_ .f32 := constant S_ .f32 0x7F800000#32
  let main_v13 : FVec F S1538x1024 .f32 := broadcastInDim S1538x1024 ![] bcast_S_S1538x1024 main_cst_1
  let main_v14 : IVec S1538x1024 1 := cmpf .olt main_v12 main_v13
  main_v14
-- ==== Pre_finite_projection.lean ====
abbrev S512x1024 : Shape := ⟨2, ![512, 1024]⟩
abbrev S1024 : Shape := ⟨1, ![1024]⟩
abbrev S1024x7456 : Shape := ⟨2, ![1024, 7456]⟩
abbrev S64 : Shape := ⟨1, ![64]⟩
abbrev S1x1024 : Shape := ⟨2, ![1, 1024]⟩
abbrev S1024x1536 : Shape := ⟨2, ![1024, 1536]⟩
abbrev S1536x1024 : Shape := ⟨2, ![1536, 1024]⟩
abbrev S2049x1024 : Shape := ⟨2, ![2049, 1024]⟩
abbrev S_ : Shape := ⟨0, ![]⟩

class Facts : Prop where
  bcast_S1024_S1x1024_1 : S1024.BroadcastsInDim S1x1024 (![1] : Fin 1 → Fin S1x1024.rank)
  slices_S1024x7456_S1024x1536_0_0 : S1024x7456.Slices ![0, 0] S1024x1536
  transposes_S1024x1536_S1536x1024_1_0 : S1024x1536.Transposes [1, 0] S1536x1024
  concatenates_S512x1024_S1x1024_S1536x1024_S2049x1024_d0 : Shape.Concatenates [S512x1024, S1x1024, S1536x1024] S2049x1024 0
  bcast_S_S2049x1024 : S_.BroadcastsInDim S2049x1024 (![] : Fin 0 → Fin S2049x1024.rank)

variable [Facts]

def fn {F : FTy → Type} [FloatOps F] (main_arg0 : FVec F S512x1024 .f32) (main_arg1 : FVec F S1024 .f32) (main_arg2 : FVec F S1024x7456 .f32) (main_arg3 : FVec F S64 .f32) (main_arg4 : FVec F S64 .f32) : IVec S2049x1024 1 :=
  let main_v0 : FVec F S1x1024 .f32 := broadcastInDim S1x1024 ![1] bcast_S1024_S1x1024_1 main_arg1
  let main_v1 : FVec F S1024x1536 .f32 := (extractStridedSlice S1024x1536 ![0, 0] · slices_S1024x7456_S1024x1536_0_0) main_arg2
  let main_v2 : FVec F S1536x1024 .f32 := (transpose S1536x1024 [1, 0] · transposes_S1024x1536_S1536x1024_1_0) main_v1
  let main_v3 : FVec F S2049x1024 .f32 := concatenate S2049x1024 0 [⟨S512x1024, main_arg0⟩, ⟨S1x1024, main_v0⟩, ⟨S1536x1024, main_v2⟩] concatenates_S512x1024_S1x1024_S1536x1024_S2049x1024_d0
  let main_v4 : FVec F S2049x1024 .f32 := Host.absf main_v3
  let main_cst : FVec F S_ .f32 := constant S_ .f32 0x7F800000#32
  let main_v5 : FVec F S2049x1024 .f32 := broadcastInDim S2049x1024 ![] bcast_S_S2049x1024 main_cst
  let main_v6 : IVec S2049x1024 1 := cmpf .olt main_v4 main_v5
  main_v6
-- ==== Pre_finite_routing.lean ====
abbrev S16384x1024 : Shape := ⟨2, ![16384, 1024]⟩
abbrev S1024 : Shape := ⟨1, ![1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S1024x1 : Shape := ⟨2, ![1024, 1]⟩
abbrev S_ : Shape := ⟨0, ![]⟩

class Facts : Prop where
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x8 : S_.BroadcastsInDim S1024x8 (![] : Fin 0 → Fin S1024x8.rank)
  bcast_S1024x1_S1024x8_0_1 : S1024x1.BroadcastsInDim S1024x8 (![0, 1] : Fin 2 → Fin S1024x8.rank)

variable [Facts]

def fn {F : FTy → Type} [FloatOps F] (main_arg0 : FVec F S16384x1024 .f32) (main_arg1 : FVec F S1024 .f32) (main_arg2 : FVec F S1024x8 .f32) (main_arg3 : FVec F S8x1024x2816 .f32) (main_arg4 : FVec F S8x1024x2816 .f32) (main_arg5 : FVec F S8x2816x1024 .f32) : IVec S1024x8 1 :=
  let main_v0 : FVec F S1024 .f32 := Host.absf main_arg1
  let main_v1 : FVec F S1024x1 .f32 := broadcastInDim S1024x1 ![0] bcast_S1024_S1024x1_0 main_v0
  let main_cst : FVec F S_ .f32 := constant S_ .f32 0x7F800000#32
  let main_v2 : FVec F S1024x1 .f32 := broadcastInDim S1024x1 ![] bcast_S_S1024x1 main_cst
  let main_v3 : IVec S1024x1 1 := cmpf .olt main_v1 main_v2
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_v7 : IVec S1024x8 1 := broadcastInDim S1024x8 ![0, 1] bcast_S1024x1_S1024x8_0_1 main_v3
  let main_v8 : IVec S1024x8 1 := andi main_v7 main_v6
  main_v8
-- ==== Pre_finite_steps.lean ====
abbrev S512x8x64 : Shape := ⟨3, ![512, 8, 64]⟩
abbrev S8x64 : Shape := ⟨2, ![8, 64]⟩
abbrev S512 : Shape := ⟨1, ![512]⟩
abbrev S128x8x64x64 : Shape := ⟨4, ![128, 8, 64, 64]⟩
abbrev S_ : Shape := ⟨0, ![]⟩
abbrev S128x4x8x64 : Shape := ⟨4, ![128, 4, 8, 64]⟩
abbrev S128x1x8x64 : Shape := ⟨4, ![128, 1, 8, 64]⟩
abbrev S128x8x64 : Shape := ⟨3, ![128, 8, 64]⟩
abbrev S128x8x1x64 : Shape := ⟨4, ![128, 8, 1, 64]⟩

class Facts : Prop where
  bcast_S_S512x8x64 : S_.BroadcastsInDim S512x8x64 (![] : Fin 0 → Fin S512x8x64.rank)
  shapeCasts_S512x8x64_S128x4x8x64 : S512x8x64.ShapeCasts S128x4x8x64
  slices_S128x4x8x64_S128x1x8x64_0_0_0_0 : S128x4x8x64.Slices ![0, 0, 0, 0] S128x1x8x64
  shapeCasts_S128x1x8x64_S128x8x64 : S128x1x8x64.ShapeCasts S128x8x64
  slices_S128x4x8x64_S128x1x8x64_0_1_0_0 : S128x4x8x64.Slices ![0, 1, 0, 0] S128x1x8x64
  slices_S128x4x8x64_S128x1x8x64_0_2_0_0 : S128x4x8x64.Slices ![0, 2, 0, 0] S128x1x8x64
  slices_S128x4x8x64_S128x1x8x64_0_3_0_0 : S128x4x8x64.Slices ![0, 3, 0, 0] S128x1x8x64
  bcast_S128x8x64_S128x8x1x64_0_1_3 : S128x8x64.BroadcastsInDim S128x8x1x64 (![0, 1, 3] : Fin 3 → Fin S128x8x1x64.rank)
  bcast_S_S128x8x64x64 : S_.BroadcastsInDim S128x8x64x64 (![] : Fin 0 → Fin S128x8x64x64.rank)
  bcast_S128x8x1x64_S128x8x64x64_0_1_2_3 : S128x8x1x64.BroadcastsInDim S128x8x64x64 (![0, 1, 2, 3] : Fin 4 → Fin S128x8x64x64.rank)

variable [Facts]

def fn_part1 {F : FTy → Type} [FloatOps F] (main_arg10 : FVec F S128x8x64x64 .f32) (main_v18 : IVec S512x8x64 1) : IVec S128x8x64x64 1 :=
  let main_v19 : IVec S128x4x8x64 1 := shapeCast S128x4x8x64 main_v18 shapeCasts_S512x8x64_S128x4x8x64
  let main_v20 : IVec S128x1x8x64 1 := (extractStridedSlice S128x1x8x64 ![0, 0, 0, 0] · slices_S128x4x8x64_S128x1x8x64_0_0_0_0) main_v19
  let main_v21 : IVec S128x8x64 1 := shapeCast S128x8x64 main_v20 shapeCasts_S128x1x8x64_S128x8x64
  let main_v22 : IVec S128x1x8x64 1 := (extractStridedSlice S128x1x8x64 ![0, 1, 0, 0] · slices_S128x4x8x64_S128x1x8x64_0_1_0_0) main_v19
  let main_v23 : IVec S128x8x64 1 := shapeCast S128x8x64 main_v22 shapeCasts_S128x1x8x64_S128x8x64
  let main_v24 : IVec S128x8x64 1 := andi main_v21 main_v23
  let main_v25 : IVec S128x1x8x64 1 := (extractStridedSlice S128x1x8x64 ![0, 2, 0, 0] · slices_S128x4x8x64_S128x1x8x64_0_2_0_0) main_v19
  let main_v26 : IVec S128x8x64 1 := shapeCast S128x8x64 main_v25 shapeCasts_S128x1x8x64_S128x8x64
  let main_v27 : IVec S128x8x64 1 := andi main_v24 main_v26
  let main_v28 : IVec S128x1x8x64 1 := (extractStridedSlice S128x1x8x64 ![0, 3, 0, 0] · slices_S128x4x8x64_S128x1x8x64_0_3_0_0) main_v19
  let main_v29 : IVec S128x8x64 1 := shapeCast S128x8x64 main_v28 shapeCasts_S128x1x8x64_S128x8x64
  let main_v30 : IVec S128x8x64 1 := andi main_v27 main_v29
  let main_v31 : IVec S128x8x1x64 1 := broadcastInDim S128x8x1x64 ![0, 1, 3] bcast_S128x8x64_S128x8x1x64_0_1_3 main_v30
  let main_v32 : FVec F S128x8x64x64 .f32 := Host.absf main_arg10
  let main_cst_4 : FVec F S_ .f32 := constant S_ .f32 0x7F800000#32
  let main_v33 : FVec F S128x8x64x64 .f32 := broadcastInDim S128x8x64x64 ![] bcast_S_S128x8x64x64 main_cst_4
  let main_v34 : IVec S128x8x64x64 1 := cmpf .olt main_v32 main_v33
  let main_v35 : IVec S128x8x64x64 1 := broadcastInDim S128x8x64x64 ![0, 1, 2, 3] bcast_S128x8x1x64_S128x8x64x64_0_1_2_3 main_v31
  let main_v36 : IVec S128x8x64x64 1 := andi main_v35 main_v34
  main_v36

def fn {F : FTy → Type} [FloatOps F] (main_arg0 : FVec F S512x8x64 .f32) (main_arg1 : FVec F S512x8x64 .f32) (main_arg2 : FVec F S512x8x64 .f32) (main_arg3 : FVec F S512x8x64 .f32) (main_arg4 : FVec F S512x8x64 .f32) (main_arg5 : FVec F S512x8x64 .f32) (main_arg6 : FVec F S512x8x64 .f32) (main_arg7 : FVec F S8x64 .f32) (main_arg8 : FVec F S512 .f32) (main_arg9 : FVec F S512 .f32) (main_arg10 : FVec F S128x8x64x64 .f32) : IVec S128x8x64x64 1 :=
  let main_v0 : FVec F S512x8x64 .f32 := Host.absf main_arg1
  let main_cst : FVec F S_ .f32 := constant S_ .f32 0x7F800000#32
  let main_v1 : FVec F S512x8x64 .f32 := broadcastInDim S512x8x64 ![] bcast_S_S512x8x64 main_cst
  let main_v2 : IVec S512x8x64 1 := cmpf .olt main_v0 main_v1
  let main_v3 : FVec F S512x8x64 .f32 := Host.absf main_arg2
  let main_cst_0 : FVec F S_ .f32 := constant S_ .f32 0x7F800000#32
  let main_v4 : FVec F S512x8x64 .f32 := broadcastInDim S512x8x64 ![] bcast_S_S512x8x64 main_cst_0
  let main_v5 : IVec S512x8x64 1 := cmpf .olt main_v3 main_v4
  let main_v6 : IVec S512x8x64 1 := andi main_v2 main_v5
  let main_v7 : FVec F S512x8x64 .f32 := Host.absf main_arg3
  let main_cst_1 : FVec F S_ .f32 := constant S_ .f32 0x7F800000#32
  let main_v8 : FVec F S512x8x64 .f32 := broadcastInDim S512x8x64 ![] bcast_S_S512x8x64 main_cst_1
  let main_v9 : IVec S512x8x64 1 := cmpf .olt main_v7 main_v8
  let main_v10 : IVec S512x8x64 1 := andi main_v6 main_v9
  let main_v11 : FVec F S512x8x64 .f32 := Host.absf main_arg4
  let main_cst_2 : FVec F S_ .f32 := constant S_ .f32 0x7F800000#32
  let main_v12 : FVec F S512x8x64 .f32 := broadcastInDim S512x8x64 ![] bcast_S_S512x8x64 main_cst_2
  let main_v13 : IVec S512x8x64 1 := cmpf .olt main_v11 main_v12
  let main_v14 : IVec S512x8x64 1 := andi main_v10 main_v13
  let main_v15 : FVec F S512x8x64 .f32 := Host.absf main_arg5
  let main_cst_3 : FVec F S_ .f32 := constant S_ .f32 0x7F800000#32
  let main_v16 : FVec F S512x8x64 .f32 := broadcastInDim S512x8x64 ![] bcast_S_S512x8x64 main_cst_3
  let main_v17 : IVec S512x8x64 1 := cmpf .olt main_v15 main_v16
  let main_v18 : IVec S512x8x64 1 := andi main_v14 main_v17
  fn_part1 (F := F) main_arg10 main_v18
-- ==== Moe.lean ====
abbrev S16384x1024 : Shape := ⟨2, ![16384, 1024]⟩
abbrev S1024 : Shape := ⟨1, ![1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S1024x128 : Shape := ⟨2, ![1024, 128]⟩
abbrev S1x1024 : Shape := ⟨2, ![1, 1024]⟩
abbrev S512x1024 : Shape := ⟨2, ![512, 1024]⟩
abbrev S1x1024x256 : Shape := ⟨3, ![1, 1024, 256]⟩
abbrev S1x256x1024 : Shape := ⟨3, ![1, 256, 1024]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 14
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x8, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1x1024, .f32⟩
  | .hbm, ⟨10, _⟩ => ⟨S8x1024x2816, .bf16⟩
  | .hbm, ⟨11, _⟩ => ⟨S8x1024x2816, .bf16⟩
  | .hbm, ⟨12, _⟩ => ⟨S8x2816x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x128, .f32⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x256x1024, .bf16⟩
  | .local _ .vmem, ⟨9, _⟩ => ⟨S1x256x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x128, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![32, 8, 11], ![false, false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let arg2 : BitVec 32 := BitVec.ofNat 32 (i 2).val
  let c10_i32 : BitVec 32 := 10#32
  let v41 : BitVec 1 := Scalar.cmpi .eq arg2 c10_i32
  let v42 : BitVec 1 := Scalar.andi v40 v41
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== MoeRefIdeal.lean ====
abbrev S16384x1024 : Shape := ⟨2, ![16384, 1024]⟩
abbrev S1024 : Shape := ⟨1, ![1024]⟩
abbrev S1024x8 : Shape := ⟨2, ![1024, 8]⟩
abbrev S8x1024x2816 : Shape := ⟨3, ![8, 1024, 2816]⟩
abbrev S8x2816x1024 : Shape := ⟨3, ![8, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8 : Shape := ⟨2, ![16384, 8]⟩
abbrev S16384x2 : Shape := ⟨2, ![16384, 2]⟩
abbrev S16384x2x1 : Shape := ⟨3, ![16384, 2, 1]⟩
abbrev S1x1x8 : Shape := ⟨3, ![1, 1, 8]⟩
abbrev S16384x2x8 : Shape := ⟨3, ![16384, 2, 8]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 233
  | .vmem => 0
  | .smem => 0
  | _ => 0

abbrev hbmTy0_0 (i : Nat) : BufTy := match i % 128 with
  | 0 => ⟨S16384x1024, .f32⟩
  | 1 => ⟨S1024, .f32⟩
  | 2 => ⟨S1024x8, .f32⟩
  | 3 => ⟨S8x1024x2816, .f32⟩
  | 4 => ⟨S8x1024x2816, .f32⟩
  | 5 => ⟨S8x2816x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1024, .f32⟩
  | 18 => ⟨S16384x1024, .f32⟩
  | 19 => ⟨S1x1024, .f32⟩
  | 20 => ⟨S16384x1024, .f32⟩
  | 21 => ⟨S16384x1024, .f32⟩
  | 22 => ⟨S16384x8, .f32⟩
  | 23 => ⟨S16384x2, .f32⟩
  | 24 => ⟨S16384x2, .i32⟩
  | 25 => ⟨S_, .f32⟩
  | 26 => ⟨S16384, .f32⟩
  | 27 => ⟨S_, .f32⟩
  | 28 => ⟨S16384, .f32⟩
  | 29 => ⟨S16384, .f32⟩
  | 30 => ⟨S16384x1, .f32⟩
  | 31 => ⟨S16384x2, .f32⟩
  | 32 => ⟨S16384x2, .f32⟩
  | 33 => ⟨S16384x2, .f32⟩
  | 34 => ⟨S_, .f32⟩
  | 35 => ⟨S16384, .f32⟩
  | 36 => ⟨S16384x1, .f32⟩
  | 37 => ⟨S16384x2, .f32⟩
  | 38 => ⟨S16384x2, .f32⟩
  | 39 => ⟨S16384x2x1, .i32⟩
  | 40 => ⟨S1x1x8, .i32⟩
  | 41 => ⟨S16384x2x8, .i32⟩
  | 42 => ⟨S16384x2x8, .i32⟩
  | 43 => ⟨S16384x2x8, .i1⟩
  | 44 => ⟨S16384x2x8, .f32⟩
  | 45 => ⟨S16384x8, .f32⟩
  | 46 => ⟨S_, .f32⟩
  | 47 => ⟨S16384x1024, .f32⟩
  | 48 => ⟨S16384x1, .f32⟩
  | 49 => ⟨S1x1024x2816, .f32⟩
  | 50 => ⟨S1024x2816, .f32⟩
  | 51 => ⟨S1x1024x2816, .f32⟩
  | 52 => ⟨S1024x2816, .f32⟩
  | 53 => ⟨S1x2816x1024, .f32⟩
  | 54 => ⟨S2816x1024, .f32⟩
  | 55 => ⟨S16384x2816, .f32⟩
  | 56 => ⟨S16384x2816, .f32⟩
  | 57 => ⟨S16384x2816, .f32⟩
  | 58 => ⟨S_, .f32⟩
  | 59 => ⟨S16384x2816, .f32⟩
  | 60 => ⟨S16384x2816, .f32⟩
  | 61 => ⟨S_, .f32⟩
  | 62 => ⟨S16384x2816, .f32⟩
  | 63 => ⟨S16384x2816, .f32⟩
  | 64 => ⟨S16384x2816, .f32⟩
  | 65 => ⟨S16384x2816, .f32⟩
  | 66 => ⟨S16384x2816, .f32⟩
  | 67 => ⟨S16384x1024, .f32⟩
  | 68 => ⟨S16384x1024, .f32⟩
  | 69 => ⟨S16384x1024, .f32⟩
  | 70 => ⟨S16384x1024, .f32⟩
  | 71 => ⟨S16384x1, .f32⟩
  | 72 => ⟨S1x1024x2816, .f32⟩
  | 73 => ⟨S1024x2816, .f32⟩
  | 74 => ⟨S1x1024x2816, .f32⟩
  | 75 => ⟨S1024x2816, .f32⟩
  | 76 => ⟨S1x2816x1024, .f32⟩
  | 77 => ⟨S2816x1024, .f32⟩
  | 78 => ⟨S16384x2816, .f32⟩
  | 79 => ⟨S16384x2816, .f32⟩
  | 80 => ⟨S16384x2816, .f32⟩
  | 81 => ⟨S_, .f32⟩
  | 82 => ⟨S16384x2816, .f32⟩
  | 83 => ⟨S16384x2816, .f32⟩
  | 84 => ⟨S_, .f32⟩
  | 85 => ⟨S16384x2816, .f32⟩
  | 86 => ⟨S16384x2816, .f32⟩
  | 87 => ⟨S16384x2816, .f32⟩
  | 88 => ⟨S16384x2816, .f32⟩
  | 89 => ⟨S16384x2816, .f32⟩
  | 90 => ⟨S16384x1024, .f32⟩
  | 91 => ⟨S16384x1024, .f32⟩
  | 92 => ⟨S16384x1024, .f32⟩
  | 93 => ⟨S16384x1024, .f32⟩
  | 94 => ⟨S16384x1, .f32⟩
  | 95 => ⟨S1x1024x2816, .f32⟩
  | 96 => ⟨S1024x2816, .f32⟩
  | 97 => ⟨S1x1024x2816, .f32⟩
  | 98 => ⟨S1024x2816, .f32⟩
  | 99 => ⟨S1x2816x1024, .f32⟩
  | 100 => ⟨S2816x1024, .f32⟩
  | 101 => ⟨S16384x2816, .f32⟩
  | 102 => ⟨S16384x2816, .f32⟩
  | 103 => ⟨S16384x2816, .f32⟩
  | 104 => ⟨S_, .f32⟩
  | 105 => ⟨S16384x2816, .f32⟩
  | 106 => ⟨S16384x2816, .f32⟩
  | 107 => ⟨S_, .f32⟩
  | 108 => ⟨S16384x2816, .f32⟩
  | 109 => ⟨S16384x2816, .f32⟩
  | 110 => ⟨S16384x2816, .f32⟩
  | 111 => ⟨S16384x2816, .f32⟩
  | 112 => ⟨S16384x2816, .f32⟩
  | 113 => ⟨S16384x1024, .f32⟩
  | 114 => ⟨S16384x1024, .f32⟩
  | 115 => ⟨S16384x1024, .f32⟩
  | 116 => ⟨S16384x1024, .f32⟩
  | 117 => ⟨S16384x1, .f32⟩
  | 118 => ⟨S1x1024x2816, .f32⟩
  | 119 => ⟨S1024x2816, .f32⟩
  | 120 => ⟨S1x1024x2816, .f32⟩
  | 121 => ⟨S1024x2816, .f32⟩
  | 122 => ⟨S1x2816x1024, .f32⟩
  | 123 => ⟨S2816x1024, .f32⟩
  | 124 => ⟨S16384x2816, .f32⟩
  | 125 => ⟨S16384x2816, .f32⟩
  | 126 => ⟨S16384x2816, .f32⟩
  | 127 => ⟨S_, .f32⟩
  | _ => ⟨S16384x1024, .f32⟩

abbrev hbmTy0_1 (i : Nat) : BufTy := match i % 128 with
  | 0 => ⟨S16384x2816, .f32⟩
  | 1 => ⟨S16384x2816, .f32⟩
  | 2 => ⟨S_, .f32⟩
  | 3 => ⟨S16384x2816, .f32⟩
  | 4 => ⟨S16384x2816, .f32⟩
  | 5 => ⟨S16384x2816, .f32⟩
  | 6 => ⟨S16384x2816, .f32⟩
  | 7 => ⟨S16384x2816, .f32⟩
  | 8 => ⟨S16384x1024, .f32⟩
  | 9 => ⟨S16384x1024, .f32⟩
  | 10 => ⟨S16384x1024, .f32⟩
  | 11 => ⟨S16384x1024, .f32⟩
  | 12 => ⟨S16384x1, .f32⟩
  | 13 => ⟨S1x1024x2816, .f32⟩
  | 14 => ⟨S1024x2816, .f32⟩
  | 15 => ⟨S1x1024x2816, .f32⟩
  | 16 => ⟨S1024x2816, .f32⟩
  | 17 => ⟨S1x2816x1024, .f32⟩
  | 18 => ⟨S2816x1024, .f32⟩
  | 19 => ⟨S16384x2816, .f32⟩
  | 20 => ⟨S16384x2816, .f32⟩
  | 21 => ⟨S16384x2816, .f32⟩
  | 22 => ⟨S_, .f32⟩
  | 23 => ⟨S16384x2816, .f32⟩
  | 24 => ⟨S16384x2816, .f32⟩
  | 25 => ⟨S_, .f32⟩
  | 26 => ⟨S16384x2816, .f32⟩
  | 27 => ⟨S16384x2816, .f32⟩
  | 28 => ⟨S16384x2816, .f32⟩
  | 29 => ⟨S16384x2816, .f32⟩
  | 30 => ⟨S16384x2816, .f32⟩
  | 31 => ⟨S16384x1024, .f32⟩
  | 32 => ⟨S16384x1024, .f32⟩
  | 33 => ⟨S16384x1024, .f32⟩
  | 34 => ⟨S16384x1024, .f32⟩
  | 35 => ⟨S16384x1, .f32⟩
  | 36 => ⟨S1x1024x2816, .f32⟩
  | 37 => ⟨S1024x2816, .f32⟩
  | 38 => ⟨S1x1024x2816, .f32⟩
  | 39 => ⟨S1024x2816, .f32⟩
  | 40 => ⟨S1x2816x1024, .f32⟩
  | 41 => ⟨S2816x1024, .f32⟩
  | 42 => ⟨S16384x2816, .f32⟩
  | 43 => ⟨S16384x2816, .f32⟩
  | 44 => ⟨S16384x2816, .f32⟩
  | 45 => ⟨S_, .f32⟩
  | 46 => ⟨S16384x2816, .f32⟩
  | 47 => ⟨S16384x2816, .f32⟩
  | 48 => ⟨S_, .f32⟩
  | 49 => ⟨S16384x2816, .f32⟩
  | 50 => ⟨S16384x2816, .f32⟩
  | 51 => ⟨S16384x2816, .f32⟩
  | 52 => ⟨S16384x2816, .f32⟩
  | 53 => ⟨S16384x2816, .f32⟩
  | 54 => ⟨S16384x1024, .f32⟩
  | 55 => ⟨S16384x1024, .f32⟩
  | 56 => ⟨S16384x1024, .f32⟩
  | 57 => ⟨S16384x1024, .f32⟩
  | 58 => ⟨S16384x1, .f32⟩
  | 59 => ⟨S1x1024x2816, .f32⟩
  | 60 => ⟨S1024x2816, .f32⟩
  | 61 => ⟨S1x1024x2816, .f32⟩
  | 62 => ⟨S1024x2816, .f32⟩
  | 63 => ⟨S1x2816x1024, .f32⟩
  | 64 => ⟨S2816x1024, .f32⟩
  | 65 => ⟨S16384x2816, .f32⟩
  | 66 => ⟨S16384x2816, .f32⟩
  | 67 => ⟨S16384x2816, .f32⟩
  | 68 => ⟨S_, .f32⟩
  | 69 => ⟨S16384x2816, .f32⟩
  | 70 => ⟨S16384x2816, .f32⟩
  | 71 => ⟨S_, .f32⟩
  | 72 => ⟨S16384x2816, .f32⟩
  | 73 => ⟨S16384x2816, .f32⟩
  | 74 => ⟨S16384x2816, .f32⟩
  | 75 => ⟨S16384x2816, .f32⟩
  | 76 => ⟨S16384x2816, .f32⟩
  | 77 => ⟨S16384x1024, .f32⟩
  | 78 => ⟨S16384x1024, .f32⟩
  | 79 => ⟨S16384x1024, .f32⟩
  | 80 => ⟨S16384x1024, .f32⟩
  | 81 => ⟨S16384x1, .f32⟩
  | 82 => ⟨S1x1024x2816, .f32⟩
  | 83 => ⟨S1024x2816, .f32⟩
  | 84 => ⟨S1x1024x2816, .f32⟩
  | 85 => ⟨S1024x2816, .f32⟩
  | 86 => ⟨S1x2816x1024, .f32⟩
  | 87 => ⟨S2816x1024, .f32⟩
  | 88 => ⟨S16384x2816, .f32⟩
  | 89 => ⟨S16384x2816, .f32⟩
  | 90 => ⟨S16384x2816, .f32⟩
  | 91 => ⟨S_, .f32⟩
  | 92 => ⟨S16384x2816, .f32⟩
  | 93 => ⟨S16384x2816, .f32⟩
  | 94 => ⟨S_, .f32⟩
  | 95 => ⟨S16384x2816, .f32⟩
  | 96 => ⟨S16384x2816, .f32⟩
  | 97 => ⟨S16384x2816, .f32⟩
  | 98 => ⟨S16384x2816, .f32⟩
  | 99 => ⟨S16384x2816, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_v0 : Ref sig .tc := ⟨.hbm, 102, rfl⟩
abbrev main_call3_v1 : Ref sig .tc := ⟨.hbm, 103, rfl⟩
abbrev main_call3_cst : Ref sig .tc := ⟨.hbm, 104, rfl⟩
abbrev main_call3_v2 : Ref sig .tc := ⟨.hbm, 105, rfl⟩
abbrev main_call3_v3 : Ref sig .tc := ⟨.hbm, 106, rfl⟩
abbrev main_call3_cst_0 : Ref sig .tc := ⟨.hbm, 107, rfl⟩
abbrev main_call3_v4 : Ref sig .tc := ⟨.hbm, 108, rfl⟩
abbrev main_call3_v5 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_call4_v0 : Ref sig .tc := ⟨.hbm, 125, rfl⟩
abbrev main_call4_v1 : Ref sig .tc := ⟨.hbm, 126, rfl⟩
abbrev main_call4_cst : Ref sig .tc := ⟨.hbm, 127, rfl⟩
abbrev main_call4_v2 : Ref sig .tc := ⟨.hbm, 128, rfl⟩
abbrev main_call4_v3 : Ref sig .tc := ⟨.hbm, 129, rfl⟩
abbrev main_call4_cst_0 : Ref sig .tc := ⟨.hbm, 130, rfl⟩
abbrev main_call4_v4 : Ref sig .tc := ⟨.hbm, 131, rfl⟩
abbrev main_call4_v5 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call6_v0 : Ref sig .tc := ⟨.hbm, 171, rfl⟩
abbrev main_call6_v1 : Ref sig .tc := ⟨.hbm, 172, rfl⟩
abbrev main_call6_cst : Ref sig .tc := ⟨.hbm, 173, rfl⟩
abbrev main_call6_v2 : Ref sig .tc := ⟨.hbm, 174, rfl⟩
abbrev main_call6_v3 : Ref sig .tc := ⟨.hbm, 175, rfl⟩
abbrev main_call6_cst_0 : Ref sig .tc := ⟨.hbm, 176, rfl⟩
abbrev main_call6_v4 : Ref sig .tc := ⟨.hbm, 177, rfl⟩
abbrev main_call6_v5 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_call7_v0 : Ref sig .tc := ⟨.hbm, 194, rfl⟩
abbrev main_call7_v1 : Ref sig .tc := ⟨.hbm, 195, rfl⟩
abbrev main_call7_cst : Ref sig .tc := ⟨.hbm, 196, rfl⟩
abbrev main_call7_v2 : Ref sig .tc := ⟨.hbm, 197, rfl⟩
abbrev main_call7_v3 : Ref sig .tc := ⟨.hbm, 198, rfl⟩
abbrev main_call7_cst_0 : Ref sig .tc := ⟨.hbm, 199, rfl⟩
abbrev main_call7_v4 : Ref sig .tc := ⟨.hbm, 200, rfl⟩
abbrev main_call7_v5 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_call8_v0 : Ref sig .tc := ⟨.hbm, 217, rfl⟩
abbrev main_call8_v1 : Ref sig .tc := ⟨.hbm, 218, rfl⟩
abbrev main_call8_cst : Ref sig .tc := ⟨.hbm, 219, rfl⟩
abbrev main_call8_v2 : Ref sig .tc := ⟨.hbm, 220, rfl⟩
abbrev main_call8_v3 : Ref sig .tc := ⟨.hbm, 221, rfl⟩
abbrev main_call8_cst_0 : Ref sig .tc := ⟨.hbm, 222, rfl⟩
abbrev main_call8_v4 : Ref sig .tc := ⟨.hbm, 223, rfl⟩
abbrev main_call8_v5 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024 : Shape := ⟨1, ![1024]⟩
abbrev S1024x7456 : Shape := ⟨2, ![1024, 7456]⟩
abbrev S3x512x1024 : Shape := ⟨3, ![3, 512, 1024]⟩
abbrev S1024x1024 : Shape := ⟨2, ![1024, 1024]⟩
abbrev S1x1024 : Shape := ⟨2, ![1, 1024]⟩
abbrev S1024x3072 : Shape := ⟨2, ![1024, 3072]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1024, .f32⟩
  | .hbm, ⟨5, _⟩ => ⟨S1024x7456, .f32⟩
  | .hbm, ⟨6, _⟩ => ⟨S3x512x1024, .f32⟩
  | .hbm, ⟨7, _⟩ => ⟨S1024x1024, .f32⟩
  | .hbm, ⟨8, _⟩ => ⟨S1x1024, .f32⟩
  | .hbm, ⟨9, _⟩ => ⟨S1024x3072, .f32⟩
  | .hbm, ⟨10, _⟩ => ⟨S1024x3072, .bf16⟩
  | .hbm, ⟨11, _⟩ => ⟨S3x512x1024, .bf16⟩
  | .hbm, ⟨12, _⟩ => ⟨S1024x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x1024, .f32⟩
  | .local _ .vmem, ⟨9, _⟩ => ⟨S1024x3072, .bf16⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S16384x1024 : Shape := ⟨2, ![16384, 1024]⟩
abbrev S16384x512 : Shape := ⟨2, ![16384, 512]⟩
abbrev S1024 : Shape := ⟨1, ![1024]⟩
abbrev S1024x7456 : Shape := ⟨2, ![1024, 7456]⟩
abbrev S3x512x1024 : Shape := ⟨3, ![3, 512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7456 : Shape := ⟨2, ![16384, 7456]⟩
abbrev S16384x3072 : Shape := ⟨2, ![16384, 3072]⟩
abbrev S1x16384x512 : Shape := ⟨3, ![1, 16384, 512]⟩
abbrev S3x16384x512 : Shape := ⟨3, ![3, 16384, 512]⟩
abbrev S3x16384x1024 : Shape := ⟨3, ![3, 16384, 1024]⟩
abbrev S16384x3x1024 : Shape := ⟨3, ![16384, 3, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S1024, .f32⟩
  | .hbm, ⟨5, _⟩ => ⟨S1024x7456, .f32⟩
  | .hbm, ⟨6, _⟩ => ⟨S3x512x1024, .f32⟩
  | .hbm, ⟨7, _⟩ => ⟨S1024x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x7456, .f32⟩
  | .hbm, ⟨25, _⟩ => ⟨S16384x3072, .f32⟩
  | .hbm, ⟨26, _⟩ => ⟨S1x16384x512, .f32⟩
  | .hbm, ⟨27, _⟩ => ⟨S1x16384x512, .f32⟩
  | .hbm, ⟨28, _⟩ => ⟨S1x16384x512, .f32⟩
  | .hbm, ⟨29, _⟩ => ⟨S3x16384x512, .f32⟩
  | .hbm, ⟨30, _⟩ => ⟨S3x16384x1024, .f32⟩
  | .hbm, ⟨31, _⟩ => ⟨S16384x3x1024, .f32⟩
  | .hbm, ⟨32, _⟩ => ⟨S16384x3x1024, .f32⟩
  | .hbm, ⟨33, _⟩ => ⟨S16384x3x1024, .f32⟩
  | .hbm, ⟨34, _⟩ => ⟨S_, .f32⟩
  | .hbm, ⟨35, _⟩ => ⟨S16384x3x1024, .f32⟩
  | .hbm, ⟨36, _⟩ => ⟨S16384x3x1024, .f32⟩
  | .hbm, ⟨37, _⟩ => ⟨S_, .f32⟩
  | .hbm, ⟨38, _⟩ => ⟨S16384x3x1024, .f32⟩
  | .hbm, ⟨39, _⟩ => ⟨S16384x3x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Dense.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S1024x256 : Shape := ⟨2, ![1024, 256]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S256x1024, .bf16⟩
  | .local _ .vmem, ⟨8, _⟩ => ⟨S256x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S_, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Ple.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S16384x1024 : Shape := ⟨2, ![16384, 1024]⟩
abbrev S16384x256 : Shape := ⟨2, ![16384, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Gmlp.lean ====
abbrev S16384x1024 : Shape := ⟨2, ![16384, 1024]⟩
abbrev S1024 : Shape := ⟨1, ![1024]⟩
abbrev S1024x7456 : Shape := ⟨2, ![1024, 7456]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S1x128x128 : Shape := ⟨3, ![1, 128, 128]⟩
abbrev S1x1 : Shape := ⟨2, ![1, 1]⟩
abbrev S1x1x1x1x1 : Shape := ⟨5, ![1, 1, 1, 1, 1]⟩
abbrev S4x1x128x1x128 : Shape := ⟨5, ![4, 1, 128, 1, 128]⟩
abbrev S128x4 : Shape := ⟨2, ![128, 4]⟩
abbrev S128x4x128 : Shape := ⟨3, ![128, 4, 128]⟩
abbrev S128x512 : Shape := ⟨2, ![128, 512]⟩
abbrev S1x128x1x512 : Shape := ⟨4, ![1, 128, 1, 512]⟩
abbrev S1x1024 : Shape := ⟨2, ![1, 1024]⟩
abbrev S1024x1024 : Shape := ⟨2, ![1024, 1024]⟩
abbrev S1x512 : Shape := ⟨2, ![1, 512]⟩
abbrev S16384x512 : Shape := ⟨2, ![16384, 512]⟩
abbrev S512x1024 : Shape := ⟨2, ![512, 1024]⟩
abbrev S512x512 : Shape := ⟨2, ![512, 512]⟩
abbrev S512x1 : Shape := ⟨2, ![512, 1]⟩

abbrev nBuf : Space → Nat
  | .hbm => 45
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7456, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S4x128x128, .f32⟩
  | .hbm, ⟨19, _⟩ => ⟨S4x128x128, .f32⟩
  | .hbm, ⟨20, _⟩ => ⟨S1x1, .i32⟩
  | .hbm, ⟨21, _⟩ => ⟨S1x1, .i32⟩
  | .hbm, ⟨22, _⟩ => ⟨S_, .i32⟩
  | .hbm, ⟨23, _⟩ => ⟨S1x1, .i32⟩
  | .hbm, ⟨24, _⟩ => ⟨S1x1, .i32⟩
  | .hbm, ⟨25, _⟩ => ⟨S1x1, .i1⟩
  | .hbm, ⟨26, _⟩ => ⟨S1x1, .f32⟩
  | .hbm, ⟨27, _⟩ => ⟨S1x1x1x1x1, .f32⟩
  | .hbm, ⟨28, _⟩ => ⟨S4x1x128x1x128, .f32⟩
  | .hbm, ⟨29, _⟩ => ⟨S4x1x128x1x128, .f32⟩
  | .hbm, ⟨30, _⟩ => ⟨S4x1x128x1x128, .f32⟩
  | .hbm, ⟨31, _⟩ => ⟨S4x128x128, .f32⟩
  | .hbm, ⟨32, _⟩ => ⟨S128x4, .f32⟩
  | .hbm, ⟨33, _⟩ => ⟨S128x4x128, .f32⟩
  | .hbm, ⟨34, _⟩ => ⟨S128x512, .f32⟩
  | .hbm, ⟨35, _⟩ => ⟨S1x128x1x512, .f32⟩
  | .hbm, ⟨36, _⟩ => ⟨S1x128x1x512, .f32⟩
  | .hbm, ⟨37, _⟩ => ⟨S128x512, .f32⟩
  | .hbm, ⟨38, _⟩ => ⟨S4x128x128, .bf16⟩
  | .hbm, ⟨39, _⟩ => ⟨S1x1024, .f32⟩
  | .hbm, ⟨40, _⟩ => ⟨S1024x1024, .f32⟩
  | .hbm, ⟨41, _⟩ => ⟨S1024x1024, .bf16⟩
  | .hbm, ⟨42, _⟩ => ⟨S1x512, .f32⟩
  | .hbm, ⟨43, _⟩ => ⟨S16384x512, .f32⟩
  | .hbm, ⟨44, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1x512, .f32⟩
  | .local _ .vmem, ⟨5, _⟩ => ⟨S4x128x128, .bf16⟩
  | .local _ .vmem, ⟨6, _⟩ => ⟨S128x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27_0 : Ref sig .tc := ⟨.hbm, 43, rfl⟩
abbrev main_v27_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpRefIdeal.lean ====
abbrev S16384x1024 : Shape := ⟨2, ![16384, 1024]⟩
abbrev S1024 : Shape := ⟨1, ![1024]⟩
abbrev S1024x7456 : Shape := ⟨2, ![1024, 7456]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7456 : Shape := ⟨2, ![16384, 7456]⟩
abbrev S16384x512 : Shape := ⟨2, ![16384, 512]⟩
abbrev S1x512 : Shape := ⟨2, ![1, 512]⟩
abbrev S2x8192x512 : Shape := ⟨3, ![2, 8192, 512]⟩
abbrev S2x64x128x4x128 : Shape := ⟨5, ![2, 64, 128, 4, 128]⟩
abbrev S128x128 : Shape := ⟨2, ![128, 128]⟩
abbrev S4x2x64x128x128 : Shape := ⟨5, ![4, 2, 64, 128, 128]⟩
abbrev S128x4 : Shape := ⟨2, ![128, 4]⟩
abbrev S1x1x128x4x1 : Shape := ⟨5, ![1, 1, 128, 4, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7456, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x7456, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x512, .f32⟩
  | .hbm, ⟨55, _⟩ => ⟨S16384x512, .f32⟩
  | .hbm, ⟨56, _⟩ => ⟨S1x512, .f32⟩
  | .hbm, ⟨57, _⟩ => ⟨S16384x512, .f32⟩
  | .hbm, ⟨58, _⟩ => ⟨S16384x512, .f32⟩
  | .hbm, ⟨59, _⟩ => ⟨S2x8192x512, .f32⟩
  | .hbm, ⟨60, _⟩ => ⟨S2x8192x512, .f32⟩
  | .hbm, ⟨61, _⟩ => ⟨S2x64x128x4x128, .f32⟩
  | .hbm, ⟨62, _⟩ => ⟨S_, .i1⟩
  | .hbm, ⟨63, _⟩ => ⟨S128x128, .i1⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .i1⟩
  | .hbm, ⟨71, _⟩ => ⟨S128x128, .i1⟩
  | .hbm, ⟨72, _⟩ => ⟨S128x128, .i1⟩
  | .hbm, ⟨73, _⟩ => ⟨S_, .i32⟩
  | .hbm, ⟨74, _⟩ => ⟨S_, .f32⟩
  | .hbm, ⟨75, _⟩ => ⟨S4x128x128, .i1⟩
  | .hbm, ⟨76, _⟩ => ⟨S4x128x128, .f32⟩
  | .hbm, ⟨77, _⟩ => ⟨S4x128x128, .f32⟩
  | .hbm, ⟨78, _⟩ => ⟨S4x2x64x128x128, .f32⟩
  | .hbm, ⟨79, _⟩ => ⟨S2x64x128x4x128, .f32⟩
  | .hbm, ⟨80, _⟩ => ⟨S128x4, .f32⟩
  | .hbm, ⟨81, _⟩ => ⟨S1x1x128x4x1, .f32⟩
  | .hbm, ⟨82, _⟩ => ⟨S2x64x128x4x128, .f32⟩
  | .hbm, ⟨83, _⟩ => ⟨S2x64x128x4x128, .f32⟩
  | .hbm, ⟨84, _⟩ => ⟨S2x8192x512, .f32⟩
  | .hbm, ⟨85, _⟩ => ⟨S2x8192x512, .f32⟩
  | .hbm, ⟨86, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_v46 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v47 : Ref sig .tc := ⟨.hbm, 72, rfl⟩
abbrev main_c_9 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]
-- ==== Steps.lean ====
abbrev S512x8x64 : Shape := ⟨3, ![512, 8, 64]⟩
abbrev S8x64 : Shape := ⟨2, ![8, 64]⟩
abbrev S512 : Shape := ⟨1, ![512]⟩
abbrev S128x8x64x64 : Shape := ⟨4, ![128, 8, 64, 64]⟩
abbrev S8x8x64 : Shape := ⟨3, ![8, 8, 64]⟩
abbrev S2x8x64x64 : Shape := ⟨4, ![2, 8, 64, 64]⟩
abbrev S64x64 : Shape := ⟨2, ![64, 64]⟩
abbrev S1x64x64 : Shape := ⟨3, ![1, 64, 64]⟩
abbrev S1x8x64x64 : Shape := ⟨4, ![1, 8, 64, 64]⟩
abbrev S8x64x64 : Shape := ⟨3, ![8, 64, 64]⟩
abbrev S1x8x64 : Shape := ⟨3, ![1, 8, 64]⟩
abbrev S1x64 : Shape := ⟨2, ![1, 64]⟩
abbrev S8x64x1 : Shape := ⟨3, ![8, 64, 1]⟩
abbrev S8 : Shape := ⟨1, ![8]⟩
abbrev S8x1 : Shape := ⟨2, ![8, 1]⟩

abbrev nBuf : Space → Nat
  | .hbm => 15
  | .vmem => 23
  | .smem => 0
  | _ => 0

abbrev bufTy : (tb : Table) → Fin (tcTables nBuf tb) → BufTy
  | .hbm, ⟨0, _⟩ => ⟨S512x8x64, .f32⟩
  | .hbm, ⟨1, _⟩ => ⟨S512x8x64, .f32⟩
  | .hbm, ⟨2, _⟩ => ⟨S512x8x64, .f32⟩
  | .hbm, ⟨3, _⟩ => ⟨S512x8x64, .f32⟩
  | .hbm, ⟨4, _⟩ => ⟨S512x8x64, .f32⟩
  | .hbm, ⟨5, _⟩ => ⟨S512x8x64, .f32⟩
  | .hbm, ⟨6, _⟩ => ⟨S512x8x64, .f32⟩
  | .hbm, ⟨7, _⟩ => ⟨S8x64, .f32⟩
  | .hbm, ⟨8, _⟩ => ⟨S512, .f32⟩
  | .hbm, ⟨9, _⟩ => ⟨S512, .f32⟩
  | .hbm, ⟨10, _⟩ => ⟨S128x8x64x64, .f32⟩
  | .hbm, ⟨11, _⟩ => ⟨S8x64, .f32⟩
  | .hbm, ⟨12, _⟩ => ⟨S8x64, .f32⟩
  | .hbm, ⟨13, _⟩ => ⟨S512x8x64, .f32⟩
  | .hbm, ⟨14, _⟩ => ⟨S128x8x64x64, .f32⟩
  | .local _ .vmem, ⟨0, _⟩ => ⟨S8x8x64, .f32⟩
  | .local _ .vmem, ⟨1, _⟩ => ⟨S8x8x64, .f32⟩
  | .local _ .vmem, ⟨2, _⟩ => ⟨S8x8x64, .f32⟩
  | .local _ .vmem, ⟨3, _⟩ => ⟨S8x8x64, .f32⟩
  | .local _ .vmem, ⟨4, _⟩ => ⟨S8x8x64, .f32⟩
  | .local _ .vmem, ⟨5, _⟩ => ⟨S8x8x64, .f32⟩
  | .local _ .vmem, ⟨6, _⟩ => ⟨S8x8x64, .f32⟩
  | .local _ .vmem, ⟨7, _⟩ => ⟨S8x8x64, .f32⟩
  | .local _ .vmem, ⟨8, _⟩ => ⟨S8x8x64, .f32⟩
  | .local _ .vmem, ⟨9, _⟩ => ⟨S8x8x64, .f32⟩
  | .local _ .vmem, ⟨10, _⟩ => ⟨S8x8x64, .f32⟩
  | .local _ .vmem, ⟨11, _⟩ => ⟨S8x8x64, .f32⟩
  | .local _ .vmem, ⟨12, _⟩ => ⟨S8x8x64, .f32⟩
  | .local _ .vmem, ⟨13, _⟩ => ⟨S8x8x64, .f32⟩
  | .local _ .vmem, ⟨14, _⟩ => ⟨S8x64, .f32⟩
  | .local _ .vmem, ⟨15, _⟩ => ⟨S8x64, .f32⟩
  | .local _ .vmem, ⟨16, _⟩ => ⟨S8x64, .f32⟩
  | .local _ .vmem, ⟨17, _⟩ => ⟨S2x8x64x64, .f32⟩
  | .local _ .vmem, ⟨18, _⟩ => ⟨S2x8x64x64, .f32⟩
  | .local _ .vmem, ⟨19, _⟩ => ⟨S8x8x64, .f32⟩
  | .local _ .vmem, ⟨20, _⟩ => ⟨S8x8x64, .f32⟩
  | .local _ .vmem, ⟨21, _⟩ => ⟨S2x8x64x64, .f32⟩
  | .local _ .vmem, ⟨22, _⟩ => ⟨S2x8x64x64, .f32⟩
  | _, _ => ⟨S512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x8x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x8x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x8x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== StepsRefIdeal.lean ====
abbrev S512x8x64 : Shape := ⟨3, ![512, 8, 64]⟩
abbrev S8x64 : Shape := ⟨2, ![8, 64]⟩
abbrev S512 : Shape := ⟨1, ![512]⟩
abbrev S128x8x64x64 : Shape := ⟨4, ![128, 8, 64, 64]⟩
abbrev S128x4x8x64 : Shape := ⟨4, ![128, 4, 8, 64]⟩
abbrev S4x128x8x64 : Shape := ⟨4, ![4, 128, 8, 64]⟩
abbrev S1x128x8x64 : Shape := ⟨4, ![1, 128, 8, 64]⟩
abbrev S128x8x64 : Shape := ⟨3, ![128, 8, 64]⟩
abbrev S128x8x1x64 : Shape := ⟨4, ![128, 8, 1, 64]⟩
abbrev S128x8x64x1 : Shape := ⟨4, ![128, 8, 64, 1]⟩
abbrev S_ : Shape := ⟨0, ![]⟩
abbrev S128x4x8 : Shape := ⟨3, ![128, 4, 8]⟩
abbrev S128x4x8x1 : Shape := ⟨4, ![128, 4, 8, 1]⟩
abbrev S128x4x512 : Shape := ⟨3, ![128, 4, 512]⟩
abbrev S1x1x512 : Shape := ⟨3, ![1, 1, 512]⟩
abbrev S1x1x8x64 : Shape := ⟨4, ![1, 1, 8, 64]⟩

abbrev nBuf : Space → Nat
  | .hbm => 198
  | .vmem => 0
  | .smem => 0
  | _ => 0

abbrev hbmTy0_0 (i : Nat) : BufTy := match i % 128 with
  | 0 => ⟨S512x8x64, .f32⟩
  | 1 => ⟨S512x8x64, .f32⟩
  | 2 => ⟨S512x8x64, .f32⟩
  | 3 => ⟨S512x8x64, .f32⟩
  | 4 => ⟨S512x8x64, .f32⟩
  | 5 => ⟨S512x8x64, .f32⟩
  | 6 => ⟨S512x8x64, .f32⟩
  | 7 => ⟨S8x64, .f32⟩
  | 8 => ⟨S512, .f32⟩
  | 9 => ⟨S512, .f32⟩
  | 10 => ⟨S128x8x64x64, .f32⟩
  | 11 => ⟨S128x4x8x64, .f32⟩
  | 12 => ⟨S128x4x8x64, .f32⟩
  | 13 => ⟨S128x4x8x64, .f32⟩
  | 14 => ⟨S128x4x8x64, .f32⟩
  | 15 => ⟨S128x4x8x64, .f32⟩
  | 16 => ⟨S128x4x8x64, .f32⟩
  | 17 => ⟨S128x4x8x64, .f32⟩
  | 18 => ⟨S4x128x8x64, .f32⟩
  | 19 => ⟨S4x128x8x64, .f32⟩
  | 20 => ⟨S4x128x8x64, .f32⟩
  | 21 => ⟨S4x128x8x64, .f32⟩
  | 22 => ⟨S4x128x8x64, .f32⟩
  | 23 => ⟨S4x128x8x64, .f32⟩
  | 24 => ⟨S1x128x8x64, .f32⟩
  | 25 => ⟨S128x8x64, .f32⟩
  | 26 => ⟨S1x128x8x64, .f32⟩
  | 27 => ⟨S128x8x64, .f32⟩
  | 28 => ⟨S1x128x8x64, .f32⟩
  | 29 => ⟨S128x8x64, .f32⟩
  | 30 => ⟨S1x128x8x64, .f32⟩
  | 31 => ⟨S128x8x64, .f32⟩
  | 32 => ⟨S1x128x8x64, .f32⟩
  | 33 => ⟨S128x8x64, .f32⟩
  | 34 => ⟨S1x128x8x64, .f32⟩
  | 35 => ⟨S128x8x64, .f32⟩
  | 36 => ⟨S128x8x64, .f32⟩
  | 37 => ⟨S128x8x64, .f32⟩
  | 38 => ⟨S128x8x1x64, .f32⟩
  | 39 => ⟨S128x8x64x64, .f32⟩
  | 40 => ⟨S128x8x64x64, .f32⟩
  | 41 => ⟨S128x8x64x1, .f32⟩
  | 42 => ⟨S128x8x64, .f32⟩
  | 43 => ⟨S128x8x1x64, .f32⟩
  | 44 => ⟨S128x8x64x64, .f32⟩
  | 45 => ⟨S128x8x64x64, .f32⟩
  | 46 => ⟨S128x8x64x64, .f32⟩
  | 47 => ⟨S128x8x64x64, .f32⟩
  | 48 => ⟨S128x8x64x1, .f32⟩
  | 49 => ⟨S128x8x1x64, .f32⟩
  | 50 => ⟨S128x8x64x64, .f32⟩
  | 51 => ⟨S128x8x64x64, .f32⟩
  | 52 => ⟨S128x8x64x64, .f32⟩
  | 53 => ⟨S128x8x64x64, .f32⟩
  | 54 => ⟨S128x8x64, .f32⟩
  | 55 => ⟨S1x128x8x64, .f32⟩
  | 56 => ⟨S128x8x64, .f32⟩
  | 57 => ⟨S1x128x8x64, .f32⟩
  | 58 => ⟨S128x8x64, .f32⟩
  | 59 => ⟨S1x128x8x64, .f32⟩
  | 60 => ⟨S128x8x64, .f32⟩
  | 61 => ⟨S1x128x8x64, .f32⟩
  | 62 => ⟨S128x8x64, .f32⟩
  | 63 => ⟨S1x128x8x64, .f32⟩
  | 64 => ⟨S128x8x64, .f32⟩
  | 65 => ⟨S1x128x8x64, .f32⟩
  | 66 => ⟨S128x8x64, .f32⟩
  | 67 => ⟨S128x8x64, .f32⟩
  | 68 => ⟨S128x8x64, .f32⟩
  | 69 => ⟨S128x8x1x64, .f32⟩
  | 70 => ⟨S128x8x64x64, .f32⟩
  | 71 => ⟨S128x8x64x64, .f32⟩
  | 72 => ⟨S128x8x64x1, .f32⟩
  | 73 => ⟨S128x8x64, .f32⟩
  | 74 => ⟨S128x8x1x64, .f32⟩
  | 75 => ⟨S128x8x64x64, .f32⟩
  | 76 => ⟨S128x8x64x64, .f32⟩
  | 77 => ⟨S128x8x64x64, .f32⟩
  | 78 => ⟨S128x8x64x64, .f32⟩
  | 79 => ⟨S128x8x64x1, .f32⟩
  | 80 => ⟨S128x8x1x64, .f32⟩
  | 81 => ⟨S128x8x64x64, .f32⟩
  | 82 => ⟨S128x8x64x64, .f32⟩
  | 83 => ⟨S128x8x64x64, .f32⟩
  | 84 => ⟨S128x8x64x64, .f32⟩
  | 85 => ⟨S128x8x64, .f32⟩
  | 86 => ⟨S1x128x8x64, .f32⟩
  | 87 => ⟨S128x8x64, .f32⟩
  | 88 => ⟨S1x128x8x64, .f32⟩
  | 89 => ⟨S128x8x64, .f32⟩
  | 90 => ⟨S1x128x8x64, .f32⟩
  | 91 => ⟨S128x8x64, .f32⟩
  | 92 => ⟨S1x128x8x64, .f32⟩
  | 93 => ⟨S128x8x64, .f32⟩
  | 94 => ⟨S1x128x8x64, .f32⟩
  | 95 => ⟨S128x8x64, .f32⟩
  | 96 => ⟨S1x128x8x64, .f32⟩
  | 97 => ⟨S128x8x64, .f32⟩
  | 98 => ⟨S128x8x64, .f32⟩
  | 99 => ⟨S128x8x64, .f32⟩
  | 100 => ⟨S128x8x1x64, .f32⟩
  | 101 => ⟨S128x8x64x64, .f32⟩
  | 102 => ⟨S128x8x64x64, .f32⟩
  | 103 => ⟨S128x8x64x1, .f32⟩
  | 104 => ⟨S128x8x64, .f32⟩
  | 105 => ⟨S128x8x1x64, .f32⟩
  | 106 => ⟨S128x8x64x64, .f32⟩
  | 107 => ⟨S128x8x64x64, .f32⟩
  | 108 => ⟨S128x8x64x64, .f32⟩
  | 109 => ⟨S128x8x64x64, .f32⟩
  | 110 => ⟨S128x8x64x1, .f32⟩
  | 111 => ⟨S128x8x1x64, .f32⟩
  | 112 => ⟨S128x8x64x64, .f32⟩
  | 113 => ⟨S128x8x64x64, .f32⟩
  | 114 => ⟨S128x8x64x64, .f32⟩
  | 115 => ⟨S128x8x64x64, .f32⟩
  | 116 => ⟨S128x8x64, .f32⟩
  | 117 => ⟨S1x128x8x64, .f32⟩
  | 118 => ⟨S128x8x64, .f32⟩
  | 119 => ⟨S1x128x8x64, .f32⟩
  | 120 => ⟨S128x8x64, .f32⟩
  | 121 => ⟨S1x128x8x64, .f32⟩
  | 122 => ⟨S128x8x64, .f32⟩
  | 123 => ⟨S1x128x8x64, .f32⟩
  | 124 => ⟨S128x8x64, .f32⟩
  | 125 => ⟨S1x128x8x64, .f32⟩
  | 126 => ⟨S128x8x64, .f32⟩
  | 127 => ⟨S1x128x8x64, .f32⟩
  | _ => ⟨S512x8x64, .f32⟩

abbrev hbmTy0_1 (i : Nat) : BufTy := match i % 128 with
  | 0 => ⟨S128x8x64, .f32⟩
  | 1 => ⟨S128x8x64, .f32⟩
  | 2 => ⟨S128x8x64, .f32⟩
  | 3 => ⟨S128x8x1x64, .f32⟩
  | 4 => ⟨S128x8x64x64, .f32⟩
  | 5 => ⟨S128x8x64x64, .f32⟩
  | 6 => ⟨S128x8x64x1, .f32⟩
  | 7 => ⟨S128x8x64, .f32⟩
  | 8 => ⟨S128x8x1x64, .f32⟩
  | 9 => ⟨S128x8x64x64, .f32⟩
  | 10 => ⟨S128x8x64x64, .f32⟩
  | 11 => ⟨S128x8x64x64, .f32⟩
  | 12 => ⟨S128x8x64x64, .f32⟩
  | 13 => ⟨S128x8x64x1, .f32⟩
  | 14 => ⟨S128x8x1x64, .f32⟩
  | 15 => ⟨S128x8x64x64, .f32⟩
  | 16 => ⟨S128x8x64x64, .f32⟩
  | 17 => ⟨S128x8x64x64, .f32⟩
  | 18 => ⟨S128x8x64x64, .f32⟩
  | 19 => ⟨S128x8x64, .f32⟩
  | 20 => ⟨S1x128x8x64, .f32⟩
  | 21 => ⟨S1x128x8x64, .f32⟩
  | 22 => ⟨S1x128x8x64, .f32⟩
  | 23 => ⟨S1x128x8x64, .f32⟩
  | 24 => ⟨S4x128x8x64, .f32⟩
  | 25 => ⟨S128x4x8x64, .f32⟩
  | 26 => ⟨S_, .f32⟩
  | 27 => ⟨S128x4x8, .f32⟩
  | 28 => ⟨S128x4x8x1, .f32⟩
  | 29 => ⟨S_, .f32⟩
  | 30 => ⟨S128x4x8x1, .f32⟩
  | 31 => ⟨S128x4x8x1, .f32⟩
  | 32 => ⟨S128x4x8x64, .f32⟩
  | 33 => ⟨S128x4x8x64, .f32⟩
  | 34 => ⟨S128x4x8x64, .f32⟩
  | 35 => ⟨S_, .f32⟩
  | 36 => ⟨S128x4x8, .f32⟩
  | 37 => ⟨S128x4x8x1, .f32⟩
  | 38 => ⟨S_, .f32⟩
  | 39 => ⟨S128x4x8x1, .f32⟩
  | 40 => ⟨S128x4x8x1, .f32⟩
  | 41 => ⟨S128x4x8x64, .f32⟩
  | 42 => ⟨S128x4x8x64, .f32⟩
  | 43 => ⟨S_, .f32⟩
  | 44 => ⟨S128x4x8x1, .f32⟩
  | 45 => ⟨S128x4x8x1, .f32⟩
  | 46 => ⟨S128x4x8x1, .f32⟩
  | 47 => ⟨S128x4x8x64, .f32⟩
  | 48 => ⟨S128x4x8x64, .f32⟩
  | 49 => ⟨S128x4x512, .f32⟩
  | 50 => ⟨S1x1x512, .f32⟩
  | 51 => ⟨S128x4x512, .f32⟩
  | 52 => ⟨S128x4x512, .f32⟩
  | 53 => ⟨S1x1x512, .f32⟩
  | 54 => ⟨S128x4x512, .f32⟩
  | 55 => ⟨S128x4x512, .f32⟩
  | 56 => ⟨S128x4x8x64, .f32⟩
  | 57 => ⟨S1x1x8x64, .f32⟩
  | 58 => ⟨S128x4x8x64, .f32⟩
  | 59 => ⟨S128x4x8x64, .f32⟩
  | 60 => ⟨S_, .f32⟩
  | 61 => ⟨S128x4x8, .f32⟩
  | 62 => ⟨S128x4x8x1, .f32⟩
  | 63 => ⟨S128x4x8x64, .f32⟩
  | 64 => ⟨S128x4x8x64, .f32⟩
  | 65 => ⟨S128x4x512, .f32⟩
  | 66 => ⟨S128x4x512, .f32⟩
  | 67 => ⟨S128x4x512, .f32⟩
  | 68 => ⟨S128x4x512, .f32⟩
  | 69 => ⟨S512x8x64, .f32⟩
  | _ => ⟨S512x8x64, .f32⟩

abbrev hbmTy (i : Nat) : BufTy := match i / 128 with
  | 0 => hbmTy0_0 i
  | 1 => hbmTy0_1 i
  | _ => ⟨S512x8x64, .f32⟩

abbrev bufTy : (tb : Table) → Fin (tcTables nBuf tb) → BufTy
  | .hbm, ⟨i, _⟩ => hbmTy i
  | _, _ => ⟨S512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_cst : Ref sig .tc := ⟨.hbm, 154, rfl⟩
abbrev main_v143 : Ref sig .tc := ⟨.hbm, 155, rfl⟩
abbrev main_v144 : Ref sig .tc := ⟨.hbm, 156, rfl⟩
abbrev main_cst_0 : Ref sig .tc := ⟨.hbm, 157, rfl⟩
abbrev main_v145 : Ref sig .tc := ⟨.hbm, 158, rfl⟩
abbrev main_v146 : Ref sig .tc := ⟨.hbm, 159, rfl⟩
abbrev main_v147 : Ref sig .tc := ⟨.hbm, 160, rfl⟩
abbrev main_v148 : Ref sig .tc := ⟨.hbm, 161, rfl⟩
abbrev main_v149 : Ref sig .tc := ⟨.hbm, 162, rfl⟩
abbrev main_cst_1 : Ref sig .tc := ⟨.hbm, 163, rfl⟩
abbrev main_v150 : Ref sig .tc := ⟨.hbm, 164, rfl⟩
abbrev main_v151 : Ref sig .tc := ⟨.hbm, 165, rfl⟩
abbrev main_cst_2 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_cst_3 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_cst_4 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩

abbrev nD : Nat := 1
abbrev τ : Topo := Topo.v7x

variable {F : FTy → Type} [FloatOps F]
-- ==== Attn.lean ====
abbrev S128x4x8x64 : Shape := ⟨4, ![128, 4, 8, 64]⟩
abbrev S2x128x2048x8x64 : Shape := ⟨5, ![2, 128, 2048, 8, 64]⟩
abbrev S4x2048 : Shape := ⟨2, ![4, 2048]⟩
abbrev S4x4 : Shape := ⟨2, ![4, 4]⟩
abbrev S128x4x8x64x1 : Shape := ⟨5, ![128, 4, 8, 64, 1]⟩
abbrev S2x128x8x64x2048 : Shape := ⟨5, ![2, 128, 8, 64, 2048]⟩
abbrev S128x8x64x4 : Shape := ⟨4, ![128, 8, 64, 4]⟩
abbrev S1x4x8x64x1 : Shape := ⟨5, ![1, 4, 8, 64, 1]⟩
abbrev S1x1x8x64x2048 : Shape := ⟨5, ![1, 1, 8, 64, 2048]⟩
abbrev S1x8x64x4 : Shape := ⟨4, ![1, 8, 64, 4]⟩
abbrev S1x1x8x64x1 : Shape := ⟨5, ![1, 1, 8, 64, 1]⟩
abbrev S8x64x1 : Shape := ⟨3, ![8, 64, 1]⟩
abbrev S1x2048 : Shape := ⟨2, ![1, 2048]⟩
abbrev S8x64x2048 : Shape := ⟨3, ![8, 64, 2048]⟩
abbrev S8x2048 : Shape := ⟨2, ![8, 2048]⟩
abbrev S1x4 : Shape := ⟨2, ![1, 4]⟩
abbrev S8x64x4 : Shape := ⟨3, ![8, 64, 4]⟩
abbrev S8x4 : Shape := ⟨2, ![8, 4]⟩
abbrev S8 : Shape := ⟨1, ![8]⟩
abbrev S8x1 : Shape := ⟨2, ![8, 1]⟩
abbrev S1x1x1x64x2048 : Shape := ⟨5, ![1, 1, 1, 64, 2048]⟩
abbrev S64x2048 : Shape := ⟨2, ![64, 2048]⟩
abbrev S64 : Shape := ⟨1, ![64]⟩
abbrev S64x1 : Shape := ⟨2, ![64, 1]⟩
abbrev S1x1x64x4 : Shape := ⟨4, ![1, 1, 64, 4]⟩
abbrev S64x4 : Shape := ⟨2, ![64, 4]⟩
abbrev S1x1x1x64x1 : Shape := ⟨5, ![1, 1, 1, 64, 1]⟩

abbrev nBuf : Space → Nat
  | .hbm => 13
  | .vmem => 14
  | .smem => 0
  | _ => 0

abbrev bufTy : (tb : Table) → Fin (tcTables nBuf tb) → BufTy
  | .hbm, ⟨0, _⟩ => ⟨S128x4x8x64, .f32⟩
  | .hbm, ⟨1, _⟩ => ⟨S128x4x8x64, .f32⟩
  | .hbm, ⟨2, _⟩ => ⟨S128x4x8x64, .f32⟩
  | .hbm, ⟨3, _⟩ => ⟨S2x128x2048x8x64, .f32⟩
  | .hbm, ⟨4, _⟩ => ⟨S2x128x2048x8x64, .f32⟩
  | .hbm, ⟨5, _⟩ => ⟨S4x2048, .f32⟩
  | .hbm, ⟨6, _⟩ => ⟨S4x4, .f32⟩
  | .hbm, ⟨7, _⟩ => ⟨S128x4x8x64x1, .f32⟩
  | .hbm, ⟨8, _⟩ => ⟨S2x128x8x64x2048, .f32⟩
  | .hbm, ⟨9, _⟩ => ⟨S2x128x8x64x2048, .f32⟩
  | .hbm, ⟨10, _⟩ => ⟨S128x8x64x4, .f32⟩
  | .hbm, ⟨11, _⟩ => ⟨S128x8x64x4, .f32⟩
  | .hbm, ⟨12, _⟩ => ⟨S128x4x8x64x1, .f32⟩
  | .local _ .vmem, ⟨0, _⟩ => ⟨S1x4x8x64x1, .f32⟩
  | .local _ .vmem, ⟨1, _⟩ => ⟨S1x4x8x64x1, .f32⟩
  | .local _ .vmem, ⟨2, _⟩ => ⟨S1x1x8x64x2048, .f32⟩
  | .local _ .vmem, ⟨3, _⟩ => ⟨S1x1x8x64x2048, .f32⟩
  | .local _ .vmem, ⟨4, _⟩ => ⟨S1x1x8x64x2048, .f32⟩
  | .local _ .vmem, ⟨5, _⟩ => ⟨S1x1x8x64x2048, .f32⟩
  | .local _ .vmem, ⟨6, _⟩ => ⟨S1x8x64x4, .f32⟩
  | .local _ .vmem, ⟨7, _⟩ => ⟨S1x8x64x4, .f32⟩
  | .local _ .vmem, ⟨8, _⟩ => ⟨S1x8x64x4, .f32⟩
  | .local _ .vmem, ⟨9, _⟩ => ⟨S1x8x64x4, .f32⟩
  | .local _ .vmem, ⟨10, _⟩ => ⟨S4x2048, .f32⟩
  | .local _ .vmem, ⟨11, _⟩ => ⟨S4x4, .f32⟩
  | .local _ .vmem, ⟨12, _⟩ => ⟨S1x4x8x64x1, .f32⟩
  | .local _ .vmem, ⟨13, _⟩ => ⟨S1x4x8x64x1, .f32⟩
  | _, _ => ⟨S128x4x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_2 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x4x8x64x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4x8x64x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnRefIdeal.lean ====
abbrev S128x4x8x64 : Shape := ⟨4, ![128, 4, 8, 64]⟩
abbrev S2x128x2048x8x64 : Shape := ⟨5, ![2, 128, 2048, 8, 64]⟩
abbrev S1x128x2048x8x64 : Shape := ⟨5, ![1, 128, 2048, 8, 64]⟩
abbrev S128x2048x8x64 : Shape := ⟨4, ![128, 2048, 8, 64]⟩
abbrev S128x2052x8x64 : Shape := ⟨4, ![128, 2052, 8, 64]⟩
abbrev S4 : Shape := ⟨1, ![4]⟩
abbrev S_ : Shape := ⟨0, ![]⟩
abbrev S129 : Shape := ⟨1, ![129]⟩
abbrev S4x1 : Shape := ⟨2, ![4, 1]⟩
abbrev S1x129 : Shape := ⟨2, ![1, 129]⟩
abbrev S4x129 : Shape := ⟨2, ![4, 129]⟩
abbrev S4x129x1 : Shape := ⟨3, ![4, 129, 1]⟩
abbrev S128x4x129x8x64 : Shape := ⟨5, ![128, 4, 129, 8, 64]⟩
abbrev S128x8x4x129 : Shape := ⟨4, ![128, 8, 4, 129]⟩
abbrev S1x1x4x129 : Shape := ⟨4, ![1, 1, 4, 129]⟩
abbrev S128x8x4 : Shape := ⟨3, ![128, 8, 4]⟩
abbrev S128x8x4x1 : Shape := ⟨4, ![128, 8, 4, 1]⟩
abbrev S1x128x8x4 : Shape := ⟨4, ![1, 128, 8, 4]⟩
abbrev S3x128x8x4 : Shape := ⟨4, ![3, 128, 8, 4]⟩
abbrev S1x128x4x8x64 : Shape := ⟨5, ![1, 128, 4, 8, 64]⟩
abbrev S3x128x4x8x64 : Shape := ⟨5, ![3, 128, 4, 8, 64]⟩
abbrev S128x4x8x64x1 : Shape := ⟨5, ![128, 4, 8, 64, 1]⟩

abbrev nBuf : Space → Nat
  | .hbm => 213
  | .vmem => 0
  | .smem => 0
  | _ => 0

abbrev hbmTy0_0 (i : Nat) : BufTy := match i % 128 with
  | 0 => ⟨S128x4x8x64, .f32⟩
  | 1 => ⟨S128x4x8x64, .f32⟩
  | 2 => ⟨S128x4x8x64, .f32⟩
  | 3 => ⟨S2x128x2048x8x64, .f32⟩
  | 4 => ⟨S2x128x2048x8x64, .f32⟩
  | 5 => ⟨S1x128x2048x8x64, .f32⟩
  | 6 => ⟨S128x2048x8x64, .f32⟩
  | 7 => ⟨S1x128x2048x8x64, .f32⟩
  | 8 => ⟨S128x2048x8x64, .f32⟩
  | 9 => ⟨S128x2052x8x64, .f32⟩
  | 10 => ⟨S128x2052x8x64, .f32⟩
  | 11 => ⟨S4, .i32⟩
  | 12 => ⟨S_, .i32⟩
  | 13 => ⟨S4, .i32⟩
  | 14 => ⟨S4, .i32⟩
  | 15 => ⟨S129, .i32⟩
  | 16 => ⟨S_, .i32⟩
  | 17 => ⟨S129, .i32⟩
  | 18 => ⟨S129, .i32⟩
  | 19 => ⟨S4x1, .i32⟩
  | 20 => ⟨S1x129, .i32⟩
  | 21 => ⟨S4x129, .i32⟩
  | 22 => ⟨S4x129, .i32⟩
  | 23 => ⟨S4x129, .i32⟩
  | 24 => ⟨S_, .i32⟩
  | 25 => ⟨S4x129, .i32⟩
  | 26 => ⟨S4x129, .i1⟩
  | 27 => ⟨S_, .i32⟩
  | 28 => ⟨S4x129, .i32⟩
  | 29 => ⟨S4x129, .i32⟩
  | 30 => ⟨S_, .i32⟩
  | 31 => ⟨S4x129, .i32⟩
  | 32 => ⟨S4x129, .i1⟩
  | 33 => ⟨S_, .i32⟩
  | 34 => ⟨S4x129, .i32⟩
  | 35 => ⟨S4x129, .i32⟩
  | 36 => ⟨S4x129, .i32⟩
  | 37 => ⟨S4x129x1, .i32⟩
  | 38 => ⟨S128x4x129x8x64, .f32⟩
  | 39 => ⟨S_, .i32⟩
  | 40 => ⟨S4x129, .i32⟩
  | 41 => ⟨S4x129, .i1⟩
  | 42 => ⟨S_, .i32⟩
  | 43 => ⟨S4x129, .i32⟩
  | 44 => ⟨S4x129, .i32⟩
  | 45 => ⟨S4x129, .i32⟩
  | 46 => ⟨S4x129x1, .i32⟩
  | 47 => ⟨S128x4x129x8x64, .f32⟩
  | 48 => ⟨S128x8x4x129, .f32⟩
  | 49 => ⟨S_, .f32⟩
  | 50 => ⟨S128x8x4x129, .f32⟩
  | 51 => ⟨S128x8x4x129, .f32⟩
  | 52 => ⟨S1x1x4x129, .i1⟩
  | 53 => ⟨S_, .f32⟩
  | 54 => ⟨S_, .f32⟩
  | 55 => ⟨S128x8x4x129, .i1⟩
  | 56 => ⟨S128x8x4x129, .f32⟩
  | 57 => ⟨S128x8x4x129, .f32⟩
  | 58 => ⟨S_, .f32⟩
  | 59 => ⟨S128x8x4, .f32⟩
  | 60 => ⟨S128x8x4x1, .f32⟩
  | 61 => ⟨S128x8x4x129, .f32⟩
  | 62 => ⟨S128x8x4x129, .f32⟩
  | 63 => ⟨S128x8x4x129, .f32⟩
  | 64 => ⟨S_, .f32⟩
  | 65 => ⟨S128x8x4, .f32⟩
  | 66 => ⟨S128x8x4x1, .f32⟩
  | 67 => ⟨S128x8x4x129, .f32⟩
  | 68 => ⟨S128x8x4x129, .f32⟩
  | 69 => ⟨S128x4x8x64, .f32⟩
  | 70 => ⟨S128x8x4x1, .f32⟩
  | 71 => ⟨S128x8x4x1, .f32⟩
  | 72 => ⟨S128x8x4, .f32⟩
  | 73 => ⟨S129, .i32⟩
  | 74 => ⟨S_, .i32⟩
  | 75 => ⟨S129, .i32⟩
  | 76 => ⟨S129, .i32⟩
  | 77 => ⟨S4x1, .i32⟩
  | 78 => ⟨S1x129, .i32⟩
  | 79 => ⟨S4x129, .i32⟩
  | 80 => ⟨S4x129, .i32⟩
  | 81 => ⟨S4x129, .i32⟩
  | 82 => ⟨S_, .i32⟩
  | 83 => ⟨S4x129, .i32⟩
  | 84 => ⟨S4x129, .i1⟩
  | 85 => ⟨S_, .i32⟩
  | 86 => ⟨S4x129, .i32⟩
  | 87 => ⟨S4x129, .i32⟩
  | 88 => ⟨S_, .i32⟩
  | 89 => ⟨S4x129, .i32⟩
  | 90 => ⟨S4x129, .i1⟩
  | 91 => ⟨S_, .i32⟩
  | 92 => ⟨S4x129, .i32⟩
  | 93 => ⟨S4x129, .i32⟩
  | 94 => ⟨S4x129, .i32⟩
  | 95 => ⟨S4x129x1, .i32⟩
  | 96 => ⟨S128x4x129x8x64, .f32⟩
  | 97 => ⟨S_, .i32⟩
  | 98 => ⟨S4x129, .i32⟩
  | 99 => ⟨S4x129, .i1⟩
  | 100 => ⟨S_, .i32⟩
  | 101 => ⟨S4x129, .i32⟩
  | 102 => ⟨S4x129, .i32⟩
  | 103 => ⟨S4x129, .i32⟩
  | 104 => ⟨S4x129x1, .i32⟩
  | 105 => ⟨S128x4x129x8x64, .f32⟩
  | 106 => ⟨S128x8x4x129, .f32⟩
  | 107 => ⟨S_, .f32⟩
  | 108 => ⟨S128x8x4x129, .f32⟩
  | 109 => ⟨S128x8x4x129, .f32⟩
  | 110 => ⟨S1x1x4x129, .i1⟩
  | 111 => ⟨S_, .f32⟩
  | 112 => ⟨S_, .f32⟩
  | 113 => ⟨S128x8x4x129, .i1⟩
  | 114 => ⟨S128x8x4x129, .f32⟩
  | 115 => ⟨S128x8x4x129, .f32⟩
  | 116 => ⟨S_, .f32⟩
  | 117 => ⟨S128x8x4, .f32⟩
  | 118 => ⟨S128x8x4x1, .f32⟩
  | 119 => ⟨S128x8x4x129, .f32⟩
  | 120 => ⟨S128x8x4x129, .f32⟩
  | 121 => ⟨S128x8x4x129, .f32⟩
  | 122 => ⟨S_, .f32⟩
  | 123 => ⟨S128x8x4, .f32⟩
  | 124 => ⟨S128x8x4x1, .f32⟩
  | 125 => ⟨S128x8x4x129, .f32⟩
  | 126 => ⟨S128x8x4x129, .f32⟩
  | 127 => ⟨S128x4x8x64, .f32⟩
  | _ => ⟨S128x4x8x64, .f32⟩

abbrev hbmTy0_1 (i : Nat) : BufTy := match i % 128 with
  | 0 => ⟨S128x8x4x1, .f32⟩
  | 1 => ⟨S128x8x4x1, .f32⟩
  | 2 => ⟨S128x8x4, .f32⟩
  | 3 => ⟨S129, .i32⟩
  | 4 => ⟨S_, .i32⟩
  | 5 => ⟨S129, .i32⟩
  | 6 => ⟨S129, .i32⟩
  | 7 => ⟨S4x1, .i32⟩
  | 8 => ⟨S1x129, .i32⟩
  | 9 => ⟨S4x129, .i32⟩
  | 10 => ⟨S4x129, .i32⟩
  | 11 => ⟨S4x129, .i32⟩
  | 12 => ⟨S_, .i32⟩
  | 13 => ⟨S4x129, .i32⟩
  | 14 => ⟨S4x129, .i1⟩
  | 15 => ⟨S_, .i32⟩
  | 16 => ⟨S4x129, .i32⟩
  | 17 => ⟨S4x129, .i32⟩
  | 18 => ⟨S_, .i32⟩
  | 19 => ⟨S4x129, .i32⟩
  | 20 => ⟨S4x129, .i1⟩
  | 21 => ⟨S_, .i32⟩
  | 22 => ⟨S4x129, .i32⟩
  | 23 => ⟨S4x129, .i32⟩
  | 24 => ⟨S4x129, .i32⟩
  | 25 => ⟨S4x129x1, .i32⟩
  | 26 => ⟨S128x4x129x8x64, .f32⟩
  | 27 => ⟨S_, .i32⟩
  | 28 => ⟨S4x129, .i32⟩
  | 29 => ⟨S4x129, .i1⟩
  | 30 => ⟨S_, .i32⟩
  | 31 => ⟨S4x129, .i32⟩
  | 32 => ⟨S4x129, .i32⟩
  | 33 => ⟨S4x129, .i32⟩
  | 34 => ⟨S4x129x1, .i32⟩
  | 35 => ⟨S128x4x129x8x64, .f32⟩
  | 36 => ⟨S128x8x4x129, .f32⟩
  | 37 => ⟨S_, .f32⟩
  | 38 => ⟨S128x8x4x129, .f32⟩
  | 39 => ⟨S128x8x4x129, .f32⟩
  | 40 => ⟨S1x1x4x129, .i1⟩
  | 41 => ⟨S_, .f32⟩
  | 42 => ⟨S_, .f32⟩
  | 43 => ⟨S128x8x4x129, .i1⟩
  | 44 => ⟨S128x8x4x129, .f32⟩
  | 45 => ⟨S128x8x4x129, .f32⟩
  | 46 => ⟨S_, .f32⟩
  | 47 => ⟨S128x8x4, .f32⟩
  | 48 => ⟨S128x8x4x1, .f32⟩
  | 49 => ⟨S128x8x4x129, .f32⟩
  | 50 => ⟨S128x8x4x129, .f32⟩
  | 51 => ⟨S128x8x4x129, .f32⟩
  | 52 => ⟨S_, .f32⟩
  | 53 => ⟨S128x8x4, .f32⟩
  | 54 => ⟨S128x8x4x1, .f32⟩
  | 55 => ⟨S128x8x4x129, .f32⟩
  | 56 => ⟨S128x8x4x129, .f32⟩
  | 57 => ⟨S128x4x8x64, .f32⟩
  | 58 => ⟨S128x8x4x1, .f32⟩
  | 59 => ⟨S128x8x4x1, .f32⟩
  | 60 => ⟨S128x8x4, .f32⟩
  | 61 => ⟨S1x128x8x4, .f32⟩
  | 62 => ⟨S1x128x8x4, .f32⟩
  | 63 => ⟨S1x128x8x4, .f32⟩
  | 64 => ⟨S3x128x8x4, .f32⟩
  | 65 => ⟨S_, .f32⟩
  | 66 => ⟨S128x8x4, .f32⟩
  | 67 => ⟨S_, .f32⟩
  | 68 => ⟨S128x8x4, .f32⟩
  | 69 => ⟨S128x8x4, .f32⟩
  | 70 => ⟨S1x128x8x4, .f32⟩
  | 71 => ⟨S3x128x8x4, .f32⟩
  | 72 => ⟨S3x128x8x4, .f32⟩
  | 73 => ⟨S3x128x8x4, .f32⟩
  | 74 => ⟨S_, .f32⟩
  | 75 => ⟨S128x8x4, .f32⟩
  | 76 => ⟨S1x128x8x4, .f32⟩
  | 77 => ⟨S3x128x8x4, .f32⟩
  | 78 => ⟨S3x128x8x4, .f32⟩
  | 79 => ⟨S1x128x4x8x64, .f32⟩
  | 80 => ⟨S1x128x4x8x64, .f32⟩
  | 81 => ⟨S1x128x4x8x64, .f32⟩
  | 82 => ⟨S3x128x4x8x64, .f32⟩
  | 83 => ⟨S128x4x8x64, .f32⟩
  | 84 => ⟨S128x4x8x64x1, .f32⟩
  | _ => ⟨S128x4x8x64, .f32⟩

abbrev hbmTy (i : Nat) : BufTy := match i / 128 with
  | 0 => hbmTy0_0 i
  | 1 => hbmTy0_1 i
  | _ => ⟨S128x4x8x64, .f32⟩

abbrev bufTy : (tb : Table) → Fin (tcTables nBuf tb) → BufTy
  | .hbm, ⟨i, _⟩ => hbmTy i
  | _, _ => ⟨S128x4x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_20 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_21 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_22 : Ref sig .tc := ⟨.hbm, 140, rfl⟩
abbrev main_v105 : Ref sig .tc := ⟨.hbm, 141, rfl⟩
abbrev main_v106 : Ref sig .tc := ⟨.hbm, 142, rfl⟩
abbrev main_c_23 : Ref sig .tc := ⟨.hbm, 143, rfl⟩
abbrev main_v107 : Ref sig .tc := ⟨.hbm, 144, rfl⟩
abbrev main_v108 : Ref sig .tc := ⟨.hbm, 145, rfl⟩
abbrev main_c_24 : Ref sig .tc := ⟨.hbm, 146, rfl⟩
abbrev main_v109 : Ref sig .tc := ⟨.hbm, 147, rfl⟩
abbrev main_v110 : Ref sig .tc := ⟨.hbm, 148, rfl⟩
abbrev main_c_25 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_26 : Ref sig .tc := ⟨.hbm, 155, rfl⟩
abbrev main_v116 : Ref sig .tc := ⟨.hbm, 156, rfl⟩
abbrev main_v117 : Ref sig .tc := ⟨.hbm, 157, rfl⟩
abbrev main_c_27 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_28 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_29 : Ref sig .tc := ⟨.hbm, 169, rfl⟩
abbrev main_call2_v0 : Ref sig .tc := ⟨.hbm, 170, rfl⟩
abbrev main_call2_v1 : Ref sig .tc := ⟨.hbm, 171, rfl⟩
abbrev main_call2_v2 : Ref sig .tc := ⟨.hbm, 172, rfl⟩
abbrev main_v127 : Ref sig .tc := ⟨.hbm, 173, rfl⟩
abbrev main_cst_30 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_31 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_32 : Ref sig .tc := ⟨.hbm, 193, rfl⟩
abbrev main_v145 : Ref sig .tc := ⟨.hbm, 194, rfl⟩
abbrev main_cst_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_cst_34 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x7456 : Shape := ⟨2, ![1024, 7456]⟩
abbrev S64 : Shape := ⟨1, ![64]⟩
abbrev S128x128 : Shape := ⟨2, ![128, 128]⟩
abbrev S8192 : Shape := ⟨1, ![8192]⟩
abbrev S1x8192 : Shape := ⟨2, ![1, 8192]⟩
abbrev S2x8192 : Shape := ⟨2, ![2, 8192]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x1024 : Shape := ⟨2, ![1, 1024]⟩
abbrev S1024x1536 : Shape := ⟨2, ![1024, 1536]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S512x1536 : Shape := ⟨2, ![512, 1536]⟩

abbrev nBuf : Space → Nat
  | .hbm => 51
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7456, .f32⟩
  | .hbm, ⟨3, _⟩ => ⟨S64, .f32⟩
  | .hbm, ⟨4, _⟩ => ⟨S64, .f32⟩
  | .hbm, ⟨5, _⟩ => ⟨S128x128, .f32⟩
  | .hbm, ⟨6, _⟩ => ⟨S8192, .i32⟩
  | .hbm, ⟨7, _⟩ => ⟨S1x8192, .i32⟩
  | .hbm, ⟨8, _⟩ => ⟨S2x8192, .i32⟩
  | .hbm, ⟨9, _⟩ => ⟨S16384, .i32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S16384, .f32⟩
  | .hbm, ⟨21, _⟩ => ⟨S16384x1, .f32⟩
  | .hbm, ⟨22, _⟩ => ⟨S1x32, .f32⟩
  | .hbm, ⟨23, _⟩ => ⟨S16384x32, .f32⟩
  | .hbm, ⟨24, _⟩ => ⟨S16384x32, .f32⟩
  | .hbm, ⟨25, _⟩ => ⟨S16384x32, .f32⟩
  | .hbm, ⟨26, _⟩ => ⟨S16384x32, .f32⟩
  | .hbm, ⟨27, _⟩ => ⟨S16384x32, .f32⟩
  | .hbm, ⟨28, _⟩ => ⟨S16384x64, .f32⟩
  | .hbm, ⟨29, _⟩ => ⟨S1x16384x1x64, .f32⟩
  | .hbm, ⟨30, _⟩ => ⟨S1x16384x2x64, .f32⟩
  | .hbm, ⟨31, _⟩ => ⟨S16384x128, .f32⟩
  | .hbm, ⟨32, _⟩ => ⟨S16384x32, .f32⟩
  | .hbm, ⟨33, _⟩ => ⟨S16384x64, .f32⟩
  | .hbm, ⟨34, _⟩ => ⟨S1x16384x1x64, .f32⟩
  | .hbm, ⟨35, _⟩ => ⟨S1x16384x2x64, .f32⟩
  | .hbm, ⟨36, _⟩ => ⟨S16384x128, .f32⟩
  | .hbm, ⟨37, _⟩ => ⟨S1x1024, .f32⟩
  | .hbm, ⟨38, _⟩ => ⟨S1024x1536, .f32⟩
  | .hbm, ⟨39, _⟩ => ⟨S1024x1536, .bf16⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S16384x512, .f32⟩
  | .hbm, ⟨49, _⟩ => ⟨S16384x512, .f32⟩
  | .hbm, ⟨50, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1024x1536, .bf16⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InprojRefIdeal.lean ====
abbrev S16384x1024 : Shape := ⟨2, ![16384, 1024]⟩
abbrev S1024 : Shape := ⟨1, ![1024]⟩
abbrev S1024x7456 : Shape := ⟨2, ![1024, 7456]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7456 : Shape := ⟨2, ![16384, 7456]⟩
abbrev S16384x1536 : Shape := ⟨2, ![16384, 1536]⟩
abbrev S16384x512 : Shape := ⟨2, ![16384, 512]⟩
abbrev S2x8192x8x64 : Shape := ⟨4, ![2, 8192, 8, 64]⟩
abbrev S8192 : Shape := ⟨1, ![8192]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x8x32 : Shape := ⟨4, ![2, 8192, 8, 32]⟩
abbrev S1x8192x1x32 : Shape := ⟨4, ![1, 8192, 1, 32]⟩

abbrev nBuf : Space → Nat
  | .hbm => 139
  | .vmem => 0
  | .smem => 0
  | _ => 0

abbrev hbmTy0_0 (i : Nat) : BufTy := match i % 128 with
  | 0 => ⟨S16384x1024, .f32⟩
  | 1 => ⟨S1024, .f32⟩
  | 2 => ⟨S1024x7456, .f32⟩
  | 3 => ⟨S64, .f32⟩
  | 4 => ⟨S64, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S16384x7456, .f32⟩
  | 22 => ⟨S16384x1536, .f32⟩
  | 23 => ⟨S16384x512, .f32⟩
  | 24 => ⟨S16384x512, .f32⟩
  | 25 => ⟨S16384x512, .f32⟩
  | 26 => ⟨S2x8192x8x64, .f32⟩
  | 27 => ⟨S2x8192x8x64, .f32⟩
  | 28 => ⟨S2x8192x8x64, .f32⟩
  | 29 => ⟨S8192, .i32⟩
  | 30 => ⟨S2x8192x8x64, .f32⟩
  | 31 => ⟨S_, .f32⟩
  | 32 => ⟨S2x8192x8, .f32⟩
  | 33 => ⟨S2x8192x8x1, .f32⟩
  | 34 => ⟨S_, .f32⟩
  | 35 => ⟨S2x8192x8x1, .f32⟩
  | 36 => ⟨S2x8192x8x1, .f32⟩
  | 37 => ⟨S_, .f32⟩
  | 38 => ⟨S2x8192x8x1, .f32⟩
  | 39 => ⟨S2x8192x8x1, .f32⟩
  | 40 => ⟨S2x8192x8x1, .f32⟩
  | 41 => ⟨S2x8192x8x64, .f32⟩
  | 42 => ⟨S2x8192x8x64, .f32⟩
  | 43 => ⟨S1x1x1x64, .f32⟩
  | 44 => ⟨S2x8192x8x64, .f32⟩
  | 45 => ⟨S2x8192x8x64, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S8192, .f32⟩
  | 57 => ⟨S8192x1, .f32⟩
  | 58 => ⟨S1x32, .f32⟩
  | 59 => ⟨S8192x32, .f32⟩
  | 60 => ⟨S8192x32, .f32⟩
  | 61 => ⟨S8192x32, .f32⟩
  | 62 => ⟨S8192x32, .f32⟩
  | 63 => ⟨S8192x1x32, .f32⟩
  | 64 => ⟨S8192x32, .f32⟩
  | 65 => ⟨S8192x1x32, .f32⟩
  | 66 => ⟨S2x8192x8x32, .f32⟩
  | 67 => ⟨S2x8192x8x32, .f32⟩
  | 68 => ⟨S1x8192x1x32, .f32⟩
  | 69 => ⟨S2x8192x8x32, .f32⟩
  | 70 => ⟨S2x8192x8x32, .f32⟩
  | 71 => ⟨S1x8192x1x32, .f32⟩
  | 72 => ⟨S2x8192x8x32, .f32⟩
  | 73 => ⟨S2x8192x8x32, .f32⟩
  | 74 => ⟨S2x8192x8x32, .f32⟩
  | 75 => ⟨S1x8192x1x32, .f32⟩
  | 76 => ⟨S2x8192x8x32, .f32⟩
  | 77 => ⟨S2x8192x8x32, .f32⟩
  | 78 => ⟨S1x8192x1x32, .f32⟩
  | 79 => ⟨S2x8192x8x32, .f32⟩
  | 80 => ⟨S2x8192x8x32, .f32⟩
  | 81 => ⟨S2x8192x8x32, .f32⟩
  | 82 => ⟨S2x8192x8x64, .f32⟩
  | 83 => ⟨S2x8192x8x64, .f32⟩
  | 84 => ⟨S_, .f32⟩
  | 85 => ⟨S2x8192x8, .f32⟩
  | 86 => ⟨S2x8192x8x1, .f32⟩
  | 87 => ⟨S_, .f32⟩
  | 88 => ⟨S2x8192x8x1, .f32⟩
  | 89 => ⟨S2x8192x8x1, .f32⟩
  | 90 => ⟨S_, .f32⟩
  | 91 => ⟨S2x8192x8x1, .f32⟩
  | 92 => ⟨S2x8192x8x1, .f32⟩
  | 93 => ⟨S2x8192x8x1, .f32⟩
  | 94 => ⟨S2x8192x8x64, .f32⟩
  | 95 => ⟨S2x8192x8x64, .f32⟩
  | 96 => ⟨S1x1x1x64, .f32⟩
  | 97 => ⟨S2x8192x8x64, .f32⟩
  | 98 => ⟨S2x8192x8x64, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S8192, .f32⟩
  | 110 => ⟨S8192x1, .f32⟩
  | 111 => ⟨S1x32, .f32⟩
  | 112 => ⟨S8192x32, .f32⟩
  | 113 => ⟨S8192x32, .f32⟩
  | 114 => ⟨S8192x32, .f32⟩
  | 115 => ⟨S8192x32, .f32⟩
  | 116 => ⟨S8192x1x32, .f32⟩
  | 117 => ⟨S8192x32, .f32⟩
  | 118 => ⟨S8192x1x32, .f32⟩
  | 119 => ⟨S2x8192x8x32, .f32⟩
  | 120 => ⟨S2x8192x8x32, .f32⟩
  | 121 => ⟨S1x8192x1x32, .f32⟩
  | 122 => ⟨S2x8192x8x32, .f32⟩
  | 123 => ⟨S2x8192x8x32, .f32⟩
  | 124 => ⟨S1x8192x1x32, .f32⟩
  | 125 => ⟨S2x8192x8x32, .f32⟩
  | 126 => ⟨S2x8192x8x32, .f32⟩
  | 127 => ⟨S2x8192x8x32, .f32⟩
  | _ => ⟨S16384x1024, .f32⟩

abbrev hbmTy0_1 (i : Nat) : BufTy := match i % 128 with
  | 0 => ⟨S1x8192x1x32, .f32⟩
  | 1 => ⟨S2x8192x8x32, .f32⟩
  | 2 => ⟨S2x8192x8x32, .f32⟩
  | 3 => ⟨S1x8192x1x32, .f32⟩
  | 4 => ⟨S2x8192x8x32, .f32⟩
  | 5 => ⟨S2x8192x8x32, .f32⟩
  | 6 => ⟨S2x8192x8x32, .f32⟩
  | 7 => ⟨S2x8192x8x64, .f32⟩
  | 8 => ⟨S16384x512, .f32⟩
  | 9 => ⟨S16384x512, .f32⟩
  | 10 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_11 : Ref sig .tc := ⟨.hbm, 100, rfl⟩
abbrev main_v83 : Ref sig .tc := ⟨.hbm, 101, rfl⟩
abbrev main_v84 : Ref sig .tc := ⟨.hbm, 102, rfl⟩
abbrev main_cst_12 : Ref sig .tc := ⟨.hbm, 103, rfl⟩
abbrev main_v85 : Ref sig .tc := ⟨.hbm, 104, rfl⟩
abbrev main_v86 : Ref sig .tc := ⟨.hbm, 105, rfl⟩
abbrev main_cst_13 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩

abbrev nD : Nat := 1
abbrev τ : Topo := Topo.v7x

variable {F : FTy → Type} [FloatOps F]
-- ==== InprojS.lean ====
abbrev S512x1024 : Shape := ⟨2, ![512, 1024]⟩
abbrev S1024 : Shape := ⟨1, ![1024]⟩
abbrev S1024x7456 : Shape := ⟨2, ![1024, 7456]⟩
abbrev S64 : Shape := ⟨1, ![64]⟩
abbrev S128x128 : Shape := ⟨2, ![128, 128]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x64 : Shape := ⟨2, ![512, 64]⟩
abbrev S1x512x1x64 : Shape := ⟨4, ![1, 512, 1, 64]⟩
abbrev S1x512x2x64 : Shape := ⟨4, ![1, 512, 2, 64]⟩
abbrev S512x128 : Shape := ⟨2, ![512, 128]⟩
abbrev S1x1024 : Shape := ⟨2, ![1, 1024]⟩
abbrev S1024x1536 : Shape := ⟨2, ![1024, 1536]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S512x512 : Shape := ⟨2, ![512, 512]⟩
abbrev S512x1536 : Shape := ⟨2, ![512, 1536]⟩

abbrev nBuf : Space → Nat
  | .hbm => 53
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x7456, .f32⟩
  | .hbm, ⟨3, _⟩ => ⟨S64, .f32⟩
  | .hbm, ⟨4, _⟩ => ⟨S64, .f32⟩
  | .hbm, ⟨5, _⟩ => ⟨S128x128, .f32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S1x4, .i32⟩
  | .hbm, ⟨11, _⟩ => ⟨S128x4, .i32⟩
  | .hbm, ⟨12, _⟩ => ⟨S512, .i32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S512, .f32⟩
  | .hbm, ⟨24, _⟩ => ⟨S512x1, .f32⟩
  | .hbm, ⟨25, _⟩ => ⟨S1x32, .f32⟩
  | .hbm, ⟨26, _⟩ => ⟨S512x32, .f32⟩
  | .hbm, ⟨27, _⟩ => ⟨S512x32, .f32⟩
  | .hbm, ⟨28, _⟩ => ⟨S512x32, .f32⟩
  | .hbm, ⟨29, _⟩ => ⟨S512x32, .f32⟩
  | .hbm, ⟨30, _⟩ => ⟨S512x32, .f32⟩
  | .hbm, ⟨31, _⟩ => ⟨S512x64, .f32⟩
  | .hbm, ⟨32, _⟩ => ⟨S1x512x1x64, .f32⟩
  | .hbm, ⟨33, _⟩ => ⟨S1x512x2x64, .f32⟩
  | .hbm, ⟨34, _⟩ => ⟨S512x128, .f32⟩
  | .hbm, ⟨35, _⟩ => ⟨S512x32, .f32⟩
  | .hbm, ⟨36, _⟩ => ⟨S512x64, .f32⟩
  | .hbm, ⟨37, _⟩ => ⟨S1x512x1x64, .f32⟩
  | .hbm, ⟨38, _⟩ => ⟨S1x512x2x64, .f32⟩
  | .hbm, ⟨39, _⟩ => ⟨S512x128, .f32⟩
  | .hbm, ⟨40, _⟩ => ⟨S1x1024, .f32⟩
  | .hbm, ⟨41, _⟩ => ⟨S1024x1536, .f32⟩
  | .hbm, ⟨42, _⟩ => ⟨S1x64, .f32⟩
  | .hbm, ⟨43, _⟩ => ⟨S2x64, .f32⟩
  | .hbm, ⟨44, _⟩ => ⟨S128, .f32⟩
  | .hbm, ⟨45, _⟩ => ⟨S1x128, .f32⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S1x128, .f32⟩
  | .hbm, ⟨50, _⟩ => ⟨S512x512, .f32⟩
  | .hbm, ⟨51, _⟩ => ⟨S512x512, .f32⟩
  | .hbm, ⟨52, _⟩ => ⟨S512x512, .f32⟩
  | .local _ .vmem, ⟨0, _⟩ => ⟨S512x1024, .f32⟩
  | .local _ .vmem, ⟨1, _⟩ => ⟨S512x128, .f32⟩
  | .local _ .vmem, ⟨2, _⟩ => ⟨S512x128, .f32⟩
  | .local _ .vmem, ⟨3, _⟩ => ⟨S1x1024, .f32⟩
  | .local _ .vmem, ⟨4, _⟩ => ⟨S1024x1536, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40_0 : Ref sig .tc := ⟨.hbm, 50, rfl⟩
abbrev main_v40_1 : Ref sig .tc := ⟨.hbm, 51, rfl⟩
abbrev main_v40_2 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== InprojSRefIdeal.lean ====
abbrev S512x1024 : Shape := ⟨2, ![512, 1024]⟩
abbrev S1024 : Shape := ⟨1, ![1024]⟩
abbrev S1024x7456 : Shape := ⟨2, ![1024, 7456]⟩
abbrev S64 : Shape := ⟨1, ![64]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x7456 : Shape := ⟨2, ![512, 7456]⟩
abbrev S512x1536 : Shape := ⟨2, ![512, 1536]⟩
abbrev S512x512 : Shape := ⟨2, ![512, 512]⟩
abbrev S128x4x8x64 : Shape := ⟨4, ![128, 4, 8, 64]⟩
abbrev S4 : Shape := ⟨1, ![4]⟩
abbrev S128x4x8 : Shape := ⟨3, ![128, 4, 8]⟩
abbrev S128x4x8x1 : Shape := ⟨4, ![128, 4, 8, 1]⟩
abbrev S1x1x1x64 : Shape := ⟨4, ![1, 1, 1, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S128x4x8x32 : Shape := ⟨4, ![128, 4, 8, 32]⟩
abbrev S1x4x1x32 : Shape := ⟨4, ![1, 4, 1, 32]⟩

abbrev nBuf : Space → Nat
  | .hbm => 142
  | .vmem => 0
  | .smem => 0
  | _ => 0

abbrev hbmTy0_0 (i : Nat) : BufTy := match i % 128 with
  | 0 => ⟨S512x1024, .f32⟩
  | 1 => ⟨S1024, .f32⟩
  | 2 => ⟨S1024x7456, .f32⟩
  | 3 => ⟨S64, .f32⟩
  | 4 => ⟨S64, .f32⟩
  | 5 => ⟨S512x1024, .f32⟩
  | 6 => ⟨S_, .f32⟩
  | 7 => ⟨S512, .f32⟩
  | 8 => ⟨S512x1, .f32⟩
  | 9 => ⟨S_, .f32⟩
  | 10 => ⟨S512x1, .f32⟩
  | 11 => ⟨S512x1, .f32⟩
  | 12 => ⟨S_, .f32⟩
  | 13 => ⟨S512x1, .f32⟩
  | 14 => ⟨S512x1, .f32⟩
  | 15 => ⟨S512x1, .f32⟩
  | 16 => ⟨S512x1024, .f32⟩
  | 17 => ⟨S512x1024, .f32⟩
  | 18 => ⟨S1x1024, .f32⟩
  | 19 => ⟨S512x1024, .f32⟩
  | 20 => ⟨S512x1024, .f32⟩
  | 21 => ⟨S512x7456, .f32⟩
  | 22 => ⟨S512x1536, .f32⟩
  | 23 => ⟨S512x512, .f32⟩
  | 24 => ⟨S512x512, .f32⟩
  | 25 => ⟨S512x512, .f32⟩
  | 26 => ⟨S128x4x8x64, .f32⟩
  | 27 => ⟨S128x4x8x64, .f32⟩
  | 28 => ⟨S128x4x8x64, .f32⟩
  | 29 => ⟨S4, .i32⟩
  | 30 => ⟨S_, .i32⟩
  | 31 => ⟨S4, .i32⟩
  | 32 => ⟨S4, .i32⟩
  | 33 => ⟨S128x4x8x64, .f32⟩
  | 34 => ⟨S_, .f32⟩
  | 35 => ⟨S128x4x8, .f32⟩
  | 36 => ⟨S128x4x8x1, .f32⟩
  | 37 => ⟨S_, .f32⟩
  | 38 => ⟨S128x4x8x1, .f32⟩
  | 39 => ⟨S128x4x8x1, .f32⟩
  | 40 => ⟨S_, .f32⟩
  | 41 => ⟨S128x4x8x1, .f32⟩
  | 42 => ⟨S128x4x8x1, .f32⟩
  | 43 => ⟨S128x4x8x1, .f32⟩
  | 44 => ⟨S128x4x8x64, .f32⟩
  | 45 => ⟨S128x4x8x64, .f32⟩
  | 46 => ⟨S1x1x1x64, .f32⟩
  | 47 => ⟨S128x4x8x64, .f32⟩
  | 48 => ⟨S128x4x8x64, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S4, .f32⟩
  | 60 => ⟨S4x1, .f32⟩
  | 61 => ⟨S1x32, .f32⟩
  | 62 => ⟨S4x32, .f32⟩
  | 63 => ⟨S4x32, .f32⟩
  | 64 => ⟨S4x32, .f32⟩
  | 65 => ⟨S4x32, .f32⟩
  | 66 => ⟨S4x1x32, .f32⟩
  | 67 => ⟨S4x32, .f32⟩
  | 68 => ⟨S4x1x32, .f32⟩
  | 69 => ⟨S128x4x8x32, .f32⟩
  | 70 => ⟨S128x4x8x32, .f32⟩
  | 71 => ⟨S1x4x1x32, .f32⟩
  | 72 => ⟨S128x4x8x32, .f32⟩
  | 73 => ⟨S128x4x8x32, .f32⟩
  | 74 => ⟨S1x4x1x32, .f32⟩
  | 75 => ⟨S128x4x8x32, .f32⟩
  | 76 => ⟨S128x4x8x32, .f32⟩
  | 77 => ⟨S128x4x8x32, .f32⟩
  | 78 => ⟨S1x4x1x32, .f32⟩
  | 79 => ⟨S128x4x8x32, .f32⟩
  | 80 => ⟨S128x4x8x32, .f32⟩
  | 81 => ⟨S1x4x1x32, .f32⟩
  | 82 => ⟨S128x4x8x32, .f32⟩
  | 83 => ⟨S128x4x8x32, .f32⟩
  | 84 => ⟨S128x4x8x32, .f32⟩
  | 85 => ⟨S128x4x8x64, .f32⟩
  | 86 => ⟨S128x4x8x64, .f32⟩
  | 87 => ⟨S_, .f32⟩
  | 88 => ⟨S128x4x8, .f32⟩
  | 89 => ⟨S128x4x8x1, .f32⟩
  | 90 => ⟨S_, .f32⟩
  | 91 => ⟨S128x4x8x1, .f32⟩
  | 92 => ⟨S128x4x8x1, .f32⟩
  | 93 => ⟨S_, .f32⟩
  | 94 => ⟨S128x4x8x1, .f32⟩
  | 95 => ⟨S128x4x8x1, .f32⟩
  | 96 => ⟨S128x4x8x1, .f32⟩
  | 97 => ⟨S128x4x8x64, .f32⟩
  | 98 => ⟨S128x4x8x64, .f32⟩
  | 99 => ⟨S1x1x1x64, .f32⟩
  | 100 => ⟨S128x4x8x64, .f32⟩
  | 101 => ⟨S128x4x8x64, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S4, .f32⟩
  | 113 => ⟨S4x1, .f32⟩
  | 114 => ⟨S1x32, .f32⟩
  | 115 => ⟨S4x32, .f32⟩
  | 116 => ⟨S4x32, .f32⟩
  | 117 => ⟨S4x32, .f32⟩
  | 118 => ⟨S4x32, .f32⟩
  | 119 => ⟨S4x1x32, .f32⟩
  | 120 => ⟨S4x32, .f32⟩
  | 121 => ⟨S4x1x32, .f32⟩
  | 122 => ⟨S128x4x8x32, .f32⟩
  | 123 => ⟨S128x4x8x32, .f32⟩
  | 124 => ⟨S1x4x1x32, .f32⟩
  | 125 => ⟨S128x4x8x32, .f32⟩
  | 126 => ⟨S128x4x8x32, .f32⟩
  | 127 => ⟨S1x4x1x32, .f32⟩
  | _ => ⟨S512x1024, .f32⟩

abbrev hbmTy0_1 (i : Nat) : BufTy := match i % 128 with
  | 0 => ⟨S128x4x8x32, .f32⟩
  | 1 => ⟨S128x4x8x32, .f32⟩
  | 2 => ⟨S128x4x8x32, .f32⟩
  | 3 => ⟨S1x4x1x32, .f32⟩
  | 4 => ⟨S128x4x8x32, .f32⟩
  | 5 => ⟨S128x4x8x32, .f32⟩
  | 6 => ⟨S1x4x1x32, .f32⟩
  | 7 => ⟨S128x4x8x32, .f32⟩
  | 8 => ⟨S128x4x8x32, .f32⟩
  | 9 => ⟨S128x4x8x32, .f32⟩
  | 10 => ⟨S128x4x8x64, .f32⟩
  | 11 => ⟨S512x512, .f32⟩
  | 12 => ⟨S512x512, .f32⟩
  | 13 => ⟨S512x512, .f32⟩
  | _ => ⟨S512x1024, .f32⟩

abbrev hbmTy (i : Nat) : BufTy := match i / 128 with
  | 0 => hbmTy0_0 i
  | 1 => hbmTy0_1 i
  | _ => ⟨S512x1024, .f32⟩

abbrev bufTy : (tb : Table) → Fin (tcTables nBuf tb) → BufTy
  | .hbm, ⟨i, _⟩ => hbmTy i
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_8 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_11 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩

abbrev nD : Nat := 1
abbrev τ : Topo := Topo.v7x

variable {F : FTy → Type} [FloatOps F]
-- ==== GmlpS.lean ====
abbrev S512x1024 : Shape := ⟨2, ![512, 1024]⟩
abbrev S1024 : Shape := ⟨1, ![1024]⟩
abbrev S1024x7456 : Shape := ⟨2, ![1024, 7456]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S4x4 : Shape := ⟨2, ![4, 4]⟩
abbrev S4x4x4 : Shape := ⟨3, ![4, 4, 4]⟩
abbrev S1x4x4 : Shape := ⟨3, ![1, 4, 4]⟩
abbrev S32x32 : Shape := ⟨2, ![32, 32]⟩
abbrev S1x32x1x32x1 : Shape := ⟨5, ![1, 32, 1, 32, 1]⟩
abbrev S4x1x4x1x4 : Shape := ⟨5, ![4, 1, 4, 1, 4]⟩
abbrev S4x32x4x32x4 : Shape := ⟨5, ![4, 32, 4, 32, 4]⟩
abbrev S4x4x128 : Shape := ⟨3, ![4, 4, 128]⟩
abbrev S4x512 : Shape := ⟨2, ![4, 512]⟩
abbrev S1x4x1x512 : Shape := ⟨4, ![1, 4, 1, 512]⟩
abbrev S32x4x1x512 : Shape := ⟨4, ![32, 4, 1, 512]⟩
abbrev S128x512 : Shape := ⟨2, ![128, 512]⟩
abbrev S1x1024 : Shape := ⟨2, ![1, 1024]⟩
abbrev S1024x1024 : Shape := ⟨2, ![1024, 1024]⟩
abbrev S1x512 : Shape := ⟨2, ![1, 512]⟩
abbrev S512x512 : Shape := ⟨2, ![512, 512]⟩
abbrev S512x1 : Shape := ⟨2, ![512, 1]⟩
abbrev S1x128x128 : Shape := ⟨3, ![1, 128, 128]⟩
abbrev S128x128 : Shape := ⟨2, ![128, 128]⟩

abbrev nBuf : Space → Nat
  | .hbm => 46
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x7456, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S_, .f32⟩
  | .hbm, ⟨7, _⟩ => ⟨S4x4, .f32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S_, .f32⟩
  | .hbm, ⟨15, _⟩ => ⟨S4x4, .f32⟩
  | .hbm, ⟨16, _⟩ => ⟨S4x4, .f32⟩
  | .hbm, ⟨17, _⟩ => ⟨S4x4x4, .f32⟩
  | .hbm, ⟨18, _⟩ => ⟨S1x4x4, .f32⟩
  | .hbm, ⟨19, _⟩ => ⟨S4x4x4, .f32⟩
  | .hbm, ⟨20, _⟩ => ⟨S4x4x4, .f32⟩
  | .hbm, ⟨21, _⟩ => ⟨S32x32, .i32⟩
  | .hbm, ⟨22, _⟩ => ⟨S32x32, .i32⟩
  | .hbm, ⟨23, _⟩ => ⟨S_, .i32⟩
  | .hbm, ⟨24, _⟩ => ⟨S32x32, .i32⟩
  | .hbm, ⟨25, _⟩ => ⟨S32x32, .i32⟩
  | .hbm, ⟨26, _⟩ => ⟨S32x32, .i1⟩
  | .hbm, ⟨27, _⟩ => ⟨S32x32, .f32⟩
  | .hbm, ⟨28, _⟩ => ⟨S1x32x1x32x1, .f32⟩
  | .hbm, ⟨29, _⟩ => ⟨S4x1x4x1x4, .f32⟩
  | .hbm, ⟨30, _⟩ => ⟨S4x32x4x32x4, .f32⟩
  | .hbm, ⟨31, _⟩ => ⟨S4x32x4x32x4, .f32⟩
  | .hbm, ⟨32, _⟩ => ⟨S4x32x4x32x4, .f32⟩
  | .hbm, ⟨33, _⟩ => ⟨S4x128x128, .f32⟩
  | .hbm, ⟨34, _⟩ => ⟨S4x4, .f32⟩
  | .hbm, ⟨35, _⟩ => ⟨S4x4, .f32⟩
  | .hbm, ⟨36, _⟩ => ⟨S4x4x128, .f32⟩
  | .hbm, ⟨37, _⟩ => ⟨S4x512, .f32⟩
  | .hbm, ⟨38, _⟩ => ⟨S1x4x1x512, .f32⟩
  | .hbm, ⟨39, _⟩ => ⟨S32x4x1x512, .f32⟩
  | .hbm, ⟨40, _⟩ => ⟨S128x512, .f32⟩
  | .hbm, ⟨41, _⟩ => ⟨S1x1024, .f32⟩
  | .hbm, ⟨42, _⟩ => ⟨S1024x1024, .f32⟩
  | .hbm, ⟨43, _⟩ => ⟨S1x512, .f32⟩
  | .hbm, ⟨44, _⟩ => ⟨S512x512, .f32⟩
  | .hbm, ⟨45, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x1024, .f32⟩
  | .local _ .vmem, ⟨3, _⟩ => ⟨S1x512, .f32⟩
  | .local _ .vmem, ⟨4, _⟩ => ⟨S4x128x128, .f32⟩
  | .local _ .vmem, ⟨5, _⟩ => ⟨S128x512, .f32⟩
  | .local _ .vmem, ⟨6, _⟩ => ⟨S512x512, .f32⟩
  | .local _ .vmem, ⟨7, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== GmlpSRefIdeal.lean ====
abbrev S512x1024 : Shape := ⟨2, ![512, 1024]⟩
abbrev S1024 : Shape := ⟨1, ![1024]⟩
abbrev S1024x7456 : Shape := ⟨2, ![1024, 7456]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S512x1 : Shape := ⟨2, ![512, 1]⟩
abbrev S1x1024 : Shape := ⟨2, ![1, 1024]⟩
abbrev S512x7456 : Shape := ⟨2, ![512, 7456]⟩
abbrev S512x512 : Shape := ⟨2, ![512, 512]⟩
abbrev S1x512 : Shape := ⟨2, ![1, 512]⟩
abbrev S128x4x512 : Shape := ⟨3, ![128, 4, 512]⟩
abbrev S128x1x4x4x128 : Shape := ⟨5, ![128, 1, 4, 4, 128]⟩
abbrev S4x4 : Shape := ⟨2, ![4, 4]⟩
abbrev S4x4x4 : Shape := ⟨3, ![4, 4, 4]⟩
abbrev S4x128x1x128x4 : Shape := ⟨5, ![4, 128, 1, 128, 4]⟩
abbrev S1x1x4x4x1 : Shape := ⟨5, ![1, 1, 4, 4, 1]⟩

abbrev nBuf : Space → Nat
  | .hbm => 89
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x7456, .f32⟩
  | .hbm, ⟨3, _⟩ => ⟨S512, .f32⟩
  | .hbm, ⟨4, _⟩ => ⟨S4x128x128, .f32⟩
  | .hbm, ⟨5, _⟩ => ⟨S4x128, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x1024, .f32⟩
  | .hbm, ⟨18, _⟩ => ⟨S512x1024, .f32⟩
  | .hbm, ⟨19, _⟩ => ⟨S1x1024, .f32⟩
  | .hbm, ⟨20, _⟩ => ⟨S512x1024, .f32⟩
  | .hbm, ⟨21, _⟩ => ⟨S512x1024, .f32⟩
  | .hbm, ⟨22, _⟩ => ⟨S512x7456, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S_, .f32⟩
  | .hbm, ⟨45, _⟩ => ⟨S512, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S_, .f32⟩
  | .hbm, ⟨51, _⟩ => ⟨S512x1, .f32⟩
  | .hbm, ⟨52, _⟩ => ⟨S512x1, .f32⟩
  | .hbm, ⟨53, _⟩ => ⟨S512x1, .f32⟩
  | .hbm, ⟨54, _⟩ => ⟨S512x512, .f32⟩
  | .hbm, ⟨55, _⟩ => ⟨S512x512, .f32⟩
  | .hbm, ⟨56, _⟩ => ⟨S1x512, .f32⟩
  | .hbm, ⟨57, _⟩ => ⟨S512x512, .f32⟩
  | .hbm, ⟨58, _⟩ => ⟨S512x512, .f32⟩
  | .hbm, ⟨59, _⟩ => ⟨S128x4x512, .f32⟩
  | .hbm, ⟨60, _⟩ => ⟨S128x4x512, .f32⟩
  | .hbm, ⟨61, _⟩ => ⟨S128x1x4x4x128, .f32⟩
  | .hbm, ⟨62, _⟩ => ⟨S_, .i1⟩
  | .hbm, ⟨63, _⟩ => ⟨S4x4, .i1⟩
  | .hbm, ⟨64, _⟩ => ⟨S4x4, .i32⟩
  | .hbm, ⟨65, _⟩ => ⟨S_, .i32⟩
  | .hbm, ⟨66, _⟩ => ⟨S4x4, .i32⟩
  | .hbm, ⟨67, _⟩ => ⟨S4x4, .i32⟩
  | .hbm, ⟨68, _⟩ => ⟨S4x4, .i32⟩
  | .hbm, ⟨69, _⟩ => ⟨S4x4, .i1⟩
  | .hbm, ⟨70, _⟩ => ⟨S_, .i1⟩
  | .hbm, ⟨71, _⟩ => ⟨S4x4, .i1⟩
  | .hbm, ⟨72, _⟩ => ⟨S4x4, .i1⟩
  | .hbm, ⟨73, _⟩ => ⟨S4x4x4, .f32⟩
  | .hbm, ⟨74, _⟩ => ⟨S_, .i32⟩
  | .hbm, ⟨75, _⟩ => ⟨S_, .f32⟩
  | .hbm, ⟨76, _⟩ => ⟨S4x4x4, .i1⟩
  | .hbm, ⟨77, _⟩ => ⟨S4x4x4, .f32⟩
  | .hbm, ⟨78, _⟩ => ⟨S4x4x4, .f32⟩
  | .hbm, ⟨79, _⟩ => ⟨S4x128x1x128x4, .f32⟩
  | .hbm, ⟨80, _⟩ => ⟨S128x1x4x4x128, .f32⟩
  | .hbm, ⟨81, _⟩ => ⟨S4x4, .f32⟩
  | .hbm, ⟨82, _⟩ => ⟨S4x4, .f32⟩
  | .hbm, ⟨83, _⟩ => ⟨S1x1x4x4x1, .f32⟩
  | .hbm, ⟨84, _⟩ => ⟨S128x1x4x4x128, .f32⟩
  | .hbm, ⟨85, _⟩ => ⟨S128x1x4x4x128, .f32⟩
  | .hbm, ⟨86, _⟩ => ⟨S128x4x512, .f32⟩
  | .hbm, ⟨87, _⟩ => ⟨S128x4x512, .f32⟩
  | .hbm, ⟨88, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c : Ref sig .tc := ⟨.hbm, 62, rfl⟩
abbrev main_v46 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]
-- ==== Proof.MoePoint.lean ====
/- What one grid point of the mixture-of-experts call leaves in the three scratch buffers and the output block, written
   over the blocks the point reads. -/
module

public import proofs.«01_k».proof.Proof.Gen.MoeIdeal.Value

@[expose] public section

set_option maxRecDepth 16384

noncomputable section

namespace Cert.MoeIdeal.Point

open Cert.MoeIdeal Cert.MoeIdeal.Gen Cert.MoeIdeal.Value Idealize.ShloMosaic Idealize.ShloMosaic.TcCoe Idealize.ShloMosaic.Tactic

variable {F : FTy → Type} [FloatOps F]
variable (m : (ℓ : Loc nD τ sig) → Buf (Elt F) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The lane numbers of a row of 128. -/
abbrev lanes : IVec S512x128 32 := iota .tc S512x128 32 [1] iota_S512x128_d1_w32

/-- The routing weights of a block of rows, one lane per expert. -/
def combOf (x0 : Vec F S512x1024 .f32) (x1 : Vec F S1x1024 .f32) (x2 : Vec F S1024x128 .f32) : FVec F S512x128 .f32 :=
  k0_pay10 (k0_pay6 lanes x0 x1 x2) (k0_pay7 lanes x0 x1 x2) (k0_pay8 lanes x0 x1 x2) (k0_pay9 lanes x0 x1 x2)

abbrev St (F : FTy → Type) : Type :=
  Vec F S512x1024 .f32 × Vec F S512x1024 .bf16 × Vec F S512x128 .f32 × Vec F S512x1024 .f32

/-- The first point of a row block stores the normalised rows. -/
theorem rows_first (c : Dev nD) (t : Fin cfg0.N) (acc : St F) (h0 : t.val % 88 = 0) (h1 : ¬t.val % 88 = 87) :
    (stAt0 m c t.val t.isLt acc).2.1 = k0_pay4 (iblk m c 0 t) (iblk m c 1 t) := by
  rw [stAt0_A m c t acc h0 h1]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S512x1024) zeros2,
    View.ld_unit_zero (S := S1x1024) zeros2]

/-- The first point of a row block stores the routing weights. -/
theorem comb_first (c : Dev nD) (t : Fin cfg0.N) (acc : St F) (h0 : t.val % 88 = 0) (h1 : ¬t.val % 88 = 87) :
    (stAt0 m c t.val t.isLt acc).2.2.1 = combOf (iblk m c 0 t) (iblk m c 1 t) (iblk m c 2 t) := by
  rw [stAt0_A m c t acc h0 h1]
  dsimp only
  unfold sout0_A_1
  rw [View.read_writes_eq_canon _ _ _ (fun y => scover0_A_1 (y := y) ..)]
  unfold kernelRun0_A
  dsimp only
  sl_unfold_words
  rw [View.canon_unit_zero zeros2]
  simp only [View.readAt_eq_ld, (hs0_0 t).read_unread, (hs0_1 t).read_unread, (hs0_2 t).read_unread,
    View.ld_unit_zero (S := S512x1024) zeros2, View.ld_unit_zero (S := S1x1024) zeros2, View.ld_unit_zero (S := S1024x128) zeros2]
  rfl

/-- The first point of a row block starts the sum with its own product. -/
theorem sum_first (c : Dev nD) (t : Fin cfg0.N) (acc : St F) (h0 : t.val % 88 = 0) (h1 : ¬t.val % 88 = 87) :
    (stAt0 m c t.val t.isLt acc).2.2.2 = k0_pay1 k0_pay11
      (k0_pay12 (grid0.coords t) (k0_pay4 (iblk m c 0 t) (iblk m c 1 t)) (iblk m c 3 t) (iblk m c 4 t)
        (combOf (iblk m c 0 t) (iblk m c 1 t) (iblk m c 2 t))) (iblk m c 5 t) := by
  rw [stAt0_A m c t acc h0 h1]
  dsimp only
  unfold sout0_A_2
  rw [View.read_writes_eq_canon _ _ _ (fun y => scover0_A_2 (y := y) ..)]
  unfold kernelRun0_A
  dsimp only
  sl_unfold_words
  rw [View.canon_cons_unit_zero (S := S512x1024) zeros2]
  simp only [View.readCov_unit_zero (S := S512x1024) _ zeros2, View.readCov_unit_zero (S := S512x128) _ zeros2]
  simp only [View.readAt_eq_ld, (hs0_0 t).read_unread, (hs0_1 t).read_unread, (hs0_2 t).read_unread, (hs0_3 t).read_unread, (hs0_4 t).read_unread, (hs0_5 t).read_unread,
    View.ld_unit_zero (S := S512x1024) zeros2, View.ld_unit_zero (S := S1x1024) zeros2, View.ld_unit_zero (S := S1024x128) zeros2,
    View.ld_unit_zero (S := S1x1024x256) zeros3, View.ld_unit_zero (S := S1x256x1024) zeros3]
  rfl

/-- Every later point keeps the normalised rows and the routing weights. -/
theorem rows_later (c : Dev nD) (t : Fin cfg0.N) (acc : St F) (h0 : ¬t.val % 88 = 0) :
    (stAt0 m c t.val t.isLt acc).2.1 = acc.2.1 ∧ (stAt0 m c t.val t.isLt acc).2.2.1 = acc.2.2.1 := by
  by_cases h1 : t.val % 88 = 87
  · rw [stAt0_C m c t acc h0 h1]; exact ⟨rfl, rfl⟩
  · rw [stAt0_B m c t acc h0 h1]; exact ⟨rfl, rfl⟩

/-- Every later point adds its own product to the sum. -/
theorem sum_later (c : Dev nD) (t : Fin cfg0.N) (acc : St F) (h0 : ¬t.val % 88 = 0) :
    (stAt0 m c t.val t.isLt acc).2.2.2 = k0_pay1 acc.2.2.2
      (k0_pay12 (grid0.coords t) acc.2.1 (iblk m c 3 t) (iblk m c 4 t) acc.2.2.1) (iblk m c 5 t) := by
  by_cases h1 : t.val % 88 = 87
  · rw [stAt0_C m c t acc h0 h1]
    dsimp only
    unfold sout0_C_2
    rw [View.read_writes_eq_canon _ _ _ (fun y => scover0_C_2 (y := y) ..)]
    unfold kernelRun0_C
    dsimp only
    sl_unfold_words
    rw [View.canon_unit_zero zeros2]
    simp only [View.readAt_eq_ld, (hs0_3 t).read_unread, (hs0_4 t).read_unread, (hs0_5 t).read_unread, (Memref.isWhole_whole _).read_unread,
      View.ld_unit_zero (S := S512x1024) zeros2, View.ld_unit_zero (S := S512x128) zeros2,
      View.ld_unit_zero (S := S1x1024x256) zeros3, View.ld_unit_zero (S := S1x256x1024) zeros3]
  · rw [stAt0_B m c t acc h0 h1]
    dsimp only
    unfold sout0_B_2
    rw [View.read_writes_eq_canon _ _ _ (fun y => scover0_B_2 (y := y) ..)]
    unfold kernelRun0_B
    dsimp only
    sl_unfold_words
    rw [View.canon_unit_zero zeros2]
    simp only [View.readAt_eq_ld, (hs0_3 t).read_unread, (hs0_4 t).read_unread, (hs0_5 t).read_unread, (Memref.isWhole_whole _).read_unread,
      View.ld_unit_zero (S := S512x1024) zeros2, View.ld_unit_zero (S := S512x128) zeros2,
      View.ld_unit_zero (S := S1x1024x256) zeros3, View.ld_unit_zero (S := S1x256x1024) zeros3]

/-- The last point of a row block writes the block plus the finished sum. -/
theorem out_last (c : Dev nD) (t : Fin cfg0.N) (acc : St F) (h0 : ¬t.val % 88 = 0) (h1 : t.val % 88 = 87) :
    (stAt0 m c t.val t.isLt acc).1 = k0_pay2 (iblk m c 0 t) (stAt0 m c t.val t.isLt acc).2.2.2 := by
  rw [sum_later m c t acc h0, stAt0_C m c t acc h0 h1]
  dsimp only
  unfold out0_C_6
  rw [View.read_writes_eq_canon _ _ _ (fun y => cover0_C_6 (y := y) ..)]
  unfold kernelRun0_C
  dsimp only
  sl_unfold_words
  rw [View.canon_unit_zero zeros2]
  simp only [View.readCov_unit_zero (S := S512x1024) _ zeros2]
  simp only [View.readAt_eq_ld, (hs0_0 t).read_unread, (hs0_3 t).read_unread, (hs0_4 t).read_unread, (hs0_5 t).read_unread, (Memref.isWhole_whole _).read_unread,
    View.ld_unit_zero (S := S512x1024) zeros2, View.ld_unit_zero (S := S512x128) zeros2,
    View.ld_unit_zero (S := S1x1024x256) zeros3, View.ld_unit_zero (S := S1x256x1024) zeros3]

end Cert.MoeIdeal.Point

end
-- ==== Proof.MoeBlocks.lean ====
/- What the mixture-of-experts call's windows read: each block of the inputs at an index, in terms of the arguments. -/
module

public import proofs.«01_k».proof.Proof.MoePoint
public import Idealize.ShloMosaic.Lib.Pointwise
public import Idealize.ShloMosaic.Lib.StableHlo.Run

@[expose] public section

set_option maxRecDepth 16384

noncomputable section

namespace Cert.MoeIdeal.Blocks

open Cert.MoeIdeal Cert.MoeIdeal.Gen Cert.MoeIdeal.Value Idealize.ShloMosaic Idealize.ShloMosaic.TcCoe Idealize.ShloMosaic.Tactic

variable (m : (ℓ : Loc nD τ sig) → Buf (Elt Ideal) ℓ)

/-- The arguments as functions of their indices. -/
abbrev X (c : Dev nD) : FVec Ideal S16384x1024 .f32 := m ((c : Thread nD τ).loc main_arg0)
abbrev G (c : Dev nD) : FVec Ideal S1024 .f32 := m ((c : Thread nD τ).loc main_arg1)
abbrev R (c : Dev nD) : FVec Ideal S1024x8 .f32 := m ((c : Thread nD τ).loc main_arg2)
abbrev Wg (c : Dev nD) : FVec Ideal S8x1024x2816 .f32 := m ((c : Thread nD τ).loc main_arg3)
abbrev Wu (c : Dev nD) : FVec Ideal S8x1024x2816 .f32 := m ((c : Thread nD τ).loc main_arg4)
abbrev Wd (c : Dev nD) : FVec Ideal S8x2816x1024 .f32 := m ((c : Thread nD τ).loc main_arg5)

theorem gain_eq (c : Dev nD) : V m c main_v1 = (shapeCast S1x1024 (G m c) shapeCasts_S1024_S1x1024 : FVec Ideal S1x1024 .f32) := by
  show StableHlo.after (hostOps0 ++ (hostOps0_1 ++ (hostOps0_2 ++ []))) _ _ = _
  simp only [hostOps0, hostOps0_1, hostOps0_2, List.cons_append, List.nil_append]
  after_results
  rfl

theorem router_eq (c : Dev nD) : V m c main_v0 =
    (pad S1024x128 ![0, 0] ![0, 120] ![0, 0] (R m c) (sitofp .f32 (constantI S_ 32 0#32) : FVec Ideal S_ .f32) pads_S1024x8_S1024x128_000_01200 h_S_ : FVec Ideal S1024x128 .f32) := by
  show StableHlo.after (hostOps0 ++ (hostOps0_1 ++ (hostOps0_2 ++ []))) _ _ = _
  simp only [hostOps0, hostOps0_1, hostOps0_2, List.cons_append, List.nil_append]
  after_results
  rfl

theorem gate_eq (c : Dev nD) : V m c main_v2 = (Wg m c : S8x1024x2816.Idx → EReal) := by
  show StableHlo.after (hostOps0 ++ (hostOps0_1 ++ (hostOps0_2 ++ []))) _ _ = _
  simp only [hostOps0, hostOps0_1, hostOps0_2, List.cons_append, List.nil_append]
  after_results
  rfl
theorem up_eq (c : Dev nD) : V m c main_v3 = (Wu m c : S8x1024x2816.Idx → EReal) := by
  show StableHlo.after (hostOps0 ++ (hostOps0_1 ++ (hostOps0_2 ++ []))) _ _ = _
  simp only [hostOps0, hostOps0_1, hostOps0_2, List.cons_append, List.nil_append]
  after_results
  rfl
theorem down_eq (c : Dev nD) : V m c main_v4 = (Wd m c : S8x2816x1024.Idx → EReal) := by
  show StableHlo.after (hostOps0 ++ (hostOps0_1 ++ (hostOps0_2 ++ []))) _ _ = _
  simp only [hostOps0, hostOps0_1, hostOps0_2, List.cons_append, List.nil_append]
  after_results
  rfl

theorem index0 : ∀ t : Fin grid0.N, win0_0.index t (0 : Fin 2) = t.val / 88 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 3) = t.val % 88 / 11 ∧ win0_3.index t (1 : Fin 3) = 0 ∧ win0_3.index t (2 : Fin 3) = t.val % 11 := by decide +kernel
theorem index4 : ∀ t : Fin grid0.N, win0_4.index t (0 : Fin 3) = t.val % 88 / 11 ∧ win0_4.index t (1 : Fin 3) = 0 ∧ win0_4.index t (2 : Fin 3) = t.val % 11 := by decide +kernel
theorem index5 : ∀ t : Fin grid0.N, win0_5.index t (0 : Fin 3) = t.val % 88 / 11 ∧ win0_5.index t (1 : Fin 3) = t.val % 11 ∧ win0_5.index t (2 : Fin 3) = 0 := by decide +kernel
theorem coord1 : ∀ t : Fin grid0.N, (grid0.coords t 1).val = t.val % 88 / 11 := by decide +kernel

/-- The row of the input that row `r` of point `t`'s block is. -/
def rowAt (t : Fin cfg0.N) (r : Fin 512) : Fin 16384 :=
  ⟨512 * (t.val / 88) + r.val, by have := t.isLt; have h : cfg0.N = 2816 := N_0; omega⟩
def expertAt (t : Fin cfg0.N) : Fin 8 := ⟨t.val % 88 / 11, by omega⟩
/-- The hidden unit that column `j` of point `t`'s tile is. -/
def unitAt (t : Fin cfg0.N) (j : Fin 256) : Fin 2816 := ⟨256 * (t.val % 11) + j.val, by omega⟩

theorem x_at (c : Dev nD) (t : Fin cfg0.N) (r : Fin 512) (k : Fin 1024) :
    (iblk m c 0 t : Vec Ideal S512x1024 .f32) (ix2 r k) = X m c (ix2 (rowAt t r) k) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 88) + r.val; rw [h0]; omega
  | ⟨1, _⟩ => show win0_0.index t 1 * 1024 + 1 * k.val = k.val; rw [h1]; omega

theorem gain_at (c : Dev nD) (t : Fin cfg0.N) (k : Fin 1024) :
    (iblk m c 1 t : Vec Ideal S1x1024 .f32) (ix2 0 k) = G m c (ix1 k) := by
  obtain ⟨h0, h1⟩ := index1 t
  have e : (iblk m c 1 t : Vec Ideal S1x1024 .f32) (ix2 0 k) = V m c main_v1 (ix2 (n0 := 1) (n1 := 1024) 0 k) := by
    unfold iblk
    rw [View.read_apply]
    show V m c main_v1 _ = _
    congr 1
    funext a
    apply Fin.ext
    match a with
    | ⟨0, _⟩ => show win0_1.index t 0 * 1 + 1 * 0 = 0; rw [h0]
    | ⟨1, _⟩ => show win0_1.index t 1 * 1024 + 1 * k.val = k.val; rw [h1]; omega
  rw [e, gain_eq]
  pointwise []

theorem router_at (c : Dev nD) (t : Fin cfg0.N) (k : Fin 1024) (l : Fin 128) (hl : l.val < 8) :
    (iblk m c 2 t : Vec Ideal S1024x128 .f32) (ix2 k l) = R m c (ix2 k ⟨l.val, hl⟩) := by
  obtain ⟨h0, h1⟩ := index2 t
  have e : (iblk m c 2 t : Vec Ideal S1024x128 .f32) (ix2 k l) = V m c main_v0 (ix2 (n0 := 1024) (n1 := 128) k l) := by
    unfold iblk
    rw [View.read_apply]
    show V m c main_v0 _ = _
    congr 1
    funext a
    apply Fin.ext
    match a with
    | ⟨0, _⟩ => show win0_2.index t 0 * 1024 + 1 * k.val = k.val; rw [h0]; omega
    | ⟨1, _⟩ => show win0_2.index t 1 * 128 + 1 * l.val = l.val; rw [h1]; omega
  rw [e, router_eq]
  unfold pad
  rw [dif_pos]
  · congr 1
    funext a
    apply Fin.ext
    match a with
    | ⟨0, _⟩ => show (k.val - 0) / 1 = k.val; omega
    | ⟨1, _⟩ => show (l.val - 0) / 1 = l.val; omega
  · intro a
    match a with
    | ⟨0, _⟩ => show 0 ≤ k.val ∧ (k.val - 0) % 1 = 0 ∧ (k.val - 0) / 1 < 1024; omega
    | ⟨1, _⟩ => show 0 ≤ l.val ∧ (l.val - 0) % 1 = 0 ∧ (l.val - 0) / 1 < 8; omega

theorem gate_at (c : Dev nD) (t : Fin cfg0.N) (k : Fin 1024) (j : Fin 256) :
    (iblk m c 3 t : Vec Ideal S1x1024x256 .bf16) (ix3 0 k j) = Wg m c (ix3 (expertAt t) k (unitAt t j)) := by
  obtain ⟨h0, h1, h2⟩ := index3 t
  unfold iblk
  rw [View.read_apply]
  show V m c main_v2 _ = _
  rw [gate_eq]
  congr 1
  funext a
  apply Fin.ext
  match a with
  | ⟨0, _⟩ => show win0_3.index t 0 * 1 + 1 * 0 = t.val % 88 / 11; rw [h0]; omega
  | ⟨1, _⟩ => show win0_3.index t 1 * 1024 + 1 * k.val = k.val; rw [h1]; omega
  | ⟨2, _⟩ => show win0_3.index t 2 * 256 + 1 * j.val = 256 * (t.val % 11) + j.val; rw [h2]; omega

theorem up_at (c : Dev nD) (t : Fin cfg0.N) (k : Fin 1024) (j : Fin 256) :
    (iblk m c 4 t : Vec Ideal S1x1024x256 .bf16) (ix3 0 k j) = Wu m c (ix3 (expertAt t) k (unitAt t j)) := by
  obtain ⟨h0, h1, h2⟩ := index4 t
  unfold iblk
  rw [View.read_apply]
  show V m c main_v3 _ = _
  rw [up_eq]
  congr 1
  funext a
  apply Fin.ext
  match a with
  | ⟨0, _⟩ => show win0_4.index t 0 * 1 + 1 * 0 = t.val % 88 / 11; rw [h0]; omega
  | ⟨1, _⟩ => show win0_4.index t 1 * 1024 + 1 * k.val = k.val; rw [h1]; omega
  | ⟨2, _⟩ => show win0_4.index t 2 * 256 + 1 * j.val = 256 * (t.val % 11) + j.val; rw [h2]; omega

theorem down_at (c : Dev nD) (t : Fin cfg0.N) (j : Fin 256) (k : Fin 1024) :
    (iblk m c 5 t : Vec Ideal S1x256x1024 .bf16) (ix3 0 j k) = Wd m c (ix3 (expertAt t) (unitAt t j) k) := by
  obtain ⟨h0, h1, h2⟩ := index5 t
  unfold iblk
  rw [View.read_apply]
  show V m c main_v4 _ = _
  rw [down_eq]
  congr 1
  funext a
  apply Fin.ext
  match a with
  | ⟨0, _⟩ => show win0_5.index t 0 * 1 + 1 * 0 = t.val % 88 / 11; rw [h0]; omega
  | ⟨1, _⟩ => show win0_5.index t 1 * 256 + 1 * j.val = 256 * (t.val % 11) + j.val; rw [h1]; omega
  | ⟨2, _⟩ => show win0_5.index t 2 * 1024 + 1 * k.val = k.val; rw [h2]; omega

end Cert.MoeIdeal.Blocks

end
-- ==== Proof.TopTwo.lean ====
/- The two greatest of eight extended reals, ties to the lower position: what a stable descending sort puts first and
   second, and what two rounds of "greatest, then lowest position that attains it" find over 128 lanes. -/
module

public import Idealize.ShloMosaic.Lib.Pointwise
public import Idealize.ShloMosaic.Lib.SortFacts
public import Idealize.ShloMosaic.Lib.IdealHost
public import Mathlib.Data.Finset.Fold

@[expose] public section

open Idealize Idealize.ShloMosaic

noncomputable section

namespace Cert.TopTwo

/-- Position `a` ranks ahead of `b`: its value is greater, or equal at a lower position. -/
def Ahead {n : ℕ} (L : Fin n → EReal) (a b : Fin n) : Prop := L b < L a ∨ (L b = L a ∧ a < b)

theorem Ahead.le {n : ℕ} {L : Fin n → EReal} {a b : Fin n} (h : Ahead L a b) : L b ≤ L a := by
  rcases h with h | h
  · exact h.le
  · exact h.1.le

/-- Inserting a position below every position of a ranked list keeps the list ranked. -/
theorem ranked_insert {n : ℕ} (L : Fin n → EReal) (before : Fin n → Fin n → Bool)
    (hb : ∀ a b, before a b = true ↔ L b < L a) (a : Fin n) (l : List (Fin n)) (hl : l.Pairwise (Ahead L))
    (ha : ∀ b ∈ l, a < b) : (insertBefore before a l).Pairwise (Ahead L) := by
  induction l with
  | nil => simp [insertBefore]
  | cons b l ih =>
    rw [List.pairwise_cons] at hl
    unfold insertBefore
    split
    · rename_i hba
      rw [List.pairwise_cons]
      refine ⟨fun c hc => ?_, ih hl.2 fun c hc => ha c (List.mem_cons_of_mem _ hc)⟩
      rw [(perm_insertBefore before a l).mem_iff, List.mem_cons] at hc
      rcases hc with rfl | hc
      · exact Or.inl ((hb _ _).mp hba)
      · exact hl.1 c hc
    · rename_i hba
      have hle : L b ≤ L a := not_lt.mp fun h => hba ((hb _ _).mpr h)
      rw [List.pairwise_cons]
      refine ⟨fun c hc => ?_, List.pairwise_cons.mpr hl⟩
      have hc' : L c ≤ L a := by
        rcases List.mem_cons.mp hc with rfl | hc
        · exact hle
        · exact (hl.1 c hc).le.trans hle
      rcases hc'.lt_or_eq with h | h
      · exact Or.inl h
      · exact Or.inr ⟨h, ha c hc⟩

/-- A stable sort by "greater first" ranks the positions. -/
theorem ranked_sort {n : ℕ} (L : Fin n → EReal) (before : Fin n → Fin n → Bool)
    (hb : ∀ a b, before a b = true ↔ L b < L a) (l : List (Fin n)) (hl : l.Pairwise (· < ·)) :
    (stableSort before l).Pairwise (Ahead L) := by
  induction l with
  | nil => simp [stableSort]
  | cons a l ih =>
    rw [List.pairwise_cons] at hl
    unfold stableSort
    refine ranked_insert L before hb a _ (ih hl.2) fun b hb' => hl.1 b ?_
    exact (perm_stableSort before l).mem_iff.mp hb'

/-- What the sort puts at an earlier place ranks ahead of what it puts at a later one. -/
theorem ahead_sortedFrom {n : ℕ} (L : Fin n → EReal) (before : Fin n → Fin n → Bool)
    (hb : ∀ a b, before a b = true ↔ L b < L a) {k k' : Fin n} (h : k < k') :
    Ahead L (sortedFrom before k) (sortedFrom before k') := by
  have := ranked_sort L before hb (List.finRange n) (List.pairwise_lt_finRange n)
  exact List.pairwise_iff_get.mp this _ _ (show k.val < k'.val from h)

/-- The position of the greatest of the eight values, the lowest such. -/
def first (L : Fin 8 → EReal) : Fin 8 := sortedFrom (fun k k' => decide (L k' < L k)) 0

/-- The position of the second greatest of the eight values, ties to the lower. -/
def second (L : Fin 8 → EReal) : Fin 8 := sortedFrom (fun k k' => decide (L k' < L k)) 1

theorem first_ne_second (L : Fin 8 → EReal) : second L ≠ first L := fun h =>
  absurd (sortedFrom_injective _ h) (by decide)

theorem first_ahead (L : Fin 8 → EReal) (j : Fin 8) (hj : j ≠ first L) : Ahead L (first L) j := by
  obtain ⟨k, rfl⟩ := sortedFrom_surjective (fun k k' => decide (L k' < L k)) j
  refine ahead_sortedFrom L _ (by simp) (Fin.pos_iff_ne_zero.mpr fun h => hj ?_)
  rw [h, first]

theorem second_ahead (L : Fin 8 → EReal) (j : Fin 8) (hj : j ≠ first L) (hj' : j ≠ second L) :
    Ahead L (second L) j := by
  obtain ⟨k, rfl⟩ := sortedFrom_surjective (fun k k' => decide (L k' < L k)) j
  refine ahead_sortedFrom L _ (by simp) ?_
  have h0 : k ≠ 0 := fun h => hj (by rw [h, first])
  have h1 : k ≠ 1 := fun h => hj' (by rw [h, second])
  revert h0 h1
  generalize k = q
  revert q
  decide

theorem le_first (L : Fin 8 → EReal) (j : Fin 8) : L j ≤ L (first L) := by
  by_cases h : j = first L
  · rw [h]
  · exact (first_ahead L j h).le

/-- The share of one of the two chosen experts: softmax over the two greatest values, the greatest subtracted. -/
def weight (L : Fin 8 → EReal) (e : Fin 8) : EReal :=
  (if e = first L then Ideal.div 1 (1 + Ideal.exp (L (second L) - L (first L))) else 0)
    + (if e = second L then
        Ideal.div (Ideal.exp (L (second L) - L (first L))) (1 + Ideal.exp (L (second L) - L (first L))) else 0)

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- Over finite values a weight is a nonnegative real. -/
theorem weight_real (L : Fin 8 → EReal) (hL : ∀ e, ∃ r : ℝ, L e = r) (e : Fin 8) :
    ∃ w : ℝ, 0 ≤ w ∧ weight L e = w := by
  obtain ⟨a, ha⟩ := hL (first L)
  obtain ⟨b, hb⟩ := hL (second L)
  have hp : 0 < 1 + Real.exp (b - a) := by positivity
  refine ⟨(if e = first L then 1 / (1 + Real.exp (b - a)) else 0)
    + (if e = second L then Real.exp (b - a) / (1 + Real.exp (b - a)) else 0), by positivity, ?_⟩
  have h1 : Ideal.exp ((b : EReal) - (a : EReal)) = ((Real.exp (b - a) : ℝ) : EReal) := by
    rw [← EReal.coe_sub]; rfl
  rw [weight, ha, hb, h1, ← EReal.coe_one, ← EReal.coe_add, div_coe _ _ hp.ne', div_coe _ _ hp.ne', EReal.coe_add]
  congr 1 <;> split_ifs <;> simp

/-! ### Two rounds over 128 lanes -/

theorem ofBits_bot : Ideal.ofBits .f32 4286578688#32 = ⊥ := by
  simp [Ideal.ofBits, Ideal.ieee]

theorem ofBits_top : Ideal.ofBits .f32 0x7F800000#32 = ⊤ := by
  simp [Ideal.ofBits, Ideal.ieee]

/-- A running maximum from below everything is the value at a position that is nowhere exceeded. -/
theorem lane_max {ι : Type} [Fintype ι] (f : ι → EReal) (i : ι) (h : ∀ j, f j ≤ f i) :
    Finset.fold max (Ideal.ofBits .f32 4286578688#32) f Finset.univ = f i := by
  rw [ofBits_bot]
  refine le_antisymm ?_ ?_
  · exact (Finset.fold_max_le _).mpr ⟨bot_le, fun j _ => h j⟩
  · exact (Finset.le_fold_max _).mpr (Or.inr ⟨i, Finset.mem_univ i, le_rfl⟩)

theorem minsi_le (x y : BitVec 32) (c : ℤ) : c ≤ (IntOp.minsi x y).toInt ↔ c ≤ x.toInt ∧ c ≤ y.toInt := by
  unfold IntOp.minsi
  rw [BitVec.slt_eq_decide]
  by_cases h : x.toInt < y.toInt
  · simp only [h, decide_true, if_true]; omega
  · simp only [h, decide_false, Bool.false_eq_true, if_false]; omega

theorem le_fold_minsi {ι : Type} (b : BitVec 32) (f : ι → BitVec 32) (s : Finset ι) (c : ℤ) :
    c ≤ (Finset.fold IntOp.minsi b f s).toInt ↔ c ≤ b.toInt ∧ ∀ i ∈ s, c ≤ (f i).toInt := by
  classical
  induction s using Finset.induction_on with
  | empty => simp
  | insert a s ha ih =>
    rw [Finset.fold_insert ha, minsi_le, ih]
    simp only [Finset.mem_insert, forall_eq_or_imp]
    tauto

theorem toInt_lane (x : Fin 128) : (BitVec.ofNat 32 (x : ℕ)).toInt = (x : ℕ) := by
  have := x.2
  rw [BitVec.toInt_eq_toNat_cond, BitVec.toNat_ofNat, Nat.mod_eq_of_lt (by omega), if_pos (by omega)]

/-- The least lane with a property, found as a signed minimum with a bound in the other lanes. -/
theorem lane_min (P : Fin 128 → Prop) [DecidablePred P] (i : Fin 128) (hi : P i) (h : ∀ j, P j → i ≤ j) :
    Finset.fold IntOp.minsi 2147483647#32 (fun x : Fin 128 => if P x then BitVec.ofNat 32 (x : ℕ) else 128#32) Finset.univ
      = BitVec.ofNat 32 (i : ℕ) := by
  apply BitVec.eq_of_toInt_eq
  have hib := i.2
  refine le_antisymm ?_ ?_
  · have := ((le_fold_minsi 2147483647#32 (fun x : Fin 128 => if P x then BitVec.ofNat 32 (x : ℕ) else 128#32)
      Finset.univ _).mp le_rfl).2 i (Finset.mem_univ i)
    simpa only [hi, if_true] using this
  · rw [le_fold_minsi]
    refine ⟨?_, fun j _ => ?_⟩
    · rw [toInt_lane, show (2147483647#32).toInt = 2147483647 from by decide]; omega
    · by_cases hj : P j
      · simp only [hj, if_true, toInt_lane]
        exact_mod_cast h j hj
      · simp only [hj, if_false]
        rw [toInt_lane, show (128#32).toInt = 128 from by decide]; omega

/-- Eight values spread over 128 lanes, the lanes past them at the bottom. -/
def spread (L : Fin 8 → EReal) (l : Fin 128) : EReal := if h : (l : ℕ) < 8 then L ⟨l, h⟩ else ⊥

/-- The lane of one of the eight positions. -/
def lane (e : Fin 8) : Fin 128 := ⟨e, by omega⟩

theorem spread_lane (L : Fin 8 → EReal) (e : Fin 8) : spread L (lane e) = L e := by
  simp [spread, lane]

theorem spread_le_first (L : Fin 8 → EReal) (l : Fin 128) : spread L l ≤ spread L (lane (first L)) := by
  rw [spread_lane, spread]
  split
  · exact le_first L _
  · exact bot_le

theorem first_least (L : Fin 8 → EReal) (hL : ∀ e, L e ≠ ⊥) (l : Fin 128) (h : spread L l = L (first L)) :
    lane (first L) ≤ l := by
  rw [spread] at h
  split at h
  · rename_i hl
    by_cases he : (⟨l, hl⟩ : Fin 8) = first L
    · rw [← he]; exact le_rfl
    · rcases first_ahead L _ he with h' | h'
      · exact absurd h h'.ne
      · exact h'.2.le
  · exact absurd h.symm (hL _)

/-- The lanes after the greatest is struck out. -/
def rest (L : Fin 8 → EReal) (l : Fin 128) : EReal := if l = lane (first L) then ⊥ else spread L l

theorem lane_ne (L : Fin 8 → EReal) : lane (second L) ≠ lane (first L) := by
  intro h
  refine first_ne_second L (Fin.ext ?_)
  simpa [lane] using h

theorem rest_second (L : Fin 8 → EReal) : rest L (lane (second L)) = L (second L) := by
  rw [rest, if_neg (lane_ne L), spread_lane]

theorem rest_le_second (L : Fin 8 → EReal) (l : Fin 128) : rest L l ≤ rest L (lane (second L)) := by
  rw [rest_second, rest]
  split
  · exact bot_le
  · rename_i hl
    rw [spread]
    split
    · rename_i h8
      by_cases he : (⟨l, h8⟩ : Fin 8) = second L
      · rw [he]
      · refine (second_ahead L _ (fun h => hl ?_) he).le
        rw [← h]; rfl
    · exact bot_le

theorem second_least (L : Fin 8 → EReal) (hL : ∀ e, L e ≠ ⊥) (l : Fin 128) (h : rest L l = L (second L)) :
    lane (second L) ≤ l := by
  rw [rest] at h
  split at h
  · exact absurd h.symm (hL _)
  · rename_i hl
    rw [spread] at h
    split at h
    · rename_i h8
      by_cases he : (⟨l, h8⟩ : Fin 8) = second L
      · rw [← he]; exact le_rfl
      · rcases second_ahead L _ (fun h => hl (by rw [← h]; rfl)) he with h' | h'
        · exact absurd h h'.ne
        · exact h'.2.le
    · exact absurd h.symm (hL _)

/-- One lane of the two shares. -/
theorem select_lane (l : Fin 128) (e : Fin 8) (a b : EReal) :
    Scalar.select (IntOp.cmpi .eq (BitVec.ofNat 32 (l : ℕ)) (BitVec.ofNat 32 (lane e : ℕ))) a b
      = if l = lane e then a else b := by
  have : (BitVec.ofNat 32 (l : ℕ) = BitVec.ofNat 32 (lane e : ℕ)) ↔ l = lane e := by
    rw [← BitVec.toInt_inj, toInt_lane, toInt_lane, Fin.ext_iff]; norm_cast
  by_cases h : l = lane e
  · subst h; simp [Scalar.select, IntOp.cmpi]
  · have h' : ¬ (BitVec.ofNat 32 (l : ℕ) = BitVec.ofNat 32 (lane e : ℕ)) := fun hh => h (this.mp hh)
    simp [Scalar.select, IntOp.cmpi, h, beq_eq_false_iff_ne.mpr h']

end Cert.TopTwo

end
-- ==== Proof.MoeSpec.lean ====
/- The mixture-of-experts layer over the extended reals: one token's normalised row, router values, expert products. -/
module

public import proofs.«01_k».proof.Proof.TopTwo

@[expose] public section

noncomputable section

namespace Cert.MoeSpec

open Idealize.ShloMosaic

/-- A row over its root mean square, times the gain. -/
def normed (x g : Fin 1024 → EReal) (k : Fin 1024) : EReal :=
  x k * Ideal.rsqrt (Ideal.div (∑ q, x q * x q) (Ideal.ofBits .f32 1149239296#32) + Ideal.ofBits .f32 897988541#32) * g k

/-- The router's value for each expert. -/
def logit (h : Fin 1024 → EReal) (R : Fin 1024 → Fin 8 → EReal) (e : Fin 8) : EReal := ∑ k, h k * R k e

/-- One hidden unit of an expert: the gate through SiLU, times the up projection. -/
def unit (h wg wu : Fin 1024 → EReal) : EReal :=
  ((∑ k, h k * wg k) * Ideal.div 1 (1 + Ideal.exp (-∑ k, h k * wg k))) * ∑ k, h k * wu k

theorem ofBits_1024 : Ideal.ofBits .f32 1149239296#32 = ((1024 : ℝ) : EReal) := by
  simp [Ideal.ofBits, Ideal.ieee]
  rw [← EReal.coe_mul]
  norm_num

theorem ofBits_eps : ∃ ε : ℝ, 0 < ε ∧ Ideal.ofBits .f32 897988541#32 = (ε : EReal) := by
  refine ⟨8796093 * 2 ^ (-43 : ℤ), by positivity, ?_⟩
  simp [Ideal.ofBits, Ideal.ieee]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem square_nonneg (x : EReal) : 0 ≤ x * x := by
  induction x with
  | bot => simp
  | top => simp
  | coe r => rw [← EReal.coe_mul]; exact_mod_cast mul_self_nonneg r

theorem square_top {x : EReal} (h : ¬∃ r : ℝ, x = r) : x * x = ⊤ := by
  induction x with
  | bot => simp
  | top => simp
  | coe r => exact absurd ⟨r, rfl⟩ h

/-- With a finite gain the normalised row is finite, whatever the row holds. -/
theorem normed_real (x g : Fin 1024 → EReal) (hg : ∀ k, ∃ r : ℝ, g k = r) (k : Fin 1024) :
    ∃ r : ℝ, normed x g k = r := by
  obtain ⟨γ, hγ⟩ := hg k
  obtain ⟨ε, hε, he⟩ := ofBits_eps
  rw [normed, ofBits_1024, he, hγ]
  by_cases hx : ∀ q, ∃ r : ℝ, x q = r
  · choose f hf using hx
    have hs : (∑ q, x q * x q) = ((∑ q, f q * f q : ℝ) : EReal) := by
      rw [coe_sum]; exact Finset.sum_congr rfl fun q _ => by rw [hf q, EReal.coe_mul]
    have h0 : 0 ≤ ∑ q, f q * f q := Finset.sum_nonneg fun q _ => mul_self_nonneg _
    have hp : 0 < (∑ q, f q * f q) / 1024 + ε := by positivity
    refine ⟨f k * (Real.sqrt ((∑ q, f q * f q) / 1024 + ε))⁻¹ * γ, ?_⟩
    rw [hs, TopTwo.div_coe _ _ (by norm_num), ← EReal.coe_add]
    show x k * (if _ then _ else if _ then _ else _) * _ = _
    rw [if_neg hp.not_gt, if_neg hp.ne', hf k, ← EReal.coe_mul, ← EReal.coe_mul]
  · obtain ⟨q, hq⟩ := not_forall.mp hx
    have hs : (∑ q, x q * x q) = ⊤ := by
      refine top_unique ?_
      rw [← square_top (x := x q) hq]
      exact Finset.single_le_sum (f := fun q => x q * x q) (fun q _ => square_nonneg _) (Finset.mem_univ q)
    have hd : Ideal.div ⊤ ((1024 : ℝ) : EReal) = ⊤ := by
      rw [Ideal.div, if_neg (by norm_num), ← EReal.coe_inv]
      exact EReal.top_mul_coe_of_pos (by norm_num)
    refine ⟨0, ?_⟩
    rw [hs, hd, EReal.top_add_coe]
    show x k * 0 * _ = _
    rw [mul_zero, zero_mul, EReal.coe_zero]

/-- With a finite router as well, so are the router's values. -/
theorem logit_real (h : Fin 1024 → EReal) (R : Fin 1024 → Fin 8 → EReal) (hh : ∀ k, ∃ r : ℝ, h k = r)
    (hR : ∀ k e, ∃ r : ℝ, R k e = r) (e : Fin 8) : ∃ r : ℝ, logit h R e = r := by
  choose f hf using hh
  choose r hr using hR
  refine ⟨∑ k, f k * r k e, ?_⟩
  rw [coe_sum, logit]
  exact Finset.sum_congr rfl fun k _ => by rw [hf, hr, EReal.coe_mul]

/-- A nonnegative real factor goes into a sum. -/
theorem mul_sum_real {ι : Type} (w : ℝ) (hw : 0 ≤ w) (s : Finset ι) (f : ι → EReal) :
    (w : EReal) * ∑ i ∈ s, f i = ∑ i ∈ s, (w : EReal) * f i := by
  classical
  induction s using Finset.induction_on with
  | empty => simp
  | insert a s ha ih =>
    rw [Finset.sum_insert ha, Finset.sum_insert ha, ← ih]
    exact EReal.left_distrib_of_nonneg_of_ne_top (by exact_mod_cast hw) (EReal.coe_ne_top w) _ _

end Cert.MoeSpec

end
-- ==== Proof.MoePay.lean ====
/- The mixture-of-experts call's arithmetic on blocks, read at an index. -/
module

public import proofs.«01_k».proof.Proof.MoePoint
public import proofs.«01_k».proof.Proof.MoeSpec

@[expose] public section

set_option maxRecDepth 16384

noncomputable section

namespace Cert.MoeIdeal.Pay

open Cert.MoeIdeal Cert.MoeIdeal.Gen Cert.MoeIdeal.Point Idealize.ShloMosaic Cert.TopTwo Cert.MoeSpec

variable (x0 : Vec Ideal S512x1024 .f32) (x1 : Vec Ideal S1x1024 .f32) (x2 : Vec Ideal S1024x128 .f32)

/-- The normalised row `r` of a block. -/
abbrev row (r : Fin 512) : Fin 1024 → EReal := normed (fun q => x0 (ix2 r q)) (fun q => x1 (ix2 0 q))

/-- The router's values for row `r` of a block. -/
abbrev values (r : Fin 512) : Fin 8 → EReal := logit (row x0 x1 r) (fun k e => x2 (ix2 k (lane e)))

theorem pay3_at (r : Fin 512) (k : Fin 1024) : k0_pay3 x0 x1 (ix2 r k) = row x0 x1 r k := by
  pointwise [k0_pay3]
  rfl

theorem rows_at (r : Fin 512) (k : Fin 1024) : k0_pay4 x0 x1 (ix2 r k) = row x0 x1 r k := by
  rw [← pay3_at]
  pointwise [k0_pay4]

theorem slt_eight (l : Fin 128) (a b : EReal) :
    Scalar.select (IntOp.cmpi .slt (BitVec.ofNat 32 (l : ℕ)) 8#32) a b = if (l : ℕ) < 8 then a else b := by
  have h8 : (8#32).toInt = 8 := by decide
  have : (BitVec.ofNat 32 (l : ℕ)).slt 8#32 = decide ((l : ℕ) < 8) := by
    rw [BitVec.slt_eq_decide, toInt_lane, h8]
    exact decide_eq_decide.mpr (by omega)
  by_cases h : (l : ℕ) < 8 <;> simp [Scalar.select, IntOp.cmpi, this, h]

theorem logits_at (r : Fin 512) (l : Fin 128) : k0_pay5 lanes x0 x1 x2 (ix2 r l) = spread (values x0 x1 x2 r) l := by
  have e : k0_pay5 lanes x0 x1 x2 (ix2 r l)
      = Scalar.select (IntOp.cmpi .slt (BitVec.ofNat 32 (l : ℕ)) 8#32)
          (∑ x, k0_pay3 x0 x1 (ix2 r x) * x2 (ix2 x l)) (Ideal.ofBits .f32 4286578688#32) := by
    pointwise [k0_pay5, lanes]
  rw [e, slt_eight, spread, ofBits_bot]
  split
  · simp only [pay3_at]; rfl
  · rfl

variable (r : Fin 512)

theorem max1_at : k0_pay6 lanes x0 x1 x2 (ix2 r 0) = values x0 x1 x2 r (first (values x0 x1 x2 r)) := by
  have e : k0_pay6 lanes x0 x1 x2 (ix2 r 0)
      = Finset.fold max (Ideal.ofBits .f32 4286578688#32) (fun l => k0_pay5 lanes x0 x1 x2 (ix2 r l)) Finset.univ := by
    pointwise [k0_pay6]
  rw [e]
  simp only [logits_at]
  rw [lane_max _ _ (spread_le_first _), spread_lane]

theorem arg1_at (hL : ∀ e, values x0 x1 x2 r e ≠ ⊥) :
    k0_pay7 lanes x0 x1 x2 (ix2 r 0) = BitVec.ofNat 32 (lane (first (values x0 x1 x2 r)) : ℕ) := by
  have e : k0_pay7 lanes x0 x1 x2 (ix2 r 0)
      = Finset.fold IntOp.minsi 2147483647#32 (fun l : Fin 128 => if k0_pay5 lanes x0 x1 x2 (ix2 r l) = k0_pay6 lanes x0 x1 x2 (ix2 r 0)
          then BitVec.ofNat 32 (l : ℕ) else 128#32) Finset.univ := by
    pointwise [k0_pay7]
  rw [e]
  simp only [logits_at, max1_at]
  exact lane_min (fun l => spread _ l = _) _ (spread_lane _ _) (first_least _ hL)

theorem rest_at (hL : ∀ e, values x0 x1 x2 r e ≠ ⊥) (l : Fin 128) :
    k0_pay8 lanes x0 x1 x2 (ix2 r l) = rest (values x0 x1 x2 r) l := by
  have e : k0_pay8 lanes x0 x1 x2 (ix2 r l)
      = Scalar.select (IntOp.cmpi .eq (BitVec.ofNat 32 (l : ℕ)) (k0_pay7 lanes x0 x1 x2 (ix2 r 0)))
          (Ideal.ofBits .f32 4286578688#32) (k0_pay5 lanes x0 x1 x2 (ix2 r l)) := by
    pointwise [k0_pay8]
  rw [e, arg1_at x0 x1 x2 r hL, select_lane, logits_at, ofBits_bot]
  rfl

theorem max2_at (hL : ∀ e, values x0 x1 x2 r e ≠ ⊥) :
    k0_pay9 lanes x0 x1 x2 (ix2 r 0) = values x0 x1 x2 r (second (values x0 x1 x2 r)) := by
  have e : k0_pay9 lanes x0 x1 x2 (ix2 r 0)
      = Finset.fold max (Ideal.ofBits .f32 4286578688#32) (fun l => k0_pay8 lanes x0 x1 x2 (ix2 r l)) Finset.univ := by
    pointwise [k0_pay9]
  rw [e]
  simp only [rest_at x0 x1 x2 r hL]
  rw [lane_max _ _ (rest_le_second _), rest_second]

/-- The routing weights of row `r`: the two shares at the two chosen experts' lanes. -/
theorem comb_at (hL : ∀ e, values x0 x1 x2 r e ≠ ⊥) (l : Fin 128) :
    combOf x0 x1 x2 (ix2 r l)
      = (if l = lane (first (values x0 x1 x2 r)) then
          Ideal.div 1 (1 + Ideal.exp (values x0 x1 x2 r (second (values x0 x1 x2 r)) - values x0 x1 x2 r (first (values x0 x1 x2 r)))) else 0)
        + (if l = lane (second (values x0 x1 x2 r)) then
          Ideal.div (Ideal.exp (values x0 x1 x2 r (second (values x0 x1 x2 r)) - values x0 x1 x2 r (first (values x0 x1 x2 r))))
            (1 + Ideal.exp (values x0 x1 x2 r (second (values x0 x1 x2 r)) - values x0 x1 x2 r (first (values x0 x1 x2 r)))) else 0) := by
  have e : combOf x0 x1 x2 (ix2 r l)
      = Scalar.select (IntOp.cmpi .eq (BitVec.ofNat 32 (l : ℕ)) (k0_pay7 lanes x0 x1 x2 (ix2 r 0)))
          (Ideal.div 1 (1 + Ideal.exp (k0_pay9 lanes x0 x1 x2 (ix2 r 0) - k0_pay6 lanes x0 x1 x2 (ix2 r 0)))) 0
        + Scalar.select (IntOp.cmpi .eq (BitVec.ofNat 32 (l : ℕ))
            (Finset.fold IntOp.minsi 2147483647#32 (fun l : Fin 128 => if k0_pay8 lanes x0 x1 x2 (ix2 r l) = k0_pay9 lanes x0 x1 x2 (ix2 r 0)
              then BitVec.ofNat 32 (l : ℕ) else 128#32) Finset.univ))
          (Ideal.div (Ideal.exp (k0_pay9 lanes x0 x1 x2 (ix2 r 0) - k0_pay6 lanes x0 x1 x2 (ix2 r 0)))
            (1 + Ideal.exp (k0_pay9 lanes x0 x1 x2 (ix2 r 0) - k0_pay6 lanes x0 x1 x2 (ix2 r 0)))) 0 := by
    unfold combOf
    pointwise [k0_pay10]
  rw [e]
  simp only [rest_at x0 x1 x2 r hL, max2_at x0 x1 x2 r hL, max1_at, arg1_at x0 x1 x2 r hL]
  rw [lane_min (fun l => rest _ l = _) _ (rest_second _) (second_least _ hL), select_lane, select_lane]

/-- The weight the body picks for expert `e` out of the lanes. -/
theorem picked (hL : ∀ e, values x0 x1 x2 r e ≠ ⊥) (e : Fin 8) :
    (∑ l : Fin 128, Scalar.select (IntOp.cmpi .eq (BitVec.ofNat 32 (l : ℕ)) (BitVec.ofNat 32 (e : ℕ))) (combOf x0 x1 x2 (ix2 r l)) 0)
      = weight (values x0 x1 x2 r) e := by
  have inj : ∀ a b : Fin 8, lane a = lane b ↔ a = b := fun a b => by simp [lane, Fin.ext_iff]
  have hs : ∀ l : Fin 128, Scalar.select (IntOp.cmpi .eq (BitVec.ofNat 32 (l : ℕ)) (BitVec.ofNat 32 (e : ℕ))) (combOf x0 x1 x2 (ix2 r l)) 0
      = if l = lane e then combOf x0 x1 x2 (ix2 r l) else 0 := fun l => select_lane l e _ _
  simp only [hs]
  rw [Finset.sum_ite_eq' Finset.univ (lane e), if_pos (Finset.mem_univ _), comb_at x0 x1 x2 r hL, weight]
  simp only [inj]

/-- The hidden units of a tile, each times the row's weight for the tile's expert. -/
theorem act_at (i : grid0.Coords) (v6 : Vec Ideal S512x1024 .bf16) (v7 v18 : Vec Ideal S1x1024x256 .bf16)
    (v24 : Vec Ideal S512x128 .f32) (k : Fin 256) :
    k0_pay12 i v6 v7 v18 v24 (ix2 r k)
      = unit (fun x => v6 (ix2 r x)) (fun x => v7 (ix3 0 x k)) (fun x => v18 (ix3 0 x k))
        * ∑ l : Fin 128, Scalar.select (IntOp.cmpi .eq (BitVec.ofNat 32 (l : ℕ)) (BitVec.ofNat 32 (i 1).val)) (v24 (ix2 r l)) 0 := by
  pointwise [k0_pay12]
  simp only [unit, zero_sub]

theorem add_at (v29 : Vec Ideal S512x1024 .f32) (v31 : FVec Ideal S512x256 .f32) (v32 : Vec Ideal S1x256x1024 .bf16)
    (k : Fin 1024) : k0_pay1 v29 v31 v32 (ix2 r k) = v29 (ix2 r k) + ∑ x, v31 (ix2 r x) * v32 (ix3 0 x k) := by
  pointwise [k0_pay1]

theorem out_at (v : Vec Ideal S512x1024 .f32) (a : Vec Ideal S512x1024 .f32) (k : Fin 1024) :
    k0_pay2 v a (ix2 r k) = v (ix2 r k) + a (ix2 r k) := by
  pointwise [k0_pay2]

theorem zero_at (k : Fin 1024) : k0_pay11 (F := Ideal) (ix2 r k) = 0 := by
  pointwise [k0_pay11]

end Cert.MoeIdeal.Pay

end
-- ==== Proof.MoeFold.lean ====
/- The mixture-of-experts call's result: the fold over a row block's 88 points, expert by expert and tile by tile. -/
module

public import proofs.«01_k».proof.Proof.MoeBlocks
public import proofs.«01_k».proof.Proof.MoePay

@[expose] public section

set_option maxRecDepth 16384

noncomputable section

namespace Cert.MoeIdeal.Fold

open Cert.MoeIdeal Cert.MoeIdeal.Gen Cert.MoeIdeal.Value Cert.MoeIdeal.Point Cert.MoeIdeal.Pay Cert.MoeIdeal.Blocks
open Idealize.ShloMosaic Idealize.ShloMosaic.TcCoe Cert.TopTwo Cert.MoeSpec

variable (m : (ℓ : Loc nD τ sig) → Buf (Elt Ideal) ℓ) (c : Dev nD)

/-- Token `T`'s normalised row. -/
def hrow (T : Fin 16384) : Fin 1024 → EReal := normed (fun q => X m c (ix2 T q)) (fun q => G m c (ix1 q))
/-- Token `T`'s router values. -/
def route (T : Fin 16384) : Fin 8 → EReal := logit (hrow m c T) (fun k e => R m c (ix2 k e))
/-- Hidden unit `u` of expert `e` for token `T`. -/
def hid (T : Fin 16384) (e : Fin 8) (u : Fin 2816) : EReal :=
  unit (hrow m c T) (fun k => Wg m c (ix3 e k u)) (fun k => Wu m c (ix3 e k u))
/-- The contribution of one expert's hidden unit to column `k` of token `T`. -/
def part (T : Fin 16384) (k : Fin 1024) (e : Fin 8) (u : Fin 2816) : EReal :=
  hid m c T e u * weight (route m c T) e * Wd m c (ix3 e u k)
/-- What the `q`-th point of a row block adds. -/
def term (T : Fin 16384) (k : Fin 1024) (q : ℕ) : EReal :=
  ∑ j : Fin 256, part m c T k ⟨q / 11 % 8, by omega⟩ ⟨256 * (q % 11) + j.val, by omega⟩

theorem row_eq (t : Fin cfg0.N) (r : Fin 512) : row (iblk m c 0 t) (iblk m c 1 t) r = hrow m c (rowAt t r) := by
  funext k
  simp only [row, hrow]
  rw [show (fun q => (iblk m c 0 t : Vec Ideal S512x1024 .f32) (ix2 r q)) = fun q => X m c (ix2 (rowAt t r) q) from
    funext fun q => x_at m c t r q,
    show (fun q => (iblk m c 1 t : Vec Ideal S1x1024 .f32) (ix2 0 q)) = fun q => G m c (ix1 q) from
    funext fun q => gain_at m c t q]

theorem values_eq (t : Fin cfg0.N) (r : Fin 512) :
    values (iblk m c 0 t) (iblk m c 1 t) (iblk m c 2 t) r = route m c (rowAt t r) := by
  unfold values route
  rw [row_eq]
  congr 1
  funext k e
  exact router_at m c t k (lane e) e.isLt

/-- What point `t` adds to the sum, given the rows and the weights it finds. -/
theorem added (t : Fin cfg0.N) (r : Fin 512) (h : Vec Ideal S512x1024 .bf16) (w : Vec Ideal S512x128 .f32)
    (a : Vec Ideal S512x1024 .f32) (hh : ∀ k, h (ix2 r k) = hrow m c (rowAt t r) k)
    (hw : ∀ e : Fin 8, (∑ l : Fin 128, Scalar.select (IntOp.cmpi .eq (BitVec.ofNat 32 (l : ℕ)) (BitVec.ofNat 32 (e : ℕ)))
      (w (ix2 r l)) 0) = weight (route m c (rowAt t r)) e) (k : Fin 1024) :
    k0_pay1 a (k0_pay12 (grid0.coords t) h (iblk m c 3 t) (iblk m c 4 t) w) (iblk m c 5 t) (ix2 r k)
      = a (ix2 r k) + term m c (rowAt t r) k (t.val % 88) := by
  rw [add_at]
  congr 1
  unfold term part
  refine Finset.sum_congr rfl fun j _ => ?_
  have he : (⟨t.val % 88 / 11 % 8, by omega⟩ : Fin 8) = expertAt t := Fin.ext (by show t.val % 88 / 11 % 8 = t.val % 88 / 11; omega)
  have hu : (⟨256 * (t.val % 88 % 11) + j.val, by omega⟩ : Fin 2816) = unitAt t j :=
    Fin.ext (by show 256 * (t.val % 88 % 11) + j.val = 256 * (t.val % 11) + j.val; omega)
  rw [he, hu, act_at, down_at m c t j k, show (grid0.coords t 1).val = (expertAt t).val from coord1 t, hw]
  unfold hid
  rw [show (fun x => h (ix2 r x)) = hrow m c (rowAt t r) from funext hh,
    show (fun x => (iblk m c 3 t : Vec Ideal S1x1024x256 .bf16) (ix3 0 x j)) = fun x => Wg m c (ix3 (expertAt t) x (unitAt t j)) from
      funext fun x => gate_at m c t x j,
    show (fun x => (iblk m c 4 t : Vec Ideal S1x1024x256 .bf16) (ix3 0 x j)) = fun x => Wu m c (ix3 (expertAt t) x (unitAt t j)) from
      funext fun x => up_at m c t x j]

/-- The state after point `n`. -/
abbrev state (n : ℕ) (h : 0 + n < cfg0.N) : St Ideal :=
  Pipeline.accAt (fun n h => stAt0 m c n h junk0) (stAt0 m c) 0 n h

/-- What holds after point `t`: the rows and weights of its row block, and the sum of the block's points so far. -/
def Holds (t : Fin cfg0.N) (s : St Ideal) : Prop := ∀ r : Fin 512,
  (∀ k, s.2.1 (ix2 r k) = hrow m c (rowAt t r) k)
  ∧ (∀ e : Fin 8, (∑ l : Fin 128, Scalar.select (IntOp.cmpi .eq (BitVec.ofNat 32 (l : ℕ)) (BitVec.ofNat 32 (e : ℕ)))
      (s.2.2.1 (ix2 r l)) 0) = weight (route m c (rowAt t r)) e)
  ∧ ∀ k, s.2.2.2 (ix2 r k) = ∑ q ∈ Finset.range (t.val % 88 + 1), term m c (rowAt t r) k q

variable (hfin : ∀ T e, route m c T e ≠ ⊥)
include hfin

/-- The first point of a row block starts the sum, whatever it finds. -/
theorem holds_first (t : Fin cfg0.N) (acc : St Ideal) (h0 : t.val % 88 = 0) : Holds m c t (stAt0 m c t.val t.isLt acc) := by
  have h1 : ¬t.val % 88 = 87 := by omega
  intro r
  have hh : ∀ k, k0_pay4 (iblk m c 0 t) (iblk m c 1 t) (ix2 r k) = hrow m c (rowAt t r) k := fun k => by
    rw [rows_at, row_eq]
  have hw : ∀ e : Fin 8, (∑ l : Fin 128, Scalar.select (IntOp.cmpi .eq (BitVec.ofNat 32 (l : ℕ)) (BitVec.ofNat 32 (e : ℕ)))
      (combOf (iblk m c 0 t) (iblk m c 1 t) (iblk m c 2 t) (ix2 r l)) 0) = weight (route m c (rowAt t r)) e := fun e => by
    rw [picked _ _ _ _ (by rw [values_eq]; exact hfin _), values_eq]
  refine ⟨fun k => ?_, fun e => ?_, fun k => ?_⟩
  · rw [rows_first m c t acc h0 h1]; exact hh k
  · rw [comb_first m c t acc h0 h1]; exact hw e
  · rw [sum_first m c t acc h0 h1, added m c t r _ _ _ hh hw, zero_at, zero_add, h0, Finset.sum_range_one]

/-- A later point of a row block goes on from what the point before left. -/
theorem holds_later (n : ℕ) (h : n + 1 < cfg0.N) (acc : St Ideal) (h0 : ¬(n + 1) % 88 = 0)
    (ih : Holds m c ⟨n, by omega⟩ acc) : Holds m c ⟨n + 1, h⟩ (stAt0 m c (n + 1) h acc) := by
  intro r
  obtain ⟨ih1, ih2, ih3⟩ := ih r
  have hr : rowAt (⟨n, by omega⟩ : Fin cfg0.N) r = rowAt (⟨n + 1, h⟩ : Fin cfg0.N) r :=
    Fin.ext (by show 512 * (n / 88) + r.val = 512 * ((n + 1) / 88) + r.val; omega)
  rw [hr] at ih1 ih2
  have hl := rows_later m c ⟨n + 1, h⟩ acc h0
  refine ⟨fun k => ?_, fun e => ?_, fun k => ?_⟩
  · rw [hl.1]; exact ih1 k
  · rw [hl.2]; exact ih2 e
  · rw [sum_later m c ⟨n + 1, h⟩ acc h0, added m c ⟨n + 1, h⟩ r _ _ _ ih1 ih2, ih3 k, hr]
    show _ + term m c _ k ((n + 1) % 88) = ∑ q ∈ Finset.range ((n + 1) % 88 + 1), _
    rw [show (n + 1) % 88 = n % 88 + 1 by omega, Finset.sum_range_succ _ (n % 88 + 1)]

theorem holds (n : ℕ) (h : 0 + n < cfg0.N) : Holds m c ⟨n, by omega⟩ (state m c n h) := by
  induction n with
  | zero => exact holds_first m c hfin ⟨0, by omega⟩ junk0 rfl
  | succ n ih =>
    have e : state m c (n + 1) h = stAt0 m c (n + 1) (by omega) (state m c n (by omega)) := by
      show stAt0 m c (0 + (n + 1)) _ _ = _
      congr 1
      omega
    rw [e]
    by_cases h0 : (n + 1) % 88 = 0
    · exact holds_first m c hfin ⟨n + 1, by omega⟩ _ h0
    · exact holds_later m c hfin n (by omega) _ h0 (ih (by omega))

omit hfin in
theorem sum_terms (T : Fin 16384) (k : Fin 1024) :
    ∑ q ∈ Finset.range 88, term m c T k q = ∑ e : Fin 8, ∑ u : Fin 2816, part m c T k e u := by
  rw [Finset.sum_range, ← (finProdFinEquiv (m := 8) (n := 11)).sum_comp, Fintype.sum_prod_type]
  refine Finset.sum_congr rfl fun e _ => ?_
  rw [← (finProdFinEquiv (m := 11) (n := 256)).sum_comp, Fintype.sum_prod_type]
  refine Finset.sum_congr rfl fun f _ => ?_
  unfold term
  refine Finset.sum_congr rfl fun j _ => ?_
  have he := e.isLt
  have hf := f.isLt
  congr 1 <;> apply Fin.ext
  · show (f.val + 11 * e.val) / 11 % 8 = e.val; omega
  · show 256 * ((f.val + 11 * e.val) % 11) + j.val = j.val + 256 * f.val; omega

/-- What the result holds at token `T`, column `k`. -/
theorem result_at (T : Fin 16384) (k : Fin 1024) :
    G6 m c (ix2 T k) = X m c (ix2 T k) + ∑ e : Fin 8, ∑ u : Fin 2816, part m c T k e u := by
  have hT := T.isLt
  have hk := k.isLt
  have hN : cfg0.N = 2816 := N_0
  have hp : pt6Of (ix2 T k) = 88 * (T.val / 512) + 87 := by
    show 88 * (1 * (T.val / 512 - 0) + 1 * (k.val / 1024 - 0)) + 87 = _
    omega
  have hl : loc6Of (ix2 T k) = ix2 (⟨T.val % 512, by omega⟩ : Fin 512) k := by
    funext a
    match a with
    | ⟨0, _⟩ => rfl
    | ⟨1, _⟩ => exact Fin.ext (Nat.mod_eq_of_lt hk)
  have hlt : pt6Of (ix2 T k) < cfg0.N := by rw [hp, hN]; omega
  unfold G6
  rw [dif_pos hlt, hl]
  set n := 88 * (T.val / 512) + 87 with hn
  rw [fold0_congr m c _ _ n (by omega) hp]
  have e : (n : ℕ) = (n - 1) + 1 := by omega
  have hst : state m c n (by omega) = stAt0 m c n (by omega) (state m c (n - 1) (by omega)) := by
    have : ∀ (a : ℕ) (h : 0 + (a + 1) < cfg0.N), state m c (a + 1) h = stAt0 m c (a + 1) (by omega) (state m c a (by omega)) := by
      intro a h
      show stAt0 m c (0 + (a + 1)) _ _ = _
      congr 1
      omega
    exact this (88 * (T.val / 512) + 86) (by omega)
  have hH := (holds m c hfin n (by omega) ⟨T.val % 512, by omega⟩).2.2 k
  have hrow' : rowAt (⟨n, by omega⟩ : Fin cfg0.N) ⟨T.val % 512, by omega⟩ = T :=
    Fin.ext (by show 512 * (n / 88) + T.val % 512 = T.val; omega)
  have ho := out_last m c ⟨n, by omega⟩ (state m c (n - 1) (by omega)) (by show ¬n % 88 = 0; omega) (by show n % 88 = 87; omega)
  show (state m c n (by omega)).1 _ = _
  rw [hst] at hH ⊢
  rw [ho, out_at, x_at, hrow']
  congr 1
  refine hH.trans ?_
  rw [hrow']
  show ∑ q ∈ Finset.range (n % 88 + 1), _ = _
  rw [show n % 88 + 1 = 88 by omega, sum_terms]

end Cert.MoeIdeal.Fold

end
-- ==== Proof.MoeRefValue.lean ====
/- The reference mixture of experts, read at an index: its routing by a stable top-two, a softmax and one-hot rows, and its
   experts one after the other. -/
module

public import proofs.«01_k».proof.Proof.Gen.MoeRefIdeal.Read
public import proofs.«01_k».proof.Proof.MoeSpec

@[expose] public section

set_option maxRecDepth 16384

noncomputable section

namespace Cert.MoeRefIdeal.Point

open Cert.MoeRefIdeal Cert.MoeRefIdeal.Gen Cert.MoeRefIdeal.Read Idealize.ShloMosaic Cert.TopTwo Cert.MoeSpec

variable (x0 : FVec Ideal S16384x1024 .f32) (x1 : FVec Ideal S1024 .f32) (x2 : FVec Ideal S1024x8 .f32)
variable (x3 x4 : FVec Ideal S8x1024x2816 .f32) (x5 : FVec Ideal S8x2816x1024 .f32)

/-- Token `T`'s normalised row and router values. -/
def hrow (T : Fin 16384) : Fin 1024 → EReal := normed (fun q => x0 (ix2 T q)) (fun q => x1 (ix1 q))
def route (T : Fin 16384) : Fin 8 → EReal := logit (hrow x0 x1 T) (fun k e => x2 (ix2 k e))

theorem h_at (T : Fin 16384) (k : Fin 1024) : val_main_v12 (F := Ideal) x0 x1 (ix2 T k) = hrow x0 x1 T k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem logits_at (T : Fin 16384) (e : Fin 8) : val_main_v13 (F := Ideal) x0 x1 x2 (ix2 T e) = route x0 x1 x2 T e := by
  have h : val_main_v13 (F := Ideal) x0 x1 x2 (ix2 T e) = ∑ x, val_main_v12 (F := Ideal) x0 x1 (ix2 T x) * x2 (ix2 x e) := by
    pointwise [val_main_v13]
  rw [h]
  simp only [h_at]
  rfl

/-- The place in the row that the stable descending sort puts at `a`. -/
def chosen (T : Fin 16384) (a : Fin 8) : Fin 8 :=
  sortedFrom (fun k k' => decide (route x0 x1 x2 T k' < route x0 x1 x2 T k)) a

theorem along_eq (T : Fin 16384) (e a : Fin 8) :
    Shape.Idx.along (s := S16384x8) (ix2 T e) (1 : Fin 2) a = ix2 T a := by
  funext q
  match q with
  | ⟨0, _⟩ => rfl
  | ⟨1, _⟩ => rfl

/-- The first two columns of a matrix of eight. -/
theorem columns_at {α : Type} (y : S16384x8.Idx → α) (h : S16384x8.Slices (fun _ => 0) S16384x2) (T : Fin 16384) (j : Fin 2) :
    extractStridedSlice S16384x2 (fun _ => 0) y h (ix2 T j) = y (ix2 T (⟨j.val, by omega⟩ : Fin 8)) := by
  unfold extractStridedSlice
  congr 1
  funext a
  match a with
  | ⟨0, _⟩ => exact Fin.ext (Nat.zero_add _)
  | ⟨1, _⟩ => exact Fin.ext (Nat.zero_add _)

/-- The sort's order of a row, the row's values named. -/
theorem order_eq (x : FVec Ideal S16384x8 .f32) (T : Fin 16384) (e : Fin 8) (L : Fin 8 → EReal) (hx : ∀ e, x (ix2 T e) = L e) :
    (fun k k' : Fin 8 => FloatOps.cmpfTotal (F := Ideal) (φ := .f32) .gt
        (x (Shape.Idx.along (s := S16384x8) (ix2 T e) (1 : Fin 2) k))
        (x (Shape.Idx.along (s := S16384x8) (ix2 T e) (1 : Fin 2) k')) == 1#1)
      = fun k k' => decide (L k' < L k) := by
  funext k k'
  rw [along_eq, along_eq, hx, hx]
  show (BitVec.ofBool (decide (L k' < L k)) == 1#1) = _
  by_cases h : L k' < L k <;> simp [h]

/-- The sorted row with its positions, at column `e`: the element the sort puts there, and where it stood. -/
theorem sorted_at (x : FVec Ideal S16384x8 .f32) (idx : IVec S16384x8 32) (T : Fin 16384) (e : Fin 8) (L : Fin 8 → EReal)
    (hx : ∀ e, x (ix2 T e) = L e) (hidx : ∀ e : Fin 8, idx (ix2 T e) = BitVec.ofNat 32 e.val) :
    (Host.sort2 S16384x8 1 (fun l r => FloatOps.cmpfTotal (F := Ideal) (φ := .f32) .gt l.1 r.1) x idx).1 (ix2 T e)
        = L (sortedFrom (fun k k' => decide (L k' < L k)) e)
    ∧ (Host.sort2 S16384x8 1 (fun l r => FloatOps.cmpfTotal (F := Ideal) (φ := .f32) .gt l.1 r.1) x idx).2 (ix2 T e)
        = BitVec.ofNat 32 (sortedFrom (fun k k' => decide (L k' < L k)) e).val := by
  unfold Host.sort2
  rw [dif_pos (show 1 < S16384x8.rank by decide)]
  have ho := order_eq x T e L hx
  constructor
  · refine Eq.trans ?_ (hx _)
    refine Eq.trans ?_ (congrArg x (along_eq T e _))
    rw [← ho]
    rfl
  · refine Eq.trans ?_ (hidx _)
    refine Eq.trans ?_ (congrArg idx (along_eq T e _))
    rw [← ho]
    rfl

theorem top_value (T : Fin 16384) (j : Fin 2) :
    val_main_values (F := Ideal) x0 x1 x2 (ix2 T j) = route x0 x1 x2 T (chosen x0 x1 x2 T ⟨j, by omega⟩) := by
  unfold val_main_values Host.topK
  dsimp only
  rw [columns_at]
  exact (sorted_at _ _ T _ _ (logits_at x0 x1 x2 T) (fun _ => rfl)).1

theorem top_index (T : Fin 16384) (j : Fin 2) :
    val_main_indices (F := Ideal) x0 x1 x2 (ix2 T j) = BitVec.ofNat 32 (chosen x0 x1 x2 T ⟨j, by omega⟩).val := by
  unfold val_main_indices Host.topK
  dsimp only
  rw [columns_at]
  exact (sorted_at _ _ T _ _ (logits_at x0 x1 x2 T) (fun _ => rfl)).2

/-- A one-hot row's entry as a number. -/
theorem hot (a e : Fin 8) : (FloatOps.uitofp (F := Ideal) .f32 (IntOp.cmpi .eq (BitVec.ofNat 32 a.val) (BitVec.ofNat 32 e.val)) : EReal)
    = if e = a then 1 else 0 := by
  have hi : (BitVec.ofNat 32 a.val = BitVec.ofNat 32 e.val) ↔ e = a := by
    revert a e; decide
  show ((((IntOp.cmpi .eq (BitVec.ofNat 32 a.val) (BitVec.ofNat 32 e.val)).toNat : ℝ)) : EReal) = _
  by_cases h : e = a
  · subst h; simp [IntOp.cmpi]
  · have h' : ¬(BitVec.ofNat 32 a.val = BitVec.ofNat 32 e.val) := fun hh => h (hi.mp hh)
    simp [IntOp.cmpi, h, h']

/-- The reference's routing weight is the softmax share of the two greatest. -/
theorem combine_at (T : Fin 16384) (e : Fin 8) (hL : ∀ e, ∃ r : ℝ, route x0 x1 x2 T e = r) :
    val_main_v26 (F := Ideal) x0 x1 x2 (ix2 T e) = weight (route x0 x1 x2 T) e := by
  have h : val_main_v26 (F := Ideal) x0 x1 x2 (ix2 T e) = ∑ x : Fin 2,
      Ideal.div
          (Ideal.exp
            (val_main_values (F := Ideal) x0 x1 x2 (ix2 T x) -
              max (Ideal.ofBits FTy.f32 4286578688#32)
                (Finset.fold max (Ideal.ofBits FTy.f32 4286578688#32) (fun x => val_main_values (F := Ideal) x0 x1 x2 (ix2 T x))
                  Finset.univ)))
          (∑ x,
            Ideal.exp
              (val_main_values (F := Ideal) x0 x1 x2 (ix2 T x) -
                max (Ideal.ofBits FTy.f32 4286578688#32)
                  (Finset.fold max (Ideal.ofBits FTy.f32 4286578688#32) (fun x => val_main_values (F := Ideal) x0 x1 x2 (ix2 T x))
                    Finset.univ))) *
        FloatOps.uitofp (F := Ideal) FTy.f32
          (IntOp.cmpi CmpIPredicate.eq (val_main_indices (F := Ideal) x0 x1 x2 (ix2 T x)) (BitVec.ofNat 32 e.val)) := by
    pointwise [val_main_v26, val_main_v25, val_main_call0_v0, val_main_call0_v1, val_main_call0_v2, val_main_call0_v3, val_main_call0_v4, val_main_v24, val_main_v23, val_main_v22, val_main_v21, val_main_v20, val_main_v19, val_main_v18, val_main_v17, val_main_v16, val_main_v15, val_main_v14, val_main_cst_2, val_main_cst_3, val_main_cst_4]
  rw [h]
  simp only [top_value, top_index, hot]
  rw [lane_max (fun x : Fin 2 => route x0 x1 x2 T (chosen x0 x1 x2 T ⟨x, by omega⟩)) 0 (fun j => le_first _ _), ofBits_bot, max_eq_right bot_le]
  simp only [Fin.sum_univ_two]
  show Ideal.div (Ideal.exp (route x0 x1 x2 T (first (route x0 x1 x2 T)) - route x0 x1 x2 T (first (route x0 x1 x2 T))))
        (Ideal.exp (route x0 x1 x2 T (first (route x0 x1 x2 T)) - route x0 x1 x2 T (first (route x0 x1 x2 T)))
          + Ideal.exp (route x0 x1 x2 T (second (route x0 x1 x2 T)) - route x0 x1 x2 T (first (route x0 x1 x2 T))))
        * (if e = first (route x0 x1 x2 T) then 1 else 0)
      + Ideal.div (Ideal.exp (route x0 x1 x2 T (second (route x0 x1 x2 T)) - route x0 x1 x2 T (first (route x0 x1 x2 T))))
        (Ideal.exp (route x0 x1 x2 T (first (route x0 x1 x2 T)) - route x0 x1 x2 T (first (route x0 x1 x2 T)))
          + Ideal.exp (route x0 x1 x2 T (second (route x0 x1 x2 T)) - route x0 x1 x2 T (first (route x0 x1 x2 T))))
        * (if e = second (route x0 x1 x2 T) then 1 else 0) = _
  have h1 : Ideal.exp (route x0 x1 x2 T (first (route x0 x1 x2 T)) - route x0 x1 x2 T (first (route x0 x1 x2 T))) = 1 := by
    obtain ⟨a, ha⟩ := hL (first (route x0 x1 x2 T))
    rw [ha, ← EReal.coe_sub, sub_self]
    show ((Real.exp 0 : ℝ) : EReal) = 1
    rw [Real.exp_zero, EReal.coe_one]
  rw [h1, weight]
  simp only [mul_ite, mul_one, mul_zero]

/-- One expert's products, times the tokens' weights for it. -/
def expert (e : ℕ) (hc : S16384x8.Slices ![0, e] S16384x1) (h3 : S8x1024x2816.Slices ![e, 0, 0] S1x1024x2816)
    (h5 : S8x2816x1024.Slices ![e, 0, 0] S1x2816x1024) (x3 x4 : FVec Ideal S8x1024x2816 .f32) (x5 : FVec Ideal S8x2816x1024 .f32)
    (cb : FVec Ideal S16384x8 .f32) (h : FVec Ideal S16384x1024 .f32) : FVec Ideal S16384x1024 .f32 :=
  let wg : FVec Ideal S1024x2816 .f32 := shapeCast _ (extractStridedSlice S1x1024x2816 ![e, 0, 0] x3 h3) shapeCasts_S1x1024x2816_S1024x2816
  let wu : FVec Ideal S1024x2816 .f32 := shapeCast _ (extractStridedSlice S1x1024x2816 ![e, 0, 0] x4 h3) shapeCasts_S1x1024x2816_S1024x2816
  let wd : FVec Ideal S2816x1024 .f32 := shapeCast _ (extractStridedSlice S1x2816x1024 ![e, 0, 0] x5 h5) shapeCasts_S1x2816x1024_S2816x1024
  let g : FVec Ideal S16384x2816 .f32 := Host.dotGeneral dot_S16384x1024_S1024x2816_S16384x2816_1_0_0_1_n_n none h wg
  let u : FVec Ideal S16384x2816 .f32 := Host.dotGeneral dot_S16384x1024_S1024x2816_S16384x2816_1_0_0_1_n_n none h wu
  let one : FVec Ideal S16384x2816 .f32 := broadcastInDim S16384x2816 ![] bcast_S_S16384x2816 (constant S_ .f32 0x3F800000#32)
  mulf (broadcastInDim S16384x1024 ![0, 1] bcast_S16384x1_S16384x1024_0_1 (extractStridedSlice S16384x1 ![0, e] cb hc : FVec Ideal S16384x1 .f32))
    (Host.dotGeneral dot_S16384x2816_S2816x1024_S16384x1024_1_0_0_1_n_n none (mulf (mulf g (Host.divf one (addf one (Host.exp (Host.negf g))))) u) wd)

theorem expert_at (e : ℕ) (he : e < 8) (hc : S16384x8.Slices ![0, e] S16384x1) (h3 : S8x1024x2816.Slices ![e, 0, 0] S1x1024x2816)
    (h5 : S8x2816x1024.Slices ![e, 0, 0] S1x2816x1024) (cb : FVec Ideal S16384x8 .f32) (h : FVec Ideal S16384x1024 .f32)
    (T : Fin 16384) (k : Fin 1024) :
    expert e hc h3 h5 x3 x4 x5 cb h (ix2 T k)
      = cb (ix2 T ⟨e, he⟩) * ∑ u : Fin 2816, unit (fun q => h (ix2 T q)) (fun q => x3 (ix3 ⟨e, he⟩ q u)) (fun q => x4 (ix3 ⟨e, he⟩ q u))
          * x5 (ix3 ⟨e, he⟩ u k) := by
  pointwise [expert]
  rfl

theorem expert0_eq : val_main_v41 (F := Ideal) x0 x1 x2 x3 x4 x5 = expert 0 slices_S16384x8_S16384x1_0_0 slices_S8x1024x2816_S1x1024x2816_0_0_0 slices_S8x2816x1024_S1x2816x1024_0_0_0 x3 x4 x5 (val_main_v26 (F := Ideal) x0 x1 x2) (val_main_v12 (F := Ideal) x0 x1) := rfl
theorem expert1_eq : val_main_v56 (F := Ideal) x0 x1 x2 x3 x4 x5 = expert 1 slices_S16384x8_S16384x1_0_1 slices_S8x1024x2816_S1x1024x2816_1_0_0 slices_S8x2816x1024_S1x2816x1024_1_0_0 x3 x4 x5 (val_main_v26 (F := Ideal) x0 x1 x2) (val_main_v12 (F := Ideal) x0 x1) := rfl
theorem expert2_eq : val_main_v71 (F := Ideal) x0 x1 x2 x3 x4 x5 = expert 2 slices_S16384x8_S16384x1_0_2 slices_S8x1024x2816_S1x1024x2816_2_0_0 slices_S8x2816x1024_S1x2816x1024_2_0_0 x3 x4 x5 (val_main_v26 (F := Ideal) x0 x1 x2) (val_main_v12 (F := Ideal) x0 x1) := rfl
theorem expert3_eq : val_main_v86 (F := Ideal) x0 x1 x2 x3 x4 x5 = expert 3 slices_S16384x8_S16384x1_0_3 slices_S8x1024x2816_S1x1024x2816_3_0_0 slices_S8x2816x1024_S1x2816x1024_3_0_0 x3 x4 x5 (val_main_v26 (F := Ideal) x0 x1 x2) (val_main_v12 (F := Ideal) x0 x1) := rfl
theorem expert4_eq : val_main_v101 (F := Ideal) x0 x1 x2 x3 x4 x5 = expert 4 slices_S16384x8_S16384x1_0_4 slices_S8x1024x2816_S1x1024x2816_4_0_0 slices_S8x2816x1024_S1x2816x1024_4_0_0 x3 x4 x5 (val_main_v26 (F := Ideal) x0 x1 x2) (val_main_v12 (F := Ideal) x0 x1) := rfl
theorem expert5_eq : val_main_v116 (F := Ideal) x0 x1 x2 x3 x4 x5 = expert 5 slices_S16384x8_S16384x1_0_5 slices_S8x1024x2816_S1x1024x2816_5_0_0 slices_S8x2816x1024_S1x2816x1024_5_0_0 x3 x4 x5 (val_main_v26 (F := Ideal) x0 x1 x2) (val_main_v12 (F := Ideal) x0 x1) := rfl
theorem expert6_eq : val_main_v131 (F := Ideal) x0 x1 x2 x3 x4 x5 = expert 6 slices_S16384x8_S16384x1_0_6 slices_S8x1024x2816_S1x1024x2816_6_0_0 slices_S8x2816x1024_S1x2816x1024_6_0_0 x3 x4 x5 (val_main_v26 (F := Ideal) x0 x1 x2) (val_main_v12 (F := Ideal) x0 x1) := rfl
theorem expert7_eq : val_main_v146 (F := Ideal) x0 x1 x2 x3 x4 x5 = expert 7 slices_S16384x8_S16384x1_0_7 slices_S8x1024x2816_S1x1024x2816_7_0_0 slices_S8x2816x1024_S1x2816x1024_7_0_0 x3 x4 x5 (val_main_v26 (F := Ideal) x0 x1 x2) (val_main_v12 (F := Ideal) x0 x1) := rfl

/-- What expert `e` adds to token `T`'s column `k`. -/
def share (T : Fin 16384) (k : Fin 1024) (e : Fin 8) : EReal :=
  weight (route x0 x1 x2 T) e * ∑ u : Fin 2816, unit (hrow x0 x1 T) (fun q => x3 (ix3 e q u)) (fun q => x4 (ix3 e q u)) * x5 (ix3 e u k)

theorem share_at (T : Fin 16384) (k : Fin 1024) (hL : ∀ e, ∃ r : ℝ, route x0 x1 x2 T e = r) (e : ℕ) (he : e < 8)
    (hc : S16384x8.Slices ![0, e] S16384x1) (h3 : S8x1024x2816.Slices ![e, 0, 0] S1x1024x2816)
    (h5 : S8x2816x1024.Slices ![e, 0, 0] S1x2816x1024) :
    expert e hc h3 h5 x3 x4 x5 (val_main_v26 (F := Ideal) x0 x1 x2) (val_main_v12 (F := Ideal) x0 x1) (ix2 T k)
      = share x0 x1 x2 x3 x4 x5 T k ⟨e, he⟩ := by
  rw [expert_at x3 x4 x5 e he, combine_at x0 x1 x2 T _ hL, show (fun q => val_main_v12 (F := Ideal) x0 x1 (ix2 T q)) = hrow x0 x1 T from
    funext fun q => h_at x0 x1 T q]
  rfl

/-- The reference's result: the token plus the experts' shares. -/
theorem result_at (T : Fin 16384) (k : Fin 1024) (hL : ∀ e, ∃ r : ℝ, route x0 x1 x2 T e = r) :
    val_main_v148 (F := Ideal) x0 x1 x2 x3 x4 x5 (ix2 T k)
      = x0 (ix2 T k) + ∑ e : Fin 8, share x0 x1 x2 x3 x4 x5 T k e := by
  pointwise [val_main_v148, val_main_v147, val_main_v132, val_main_v117, val_main_v102, val_main_v87, val_main_v72, val_main_v57, val_main_v42, val_main_v27, val_main_cst_5]
  rw [expert0_eq, expert1_eq, expert2_eq, expert3_eq, expert4_eq, expert5_eq, expert6_eq, expert7_eq]
  simp only [share_at x0 x1 x2 x3 x4 x5 T k hL _ (show 0 < 8 by decide), share_at x0 x1 x2 x3 x4 x5 T k hL _ (show 1 < 8 by decide), share_at x0 x1 x2 x3 x4 x5 T k hL _ (show 2 < 8 by decide), share_at x0 x1 x2 x3 x4 x5 T k hL _ (show 3 < 8 by decide), share_at x0 x1 x2 x3 x4 x5 T k hL _ (show 4 < 8 by decide), share_at x0 x1 x2 x3 x4 x5 T k hL _ (show 5 < 8 by decide), share_at x0 x1 x2 x3 x4 x5 T k hL _ (show 6 < 8 by decide), share_at x0 x1 x2 x3 x4 x5 T k hL _ (show 7 < 8 by decide)]
  rw [Fin.sum_univ_eight]
  try simp only [zero_add]
  rfl

end Cert.MoeRefIdeal.Point

end
-- ==== Proof.MoeEq.lean ====
/- The mixture-of-experts call and its reference hold the same array where the gain and the router are finite. -/
module

public import proofs.«01_k».proof.Pre_finite_routing
public import proofs.«01_k».proof.Proof.MoeFold
public import proofs.«01_k».proof.Proof.MoeRefValue

@[expose] public section

set_option maxRecDepth 16384

noncomputable section

namespace Cert.MoeEq

open Idealize.ShloMosaic Idealize.ShloMosaic.TcCoe Cert.TopTwo Cert.MoeSpec Cert.MoeIdeal.Blocks

theorem pre_facts : Cert.Pre_finite_routing.Facts :=
  ⟨by decide, by decide, by decide, by decide⟩

/-- Absolute value below the top: a real. -/
theorem real_of_abs (x : EReal) (h : Ideal.cmp .olt (max x (-x)) (Ideal.ofBits .f32 0x7F800000#32) = 1#1) : ∃ r : ℝ, x = r := by
  rw [ofBits_top] at h
  induction x with
  | bot => simp [Ideal.cmp] at h
  | top => simp [Ideal.cmp] at h
  | coe r => exact ⟨r, rfl⟩

theorem and_one (a b : BitVec 1) (h : IntOp.andi a b = 1#1) : a = 1#1 ∧ b = 1#1 := by
  revert a b; decide

open Cert.Pre_finite_routing in
/-- The precondition says that the gain and the router are real. -/
theorem pre_real [Cert.Pre_finite_routing.Facts] (x0 : FVec Ideal S16384x1024 .f32) (x1 : FVec Ideal S1024 .f32) (x2 : FVec Ideal S1024x8 .f32)
    (x3 x4 : FVec Ideal S8x1024x2816 .f32) (x5 : FVec Ideal S8x2816x1024 .f32)
    (h : ∀ i, Cert.Pre_finite_routing.fn (F := Ideal) x0 x1 x2 x3 x4 x5 i = 1#1) :
    (∀ k : Fin 1024, ∃ r : ℝ, x1 (ix1 k) = r) ∧ ∀ (k : Fin 1024) (e : Fin 8), ∃ r : ℝ, x2 (ix2 k e) = r := by
  have hp : ∀ (k : Fin 1024) (e : Fin 8), Cert.Pre_finite_routing.fn (F := Ideal) x0 x1 x2 x3 x4 x5 (ix2 k e)
      = IntOp.andi (Ideal.cmp .olt (max (x1 (ix1 k)) (-x1 (ix1 k))) (Ideal.ofBits .f32 0x7F800000#32))
          (Ideal.cmp .olt (max (x2 (ix2 k e)) (-x2 (ix2 k e))) (Ideal.ofBits .f32 0x7F800000#32)) := by
    intro k e
    pointwise [Cert.Pre_finite_routing.fn]
    try rfl
  refine ⟨fun k => ?_, fun k e => ?_⟩
  · exact real_of_abs _ (and_one _ _ ((hp k 0).symm.trans (h _))).1
  · exact real_of_abs _ (and_one _ _ ((hp k e).symm.trans (h _))).2

variable (m : (ℓ : Loc Cert.MoeIdeal.nD Cert.MoeIdeal.τ Cert.MoeIdeal.sig) → Buf (Elt Ideal) ℓ) (c : Dev Cert.MoeIdeal.nD)

theorem eq_ref (hg : ∀ k : Fin 1024, ∃ r : ℝ, G m c (ix1 k) = r)
    (hr : ∀ (k : Fin 1024) (e : Fin 8), ∃ r : ℝ, R m c (ix2 k e) = r) :
    Cert.MoeIdeal.Value.G6 m c
      = (Cert.MoeRefIdeal.Read.val_main_v148 (F := Ideal) (X m c) (G m c) (R m c) (Wg m c) (Wu m c) (Wd m c) : Cert.MoeIdeal.S16384x1024.Idx → EReal) := by
  have hreal : ∀ T e, ∃ r : ℝ, Cert.MoeIdeal.Fold.route m c T e = r := fun T e =>
    logit_real _ _ (fun k => normed_real _ _ hg k) hr e
  refine funext fun (i : Cert.MoeIdeal.S16384x1024.Idx) => ?_
  obtain ⟨T, k, rfl⟩ : ∃ (T : Fin 16384) (k : Fin 1024), i = ix2 T k := ⟨i 0, i 1, eq_ix2 i⟩
  refine (Cert.MoeIdeal.Fold.result_at m c (fun T e h => ?_) T k).trans ?_
  · obtain ⟨r, hr⟩ := hreal T e
    rw [hr] at h
    exact EReal.coe_ne_bot r h
  refine Eq.trans ?_ (Cert.MoeRefIdeal.Point.result_at _ _ _ _ _ _ T k (hreal T)).symm
  refine congrArg (X m c (ix2 T k) + ·) ?_
  refine Finset.sum_congr rfl fun e _ => ?_
  obtain ⟨w, hw, he⟩ := weight_real _ (hreal T) e
  unfold Cert.MoeRefIdeal.Point.share
  refine Eq.trans ?_ (congrArg (· * _) he).symm
  refine Eq.trans ?_ (mul_sum_real w hw _ _).symm
  refine Finset.sum_congr rfl fun u _ => ?_
  unfold Cert.MoeIdeal.Fold.part
  rw [he, mul_comm _ (w : EReal), mul_assoc]
  rfl

end Cert.MoeEq

end
-- ==== Proof.MergeEq.lean ====
/- The merge of the three branches: its result array and its reference's are the same function of the arguments. -/
module

public import proofs.«01_k».proof.Proof.Gen.MergeIdeal.Value
public import proofs.«01_k».proof.Proof.Gen.MergeRefIdeal.Read
public import Idealize.ShloMosaic.Lib.Pointwise
public import Idealize.ShloMosaic.Lib.StableHlo.Run

@[expose] public section

set_option maxRecDepth 16384

noncomputable section

namespace Cert.MergeEq

open Cert.MergeIdeal Cert.MergeIdeal.Gen Cert.MergeIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The arguments as functions of their indices. -/
abbrev X : FVec Ideal S16384x1024 .f32 := m ((c : Thread nD τ).loc main_arg0)
abbrev Oa : FVec Ideal S16384x512 .f32 := m ((c : Thread nD τ).loc main_arg1)
abbrev Ob : FVec Ideal S16384x512 .f32 := m ((c : Thread nD τ).loc main_arg2)
abbrev Oc : FVec Ideal S16384x512 .f32 := m ((c : Thread nD τ).loc main_arg3)
abbrev G : FVec Ideal S1024 .f32 := m ((c : Thread nD τ).loc main_arg4)
abbrev Wi : FVec Ideal S1024x7456 .f32 := m ((c : Thread nD τ).loc main_arg5)
abbrev Wb : FVec Ideal S3x512x1024 .f32 := m ((c : Thread nD τ).loc main_arg6)
abbrev Wo : FVec Ideal S1024x1024 .f32 := m ((c : Thread nD τ).loc main_arg7)

theorem gain_eq : V m c main_v0 = (shapeCast S1x1024 (G m c) shapeCasts_S1024_S1x1024 : FVec Ideal S1x1024 .f32) := by
  show StableHlo.after hostOps0 _ _ = _
  simp only [hostOps0, List.cons_append, List.nil_append]
  after_results
  rfl
theorem gates_eq : V m c main_v2 = (extractStridedSlice S1024x3072 ![0, 4384] (Wi m c) slices_S1024x7456_S1024x3072_0_4384 : FVec Ideal S1024x3072 .f32) := by
  show StableHlo.after hostOps0 _ _ = _
  simp only [hostOps0, List.cons_append, List.nil_append]
  after_results
  rfl
theorem branch_eq : V m c main_v3 = (Wb m c : S3x512x1024.Idx → EReal) := by
  show StableHlo.after hostOps0 _ _ = _
  simp only [hostOps0, List.cons_append, List.nil_append]
  after_results
  rfl
theorem out_eq : V m c main_v4 = (Wo m c : S1024x1024.Idx → EReal) := by
  show StableHlo.after hostOps0 _ _ = _
  simp only [hostOps0, List.cons_append, List.nil_append]
  after_results
  rfl

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 0 := by decide +kernel
theorem index3 : ∀ t : Fin grid0.N, win0_3.index t (0 : Fin 2) = t.val ∧ win0_3.index t (1 : Fin 2) = 0 := by decide +kernel
theorem index8 : ∀ t : Fin grid0.N, win0_8.index t (0 : Fin 2) = t.val ∧ win0_8.index t (1 : Fin 2) = 0 := by decide +kernel
theorem index4 : ∀ t : Fin grid0.N, win0_4.index t (0 : Fin 2) = 0 ∧ win0_4.index t (1 : Fin 2) = 0 := by decide +kernel
theorem index5 : ∀ t : Fin grid0.N, win0_5.index t (0 : Fin 2) = 0 ∧ win0_5.index t (1 : Fin 2) = 0 := by decide +kernel
theorem index7 : ∀ t : Fin grid0.N, win0_7.index t (0 : Fin 2) = 0 ∧ win0_7.index t (1 : Fin 2) = 0 := by decide +kernel
theorem index6 : ∀ t : Fin grid0.N, win0_6.index t (0 : Fin 3) = 0 ∧ win0_6.index t (1 : Fin 3) = 0 ∧ win0_6.index t (2 : Fin 3) = 0 := by decide +kernel

/-- The row of the input that row `r` of point `t`'s block is. -/
def rowAt (t : Fin cfg0.N) (r : Fin 512) : Fin 16384 :=
  ⟨512 * t.val + r.val, by have := t.isLt; have h : cfg0.N = 32 := N_0; omega⟩

theorem x_at (t : Fin cfg0.N) (r : Fin 512) (k : Fin 1024) :
    (iblk m c 0 t : Vec Ideal S512x1024 .f32) (ix2 r k) = X m c (ix2 (rowAt t r) k) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem oa_at (t : Fin cfg0.N) (r : Fin 512) (k : Fin 512) :
    (iblk m c 1 t : Vec Ideal S512x512 .f32) (ix2 r k) = Oa m c (ix2 (rowAt t r) k) := by
  obtain ⟨h0, h1⟩ := index1 t
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [h0]; omega
  | ⟨1, _⟩ => show win0_1.index t 1 * 512 + 1 * k.val = k.val; rw [h1]; omega

theorem ob_at (t : Fin cfg0.N) (r : Fin 512) (k : Fin 512) :
    (iblk m c 2 t : Vec Ideal S512x512 .f32) (ix2 r k) = Ob m c (ix2 (rowAt t r) k) := by
  obtain ⟨h0, h1⟩ := index2 t
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [h0]; omega
  | ⟨1, _⟩ => show win0_2.index t 1 * 512 + 1 * k.val = k.val; rw [h1]; omega

theorem oc_at (t : Fin cfg0.N) (r : Fin 512) (k : Fin 512) :
    (iblk m c 3 t : Vec Ideal S512x512 .f32) (ix2 r k) = Oc m c (ix2 (rowAt t r) k) := by
  obtain ⟨h0, h1⟩ := index3 t
  unfold iblk
  rw [View.read_apply]
  show V m c main_arg3 _ = _
  rw [V_main_arg3]
  congr 1
  funext a
  apply Fin.ext
  match a with
  | ⟨0, _⟩ => show win0_3.index t 0 * 512 + 1 * r.val = 512 * t.val + r.val; rw [h0]; omega
  | ⟨1, _⟩ => show win0_3.index t 1 * 512 + 1 * k.val = k.val; rw [h1]; omega

theorem gain_at (t : Fin cfg0.N) (k : Fin 1024) :
    (iblk m c 4 t : Vec Ideal S1x1024 .f32) (ix2 0 k) = G m c (ix1 k) := by
  obtain ⟨h0, h1⟩ := index4 t
  have e : (iblk m c 4 t : Vec Ideal S1x1024 .f32) (ix2 0 k) = V m c main_v0 (ix2 (n0 := 1) (n1 := 1024) 0 k) := by
    unfold iblk
    rw [View.read_apply]
    show V m c main_v0 _ = _
    congr 1
    funext a
    apply Fin.ext
    match a with
    | ⟨0, _⟩ => show win0_4.index t 0 * 1 + 1 * 0 = 0; rw [h0]
    | ⟨1, _⟩ => show win0_4.index t 1 * 1024 + 1 * k.val = k.val; rw [h1]; omega
  rw [e, gain_eq] <;> pointwise []

theorem gates_at (t : Fin cfg0.N) (q : Fin 1024) (k : Fin 3072) :
    (iblk m c 5 t : Vec Ideal S1024x3072 .bf16) (ix2 q k) = Wi m c (ix2 q ⟨4384 + k.val, by omega⟩) := by
  obtain ⟨h0, h1⟩ := index5 t
  have e : (iblk m c 5 t : Vec Ideal S1024x3072 .bf16) (ix2 q k) = V m c main_v2 (ix2 (n0 := 1024) (n1 := 3072) q k) := by
    unfold iblk
    rw [View.read_apply]
    show V m c main_v2 _ = _
    congr 1
    funext a
    apply Fin.ext
    match a with
    | ⟨0, _⟩ => show win0_5.index t 0 * 1024 + 1 * q.val = q.val; rw [h0]; omega
    | ⟨1, _⟩ => show win0_5.index t 1 * 3072 + 1 * k.val = k.val; rw [h1]; omega
  rw [e, gates_eq] <;> pointwise []

theorem branch_at (t : Fin cfg0.N) (n : Fin 3) (q : Fin 512) (k : Fin 1024) :
    (iblk m c 6 t : Vec Ideal S3x512x1024 .bf16) (ix3 n q k) = Wb m c (ix3 n q k) := by
  obtain ⟨h0, h1, h2⟩ := index6 t
  have e : (iblk m c 6 t : Vec Ideal S3x512x1024 .bf16) (ix3 n q k) = V m c main_v3 (ix3 (n0 := 3) (n1 := 512) (n2 := 1024) n q k) := by
    unfold iblk
    rw [View.read_apply]
    show V m c main_v3 _ = _
    congr 1
    funext a
    apply Fin.ext
    match a with
    | ⟨0, _⟩ => show win0_6.index t 0 * 3 + 1 * n.val = n.val; rw [h0]; omega
    | ⟨1, _⟩ => show win0_6.index t 1 * 512 + 1 * q.val = q.val; rw [h1]; omega
    | ⟨2, _⟩ => show win0_6.index t 2 * 1024 + 1 * k.val = k.val; rw [h2]; omega
  rw [e, branch_eq] <;> pointwise []

theorem out_at (t : Fin cfg0.N) (q : Fin 1024) (k : Fin 1024) :
    (iblk m c 7 t : Vec Ideal S1024x1024 .bf16) (ix2 q k) = Wo m c (ix2 q k) := by
  obtain ⟨h0, h1⟩ := index7 t
  have e : (iblk m c 7 t : Vec Ideal S1024x1024 .bf16) (ix2 q k) = V m c main_v4 (ix2 (n0 := 1024) (n1 := 1024) q k) := by
    unfold iblk
    rw [View.read_apply]
    show V m c main_v4 _ = _
    congr 1
    funext a
    apply Fin.ext
    match a with
    | ⟨0, _⟩ => show win0_7.index t 0 * 1024 + 1 * q.val = q.val; rw [h0]; omega
    | ⟨1, _⟩ => show win0_7.index t 1 * 1024 + 1 * k.val = k.val; rw [h1]; omega
  rw [e, out_eq] <;> pointwise []

/-- What a point's payload is, over the blocks it reads. -/
def body (x0 : Vec Ideal S512x1024 .f32) (x1 x2 x3 : Vec Ideal S512x512 .f32) (x4 : Vec Ideal S1x1024 .f32) (x5 : Vec Ideal S1024x3072 .bf16)
    (x6 : Vec Ideal S3x512x1024 .bf16) (x7 : Vec Ideal S1024x1024 .bf16) : Vec Ideal S512x1024 .f32 :=
  k0_pay5 x0 (k0_pay1 x0 x4) (k0_pay2 x0 x4 (View.ld x5 r0_2) x1 (View.ld x6 r0_4)) (k0_pay3 x0 x4 (View.ld x5 r0_5)) (k0_pay4 (F := Ideal)) x2
    (View.ld x6 r0_6) (View.ld x5 r0_7) x3 (View.ld x6 r0_8) x7

/-- The array the call leaves, at a row of point `t`'s block, is the payload there. -/
theorem array_at (t : Fin cfg0.N) (r : Fin 512) (k : Fin 1024) :
    ((dats m 0 c).arrAt 8 cfg0.N : S16384x1024.Idx → EReal) (ix2 (rowAt t r) k)
      = body (iblk m c 0 t) (iblk m c 1 t) (iblk m c 2 t) (iblk m c 3 t) (iblk m c 4 t) (iblk m c 5 t) (iblk m c 6 t) (iblk m c 7 t) (ix2 r k) := by
  obtain ⟨h0, h1⟩ := index8 t
  have hf : ∀ t : Fin grid0.N, win0_8.flush t = true := by decide +kernel
  have e := congrFun ((blocks8 m c t (hf t)).trans (flushed8 m c t)) (ix2 (n0 := 512) (n1 := 1024) r k)
  rw [View.read_apply] at e
  refine Eq.trans (congrArg _ ?_) (e.trans ?_)
  · funext a
    apply Fin.ext
    match a with
    | ⟨0, _⟩ => show 512 * t.val + r.val = win0_8.index t 0 * 512 + 1 * r.val; rw [h0]; omega
    | ⟨1, _⟩ => show k.val = win0_8.index t 1 * 1024 + 1 * k.val; rw [h1]; omega
  · show out0_8 (iblk m c 0 t) (iblk m c 1 t) (iblk m c 2 t) (iblk m c 3 t) (iblk m c 4 t) (iblk m c 5 t) (iblk m c 6 t) (iblk m c 7 t) (ix2 r k) = _
    unfold out0_8
    rw [View.canon_unit_zero zeros2]
    simp only [View.ld_unit_zero (S := S512x1024) zeros2, View.ld_unit_zero (S := S1x1024) zeros2, View.ld_unit_zero (S := S1024x1024) zeros2,
      View.ld_unit_zero (S := S512x512) zeros2]
    rfl

theorem cols (x : Vec Ideal S1024x3072 .bf16) (q k : Fin 1024) :
    (View.ld x r0_2 : Vec Ideal S1024x1024 .bf16) (ix2 q k) = x (ix2 q ⟨k.val, by omega⟩)
    ∧ (View.ld x r0_5 : Vec Ideal S1024x1024 .bf16) (ix2 q k) = x (ix2 q ⟨1024 + k.val, by omega⟩)
    ∧ (View.ld x r0_7 : Vec Ideal S1024x1024 .bf16) (ix2 q k) = x (ix2 q ⟨2048 + k.val, by omega⟩) := by
  refine ⟨?_, ?_, ?_⟩ <;>
  · show x _ = x _
    congr 1
    funext a
    apply Fin.ext
    match a with
    | ⟨0, _⟩ => show 0 + 1 * q.val = q.val; omega
    | ⟨1, _⟩ => first | (show 0 + 1 * k.val = k.val; omega) | (show 1024 + 1 * k.val = 1024 + k.val; omega) | (show 2048 + 1 * k.val = 2048 + k.val; omega)

theorem planes (x : Vec Ideal S3x512x1024 .bf16) (q : Fin 512) (k : Fin 1024) :
    (View.ld x r0_4 : Vec Ideal S1x512x1024 .bf16) (ix3 0 q k) = x (ix3 0 q k)
    ∧ (View.ld x r0_6 : Vec Ideal S1x512x1024 .bf16) (ix3 0 q k) = x (ix3 1 q k)
    ∧ (View.ld x r0_8 : Vec Ideal S1x512x1024 .bf16) (ix3 0 q k) = x (ix3 2 q k) := by
  refine ⟨?_, ?_, ?_⟩ <;>
  · show x _ = x _
    congr 1
    funext a
    apply Fin.ext
    match a with
    | ⟨0, _⟩ => rfl
    | ⟨1, _⟩ => show 0 + 1 * q.val = q.val; omega
    | ⟨2, _⟩ => show 0 + 1 * k.val = k.val; omega

theorem same_at (t : Fin cfg0.N) (r : Fin 512) (k : Fin 1024) :
    body (iblk m c 0 t) (iblk m c 1 t) (iblk m c 2 t) (iblk m c 3 t) (iblk m c 4 t) (iblk m c 5 t) (iblk m c 6 t) (iblk m c 7 t) (ix2 r k)
      = Cert.MergeRefIdeal.Read.val_main_v29 (F := Ideal) (X m c) (Oa m c) (Ob m c) (Oc m c) (G m c) (Wi m c) (Wb m c) (Wo m c) (ix2 (rowAt t r) k) := by
  have hc := cols (iblk m c 5 t)
  have hp := planes (iblk m c 6 t)
  unfold body
  generalize (View.ld (iblk m c 5 t) r0_2 : Vec Ideal S1024x1024 .bf16) = g1 at *
  generalize (View.ld (iblk m c 5 t) r0_5 : Vec Ideal S1024x1024 .bf16) = g2 at *
  generalize (View.ld (iblk m c 5 t) r0_7 : Vec Ideal S1024x1024 .bf16) = g3 at *
  generalize (View.ld (iblk m c 6 t) r0_4 : Vec Ideal S1x512x1024 .bf16) = p1 at *
  generalize (View.ld (iblk m c 6 t) r0_6 : Vec Ideal S1x512x1024 .bf16) = p2 at *
  generalize (View.ld (iblk m c 6 t) r0_8 : Vec Ideal S1x512x1024 .bf16) = p3 at *
  pointwise [k0_pay1, k0_pay2, k0_pay3, k0_pay4, k0_pay5]
  simp only [(hc _ _).1, (hc _ _).2.1, (hc _ _).2.2, (hp _ _).1, (hp _ _).2.1, (hp _ _).2.2]
  simp only [x_at, oa_at, ob_at, oc_at, gain_at, gates_at, branch_at, out_at]
  refine Eq.trans ?_ (Eq.symm (by
    pointwise [Cert.MergeRefIdeal.Read.val_main_v0, Cert.MergeRefIdeal.Read.val_main_cst, Cert.MergeRefIdeal.Read.val_main_v1, Cert.MergeRefIdeal.Read.val_main_v2, Cert.MergeRefIdeal.Read.val_main_cst_0, Cert.MergeRefIdeal.Read.val_main_v3, Cert.MergeRefIdeal.Read.val_main_v4, Cert.MergeRefIdeal.Read.val_main_cst_1, Cert.MergeRefIdeal.Read.val_main_v5, Cert.MergeRefIdeal.Read.val_main_v6, Cert.MergeRefIdeal.Read.val_main_v7, Cert.MergeRefIdeal.Read.val_main_v8, Cert.MergeRefIdeal.Read.val_main_v9, Cert.MergeRefIdeal.Read.val_main_v10, Cert.MergeRefIdeal.Read.val_main_v11, Cert.MergeRefIdeal.Read.val_main_v12, Cert.MergeRefIdeal.Read.val_main_v13, Cert.MergeRefIdeal.Read.val_main_v14, Cert.MergeRefIdeal.Read.val_main_v15, Cert.MergeRefIdeal.Read.val_main_v16, Cert.MergeRefIdeal.Read.val_main_v17, Cert.MergeRefIdeal.Read.val_main_v18, Cert.MergeRefIdeal.Read.val_main_v19, Cert.MergeRefIdeal.Read.val_main_v20, Cert.MergeRefIdeal.Read.val_main_v21, Cert.MergeRefIdeal.Read.val_main_v22, Cert.MergeRefIdeal.Read.val_main_cst_2, Cert.MergeRefIdeal.Read.val_main_v23, Cert.MergeRefIdeal.Read.val_main_v24, Cert.MergeRefIdeal.Read.val_main_cst_3, Cert.MergeRefIdeal.Read.val_main_v25, Cert.MergeRefIdeal.Read.val_main_v26, Cert.MergeRefIdeal.Read.val_main_v27, Cert.MergeRefIdeal.Read.val_main_v28, Cert.MergeRefIdeal.Read.val_main_v29]
    rfl))
  simp only [zero_sub]
  simp only [Fin.sum_univ_three, Fin.val_zero, Fin.val_one, Fin.val_two, zero_mul, one_mul, zero_add, Nat.lt_irrefl, Nat.zero_lt_one, Nat.sub_self,
    Nat.reduceMul, Nat.reduceSub, Nat.reduceLT, dite_true, dite_false]

/-- The array the merge leaves is the reference's, as functions of the arguments. -/
theorem eq_ref : (dats m 0 c).arrAt 8 cfg0.N
    = Cert.MergeRefIdeal.Read.val_main_v29 (F := Ideal) (X m c) (Oa m c) (Ob m c) (Oc m c) (G m c) (Wi m c) (Wb m c) (Wo m c) := by
  refine funext fun (i : S16384x1024.Idx) => ?_
  obtain ⟨T, k, rfl⟩ : ∃ (T : Fin 16384) (k : Fin 1024), i = ix2 T k := ⟨i 0, i 1, (ix2_eta i).symm⟩
  have hN : cfg0.N = 32 := N_0
  have hr : rowAt ⟨T.val / 512, by rw [hN]; omega⟩ ⟨T.val % 512, by omega⟩ = T := Fin.ext (by show 512 * (T.val / 512) + T.val % 512 = T.val; omega)
  have h := (array_at m c ⟨T.val / 512, by rw [hN]; omega⟩ ⟨T.val % 512, by omega⟩ k).trans (same_at m c _ _ k)
  rw [hr] at h
  exact h

end Cert.MergeEq

end
-- ==== Proof.DenseEq.lean ====
/- The dense feed-forward call: its result array and its reference's are the same function of the arguments. -/
module

public import proofs.«01_k».proof.Proof.Gen.DenseIdeal.Value
public import proofs.«01_k».proof.Proof.Gen.DenseRefIdeal.Read
public import Idealize.ShloMosaic.Lib.Pointwise
public import Idealize.ShloMosaic.Lib.StableHlo.Run

@[expose] public section

set_option maxRecDepth 16384

noncomputable section

namespace Cert.DenseEq

open Cert.DenseIdeal Cert.DenseIdeal.Gen Cert.DenseIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The arguments as functions of their indices. -/
abbrev X : FVec Ideal S16384x1024 .f32 := m ((c : Thread nD τ).loc main_arg0)
abbrev G : FVec Ideal S1024 .f32 := m ((c : Thread nD τ).loc main_arg1)
abbrev Wg : FVec Ideal S1024x2816 .f32 := m ((c : Thread nD τ).loc main_arg2)
abbrev Wu : FVec Ideal S1024x2816 .f32 := m ((c : Thread nD τ).loc main_arg3)
abbrev Wd : FVec Ideal S2816x1024 .f32 := m ((c : Thread nD τ).loc main_arg4)

theorem gain_eq : V m c main_v0 = (shapeCast S1x1024 (G m c) shapeCasts_S1024_S1x1024 : FVec Ideal S1x1024 .f32) := by
  show StableHlo.after hostOps0 _ _ = _
  simp only [hostOps0, List.cons_append, List.nil_append]
  after_results
  rfl
theorem gate_eq : V m c main_v1 = (Wg m c : S1024x2816.Idx → EReal) := by
  show StableHlo.after hostOps0 _ _ = _
  simp only [hostOps0, List.cons_append, List.nil_append]
  after_results
  rfl
theorem up_eq : V m c main_v2 = (Wu m c : S1024x2816.Idx → EReal) := by
  show StableHlo.after hostOps0 _ _ = _
  simp only [hostOps0, List.cons_append, List.nil_append]
  after_results
  rfl
theorem down_eq : V m c main_v3 = (Wd m c : S2816x1024.Idx → EReal) := by
  show StableHlo.after hostOps0 _ _ = _
  simp only [hostOps0, List.cons_append, List.nil_append]
  after_results
  rfl

theorem index0 : ∀ t : Fin grid0.N, win0_0.index t (0 : Fin 2) = t.val / 11 ∧ win0_0.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = t.val % 11 := by decide +kernel
theorem index3 : ∀ t : Fin grid0.N, win0_3.index t (0 : Fin 2) = 0 ∧ win0_3.index t (1 : Fin 2) = t.val % 11 := by decide +kernel
theorem index4 : ∀ t : Fin grid0.N, win0_4.index t (0 : Fin 2) = t.val % 11 ∧ win0_4.index t (1 : Fin 2) = 0 := by decide +kernel

/-- The row of the input that row `r` of point `t`'s block is. -/
def rowAt (t : Fin cfg0.N) (r : Fin 512) : Fin 16384 :=
  ⟨512 * (t.val / 11) + r.val, by have := t.isLt; have h : cfg0.N = 352 := N_0; omega⟩

/-- The hidden unit that column `j` of point `t`'s block is. -/
def unitAt (t : Fin cfg0.N) (j : Fin 256) : Fin 2816 := ⟨256 * (t.val % 11) + j.val, by omega⟩

theorem x_at (t : Fin cfg0.N) (r : Fin 512) (k : Fin 1024) :
    (iblk m c 0 t : Vec Ideal S512x1024 .f32) (ix2 r k) = X m c (ix2 (rowAt t r) k) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [h0]; omega
  | ⟨1, _⟩ => show win0_0.index t 1 * 1024 + 1 * k.val = k.val; rw [h1]; omega

theorem gain_at (t : Fin cfg0.N) (k : Fin 1024) :
    (iblk m c 1 t : Vec Ideal S1x1024 .f32) (ix2 0 k) = G m c (ix1 k) := by
  obtain ⟨h0, h1⟩ := index1 t
  have e : (iblk m c 1 t : Vec Ideal S1x1024 .f32) (ix2 0 k) = V m c main_v0 (ix2 (n0 := 1) (n1 := 1024) 0 k) := by
    unfold iblk
    rw [View.read_apply]
    show V m c main_v0 _ = _
    congr 1
    funext a
    apply Fin.ext
    match a with
    | ⟨0, _⟩ => show win0_1.index t 0 * 1 + 1 * 0 = 0; rw [h0]
    | ⟨1, _⟩ => show win0_1.index t 1 * 1024 + 1 * k.val = k.val; rw [h1]; omega
  rw [e, gain_eq] <;> pointwise []

theorem gate_at (t : Fin cfg0.N) (q : Fin 1024) (j : Fin 256) :
    (iblk m c 2 t : Vec Ideal S1024x256 .bf16) (ix2 q j) = Wg m c (ix2 q (unitAt t j)) := by
  obtain ⟨h0, h1⟩ := index2 t
  have e : (iblk m c 2 t : Vec Ideal S1024x256 .bf16) (ix2 q j) = V m c main_v1 (ix2 (n0 := 1024) (n1 := 2816) q (unitAt t j)) := by
    unfold iblk
    rw [View.read_apply]
    show V m c main_v1 _ = _
    congr 1
    funext a
    apply Fin.ext
    match a with
    | ⟨0, _⟩ => show win0_2.index t 0 * 1024 + 1 * q.val = q.val; rw [h0]; omega
    | ⟨1, _⟩ => show win0_2.index t 1 * 256 + 1 * j.val = 256 * (t.val % 11) + j.val; rw [h1]; omega
  rw [e, gate_eq] <;> pointwise []

theorem up_at (t : Fin cfg0.N) (q : Fin 1024) (j : Fin 256) :
    (iblk m c 3 t : Vec Ideal S1024x256 .bf16) (ix2 q j) = Wu m c (ix2 q (unitAt t j)) := by
  obtain ⟨h0, h1⟩ := index3 t
  have e : (iblk m c 3 t : Vec Ideal S1024x256 .bf16) (ix2 q j) = V m c main_v2 (ix2 (n0 := 1024) (n1 := 2816) q (unitAt t j)) := by
    unfold iblk
    rw [View.read_apply]
    show V m c main_v2 _ = _
    congr 1
    funext a
    apply Fin.ext
    match a with
    | ⟨0, _⟩ => show win0_3.index t 0 * 1024 + 1 * q.val = q.val; rw [h0]; omega
    | ⟨1, _⟩ => show win0_3.index t 1 * 256 + 1 * j.val = 256 * (t.val % 11) + j.val; rw [h1]; omega
  rw [e, up_eq] <;> pointwise []

theorem down_at (t : Fin cfg0.N) (j : Fin 256) (k : Fin 1024) :
    (iblk m c 4 t : Vec Ideal S256x1024 .bf16) (ix2 j k) = Wd m c (ix2 (unitAt t j) k) := by
  obtain ⟨h0, h1⟩ := index4 t
  have e : (iblk m c 4 t : Vec Ideal S256x1024 .bf16) (ix2 j k) = V m c main_v3 (ix2 (n0 := 2816) (n1 := 1024) (unitAt t j) k) := by
    unfold iblk
    rw [View.read_apply]
    show V m c main_v3 _ = _
    congr 1
    funext a
    apply Fin.ext
    match a with
    | ⟨0, _⟩ => show win0_4.index t 0 * 256 + 1 * j.val = 256 * (t.val % 11) + j.val; rw [h0]; omega
    | ⟨1, _⟩ => show win0_4.index t 1 * 1024 + 1 * k.val = k.val; rw [h1]; omega
  rw [e, down_eq] <;> pointwise []

abbrev St : Type := Vec Ideal S512x1024 .f32 × Vec Ideal S512x1024 .bf16 × Vec Ideal S512x1024 .f32

/-- The first point of a row block stores the normalised rows and starts the sum with its own product. -/
theorem first (t : Fin cfg0.N) (acc : St) (h0 : t.val % 11 = 0) (h1 : ¬t.val % 11 = 10) :
    (stAt0 m c t.val t.isLt acc).2.1 = k0_pay1 (iblk m c 0 t) (iblk m c 1 t)
    ∧ (stAt0 m c t.val t.isLt acc).2.2 = k0_pay3 (k0_pay1 (iblk m c 0 t) (iblk m c 1 t)) (iblk m c 2 t) (iblk m c 3 t) (k0_pay2 (F := Ideal)) (iblk m c 4 t) := by
  rw [stAt0_A m c t acc h0 h1]
  dsimp only
  constructor
  · unfold sout0_A_0
    rw [View.read_writes_eq_canon _ _ _ (fun y => scover0_A_0 (y := y) ..)]
    unfold kernelRun0_A
    dsimp only
    sl_unfold_words
    rw [View.canon_unit_zero zeros2]
    simp only [View.readAt_eq_ld, (hs0_0 t).read_unread, (hs0_1 t).read_unread, (hs0_2 t).read_unread, (hs0_3 t).read_unread, (hs0_4 t).read_unread, View.ld_unit_zero (S := S512x1024) zeros2, View.ld_unit_zero (S := S1x1024) zeros2, View.ld_unit_zero (S := S1024x256) zeros2, View.ld_unit_zero (S := S256x1024) zeros2]
  · unfold sout0_A_1
    rw [View.read_writes_eq_canon _ _ _ (fun y => scover0_A_1 (y := y) ..)]
    unfold kernelRun0_A
    dsimp only
    sl_unfold_words
    rw [View.canon_cons_unit_zero (S := S512x1024) zeros2]
    simp only [View.readCov_unit_zero (S := S512x1024) _ zeros2]
    simp only [View.readAt_eq_ld, (hs0_0 t).read_unread, (hs0_1 t).read_unread, (hs0_2 t).read_unread, (hs0_3 t).read_unread, (hs0_4 t).read_unread, View.ld_unit_zero (S := S512x1024) zeros2, View.ld_unit_zero (S := S1x1024) zeros2, View.ld_unit_zero (S := S1024x256) zeros2, View.ld_unit_zero (S := S256x1024) zeros2]

/-- Every later point keeps the rows and adds its own product to the sum. -/
theorem later (t : Fin cfg0.N) (acc : St) (h0 : ¬t.val % 11 = 0) :
    (stAt0 m c t.val t.isLt acc).2.1 = acc.2.1
    ∧ (stAt0 m c t.val t.isLt acc).2.2 = k0_pay3 acc.2.1 (iblk m c 2 t) (iblk m c 3 t) acc.2.2 (iblk m c 4 t) := by
  by_cases h1 : t.val % 11 = 10
  · rw [stAt0_C m c t acc h0 h1]
    refine ⟨rfl, ?_⟩
    dsimp only
    unfold sout0_C_1
    rw [View.read_writes_eq_canon _ _ _ (fun y => scover0_C_1 (y := y) ..)]
    unfold kernelRun0_C
    dsimp only
    sl_unfold_words
    rw [View.canon_unit_zero zeros2]
    simp only [View.readAt_eq_ld, (hs0_0 t).read_unread, (hs0_1 t).read_unread, (hs0_2 t).read_unread, (hs0_3 t).read_unread, (hs0_4 t).read_unread, (Memref.isWhole_whole _).read_unread, View.ld_unit_zero (S := S512x1024) zeros2, View.ld_unit_zero (S := S1x1024) zeros2, View.ld_unit_zero (S := S1024x256) zeros2, View.ld_unit_zero (S := S256x1024) zeros2]
  · rw [stAt0_B m c t acc h0 h1]
    refine ⟨rfl, ?_⟩
    dsimp only
    unfold sout0_B_1
    rw [View.read_writes_eq_canon _ _ _ (fun y => scover0_B_1 (y := y) ..)]
    unfold kernelRun0_B
    dsimp only
    sl_unfold_words
    rw [View.canon_unit_zero zeros2]
    simp only [View.readAt_eq_ld, (hs0_0 t).read_unread, (hs0_1 t).read_unread, (hs0_2 t).read_unread, (hs0_3 t).read_unread, (hs0_4 t).read_unread, (Memref.isWhole_whole _).read_unread, View.ld_unit_zero (S := S512x1024) zeros2, View.ld_unit_zero (S := S1x1024) zeros2, View.ld_unit_zero (S := S1024x256) zeros2, View.ld_unit_zero (S := S256x1024) zeros2]

/-- The last point of a row block writes the block plus the finished sum. -/
theorem last (t : Fin cfg0.N) (acc : St) (h0 : ¬t.val % 11 = 0) (h1 : t.val % 11 = 10) :
    (stAt0 m c t.val t.isLt acc).1 = k0_pay4 (iblk m c 0 t) (stAt0 m c t.val t.isLt acc).2.2 := by
  rw [(later m c t acc h0).2, stAt0_C m c t acc h0 h1]
  dsimp only
  unfold out0_C_5
  rw [View.read_writes_eq_canon _ _ _ (fun y => cover0_C_5 (y := y) ..)]
  unfold kernelRun0_C
  dsimp only
  sl_unfold_words
  rw [View.canon_unit_zero zeros2]
  simp only [View.readCov_unit_zero (S := S512x1024) _ zeros2]
  simp only [View.readAt_eq_ld, (hs0_0 t).read_unread, (hs0_1 t).read_unread, (hs0_2 t).read_unread, (hs0_3 t).read_unread, (hs0_4 t).read_unread, (Memref.isWhole_whole _).read_unread, View.ld_unit_zero (S := S512x1024) zeros2, View.ld_unit_zero (S := S1x1024) zeros2, View.ld_unit_zero (S := S1024x256) zeros2, View.ld_unit_zero (S := S256x1024) zeros2]

/-- Token `T`'s normalised row. -/
def hrow (T : Fin 16384) (k : Fin 1024) : EReal :=
  X m c (ix2 T k) * Ideal.rsqrt (Ideal.div (∑ x, X m c (ix2 T x) * X m c (ix2 T x)) (Ideal.ofBits FTy.f32 1149239296#32) + Ideal.ofBits FTy.f32 897988541#32)
    * G m c (ix1 k)
/-- Hidden unit `u`'s gate for token `T`. -/
def lin (T : Fin 16384) (u : Fin 2816) : EReal := ∑ q, hrow m c T q * Wg m c (ix2 q u)
/-- The contribution of hidden unit `u` to column `k` of token `T`. -/
def part (T : Fin 16384) (k : Fin 1024) (u : Fin 2816) : EReal :=
  lin m c T u * Ideal.div 1 (1 + Ideal.exp (-lin m c T u)) * (∑ q, hrow m c T q * Wu m c (ix2 q u)) * Wd m c (ix2 u k)
/-- What the `q`-th point of a row block adds. -/
def term (T : Fin 16384) (k : Fin 1024) (q : ℕ) : EReal := ∑ j : Fin 256, part m c T k ⟨256 * (q % 11) + j.val, by omega⟩

theorem rows_at (t : Fin cfg0.N) (r : Fin 512) (k : Fin 1024) :
    k0_pay1 (F := Ideal) (iblk m c 0 t) (iblk m c 1 t) (ix2 r k) = hrow m c (rowAt t r) k := by
  pointwise [k0_pay1]
  simp only [x_at, gain_at]
  rfl

theorem zero_at (r : Fin 512) (k : Fin 1024) : k0_pay2 (F := Ideal) (ix2 r k) = 0 := by
  pointwise [k0_pay2]

theorem out_at (x a : Vec Ideal S512x1024 .f32) (r : Fin 512) (k : Fin 1024) : k0_pay4 x a (ix2 r k) = x (ix2 r k) + a (ix2 r k) := by
  pointwise [k0_pay4]

/-- What point `t` adds to the sum, given the rows it finds. -/
theorem added (t : Fin cfg0.N) (r : Fin 512) (h : Vec Ideal S512x1024 .bf16) (a : Vec Ideal S512x1024 .f32)
    (hh : ∀ k, h (ix2 r k) = hrow m c (rowAt t r) k) (k : Fin 1024) :
    k0_pay3 h (iblk m c 2 t) (iblk m c 3 t) a (iblk m c 4 t) (ix2 r k) = a (ix2 r k) + term m c (rowAt t r) k (t.val % 11) := by
  have hu : ∀ j : Fin 256, (⟨256 * (t.val % 11 % 11) + j.val, by omega⟩ : Fin 2816) = unitAt t j := fun j =>
    Fin.ext (by show 256 * (t.val % 11 % 11) + j.val = 256 * (t.val % 11) + j.val; omega)
  unfold term part lin
  simp only [hu]
  pointwise [k0_pay3]
  simp only [hh, gate_at, up_at, down_at, zero_sub]

/-- The state after point `n`. -/
abbrev state (n : ℕ) (h : 0 + n < cfg0.N) : St :=
  Pipeline.accAt (fun n h => stAt0 m c n h junk0) (stAt0 m c) 0 n h

/-- What holds after point `t`: the rows of its row block, and the sum of the block's points so far. -/
def Holds (t : Fin cfg0.N) (s : St) : Prop := ∀ r : Fin 512,
  (∀ k, s.2.1 (ix2 r k) = hrow m c (rowAt t r) k)
  ∧ ∀ k, s.2.2 (ix2 r k) = ∑ q ∈ Finset.range (t.val % 11 + 1), term m c (rowAt t r) k q

/-- The first point of a row block starts the sum, whatever it finds. -/
theorem holds_first (t : Fin cfg0.N) (acc : St) (h0 : t.val % 11 = 0) : Holds m c t (stAt0 m c t.val t.isLt acc) := by
  intro r
  obtain ⟨e1, e2⟩ := first m c t acc h0 (by omega)
  refine ⟨fun k => ?_, fun k => ?_⟩
  · rw [e1]; exact rows_at m c t r k
  · rw [e2, added m c t r _ _ (rows_at m c t r), zero_at, zero_add, h0, Finset.sum_range_one]

/-- A later point of a row block goes on from what the point before left. -/
theorem holds_later (n : ℕ) (h : n + 1 < cfg0.N) (acc : St) (h0 : ¬(n + 1) % 11 = 0)
    (ih : Holds m c ⟨n, by omega⟩ acc) : Holds m c ⟨n + 1, h⟩ (stAt0 m c (n + 1) h acc) := by
  intro r
  obtain ⟨ih1, ih2⟩ := ih r
  have hr : rowAt (⟨n, by omega⟩ : Fin cfg0.N) r = rowAt (⟨n + 1, h⟩ : Fin cfg0.N) r :=
    Fin.ext (by show 512 * (n / 11) + r.val = 512 * ((n + 1) / 11) + r.val; omega)
  rw [hr] at ih1
  obtain ⟨e1, e2⟩ := later m c ⟨n + 1, h⟩ acc h0
  refine ⟨fun k => ?_, fun k => ?_⟩
  · rw [e1]; exact ih1 k
  · rw [e2, added m c ⟨n + 1, h⟩ r _ _ ih1, ih2 k, hr]
    show _ + term m c _ k ((n + 1) % 11) = ∑ q ∈ Finset.range ((n + 1) % 11 + 1), _
    rw [show (n + 1) % 11 = n % 11 + 1 by omega, Finset.sum_range_succ _ (n % 11 + 1)]

theorem state_succ (n : ℕ) (h : 0 + (n + 1) < cfg0.N) : state m c (n + 1) h = stAt0 m c (n + 1) (by omega) (state m c n (by omega)) := by
  show stAt0 m c (0 + (n + 1)) _ _ = _
  congr 1
  omega

theorem holds (n : ℕ) (h : 0 + n < cfg0.N) : Holds m c ⟨n, by omega⟩ (state m c n h) := by
  induction n with
  | zero => exact holds_first m c ⟨0, by omega⟩ junk0 rfl
  | succ n ih =>
    rw [state_succ]
    by_cases h0 : (n + 1) % 11 = 0
    · exact holds_first m c ⟨n + 1, by omega⟩ _ h0
    · exact holds_later m c n (by omega) _ h0 (ih (by omega))

theorem sum_terms (T : Fin 16384) (k : Fin 1024) : ∑ q ∈ Finset.range 11, term m c T k q = ∑ u : Fin 2816, part m c T k u := by
  rw [Finset.sum_range, ← (finProdFinEquiv (m := 11) (n := 256)).sum_comp, Fintype.sum_prod_type]
  refine Finset.sum_congr rfl fun f _ => ?_
  unfold term
  refine Finset.sum_congr rfl fun j _ => ?_
  have hf := f.isLt
  congr 1
  apply Fin.ext
  show 256 * (f.val % 11) + j.val = j.val + 256 * f.val
  omega

/-- What the result holds at token `T`, column `k`. -/
theorem result_at (T : Fin 16384) (k : Fin 1024) :
    G5 m c (ix2 T k) = X m c (ix2 T k) + ∑ u : Fin 2816, part m c T k u := by
  have hT := T.isLt
  have hk := k.isLt
  have hN : cfg0.N = 352 := N_0
  have hp : pt5Of (ix2 T k) = 11 * (T.val / 512) + 10 := by
    show 11 * (1 * (T.val / 512 - 0) + 1 * (k.val / 1024 - 0)) + 10 = _
    omega
  have hl : loc5Of (ix2 T k) = ix2 (⟨T.val % 512, by omega⟩ : Fin 512) k := by
    funext a
    match a with
    | ⟨0, _⟩ => rfl
    | ⟨1, _⟩ => exact Fin.ext (Nat.mod_eq_of_lt hk)
  have hlt : pt5Of (ix2 T k) < cfg0.N := by rw [hp, hN]; omega
  unfold G5
  rw [dif_pos hlt, hl]
  set n := 11 * (T.val / 512) + 9 with hn
  rw [fold0_congr m c _ _ (n + 1) (by omega) (by omega)]
  have hH := (holds m c (n + 1) (by omega) ⟨T.val % 512, by omega⟩).2 k
  have hrow' : rowAt (⟨n + 1, by omega⟩ : Fin cfg0.N) ⟨T.val % 512, by omega⟩ = T :=
    Fin.ext (by show 512 * ((n + 1) / 11) + T.val % 512 = T.val; omega)
  have ho := last m c ⟨n + 1, by omega⟩ (state m c n (by omega)) (by show ¬(n + 1) % 11 = 0; omega) (by show (n + 1) % 11 = 10; omega)
  show (state m c (n + 1) (by omega)).1 _ = _
  rw [state_succ] at hH ⊢
  rw [ho, out_at, x_at, hrow']
  congr 1
  refine hH.trans ?_
  rw [hrow']
  show ∑ q ∈ Finset.range ((n + 1) % 11 + 1), _ = _
  rw [show (n + 1) % 11 + 1 = 11 by omega, sum_terms]

/-- The array the call leaves is the reference's, as functions of the arguments. -/
theorem eq_ref : (G5 m c : S16384x1024.Idx → EReal)
    = Cert.DenseRefIdeal.Read.val_main_v18 (F := Ideal) (X m c) (G m c) (Wg m c) (Wu m c) (Wd m c) := by
  refine funext fun (i : S16384x1024.Idx) => ?_
  obtain ⟨T, k, rfl⟩ : ∃ (T : Fin 16384) (k : Fin 1024), i = ix2 T k := ⟨i 0, i 1, (ix2_eta i).symm⟩
  refine (result_at m c T k).trans (Eq.trans ?_ (Eq.symm (by
    pointwise [Cert.DenseRefIdeal.Read.val_main_v0, Cert.DenseRefIdeal.Read.val_main_cst, Cert.DenseRefIdeal.Read.val_main_v1, Cert.DenseRefIdeal.Read.val_main_v2, Cert.DenseRefIdeal.Read.val_main_cst_0, Cert.DenseRefIdeal.Read.val_main_v3, Cert.DenseRefIdeal.Read.val_main_v4, Cert.DenseRefIdeal.Read.val_main_cst_1, Cert.DenseRefIdeal.Read.val_main_v5, Cert.DenseRefIdeal.Read.val_main_v6, Cert.DenseRefIdeal.Read.val_main_v7, Cert.DenseRefIdeal.Read.val_main_v8, Cert.DenseRefIdeal.Read.val_main_v9, Cert.DenseRefIdeal.Read.val_main_v10, Cert.DenseRefIdeal.Read.val_main_v11, Cert.DenseRefIdeal.Read.val_main_v12, Cert.DenseRefIdeal.Read.val_main_v13, Cert.DenseRefIdeal.Read.val_main_call0_v0, Cert.DenseRefIdeal.Read.val_main_call0_v1, Cert.DenseRefIdeal.Read.val_main_call0_cst, Cert.DenseRefIdeal.Read.val_main_call0_v2, Cert.DenseRefIdeal.Read.val_main_call0_v3, Cert.DenseRefIdeal.Read.val_main_call0_cst_0, Cert.DenseRefIdeal.Read.val_main_call0_v4, Cert.DenseRefIdeal.Read.val_main_call0_v5, Cert.DenseRefIdeal.Read.val_main_v14, Cert.DenseRefIdeal.Read.val_main_v15, Cert.DenseRefIdeal.Read.val_main_v16, Cert.DenseRefIdeal.Read.val_main_v17, Cert.DenseRefIdeal.Read.val_main_v18]
    rfl)))
  simp only [part, lin, hrow]

end Cert.DenseEq

end
-- ==== Proof.PleEq.lean ====
/- The per-layer embedding call: its result array and its reference's are the same function of the arguments. -/
module

public import proofs.«01_k».proof.Proof.Gen.PleIdeal.Value
public import proofs.«01_k».proof.Proof.Gen.PleRefIdeal.Read
public import Idealize.ShloMosaic.Lib.Pointwise
public import Idealize.ShloMosaic.Lib.StableHlo.Run

@[expose] public section

set_option maxRecDepth 16384

noncomputable section

namespace Cert.PleEq

open Cert.PleIdeal Cert.PleIdeal.Gen Cert.PleIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl

/-- The arguments as functions of their indices. -/
abbrev X : FVec Ideal S16384x1024 .f32 := m ((c : Thread nD τ).loc main_arg0)
abbrev Pe : FVec Ideal S16384x256 .f32 := m ((c : Thread nD τ).loc main_arg1)
abbrev G : FVec Ideal S1024 .f32 := m ((c : Thread nD τ).loc main_arg2)
abbrev Wg : FVec Ideal S1024x1024 .f32 := m ((c : Thread nD τ).loc main_arg3)
abbrev Wp : FVec Ideal S256x1024 .f32 := m ((c : Thread nD τ).loc main_arg4)

theorem gain_eq : V m c main_v0 = (shapeCast S1x1024 (G m c) shapeCasts_S1024_S1x1024 : FVec Ideal S1x1024 .f32) := by
  show StableHlo.after hostOps0 _ _ = _
  simp only [hostOps0]
  after_results
  rfl
theorem gate_eq : V m c main_v1 = (Wg m c : S1024x1024.Idx → EReal) := by
  show StableHlo.after hostOps0 _ _ = _
  simp only [hostOps0]
  after_results
  rfl
theorem proj_eq : V m c main_v2 = (Wp m c : S256x1024.Idx → EReal) := by
  show StableHlo.after hostOps0 _ _ = _
  simp only [hostOps0]
  after_results
  rfl

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = 0 ∧ win0_4.index t (1 : Fin 2) = 0 := by decide +kernel
theorem index5 : ∀ t : Fin grid0.N, win0_5.index t (0 : Fin 2) = t.val ∧ win0_5.index t (1 : Fin 2) = 0 := by decide +kernel

/-- The row of the input that row `r` of point `t`'s block is. -/
def rowAt (t : Fin cfg0.N) (r : Fin 512) : Fin 16384 :=
  ⟨512 * t.val + r.val, by have := t.isLt; have h : cfg0.N = 32 := N_0; omega⟩

theorem x_at (t : Fin cfg0.N) (r : Fin 512) (k : Fin 1024) :
    (iblk m c 0 t : Vec Ideal S512x1024 .f32) (ix2 r k) = X m c (ix2 (rowAt t r) k) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem pe_at (t : Fin cfg0.N) (r : Fin 512) (k : Fin 256) :
    (iblk m c 1 t : Vec Ideal S512x256 .f32) (ix2 r k) = Pe m c (ix2 (rowAt t r) k) := by
  obtain ⟨h0, h1⟩ := index1 t
  unfold iblk
  rw [View.read_apply]
  show V m c main_arg1 _ = _
  rw [V_main_arg1]
  congr 1
  funext a
  apply Fin.ext
  match a with
  | ⟨0, _⟩ => show win0_1.index t 0 * 512 + 1 * r.val = 512 * t.val + r.val; rw [h0]; omega
  | ⟨1, _⟩ => show win0_1.index t 1 * 256 + 1 * k.val = k.val; rw [h1]; omega

theorem gain_at (t : Fin cfg0.N) (k : Fin 1024) :
    (iblk m c 2 t : Vec Ideal S1x1024 .f32) (ix2 0 k) = G m c (ix1 k) := by
  obtain ⟨h0, h1⟩ := index2 t
  have e : (iblk m c 2 t : Vec Ideal S1x1024 .f32) (ix2 0 k) = V m c main_v0 (ix2 (n0 := 1) (n1 := 1024) 0 k) := by
    unfold iblk
    rw [View.read_apply]
    show V m c main_v0 _ = _
    congr 1
    funext a
    apply Fin.ext
    match a with
    | ⟨0, _⟩ => show win0_2.index t 0 * 1 + 1 * 0 = 0; rw [h0]
    | ⟨1, _⟩ => show win0_2.index t 1 * 1024 + 1 * k.val = k.val; rw [h1]; omega
  rw [e, gain_eq]
  pointwise []

theorem gate_at (t : Fin cfg0.N) (q k : Fin 1024) :
    (iblk m c 3 t : Vec Ideal S1024x1024 .bf16) (ix2 q k) = Wg m c (ix2 q k) := by
  obtain ⟨h0, h1⟩ := index3 t
  unfold iblk
  rw [View.read_apply]
  show V m c main_v1 _ = _
  rw [gate_eq]
  congr 1
  funext a
  apply Fin.ext
  match a with
  | ⟨0, _⟩ => show win0_3.index t 0 * 1024 + 1 * q.val = q.val; rw [h0]; omega
  | ⟨1, _⟩ => show win0_3.index t 1 * 1024 + 1 * k.val = k.val; rw [h1]; omega

theorem proj_at (t : Fin cfg0.N) (q : Fin 256) (k : Fin 1024) :
    (iblk m c 4 t : Vec Ideal S256x1024 .bf16) (ix2 q k) = Wp m c (ix2 q k) := by
  obtain ⟨h0, h1⟩ := index4 t
  unfold iblk
  rw [View.read_apply]
  show V m c main_v2 _ = _
  rw [proj_eq]
  congr 1
  funext a
  apply Fin.ext
  match a with
  | ⟨0, _⟩ => show win0_4.index t 0 * 256 + 1 * q.val = q.val; rw [h0]; omega
  | ⟨1, _⟩ => show win0_4.index t 1 * 1024 + 1 * k.val = k.val; rw [h1]; omega

/-- The array the call leaves, at a row of point `t`'s block, is the payload there. -/
theorem array_at (t : Fin cfg0.N) (r : Fin 512) (k : Fin 1024) :
    ((dats m 0 c).arrAt 5 cfg0.N : S16384x1024.Idx → EReal) (ix2 (rowAt t r) k)
      = k0_pay1 (F := Ideal) (iblk m c 0 t) (iblk m c 2 t) (iblk m c 3 t) (iblk m c 1 t) (iblk m c 4 t) (ix2 r k) := by
  obtain ⟨h0, h1⟩ := index5 t
  have hf : ∀ t : Fin grid0.N, win0_5.flush t = true := by decide +kernel
  have e := congrFun ((blocks5 m c t (hf t)).trans (flushed5 m c t)) (ix2 (n0 := 512) (n1 := 1024) r k)
  rw [View.read_apply] at e
  refine Eq.trans (congrArg _ ?_) (e.trans ?_)
  · funext a
    apply Fin.ext
    match a with
    | ⟨0, _⟩ => show 512 * t.val + r.val = win0_5.index t 0 * 512 + 1 * r.val; rw [h0]; omega
    | ⟨1, _⟩ => show k.val = win0_5.index t 1 * 1024 + 1 * k.val; rw [h1]; omega
  · show out0_5 (iblk m c 0 t) (iblk m c 1 t) (iblk m c 2 t) (iblk m c 3 t) (iblk m c 4 t) (ix2 r k) = _
    unfold out0_5
    rw [View.canon_unit_zero zeros2]
    simp only [View.ld_unit_zero (S := S512x1024) zeros2, View.ld_unit_zero (S := S1x1024) zeros2, View.ld_unit_zero (S := S1024x1024) zeros2,
      View.ld_unit_zero (S := S512x256) zeros2, View.ld_unit_zero (S := S256x1024) zeros2]

theorem same_at (t : Fin cfg0.N) (r : Fin 512) (k : Fin 1024) :
    k0_pay1 (F := Ideal) (iblk m c 0 t) (iblk m c 2 t) (iblk m c 3 t) (iblk m c 1 t) (iblk m c 4 t) (ix2 r k)
      = Cert.PleRefIdeal.Read.val_main_v22 (F := Ideal) (X m c) (Pe m c) (G m c) (Wg m c) (Wp m c) (ix2 (rowAt t r) k) := by
  pointwise [k0_pay1]
  simp only [x_at, pe_at, gain_at, gate_at, proj_at]
  refine Eq.trans ?_ (Eq.symm (by
    pointwise [Cert.PleRefIdeal.Read.val_main_v0, Cert.PleRefIdeal.Read.val_main_cst, Cert.PleRefIdeal.Read.val_main_v1, Cert.PleRefIdeal.Read.val_main_v2, Cert.PleRefIdeal.Read.val_main_cst_0, Cert.PleRefIdeal.Read.val_main_v3, Cert.PleRefIdeal.Read.val_main_v4, Cert.PleRefIdeal.Read.val_main_cst_1, Cert.PleRefIdeal.Read.val_main_v5, Cert.PleRefIdeal.Read.val_main_v6, Cert.PleRefIdeal.Read.val_main_v7, Cert.PleRefIdeal.Read.val_main_v8, Cert.PleRefIdeal.Read.val_main_v9, Cert.PleRefIdeal.Read.val_main_v10, Cert.PleRefIdeal.Read.val_main_v11, Cert.PleRefIdeal.Read.val_main_v12, Cert.PleRefIdeal.Read.val_main_v13, Cert.PleRefIdeal.Read.val_main_v14, Cert.PleRefIdeal.Read.val_main_v15, Cert.PleRefIdeal.Read.val_main_cst_2, Cert.PleRefIdeal.Read.val_main_v16, Cert.PleRefIdeal.Read.val_main_v17, Cert.PleRefIdeal.Read.val_main_cst_3, Cert.PleRefIdeal.Read.val_main_v18, Cert.PleRefIdeal.Read.val_main_v19, Cert.PleRefIdeal.Read.val_main_v20, Cert.PleRefIdeal.Read.val_main_v21, Cert.PleRefIdeal.Read.val_main_v22]
    rfl))
  simp only [zero_sub]

/-- The call's result array is the reference's. -/
theorem eq_ref : (dats m 0 c).arrAt 5 cfg0.N
    = (Cert.PleRefIdeal.Read.val_main_v22 (F := Ideal) (X m c) (Pe m c) (G m c) (Wg m c) (Wp m c) : S16384x1024.Idx → EReal) := by
  refine funext fun (i : S16384x1024.Idx) => ?_
  obtain ⟨t, r, k, rfl⟩ : ∃ (t : Fin cfg0.N) (r : Fin 512) (k : Fin 1024), i = ix2 (rowAt t r) k := by
    have hi : (i 0).val < 16384 := (i 0).isLt
    refine ⟨⟨(i 0).val / 512, by rw [show cfg0.N = 32 from N_0]; omega⟩, ⟨(i 0).val % 512, by omega⟩, i 1, ?_⟩
    funext a
    match a with
    | ⟨0, _⟩ => apply Fin.ext; show (i 0).val = 512 * ((i 0).val / 512) + (i 0).val % 512; omega
    | ⟨1, _⟩ => rfl
  exact (array_at m c t r k).trans (same_at m c t r k)

end Cert.PleEq

end
-- ==== Proof.GmlpEq.lean ====
/- The chunked spatial gating call: its two result arrays and its reference's are the same functions of the arguments. -/
module

public import proofs.«01_k».proof.Proof.Gen.GmlpIdeal.Value
public import proofs.«01_k».proof.Proof.Gen.GmlpRefIdeal.Read
public import Idealize.ShloMosaic.Lib.Pointwise
public import Idealize.ShloMosaic.Lib.StableHlo.Run

@[expose] public section

set_option maxRecDepth 16384

noncomputable section

namespace Cert.GmlpEq

open Cert.GmlpIdeal Cert.GmlpIdeal.Gen Cert.GmlpIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The arguments as functions of their indices. -/
abbrev X : FVec Ideal S16384x1024 .f32 := m ((c : Thread nD τ).loc main_arg0)
abbrev G : FVec Ideal S1024 .f32 := m ((c : Thread nD τ).loc main_arg1)
abbrev Wi : FVec Ideal S1024x7456 .f32 := m ((c : Thread nD τ).loc main_arg2)
abbrev Gn : FVec Ideal S512 .f32 := m ((c : Thread nD τ).loc main_arg3)
abbrev Ws : FVec Ideal S4x128x128 .f32 := m ((c : Thread nD τ).loc main_arg4)
abbrev Bs : FVec Ideal S4x128 .f32 := m ((c : Thread nD τ).loc main_arg5)

theorem gain_eq : V m c main_v23 = (shapeCast S1x1024 (G m c) shapeCasts_S1024_S1x1024 : FVec Ideal S1x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem gates_eq : V m c main_v25 = (extractStridedSlice S1024x1024 ![0, 1536] (Wi m c) slices_S1024x7456_S1024x1024_0_1536 : FVec Ideal S1024x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem norm_eq : V m c main_v26 = (shapeCast S1x512 (Gn m c) shapeCasts_S512_S1x512 : FVec Ideal S1x512 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The mixing matrices the kernel is handed: below and on the diagonal the weights, above it zero. -/
theorem mix_eq (g : Fin 4) (i j : Fin 128) : (V m c main_v22 : S4x128x128.Idx → EReal) (ix3 g i j) = Scalar.select (IntOp.cmpi .sge (BitVec.ofNat 32 i.val) (BitVec.ofNat 32 j.val)) (Ws m c (ix3 g i j)) (0 : EReal) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  simp only [StableHlo.TRef.ofBuf_toBuf]
  pointwise []
  have h1 : FloatOps.uitofp (F := Ideal) FTy.f32 (IntOp.cmpi CmpIPredicate.eq (IntOp.addi 0#32 0#32) 0#32) = (1 : EReal) := by
    rw [show IntOp.cmpi CmpIPredicate.eq (IntOp.addi 0#32 0#32) 0#32 = 1#1 from by decide]
    show (((1#1 : BitVec 1).toNat : ℝ) : EReal) = 1
    norm_num
  rw [h1, one_mul]
  show Ws m c (ix3 g i j) * Scalar.select (IntOp.cmpi CmpIPredicate.sge (BitVec.ofNat 32 i.val + 0#32) (BitVec.ofNat 32 j.val)) (Ideal.ofBits .f32 1065353216#32) (Ideal.ofBits .f32 0#32) = _
  rw [BitVec.add_zero, Ideal.ofBits_one_f32, Ideal.ofBits_zero]
  unfold Scalar.select
  split_ifs
  · exact mul_one _
  · exact mul_zero _

theorem bias_eq (i : Fin 128) (k : Fin 512) : (V m c main_v21 : S128x512.Idx → EReal) (ix2 i k) = Bs m c (ix2 ⟨k.val / 128, by omega⟩ i) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  pointwise []

theorem planes (x : Vec Ideal S4x128x128 .bf16) (q k : Fin 128) :
    (View.ld x r0_6 : Vec Ideal S1x128x128 .bf16) (ix3 0 q k) = x (ix3 0 q k)
    ∧ (View.ld x r0_7 : Vec Ideal S1x128x128 .bf16) (ix3 0 q k) = x (ix3 1 q k)
    ∧ (View.ld x r0_8 : Vec Ideal S1x128x128 .bf16) (ix3 0 q k) = x (ix3 2 q k)
    ∧ (View.ld x r0_9 : Vec Ideal S1x128x128 .bf16) (ix3 0 q k) = x (ix3 3 q k) := by
  refine ⟨?_, ?_, ?_, ?_⟩ <;>
  · show x _ = x _
    congr 1
    funext a
    apply Fin.ext
    match a with
    | ⟨0, _⟩ => rfl
    | ⟨1, _⟩ => show 0 + 1 * q.val = q.val; omega
    | ⟨2, _⟩ => show 0 + 1 * k.val = k.val; omega

/-- A chunk's gated rows: the gate times the mixed normalised rows plus the bias. -/
def gated (u v : Fin 512 → Fin 512 → EReal) (b : FVec Ideal S128x512 .f32) (w : Vec Ideal S4x128x128 .bf16) (o : Fin 4) (i : Fin 128) (k : Fin 512) : EReal :=
  u ⟨128 * o.val + i.val, by omega⟩ k * ((∑ x : Fin 128, w (ix3 ⟨k.val / 128, by omega⟩ i x) * v ⟨128 * o.val + x.val, by omega⟩ k) + b (ix2 i k))

theorem tile1 (u v : FVec Ideal S512x512 .f32) (b : FVec Ideal S128x512 .f32) (w : Vec Ideal S4x128x128 .bf16) (i : Fin 128) (k : Fin 512) :
    k0_pay10 u v b (View.ld w r0_6) (View.ld w r0_7) (View.ld w r0_8) (View.ld w r0_9) (ix2 i k) = gated (fun r k => u (ix2 r k)) (fun r k => v (ix2 r k)) b w 1 i k := by
  have hp := planes w
  generalize (View.ld w r0_6 : Vec Ideal S1x128x128 .bf16) = w0 at *
  generalize (View.ld w r0_7 : Vec Ideal S1x128x128 .bf16) = w1 at *
  generalize (View.ld w r0_8 : Vec Ideal S1x128x128 .bf16) = w2 at *
  generalize (View.ld w r0_9 : Vec Ideal S1x128x128 .bf16) = w3 at *
  unfold gated
  refine Eq.trans (by pointwise [k0_pay10]; rfl) ?_
  simp only [(hp _ _).1, (hp _ _).2.1, (hp _ _).2.2.1, (hp _ _).2.2.2]
  change _ * (dite (k.val < 128) _ (fun _ => dite (k.val - 128 < 128) _ (fun _ => dite (k.val - 128 - 128 < 128) _ _)) + _) = _
  by_cases h1 : k.val < 128
  · rw [dif_pos h1]
    have hg : (⟨k.val / 128, by omega⟩ : Fin 4) = 0 := Fin.ext (by show k.val / 128 = 0; omega)
    rw [hg]; rfl
  rw [dif_neg h1]
  by_cases h2 : k.val - 128 < 128
  · rw [dif_pos h2]
    have hg : (⟨k.val / 128, by omega⟩ : Fin 4) = 1 := Fin.ext (by show k.val / 128 = 1; omega)
    have hk : ∀ p, (⟨128 + (k.val - 128), p⟩ : Fin 512) = k := fun p => Fin.ext (by show 128 + (k.val - 128) = k.val; omega)
    simp only [hk]
    rw [hg]; rfl
  rw [dif_neg h2]
  by_cases h3 : k.val - 128 - 128 < 128
  · rw [dif_pos h3]
    have hg : (⟨k.val / 128, by omega⟩ : Fin 4) = 2 := Fin.ext (by show k.val / 128 = 2; omega)
    have hk : ∀ p, (⟨256 + (k.val - 128 - 128), p⟩ : Fin 512) = k := fun p => Fin.ext (by show 256 + (k.val - 128 - 128) = k.val; omega)
    simp only [hk]
    rw [hg]; rfl
  rw [dif_neg h3]
  have hg : (⟨k.val / 128, by omega⟩ : Fin 4) = 3 := Fin.ext (by show k.val / 128 = 3; omega)
  have hk : ∀ p, (⟨384 + (k.val - 128 - 128 - 128), p⟩ : Fin 512) = k := fun p => Fin.ext (by show 384 + (k.val - 128 - 128 - 128) = k.val; omega)
  simp only [hk]
  rw [hg]; rfl

theorem tile2 (u v : FVec Ideal S512x512 .f32) (b : FVec Ideal S128x512 .f32) (w : Vec Ideal S4x128x128 .bf16) (i : Fin 128) (k : Fin 512) :
    k0_pay14 u v b (k0_pay11 v (View.ld w r0_6)) (k0_pay12 (View.ld w r0_7)) (k0_pay13 v) (View.ld w r0_8) (View.ld w r0_9) (ix2 i k) = gated (fun r k => u (ix2 r k)) (fun r k => v (ix2 r k)) b w 2 i k := by
  have hp := planes w
  generalize (View.ld w r0_6 : Vec Ideal S1x128x128 .bf16) = w0 at *
  generalize (View.ld w r0_7 : Vec Ideal S1x128x128 .bf16) = w1 at *
  generalize (View.ld w r0_8 : Vec Ideal S1x128x128 .bf16) = w2 at *
  generalize (View.ld w r0_9 : Vec Ideal S1x128x128 .bf16) = w3 at *
  unfold gated
  refine Eq.trans (by pointwise [k0_pay14, k0_pay11, k0_pay12, k0_pay13]; rfl) ?_
  simp only [(hp _ _).1, (hp _ _).2.1, (hp _ _).2.2.1, (hp _ _).2.2.2]
  change _ * (dite (k.val < 128) _ (fun _ => dite (k.val - 128 < 128) _ (fun _ => dite (k.val - 128 - 128 < 128) _ _)) + _) = _
  by_cases h1 : k.val < 128
  · rw [dif_pos h1]
    have hg : (⟨k.val / 128, by omega⟩ : Fin 4) = 0 := Fin.ext (by show k.val / 128 = 0; omega)
    rw [hg]; rfl
  rw [dif_neg h1]
  by_cases h2 : k.val - 128 < 128
  · rw [dif_pos h2]
    have hg : (⟨k.val / 128, by omega⟩ : Fin 4) = 1 := Fin.ext (by show k.val / 128 = 1; omega)
    have hk : ∀ p, (⟨128 + (k.val - 128), p⟩ : Fin 512) = k := fun p => Fin.ext (by show 128 + (k.val - 128) = k.val; omega)
    simp only [hk]
    rw [hg]; rfl
  rw [dif_neg h2]
  by_cases h3 : k.val - 128 - 128 < 128
  · rw [dif_pos h3]
    have hg : (⟨k.val / 128, by omega⟩ : Fin 4) = 2 := Fin.ext (by show k.val / 128 = 2; omega)
    have hk : ∀ p, (⟨256 + (k.val - 128 - 128), p⟩ : Fin 512) = k := fun p => Fin.ext (by show 256 + (k.val - 128 - 128) = k.val; omega)
    simp only [hk]
    rw [hg]; rfl
  rw [dif_neg h3]
  have hg : (⟨k.val / 128, by omega⟩ : Fin 4) = 3 := Fin.ext (by show k.val / 128 = 3; omega)
  have hk : ∀ p, (⟨384 + (k.val - 128 - 128 - 128), p⟩ : Fin 512) = k := fun p => Fin.ext (by show 384 + (k.val - 128 - 128 - 128) = k.val; omega)
  simp only [hk]
  rw [hg]; rfl

theorem tile3 (u v : FVec Ideal S512x512 .f32) (b : FVec Ideal S128x512 .f32) (w : Vec Ideal S4x128x128 .bf16) (i : Fin 128) (k : Fin 512) :
    k0_pay1 u v b (k0_pay15 v (View.ld w r0_6)) (k0_pay16 v (View.ld w r0_7)) (k0_pay17 v (View.ld w r0_8)) (k0_pay18 (View.ld w r0_9)) (ix2 i k) = gated (fun r k => u (ix2 r k)) (fun r k => v (ix2 r k)) b w 3 i k := by
  have hp := planes w
  generalize (View.ld w r0_6 : Vec Ideal S1x128x128 .bf16) = w0 at *
  generalize (View.ld w r0_7 : Vec Ideal S1x128x128 .bf16) = w1 at *
  generalize (View.ld w r0_8 : Vec Ideal S1x128x128 .bf16) = w2 at *
  generalize (View.ld w r0_9 : Vec Ideal S1x128x128 .bf16) = w3 at *
  unfold gated
  refine Eq.trans (by pointwise [k0_pay1, k0_pay15, k0_pay16, k0_pay17, k0_pay18]; rfl) ?_
  simp only [(hp _ _).1, (hp _ _).2.1, (hp _ _).2.2.1, (hp _ _).2.2.2]
  change _ * (dite (k.val < 128) _ (fun _ => dite (k.val - 128 < 128) _ (fun _ => dite (k.val - 128 - 128 < 128) _ _)) + _) = _
  by_cases h1 : k.val < 128
  · rw [dif_pos h1]
    have hg : (⟨k.val / 128, by omega⟩ : Fin 4) = 0 := Fin.ext (by show k.val / 128 = 0; omega)
    rw [hg]; rfl
  rw [dif_neg h1]
  by_cases h2 : k.val - 128 < 128
  · rw [dif_pos h2]
    have hg : (⟨k.val / 128, by omega⟩ : Fin 4) = 1 := Fin.ext (by show k.val / 128 = 1; omega)
    have hk : ∀ p, (⟨128 + (k.val - 128), p⟩ : Fin 512) = k := fun p => Fin.ext (by show 128 + (k.val - 128) = k.val; omega)
    simp only [hk]
    rw [hg]; rfl
  rw [dif_neg h2]
  by_cases h3 : k.val - 128 - 128 < 128
  · rw [dif_pos h3]
    have hg : (⟨k.val / 128, by omega⟩ : Fin 4) = 2 := Fin.ext (by show k.val / 128 = 2; omega)
    have hk : ∀ p, (⟨256 + (k.val - 128 - 128), p⟩ : Fin 512) = k := fun p => Fin.ext (by show 256 + (k.val - 128 - 128) = k.val; omega)
    simp only [hk]
    rw [hg]; rfl
  rw [dif_neg h3]
  have hg : (⟨k.val / 128, by omega⟩ : Fin 4) = 3 := Fin.ext (by show k.val / 128 = 3; omega)
  have hk : ∀ p, (⟨384 + (k.val - 128 - 128 - 128), p⟩ : Fin 512) = k := fun p => Fin.ext (by show 384 + (k.val - 128 - 128 - 128) = k.val; omega)
  simp only [hk]
  rw [hg]; rfl

theorem tile0 (u v33 : FVec Ideal S512x512 .f32) (v35 : FVec Ideal S1x512 .f32) (v40 : FVec Ideal S512x1 .f32) (b : FVec Ideal S128x512 .f32) (w : Vec Ideal S4x128x128 .bf16) (i : Fin 128) (k : Fin 512) :
    k0_pay9 u v33 v35 v40 b (View.ld w r0_6) (View.ld w r0_7) (View.ld w r0_8) (View.ld w r0_9) (ix2 i k) = gated (fun r k => u (ix2 r k)) (fun r k => k0_pay7 v33 v35 v40 (ix2 r k)) b w 0 i k := by
  have hp := planes w
  generalize (View.ld w r0_6 : Vec Ideal S1x128x128 .bf16) = w0 at *
  generalize (View.ld w r0_7 : Vec Ideal S1x128x128 .bf16) = w1 at *
  generalize (View.ld w r0_8 : Vec Ideal S1x128x128 .bf16) = w2 at *
  generalize (View.ld w r0_9 : Vec Ideal S1x128x128 .bf16) = w3 at *
  unfold gated
  refine Eq.trans (by pointwise [k0_pay9, k0_pay8]; rfl) ?_
  simp only [(hp _ _).1, (hp _ _).2.1, (hp _ _).2.2.1, (hp _ _).2.2.2]
  have hz : ∀ (x : Fin 128) p, (⟨128 * (0 : Fin 4).val + x.val, p⟩ : Fin 512) = ⟨x.val, by omega⟩ := fun x _ => Fin.ext (by show 128 * 0 + x.val = x.val; omega)
  simp only [hz]
  change _ * (dite (k.val < 128) _ (fun _ => dite (k.val - 128 < 128) _ (fun _ => dite (k.val - 128 - 128 < 128) _ _)) + _) = _
  by_cases h1 : k.val < 128
  · rw [dif_pos h1]
    have hg : (⟨k.val / 128, by omega⟩ : Fin 4) = 0 := Fin.ext (by show k.val / 128 = 0; omega)
    rw [hg]
  rw [dif_neg h1]
  by_cases h2 : k.val - 128 < 128
  · rw [dif_pos h2]
    have hg : (⟨k.val / 128, by omega⟩ : Fin 4) = 1 := Fin.ext (by show k.val / 128 = 1; omega)
    have hk : ∀ p, (⟨128 + (k.val - 128), p⟩ : Fin 512) = k := fun p => Fin.ext (by show 128 + (k.val - 128) = k.val; omega)
    simp only [hk]
    rw [hg]
  rw [dif_neg h2]
  by_cases h3 : k.val - 128 - 128 < 128
  · rw [dif_pos h3]
    have hg : (⟨k.val / 128, by omega⟩ : Fin 4) = 2 := Fin.ext (by show k.val / 128 = 2; omega)
    have hk : ∀ p, (⟨256 + (k.val - 128 - 128), p⟩ : Fin 512) = k := fun p => Fin.ext (by show 256 + (k.val - 128 - 128) = k.val; omega)
    simp only [hk]
    rw [hg]
  rw [dif_neg h3]
  have hg : (⟨k.val / 128, by omega⟩ : Fin 4) = 3 := Fin.ext (by show k.val / 128 = 3; omega)
  have hk : ∀ p, (⟨384 + (k.val - 128 - 128 - 128), p⟩ : Fin 512) = k := fun p => Fin.ext (by show 384 + (k.val - 128 - 128 - 128) = k.val; omega)
  simp only [hk]
  rw [hg]
theorem index0 : ∀ t : Fin grid0.N, win0_0.index t (0 : Fin 2) = t.val ∧ win0_0.index t (1 : Fin 2) = 0 := by decide +kernel
theorem index6 : ∀ t : Fin grid0.N, win0_6.index t (0 : Fin 2) = t.val ∧ win0_6.index t (1 : Fin 2) = 0 := by decide +kernel
theorem index7 : ∀ t : Fin grid0.N, win0_7.index t (0 : Fin 2) = t.val ∧ win0_7.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index5 : ∀ t : Fin grid0.N, win0_5.index t (0 : Fin 2) = 0 ∧ win0_5.index t (1 : Fin 2) = 0 := by decide +kernel
theorem index4 : ∀ t : Fin grid0.N, win0_4.index t (0 : Fin 3) = 0 ∧ win0_4.index t (1 : Fin 3) = 0 ∧ win0_4.index t (2 : Fin 3) = 0 := by decide +kernel

/-- The row of the input that row `r` of point `t`'s block is. -/
def rowAt (t : Fin cfg0.N) (r : Fin 512) : Fin 16384 :=
  ⟨512 * t.val + r.val, by have := t.isLt; have h : cfg0.N = 32 := N_0; omega⟩

theorem x_at (t : Fin cfg0.N) (r : Fin 512) (k : Fin 1024) :
    (iblk m c 0 t : Vec Ideal S512x1024 .f32) (ix2 r k) = X m c (ix2 (rowAt t r) k) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem gain_at (t : Fin cfg0.N) (k : Fin 1024) :
    (iblk m c 1 t : Vec Ideal S1x1024 .f32) (ix2 0 k) = G m c (ix1 k) := by
  obtain ⟨h0, h1⟩ := index1 t
  have e : (iblk m c 1 t : Vec Ideal S1x1024 .f32) (ix2 0 k) = V m c main_v23 (ix2 (n0 := 1) (n1 := 1024) 0 k) := by
    unfold iblk
    rw [View.read_apply]
    show V m c main_v23 _ = _
    congr 1
    funext a
    apply Fin.ext
    match a with
    | ⟨0, _⟩ => show win0_1.index t 0 * 1 + 1 * 0 = 0; rw [h0]
    | ⟨1, _⟩ => show win0_1.index t 1 * 1024 + 1 * k.val = k.val; rw [h1]; omega
  rw [e, gain_eq] <;> pointwise []

theorem gates_at (t : Fin cfg0.N) (q : Fin 1024) (k : Fin 1024) :
    (iblk m c 2 t : Vec Ideal S1024x1024 .bf16) (ix2 q k) = Wi m c (ix2 q ⟨1536 + k.val, by omega⟩) := by
  obtain ⟨h0, h1⟩ := index2 t
  have e : (iblk m c 2 t : Vec Ideal S1024x1024 .bf16) (ix2 q k) = V m c main_v25 (ix2 (n0 := 1024) (n1 := 1024) q k) := by
    unfold iblk
    rw [View.read_apply]
    show V m c main_v25 _ = _
    congr 1
    funext a
    apply Fin.ext
    match a with
    | ⟨0, _⟩ => show win0_2.index t 0 * 1024 + 1 * q.val = q.val; rw [h0]; omega
    | ⟨1, _⟩ => show win0_2.index t 1 * 1024 + 1 * k.val = k.val; rw [h1]; omega
  rw [e, gates_eq] <;> pointwise []

theorem norm_at (t : Fin cfg0.N) (k : Fin 512) :
    (iblk m c 3 t : Vec Ideal S1x512 .f32) (ix2 0 k) = Gn m c (ix1 k) := by
  obtain ⟨h0, h1⟩ := index3 t
  have e : (iblk m c 3 t : Vec Ideal S1x512 .f32) (ix2 0 k) = V m c main_v26 (ix2 (n0 := 1) (n1 := 512) 0 k) := by
    unfold iblk
    rw [View.read_apply]
    show V m c main_v26 _ = _
    congr 1
    funext a
    apply Fin.ext
    match a with
    | ⟨0, _⟩ => show win0_3.index t 0 * 1 + 1 * 0 = 0; rw [h0]
    | ⟨1, _⟩ => show win0_3.index t 1 * 512 + 1 * k.val = k.val; rw [h1]; omega
  rw [e, norm_eq] <;> pointwise []

theorem mix_at (t : Fin cfg0.N) (g : Fin 4) (i : Fin 128) (j : Fin 128) :
    (iblk m c 4 t : Vec Ideal S4x128x128 .bf16) (ix3 g i j) = Scalar.select (IntOp.cmpi .sge (BitVec.ofNat 32 i.val) (BitVec.ofNat 32 j.val)) (Ws m c (ix3 g i j)) (0 : EReal) := by
  obtain ⟨h0, h1, h2⟩ := index4 t
  have e : (iblk m c 4 t : Vec Ideal S4x128x128 .bf16) (ix3 g i j) = V m c main_v22 (ix3 (n0 := 4) (n1 := 128) (n2 := 128) g i j) := by
    unfold iblk
    rw [View.read_apply]
    show V m c main_v22 _ = _
    congr 1
    funext a
    apply Fin.ext
    match a with
    | ⟨0, _⟩ => show win0_4.index t 0 * 4 + 1 * g.val = g.val; rw [h0]; omega
    | ⟨1, _⟩ => show win0_4.index t 1 * 128 + 1 * i.val = i.val; rw [h1]; omega
    | ⟨2, _⟩ => show win0_4.index t 2 * 128 + 1 * j.val = j.val; rw [h2]; omega
  rw [e, mix_eq] <;> pointwise []

theorem bias_at (t : Fin cfg0.N) (i : Fin 128) (k : Fin 512) :
    (iblk m c 5 t : Vec Ideal S128x512 .f32) (ix2 i k) = Bs m c (ix2 ⟨k.val / 128, by omega⟩ i) := by
  obtain ⟨h0, h1⟩ := index5 t
  have e : (iblk m c 5 t : Vec Ideal S128x512 .f32) (ix2 i k) = V m c main_v21 (ix2 (n0 := 128) (n1 := 512) i k) := by
    unfold iblk
    rw [View.read_apply]
    show V m c main_v21 _ = _
    congr 1
    funext a
    apply Fin.ext
    match a with
    | ⟨0, _⟩ => show win0_5.index t 0 * 128 + 1 * i.val = i.val; rw [h0]; omega
    | ⟨1, _⟩ => show win0_5.index t 1 * 512 + 1 * k.val = k.val; rw [h1]; omega
  rw [e, bias_eq] <;> pointwise []

/-- One half moved past the value it scales. -/
theorem half_move (z w : EReal) : Ideal.ofBits .f32 1056964608#32 * z * w = z * (Ideal.ofBits .f32 1056964608#32 * w) := by
  rw [mul_comm (Ideal.ofBits .f32 1056964608#32) z, mul_assoc]

theorem u_at (t : Fin cfg0.N) (r k : Fin 512) :
    k0_pay19 (iblk m c 0 t) (iblk m c 1 t) (iblk m c 2 t) (iblk m c 3 t) (iblk m c 4 t) (iblk m c 5 t) (ix2 r k) = Cert.GmlpRefIdeal.Read.val_main_v28 (F := Ideal) (X m c) (G m c) (Wi m c) (ix2 (rowAt t r) k) := by
  unfold k0_pay19
  simp only [View.ld_unit_zero (S := S512x1024) zeros2, View.ld_unit_zero (S := S1x1024) zeros2, View.ld_unit_zero (S := S1024x1024) zeros2, View.ld_unit_zero (S := S1x512) zeros2, View.ld_unit_zero (S := S128x512) zeros2]
  pointwise [k0_pay2, k0_pay3]
  simp only [x_at, gain_at, gates_at]
  refine Eq.trans ?_ (Eq.symm (by
    pointwise [Cert.GmlpRefIdeal.Read.val_main_v0, Cert.GmlpRefIdeal.Read.val_main_cst, Cert.GmlpRefIdeal.Read.val_main_v1, Cert.GmlpRefIdeal.Read.val_main_v2, Cert.GmlpRefIdeal.Read.val_main_cst_0, Cert.GmlpRefIdeal.Read.val_main_v3, Cert.GmlpRefIdeal.Read.val_main_v4, Cert.GmlpRefIdeal.Read.val_main_cst_1, Cert.GmlpRefIdeal.Read.val_main_v5, Cert.GmlpRefIdeal.Read.val_main_v6, Cert.GmlpRefIdeal.Read.val_main_v7, Cert.GmlpRefIdeal.Read.val_main_v8, Cert.GmlpRefIdeal.Read.val_main_v9, Cert.GmlpRefIdeal.Read.val_main_v10, Cert.GmlpRefIdeal.Read.val_main_v11, Cert.GmlpRefIdeal.Read.val_main_v12, Cert.GmlpRefIdeal.Read.val_main_v13, Cert.GmlpRefIdeal.Read.val_main_v14, Cert.GmlpRefIdeal.Read.val_main_v15, Cert.GmlpRefIdeal.Read.val_main_v16, Cert.GmlpRefIdeal.Read.val_main_cst_2, Cert.GmlpRefIdeal.Read.val_main_v17, Cert.GmlpRefIdeal.Read.val_main_v18, Cert.GmlpRefIdeal.Read.val_main_v19, Cert.GmlpRefIdeal.Read.val_main_cst_3, Cert.GmlpRefIdeal.Read.val_main_v20, Cert.GmlpRefIdeal.Read.val_main_v21, Cert.GmlpRefIdeal.Read.val_main_v22, Cert.GmlpRefIdeal.Read.val_main_cst_4, Cert.GmlpRefIdeal.Read.val_main_v23, Cert.GmlpRefIdeal.Read.val_main_v24, Cert.GmlpRefIdeal.Read.val_main_cst_5, Cert.GmlpRefIdeal.Read.val_main_v25, Cert.GmlpRefIdeal.Read.val_main_v26, Cert.GmlpRefIdeal.Read.val_main_v27, Cert.GmlpRefIdeal.Read.val_main_v28, Cert.GmlpRefIdeal.Read.val_main_cst_6, Cert.GmlpRefIdeal.Read.val_main_cst_7, Cert.GmlpRefIdeal.Read.val_main_cst_8, Cert.GmlpRefIdeal.Read.val_main_c_9]
    rfl))
  simp only [half_move]

theorem vb_at (t : Fin cfg0.N) (r k : Fin 512) :
    k0_pay23 (iblk m c 0 t) (iblk m c 1 t) (iblk m c 2 t) (iblk m c 3 t) (iblk m c 4 t) (iblk m c 5 t) (ix2 r k) = Cert.GmlpRefIdeal.Read.val_main_v42 (F := Ideal) (X m c) (G m c) (Wi m c) (Gn m c) (ix2 (rowAt t r) k) := by
  unfold k0_pay23 k0_pay20 k0_pay21 k0_pay22
  simp only [View.ld_unit_zero (S := S512x1024) zeros2, View.ld_unit_zero (S := S1x1024) zeros2, View.ld_unit_zero (S := S1024x1024) zeros2, View.ld_unit_zero (S := S1x512) zeros2, View.ld_unit_zero (S := S128x512) zeros2]
  pointwise [k0_pay2, k0_pay4, k0_pay5, k0_pay6, k0_pay7]
  simp only [x_at, gain_at, gates_at, norm_at]
  refine Eq.trans ?_ (Eq.symm (by
    pointwise [Cert.GmlpRefIdeal.Read.val_main_v0, Cert.GmlpRefIdeal.Read.val_main_cst, Cert.GmlpRefIdeal.Read.val_main_v1, Cert.GmlpRefIdeal.Read.val_main_v2, Cert.GmlpRefIdeal.Read.val_main_cst_0, Cert.GmlpRefIdeal.Read.val_main_v3, Cert.GmlpRefIdeal.Read.val_main_v4, Cert.GmlpRefIdeal.Read.val_main_cst_1, Cert.GmlpRefIdeal.Read.val_main_v5, Cert.GmlpRefIdeal.Read.val_main_v6, Cert.GmlpRefIdeal.Read.val_main_v7, Cert.GmlpRefIdeal.Read.val_main_v8, Cert.GmlpRefIdeal.Read.val_main_v9, Cert.GmlpRefIdeal.Read.val_main_v10, Cert.GmlpRefIdeal.Read.val_main_v11, Cert.GmlpRefIdeal.Read.val_main_v12, Cert.GmlpRefIdeal.Read.val_main_v13, Cert.GmlpRefIdeal.Read.val_main_v14, Cert.GmlpRefIdeal.Read.val_main_v15, Cert.GmlpRefIdeal.Read.val_main_v16, Cert.GmlpRefIdeal.Read.val_main_cst_2, Cert.GmlpRefIdeal.Read.val_main_v17, Cert.GmlpRefIdeal.Read.val_main_v18, Cert.GmlpRefIdeal.Read.val_main_v19, Cert.GmlpRefIdeal.Read.val_main_cst_3, Cert.GmlpRefIdeal.Read.val_main_v20, Cert.GmlpRefIdeal.Read.val_main_v21, Cert.GmlpRefIdeal.Read.val_main_v22, Cert.GmlpRefIdeal.Read.val_main_cst_4, Cert.GmlpRefIdeal.Read.val_main_v23, Cert.GmlpRefIdeal.Read.val_main_v24, Cert.GmlpRefIdeal.Read.val_main_cst_5, Cert.GmlpRefIdeal.Read.val_main_v25, Cert.GmlpRefIdeal.Read.val_main_v26, Cert.GmlpRefIdeal.Read.val_main_v27, Cert.GmlpRefIdeal.Read.val_main_v28, Cert.GmlpRefIdeal.Read.val_main_v29, Cert.GmlpRefIdeal.Read.val_main_v30, Cert.GmlpRefIdeal.Read.val_main_cst_6, Cert.GmlpRefIdeal.Read.val_main_v31, Cert.GmlpRefIdeal.Read.val_main_v32, Cert.GmlpRefIdeal.Read.val_main_cst_7, Cert.GmlpRefIdeal.Read.val_main_v33, Cert.GmlpRefIdeal.Read.val_main_v34, Cert.GmlpRefIdeal.Read.val_main_cst_8, Cert.GmlpRefIdeal.Read.val_main_v35, Cert.GmlpRefIdeal.Read.val_main_v36, Cert.GmlpRefIdeal.Read.val_main_v37, Cert.GmlpRefIdeal.Read.val_main_v38, Cert.GmlpRefIdeal.Read.val_main_v39, Cert.GmlpRefIdeal.Read.val_main_v40, Cert.GmlpRefIdeal.Read.val_main_v41, Cert.GmlpRefIdeal.Read.val_main_v42, Cert.GmlpRefIdeal.Read.val_main_c_9]
    rfl))
  simp only [half_move]

/-- The reference's gated value at position `i` of chunk `q`. -/
theorem ref_at (q : Fin 128) (i : Fin 128) (k : Fin 512) :
    Cert.GmlpRefIdeal.Read.val_main_v57 (F := Ideal) (X m c) (G m c) (Wi m c) (Gn m c) (Ws m c) (Bs m c) (ix2 ⟨128 * q.val + i.val, by omega⟩ k)
      = Cert.GmlpRefIdeal.Read.val_main_v28 (F := Ideal) (X m c) (G m c) (Wi m c) (ix2 ⟨128 * q.val + i.val, by omega⟩ k) *
        ((∑ x : Fin 128, Scalar.select (IntOp.cmpi .sge (BitVec.ofNat 32 i.val) (BitVec.ofNat 32 x.val)) (Ws m c (ix3 ⟨k.val / 128, by omega⟩ i x)) (0 : EReal)
          * Cert.GmlpRefIdeal.Read.val_main_v42 (F := Ideal) (X m c) (G m c) (Wi m c) (Gn m c) (ix2 ⟨128 * q.val + x.val, by omega⟩ k)) + Bs m c (ix2 ⟨k.val / 128, by omega⟩ i)) := by
  refine Eq.trans (by
    pointwise [Cert.GmlpRefIdeal.Read.val_main_v43, Cert.GmlpRefIdeal.Read.val_main_v44, Cert.GmlpRefIdeal.Read.val_main_v45, Cert.GmlpRefIdeal.Read.val_main_c, Cert.GmlpRefIdeal.Read.val_main_v46, Cert.GmlpRefIdeal.Read.val_main_call0_v0, Cert.GmlpRefIdeal.Read.val_main_call0_c, Cert.GmlpRefIdeal.Read.val_main_call0_v1, Cert.GmlpRefIdeal.Read.val_main_call0_v2, Cert.GmlpRefIdeal.Read.val_main_call0_v3, Cert.GmlpRefIdeal.Read.val_main_call0_v4, Cert.GmlpRefIdeal.Read.val_main_call0_c_0, Cert.GmlpRefIdeal.Read.val_main_call0_v5, Cert.GmlpRefIdeal.Read.val_main_v47, Cert.GmlpRefIdeal.Read.val_main_call1_v0, Cert.GmlpRefIdeal.Read.val_main_call1_v1, Cert.GmlpRefIdeal.Read.val_main_call1_v2, Cert.GmlpRefIdeal.Read.val_main_v48, Cert.GmlpRefIdeal.Read.val_main_v49, Cert.GmlpRefIdeal.Read.val_main_v50, Cert.GmlpRefIdeal.Read.val_main_v51, Cert.GmlpRefIdeal.Read.val_main_v52, Cert.GmlpRefIdeal.Read.val_main_v53, Cert.GmlpRefIdeal.Read.val_main_v54, Cert.GmlpRefIdeal.Read.val_main_v55, Cert.GmlpRefIdeal.Read.val_main_v56, Cert.GmlpRefIdeal.Read.val_main_v57]
    rfl) ?_
  have e1 : ∀ p, (⟨(128 * q.val + i.val) / 8192 * 8192 + (128 * q.val + i.val) % 8192, p⟩ : Fin 16384) = ⟨128 * q.val + i.val, by omega⟩ :=
    fun _ => Fin.ext (by show (128 * q.val + i.val) / 8192 * 8192 + (128 * q.val + i.val) % 8192 = 128 * q.val + i.val; omega)
  have e2 : ∀ (x : Fin 128) p, (⟨(128 * q.val + i.val) / 8192 * 8192 + (128 * q.val + i.val) % 8192 / 128 * 128 + x.val, p⟩ : Fin 16384) = ⟨128 * q.val + x.val, by omega⟩ :=
    fun x _ => Fin.ext (by show (128 * q.val + i.val) / 8192 * 8192 + (128 * q.val + i.val) % 8192 / 128 * 128 + x.val = 128 * q.val + x.val; omega)
  simp only [e1, e2]
  refine congrArg₂ (· * ·) rfl (congrArg₂ (· + ·) (Finset.sum_congr rfl fun x _ => ?_) rfl)
  rw [mul_comm]
  refine congrArg₂ (· * ·) ?_ rfl
  show Scalar.select (Scalar.select (IntOp.cmpi CmpIPredicate.sge (BitVec.ofNat 32 i.val + 0#32) (BitVec.ofNat 32 x.val)) 1#1 0#1)
    (Ws m c (ix3 ⟨k.val / 128, by omega⟩ i x)) (((0#32 : BitVec 32).toInt : ℝ) : EReal) = _
  rw [BitVec.add_zero]
  generalize IntOp.cmpi CmpIPredicate.sge (BitVec.ofNat 32 i.val) (BitVec.ofNat 32 x.val) = b
  have hb : b = 0#1 ∨ b = 1#1 := by revert b; decide
  rcases hb with rfl | rfl
  · show (((0#32 : BitVec 32).toInt : ℝ) : EReal) = 0
    norm_num
  · rfl

/-- A block's gated value at its row `r`: the chunk is `r / 128`, the position in it `r % 128`. -/
def whole (u v : Fin 512 → Fin 512 → EReal) (b : FVec Ideal S128x512 .f32) (w : Vec Ideal S4x128x128 .bf16) (y : S512x512.Idx) : EReal :=
  gated u v b w ⟨(y 0).val / 128, by have h : (y 0).val < 512 := (y 0).isLt; omega⟩ ⟨(y 0).val % 128, by omega⟩ ⟨(y 1).val, (y 1).isLt⟩

theorem whole_slab (u v : Fin 512 → Fin 512 → EReal) (b : FVec Ideal S128x512 .f32) (w : Vec Ideal S4x128x128 .bf16) (y : S512x512.Idx) (o : Fin 4) (i : Fin 128) (k : Fin 512)
    (h0 : (y 0).val = 128 * o.val + i.val) (h1 : (y 1).val = k.val) : whole u v b w y = gated u v b w o i k := by
  unfold whole
  have e0 : ∀ p, (⟨(y 0).val / 128, p⟩ : Fin 4) = o := fun _ => Fin.ext (by show (y 0).val / 128 = o.val; omega)
  have e1 : ∀ p, (⟨(y 0).val % 128, p⟩ : Fin 128) = i := fun _ => Fin.ext (by show (y 0).val % 128 = i.val; omega)
  have e2 : ∀ p, (⟨(y 1).val, p⟩ : Fin 512) = k := fun _ => Fin.ext h1
  rw [e0, e1]
  exact congrArg (gated u v b w o i) (e2 _)

theorem out6_at (x0 : Vec Ideal S512x1024 .f32) (x1 : Vec Ideal S1x1024 .f32) (x2 : Vec Ideal S1024x1024 .bf16) (x3 : Vec Ideal S1x512 .f32) (x4 : Vec Ideal S4x128x128 .bf16) (x5 : Vec Ideal S128x512 .f32) (y : S512x512.Idx) :
    out0_6 x0 x1 x2 x3 x4 x5 y = whole (fun r k => k0_pay19 x0 x1 x2 x3 x4 x5 (ix2 r k)) (fun r k => k0_pay23 x0 x1 x2 x3 x4 x5 (ix2 r k)) x5 x4 y := by
  have hb : (View.ld x5 r0_5 : Vec Ideal S128x512 .f32) = x5 := View.ld_unit_zero (S := S128x512) zeros2 _ _
  have hb' : k0_pay24 x0 x1 x2 x3 x4 x5 = x5 := by
    show k0_pay8 (View.ld x5 r0_5) = x5
    rw [hb]
    refine funext fun (y : S128x512.Idx) => ?_
    obtain ⟨i, k, rfl⟩ : ∃ (i : Fin 128) (k : Fin 512), y = ix2 i k := ⟨y 0, y 1, (ix2_eta y).symm⟩
    pointwise [k0_pay8]
  unfold out0_6
  rw [hb, hb']
  refine View.canon_apply_of_pieces (S := S512x512) (e := .f32) (Val := Elt Ideal) (whole (fun r k => k0_pay19 x0 x1 x2 x3 x4 x5 (ix2 r k)) (fun r k => k0_pay23 x0 x1 x2 x3 x4 x5 (ix2 r k)) x5 x4) _ ?_ y (cover0_6 _ _ _ _ y)
  intro p hp
  simp only [List.mem_cons, List.not_mem_nil, or_false] at hp
  rcases hp with rfl | rfl | rfl | rfl
  · intro (x : S128x512.Idx)
    obtain ⟨i, k, rfl⟩ : ∃ (i : Fin 128) (k : Fin 512), x = ix2 i k := ⟨x 0, x 1, (ix2_eta x).symm⟩
    refine (tile3 _ _ _ x4 i k).trans (whole_slab _ _ _ _ _ 3 i k ?_ ?_).symm
    · show 384 + 1 * i.val = 128 * 3 + i.val; omega
    · show 0 + 1 * k.val = k.val; omega
  · intro (x : S128x512.Idx)
    obtain ⟨i, k, rfl⟩ : ∃ (i : Fin 128) (k : Fin 512), x = ix2 i k := ⟨x 0, x 1, (ix2_eta x).symm⟩
    refine (tile2 _ _ _ x4 i k).trans (whole_slab _ _ _ _ _ 2 i k ?_ ?_).symm
    · show 256 + 1 * i.val = 128 * 2 + i.val; omega
    · show 0 + 1 * k.val = k.val; omega
  · intro (x : S128x512.Idx)
    obtain ⟨i, k, rfl⟩ : ∃ (i : Fin 128) (k : Fin 512), x = ix2 i k := ⟨x 0, x 1, (ix2_eta x).symm⟩
    refine (tile1 _ _ _ x4 i k).trans (whole_slab _ _ _ _ _ 1 i k ?_ ?_).symm
    · show 128 + 1 * i.val = 128 * 1 + i.val; omega
    · show 0 + 1 * k.val = k.val; omega
  · intro (x : S128x512.Idx)
    obtain ⟨i, k, rfl⟩ : ∃ (i : Fin 128) (k : Fin 512), x = ix2 i k := ⟨x 0, x 1, (ix2_eta x).symm⟩
    refine (tile0 _ _ _ _ _ x4 i k).trans (whole_slab _ _ _ _ _ 0 i k ?_ ?_).symm
    · show 0 + 1 * i.val = 128 * 0 + i.val; omega
    · show 0 + 1 * k.val = k.val; omega

theorem array6_at (t : Fin cfg0.N) (r k : Fin 512) :
    ((dats m 0 c).arrAt 6 cfg0.N : S16384x512.Idx → EReal) (ix2 (rowAt t r) k) = out0_6 (iblk m c 0 t) (iblk m c 1 t) (iblk m c 2 t) (iblk m c 3 t) (iblk m c 4 t) (iblk m c 5 t) (ix2 r k) := by
  obtain ⟨h0, h1⟩ := index6 t
  have hf : ∀ t : Fin grid0.N, win0_6.flush t = true := by decide +kernel
  have e := congrFun ((blocks6 m c t (hf t)).trans (flushed6 m c t)) (ix2 (n0 := 512) (n1 := 512) r k)
  rw [View.read_apply] at e
  refine Eq.trans (congrArg _ ?_) e
  funext a
  apply Fin.ext
  match a with
  | ⟨0, _⟩ => show 512 * t.val + r.val = win0_6.index t 0 * 512 + 1 * r.val; rw [h0]; omega
  | ⟨1, _⟩ => show k.val = win0_6.index t 1 * 512 + 1 * k.val; rw [h1]; omega

theorem array7_at (t : Fin cfg0.N) (r k : Fin 512) :
    ((dats m 0 c).arrAt 7 cfg0.N : S16384x512.Idx → EReal) (ix2 (rowAt t r) k) = out0_7 (iblk m c 0 t) (iblk m c 1 t) (iblk m c 2 t) (iblk m c 3 t) (iblk m c 4 t) (iblk m c 5 t) (ix2 r k) := by
  obtain ⟨h0, h1⟩ := index7 t
  have hf : ∀ t : Fin grid0.N, win0_7.flush t = true := by decide +kernel
  have e := congrFun ((blocks7 m c t (hf t)).trans (flushed7 m c t)) (ix2 (n0 := 512) (n1 := 512) r k)
  rw [View.read_apply] at e
  refine Eq.trans (congrArg _ ?_) e
  funext a
  apply Fin.ext
  match a with
  | ⟨0, _⟩ => show 512 * t.val + r.val = win0_7.index t 0 * 512 + 1 * r.val; rw [h0]; omega
  | ⟨1, _⟩ => show k.val = win0_7.index t 1 * 512 + 1 * k.val; rw [h1]; omega

theorem row_split (T : Fin 16384) : ∃ (t : Fin cfg0.N) (r : Fin 512), T = rowAt t r := by
  have hN : cfg0.N = 32 := N_0
  exact ⟨⟨T.val / 512, by rw [hN]; omega⟩, ⟨T.val % 512, by omega⟩, Fin.ext (by show T.val = 512 * (T.val / 512) + T.val % 512; omega)⟩

/-- The normalised second half the call leaves is the reference's. -/
theorem normed_eq : (dats m 0 c).arrAt 7 cfg0.N = Cert.GmlpRefIdeal.Read.val_main_v42 (F := Ideal) (X m c) (G m c) (Wi m c) (Gn m c) := by
  refine funext fun (i : S16384x512.Idx) => ?_
  obtain ⟨T, k, rfl⟩ : ∃ (T : Fin 16384) (k : Fin 512), i = ix2 T k := ⟨i 0, i 1, (ix2_eta i).symm⟩
  obtain ⟨t, r, rfl⟩ := row_split T
  refine (array7_at m c t r k).trans (Eq.trans ?_ (vb_at m c t r k))
  unfold out0_7
  rw [View.canon_unit_zero zeros2]
  rfl

/-- The gated array the call leaves is the reference's. -/
theorem gated_eq : (dats m 0 c).arrAt 6 cfg0.N = Cert.GmlpRefIdeal.Read.val_main_v57 (F := Ideal) (X m c) (G m c) (Wi m c) (Gn m c) (Ws m c) (Bs m c) := by
  refine funext fun (i : S16384x512.Idx) => ?_
  obtain ⟨T, k, rfl⟩ : ∃ (T : Fin 16384) (k : Fin 512), i = ix2 T k := ⟨i 0, i 1, (ix2_eta i).symm⟩
  obtain ⟨t, r, rfl⟩ := row_split T
  refine (array6_at m c t r k).trans ((out6_at _ _ _ _ _ _ _).trans ?_)
  obtain ⟨o, i, rfl⟩ : ∃ (o : Fin 4) (i : Fin 128), r = ⟨128 * o.val + i.val, by omega⟩ :=
    ⟨⟨r.val / 128, by omega⟩, ⟨r.val % 128, by omega⟩, Fin.ext (by show r.val = 128 * (r.val / 128) + r.val % 128; omega)⟩
  rw [whole_slab _ _ _ _ _ o i k rfl rfl]
  have hN : cfg0.N = 32 := N_0
  have hq : 4 * t.val + o.val < 128 := by have := t.isLt; omega
  have hrow : ∀ x : Fin 128, rowAt t ⟨128 * o.val + x.val, by omega⟩ = ⟨128 * (4 * t.val + o.val) + x.val, by omega⟩ :=
    fun x => Fin.ext (by show 512 * t.val + (128 * o.val + x.val) = 128 * (4 * t.val + o.val) + x.val; omega)
  unfold gated
  simp only [u_at, vb_at, mix_at, bias_at, hrow]
  exact (ref_at m c ⟨4 * t.val + o.val, hq⟩ i k).symm

end Cert.GmlpEq

end
-- ==== Proof.StepsEq.lean ====
/- The recurrence's call: its two result arrays and its reference's are the same functions of the arguments. -/
module

public import proofs.«01_k».proof.Proof.Gen.StepsIdeal.Value
public import proofs.«01_k».proof.Proof.Gen.StepsRefIdeal.Read
public import Idealize.ShloMosaic.Lib.Pointwise
public import Idealize.ShloMosaic.Lib.StableHlo.Run
public import proofs.«01_k».proof.Proof.MoeEq
public import proofs.«01_k».proof.Pre_finite_steps

@[expose] public section

set_option maxRecDepth 16384

noncomputable section

namespace Cert.StepsEq

open Cert.StepsIdeal Cert.StepsIdeal.Gen Cert.StepsIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-! ## One step of the recurrence, over a head's whole tiles -/

/-- A row per head repeated down the head's tile. -/
def over (x : FVec Ideal S8x64 .f32) : FVec Ideal S8x64x64 .f32 :=
  concatenate S8x64x64 0 [⟨S1x64x64, shapeCast S1x64x64 (broadcastTo S64x64 (shapeCast S1x64 (extractStridedSlice S1x64 ![0, 0] x slices_S8x64_o0_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![1, 0] x slices_S8x64_o1_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![2, 0] x slices_S8x64_o2_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![3, 0] x slices_S8x64_o3_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![4, 0] x slices_S8x64_o4_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![5, 0] x slices_S8x64_o5_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![6, 0] x slices_S8x64_o6_0_S1x64) shapeCasts_S1x64_S1x64) broadcasts_S1x64_S64x64) shapeCasts_S64x64_S1x64x64⟩, ⟨S1x64x64, shapeCast S1x64x64 (broadcastTo S64x64 (shapeCast S1x64 (extractStridedSlice S1x64 ![7, 0] x slices_S8x64_o7_0_S1x64) shapeCasts_S1x64_S1x64) broadcasts_S1x64_S64x64) shapeCasts_S64x64_S1x64x64⟩]
    concatenates_S1x64x64_S1x64x64_S1x64x64_S1x64x64_S1x64x64_S1x64x64_S1x64x64_S1x64x64_S8x64x64_d0

theorem over_at (x : FVec Ideal S8x64 .f32) (h : Fin 8) (v k : Fin 64) : over x (ix3 h v k) = x (ix2 h k) := by
  unfold over
  pointwise []
  fin_cases h <;> rfl

/-- A row per head stood up as a column: the sum over the lanes of the row beneath the diagonal of ones. -/
def column (e : FVec Ideal S1x64x64 .f32) (v : FVec Ideal S8x64 .f32) : FVec Ideal S8x64x1 .f32 :=
  shapeCast S8x64x1 (multiReduction .add [2] S8x64 (mulf (broadcastTo S8x64x64 e broadcasts_S1x64x64_S8x64x64) (over v)) 0x00000000#32 reduces_S8x64x64_S8x64 (.inl rfl) rfl) shapeCasts_S8x64_S8x64x1

/-- The state after a step: decayed, corrected along the key, and with the new value written along the new key. -/
def upd (e : FVec Ideal S1x64x64 .f32) (s : FVec Ideal S8x64x64 .f32) (w k v kk a : FVec Ideal S8x64 .f32) : FVec Ideal S8x64x64 .f32 :=
  addf (addf (mulf s (over w))
    (mulf (broadcastTo S8x64x64 (subf (broadcast S8x64x1 (Scalar.ofBits (F := Ideal) .f32 0x00000000#32)) (shapeCast S8x64x1 (multiReduction .add [2] S8x64 (mulf s (over kk)) 0x00000000#32 reduces_S8x64x64_S8x64 (.inl rfl) rfl) shapeCasts_S8x64_S8x64x1)) broadcasts_S8x64x1_S8x64x64)
      (over (mulf kk a))))
    (mulf (broadcastTo S8x64x64 (column e v) broadcasts_S8x64x1_S8x64x64) (over k))

/-- What a step reads out of the state. -/
def read (s : FVec Ideal S8x64x64 .f32) (r : FVec Ideal S8x64 .f32) : FVec Ideal S8x64x1 .f32 :=
  shapeCast S8x64x1 (multiReduction .add [2] S8x64 (mulf s (over r)) 0x00000000#32 reduces_S8x64x64_S8x64 (.inl rfl) rfl) shapeCasts_S8x64_S8x64x1

def seq (x : Vec Ideal S1x8x64 .f32) : FVec Ideal S8x64 .f32 := shapeCast S8x64 x shapeCasts_S1x8x64_S8x64

theorem step0 (x0 x1 x2 x3 x4 x5 x6 : Vec Ideal S8x8x64 .f32) (x7 x8 x9 : Vec Ideal S8x64 .f32) (x10 : Vec Ideal S2x8x64x64 .f32) :
    (k0_pay262 x0 x1 x2 x3 x4 x5 x6 x7 x8 x9 x10) = upd (k0_pay253 x0 x1 x2 x3 x4 x5 x6 x7 x8 x9 x10) (k0_pay256 x0 x1 x2 x3 x4 x5 x6 x7 x8 x9 x10) (exp (seq (View.ld x1 r0_2))) (seq (View.ld x2 r0_2)) (seq (View.ld x3 r0_2)) (seq (View.ld x4 r0_2)) (seq (View.ld x5 r0_2)) := rfl
theorem step1 (x0 x1 x2 x3 x4 x5 x6 : Vec Ideal S8x8x64 .f32) (x7 x8 x9 : Vec Ideal S8x64 .f32) (x10 : Vec Ideal S2x8x64x64 .f32) :
    (k0_pay271 x0 x1 x2 x3 x4 x5 x6 x7 x8 x9 x10) = upd (k0_pay253 x0 x1 x2 x3 x4 x5 x6 x7 x8 x9 x10) (k0_pay262 x0 x1 x2 x3 x4 x5 x6 x7 x8 x9 x10) (exp (seq (View.ld x1 r0_3))) (seq (View.ld x2 r0_3)) (seq (View.ld x3 r0_3)) (seq (View.ld x4 r0_3)) (seq (View.ld x5 r0_3)) := rfl
theorem step2 (x0 x1 x2 x3 x4 x5 x6 : Vec Ideal S8x8x64 .f32) (x7 x8 x9 : Vec Ideal S8x64 .f32) (x10 : Vec Ideal S2x8x64x64 .f32) :
    (k0_pay287 x0 x1 x2 x3 x4 x5 x6 x7 x8 x9 x10) = upd (k0_pay253 x0 x1 x2 x3 x4 x5 x6 x7 x8 x9 x10) (k0_pay271 x0 x1 x2 x3 x4 x5 x6 x7 x8 x9 x10) (exp (seq (View.ld x1 r0_4))) (seq (View.ld x2 r0_4)) (seq (View.ld x3 r0_4)) (seq (View.ld x4 r0_4)) (seq (View.ld x5 r0_4)) := rfl
theorem step3 (x0 x1 x2 x3 x4 x5 x6 : Vec Ideal S8x8x64 .f32) (x7 x8 x9 : Vec Ideal S8x64 .f32) (x10 : Vec Ideal S2x8x64x64 .f32) :
    (k0_pay135 (k0_pay293 x0 x1 x2 x3 x4 x5 x6 x7 x8 x9 x10) (k0_pay294 x0 x1 x2 x3 x4 x5 x6 x7 x8 x9 x10) (k0_pay295 x0 x1 x2 x3 x4 x5 x6 x7 x8 x9 x10) (k0_pay296 x0 x1 x2 x3 x4 x5 x6 x7 x8 x9 x10) (k0_pay297 x0 x1 x2 x3 x4 x5 x6 x7 x8 x9 x10) (k0_pay298 x0 x1 x2 x3 x4 x5 x6 x7 x8 x9 x10) (k0_pay299 x0 x1 x2 x3 x4 x5 x6 x7 x8 x9 x10) (k0_pay300 x0 x1 x2 x3 x4 x5 x6 x7 x8 x9 x10) (k0_pay301 x0 x1 x2 x3 x4 x5 x6 x7 x8 x9 x10) (k0_pay302 x0 x1 x2 x3 x4 x5 x6 x7 x8 x9 x10)) = upd (k0_pay253 x0 x1 x2 x3 x4 x5 x6 x7 x8 x9 x10) (k0_pay287 x0 x1 x2 x3 x4 x5 x6 x7 x8 x9 x10) (exp (seq (View.ld x1 r0_5))) (seq (View.ld x2 r0_5)) (seq (View.ld x3 r0_5)) (seq (View.ld x4 r0_5)) (seq (View.ld x5 r0_5)) := rfl
theorem step4 (x0 x1 x2 x3 x4 x5 x6 : Vec Ideal S8x8x64 .f32) (x7 x8 x9 : Vec Ideal S8x64 .f32) (x10 : Vec Ideal S2x8x64x64 .f32) :
    (k0_pay314 x0 x1 x2 x3 x4 x5 x6 x7 x8 x9 x10) = upd (k0_pay253 x0 x1 x2 x3 x4 x5 x6 x7 x8 x9 x10) (k0_pay303 x0 x1 x2 x3 x4 x5 x6 x7 x8 x9 x10) (exp (seq (View.ld x1 r0_7))) (seq (View.ld x2 r0_7)) (seq (View.ld x3 r0_7)) (seq (View.ld x4 r0_7)) (seq (View.ld x5 r0_7)) := rfl
theorem step5 (x0 x1 x2 x3 x4 x5 x6 : Vec Ideal S8x8x64 .f32) (x7 x8 x9 : Vec Ideal S8x64 .f32) (x10 : Vec Ideal S2x8x64x64 .f32) :
    (k0_pay324 x0 x1 x2 x3 x4 x5 x6 x7 x8 x9 x10) = upd (k0_pay253 x0 x1 x2 x3 x4 x5 x6 x7 x8 x9 x10) (k0_pay314 x0 x1 x2 x3 x4 x5 x6 x7 x8 x9 x10) (exp (seq (View.ld x1 r0_8))) (seq (View.ld x2 r0_8)) (seq (View.ld x3 r0_8)) (seq (View.ld x4 r0_8)) (seq (View.ld x5 r0_8)) := rfl
theorem step6 (x0 x1 x2 x3 x4 x5 x6 : Vec Ideal S8x8x64 .f32) (x7 x8 x9 : Vec Ideal S8x64 .f32) (x10 : Vec Ideal S2x8x64x64 .f32) :
    (k0_pay334 x0 x1 x2 x3 x4 x5 x6 x7 x8 x9 x10) = upd (k0_pay253 x0 x1 x2 x3 x4 x5 x6 x7 x8 x9 x10) (k0_pay324 x0 x1 x2 x3 x4 x5 x6 x7 x8 x9 x10) (exp (seq (View.ld x1 r0_9))) (seq (View.ld x2 r0_9)) (seq (View.ld x3 r0_9)) (seq (View.ld x4 r0_9)) (seq (View.ld x5 r0_9)) := rfl
theorem step7 (x0 x1 x2 x3 x4 x5 x6 : Vec Ideal S8x8x64 .f32) (x7 x8 x9 : Vec Ideal S8x64 .f32) (x10 : Vec Ideal S2x8x64x64 .f32) :
    (k0_pay338 x0 x1 x2 x3 x4 x5 x6 x7 x8 x9 x10) = upd (k0_pay253 x0 x1 x2 x3 x4 x5 x6 x7 x8 x9 x10) (k0_pay334 x0 x1 x2 x3 x4 x5 x6 x7 x8 x9 x10) (exp (seq (View.ld x1 r0_10))) (seq (View.ld x2 r0_10)) (seq (View.ld x3 r0_10)) (seq (View.ld x4 r0_10)) (seq (View.ld x5 r0_10)) := rfl

/-- The sum down the diagonal of ones of a column repeated along the lanes: the column laid flat. -/
def flat (e : FVec Ideal S1x64x64 .f32) (y : FVec Ideal S8x64x1 .f32) : FVec Ideal S8x64 .f32 :=
  multiReduction .add [1] S8x64 (mulf (broadcastTo S8x64x64 e broadcasts_S1x64x64_S8x64x64) (broadcastTo S8x64x64 y broadcasts_S8x64x1_S8x64x64)) 0x00000000#32 reduces_S8x64x64_S8x64_2 (.inl rfl) rfl

/-- A row's mean, kept as a column. -/
def mean (x : FVec Ideal S8x64 .f32) : FVec Ideal S8x1 .f32 :=
  divf (shapeCast S8x1 (multiReduction .add [1] S8 x 0x00000000#32 reduces_S8x64_S8 (.inl rfl) rfl) shapeCasts_S8_S8x1) (broadcast S8x1 (Scalar.ofBits (F := Ideal) .f32 0x42800000#32))

/-- What the body does with a step's reading: the norm over a head, the bonus and the gate. -/
def post (y r k v gate rk lnw lnb : FVec Ideal S8x64 .f32) : FVec Ideal S1x8x64 .f32 :=
  shapeCast S1x8x64 (mulf (addf (addf (mulf (mulf (subf y (broadcastTo S8x64 (mean y) broadcasts_S8x1_S8x64))
      (broadcastTo S8x64 (rsqrt (addf (mean (mulf (subf y (broadcastTo S8x64 (mean y) broadcasts_S8x1_S8x64)) (subf y (broadcastTo S8x64 (mean y) broadcasts_S8x1_S8x64)))) (broadcast S8x1 (Scalar.ofBits (F := Ideal) .f32 0x3A27C5AC#32)))) broadcasts_S8x1_S8x64)) lnw) lnb)
    (mulf (broadcastTo S8x64 (shapeCast S8x1 (multiReduction .add [1] S8 (mulf (mulf r k) rk) 0x00000000#32 reduces_S8x64_S8 (.inl rfl) rfl) shapeCasts_S8_S8x1) broadcasts_S8x1_S8x64) v)) gate) shapeCasts_S8x64_S1x8x64

theorem out11 (x0 x1 x2 x3 x4 x5 x6 : Vec Ideal S8x8x64 .f32) (x7 x8 x9 : Vec Ideal S8x64 .f32) (x10 : Vec Ideal S2x8x64x64 .f32) : out0_11 x0 x1 x2 x3 x4 x5 x6 x7 x8 x9 x10 = View.canon [⟨r0_10, post (flat (k0_pay253 x0 x1 x2 x3 x4 x5 x6 x7 x8 x9 x10) (read (k0_pay338 x0 x1 x2 x3 x4 x5 x6 x7 x8 x9 x10) (seq (View.ld x0 r0_10)))) (seq (View.ld x0 r0_10)) (seq (View.ld x2 r0_10)) (seq (View.ld x3 r0_10)) (seq (View.ld x6 r0_10)) (View.ld x7 r0_0) (k0_pay254 x0 x1 x2 x3 x4 x5 x6 x7 x8 x9 x10) (k0_pay255 x0 x1 x2 x3 x4 x5 x6 x7 x8 x9 x10)⟩,
    ⟨r0_9, post (flat (k0_pay253 x0 x1 x2 x3 x4 x5 x6 x7 x8 x9 x10) (read (k0_pay334 x0 x1 x2 x3 x4 x5 x6 x7 x8 x9 x10) (seq (View.ld x0 r0_9)))) (seq (View.ld x0 r0_9)) (seq (View.ld x2 r0_9)) (seq (View.ld x3 r0_9)) (seq (View.ld x6 r0_9)) (View.ld x7 r0_0) (k0_pay254 x0 x1 x2 x3 x4 x5 x6 x7 x8 x9 x10) (k0_pay255 x0 x1 x2 x3 x4 x5 x6 x7 x8 x9 x10)⟩,
    ⟨r0_8, post (flat (k0_pay253 x0 x1 x2 x3 x4 x5 x6 x7 x8 x9 x10) (read (k0_pay324 x0 x1 x2 x3 x4 x5 x6 x7 x8 x9 x10) (seq (View.ld x0 r0_8)))) (seq (View.ld x0 r0_8)) (seq (View.ld x2 r0_8)) (seq (View.ld x3 r0_8)) (seq (View.ld x6 r0_8)) (View.ld x7 r0_0) (k0_pay254 x0 x1 x2 x3 x4 x5 x6 x7 x8 x9 x10) (k0_pay255 x0 x1 x2 x3 x4 x5 x6 x7 x8 x9 x10)⟩,
    ⟨r0_7, post (flat (k0_pay253 x0 x1 x2 x3 x4 x5 x6 x7 x8 x9 x10) (read (k0_pay314 x0 x1 x2 x3 x4 x5 x6 x7 x8 x9 x10) (seq (View.ld x0 r0_7)))) (seq (View.ld x0 r0_7)) (seq (View.ld x2 r0_7)) (seq (View.ld x3 r0_7)) (seq (View.ld x6 r0_7)) (View.ld x7 r0_0) (k0_pay254 x0 x1 x2 x3 x4 x5 x6 x7 x8 x9 x10) (k0_pay255 x0 x1 x2 x3 x4 x5 x6 x7 x8 x9 x10)⟩,
    ⟨r0_5, post (flat (k0_pay253 x0 x1 x2 x3 x4 x5 x6 x7 x8 x9 x10) (read (k0_pay135 (k0_pay293 x0 x1 x2 x3 x4 x5 x6 x7 x8 x9 x10) (k0_pay294 x0 x1 x2 x3 x4 x5 x6 x7 x8 x9 x10) (k0_pay295 x0 x1 x2 x3 x4 x5 x6 x7 x8 x9 x10) (k0_pay296 x0 x1 x2 x3 x4 x5 x6 x7 x8 x9 x10) (k0_pay297 x0 x1 x2 x3 x4 x5 x6 x7 x8 x9 x10) (k0_pay298 x0 x1 x2 x3 x4 x5 x6 x7 x8 x9 x10) (k0_pay299 x0 x1 x2 x3 x4 x5 x6 x7 x8 x9 x10) (k0_pay300 x0 x1 x2 x3 x4 x5 x6 x7 x8 x9 x10) (k0_pay301 x0 x1 x2 x3 x4 x5 x6 x7 x8 x9 x10) (k0_pay302 x0 x1 x2 x3 x4 x5 x6 x7 x8 x9 x10)) (seq (View.ld x0 r0_5)))) (seq (View.ld x0 r0_5)) (seq (View.ld x2 r0_5)) (seq (View.ld x3 r0_5)) (seq (View.ld x6 r0_5)) (View.ld x7 r0_0) (k0_pay254 x0 x1 x2 x3 x4 x5 x6 x7 x8 x9 x10) (k0_pay255 x0 x1 x2 x3 x4 x5 x6 x7 x8 x9 x10)⟩,
    ⟨r0_4, post (flat (k0_pay253 x0 x1 x2 x3 x4 x5 x6 x7 x8 x9 x10) (read (k0_pay287 x0 x1 x2 x3 x4 x5 x6 x7 x8 x9 x10) (seq (View.ld x0 r0_4)))) (seq (View.ld x0 r0_4)) (seq (View.ld x2 r0_4)) (seq (View.ld x3 r0_4)) (seq (View.ld x6 r0_4)) (View.ld x7 r0_0) (k0_pay254 x0 x1 x2 x3 x4 x5 x6 x7 x8 x9 x10) (k0_pay255 x0 x1 x2 x3 x4 x5 x6 x7 x8 x9 x10)⟩,
    ⟨r0_3, post (flat (k0_pay253 x0 x1 x2 x3 x4 x5 x6 x7 x8 x9 x10) (read (k0_pay271 x0 x1 x2 x3 x4 x5 x6 x7 x8 x9 x10) (seq (View.ld x0 r0_3)))) (seq (View.ld x0 r0_3)) (seq (View.ld x2 r0_3)) (seq (View.ld x3 r0_3)) (seq (View.ld x6 r0_3)) (View.ld x7 r0_0) (k0_pay254 x0 x1 x2 x3 x4 x5 x6 x7 x8 x9 x10) (k0_pay255 x0 x1 x2 x3 x4 x5 x6 x7 x8 x9 x10)⟩,
    ⟨r0_2, post (flat (k0_pay253 x0 x1 x2 x3 x4 x5 x6 x7 x8 x9 x10) (read (k0_pay262 x0 x1 x2 x3 x4 x5 x6 x7 x8 x9 x10) (seq (View.ld x0 r0_2)))) (seq (View.ld x0 r0_2)) (seq (View.ld x2 r0_2)) (seq (View.ld x3 r0_2)) (seq (View.ld x6 r0_2)) (View.ld x7 r0_0) (k0_pay254 x0 x1 x2 x3 x4 x5 x6 x7 x8 x9 x10) (k0_pay255 x0 x1 x2 x3 x4 x5 x6 x7 x8 x9 x10)⟩] := rfl

theorem out12 (x0 x1 x2 x3 x4 x5 x6 : Vec Ideal S8x8x64 .f32) (x7 x8 x9 : Vec Ideal S8x64 .f32) (x10 : Vec Ideal S2x8x64x64 .f32) : out0_12 x0 x1 x2 x3 x4 x5 x6 x7 x8 x9 x10 = View.canon [⟨r0_6, shapeCast S1x8x64x64 (k0_pay338 x0 x1 x2 x3 x4 x5 x6 x7 x8 x9 x10) shapeCasts_S8x64x64_S1x8x64x64⟩, ⟨r0_1, shapeCast S1x8x64x64 (k0_pay135 (k0_pay293 x0 x1 x2 x3 x4 x5 x6 x7 x8 x9 x10) (k0_pay294 x0 x1 x2 x3 x4 x5 x6 x7 x8 x9 x10) (k0_pay295 x0 x1 x2 x3 x4 x5 x6 x7 x8 x9 x10) (k0_pay296 x0 x1 x2 x3 x4 x5 x6 x7 x8 x9 x10) (k0_pay297 x0 x1 x2 x3 x4 x5 x6 x7 x8 x9 x10) (k0_pay298 x0 x1 x2 x3 x4 x5 x6 x7 x8 x9 x10) (k0_pay299 x0 x1 x2 x3 x4 x5 x6 x7 x8 x9 x10) (k0_pay300 x0 x1 x2 x3 x4 x5 x6 x7 x8 x9 x10) (k0_pay301 x0 x1 x2 x3 x4 x5 x6 x7 x8 x9 x10) (k0_pay302 x0 x1 x2 x3 x4 x5 x6 x7 x8 x9 x10)) shapeCasts_S8x64x64_S1x8x64x64⟩] := rfl

theorem eye_eq (x0 x1 x2 x3 x4 x5 x6 : Vec Ideal S8x8x64 .f32) (x7 x8 x9 : Vec Ideal S8x64 .f32) (x10 : Vec Ideal S2x8x64x64 .f32) : k0_pay253 x0 x1 x2 x3 x4 x5 x6 x7 x8 x9 x10 = k0_pay2 (F := Ideal) := rfl

theorem eye_at (r c : Fin 64) : (k0_pay2 (F := Ideal)) (ix3 0 r c) = if r = c then 1 else 0 := by
  pointwise [k0_pay2]
  by_cases e : r = c
  · subst e
    simp [IntOp.cmpi, FloatOps.sitofp]
  · have e2 : BitVec.ofNat 32 c.val ≠ BitVec.ofNat 32 r.val := fun h => e (Fin.ext (by
      have h2 := congrArg BitVec.toNat h
      simp only [BitVec.toNat_ofNat] at h2
      have := r.isLt; have := c.isLt
      omega))
    simp [IntOp.cmpi, FloatOps.sitofp, e, beq_eq_false_iff_ne.mpr e2]

theorem flat_at (y : FVec Ideal S8x64x1 .f32) (h : Fin 8) (c : Fin 64) : flat k0_pay2 y (ix2 h c) = y (ix3 h c 0) := by
  have e : flat k0_pay2 y (ix2 h c) = ∑ r : Fin 64, k0_pay2 (F := Ideal) (ix3 0 r c) * y (ix3 h r 0) := by
    unfold flat
    generalize (k0_pay2 (F := Ideal)) = e
    pointwise []
  rw [e]
  simp only [eye_at]
  simp

theorem column_at (v : FVec Ideal S8x64 .f32) (h : Fin 8) (r : Fin 64) : column k0_pay2 v (ix3 h r 0) = v (ix2 h r) := by
  have e : column k0_pay2 v (ix3 h r 0) = ∑ j : Fin 64, k0_pay2 (F := Ideal) (ix3 0 r j) * over v (ix3 h r j) := by
    unfold column
    generalize (k0_pay2 (F := Ideal)) = e
    generalize over v = w
    pointwise []
  rw [e]
  simp only [eye_at, over_at]
  simp

theorem read_at (s : FVec Ideal S8x64x64 .f32) (r : FVec Ideal S8x64 .f32) (h : Fin 8) (v : Fin 64) :
    read s r (ix3 h v 0) = ∑ j : Fin 64, s (ix3 h v j) * r (ix2 h j) := by
  have e : read s r (ix3 h v 0) = ∑ j : Fin 64, s (ix3 h v j) * over r (ix3 h v j) := by
    unfold read
    generalize over r = w
    pointwise []
  rw [e]
  simp only [over_at]

theorem upd_at (s : FVec Ideal S8x64x64 .f32) (w k v kk a : FVec Ideal S8x64 .f32) (h : Fin 8) (r c : Fin 64) :
    upd k0_pay2 s w k v kk a (ix3 h r c) = s (ix3 h r c) * w (ix2 h c) + (0 - ∑ j : Fin 64, s (ix3 h r j) * kk (ix2 h j)) * (kk (ix2 h c) * a (ix2 h c)) + v (ix2 h r) * k (ix2 h c) := by
  have e : upd k0_pay2 s w k v kk a (ix3 h r c) = s (ix3 h r c) * over w (ix3 h r c) + (Ideal.ofBits .f32 0x00000000#32 - ∑ j : Fin 64, s (ix3 h r j) * over kk (ix3 h r j)) * over (mulf kk a) (ix3 h r c) + column k0_pay2 v (ix3 h r 0) * over k (ix3 h r c) := by
    unfold upd
    generalize column k0_pay2 v = y
    generalize over w = w1
    generalize over kk = w2
    generalize over (mulf kk a) = w3
    generalize over k = w4
    pointwise []
  rw [e, column_at, Ideal.ofBits_zero]
  simp only [over_at]
  rfl

/-- The mean of a head's 64 numbers. -/
def avg (y : Fin 64 → EReal) : EReal := Ideal.div (∑ j : Fin 64, y j) (Ideal.ofBits .f32 0x42800000#32)

/-- The norm over a head, the bonus and the gate, at one number. -/
def finish (y r k rk : Fin 64 → EReal) (v gate lnw lnb : EReal) (c : Fin 64) : EReal :=
  ((y c - avg y) * Ideal.rsqrt (avg (fun j => (y j - avg y) * (y j - avg y)) + Ideal.ofBits .f32 0x3A27C5AC#32) * lnw + lnb + (∑ j : Fin 64, r j * k j * rk j) * v) * gate

theorem mean_at (x : FVec Ideal S8x64 .f32) (h : Fin 8) : mean x (ix2 h 0) = avg (fun j => x (ix2 h j)) := by
  unfold mean avg
  pointwise []
  try rfl

theorem post_at (y r k v gate rk lnw lnb : FVec Ideal S8x64 .f32) (h : Fin 8) (c : Fin 64) :
    post y r k v gate rk lnw lnb (ix3 0 h c) = finish (fun j => y (ix2 h j)) (fun j => r (ix2 h j)) (fun j => k (ix2 h j)) (fun j => rk (ix2 h j)) (v (ix2 h c)) (gate (ix2 h c)) (lnw (ix2 h c)) (lnb (ix2 h c)) c := by
  unfold post finish
  simp only [← mean_at]
  pointwise [mean]
  rfl

/-- Token `t` of sequence `i`. -/
def row (i : Fin 128) (t : Fin 4) : Fin 512 := ⟨i.val * 4 + t.val, by omega⟩

/-- The state after one token, as reference.py writes it. -/
def next (s : Fin 8 → Fin 64 → Fin 64 → EReal) (w k v kk a : Fin 8 → Fin 64 → EReal) : Fin 8 → Fin 64 → Fin 64 → EReal := fun h r c =>
  s h r c * w h c + (∑ j : Fin 64, s h r j * -(kk h j)) * (kk h c * a h c) + v h r * k h c

namespace Ref

open Cert.StepsRefIdeal.Read

theorem state1 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (r c : Fin 64) :
    (val_main_v42 (F := Ideal) x1 x2 x3 x4 x5 x10 : S128x8x64x64.Idx → EReal) (ix4 i h r c) = next (fun h r c => x10 (ix4 i h r c)) (fun h c => Ideal.exp (x1 (ix3 (row i 0) h c))) (fun h c => x2 (ix3 (row i 0) h c)) (fun h c => x3 (ix3 (row i 0) h c)) (fun h c => x4 (ix3 (row i 0) h c)) (fun h c => x5 (ix3 (row i 0) h c)) h r c := by
  unfold next
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]
  rfl

theorem read1 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (v : Fin 64) :
    (val_main_v43 (F := Ideal) x0 x1 x2 x3 x4 x5 x10 : Cert.StepsRefIdeal.S128x8x64.Idx → EReal) (ix3 i h v) = ∑ j : Fin 64, (val_main_v42 (F := Ideal) x1 x2 x3 x4 x5 x10 : S128x8x64x64.Idx → EReal) (ix4 i h v j) * x0 (ix3 (row i 0) h j) := by
  pointwise [val_main_v14, val_main_v13, val_main_v43, val_main_v7, val_main_v0]
  rfl

theorem state2 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (r c : Fin 64) :
    (val_main_v73 (F := Ideal) x1 x2 x3 x4 x5 x10 : S128x8x64x64.Idx → EReal) (ix4 i h r c) = next (fun h r c => (val_main_v42 (F := Ideal) x1 x2 x3 x4 x5 x10 : S128x8x64x64.Idx → EReal) (ix4 i h r c)) (fun h c => Ideal.exp (x1 (ix3 (row i 1) h c))) (fun h c => x2 (ix3 (row i 1) h c)) (fun h c => x3 (ix3 (row i 1) h c)) (fun h c => x4 (ix3 (row i 1) h c)) (fun h c => x5 (ix3 (row i 1) h c)) h r c := by
  unfold next
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v12, val_main_v11, val_main_v10, val_main_v9, val_main_v8, val_main_v7, val_main_v6, val_main_v5, val_main_v4, val_main_v3, val_main_v2, val_main_v1, val_main_v0]
  rfl

theorem read2 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (v : Fin 64) :
    (val_main_v74 (F := Ideal) x0 x1 x2 x3 x4 x5 x10 : Cert.StepsRefIdeal.S128x8x64.Idx → EReal) (ix3 i h v) = ∑ j : Fin 64, (val_main_v73 (F := Ideal) x1 x2 x3 x4 x5 x10 : S128x8x64x64.Idx → EReal) (ix4 i h v j) * x0 (ix3 (row i 1) h j) := by
  pointwise [val_main_v45, val_main_v44, val_main_v74, val_main_v7, val_main_v0]
  rfl

theorem state3 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (r c : Fin 64) :
    (val_main_v104 (F := Ideal) x1 x2 x3 x4 x5 x10 : S128x8x64x64.Idx → EReal) (ix4 i h r c) = next (fun h r c => (val_main_v73 (F := Ideal) x1 x2 x3 x4 x5 x10 : S128x8x64x64.Idx → EReal) (ix4 i h r c)) (fun h c => Ideal.exp (x1 (ix3 (row i 2) h c))) (fun h c => x2 (ix3 (row i 2) h c)) (fun h c => x3 (ix3 (row i 2) h c)) (fun h c => x4 (ix3 (row i 2) h c)) (fun h c => x5 (ix3 (row i 2) h c)) h r c := by
  unfold next
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v12, val_main_v11, val_main_v10, val_main_v9, val_main_v8, val_main_v7, val_main_v6, val_main_v5, val_main_v4, val_main_v3, val_main_v2, val_main_v1, val_main_v0]
  rfl

theorem read3 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (v : Fin 64) :
    (val_main_v105 (F := Ideal) x0 x1 x2 x3 x4 x5 x10 : Cert.StepsRefIdeal.S128x8x64.Idx → EReal) (ix3 i h v) = ∑ j : Fin 64, (val_main_v104 (F := Ideal) x1 x2 x3 x4 x5 x10 : S128x8x64x64.Idx → EReal) (ix4 i h v j) * x0 (ix3 (row i 2) h j) := by
  pointwise [val_main_v76, val_main_v75, val_main_v105, val_main_v7, val_main_v0]
  rfl

theorem state4 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (r c : Fin 64) :
    (val_main_v135 (F := Ideal) x1 x2 x3 x4 x5 x10 : S128x8x64x64.Idx → EReal) (ix4 i h r c) = next (fun h r c => (val_main_v104 (F := Ideal) x1 x2 x3 x4 x5 x10 : S128x8x64x64.Idx → EReal) (ix4 i h r c)) (fun h c => Ideal.exp (x1 (ix3 (row i 3) h c))) (fun h c => x2 (ix3 (row i 3) h c)) (fun h c => x3 (ix3 (row i 3) h c)) (fun h c => x4 (ix3 (row i 3) h c)) (fun h c => x5 (ix3 (row i 3) h c)) h r c := by
  unfold next
  pointwise [val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v12, val_main_v11, val_main_v10, val_main_v9, val_main_v8, val_main_v7, val_main_v6, val_main_v5, val_main_v4, val_main_v3, val_main_v2, val_main_v1, val_main_v0]
  rfl

theorem read4 (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (v : Fin 64) :
    (val_main_v136 (F := Ideal) x0 x1 x2 x3 x4 x5 x10 : Cert.StepsRefIdeal.S128x8x64.Idx → EReal) (ix3 i h v) = ∑ j : Fin 64, (val_main_v135 (F := Ideal) x1 x2 x3 x4 x5 x10 : S128x8x64x64.Idx → EReal) (ix4 i h v j) * x0 (ix3 (row i 3) h j) := by
  pointwise [val_main_v107, val_main_v106, val_main_v136, val_main_v7, val_main_v0]
  rfl

theorem pick (x0 x1 x2 x3 x4 x5 x6 : FVec Ideal S512x8x64 .f32) (x7 : FVec Ideal S8x64 .f32) (x8 x9 : FVec Ideal S512 .f32) (x10 : FVec Ideal S128x8x64x64 .f32) (i : Fin 128) (n : Fin 4) (h : Fin 8) (j : Fin 64) :
    (val_main_v142 (F := Ideal) x0 x1 x2 x3 x4 x5 x10 : Cert.StepsRefIdeal.S128x4x8x64.Idx → EReal) (ix4 i n h j) = (match n with
      | 0 => (val_main_v43 (F := Ideal) x0 x1 x2 x3 x4 x5 x10 : Cert.StepsRefIdeal.S128x8x64.Idx → EReal) (ix3 i h j) | 1 => (val_main_v74 (F := Ideal) x0 x1 x2 x3 x4 x5 x10 : Cert.StepsRefIdeal.S128x8x64.Idx → EReal) (ix3 i h j)
      | 2 => (val_main_v105 (F := Ideal) x0 x1 x2 x3 x4 x5 x10 : Cert.StepsRefIdeal.S128x8x64.Idx → EReal) (ix3 i h j) | 3 => (val_main_v136 (F := Ideal) x0 x1 x2 x3 x4 x5 x10 : Cert.StepsRefIdeal.S128x8x64.Idx → EReal) (ix3 i h j)) := by
  fin_cases n <;> pointwise [val_main_v142, val_main_v141, val_main_v140, val_main_v139, val_main_v138, val_main_v137] <;> rfl

theorem out_at (x0 x1 x2 x3 x4 x5 x6 : FVec Ideal S512x8x64 .f32) (x7 : FVec Ideal S8x64 .f32) (x8 x9 : FVec Ideal S512 .f32) (x10 : FVec Ideal S128x8x64x64 .f32) (i : Fin 128) (n : Fin 4) (h : Fin 8) (c : Fin 64) :
    (val_main_v180 (F := Ideal) x0 x1 x2 x3 x4 x5 x6 x7 x8 x9 x10 : S512x8x64.Idx → EReal) (ix3 (row i n) h c)
      = finish (fun j => (val_main_v142 (F := Ideal) x0 x1 x2 x3 x4 x5 x10 : Cert.StepsRefIdeal.S128x4x8x64.Idx → EReal) (ix4 i n h j)) (fun j => x0 (ix3 (row i n) h j)) (fun j => x2 (ix3 (row i n) h j)) (fun j => x7 (ix2 h j)) (x3 (ix3 (row i n) h c)) (x6 (ix3 (row i n) h c)) (x8 (ix1 ⟨h.val * 64 + c.val, by omega⟩)) (x9 (ix1 ⟨h.val * 64 + c.val, by omega⟩)) c := by
  unfold finish avg row
  pointwise [val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_cst, val_main_cst_0, val_main_cst_1, val_main_cst_2, val_main_cst_3, val_main_cst_4, val_main_v2, val_main_v1, val_main_v0]

end Ref
/-- The arguments as functions of their indices. -/
abbrev Rr : FVec Ideal S512x8x64 .f32 := m ((c : Thread nD τ).loc main_arg0)
abbrev Lw : FVec Ideal S512x8x64 .f32 := m ((c : Thread nD τ).loc main_arg1)
abbrev Kk : FVec Ideal S512x8x64 .f32 := m ((c : Thread nD τ).loc main_arg2)
abbrev Vv : FVec Ideal S512x8x64 .f32 := m ((c : Thread nD τ).loc main_arg3)
abbrev Rm : FVec Ideal S512x8x64 .f32 := m ((c : Thread nD τ).loc main_arg4)
abbrev Aa : FVec Ideal S512x8x64 .f32 := m ((c : Thread nD τ).loc main_arg5)
abbrev Gt : FVec Ideal S512x8x64 .f32 := m ((c : Thread nD τ).loc main_arg6)
abbrev Rk : FVec Ideal S8x64 .f32 := m ((c : Thread nD τ).loc main_arg7)
abbrev Nw : FVec Ideal S512 .f32 := m ((c : Thread nD τ).loc main_arg8)
abbrev Nb : FVec Ideal S512 .f32 := m ((c : Thread nD τ).loc main_arg9)
abbrev Sn : FVec Ideal S128x8x64x64 .f32 := m ((c : Thread nD τ).loc main_arg10)

/-- The row of the arrays that row `p` of point `t`'s block is. -/
def rowAt (t : Fin cfg0.N) (p : Fin 8) : Fin 512 :=
  ⟨8 * t.val + p.val, by have := t.isLt; have h : cfg0.N = 64 := N_0; omega⟩

/-- The sequence that plane `b` of point `t`'s block of states is. -/
def seqAt (t : Fin cfg0.N) (b : Fin 2) : Fin 128 :=
  ⟨2 * t.val + b.val, by have := t.isLt; have h : cfg0.N = 64 := N_0; omega⟩

theorem lnw_eq : V m c main_v0 = (shapeCast S8x64 (Nw m c) shapeCasts_S512_S8x64) := by
  show StableHlo.after hostOps0 _ _ = _
  simp only [hostOps0, List.cons_append, List.nil_append]
  after_results
  rfl
theorem lnb_eq : V m c main_v1 = (shapeCast S8x64 (Nb m c) shapeCasts_S512_S8x64) := by
  show StableHlo.after hostOps0 _ _ = _
  simp only [hostOps0, List.cons_append, List.nil_append]
  after_results
  rfl

theorem index0 : ∀ t : Fin grid0.N, win0_0.index t (0 : Fin 3) = t.val ∧ win0_0.index t (1 : Fin 3) = 0 ∧ win0_0.index t (2 : Fin 3) = 0 := by decide +kernel
theorem index1 : ∀ t : Fin grid0.N, win0_1.index t (0 : Fin 3) = t.val ∧ win0_1.index t (1 : Fin 3) = 0 ∧ win0_1.index t (2 : Fin 3) = 0 := by decide +kernel
theorem index2 : ∀ t : Fin grid0.N, win0_2.index t (0 : Fin 3) = t.val ∧ win0_2.index t (1 : Fin 3) = 0 ∧ win0_2.index t (2 : Fin 3) = 0 := by decide +kernel
theorem index3 : ∀ t : Fin grid0.N, win0_3.index t (0 : Fin 3) = t.val ∧ win0_3.index t (1 : Fin 3) = 0 ∧ win0_3.index t (2 : Fin 3) = 0 := by decide +kernel
theorem index4 : ∀ t : Fin grid0.N, win0_4.index t (0 : Fin 3) = t.val ∧ win0_4.index t (1 : Fin 3) = 0 ∧ win0_4.index t (2 : Fin 3) = 0 := by decide +kernel
theorem index5 : ∀ t : Fin grid0.N, win0_5.index t (0 : Fin 3) = t.val ∧ win0_5.index t (1 : Fin 3) = 0 ∧ win0_5.index t (2 : Fin 3) = 0 := by decide +kernel
theorem index6 : ∀ t : Fin grid0.N, win0_6.index t (0 : Fin 3) = t.val ∧ win0_6.index t (1 : Fin 3) = 0 ∧ win0_6.index t (2 : Fin 3) = 0 := by decide +kernel
theorem index11 : ∀ t : Fin grid0.N, win0_11.index t (0 : Fin 3) = t.val ∧ win0_11.index t (1 : Fin 3) = 0 ∧ win0_11.index t (2 : Fin 3) = 0 := by decide +kernel
theorem index7 : ∀ t : Fin grid0.N, win0_7.index t (0 : Fin 2) = 0 ∧ win0_7.index t (1 : Fin 2) = 0 := by decide +kernel
theorem index8 : ∀ t : Fin grid0.N, win0_8.index t (0 : Fin 2) = 0 ∧ win0_8.index t (1 : Fin 2) = 0 := by decide +kernel
theorem index9 : ∀ t : Fin grid0.N, win0_9.index t (0 : Fin 2) = 0 ∧ win0_9.index t (1 : Fin 2) = 0 := by decide +kernel
theorem index10 : ∀ t : Fin grid0.N, win0_10.index t (0 : Fin 4) = t.val ∧ win0_10.index t (1 : Fin 4) = 0 ∧ win0_10.index t (2 : Fin 4) = 0 ∧ win0_10.index t (3 : Fin 4) = 0 := by decide +kernel
theorem index12 : ∀ t : Fin grid0.N, win0_12.index t (0 : Fin 4) = t.val ∧ win0_12.index t (1 : Fin 4) = 0 ∧ win0_12.index t (2 : Fin 4) = 0 ∧ win0_12.index t (3 : Fin 4) = 0 := by decide +kernel

theorem r_at (t : Fin cfg0.N) (p : Fin 8) (h : Fin 8) (c0 : Fin 64) :
    (iblk m c 0 t : Vec Ideal S8x8x64 .f32) (ix3 p h c0) = Rr m c (ix3 (rowAt t p) h c0) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 8 + 1 * p.val = 8 * t.val + p.val; rw [h0]; omega
  | ⟨1, _⟩ => show win0_0.index t 1 * 8 + 1 * h.val = h.val; rw [h1]; omega
  | ⟨2, _⟩ => show win0_0.index t 2 * 64 + 1 * c0.val = c0.val; rw [h2]; omega

theorem lw_at (t : Fin cfg0.N) (p : Fin 8) (h : Fin 8) (c0 : Fin 64) :
    (iblk m c 1 t : Vec Ideal S8x8x64 .f32) (ix3 p h c0) = Lw m c (ix3 (rowAt t p) h c0) := by
  obtain ⟨h0, h1, h2⟩ := index1 t
  unfold iblk
  rw [View.read_apply]
  show V m c main_arg1 _ = _
  rw [V_main_arg1]
  congr 1
  funext a
  apply Fin.ext
  match a with
  | ⟨0, _⟩ => show win0_1.index t 0 * 8 + 1 * p.val = 8 * t.val + p.val; rw [h0]; omega
  | ⟨1, _⟩ => show win0_1.index t 1 * 8 + 1 * h.val = h.val; rw [h1]; omega
  | ⟨2, _⟩ => show win0_1.index t 2 * 64 + 1 * c0.val = c0.val; rw [h2]; omega

theorem k_at (t : Fin cfg0.N) (p : Fin 8) (h : Fin 8) (c0 : Fin 64) :
    (iblk m c 2 t : Vec Ideal S8x8x64 .f32) (ix3 p h c0) = Kk m c (ix3 (rowAt t p) h c0) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 8 + 1 * p.val = 8 * t.val + p.val; rw [h0]; omega
  | ⟨1, _⟩ => show win0_2.index t 1 * 8 + 1 * h.val = h.val; rw [h1]; omega
  | ⟨2, _⟩ => show win0_2.index t 2 * 64 + 1 * c0.val = c0.val; rw [h2]; omega

theorem v_at (t : Fin cfg0.N) (p : Fin 8) (h : Fin 8) (c0 : Fin 64) :
    (iblk m c 3 t : Vec Ideal S8x8x64 .f32) (ix3 p h c0) = Vv m c (ix3 (rowAt t p) h c0) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 8 + 1 * p.val = 8 * t.val + p.val; rw [h0]; omega
  | ⟨1, _⟩ => show win0_3.index t 1 * 8 + 1 * h.val = h.val; rw [h1]; omega
  | ⟨2, _⟩ => show win0_3.index t 2 * 64 + 1 * c0.val = c0.val; rw [h2]; omega

theorem kk_at (t : Fin cfg0.N) (p : Fin 8) (h : Fin 8) (c0 : Fin 64) :
    (iblk m c 4 t : Vec Ideal S8x8x64 .f32) (ix3 p h c0) = Rm m c (ix3 (rowAt t p) h c0) := by
  obtain ⟨h0, h1, h2⟩ := index4 t
  unfold iblk
  rw [View.read_apply]
  show V m c main_arg4 _ = _
  rw [V_main_arg4]
  congr 1
  funext a
  apply Fin.ext
  match a with
  | ⟨0, _⟩ => show win0_4.index t 0 * 8 + 1 * p.val = 8 * t.val + p.val; rw [h0]; omega
  | ⟨1, _⟩ => show win0_4.index t 1 * 8 + 1 * h.val = h.val; rw [h1]; omega
  | ⟨2, _⟩ => show win0_4.index t 2 * 64 + 1 * c0.val = c0.val; rw [h2]; omega

theorem a_at (t : Fin cfg0.N) (p : Fin 8) (h : Fin 8) (c0 : Fin 64) :
    (iblk m c 5 t : Vec Ideal S8x8x64 .f32) (ix3 p h c0) = Aa m c (ix3 (rowAt t p) h c0) := by
  obtain ⟨h0, h1, h2⟩ := index5 t
  unfold iblk
  rw [View.read_apply]
  show V m c main_arg5 _ = _
  rw [V_main_arg5]
  congr 1
  funext a
  apply Fin.ext
  match a with
  | ⟨0, _⟩ => show win0_5.index t 0 * 8 + 1 * p.val = 8 * t.val + p.val; rw [h0]; omega
  | ⟨1, _⟩ => show win0_5.index t 1 * 8 + 1 * h.val = h.val; rw [h1]; omega
  | ⟨2, _⟩ => show win0_5.index t 2 * 64 + 1 * c0.val = c0.val; rw [h2]; omega

theorem gate_at (t : Fin cfg0.N) (p : Fin 8) (h : Fin 8) (c0 : Fin 64) :
    (iblk m c 6 t : Vec Ideal S8x8x64 .f32) (ix3 p h c0) = Gt m c (ix3 (rowAt t p) h c0) := by
  obtain ⟨h0, h1, h2⟩ := index6 t
  unfold iblk
  rw [View.read_apply]
  show V m c main_arg6 _ = _
  rw [V_main_arg6]
  congr 1
  funext a
  apply Fin.ext
  match a with
  | ⟨0, _⟩ => show win0_6.index t 0 * 8 + 1 * p.val = 8 * t.val + p.val; rw [h0]; omega
  | ⟨1, _⟩ => show win0_6.index t 1 * 8 + 1 * h.val = h.val; rw [h1]; omega
  | ⟨2, _⟩ => show win0_6.index t 2 * 64 + 1 * c0.val = c0.val; rw [h2]; omega

theorem rk_at (t : Fin cfg0.N) (h : Fin 8) (c0 : Fin 64) :
    (iblk m c 7 t : Vec Ideal S8x64 .f32) (ix2 h c0) = Rk m c (ix2 h c0) := by
  obtain ⟨h0, h1⟩ := index7 t
  unfold iblk
  rw [View.read_apply]
  show V m c main_arg7 _ = _
  rw [V_main_arg7]
  congr 1
  funext a
  apply Fin.ext
  match a with
  | ⟨0, _⟩ => show win0_7.index t 0 * 8 + 1 * h.val = h.val; rw [h0]; omega
  | ⟨1, _⟩ => show win0_7.index t 1 * 64 + 1 * c0.val = c0.val; rw [h1]; omega

theorem lnw_at (t : Fin cfg0.N) (h : Fin 8) (c0 : Fin 64) :
    (iblk m c 8 t : Vec Ideal S8x64 .f32) (ix2 h c0) = Nw m c (ix1 ⟨h.val * 64 + c0.val, by omega⟩) := by
  obtain ⟨h0, h1⟩ := index8 t
  have e : (iblk m c 8 t : Vec Ideal S8x64 .f32) (ix2 h c0) = V m c main_v0 (ix2 (n0 := 8) (n1 := 64) h c0) := by
    unfold iblk
    rw [View.read_apply]
    show V m c main_v0 _ = _
    congr 1
    funext a
    apply Fin.ext
    match a with
    | ⟨0, _⟩ => show win0_8.index t 0 * 8 + 1 * h.val = h.val; rw [h0]; omega
    | ⟨1, _⟩ => show win0_8.index t 1 * 64 + 1 * c0.val = c0.val; rw [h1]; omega
  rw [e, lnw_eq] <;> pointwise []

theorem lnb_at (t : Fin cfg0.N) (h : Fin 8) (c0 : Fin 64) :
    (iblk m c 9 t : Vec Ideal S8x64 .f32) (ix2 h c0) = Nb m c (ix1 ⟨h.val * 64 + c0.val, by omega⟩) := by
  obtain ⟨h0, h1⟩ := index9 t
  have e : (iblk m c 9 t : Vec Ideal S8x64 .f32) (ix2 h c0) = V m c main_v1 (ix2 (n0 := 8) (n1 := 64) h c0) := by
    unfold iblk
    rw [View.read_apply]
    show V m c main_v1 _ = _
    congr 1
    funext a
    apply Fin.ext
    match a with
    | ⟨0, _⟩ => show win0_9.index t 0 * 8 + 1 * h.val = h.val; rw [h0]; omega
    | ⟨1, _⟩ => show win0_9.index t 1 * 64 + 1 * c0.val = c0.val; rw [h1]; omega
  rw [e, lnb_eq] <;> pointwise []

theorem state_at (t : Fin cfg0.N) (b : Fin 2) (h : Fin 8) (r : Fin 64) (c0 : Fin 64) :
    (iblk m c 10 t : Vec Ideal S2x8x64x64 .f32) (ix4 b h r c0) = Sn m c (ix4 (seqAt t b) h r c0) := by
  obtain ⟨h0, h1, h2, h3⟩ := index10 t
  unfold iblk
  rw [View.read_apply]
  show V m c main_arg10 _ = _
  rw [V_main_arg10]
  congr 1
  funext a
  apply Fin.ext
  match a with
  | ⟨0, _⟩ => show win0_10.index t 0 * 2 + 1 * b.val = 2 * t.val + b.val; rw [h0]; omega
  | ⟨1, _⟩ => show win0_10.index t 1 * 8 + 1 * h.val = h.val; rw [h1]; omega
  | ⟨2, _⟩ => show win0_10.index t 2 * 64 + 1 * r.val = r.val; rw [h2]; omega
  | ⟨3, _⟩ => show win0_10.index t 3 * 64 + 1 * c0.val = c0.val; rw [h3]; omega

theorem seq_flat (y : Vec Ideal S1x8x64 .f32) (h : Fin 8) (c : Fin 64) : seq y (ix2 h c) = y (ix3 0 h c) := by
  unfold seq
  pointwise []

theorem plane_flat (y : Vec Ideal S1x8x64x64 .f32) (h : Fin 8) (r c : Fin 64) : shapeCast S8x64x64 y shapeCasts_S1x8x64x64_S8x64x64 (ix3 h r c) = y (ix4 0 h r c) := by
  pointwise []

theorem plane_up (y : FVec Ideal S8x64x64 .f32) (h : Fin 8) (r c : Fin 64) : shapeCast S1x8x64x64 y shapeCasts_S8x64x64_S1x8x64x64 (ix4 0 h r c) = y (ix3 h r c) := by
  pointwise []

theorem slab0 (x : Vec Ideal S8x8x64 .f32) (h : Fin 8) (c : Fin 64) : seq (View.ld x r0_2) (ix2 h c) = x (ix3 0 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab1 (x : Vec Ideal S8x8x64 .f32) (h : Fin 8) (c : Fin 64) : seq (View.ld x r0_3) (ix2 h c) = x (ix3 1 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab2 (x : Vec Ideal S8x8x64 .f32) (h : Fin 8) (c : Fin 64) : seq (View.ld x r0_4) (ix2 h c) = x (ix3 2 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab3 (x : Vec Ideal S8x8x64 .f32) (h : Fin 8) (c : Fin 64) : seq (View.ld x r0_5) (ix2 h c) = x (ix3 3 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab4 (x : Vec Ideal S8x8x64 .f32) (h : Fin 8) (c : Fin 64) : seq (View.ld x r0_7) (ix2 h c) = x (ix3 4 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab5 (x : Vec Ideal S8x8x64 .f32) (h : Fin 8) (c : Fin 64) : seq (View.ld x r0_8) (ix2 h c) = x (ix3 5 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab6 (x : Vec Ideal S8x8x64 .f32) (h : Fin 8) (c : Fin 64) : seq (View.ld x r0_9) (ix2 h c) = x (ix3 6 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem slab7 (x : Vec Ideal S8x8x64 .f32) (h : Fin 8) (c : Fin 64) : seq (View.ld x r0_10) (ix2 h c) = x (ix3 7 h c) := by
  refine (seq_flat _ h c).trans ?_
  show x _ = x _
  congr 1
  funext a
  apply Fin.ext
  match a with
  | ⟨0, _⟩ => rfl
  | ⟨1, _⟩ => show 0 + 1 * h.val = h.val; omega
  | ⟨2, _⟩ => show 0 + 1 * c.val = c.val; omega

theorem plane0 (x : Vec Ideal S2x8x64x64 .f32) (h : Fin 8) (r c : Fin 64) : shapeCast S8x64x64 (View.ld x r0_1) shapeCasts_S1x8x64x64_S8x64x64 (ix3 h r c) = x (ix4 0 h r c) := by
  refine (plane_flat _ h r c).trans ?_
  show x _ = x _
  congr 1
  funext a
  apply Fin.ext
  match a with
  | ⟨0, _⟩ => rfl
  | ⟨1, _⟩ => show 0 + 1 * h.val = h.val; omega
  | ⟨2, _⟩ => show 0 + 1 * r.val = r.val; omega
  | ⟨3, _⟩ => show 0 + 1 * c.val = c.val; omega

theorem plane1 (x : Vec Ideal S2x8x64x64 .f32) (h : Fin 8) (r c : Fin 64) : shapeCast S8x64x64 (View.ld x r0_6) shapeCasts_S1x8x64x64_S8x64x64 (ix3 h r c) = x (ix4 1 h r c) := by
  refine (plane_flat _ h r c).trans ?_
  show x _ = x _
  congr 1
  funext a
  apply Fin.ext
  match a with
  | ⟨0, _⟩ => rfl
  | ⟨1, _⟩ => show 0 + 1 * h.val = h.val; omega
  | ⟨2, _⟩ => show 0 + 1 * r.val = r.val; omega
  | ⟨3, _⟩ => show 0 + 1 * c.val = c.val; omega

theorem ld_whole (x : Vec Ideal S8x64 .f32) : View.ld x r0_0 = x := View.ld_unit_zero (S := S8x64) zeros2 _ _

theorem lnw_whole (x0 x1 x2 x3 x4 x5 x6 : Vec Ideal S8x8x64 .f32) (x7 x8 x9 : Vec Ideal S8x64 .f32) (x10 : Vec Ideal S2x8x64x64 .f32) (h : Fin 8) (c : Fin 64) : k0_pay254 x0 x1 x2 x3 x4 x5 x6 x7 x8 x9 x10 (ix2 h c) = x8 (ix2 h c) := by
  have e : k0_pay254 x0 x1 x2 x3 x4 x5 x6 x7 x8 x9 x10 = shapeCast S8x64 (View.ld x8 r0_0) shapeCasts_S8x64_S8x64 := rfl
  rw [e, ld_whole]
  pointwise []

theorem lnb_whole (x0 x1 x2 x3 x4 x5 x6 : Vec Ideal S8x8x64 .f32) (x7 x8 x9 : Vec Ideal S8x64 .f32) (x10 : Vec Ideal S2x8x64x64 .f32) (h : Fin 8) (c : Fin 64) : k0_pay255 x0 x1 x2 x3 x4 x5 x6 x7 x8 x9 x10 (ix2 h c) = x9 (ix2 h c) := by
  have e : k0_pay255 x0 x1 x2 x3 x4 x5 x6 x7 x8 x9 x10 = shapeCast S8x64 (View.ld x9 r0_0) shapeCasts_S8x64_S8x64 := rfl
  rw [e, ld_whole]
  pointwise []

theorem plane_first (x0 x1 x2 x3 x4 x5 x6 : Vec Ideal S8x8x64 .f32) (x7 x8 x9 : Vec Ideal S8x64 .f32) (x10 : Vec Ideal S2x8x64x64 .f32) (h : Fin 8) (r c : Fin 64) : (k0_pay256 x0 x1 x2 x3 x4 x5 x6 x7 x8 x9 x10) (ix3 h r c) = x10 (ix4 0 h r c) := plane0 x10 h r c
theorem plane_second (x0 x1 x2 x3 x4 x5 x6 : Vec Ideal S8x8x64 .f32) (x7 x8 x9 : Vec Ideal S8x64 .f32) (x10 : Vec Ideal S2x8x64x64 .f32) (h : Fin 8) (r c : Fin 64) : (k0_pay303 x0 x1 x2 x3 x4 x5 x6 x7 x8 x9 x10) (ix3 h r c) = x10 (ix4 1 h r c) := plane1 x10 h r c

/-- A finite sum of products of reals, its sign drawn inside. -/
theorem neg_sum (s k : Fin 64 → EReal) (hs : ∀ j, ∃ x : ℝ, s j = x) (hk : ∀ j, ∃ x : ℝ, k j = x) :
    (0 - ∑ j : Fin 64, s j * k j) = ∑ j : Fin 64, s j * -(k j) ∧ ∃ x : ℝ, (∑ j : Fin 64, s j * -(k j)) = x := by
  choose f hf using hs
  choose g hg using hk
  have e1 : (∑ j : Fin 64, s j * k j) = ((∑ j : Fin 64, f j * g j : ℝ) : EReal) := by
    rw [Cert.MoeSpec.coe_sum]
    exact Finset.sum_congr rfl fun j _ => by rw [hf, hg, EReal.coe_mul]
  have e2 : (∑ j : Fin 64, s j * -(k j)) = ((∑ j : Fin 64, f j * -(g j) : ℝ) : EReal) := by
    rw [Cert.MoeSpec.coe_sum]
    exact Finset.sum_congr rfl fun j _ => by rw [hf, hg, EReal.coe_mul, EReal.coe_neg]
  refine ⟨?_, _, e2⟩
  rw [e1, e2, zero_sub, ← EReal.coe_neg]
  congr 1
  rw [← Finset.sum_neg_distrib]
  exact Finset.sum_congr rfl fun j _ => by ring

theorem next_real (s : Fin 8 → Fin 64 → Fin 64 → EReal) (w k v kk a : Fin 8 → Fin 64 → EReal)
    (hs : ∀ h r c, ∃ x : ℝ, s h r c = x) (hw : ∀ h c, ∃ x : ℝ, w h c = x) (hk : ∀ h c, ∃ x : ℝ, k h c = x) (hv : ∀ h c, ∃ x : ℝ, v h c = x)
    (hkk : ∀ h c, ∃ x : ℝ, kk h c = x) (ha : ∀ h c, ∃ x : ℝ, a h c = x) (h : Fin 8) (r c : Fin 64) : ∃ x : ℝ, next s w k v kk a h r c = x := by
  obtain ⟨x1, e1⟩ := hs h r c
  obtain ⟨x2, e2⟩ := hw h c
  obtain ⟨x3, e3⟩ := hk h c
  obtain ⟨x4, e4⟩ := hv h r
  obtain ⟨x5, e5⟩ := hkk h c
  obtain ⟨x6, e6⟩ := ha h c
  obtain ⟨x7, e7⟩ := (neg_sum (fun j => s h r j) (fun j => kk h j) (fun j => hs h r j) (fun j => hkk h j)).2
  refine ⟨x1 * x2 + x7 * (x5 * x6) + x4 * x3, ?_⟩
  unfold next
  rw [e1, e2, e3, e4, e5, e6, e7]
  simp only [EReal.coe_add, EReal.coe_mul]

theorem step_at (s : FVec Ideal S8x64x64 .f32) (w k v kk a : FVec Ideal S8x64 .f32) (s' : Fin 8 → Fin 64 → Fin 64 → EReal) (w' k' v' kk' a' : Fin 8 → Fin 64 → EReal)
    (hs : ∀ h r c, s (ix3 h r c) = s' h r c) (hw : ∀ h c, w (ix2 h c) = w' h c) (hk : ∀ h c, k (ix2 h c) = k' h c) (hv : ∀ h c, v (ix2 h c) = v' h c)
    (hkk : ∀ h c, kk (ix2 h c) = kk' h c) (ha : ∀ h c, a (ix2 h c) = a' h c)
    (rs : ∀ h r c, ∃ x : ℝ, s' h r c = x) (rk : ∀ h c, ∃ x : ℝ, kk' h c = x) (h : Fin 8) (r c : Fin 64) :
    upd k0_pay2 s w k v kk a (ix3 h r c) = next s' w' k' v' kk' a' h r c := by
  rw [upd_at]
  simp only [hs, hw, hk, hv, hkk, ha]
  rw [(neg_sum (fun j => s' h r j) (fun j => kk' h j) (fun j => rs h r j) (fun j => rk h j)).1]
  rfl

/-- Every entry is a real. -/
def Fin3 (x : FVec Ideal S512x8x64 .f32) : Prop := ∀ T h c, ∃ y : ℝ, x (ix3 T h c) = y
def Fin4 (x : FVec Ideal S128x8x64x64 .f32) : Prop := ∀ i h r c, ∃ y : ℝ, x (ix4 i h r c) = y

theorem exp_real (x : EReal) (h : ∃ y : ℝ, x = y) : ∃ y : ℝ, Ideal.exp x = y := by
  obtain ⟨y, rfl⟩ := h
  exact ⟨Real.exp y, rfl⟩

theorem real1 (x0 x1 x2 x3 x4 x5 x6 : FVec Ideal S512x8x64 .f32) (x7 : FVec Ideal S8x64 .f32) (x8 x9 : FVec Ideal S512 .f32) (x10 : FVec Ideal S128x8x64x64 .f32) (f1 : Fin3 x1) (f2 : Fin3 x2) (f3 : Fin3 x3) (f4 : Fin3 x4) (f5 : Fin3 x5) (f10 : Fin4 x10) : Fin4 (Cert.StepsRefIdeal.Read.val_main_v42 (F := Ideal) x1 x2 x3 x4 x5 x10) := by
  intro i h r c
  rw [Ref.state1 x0 x1 x2 x3 x4 x5 x6 x7 x8 x9 x10]
  exact next_real _ _ _ _ _ _ (fun h r c => f10 i h r c) (fun h c => exp_real _ (f1 _ h c)) (fun h c => f2 _ h c) (fun h c => f3 _ h c) (fun h c => f4 _ h c) (fun h c => f5 _ h c) h r c

theorem real2 (x0 x1 x2 x3 x4 x5 x6 : FVec Ideal S512x8x64 .f32) (x7 : FVec Ideal S8x64 .f32) (x8 x9 : FVec Ideal S512 .f32) (x10 : FVec Ideal S128x8x64x64 .f32) (f1 : Fin3 x1) (f2 : Fin3 x2) (f3 : Fin3 x3) (f4 : Fin3 x4) (f5 : Fin3 x5) (f10 : Fin4 x10) : Fin4 (Cert.StepsRefIdeal.Read.val_main_v73 (F := Ideal) x1 x2 x3 x4 x5 x10) := by
  intro i h r c
  rw [Ref.state2 x0 x1 x2 x3 x4 x5 x6 x7 x8 x9 x10]
  exact next_real _ _ _ _ _ _ (fun h r c => real1 x0 x1 x2 x3 x4 x5 x6 x7 x8 x9 x10 f1 f2 f3 f4 f5 f10 i h r c) (fun h c => exp_real _ (f1 _ h c)) (fun h c => f2 _ h c) (fun h c => f3 _ h c) (fun h c => f4 _ h c) (fun h c => f5 _ h c) h r c

theorem real3 (x0 x1 x2 x3 x4 x5 x6 : FVec Ideal S512x8x64 .f32) (x7 : FVec Ideal S8x64 .f32) (x8 x9 : FVec Ideal S512 .f32) (x10 : FVec Ideal S128x8x64x64 .f32) (f1 : Fin3 x1) (f2 : Fin3 x2) (f3 : Fin3 x3) (f4 : Fin3 x4) (f5 : Fin3 x5) (f10 : Fin4 x10) : Fin4 (Cert.StepsRefIdeal.Read.val_main_v104 (F := Ideal) x1 x2 x3 x4 x5 x10) := by
  intro i h r c
  rw [Ref.state3 x0 x1 x2 x3 x4 x5 x6 x7 x8 x9 x10]
  exact next_real _ _ _ _ _ _ (fun h r c => real2 x0 x1 x2 x3 x4 x5 x6 x7 x8 x9 x10 f1 f2 f3 f4 f5 f10 i h r c) (fun h c => exp_real _ (f1 _ h c)) (fun h c => f2 _ h c) (fun h c => f3 _ h c) (fun h c => f4 _ h c) (fun h c => f5 _ h c) h r c

theorem real4 (x0 x1 x2 x3 x4 x5 x6 : FVec Ideal S512x8x64 .f32) (x7 : FVec Ideal S8x64 .f32) (x8 x9 : FVec Ideal S512 .f32) (x10 : FVec Ideal S128x8x64x64 .f32) (f1 : Fin3 x1) (f2 : Fin3 x2) (f3 : Fin3 x3) (f4 : Fin3 x4) (f5 : Fin3 x5) (f10 : Fin4 x10) : Fin4 (Cert.StepsRefIdeal.Read.val_main_v135 (F := Ideal) x1 x2 x3 x4 x5 x10) := by
  intro i h r c
  rw [Ref.state4 x0 x1 x2 x3 x4 x5 x6 x7 x8 x9 x10]
  exact next_real _ _ _ _ _ _ (fun h r c => real3 x0 x1 x2 x3 x4 x5 x6 x7 x8 x9 x10 f1 f2 f3 f4 f5 f10 i h r c) (fun h c => exp_real _ (f1 _ h c)) (fun h c => f2 _ h c) (fun h c => f3 _ h c) (fun h c => f4 _ h c) (fun h c => f5 _ h c) h r c

theorem row0 (t : Fin cfg0.N) : rowAt t 0 = row (seqAt t 0) 0 := Fin.ext (by
  show 8 * t.val + 0 = (2 * t.val + 0) * 4 + 0; omega)

theorem kstate0 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay262 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v42 (F := Ideal) (Lw m c) (Kk m c) (Vv m c) (Rm m c) (Aa m c) (Sn m c) : S128x8x64x64.Idx → EReal) (ix4 (seqAt t 0) h r c0) := by
  rw [step0, eye_eq]
  refine (step_at _ _ _ _ _ _ (fun h r c0 => (Sn m c) (ix4 (seqAt t 0) h r c0)) (fun h c0 => Ideal.exp (Lw m c (ix3 (row (seqAt t 0) 0) h c0))) (fun h c0 => Kk m c (ix3 (row (seqAt t 0) 0) h c0)) (fun h c0 => Vv m c (ix3 (row (seqAt t 0) 0) h c0)) (fun h c0 => Rm m c (ix3 (row (seqAt t 0) 0) h c0)) (fun h c0 => Aa m c (ix3 (row (seqAt t 0) 0) h c0)) ?_ ?_ ?_ ?_ ?_ ?_ ?_ ?_ h r c0).trans (Ref.state1 (Rr m c) (Lw m c) (Kk m c) (Vv m c) (Rm m c) (Aa m c) (Gt m c) (Rk m c) (Nw m c) (Nb m c) (Sn m c) _ h r c0).symm
  · intro h r c0; exact (plane_first _ _ _ _ _ _ _ _ _ _ _ h r c0).trans (state_at m c t 0 h r c0)
  · intro h c0
    exact congrArg Ideal.exp ((slab0 _ h c0).trans ((lw_at m c t 0 h c0).trans (by rw [row0])))
  · intro h c0; exact (slab0 _ h c0).trans ((k_at m c t 0 h c0).trans (by rw [row0]))
  · intro h c0; exact (slab0 _ h c0).trans ((v_at m c t 0 h c0).trans (by rw [row0]))
  · intro h c0; exact (slab0 _ h c0).trans ((kk_at m c t 0 h c0).trans (by rw [row0]))
  · intro h c0; exact (slab0 _ h c0).trans ((a_at m c t 0 h c0).trans (by rw [row0]))
  · intro h r c0; exact f10 _ h r c0
  · intro h c0; exact f4 _ h c0

theorem kout0 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay262 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_2)))) (seq (View.ld (iblk m c 0 t) r0_2)) (seq (View.ld (iblk m c 2 t) r0_2)) (seq (View.ld (iblk m c 3 t) r0_2)) (seq (View.ld (iblk m c 6 t) r0_2)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 0) h c0) := by
  have hr : ∀ h c0, seq (View.ld (iblk m c 0 t) r0_2) (ix2 h c0) = Rr m c (ix3 (row (seqAt t 0) 0) h c0) :=
    fun h c0 => (slab0 _ h c0).trans ((r_at m c t 0 h c0).trans (by rw [row0]))
  have hk : ∀ h c0, seq (View.ld (iblk m c 2 t) r0_2) (ix2 h c0) = Kk m c (ix3 (row (seqAt t 0) 0) h c0) :=
    fun h c0 => (slab0 _ h c0).trans ((k_at m c t 0 h c0).trans (by rw [row0]))
  have hv : ∀ h c0, seq (View.ld (iblk m c 3 t) r0_2) (ix2 h c0) = Vv m c (ix3 (row (seqAt t 0) 0) h c0) :=
    fun h c0 => (slab0 _ h c0).trans ((v_at m c t 0 h c0).trans (by rw [row0]))
  have hg : ∀ h c0, seq (View.ld (iblk m c 6 t) r0_2) (ix2 h c0) = Gt m c (ix3 (row (seqAt t 0) 0) h c0) :=
    fun h c0 => (slab0 _ h c0).trans ((gate_at m c t 0 h c0).trans (by rw [row0]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay262 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_2))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 0) 0 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 0) 0 h c0).symm
    refine Eq.trans ?_ (Ref.read1 (Rr m c) (Lw m c) (Kk m c) (Vv m c) (Rm m c) (Aa m c) (Gt m c) (Rk m c) (Nw m c) (Nb m c) (Sn m c) (seqAt t 0) h c0).symm
    exact Finset.sum_congr rfl fun j _ => by rw [hr, kstate0 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row0, Ref.out_at, lnw_whole, lnb_whole, lnw_at, lnb_at]
  simp only [hr, hk, hv, hg, hy, hrk]

theorem row1 (t : Fin cfg0.N) : rowAt t 1 = row (seqAt t 0) 1 := Fin.ext (by
  show 8 * t.val + 1 = (2 * t.val + 0) * 4 + 1; omega)

theorem kstate1 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay271 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v73 (F := Ideal) (Lw m c) (Kk m c) (Vv m c) (Rm m c) (Aa m c) (Sn m c) : S128x8x64x64.Idx → EReal) (ix4 (seqAt t 0) h r c0) := by
  rw [step1, eye_eq]
  refine (step_at _ _ _ _ _ _ (fun h r c0 => (Cert.StepsRefIdeal.Read.val_main_v42 (F := Ideal) (Lw m c) (Kk m c) (Vv m c) (Rm m c) (Aa m c) (Sn m c) : S128x8x64x64.Idx → EReal) (ix4 (seqAt t 0) h r c0)) (fun h c0 => Ideal.exp (Lw m c (ix3 (row (seqAt t 0) 1) h c0))) (fun h c0 => Kk m c (ix3 (row (seqAt t 0) 1) h c0)) (fun h c0 => Vv m c (ix3 (row (seqAt t 0) 1) h c0)) (fun h c0 => Rm m c (ix3 (row (seqAt t 0) 1) h c0)) (fun h c0 => Aa m c (ix3 (row (seqAt t 0) 1) h c0)) ?_ ?_ ?_ ?_ ?_ ?_ ?_ ?_ h r c0).trans (Ref.state2 (Rr m c) (Lw m c) (Kk m c) (Vv m c) (Rm m c) (Aa m c) (Gt m c) (Rk m c) (Nw m c) (Nb m c) (Sn m c) _ h r c0).symm
  · exact kstate0 m c f1 f2 f3 f4 f5 f10 t
  · intro h c0
    exact congrArg Ideal.exp ((slab1 _ h c0).trans ((lw_at m c t 1 h c0).trans (by rw [row1])))
  · intro h c0; exact (slab1 _ h c0).trans ((k_at m c t 1 h c0).trans (by rw [row1]))
  · intro h c0; exact (slab1 _ h c0).trans ((v_at m c t 1 h c0).trans (by rw [row1]))
  · intro h c0; exact (slab1 _ h c0).trans ((kk_at m c t 1 h c0).trans (by rw [row1]))
  · intro h c0; exact (slab1 _ h c0).trans ((a_at m c t 1 h c0).trans (by rw [row1]))
  · intro h r c0; exact real1 (Rr m c) (Lw m c) (Kk m c) (Vv m c) (Rm m c) (Aa m c) (Gt m c) (Rk m c) (Nw m c) (Nb m c) (Sn m c) f1 f2 f3 f4 f5 f10 _ h r c0
  · intro h c0; exact f4 _ h c0

theorem kout1 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay271 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_3)))) (seq (View.ld (iblk m c 0 t) r0_3)) (seq (View.ld (iblk m c 2 t) r0_3)) (seq (View.ld (iblk m c 3 t) r0_3)) (seq (View.ld (iblk m c 6 t) r0_3)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 1) h c0) := by
  have hr : ∀ h c0, seq (View.ld (iblk m c 0 t) r0_3) (ix2 h c0) = Rr m c (ix3 (row (seqAt t 0) 1) h c0) :=
    fun h c0 => (slab1 _ h c0).trans ((r_at m c t 1 h c0).trans (by rw [row1]))
  have hk : ∀ h c0, seq (View.ld (iblk m c 2 t) r0_3) (ix2 h c0) = Kk m c (ix3 (row (seqAt t 0) 1) h c0) :=
    fun h c0 => (slab1 _ h c0).trans ((k_at m c t 1 h c0).trans (by rw [row1]))
  have hv : ∀ h c0, seq (View.ld (iblk m c 3 t) r0_3) (ix2 h c0) = Vv m c (ix3 (row (seqAt t 0) 1) h c0) :=
    fun h c0 => (slab1 _ h c0).trans ((v_at m c t 1 h c0).trans (by rw [row1]))
  have hg : ∀ h c0, seq (View.ld (iblk m c 6 t) r0_3) (ix2 h c0) = Gt m c (ix3 (row (seqAt t 0) 1) h c0) :=
    fun h c0 => (slab1 _ h c0).trans ((gate_at m c t 1 h c0).trans (by rw [row1]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay271 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_3))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 0) 1 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 0) 1 h c0).symm
    refine Eq.trans ?_ (Ref.read2 (Rr m c) (Lw m c) (Kk m c) (Vv m c) (Rm m c) (Aa m c) (Gt m c) (Rk m c) (Nw m c) (Nb m c) (Sn m c) (seqAt t 0) h c0).symm
    exact Finset.sum_congr rfl fun j _ => by rw [hr, kstate1 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row1, Ref.out_at, lnw_whole, lnb_whole, lnw_at, lnb_at]
  simp only [hr, hk, hv, hg, hy, hrk]

theorem row2 (t : Fin cfg0.N) : rowAt t 2 = row (seqAt t 0) 2 := Fin.ext (by
  show 8 * t.val + 2 = (2 * t.val + 0) * 4 + 2; omega)

theorem kstate2 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay287 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v104 (F := Ideal) (Lw m c) (Kk m c) (Vv m c) (Rm m c) (Aa m c) (Sn m c) : S128x8x64x64.Idx → EReal) (ix4 (seqAt t 0) h r c0) := by
  rw [step2, eye_eq]
  refine (step_at _ _ _ _ _ _ (fun h r c0 => (Cert.StepsRefIdeal.Read.val_main_v73 (F := Ideal) (Lw m c) (Kk m c) (Vv m c) (Rm m c) (Aa m c) (Sn m c) : S128x8x64x64.Idx → EReal) (ix4 (seqAt t 0) h r c0)) (fun h c0 => Ideal.exp (Lw m c (ix3 (row (seqAt t 0) 2) h c0))) (fun h c0 => Kk m c (ix3 (row (seqAt t 0) 2) h c0)) (fun h c0 => Vv m c (ix3 (row (seqAt t 0) 2) h c0)) (fun h c0 => Rm m c (ix3 (row (seqAt t 0) 2) h c0)) (fun h c0 => Aa m c (ix3 (row (seqAt t 0) 2) h c0)) ?_ ?_ ?_ ?_ ?_ ?_ ?_ ?_ h r c0).trans (Ref.state3 (Rr m c) (Lw m c) (Kk m c) (Vv m c) (Rm m c) (Aa m c) (Gt m c) (Rk m c) (Nw m c) (Nb m c) (Sn m c) _ h r c0).symm
  · exact kstate1 m c f1 f2 f3 f4 f5 f10 t
  · intro h c0
    exact congrArg Ideal.exp ((slab2 _ h c0).trans ((lw_at m c t 2 h c0).trans (by rw [row2])))
  · intro h c0; exact (slab2 _ h c0).trans ((k_at m c t 2 h c0).trans (by rw [row2]))
  · intro h c0; exact (slab2 _ h c0).trans ((v_at m c t 2 h c0).trans (by rw [row2]))
  · intro h c0; exact (slab2 _ h c0).trans ((kk_at m c t 2 h c0).trans (by rw [row2]))
  · intro h c0; exact (slab2 _ h c0).trans ((a_at m c t 2 h c0).trans (by rw [row2]))
  · intro h r c0; exact real2 (Rr m c) (Lw m c) (Kk m c) (Vv m c) (Rm m c) (Aa m c) (Gt m c) (Rk m c) (Nw m c) (Nb m c) (Sn m c) f1 f2 f3 f4 f5 f10 _ h r c0
  · intro h c0; exact f4 _ h c0

theorem kout2 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay287 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_4)))) (seq (View.ld (iblk m c 0 t) r0_4)) (seq (View.ld (iblk m c 2 t) r0_4)) (seq (View.ld (iblk m c 3 t) r0_4)) (seq (View.ld (iblk m c 6 t) r0_4)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 2) h c0) := by
  have hr : ∀ h c0, seq (View.ld (iblk m c 0 t) r0_4) (ix2 h c0) = Rr m c (ix3 (row (seqAt t 0) 2) h c0) :=
    fun h c0 => (slab2 _ h c0).trans ((r_at m c t 2 h c0).trans (by rw [row2]))
  have hk : ∀ h c0, seq (View.ld (iblk m c 2 t) r0_4) (ix2 h c0) = Kk m c (ix3 (row (seqAt t 0) 2) h c0) :=
    fun h c0 => (slab2 _ h c0).trans ((k_at m c t 2 h c0).trans (by rw [row2]))
  have hv : ∀ h c0, seq (View.ld (iblk m c 3 t) r0_4) (ix2 h c0) = Vv m c (ix3 (row (seqAt t 0) 2) h c0) :=
    fun h c0 => (slab2 _ h c0).trans ((v_at m c t 2 h c0).trans (by rw [row2]))
  have hg : ∀ h c0, seq (View.ld (iblk m c 6 t) r0_4) (ix2 h c0) = Gt m c (ix3 (row (seqAt t 0) 2) h c0) :=
    fun h c0 => (slab2 _ h c0).trans ((gate_at m c t 2 h c0).trans (by rw [row2]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay287 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_4))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 0) 2 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 0) 2 h c0).symm
    refine Eq.trans ?_ (Ref.read3 (Rr m c) (Lw m c) (Kk m c) (Vv m c) (Rm m c) (Aa m c) (Gt m c) (Rk m c) (Nw m c) (Nb m c) (Sn m c) (seqAt t 0) h c0).symm
    exact Finset.sum_congr rfl fun j _ => by rw [hr, kstate2 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row2, Ref.out_at, lnw_whole, lnb_whole, lnw_at, lnb_at]
  simp only [hr, hk, hv, hg, hy, hrk]

theorem row3 (t : Fin cfg0.N) : rowAt t 3 = row (seqAt t 0) 3 := Fin.ext (by
  show 8 * t.val + 3 = (2 * t.val + 0) * 4 + 3; omega)

theorem kstate3 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay135 (k0_pay293 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay294 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay295 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay296 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay297 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay298 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay299 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay300 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay301 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay302 (iblk m c 0 t) (iblk m c 1 t) (iblk m c 2 t) (iblk m c 3 t) (iblk m c 4 t) (iblk m c 5 t) (iblk m c 6 t) (iblk m c 7 t) (iblk m c 8 t) (iblk m c 9 t) (iblk m c 10 t))) (ix3 h r c0) = (Cert.StepsRefIdeal.Read.val_main_v135 (F := Ideal) (Lw m c) (Kk m c) (Vv m c) (Rm m c) (Aa m c) (Sn m c) : S128x8x64x64.Idx → EReal) (ix4 (seqAt t 0) h r c0) := by
  rw [step3, eye_eq]
  refine (step_at _ _ _ _ _ _ (fun h r c0 => (Cert.StepsRefIdeal.Read.val_main_v104 (F := Ideal) (Lw m c) (Kk m c) (Vv m c) (Rm m c) (Aa m c) (Sn m c) : S128x8x64x64.Idx → EReal) (ix4 (seqAt t 0) h r c0)) (fun h c0 => Ideal.exp (Lw m c (ix3 (row (seqAt t 0) 3) h c0))) (fun h c0 => Kk m c (ix3 (row (seqAt t 0) 3) h c0)) (fun h c0 => Vv m c (ix3 (row (seqAt t 0) 3) h c0)) (fun h c0 => Rm m c (ix3 (row (seqAt t 0) 3) h c0)) (fun h c0 => Aa m c (ix3 (row (seqAt t 0) 3) h c0)) ?_ ?_ ?_ ?_ ?_ ?_ ?_ ?_ h r c0).trans (Ref.state4 (Rr m c) (Lw m c) (Kk m c) (Vv m c) (Rm m c) (Aa m c) (Gt m c) (Rk m c) (Nw m c) (Nb m c) (Sn m c) _ h r c0).symm
  · exact kstate2 m c f1 f2 f3 f4 f5 f10 t
  · intro h c0
    exact congrArg Ideal.exp ((slab3 _ h c0).trans ((lw_at m c t 3 h c0).trans (by rw [row3])))
  · intro h c0; exact (slab3 _ h c0).trans ((k_at m c t 3 h c0).trans (by rw [row3]))
  · intro h c0; exact (slab3 _ h c0).trans ((v_at m c t 3 h c0).trans (by rw [row3]))
  · intro h c0; exact (slab3 _ h c0).trans ((kk_at m c t 3 h c0).trans (by rw [row3]))
  · intro h c0; exact (slab3 _ h c0).trans ((a_at m c t 3 h c0).trans (by rw [row3]))
  · intro h r c0; exact real3 (Rr m c) (Lw m c) (Kk m c) (Vv m c) (Rm m c) (Aa m c) (Gt m c) (Rk m c) (Nw m c) (Nb m c) (Sn m c) f1 f2 f3 f4 f5 f10 _ h r c0
  · intro h c0; exact f4 _ h c0

theorem kout3 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay135 (k0_pay293 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay294 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay295 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay296 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay297 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay298 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay299 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay300 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay301 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay302 (iblk m c 0 t) (iblk m c 1 t) (iblk m c 2 t) (iblk m c 3 t) (iblk m c 4 t) (iblk m c 5 t) (iblk m c 6 t) (iblk m c 7 t) (iblk m c 8 t) (iblk m c 9 t) (iblk m c 10 t))) (seq (View.ld (iblk m c 0 t) r0_5)))) (seq (View.ld (iblk m c 0 t) r0_5)) (seq (View.ld (iblk m c 2 t) r0_5)) (seq (View.ld (iblk m c 3 t) r0_5)) (seq (View.ld (iblk m c 6 t) r0_5)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 3) h c0) := by
  have hr : ∀ h c0, seq (View.ld (iblk m c 0 t) r0_5) (ix2 h c0) = Rr m c (ix3 (row (seqAt t 0) 3) h c0) :=
    fun h c0 => (slab3 _ h c0).trans ((r_at m c t 3 h c0).trans (by rw [row3]))
  have hk : ∀ h c0, seq (View.ld (iblk m c 2 t) r0_5) (ix2 h c0) = Kk m c (ix3 (row (seqAt t 0) 3) h c0) :=
    fun h c0 => (slab3 _ h c0).trans ((k_at m c t 3 h c0).trans (by rw [row3]))
  have hv : ∀ h c0, seq (View.ld (iblk m c 3 t) r0_5) (ix2 h c0) = Vv m c (ix3 (row (seqAt t 0) 3) h c0) :=
    fun h c0 => (slab3 _ h c0).trans ((v_at m c t 3 h c0).trans (by rw [row3]))
  have hg : ∀ h c0, seq (View.ld (iblk m c 6 t) r0_5) (ix2 h c0) = Gt m c (ix3 (row (seqAt t 0) 3) h c0) :=
    fun h c0 => (slab3 _ h c0).trans ((gate_at m c t 3 h c0).trans (by rw [row3]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay135 (k0_pay293 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay294 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay295 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay296 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay297 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay298 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay299 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay300 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay301 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay302 (iblk m c 0 t) (iblk m c 1 t) (iblk m c 2 t) (iblk m c 3 t) (iblk m c 4 t) (iblk m c 5 t) (iblk m c 6 t) (iblk m c 7 t) (iblk m c 8 t) (iblk m c 9 t) (iblk m c 10 t))) (seq (View.ld (iblk m c 0 t) r0_5))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 0) 3 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 0) 3 h c0).symm
    refine Eq.trans ?_ (Ref.read4 (Rr m c) (Lw m c) (Kk m c) (Vv m c) (Rm m c) (Aa m c) (Gt m c) (Rk m c) (Nw m c) (Nb m c) (Sn m c) (seqAt t 0) h c0).symm
    exact Finset.sum_congr rfl fun j _ => by rw [hr, kstate3 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row3, Ref.out_at, lnw_whole, lnb_whole, lnw_at, lnb_at]
  simp only [hr, hk, hv, hg, hy, hrk]

theorem row4 (t : Fin cfg0.N) : rowAt t 4 = row (seqAt t 1) 0 := Fin.ext (by
  show 8 * t.val + 4 = (2 * t.val + 1) * 4 + 0; omega)

theorem kstate4 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay314 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v42 (F := Ideal) (Lw m c) (Kk m c) (Vv m c) (Rm m c) (Aa m c) (Sn m c) : S128x8x64x64.Idx → EReal) (ix4 (seqAt t 1) h r c0) := by
  rw [step4, eye_eq]
  refine (step_at _ _ _ _ _ _ (fun h r c0 => (Sn m c) (ix4 (seqAt t 1) h r c0)) (fun h c0 => Ideal.exp (Lw m c (ix3 (row (seqAt t 1) 0) h c0))) (fun h c0 => Kk m c (ix3 (row (seqAt t 1) 0) h c0)) (fun h c0 => Vv m c (ix3 (row (seqAt t 1) 0) h c0)) (fun h c0 => Rm m c (ix3 (row (seqAt t 1) 0) h c0)) (fun h c0 => Aa m c (ix3 (row (seqAt t 1) 0) h c0)) ?_ ?_ ?_ ?_ ?_ ?_ ?_ ?_ h r c0).trans (Ref.state1 (Rr m c) (Lw m c) (Kk m c) (Vv m c) (Rm m c) (Aa m c) (Gt m c) (Rk m c) (Nw m c) (Nb m c) (Sn m c) _ h r c0).symm
  · intro h r c0; exact (plane_second _ _ _ _ _ _ _ _ _ _ _ h r c0).trans (state_at m c t 1 h r c0)
  · intro h c0
    exact congrArg Ideal.exp ((slab4 _ h c0).trans ((lw_at m c t 4 h c0).trans (by rw [row4])))
  · intro h c0; exact (slab4 _ h c0).trans ((k_at m c t 4 h c0).trans (by rw [row4]))
  · intro h c0; exact (slab4 _ h c0).trans ((v_at m c t 4 h c0).trans (by rw [row4]))
  · intro h c0; exact (slab4 _ h c0).trans ((kk_at m c t 4 h c0).trans (by rw [row4]))
  · intro h c0; exact (slab4 _ h c0).trans ((a_at m c t 4 h c0).trans (by rw [row4]))
  · intro h r c0; exact f10 _ h r c0
  · intro h c0; exact f4 _ h c0

theorem kout4 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay314 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_7)))) (seq (View.ld (iblk m c 0 t) r0_7)) (seq (View.ld (iblk m c 2 t) r0_7)) (seq (View.ld (iblk m c 3 t) r0_7)) (seq (View.ld (iblk m c 6 t) r0_7)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 4) h c0) := by
  have hr : ∀ h c0, seq (View.ld (iblk m c 0 t) r0_7) (ix2 h c0) = Rr m c (ix3 (row (seqAt t 1) 0) h c0) :=
    fun h c0 => (slab4 _ h c0).trans ((r_at m c t 4 h c0).trans (by rw [row4]))
  have hk : ∀ h c0, seq (View.ld (iblk m c 2 t) r0_7) (ix2 h c0) = Kk m c (ix3 (row (seqAt t 1) 0) h c0) :=
    fun h c0 => (slab4 _ h c0).trans ((k_at m c t 4 h c0).trans (by rw [row4]))
  have hv : ∀ h c0, seq (View.ld (iblk m c 3 t) r0_7) (ix2 h c0) = Vv m c (ix3 (row (seqAt t 1) 0) h c0) :=
    fun h c0 => (slab4 _ h c0).trans ((v_at m c t 4 h c0).trans (by rw [row4]))
  have hg : ∀ h c0, seq (View.ld (iblk m c 6 t) r0_7) (ix2 h c0) = Gt m c (ix3 (row (seqAt t 1) 0) h c0) :=
    fun h c0 => (slab4 _ h c0).trans ((gate_at m c t 4 h c0).trans (by rw [row4]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay314 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_7))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 1) 0 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 1) 0 h c0).symm
    refine Eq.trans ?_ (Ref.read1 (Rr m c) (Lw m c) (Kk m c) (Vv m c) (Rm m c) (Aa m c) (Gt m c) (Rk m c) (Nw m c) (Nb m c) (Sn m c) (seqAt t 1) h c0).symm
    exact Finset.sum_congr rfl fun j _ => by rw [hr, kstate4 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row4, Ref.out_at, lnw_whole, lnb_whole, lnw_at, lnb_at]
  simp only [hr, hk, hv, hg, hy, hrk]

theorem row5 (t : Fin cfg0.N) : rowAt t 5 = row (seqAt t 1) 1 := Fin.ext (by
  show 8 * t.val + 5 = (2 * t.val + 1) * 4 + 1; omega)

theorem kstate5 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay324 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v73 (F := Ideal) (Lw m c) (Kk m c) (Vv m c) (Rm m c) (Aa m c) (Sn m c) : S128x8x64x64.Idx → EReal) (ix4 (seqAt t 1) h r c0) := by
  rw [step5, eye_eq]
  refine (step_at _ _ _ _ _ _ (fun h r c0 => (Cert.StepsRefIdeal.Read.val_main_v42 (F := Ideal) (Lw m c) (Kk m c) (Vv m c) (Rm m c) (Aa m c) (Sn m c) : S128x8x64x64.Idx → EReal) (ix4 (seqAt t 1) h r c0)) (fun h c0 => Ideal.exp (Lw m c (ix3 (row (seqAt t 1) 1) h c0))) (fun h c0 => Kk m c (ix3 (row (seqAt t 1) 1) h c0)) (fun h c0 => Vv m c (ix3 (row (seqAt t 1) 1) h c0)) (fun h c0 => Rm m c (ix3 (row (seqAt t 1) 1) h c0)) (fun h c0 => Aa m c (ix3 (row (seqAt t 1) 1) h c0)) ?_ ?_ ?_ ?_ ?_ ?_ ?_ ?_ h r c0).trans (Ref.state2 (Rr m c) (Lw m c) (Kk m c) (Vv m c) (Rm m c) (Aa m c) (Gt m c) (Rk m c) (Nw m c) (Nb m c) (Sn m c) _ h r c0).symm
  · exact kstate4 m c f1 f2 f3 f4 f5 f10 t
  · intro h c0
    exact congrArg Ideal.exp ((slab5 _ h c0).trans ((lw_at m c t 5 h c0).trans (by rw [row5])))
  · intro h c0; exact (slab5 _ h c0).trans ((k_at m c t 5 h c0).trans (by rw [row5]))
  · intro h c0; exact (slab5 _ h c0).trans ((v_at m c t 5 h c0).trans (by rw [row5]))
  · intro h c0; exact (slab5 _ h c0).trans ((kk_at m c t 5 h c0).trans (by rw [row5]))
  · intro h c0; exact (slab5 _ h c0).trans ((a_at m c t 5 h c0).trans (by rw [row5]))
  · intro h r c0; exact real1 (Rr m c) (Lw m c) (Kk m c) (Vv m c) (Rm m c) (Aa m c) (Gt m c) (Rk m c) (Nw m c) (Nb m c) (Sn m c) f1 f2 f3 f4 f5 f10 _ h r c0
  · intro h c0; exact f4 _ h c0

theorem kout5 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay324 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_8)))) (seq (View.ld (iblk m c 0 t) r0_8)) (seq (View.ld (iblk m c 2 t) r0_8)) (seq (View.ld (iblk m c 3 t) r0_8)) (seq (View.ld (iblk m c 6 t) r0_8)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 5) h c0) := by
  have hr : ∀ h c0, seq (View.ld (iblk m c 0 t) r0_8) (ix2 h c0) = Rr m c (ix3 (row (seqAt t 1) 1) h c0) :=
    fun h c0 => (slab5 _ h c0).trans ((r_at m c t 5 h c0).trans (by rw [row5]))
  have hk : ∀ h c0, seq (View.ld (iblk m c 2 t) r0_8) (ix2 h c0) = Kk m c (ix3 (row (seqAt t 1) 1) h c0) :=
    fun h c0 => (slab5 _ h c0).trans ((k_at m c t 5 h c0).trans (by rw [row5]))
  have hv : ∀ h c0, seq (View.ld (iblk m c 3 t) r0_8) (ix2 h c0) = Vv m c (ix3 (row (seqAt t 1) 1) h c0) :=
    fun h c0 => (slab5 _ h c0).trans ((v_at m c t 5 h c0).trans (by rw [row5]))
  have hg : ∀ h c0, seq (View.ld (iblk m c 6 t) r0_8) (ix2 h c0) = Gt m c (ix3 (row (seqAt t 1) 1) h c0) :=
    fun h c0 => (slab5 _ h c0).trans ((gate_at m c t 5 h c0).trans (by rw [row5]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay324 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_8))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 1) 1 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 1) 1 h c0).symm
    refine Eq.trans ?_ (Ref.read2 (Rr m c) (Lw m c) (Kk m c) (Vv m c) (Rm m c) (Aa m c) (Gt m c) (Rk m c) (Nw m c) (Nb m c) (Sn m c) (seqAt t 1) h c0).symm
    exact Finset.sum_congr rfl fun j _ => by rw [hr, kstate5 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row5, Ref.out_at, lnw_whole, lnb_whole, lnw_at, lnb_at]
  simp only [hr, hk, hv, hg, hy, hrk]

theorem row6 (t : Fin cfg0.N) : rowAt t 6 = row (seqAt t 1) 2 := Fin.ext (by
  show 8 * t.val + 6 = (2 * t.val + 1) * 4 + 2; omega)

theorem kstate6 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay334 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v104 (F := Ideal) (Lw m c) (Kk m c) (Vv m c) (Rm m c) (Aa m c) (Sn m c) : S128x8x64x64.Idx → EReal) (ix4 (seqAt t 1) h r c0) := by
  rw [step6, eye_eq]
  refine (step_at _ _ _ _ _ _ (fun h r c0 => (Cert.StepsRefIdeal.Read.val_main_v73 (F := Ideal) (Lw m c) (Kk m c) (Vv m c) (Rm m c) (Aa m c) (Sn m c) : S128x8x64x64.Idx → EReal) (ix4 (seqAt t 1) h r c0)) (fun h c0 => Ideal.exp (Lw m c (ix3 (row (seqAt t 1) 2) h c0))) (fun h c0 => Kk m c (ix3 (row (seqAt t 1) 2) h c0)) (fun h c0 => Vv m c (ix3 (row (seqAt t 1) 2) h c0)) (fun h c0 => Rm m c (ix3 (row (seqAt t 1) 2) h c0)) (fun h c0 => Aa m c (ix3 (row (seqAt t 1) 2) h c0)) ?_ ?_ ?_ ?_ ?_ ?_ ?_ ?_ h r c0).trans (Ref.state3 (Rr m c) (Lw m c) (Kk m c) (Vv m c) (Rm m c) (Aa m c) (Gt m c) (Rk m c) (Nw m c) (Nb m c) (Sn m c) _ h r c0).symm
  · exact kstate5 m c f1 f2 f3 f4 f5 f10 t
  · intro h c0
    exact congrArg Ideal.exp ((slab6 _ h c0).trans ((lw_at m c t 6 h c0).trans (by rw [row6])))
  · intro h c0; exact (slab6 _ h c0).trans ((k_at m c t 6 h c0).trans (by rw [row6]))
  · intro h c0; exact (slab6 _ h c0).trans ((v_at m c t 6 h c0).trans (by rw [row6]))
  · intro h c0; exact (slab6 _ h c0).trans ((kk_at m c t 6 h c0).trans (by rw [row6]))
  · intro h c0; exact (slab6 _ h c0).trans ((a_at m c t 6 h c0).trans (by rw [row6]))
  · intro h r c0; exact real2 (Rr m c) (Lw m c) (Kk m c) (Vv m c) (Rm m c) (Aa m c) (Gt m c) (Rk m c) (Nw m c) (Nb m c) (Sn m c) f1 f2 f3 f4 f5 f10 _ h r c0
  · intro h c0; exact f4 _ h c0

theorem kout6 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay334 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_9)))) (seq (View.ld (iblk m c 0 t) r0_9)) (seq (View.ld (iblk m c 2 t) r0_9)) (seq (View.ld (iblk m c 3 t) r0_9)) (seq (View.ld (iblk m c 6 t) r0_9)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 6) h c0) := by
  have hr : ∀ h c0, seq (View.ld (iblk m c 0 t) r0_9) (ix2 h c0) = Rr m c (ix3 (row (seqAt t 1) 2) h c0) :=
    fun h c0 => (slab6 _ h c0).trans ((r_at m c t 6 h c0).trans (by rw [row6]))
  have hk : ∀ h c0, seq (View.ld (iblk m c 2 t) r0_9) (ix2 h c0) = Kk m c (ix3 (row (seqAt t 1) 2) h c0) :=
    fun h c0 => (slab6 _ h c0).trans ((k_at m c t 6 h c0).trans (by rw [row6]))
  have hv : ∀ h c0, seq (View.ld (iblk m c 3 t) r0_9) (ix2 h c0) = Vv m c (ix3 (row (seqAt t 1) 2) h c0) :=
    fun h c0 => (slab6 _ h c0).trans ((v_at m c t 6 h c0).trans (by rw [row6]))
  have hg : ∀ h c0, seq (View.ld (iblk m c 6 t) r0_9) (ix2 h c0) = Gt m c (ix3 (row (seqAt t 1) 2) h c0) :=
    fun h c0 => (slab6 _ h c0).trans ((gate_at m c t 6 h c0).trans (by rw [row6]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay334 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_9))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 1) 2 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 1) 2 h c0).symm
    refine Eq.trans ?_ (Ref.read3 (Rr m c) (Lw m c) (Kk m c) (Vv m c) (Rm m c) (Aa m c) (Gt m c) (Rk m c) (Nw m c) (Nb m c) (Sn m c) (seqAt t 1) h c0).symm
    exact Finset.sum_congr rfl fun j _ => by rw [hr, kstate6 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row6, Ref.out_at, lnw_whole, lnb_whole, lnw_at, lnb_at]
  simp only [hr, hk, hv, hg, hy, hrk]

theorem row7 (t : Fin cfg0.N) : rowAt t 7 = row (seqAt t 1) 3 := Fin.ext (by
  show 8 * t.val + 7 = (2 * t.val + 1) * 4 + 3; omega)

theorem kstate7 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (r c0 : Fin 64) :
    (k0_pay338 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 h r c0) = (Cert.StepsRefIdeal.Read.val_main_v135 (F := Ideal) (Lw m c) (Kk m c) (Vv m c) (Rm m c) (Aa m c) (Sn m c) : S128x8x64x64.Idx → EReal) (ix4 (seqAt t 1) h r c0) := by
  rw [step7, eye_eq]
  refine (step_at _ _ _ _ _ _ (fun h r c0 => (Cert.StepsRefIdeal.Read.val_main_v104 (F := Ideal) (Lw m c) (Kk m c) (Vv m c) (Rm m c) (Aa m c) (Sn m c) : S128x8x64x64.Idx → EReal) (ix4 (seqAt t 1) h r c0)) (fun h c0 => Ideal.exp (Lw m c (ix3 (row (seqAt t 1) 3) h c0))) (fun h c0 => Kk m c (ix3 (row (seqAt t 1) 3) h c0)) (fun h c0 => Vv m c (ix3 (row (seqAt t 1) 3) h c0)) (fun h c0 => Rm m c (ix3 (row (seqAt t 1) 3) h c0)) (fun h c0 => Aa m c (ix3 (row (seqAt t 1) 3) h c0)) ?_ ?_ ?_ ?_ ?_ ?_ ?_ ?_ h r c0).trans (Ref.state4 (Rr m c) (Lw m c) (Kk m c) (Vv m c) (Rm m c) (Aa m c) (Gt m c) (Rk m c) (Nw m c) (Nb m c) (Sn m c) _ h r c0).symm
  · exact kstate6 m c f1 f2 f3 f4 f5 f10 t
  · intro h c0
    exact congrArg Ideal.exp ((slab7 _ h c0).trans ((lw_at m c t 7 h c0).trans (by rw [row7])))
  · intro h c0; exact (slab7 _ h c0).trans ((k_at m c t 7 h c0).trans (by rw [row7]))
  · intro h c0; exact (slab7 _ h c0).trans ((v_at m c t 7 h c0).trans (by rw [row7]))
  · intro h c0; exact (slab7 _ h c0).trans ((kk_at m c t 7 h c0).trans (by rw [row7]))
  · intro h c0; exact (slab7 _ h c0).trans ((a_at m c t 7 h c0).trans (by rw [row7]))
  · intro h r c0; exact real3 (Rr m c) (Lw m c) (Kk m c) (Vv m c) (Rm m c) (Aa m c) (Gt m c) (Rk m c) (Nw m c) (Nb m c) (Sn m c) f1 f2 f3 f4 f5 f10 _ h r c0
  · intro h c0; exact f4 _ h c0

theorem kout7 (f1 : Fin3 (Lw m c)) (f2 : Fin3 (Kk m c)) (f3 : Fin3 (Vv m c)) (f4 : Fin3 (Rm m c)) (f5 : Fin3 (Aa m c)) (f10 : Fin4 (Sn m c)) (t : Fin cfg0.N) (h : Fin 8) (c0 : Fin 64) :
    post (flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay338 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_10)))) (seq (View.ld (iblk m c 0 t) r0_10)) (seq (View.ld (iblk m c 2 t) r0_10)) (seq (View.ld (iblk m c 3 t) r0_10)) (seq (View.ld (iblk m c 6 t) r0_10)) (View.ld (iblk m c 7 t) r0_0) (k0_pay254 (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay255 (iblk m c 0 t) (iblk m c 1 t) (iblk m c 2 t) (iblk m c 3 t) (iblk m c 4 t) (iblk m c 5 t) (iblk m c 6 t) (iblk m c 7 t) (iblk m c 8 t) (iblk m c 9 t) (iblk m c 10 t)) (ix3 0 h c0)
      = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t 7) h c0) := by
  have hr : ∀ h c0, seq (View.ld (iblk m c 0 t) r0_10) (ix2 h c0) = Rr m c (ix3 (row (seqAt t 1) 3) h c0) :=
    fun h c0 => (slab7 _ h c0).trans ((r_at m c t 7 h c0).trans (by rw [row7]))
  have hk : ∀ h c0, seq (View.ld (iblk m c 2 t) r0_10) (ix2 h c0) = Kk m c (ix3 (row (seqAt t 1) 3) h c0) :=
    fun h c0 => (slab7 _ h c0).trans ((k_at m c t 7 h c0).trans (by rw [row7]))
  have hv : ∀ h c0, seq (View.ld (iblk m c 3 t) r0_10) (ix2 h c0) = Vv m c (ix3 (row (seqAt t 1) 3) h c0) :=
    fun h c0 => (slab7 _ h c0).trans ((v_at m c t 7 h c0).trans (by rw [row7]))
  have hg : ∀ h c0, seq (View.ld (iblk m c 6 t) r0_10) (ix2 h c0) = Gt m c (ix3 (row (seqAt t 1) 3) h c0) :=
    fun h c0 => (slab7 _ h c0).trans ((gate_at m c t 7 h c0).trans (by rw [row7]))
  have hy : ∀ h c0, flat (k0_pay253 (iblk m c 0 t) (iblk m c 1 t) (iblk m c 2 t) (iblk m c 3 t) (iblk m c 4 t) (iblk m c 5 t) (iblk m c 6 t) (iblk m c 7 t) (iblk m c 8 t) (iblk m c 9 t) (iblk m c 10 t)) (read (k0_pay338 (iblk m c 0 t) (iblk m c 1 t) (iblk m c 2 t) (iblk m c 3 t) (iblk m c 4 t) (iblk m c 5 t) (iblk m c 6 t) (iblk m c 7 t) (iblk m c 8 t) (iblk m c 9 t) (iblk m c 10 t)) (seq (View.ld (iblk m c 0 t) r0_10))) (ix2 h c0) = (Cert.StepsRefIdeal.Read.val_main_v142 (F := Ideal) (Rr m c) (Lw m c) (Kk m c) (Vv m c) (Rm m c) (Aa m c) (Sn m c) : Cert.StepsRefIdeal.S128x4x8x64.Idx → EReal) (ix4 (seqAt t 1) 3 h c0) := by
    intro h c0
    rw [eye_eq, flat_at, read_at]
    refine Eq.trans ?_ (Ref.pick (Rr m c) (Lw m c) (Kk m c) (Vv m c) (Rm m c) (Aa m c) (Gt m c) (Rk m c) (Nw m c) (Nb m c) (Sn m c) (seqAt t 1) 3 h c0).symm
    refine Eq.trans ?_ (Ref.read4 (Rr m c) (Lw m c) (Kk m c) (Vv m c) (Rm m c) (Aa m c) (Gt m c) (Rk m c) (Nw m c) (Nb m c) (Sn m c) (seqAt t 1) h c0).symm
    exact Finset.sum_congr rfl fun j _ => by rw [hr, kstate7 m c f1 f2 f3 f4 f5 f10 t]
  have hrk : ∀ h c0, (View.ld (iblk m c 7 t) r0_0 : Vec Ideal S8x64 .f32) (ix2 h c0) = Rk m c (ix2 h c0) := fun h c0 =>
    (congrFun (ld_whole _) _).trans (rk_at m c t h c0)
  rw [post_at, row7, Ref.out_at, lnw_whole, lnb_whole, lnw_at, lnb_at]
  simp only [hr, hk, hv, hg, hy, hrk]

theorem first3 (x : S1x8x64.Idx) : ∃ (h : Fin 8) (k : Fin 64), x = ix3 (n0 := 1) 0 h k := by
  refine ⟨x 1, x 2, ?_⟩
  funext a
  match a with
  | ⟨0, _⟩ => exact Fin.ext (by have := (x 0).isLt; change (x 0).val < 1 at this; show (x 0).val = 0; omega)
  | ⟨1, _⟩ => rfl
  | ⟨2, _⟩ => rfl

theorem first4 (x : S1x8x64x64.Idx) : ∃ (h : Fin 8) (r k : Fin 64), x = ix4 (n0 := 1) 0 h r k := by
  refine ⟨x 1, x 2, x 3, ?_⟩
  funext a
  match a with
  | ⟨0, _⟩ => exact Fin.ext (by have := (x 0).isLt; change (x 0).val < 1 at this; show (x 0).val = 0; omega)
  | ⟨1, _⟩ => rfl
  | ⟨2, _⟩ => rfl
  | ⟨3, _⟩ => rfl

/-- What the reference leaves in point `t`'s block of readings. -/
def blockOut (t : Fin cfg0.N) (y : S8x8x64.Idx) : EReal :=
  (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t ⟨(y 0).val, (y 0).isLt⟩) ⟨(y 1).val, (y 1).isLt⟩ ⟨(y 2).val, (y 2).isLt⟩)

/-- What the reference leaves in point `t`'s block of states. -/
def blockState (t : Fin cfg0.N) (y : S2x8x64x64.Idx) : EReal :=
  (Cert.StepsRefIdeal.Read.val_main_v135 (F := Ideal) (Lw m c) (Kk m c) (Vv m c) (Rm m c) (Aa m c) (Sn m c) : S128x8x64x64.Idx → EReal) (ix4 (seqAt t ⟨(y 0).val, (y 0).isLt⟩) ⟨(y 1).val, (y 1).isLt⟩ ⟨(y 2).val, (y 2).isLt⟩ ⟨(y 3).val, (y 3).isLt⟩)

theorem blockOut_at (t : Fin cfg0.N) (y : S8x8x64.Idx) (p : Fin 8) (h : Fin 8) (k : Fin 64) (e0 : (y 0).val = p.val) (e1 : (y 1).val = h.val) (e2 : (y 2).val = k.val) :
    blockOut m c t y = (Cert.StepsRefIdeal.Read.val_main_v180 (F := Ideal) (Rr m c) (Lw m c) (Kk m c) (Vv m c) (Rm m c) (Aa m c) (Gt m c) (Rk m c) (Nw m c) (Nb m c) (Sn m c) : S512x8x64.Idx → EReal) (ix3 (rowAt t p) h k) := by
  have : y = ix3 (n0 := 8) (n1 := 8) (n2 := 64) p h k := by
    funext a
    apply Fin.ext
    match a with
    | ⟨0, _⟩ => exact e0
    | ⟨1, _⟩ => exact e1
    | ⟨2, _⟩ => exact e2
  subst this
  rfl

theorem blockState_at (t : Fin cfg0.N) (y : S2x8x64x64.Idx) (b : Fin 2) (h : Fin 8) (r k : Fin 64) (e0 : (y 0).val = b.val) (e1 : (y 1).val = h.val) (e2 : (y 2).val = r.val) (e3 : (y 3).val = k.val) :
    blockState m c t y = (Cert.StepsRefIdeal.Read.val_main_v135 (F := Ideal) (Lw m c) (Kk m c) (Vv m c) (Rm m c) (Aa m c) (Sn m c) : S128x8x64x64.Idx → EReal) (ix4 (seqAt t b) h r k) := by
  have : y = ix4 (n0 := 2) (n1 := 8) (n2 := 64) (n3 := 64) b h r k := by
    funext a
    apply Fin.ext
    match a with
    | ⟨0, _⟩ => exact e0
    | ⟨1, _⟩ => exact e1
    | ⟨2, _⟩ => exact e2
    | ⟨3, _⟩ => exact e3
  subst this
  rfl

theorem out11_at (f1 : Fin3 (Lw m c)) (f2 : Fin3 (Kk m c)) (f3 : Fin3 (Vv m c)) (f4 : Fin3 (Rm m c)) (f5 : Fin3 (Aa m c)) (f10 : Fin4 (Sn m c)) (t : Fin cfg0.N) (y : S8x8x64.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y = blockOut m c t y := by
  rw [out11]
  refine View.canon_apply_of_pieces (S := S8x8x64) (e := .f32) (Val := Elt Ideal) (blockOut m c t) _ ?_ y (cover0_11 _ _ _ _ _ _ _ _ y)
  intro p hp
  simp only [List.mem_cons, List.not_mem_nil, or_false] at hp
  rcases hp with rfl | rfl | rfl | rfl | rfl | rfl | rfl | rfl
  · intro (x : S1x8x64.Idx)
    obtain ⟨h, k, rfl⟩ := first3 x
    refine (kout7 m c f1 f2 f3 f4 f5 f10 t h k).trans (blockOut_at m c t _ 7 h k rfl ?_ ?_).symm
    · show 0 + 1 * h.val = h.val; omega
    · show 0 + 1 * k.val = k.val; omega
  · intro (x : S1x8x64.Idx)
    obtain ⟨h, k, rfl⟩ := first3 x
    refine (kout6 m c f1 f2 f3 f4 f5 f10 t h k).trans (blockOut_at m c t _ 6 h k rfl ?_ ?_).symm
    · show 0 + 1 * h.val = h.val; omega
    · show 0 + 1 * k.val = k.val; omega
  · intro (x : S1x8x64.Idx)
    obtain ⟨h, k, rfl⟩ := first3 x
    refine (kout5 m c f1 f2 f3 f4 f5 f10 t h k).trans (blockOut_at m c t _ 5 h k rfl ?_ ?_).symm
    · show 0 + 1 * h.val = h.val; omega
    · show 0 + 1 * k.val = k.val; omega
  · intro (x : S1x8x64.Idx)
    obtain ⟨h, k, rfl⟩ := first3 x
    refine (kout4 m c f1 f2 f3 f4 f5 f10 t h k).trans (blockOut_at m c t _ 4 h k rfl ?_ ?_).symm
    · show 0 + 1 * h.val = h.val; omega
    · show 0 + 1 * k.val = k.val; omega
  · intro (x : S1x8x64.Idx)
    obtain ⟨h, k, rfl⟩ := first3 x
    refine (kout3 m c f1 f2 f3 f4 f5 f10 t h k).trans (blockOut_at m c t _ 3 h k rfl ?_ ?_).symm
    · show 0 + 1 * h.val = h.val; omega
    · show 0 + 1 * k.val = k.val; omega
  · intro (x : S1x8x64.Idx)
    obtain ⟨h, k, rfl⟩ := first3 x
    refine (kout2 m c f1 f2 f3 f4 f5 f10 t h k).trans (blockOut_at m c t _ 2 h k rfl ?_ ?_).symm
    · show 0 + 1 * h.val = h.val; omega
    · show 0 + 1 * k.val = k.val; omega
  · intro (x : S1x8x64.Idx)
    obtain ⟨h, k, rfl⟩ := first3 x
    refine (kout1 m c f1 f2 f3 f4 f5 f10 t h k).trans (blockOut_at m c t _ 1 h k rfl ?_ ?_).symm
    · show 0 + 1 * h.val = h.val; omega
    · show 0 + 1 * k.val = k.val; omega
  · intro (x : S1x8x64.Idx)
    obtain ⟨h, k, rfl⟩ := first3 x
    refine (kout0 m c f1 f2 f3 f4 f5 f10 t h k).trans (blockOut_at m c t _ 0 h k rfl ?_ ?_).symm
    · show 0 + 1 * h.val = h.val; omega
    · show 0 + 1 * k.val = k.val; omega

theorem out12_at (f1 : Fin3 (Lw m c)) (f2 : Fin3 (Kk m c)) (f3 : Fin3 (Vv m c)) (f4 : Fin3 (Rm m c)) (f5 : Fin3 (Aa m c)) (f10 : Fin4 (Sn m c)) (t : Fin cfg0.N) (y : S2x8x64x64.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y = blockState m c t y := by
  rw [out12]
  refine View.canon_apply_of_pieces (S := S2x8x64x64) (e := .f32) (Val := Elt Ideal) (blockState m c t) _ ?_ y (cover0_12 _ _ y)
  intro p hp
  simp only [List.mem_cons, List.not_mem_nil, or_false] at hp
  rcases hp with rfl | rfl
  · intro (x : S1x8x64x64.Idx)
    obtain ⟨h, r, k, rfl⟩ := first4 x
    refine (plane_up _ h r k).trans ((kstate7 m c f1 f2 f3 f4 f5 f10 t h r k).trans (blockState_at m c t _ 1 h r k rfl ?_ ?_ ?_).symm)
    · show 0 + 1 * h.val = h.val; omega
    · show 0 + 1 * r.val = r.val; omega
    · show 0 + 1 * k.val = k.val; omega
  · intro (x : S1x8x64x64.Idx)
    obtain ⟨h, r, k, rfl⟩ := first4 x
    refine (plane_up _ h r k).trans ((kstate3 m c f1 f2 f3 f4 f5 f10 t h r k).trans (blockState_at m c t _ 0 h r k rfl ?_ ?_ ?_).symm)
    · show 0 + 1 * h.val = h.val; omega
    · show 0 + 1 * r.val = r.val; omega
    · show 0 + 1 * k.val = k.val; omega

theorem array11_at (t : Fin cfg0.N) (p h : Fin 8) (k : Fin 64) :
    ((dats m 0 c).arrAt 11 cfg0.N : S512x8x64.Idx → EReal) (ix3 (rowAt t p) h k) = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 p h k) := by
  obtain ⟨h0, h1, h2⟩ := index11 t
  have hf : ∀ t : Fin grid0.N, win0_11.flush t = true := by decide +kernel
  have e := congrFun ((blocks11 m c t (hf t)).trans (flushed11 m c t)) (ix3 (n0 := 8) (n1 := 8) (n2 := 64) p h k)
  rw [View.read_apply] at e
  refine Eq.trans (congrArg _ ?_) e
  funext a
  apply Fin.ext
  match a with
  | ⟨0, _⟩ => show 8 * t.val + p.val = win0_11.index t 0 * 8 + 1 * p.val; rw [h0]; omega
  | ⟨1, _⟩ => show h.val = win0_11.index t 1 * 8 + 1 * h.val; rw [h1]; omega
  | ⟨2, _⟩ => show k.val = win0_11.index t 2 * 64 + 1 * k.val; rw [h2]; omega

theorem array12_at (t : Fin cfg0.N) (b : Fin 2) (h : Fin 8) (r k : Fin 64) :
    ((dats m 0 c).arrAt 12 cfg0.N : S128x8x64x64.Idx → EReal) (ix4 (seqAt t b) h r k) = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix4 b h r k) := by
  obtain ⟨h0, h1, h2, h3⟩ := index12 t
  have hf : ∀ t : Fin grid0.N, win0_12.flush t = true := by decide +kernel
  have e := congrFun ((blocks12 m c t (hf t)).trans (flushed12 m c t)) (ix4 (n0 := 2) (n1 := 8) (n2 := 64) (n3 := 64) b h r k)
  rw [View.read_apply] at e
  refine Eq.trans (congrArg _ ?_) e
  funext a
  apply Fin.ext
  match a with
  | ⟨0, _⟩ => show 2 * t.val + b.val = win0_12.index t 0 * 2 + 1 * b.val; rw [h0]; omega
  | ⟨1, _⟩ => show h.val = win0_12.index t 1 * 8 + 1 * h.val; rw [h1]; omega
  | ⟨2, _⟩ => show r.val = win0_12.index t 2 * 64 + 1 * r.val; rw [h2]; omega
  | ⟨3, _⟩ => show k.val = win0_12.index t 3 * 64 + 1 * k.val; rw [h3]; omega

theorem row_split (T : Fin 512) : ∃ (t : Fin cfg0.N) (p : Fin 8), T = rowAt t p := by
  have hN : cfg0.N = 64 := N_0
  exact ⟨⟨T.val / 8, by rw [hN]; omega⟩, ⟨T.val % 8, by omega⟩, Fin.ext (by show T.val = 8 * (T.val / 8) + T.val % 8; omega)⟩

theorem seq_split (T : Fin 128) : ∃ (t : Fin cfg0.N) (b : Fin 2), T = seqAt t b := by
  have hN : cfg0.N = 64 := N_0
  exact ⟨⟨T.val / 2, by rw [hN]; omega⟩, ⟨T.val % 2, by omega⟩, Fin.ext (by show T.val = 2 * (T.val / 2) + T.val % 2; omega)⟩

/-- The readings the call leaves are the reference's. -/
theorem out_eq (f1 : Fin3 (Lw m c)) (f2 : Fin3 (Kk m c)) (f3 : Fin3 (Vv m c)) (f4 : Fin3 (Rm m c)) (f5 : Fin3 (Aa m c)) (f10 : Fin4 (Sn m c)) : (dats m 0 c).arrAt 11 cfg0.N = (Cert.StepsRefIdeal.Read.val_main_v180 (F := Ideal) (Rr m c) (Lw m c) (Kk m c) (Vv m c) (Rm m c) (Aa m c) (Gt m c) (Rk m c) (Nw m c) (Nb m c) (Sn m c)) := by
  refine funext fun (i : S512x8x64.Idx) => ?_
  obtain ⟨T, h, k, rfl⟩ : ∃ (T : Fin 512) (h : Fin 8) (k : Fin 64), i = ix3 T h k := ⟨i 0, i 1, i 2, (ix3_eta i).symm⟩
  obtain ⟨t, p, rfl⟩ := row_split T
  exact (array11_at m c t p h k).trans ((out11_at m c f1 f2 f3 f4 f5 f10 t _).trans (blockOut_at m c t _ p h k rfl rfl rfl))

/-- The states the call leaves are the reference's. -/
theorem states_eq (f1 : Fin3 (Lw m c)) (f2 : Fin3 (Kk m c)) (f3 : Fin3 (Vv m c)) (f4 : Fin3 (Rm m c)) (f5 : Fin3 (Aa m c)) (f10 : Fin4 (Sn m c)) : (dats m 0 c).arrAt 12 cfg0.N = (Cert.StepsRefIdeal.Read.val_main_v135 (F := Ideal) (Lw m c) (Kk m c) (Vv m c) (Rm m c) (Aa m c) (Sn m c)) := by
  refine funext fun (i : S128x8x64x64.Idx) => ?_
  obtain ⟨T, h, r, k, rfl⟩ : ∃ (T : Fin 128) (h : Fin 8) (r k : Fin 64), i = ix4 T h r k := ⟨i 0, i 1, i 2, i 3, (ix4_eta i).symm⟩
  obtain ⟨t, b, rfl⟩ := seq_split T
  exact (array12_at m c t b h r k).trans ((out12_at m c f1 f2 f3 f4 f5 f10 t _).trans (blockState_at m c t _ b h r k rfl rfl rfl rfl))

/-- What the precondition's text asks of its shapes. -/
theorem pre_facts : Cert.Pre_finite_steps.Facts :=
  ⟨by decide, by decide, by decide, by decide, by decide, by decide, by decide, by decide, by decide, by decide⟩

/-- The decays, keys, values, removal keys and rates at one place of every array are finite. -/
def five (x1 x2 x3 x4 x5 : FVec Ideal S512x8x64 .f32) (y : S512x8x64.Idx) : BitVec 1 :=
  IntOp.andi (IntOp.andi (IntOp.andi (IntOp.andi (low (x1 y)) (low (x2 y))) (low (x3 y))) (low (x4 y))) (low (x5 y))
where
  /-- Absolute value below the top. -/
  low (x : EReal) : BitVec 1 := Ideal.cmp .olt (max x (-x)) (Ideal.ofBits .f32 0x7F800000#32)

theorem five_real (x1 x2 x3 x4 x5 : FVec Ideal S512x8x64 .f32) (y : S512x8x64.Idx) (h : five x1 x2 x3 x4 x5 y = 1#1) :
    (∃ r : ℝ, x1 y = r) ∧ (∃ r : ℝ, x2 y = r) ∧ (∃ r : ℝ, x3 y = r) ∧ (∃ r : ℝ, x4 y = r) ∧ (∃ r : ℝ, x5 y = r) := by
  obtain ⟨h, h5⟩ := Cert.MoeEq.and_one _ _ h
  obtain ⟨h, h4⟩ := Cert.MoeEq.and_one _ _ h
  obtain ⟨h, h3⟩ := Cert.MoeEq.and_one _ _ h
  obtain ⟨h1, h2⟩ := Cert.MoeEq.and_one _ _ h
  exact ⟨Cert.MoeEq.real_of_abs _ h1, Cert.MoeEq.real_of_abs _ h2, Cert.MoeEq.real_of_abs _ h3, Cert.MoeEq.real_of_abs _ h4, Cert.MoeEq.real_of_abs _ h5⟩

theorem pre_at [Cert.Pre_finite_steps.Facts] (x0 x1 x2 x3 x4 x5 x6 : FVec Ideal S512x8x64 .f32) (x7 : FVec Ideal S8x64 .f32) (x8 x9 : FVec Ideal S512 .f32) (x10 : FVec Ideal S128x8x64x64 .f32) (i : Fin 128) (h : Fin 8) (r k : Fin 64) :
    Cert.Pre_finite_steps.fn (F := Ideal) x0 x1 x2 x3 x4 x5 x6 x7 x8 x9 x10 (ix4 i h r k)
      = IntOp.andi (IntOp.andi (IntOp.andi (IntOp.andi (five x1 x2 x3 x4 x5 (ix3 (row i 0) h k)) (five x1 x2 x3 x4 x5 (ix3 (row i 1) h k))) (five x1 x2 x3 x4 x5 (ix3 (row i 2) h k))) (five x1 x2 x3 x4 x5 (ix3 (row i 3) h k))) (five.low (x10 (ix4 i h r k))) := by
  unfold five five.low
  pointwise [Cert.Pre_finite_steps.fn, Cert.Pre_finite_steps.fn_part1]
  rfl

/-- The precondition says that the decays, keys, values, removal keys, rates and the state are real. -/
theorem pre_real [Cert.Pre_finite_steps.Facts] (x0 x1 x2 x3 x4 x5 x6 : FVec Ideal S512x8x64 .f32) (x7 : FVec Ideal S8x64 .f32) (x8 x9 : FVec Ideal S512 .f32) (x10 : FVec Ideal S128x8x64x64 .f32)
    (hp : ∀ i, Cert.Pre_finite_steps.fn (F := Ideal) x0 x1 x2 x3 x4 x5 x6 x7 x8 x9 x10 i = 1#1) :
    Fin3 x1 ∧ Fin3 x2 ∧ Fin3 x3 ∧ Fin3 x4 ∧ Fin3 x5 ∧ Fin4 x10 := by
  have h5 : ∀ (T : Fin 512) (h : Fin 8) (k : Fin 64), five x1 x2 x3 x4 x5 (ix3 T h k) = 1#1 := by
    intro T h k
    obtain ⟨i, n, rfl⟩ : ∃ (i : Fin 128) (n : Fin 4), T = row i n :=
      ⟨⟨T.val / 4, by omega⟩, ⟨T.val % 4, by omega⟩, Fin.ext (by show T.val = T.val / 4 * 4 + T.val % 4; omega)⟩
    obtain ⟨e, _⟩ := Cert.MoeEq.and_one _ _ ((pre_at x0 x1 x2 x3 x4 x5 x6 x7 x8 x9 x10 i h 0 k).symm.trans (hp _))
    obtain ⟨e, e3⟩ := Cert.MoeEq.and_one _ _ e
    obtain ⟨e, e2⟩ := Cert.MoeEq.and_one _ _ e
    obtain ⟨e0, e1⟩ := Cert.MoeEq.and_one _ _ e
    fin_cases n
    · exact e0
    · exact e1
    · exact e2
    · exact e3
  refine ⟨fun T h k => (five_real _ _ _ _ _ _ (h5 T h k)).1, fun T h k => (five_real _ _ _ _ _ _ (h5 T h k)).2.1, fun T h k => (five_real _ _ _ _ _ _ (h5 T h k)).2.2.1,
    fun T h k => (five_real _ _ _ _ _ _ (h5 T h k)).2.2.2.1, fun T h k => (five_real _ _ _ _ _ _ (h5 T h k)).2.2.2.2, fun i h r k => ?_⟩
  exact Cert.MoeEq.real_of_abs _ (Cert.MoeEq.and_one _ _ ((pre_at x0 x1 x2 x3 x4 x5 x6 x7 x8 x9 x10 i h r k).symm.trans (hp _))).2

end Cert.StepsEq

end
-- ==== Proof.AttnMath.lean ====
/- Attention over the extended reals: a softmax over counted keys is three softmaxes put together by their normalisers. -/
module

public import proofs.«01_k».proof.Proof.MoeSpec

@[expose] public section

noncomputable section

namespace Cert.AttnMath

open Idealize.ShloMosaic

/-- The greatest of finitely many reals, started from the bottom, is real. -/
theorem greatest_real {n : ℕ} [NeZero n] (f : Fin n → EReal) (hf : ∀ i, ∃ r : ℝ, f i = r) :
    ∃ r : ℝ, (Finset.univ : Finset (Fin n)).fold max ⊥ f = r := by
  have h1 : (Finset.univ : Finset (Fin n)).fold max ⊥ f < ⊤ := by
    rw [Finset.fold_max_lt]
    exact ⟨bot_lt_top, fun i _ => by obtain ⟨r, hr⟩ := hf i; rw [hr]; exact EReal.coe_lt_top r⟩
  have h2 : ⊥ < (Finset.univ : Finset (Fin n)).fold max ⊥ f := by
    rw [Finset.lt_fold_max]
    exact Or.inr ⟨0, Finset.mem_univ _, by obtain ⟨r, hr⟩ := hf 0; rw [hr]; exact EReal.bot_lt_coe r⟩
  exact ⟨_, (EReal.coe_toReal h1.ne h2.ne').symm⟩

theorem max_real {x y : EReal} (hx : ∃ r : ℝ, x = r) (hy : ∃ r : ℝ, y = r) : ∃ r : ℝ, max x y = r := by
  obtain ⟨r, rfl⟩ := hx
  obtain ⟨s, rfl⟩ := hy
  rcases le_total r s with h | h
  · exact ⟨s, max_eq_right (by exact_mod_cast h)⟩
  · exact ⟨r, max_eq_left (by exact_mod_cast h)⟩

theorem bot_max_real {x : EReal} (hx : ∃ r : ℝ, x = r) : ∃ r : ℝ, max ⊥ x = r := by
  obtain ⟨r, rfl⟩ := hx
  exact ⟨r, max_eq_right bot_le⟩

theorem exp_sub (x m : ℝ) : Ideal.exp ((x : EReal) - (m : EReal)) = ((Real.exp (x - m) : ℝ) : EReal) := by
  rw [← EReal.coe_sub, Ideal.exp_coe]

theorem div_real (x : ℝ) {y : ℝ} (hy : y ≠ 0) : Ideal.div (x : EReal) (y : EReal) = ((x / y : ℝ) : EReal) := by
  rw [Ideal.div_coe hy, ← EReal.coe_mul]
  congr 1
  ring

theorem sum_real {ι : Type} (s : Finset ι) (f : ι → EReal) (g : ι → ℝ) (h : ∀ i, f i = (g i : EReal)) :
    ∑ i ∈ s, f i = ((∑ i ∈ s, g i : ℝ) : EReal) := by
  rw [MoeSpec.coe_sum]
  exact Finset.sum_congr rfl fun i _ => h i

/-- The total of the counted exponentials of two lists of scores. -/
def total {N M : ℕ} (cc : Fin N → ℕ) (cn : Fin M → ℕ) (a : Fin N → ℝ) (b : Fin M → ℝ) : ℝ :=
  ∑ n, (cc n : ℝ) * Real.exp (a n) + ∑ n, (cn n : ℝ) * Real.exp (b n)

/-- The softmax over two lists of counted keys, shifted by any real, is the unshifted one: a key of count nought may have any score. -/
theorem counted_softmax {N M : ℕ} (cc : Fin N → ℕ) (cn : Fin M → ℕ) (x a : Fin N → ℝ) (y b : Fin M → ℝ)
    (hx : ∀ n, cc n ≠ 0 → x n = a n) (hy : ∀ n, cn n ≠ 0 → y n = b n) (hD : total cc cn a b ≠ 0) (m : ℝ)
    (p : Fin N → EReal) (q : Fin M → EReal)
    (hp : ∀ n, p n = ((cc n : ℝ) : EReal) * Ideal.exp ((x n : EReal) - (m : EReal)))
    (hq : ∀ n, q n = ((cn n : ℝ) : EReal) * Ideal.exp ((y n : EReal) - (m : EReal))) (V : Fin N → EReal) (W : Fin M → EReal) :
    (∑ n, V n * Ideal.div (p n) (∑ n, p n + ∑ n, q n)) + ∑ n, W n * Ideal.div (q n) (∑ n, p n + ∑ n, q n)
      = (∑ n, (((cc n : ℝ) * (Real.exp (a n) / total cc cn a b) : ℝ) : EReal) * V n)
        + ∑ n, (((cn n : ℝ) * (Real.exp (b n) / total cc cn a b) : ℝ) : EReal) * W n := by
  have hp' : ∀ n, p n = (((cc n : ℝ) * Real.exp (a n) * Real.exp (-m) : ℝ) : EReal) := by
    intro n
    rw [hp, exp_sub, ← EReal.coe_mul]
    by_cases h : cc n = 0
    · rw [h]; norm_num
    · rw [hx n h, sub_eq_add_neg, Real.exp_add, mul_assoc]
  have hq' : ∀ n, q n = (((cn n : ℝ) * Real.exp (b n) * Real.exp (-m) : ℝ) : EReal) := by
    intro n
    rw [hq, exp_sub, ← EReal.coe_mul]
    by_cases h : cn n = 0
    · rw [h]; norm_num
    · rw [hy n h, sub_eq_add_neg, Real.exp_add, mul_assoc]
  have hden : ∑ n, p n + ∑ n, q n = ((total cc cn a b * Real.exp (-m) : ℝ) : EReal) := by
    rw [sum_real _ p _ hp', sum_real _ q _ hq', ← EReal.coe_add, total, add_mul, Finset.sum_mul, Finset.sum_mul]
  have hm : Real.exp (-m) ≠ 0 := (Real.exp_pos _).ne'
  have hdp : ∀ n, Ideal.div (p n) (∑ n, p n + ∑ n, q n) = (((cc n : ℝ) * (Real.exp (a n) / total cc cn a b) : ℝ) : EReal) := by
    intro n
    rw [hden, hp', div_real _ (mul_ne_zero hD hm)]
    congr 1
    field_simp
  have hdq : ∀ n, Ideal.div (q n) (∑ n, p n + ∑ n, q n) = (((cn n : ℝ) * (Real.exp (b n) / total cc cn a b) : ℝ) : EReal) := by
    intro n
    rw [hden, hq', div_real _ (mul_ne_zero hD hm)]
    congr 1
    field_simp
  simp only [hdp, hdq]
  exact congrArg₂ _ (Finset.sum_congr rfl fun n _ => mul_comm _ _) (Finset.sum_congr rfl fun n _ => mul_comm _ _)

/-- One pattern's softmax, shifted by any real, and the logarithm of its normaliser. -/
theorem pattern_softmax {J : ℕ} [NeZero J] (a : Fin J → ℝ) (m : ℝ) (e : Fin J → EReal)
    (he : ∀ j, e j = Ideal.exp ((a j : EReal) - (m : EReal))) :
    (m : EReal) + Ideal.log (∑ j, e j) = ((Real.log (∑ j, Real.exp (a j)) : ℝ) : EReal)
      ∧ ∀ j, Ideal.div (e j) (∑ j, e j) = ((Real.exp (a j) / ∑ j, Real.exp (a j) : ℝ) : EReal) := by
  have hD : 0 < ∑ j, Real.exp (a j) := Finset.sum_pos (fun j _ => Real.exp_pos _) ⟨0, Finset.mem_univ _⟩
  have he' : ∀ j, e j = ((Real.exp (a j) * Real.exp (-m) : ℝ) : EReal) := by
    intro j
    rw [he, exp_sub, sub_eq_add_neg, Real.exp_add]
  have hm := Real.exp_pos (-m)
  have hs : ∑ j, e j = (((∑ j, Real.exp (a j)) * Real.exp (-m) : ℝ) : EReal) := by
    rw [sum_real _ e _ he', Finset.sum_mul]
  refine ⟨?_, fun j => ?_⟩
  · rw [hs, Ideal.log_coe, if_neg (mul_pos hD hm).not_ge, ← EReal.coe_add, Real.log_mul hD.ne' hm.ne', Real.log_exp]
    congr 1
    ring
  · rw [hs, he', div_real _ (mul_pos hD hm).ne']
    congr 1
    field_simp

/-- Softmaxes of parts weighted by the softmax of the logarithms of their normalisers are one softmax over the whole. -/
theorem combined_softmax {P J : ℕ} [NeZero P] [NeZero J] (a : Fin P → Fin J → ℝ) (M : ℝ) (lse w out : Fin P → EReal)
    (V : Fin P → Fin J → EReal)
    (hl : ∀ p, lse p = ((Real.log (∑ j, Real.exp (a p j)) : ℝ) : EReal))
    (hw : ∀ p, w p = Ideal.exp (lse p - (M : EReal)))
    (ho : ∀ p, out p = ∑ j, ((Real.exp (a p j) / ∑ j, Real.exp (a p j) : ℝ) : EReal) * V p j) :
    ∑ p, Ideal.div (w p) (∑ p, w p) * out p
      = ∑ p, ∑ j, ((Real.exp (a p j) / ∑ p, ∑ j, Real.exp (a p j) : ℝ) : EReal) * V p j := by
  have hD : ∀ p, 0 < ∑ j, Real.exp (a p j) := fun p => Finset.sum_pos (fun j _ => Real.exp_pos _) ⟨0, Finset.mem_univ _⟩
  have hT : 0 < ∑ p, ∑ j, Real.exp (a p j) := Finset.sum_pos (fun p _ => hD p) ⟨0, Finset.mem_univ _⟩
  have hM := Real.exp_pos (-M)
  have hw' : ∀ p, w p = (((∑ j, Real.exp (a p j)) * Real.exp (-M) : ℝ) : EReal) := by
    intro p
    rw [hw, hl, exp_sub, sub_eq_add_neg, Real.exp_add, Real.exp_log (hD p)]
  have hs : ∑ p, w p = (((∑ p, ∑ j, Real.exp (a p j)) * Real.exp (-M) : ℝ) : EReal) := by
    rw [sum_real _ w _ hw', Finset.sum_mul]
  refine Finset.sum_congr rfl fun p _ => ?_
  rw [hs, hw', div_real _ (mul_pos hT hM).ne', ho,
    MoeSpec.mul_sum_real _ (div_nonneg (mul_pos (hD p) hM).le (mul_pos hT hM).le)]
  refine Finset.sum_congr rfl fun j _ => ?_
  rw [← mul_assoc, ← EReal.coe_mul]
  congr 2
  have := (hD p).ne'
  field_simp

/-- How often a key is looked at. -/
def count {P J N : ℕ} (idx : Fin P → Fin J → Fin N) (n : Fin N) : ℕ := ∑ p, ∑ j, if idx p j = n then 1 else 0

/-- A sum over the places looked at is the sum over the keys, each as often as it is looked at. -/
theorem sum_count {A : Type} [AddCommMonoid A] {P J N : ℕ} (idx : Fin P → Fin J → Fin N) (g : Fin N → A) :
    ∑ p, ∑ j, g (idx p j) = ∑ n, count idx n • g n := by
  have h : ∀ n, count idx n • g n = ∑ p, ∑ j, if idx p j = n then g n else 0 := by
    intro n
    rw [count, Finset.sum_smul]
    refine Finset.sum_congr rfl fun p _ => ?_
    rw [Finset.sum_smul]
    refine Finset.sum_congr rfl fun j _ => ?_
    split <;> simp
  calc ∑ p, ∑ j, g (idx p j) = ∑ p, ∑ j, ∑ n, (if idx p j = n then g n else 0) :=
        Finset.sum_congr rfl fun p _ => Finset.sum_congr rfl fun j _ => by simp
    _ = ∑ p, ∑ n, ∑ j, (if idx p j = n then g n else 0) := Finset.sum_congr rfl fun p _ => Finset.sum_comm
    _ = ∑ n, ∑ p, ∑ j, (if idx p j = n then g n else 0) := Finset.sum_comm
    _ = ∑ n, count idx n • g n := Finset.sum_congr rfl fun n _ => (h n).symm

/-- So many of a product are the product by so many times the nonnegative factor. -/
theorem nsmul_real (k : ℕ) {x : ℝ} (hx : 0 ≤ x) (v : EReal) : k • ((x : EReal) * v) = (((k : ℝ) * x : ℝ) : EReal) * v := by
  induction k with
  | zero => simp
  | succ k ih =>
    rw [succ_nsmul, ih, ← EReal.right_distrib_of_nonneg (by exact_mod_cast mul_nonneg k.cast_nonneg hx) (by exact_mod_cast hx), ← EReal.coe_add]
    congr 2
    push_cast
    ring

/-- The counted softmax over the keys is the one over the places looked at. -/
theorem counted_eq {P J N : ℕ} (idx : Fin P → Fin J → Fin N) (a : Fin N → ℝ) (V : Fin N → EReal) (D : ℝ) (hD : 0 < D) :
    ∑ p, ∑ j, ((Real.exp (a (idx p j)) / D : ℝ) : EReal) * V (idx p j)
      = ∑ n, (((count idx n : ℝ) * (Real.exp (a n) / D) : ℝ) : EReal) * V n := by
  rw [sum_count idx fun n => ((Real.exp (a n) / D : ℝ) : EReal) * V n]
  exact Finset.sum_congr rfl fun n _ => nsmul_real _ (div_nonneg (Real.exp_pos _).le hD.le) _

theorem counted_total {P J N : ℕ} (idx : Fin P → Fin J → Fin N) (a : Fin N → ℝ) :
    ∑ p, ∑ j, Real.exp (a (idx p j)) = ∑ n, (count idx n : ℝ) * Real.exp (a n) := by
  rw [sum_count idx fun n => Real.exp (a n)]
  exact Finset.sum_congr rfl fun n _ => nsmul_eq_mul _ _

end Cert.AttnMath

end
-- ==== Proof.AttnRef.lean ====
/- The attention call's reference: what its result holds, as one softmax over the counted keys. -/
module

public import proofs.«01_k».proof.Proof.Gen.AttnRefIdeal.Read
public import Idealize.ShloMosaic.Lib.Pointwise
public import Idealize.ShloMosaic.Lib.StableHlo.Run
public import proofs.«01_k».proof.Proof.AttnMath

@[expose] public section

set_option maxRecDepth 16384

noncomputable section

namespace Cert.AttnRef

open Cert.AttnRefIdeal Cert.AttnRefIdeal.Read Idealize.ShloMosaic Idealize.ShloMosaic.TcCoe Idealize.ShloMosaic.Tactic

/-- The distance between the keys a pattern looks at. -/
def dil (p : Fin 3) : ℕ := ![1, 4, 16] p

/-- The key a new query's pattern looks at. -/
def place (t : Fin 4) (p : Fin 3) (j : Fin 129) : Fin 2052 := ⟨2048 + t.val - dil p * j.val, by have := t.isLt; omega⟩

/-- Where a place is read from: a row of the keys, by its number. -/
theorem gathered (X : S128x2052x8x64.Idx → EReal) (I : IVec S4x129x1 32) (b : Fin 128) (t : Fin 4) (j : Fin 129) (h : Fin 8) (d : Fin 64)
    (r : Fin 2052) (hr : I (ix3 t j 0) = BitVec.ofNat 32 r.val) :
    Host.gather gather_S128x2052x8x64_S4x129x1_S128x4x129x8x64_034_1_n_n_1_2_1281864 X I (ix5 b t j h d) = X (ix4 b r h d) := by
  refine congrArg X (funext fun a => Fin.ext ?_)
  match a with
  | ⟨0, _⟩ => show 0 + 0 + b.val = b.val; omega
  | ⟨1, _⟩ =>
    have e : gather_S128x2052x8x64_S4x129x1_S128x4x129x8x64_034_1_n_n_1_2_1281864.siIdx (ix5 b t j h d) ⟨0, by decide⟩ = ix3 t j 0 := by
      funext a
      match a with
      | ⟨0, _⟩ => rfl
      | ⟨1, _⟩ => rfl
      | ⟨2, _⟩ => rfl
    show min (I (gather_S128x2052x8x64_S4x129x1_S128x4x129x8x64_034_1_n_n_1_2_1281864.siIdx (ix5 b t j h d) ⟨0, by decide⟩)).toInt.toNat (2052 - 1) + 0 + 0 = r.val
    rw [e, hr, BitVec.toInt_eq_toNat_of_lt (by rw [BitVec.toNat_ofNat]; omega), BitVec.toNat_ofNat]
    have := r.isLt
    simp only [Int.toNat_natCast]
    omega
  | ⟨2, _⟩ => show 0 + 0 + h.val = h.val; omega
  | ⟨3, _⟩ => show 0 + 0 + d.val = d.val; omega

/-- A key's score: its product with the query, scaled. -/
def score (x0 x1 : (⟨S128x4x8x64, .f32⟩ : BufTy).Contents (Elt Ideal)) (x3 : (⟨S2x128x2048x8x64, .f32⟩ : BufTy).Contents (Elt Ideal)) (b : Fin 128) (t : Fin 4) (h : Fin 8) (n : Fin 2052) : EReal :=
  (∑ d, x0 (ix4 b t h d) * (val_main_v4 (F := Ideal) x1 x3 : S128x2052x8x64.Idx → EReal) (ix4 b n h d)) * Ideal.ofBits .f32 0x3E000000#32

theorem bot_bits : Ideal.ofBits .f32 0xFF800000#32 = ⊥ := by
  simp [Ideal.ofBits, Ideal.ieee]

theorem v26_at (t : Fin 4) (j : Fin 129) : (val_main_v26 (F := Ideal) : S4x129x1.Idx → BitVec 32) (ix3 t j 0) = BitVec.ofNat 32 (place t 0 j).val := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v28, val_main_v29, val_main_v30, val_main_v31, val_main_v32, val_main_v33, val_main_c, val_main_c_0, val_main_c_1, val_main_c_2, val_main_c_3, val_main_c_4, val_main_c_5, val_main_c_6, val_main_cst, val_main_cst_7, val_main_cst_8, val_main_cst_9]
  revert t j
  decide +kernel
theorem v33_at (t : Fin 4) (j : Fin 129) : (val_main_v33 (F := Ideal) : S4x129x1.Idx → BitVec 32) (ix3 t j 0) = BitVec.ofNat 32 (place t 0 j).val := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v28, val_main_v29, val_main_v30, val_main_v31, val_main_v32, val_main_v33, val_main_c, val_main_c_0, val_main_c_1, val_main_c_2, val_main_c_3, val_main_c_4, val_main_c_5, val_main_c_6, val_main_cst, val_main_cst_7, val_main_cst_8, val_main_cst_9]
  revert t j
  decide +kernel
theorem v18_at (t : Fin 4) (j : Fin 129) : (val_main_v18 (F := Ideal) : S4x129.Idx → BitVec 1) (ix2 t j) = 1#1 := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v28, val_main_v29, val_main_v30, val_main_v31, val_main_v32, val_main_v33, val_main_c, val_main_c_0, val_main_c_1, val_main_c_2, val_main_c_3, val_main_c_4, val_main_c_5, val_main_c_6, val_main_cst, val_main_cst_7, val_main_cst_8, val_main_cst_9]
  revert t j
  decide +kernel
theorem v27_at (x1 : (⟨S128x4x8x64, .f32⟩ : BufTy).Contents (Elt Ideal)) (x3 : (⟨S2x128x2048x8x64, .f32⟩ : BufTy).Contents (Elt Ideal)) (b : Fin 128) (t : Fin 4) (j : Fin 129) (h : Fin 8) (d : Fin 64) :
    (val_main_v27 (F := Ideal) x1 x3 : S128x4x129x8x64.Idx → EReal) (ix5 b t j h d) = (val_main_v4 (F := Ideal) x1 x3 : S128x2052x8x64.Idx → EReal) (ix4 b (place t 0 j) h d) :=
  gathered _ _ b t j h d _ (v26_at t j)
theorem v34_at (x2 : (⟨S128x4x8x64, .f32⟩ : BufTy).Contents (Elt Ideal)) (x4 : (⟨S2x128x2048x8x64, .f32⟩ : BufTy).Contents (Elt Ideal)) (b : Fin 128) (t : Fin 4) (j : Fin 129) (h : Fin 8) (d : Fin 64) :
    (val_main_v34 (F := Ideal) x2 x4 : S128x4x129x8x64.Idx → EReal) (ix5 b t j h d) = (val_main_v5 (F := Ideal) x2 x4 : S128x2052x8x64.Idx → EReal) (ix4 b (place t 0 j) h d) :=
  gathered _ _ b t j h d _ (v33_at t j)
theorem v39_at (x0 x1 : (⟨S128x4x8x64, .f32⟩ : BufTy).Contents (Elt Ideal)) (x3 : (⟨S2x128x2048x8x64, .f32⟩ : BufTy).Contents (Elt Ideal)) (b : Fin 128) (t : Fin 4) (h : Fin 8) (j : Fin 129) :
    (val_main_v39 (F := Ideal) x0 x1 x3 : S128x8x4x129.Idx → EReal) (ix4 b h t j) = score x0 x1 x3 b t h (place t 0 j) := by
  pointwise [val_main_v35, val_main_v36, val_main_v37, val_main_v38, val_main_v39, val_main_call0_v0, val_main_call0_v1, val_main_call0_v2, val_main_c, val_main_c_0, val_main_c_1, val_main_c_2, val_main_c_3, val_main_c_4, val_main_c_5, val_main_c_6, val_main_cst, val_main_cst_7, val_main_cst_8, val_main_cst_9]
  rw [v18_at]
  simp only [v27_at]
  rfl
theorem v40_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v40 (F := Ideal) x0 x1 x3 : S128x8x4.Idx → EReal) (ix3 b h t) = Finset.univ.fold max ⊥ fun j => score x0 x1 x3 b t h (place t 0 j) := by
  rw [← bot_bits]
  pointwise [val_main_v40, val_main_c, val_main_c_0, val_main_c_1, val_main_c_2, val_main_c_3, val_main_c_4, val_main_c_5, val_main_c_6, val_main_cst, val_main_cst_7, val_main_cst_8, val_main_cst_9]
  simp only [v39_at]
theorem v44_at (x0 x1 : (⟨S128x4x8x64, .f32⟩ : BufTy).Contents (Elt Ideal)) (x3 : (⟨S2x128x2048x8x64, .f32⟩ : BufTy).Contents (Elt Ideal)) (b : Fin 128) (t : Fin 4) (h : Fin 8) (j : Fin 129) :
    (val_main_v44 (F := Ideal) x0 x1 x3 : S128x8x4x129.Idx → EReal) (ix4 b h t j)
      = Ideal.exp (score x0 x1 x3 b t h (place t 0 j) - (val_main_v40 (F := Ideal) x0 x1 x3 : S128x8x4.Idx → EReal) (ix3 b h t)) := by
  pointwise [val_main_v41, val_main_v42, val_main_v43, val_main_v44]
  rw [v39_at]
theorem v49_at (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (d : Fin 64) :
    (val_main_v49 (F := Ideal) x0 x1 x2 x3 x4 : S128x4x8x64.Idx → EReal) (ix4 b t h d)
      = ∑ j, Ideal.div ((val_main_v44 (F := Ideal) x0 x1 x3 : S128x8x4x129.Idx → EReal) (ix4 b h t j)) (∑ j, (val_main_v44 (F := Ideal) x0 x1 x3 : S128x8x4x129.Idx → EReal) (ix4 b h t j))
          * (val_main_v5 (F := Ideal) x2 x4 : S128x2052x8x64.Idx → EReal) (ix4 b (place t 0 j) h d) := by
  pointwise [val_main_v45, val_main_v46, val_main_v47, val_main_v48, val_main_v49, val_main_c, val_main_c_0, val_main_c_1, val_main_c_2, val_main_c_3, val_main_c_4, val_main_c_5, val_main_c_6, val_main_cst, val_main_cst_7, val_main_cst_8, val_main_cst_9]
  simp only [v34_at]
theorem v52_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v52 (F := Ideal) x0 x1 x3 : S128x8x4.Idx → EReal) (ix3 b h t)
      = (val_main_v40 (F := Ideal) x0 x1 x3 : S128x8x4.Idx → EReal) (ix3 b h t) + Ideal.log (∑ j, (val_main_v44 (F := Ideal) x0 x1 x3 : S128x8x4x129.Idx → EReal) (ix4 b h t j)) := by
  pointwise [val_main_v41, val_main_v45, val_main_v46, val_main_v50, val_main_v51, val_main_v52, val_main_c, val_main_c_0, val_main_c_1, val_main_c_2, val_main_c_3, val_main_c_4, val_main_c_5, val_main_c_6, val_main_cst, val_main_cst_7, val_main_cst_8, val_main_cst_9]

/-- The pattern's result and the logarithm of its normaliser. -/
theorem pattern0 (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (a : Fin 2052 → ℝ) (ha : ∀ n, score x0 x1 x3 b t h n = a n) :
    (val_main_v52 (F := Ideal) x0 x1 x3 : S128x8x4.Idx → EReal) (ix3 b h t) = ((Real.log (∑ j, Real.exp (a (place t 0 j))) : ℝ) : EReal)
      ∧ ∀ d, (val_main_v49 (F := Ideal) x0 x1 x2 x3 x4 : S128x4x8x64.Idx → EReal) (ix4 b t h d)
        = ∑ j, ((Real.exp (a (place t 0 j)) / ∑ j, Real.exp (a (place t 0 j)) : ℝ) : EReal) * (val_main_v5 (F := Ideal) x2 x4 : S128x2052x8x64.Idx → EReal) (ix4 b (place t 0 j) h d) := by
  obtain ⟨g, hg⟩ := AttnMath.greatest_real (fun j : Fin 129 => score x0 x1 x3 b t h (place t 0 j)) fun j => ⟨_, ha _⟩
  obtain ⟨h1, h2⟩ := AttnMath.pattern_softmax (fun j => a (place t 0 j)) g (fun j => (val_main_v44 (F := Ideal) x0 x1 x3 : S128x8x4x129.Idx → EReal) (ix4 b h t j))
    fun j => by rw [v44_at, v40_at, hg, ha]
  refine ⟨?_, fun d => ?_⟩
  · rw [v52_at, v40_at, hg]
    exact h1
  · rw [v49_at]
    exact Finset.sum_congr rfl fun j _ => by rw [← h2 j]

theorem v70_at (t : Fin 4) (j : Fin 129) : (val_main_v70 (F := Ideal) : S4x129x1.Idx → BitVec 32) (ix3 t j 0) = BitVec.ofNat 32 (place t 1 j).val := by
  pointwise [val_main_v6, val_main_v7, val_main_v8, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v72, val_main_v73, val_main_v74, val_main_v75, val_main_v76, val_main_v77, val_main_c, val_main_c_10, val_main_c_11, val_main_c_12, val_main_c_13, val_main_c_14, val_main_c_15, val_main_c_16, val_main_cst_17, val_main_cst_18, val_main_cst_19, val_main_cst_20]
  revert t j
  decide +kernel
theorem v77_at (t : Fin 4) (j : Fin 129) : (val_main_v77 (F := Ideal) : S4x129x1.Idx → BitVec 32) (ix3 t j 0) = BitVec.ofNat 32 (place t 1 j).val := by
  pointwise [val_main_v6, val_main_v7, val_main_v8, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v72, val_main_v73, val_main_v74, val_main_v75, val_main_v76, val_main_v77, val_main_c, val_main_c_10, val_main_c_11, val_main_c_12, val_main_c_13, val_main_c_14, val_main_c_15, val_main_c_16, val_main_cst_17, val_main_cst_18, val_main_cst_19, val_main_cst_20]
  revert t j
  decide +kernel
theorem v62_at (t : Fin 4) (j : Fin 129) : (val_main_v62 (F := Ideal) : S4x129.Idx → BitVec 1) (ix2 t j) = 1#1 := by
  pointwise [val_main_v6, val_main_v7, val_main_v8, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v72, val_main_v73, val_main_v74, val_main_v75, val_main_v76, val_main_v77, val_main_c, val_main_c_10, val_main_c_11, val_main_c_12, val_main_c_13, val_main_c_14, val_main_c_15, val_main_c_16, val_main_cst_17, val_main_cst_18, val_main_cst_19, val_main_cst_20]
  revert t j
  decide +kernel
theorem v71_at (x1 : (⟨S128x4x8x64, .f32⟩ : BufTy).Contents (Elt Ideal)) (x3 : (⟨S2x128x2048x8x64, .f32⟩ : BufTy).Contents (Elt Ideal)) (b : Fin 128) (t : Fin 4) (j : Fin 129) (h : Fin 8) (d : Fin 64) :
    (val_main_v71 (F := Ideal) x1 x3 : S128x4x129x8x64.Idx → EReal) (ix5 b t j h d) = (val_main_v4 (F := Ideal) x1 x3 : S128x2052x8x64.Idx → EReal) (ix4 b (place t 1 j) h d) :=
  gathered _ _ b t j h d _ (v70_at t j)
theorem v78_at (x2 : (⟨S128x4x8x64, .f32⟩ : BufTy).Contents (Elt Ideal)) (x4 : (⟨S2x128x2048x8x64, .f32⟩ : BufTy).Contents (Elt Ideal)) (b : Fin 128) (t : Fin 4) (j : Fin 129) (h : Fin 8) (d : Fin 64) :
    (val_main_v78 (F := Ideal) x2 x4 : S128x4x129x8x64.Idx → EReal) (ix5 b t j h d) = (val_main_v5 (F := Ideal) x2 x4 : S128x2052x8x64.Idx → EReal) (ix4 b (place t 1 j) h d) :=
  gathered _ _ b t j h d _ (v77_at t j)
theorem v83_at (x0 x1 : (⟨S128x4x8x64, .f32⟩ : BufTy).Contents (Elt Ideal)) (x3 : (⟨S2x128x2048x8x64, .f32⟩ : BufTy).Contents (Elt Ideal)) (b : Fin 128) (t : Fin 4) (h : Fin 8) (j : Fin 129) :
    (val_main_v83 (F := Ideal) x0 x1 x3 : S128x8x4x129.Idx → EReal) (ix4 b h t j) = score x0 x1 x3 b t h (place t 1 j) := by
  pointwise [val_main_v79, val_main_v80, val_main_v81, val_main_v82, val_main_v83, val_main_call1_v0, val_main_call1_v1, val_main_call1_v2, val_main_c, val_main_c_10, val_main_c_11, val_main_c_12, val_main_c_13, val_main_c_14, val_main_c_15, val_main_c_16, val_main_cst_17, val_main_cst_18, val_main_cst_19, val_main_cst_20]
  rw [v62_at]
  simp only [v71_at]
  rfl
theorem v84_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v84 (F := Ideal) x0 x1 x3 : S128x8x4.Idx → EReal) (ix3 b h t) = Finset.univ.fold max ⊥ fun j => score x0 x1 x3 b t h (place t 1 j) := by
  rw [← bot_bits]
  pointwise [val_main_v84, val_main_c, val_main_c_10, val_main_c_11, val_main_c_12, val_main_c_13, val_main_c_14, val_main_c_15, val_main_c_16, val_main_cst_17, val_main_cst_18, val_main_cst_19, val_main_cst_20]
  simp only [v83_at]
theorem v88_at (x0 x1 : (⟨S128x4x8x64, .f32⟩ : BufTy).Contents (Elt Ideal)) (x3 : (⟨S2x128x2048x8x64, .f32⟩ : BufTy).Contents (Elt Ideal)) (b : Fin 128) (t : Fin 4) (h : Fin 8) (j : Fin 129) :
    (val_main_v88 (F := Ideal) x0 x1 x3 : S128x8x4x129.Idx → EReal) (ix4 b h t j)
      = Ideal.exp (score x0 x1 x3 b t h (place t 1 j) - (val_main_v84 (F := Ideal) x0 x1 x3 : S128x8x4.Idx → EReal) (ix3 b h t)) := by
  pointwise [val_main_v85, val_main_v86, val_main_v87, val_main_v88]
  rw [v83_at]
theorem v93_at (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (d : Fin 64) :
    (val_main_v93 (F := Ideal) x0 x1 x2 x3 x4 : S128x4x8x64.Idx → EReal) (ix4 b t h d)
      = ∑ j, Ideal.div ((val_main_v88 (F := Ideal) x0 x1 x3 : S128x8x4x129.Idx → EReal) (ix4 b h t j)) (∑ j, (val_main_v88 (F := Ideal) x0 x1 x3 : S128x8x4x129.Idx → EReal) (ix4 b h t j))
          * (val_main_v5 (F := Ideal) x2 x4 : S128x2052x8x64.Idx → EReal) (ix4 b (place t 1 j) h d) := by
  pointwise [val_main_v89, val_main_v90, val_main_v91, val_main_v92, val_main_v93, val_main_c, val_main_c_10, val_main_c_11, val_main_c_12, val_main_c_13, val_main_c_14, val_main_c_15, val_main_c_16, val_main_cst_17, val_main_cst_18, val_main_cst_19, val_main_cst_20]
  simp only [v78_at]
theorem v96_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v96 (F := Ideal) x0 x1 x3 : S128x8x4.Idx → EReal) (ix3 b h t)
      = (val_main_v84 (F := Ideal) x0 x1 x3 : S128x8x4.Idx → EReal) (ix3 b h t) + Ideal.log (∑ j, (val_main_v88 (F := Ideal) x0 x1 x3 : S128x8x4x129.Idx → EReal) (ix4 b h t j)) := by
  pointwise [val_main_v85, val_main_v89, val_main_v90, val_main_v94, val_main_v95, val_main_v96, val_main_c, val_main_c_10, val_main_c_11, val_main_c_12, val_main_c_13, val_main_c_14, val_main_c_15, val_main_c_16, val_main_cst_17, val_main_cst_18, val_main_cst_19, val_main_cst_20]

/-- The pattern's result and the logarithm of its normaliser. -/
theorem pattern1 (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (a : Fin 2052 → ℝ) (ha : ∀ n, score x0 x1 x3 b t h n = a n) :
    (val_main_v96 (F := Ideal) x0 x1 x3 : S128x8x4.Idx → EReal) (ix3 b h t) = ((Real.log (∑ j, Real.exp (a (place t 1 j))) : ℝ) : EReal)
      ∧ ∀ d, (val_main_v93 (F := Ideal) x0 x1 x2 x3 x4 : S128x4x8x64.Idx → EReal) (ix4 b t h d)
        = ∑ j, ((Real.exp (a (place t 1 j)) / ∑ j, Real.exp (a (place t 1 j)) : ℝ) : EReal) * (val_main_v5 (F := Ideal) x2 x4 : S128x2052x8x64.Idx → EReal) (ix4 b (place t 1 j) h d) := by
  obtain ⟨g, hg⟩ := AttnMath.greatest_real (fun j : Fin 129 => score x0 x1 x3 b t h (place t 1 j)) fun j => ⟨_, ha _⟩
  obtain ⟨h1, h2⟩ := AttnMath.pattern_softmax (fun j => a (place t 1 j)) g (fun j => (val_main_v88 (F := Ideal) x0 x1 x3 : S128x8x4x129.Idx → EReal) (ix4 b h t j))
    fun j => by rw [v88_at, v84_at, hg, ha]
  refine ⟨?_, fun d => ?_⟩
  · rw [v96_at, v84_at, hg]
    exact h1
  · rw [v93_at]
    exact Finset.sum_congr rfl fun j _ => by rw [← h2 j]

theorem v114_at (t : Fin 4) (j : Fin 129) : (val_main_v114 (F := Ideal) : S4x129x1.Idx → BitVec 32) (ix3 t j 0) = BitVec.ofNat 32 (place t 2 j).val := by
  pointwise [val_main_v6, val_main_v7, val_main_v8, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v116, val_main_v117, val_main_v118, val_main_v119, val_main_v120, val_main_v121, val_main_c, val_main_c_21, val_main_c_22, val_main_c_23, val_main_c_24, val_main_c_25, val_main_c_26, val_main_c_27, val_main_cst_28, val_main_cst_29, val_main_cst_30, val_main_cst_31]
  revert t j
  decide +kernel
theorem v121_at (t : Fin 4) (j : Fin 129) : (val_main_v121 (F := Ideal) : S4x129x1.Idx → BitVec 32) (ix3 t j 0) = BitVec.ofNat 32 (place t 2 j).val := by
  pointwise [val_main_v6, val_main_v7, val_main_v8, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v116, val_main_v117, val_main_v118, val_main_v119, val_main_v120, val_main_v121, val_main_c, val_main_c_21, val_main_c_22, val_main_c_23, val_main_c_24, val_main_c_25, val_main_c_26, val_main_c_27, val_main_cst_28, val_main_cst_29, val_main_cst_30, val_main_cst_31]
  revert t j
  decide +kernel
theorem v106_at (t : Fin 4) (j : Fin 129) : (val_main_v106 (F := Ideal) : S4x129.Idx → BitVec 1) (ix2 t j) = 1#1 := by
  pointwise [val_main_v6, val_main_v7, val_main_v8, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v116, val_main_v117, val_main_v118, val_main_v119, val_main_v120, val_main_v121, val_main_c, val_main_c_21, val_main_c_22, val_main_c_23, val_main_c_24, val_main_c_25, val_main_c_26, val_main_c_27, val_main_cst_28, val_main_cst_29, val_main_cst_30, val_main_cst_31]
  revert t j
  decide +kernel
theorem v115_at (x1 : (⟨S128x4x8x64, .f32⟩ : BufTy).Contents (Elt Ideal)) (x3 : (⟨S2x128x2048x8x64, .f32⟩ : BufTy).Contents (Elt Ideal)) (b : Fin 128) (t : Fin 4) (j : Fin 129) (h : Fin 8) (d : Fin 64) :
    (val_main_v115 (F := Ideal) x1 x3 : S128x4x129x8x64.Idx → EReal) (ix5 b t j h d) = (val_main_v4 (F := Ideal) x1 x3 : S128x2052x8x64.Idx → EReal) (ix4 b (place t 2 j) h d) :=
  gathered _ _ b t j h d _ (v114_at t j)
theorem v122_at (x2 : (⟨S128x4x8x64, .f32⟩ : BufTy).Contents (Elt Ideal)) (x4 : (⟨S2x128x2048x8x64, .f32⟩ : BufTy).Contents (Elt Ideal)) (b : Fin 128) (t : Fin 4) (j : Fin 129) (h : Fin 8) (d : Fin 64) :
    (val_main_v122 (F := Ideal) x2 x4 : S128x4x129x8x64.Idx → EReal) (ix5 b t j h d) = (val_main_v5 (F := Ideal) x2 x4 : S128x2052x8x64.Idx → EReal) (ix4 b (place t 2 j) h d) :=
  gathered _ _ b t j h d _ (v121_at t j)
theorem v127_at (x0 x1 : (⟨S128x4x8x64, .f32⟩ : BufTy).Contents (Elt Ideal)) (x3 : (⟨S2x128x2048x8x64, .f32⟩ : BufTy).Contents (Elt Ideal)) (b : Fin 128) (t : Fin 4) (h : Fin 8) (j : Fin 129) :
    (val_main_v127 (F := Ideal) x0 x1 x3 : S128x8x4x129.Idx → EReal) (ix4 b h t j) = score x0 x1 x3 b t h (place t 2 j) := by
  pointwise [val_main_v123, val_main_v124, val_main_v125, val_main_v126, val_main_v127, val_main_call2_v0, val_main_call2_v1, val_main_call2_v2, val_main_c, val_main_c_21, val_main_c_22, val_main_c_23, val_main_c_24, val_main_c_25, val_main_c_26, val_main_c_27, val_main_cst_28, val_main_cst_29, val_main_cst_30, val_main_cst_31]
  rw [v106_at]
  simp only [v115_at]
  rfl
theorem v128_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v128 (F := Ideal) x0 x1 x3 : S128x8x4.Idx → EReal) (ix3 b h t) = Finset.univ.fold max ⊥ fun j => score x0 x1 x3 b t h (place t 2 j) := by
  rw [← bot_bits]
  pointwise [val_main_v128, val_main_c, val_main_c_21, val_main_c_22, val_main_c_23, val_main_c_24, val_main_c_25, val_main_c_26, val_main_c_27, val_main_cst_28, val_main_cst_29, val_main_cst_30, val_main_cst_31]
  simp only [v127_at]
theorem v132_at (x0 x1 : (⟨S128x4x8x64, .f32⟩ : BufTy).Contents (Elt Ideal)) (x3 : (⟨S2x128x2048x8x64, .f32⟩ : BufTy).Contents (Elt Ideal)) (b : Fin 128) (t : Fin 4) (h : Fin 8) (j : Fin 129) :
    (val_main_v132 (F := Ideal) x0 x1 x3 : S128x8x4x129.Idx → EReal) (ix4 b h t j)
      = Ideal.exp (score x0 x1 x3 b t h (place t 2 j) - (val_main_v128 (F := Ideal) x0 x1 x3 : S128x8x4.Idx → EReal) (ix3 b h t)) := by
  pointwise [val_main_v129, val_main_v130, val_main_v131, val_main_v132]
  rw [v127_at]
theorem v137_at (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (d : Fin 64) :
    (val_main_v137 (F := Ideal) x0 x1 x2 x3 x4 : S128x4x8x64.Idx → EReal) (ix4 b t h d)
      = ∑ j, Ideal.div ((val_main_v132 (F := Ideal) x0 x1 x3 : S128x8x4x129.Idx → EReal) (ix4 b h t j)) (∑ j, (val_main_v132 (F := Ideal) x0 x1 x3 : S128x8x4x129.Idx → EReal) (ix4 b h t j))
          * (val_main_v5 (F := Ideal) x2 x4 : S128x2052x8x64.Idx → EReal) (ix4 b (place t 2 j) h d) := by
  pointwise [val_main_v133, val_main_v134, val_main_v135, val_main_v136, val_main_v137, val_main_c, val_main_c_21, val_main_c_22, val_main_c_23, val_main_c_24, val_main_c_25, val_main_c_26, val_main_c_27, val_main_cst_28, val_main_cst_29, val_main_cst_30, val_main_cst_31]
  simp only [v122_at]
theorem v140_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v140 (F := Ideal) x0 x1 x3 : S128x8x4.Idx → EReal) (ix3 b h t)
      = (val_main_v128 (F := Ideal) x0 x1 x3 : S128x8x4.Idx → EReal) (ix3 b h t) + Ideal.log (∑ j, (val_main_v132 (F := Ideal) x0 x1 x3 : S128x8x4x129.Idx → EReal) (ix4 b h t j)) := by
  pointwise [val_main_v129, val_main_v133, val_main_v134, val_main_v138, val_main_v139, val_main_v140, val_main_c, val_main_c_21, val_main_c_22, val_main_c_23, val_main_c_24, val_main_c_25, val_main_c_26, val_main_c_27, val_main_cst_28, val_main_cst_29, val_main_cst_30, val_main_cst_31]

/-- The pattern's result and the logarithm of its normaliser. -/
theorem pattern2 (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (a : Fin 2052 → ℝ) (ha : ∀ n, score x0 x1 x3 b t h n = a n) :
    (val_main_v140 (F := Ideal) x0 x1 x3 : S128x8x4.Idx → EReal) (ix3 b h t) = ((Real.log (∑ j, Real.exp (a (place t 2 j))) : ℝ) : EReal)
      ∧ ∀ d, (val_main_v137 (F := Ideal) x0 x1 x2 x3 x4 : S128x4x8x64.Idx → EReal) (ix4 b t h d)
        = ∑ j, ((Real.exp (a (place t 2 j)) / ∑ j, Real.exp (a (place t 2 j)) : ℝ) : EReal) * (val_main_v5 (F := Ideal) x2 x4 : S128x2052x8x64.Idx → EReal) (ix4 b (place t 2 j) h d) := by
  obtain ⟨g, hg⟩ := AttnMath.greatest_real (fun j : Fin 129 => score x0 x1 x3 b t h (place t 2 j)) fun j => ⟨_, ha _⟩
  obtain ⟨h1, h2⟩ := AttnMath.pattern_softmax (fun j => a (place t 2 j)) g (fun j => (val_main_v132 (F := Ideal) x0 x1 x3 : S128x8x4x129.Idx → EReal) (ix4 b h t j))
    fun j => by rw [v132_at, v128_at, hg, ha]
  refine ⟨?_, fun d => ?_⟩
  · rw [v140_at, v128_at, hg]
    exact h1
  · rw [v137_at]
    exact Finset.sum_congr rfl fun j _ => by rw [← h2 j]

theorem v144_at (x0 x1 : (⟨S128x4x8x64, .f32⟩ : BufTy).Contents (Elt Ideal)) (x3 : (⟨S2x128x2048x8x64, .f32⟩ : BufTy).Contents (Elt Ideal)) (b : Fin 128) (t : Fin 4) (h : Fin 8) (p : Fin 3) :
    (val_main_v144 (F := Ideal) x0 x1 x3 : S3x128x8x4.Idx → EReal) (ix4 p b h t)
      = ![(val_main_v52 (F := Ideal) x0 x1 x3 : S128x8x4.Idx → EReal) (ix3 b h t), (val_main_v96 (F := Ideal) x0 x1 x3 : S128x8x4.Idx → EReal) (ix3 b h t), (val_main_v140 (F := Ideal) x0 x1 x3 : S128x8x4.Idx → EReal) (ix3 b h t)] p := by
  fin_cases p
  · pointwise [val_main_v144, val_main_v141]
  · pointwise [val_main_v144, val_main_v142]
  · pointwise [val_main_v144, val_main_v143]
theorem v159_at (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (d : Fin 64) (p : Fin 3) :
    (val_main_v159 (F := Ideal) x0 x1 x2 x3 x4 : S3x128x4x8x64.Idx → EReal) (ix5 p b t h d)
      = ![(val_main_v49 (F := Ideal) x0 x1 x2 x3 x4 : S128x4x8x64.Idx → EReal) (ix4 b t h d), (val_main_v93 (F := Ideal) x0 x1 x2 x3 x4 : S128x4x8x64.Idx → EReal) (ix4 b t h d), (val_main_v137 (F := Ideal) x0 x1 x2 x3 x4 : S128x4x8x64.Idx → EReal) (ix4 b t h d)] p := by
  fin_cases p
  · pointwise [val_main_v159, val_main_v156]
  · pointwise [val_main_v159, val_main_v157]
  · pointwise [val_main_v159, val_main_v158]
theorem v145_at (x0 x1 : (⟨S128x4x8x64, .f32⟩ : BufTy).Contents (Elt Ideal)) (x3 : (⟨S2x128x2048x8x64, .f32⟩ : BufTy).Contents (Elt Ideal)) (b : Fin 128) (t : Fin 4) (h : Fin 8) :
    (val_main_v145 (F := Ideal) x0 x1 x3 : S128x8x4.Idx → EReal) (ix3 b h t) = Finset.univ.fold max ⊥ fun p => (val_main_v144 (F := Ideal) x0 x1 x3 : S3x128x8x4.Idx → EReal) (ix4 p b h t) := by
  rw [← bot_bits]
  pointwise [val_main_v145, val_main_cst_32]
theorem v151_at (x0 x1 : (⟨S128x4x8x64, .f32⟩ : BufTy).Contents (Elt Ideal)) (x3 : (⟨S2x128x2048x8x64, .f32⟩ : BufTy).Contents (Elt Ideal)) (b : Fin 128) (t : Fin 4) (h : Fin 8) (p : Fin 3) :
    (val_main_v151 (F := Ideal) x0 x1 x3 : S3x128x8x4.Idx → EReal) (ix4 p b h t)
      = Ideal.exp ((val_main_v144 (F := Ideal) x0 x1 x3 : S3x128x8x4.Idx → EReal) (ix4 p b h t) - max ⊥ ((val_main_v145 (F := Ideal) x0 x1 x3 : S128x8x4.Idx → EReal) (ix3 b h t))) := by
  rw [← bot_bits]
  pointwise [val_main_v146, val_main_v147, val_main_v148, val_main_v149, val_main_v150, val_main_v151, val_main_cst_33]
theorem v161_at (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (d : Fin 64) :
    (val_main_v161 (F := Ideal) x0 x1 x2 x3 x4 : S128x4x8x64x1.Idx → EReal) (ix5 b t h d 0)
      = ∑ p, Ideal.div ((val_main_v151 (F := Ideal) x0 x1 x3 : S3x128x8x4.Idx → EReal) (ix4 p b h t)) (∑ p, (val_main_v151 (F := Ideal) x0 x1 x3 : S3x128x8x4.Idx → EReal) (ix4 p b h t))
          * (val_main_v159 (F := Ideal) x0 x1 x2 x3 x4 : S3x128x4x8x64.Idx → EReal) (ix5 p b t h d) := by
  pointwise [val_main_v152, val_main_v153, val_main_v154, val_main_v155, val_main_v160, val_main_v161, val_main_cst_34]

/-- The reference's result: each key as often as the three patterns look at it, by its exponential over the total. -/
theorem result_at (x0 x1 x2 : (⟨S128x4x8x64, .f32⟩ : BufTy).Contents (Elt Ideal)) (x3 x4 : (⟨S2x128x2048x8x64, .f32⟩ : BufTy).Contents (Elt Ideal)) (b : Fin 128) (t : Fin 4) (h : Fin 8) (d : Fin 64) (a : Fin 2052 → ℝ) (ha : ∀ n, score x0 x1 x3 b t h n = a n) :
    (val_main_v161 (F := Ideal) x0 x1 x2 x3 x4 : S128x4x8x64x1.Idx → EReal) (ix5 b t h d 0)
      = ∑ n, (((AttnMath.count (place t) n : ℝ) * (Real.exp (a n) / ∑ n, (AttnMath.count (place t) n : ℝ) * Real.exp (a n)) : ℝ) : EReal)
          * (val_main_v5 (F := Ideal) x2 x4 : S128x2052x8x64.Idx → EReal) (ix4 b n h d) := by
  obtain ⟨l0, o0⟩ := pattern0 x0 x1 x2 x3 x4 b t h a ha
  obtain ⟨l1, o1⟩ := pattern1 x0 x1 x2 x3 x4 b t h a ha
  obtain ⟨l2, o2⟩ := pattern2 x0 x1 x2 x3 x4 b t h a ha
  have hl : ∀ p, (val_main_v144 (F := Ideal) x0 x1 x3 : S3x128x8x4.Idx → EReal) (ix4 p b h t) = ((Real.log (∑ j, Real.exp (a (place t p j))) : ℝ) : EReal) := by
    intro p
    rw [v144_at]
    fin_cases p
    · exact l0
    · exact l1
    · exact l2
  have ho : ∀ p, (val_main_v159 (F := Ideal) x0 x1 x2 x3 x4 : S3x128x4x8x64.Idx → EReal) (ix5 p b t h d)
      = ∑ j, ((Real.exp (a (place t p j)) / ∑ j, Real.exp (a (place t p j)) : ℝ) : EReal) * (val_main_v5 (F := Ideal) x2 x4 : S128x2052x8x64.Idx → EReal) (ix4 b (place t p j) h d) := by
    intro p
    rw [v159_at]
    fin_cases p
    · exact o0 d
    · exact o1 d
    · exact o2 d
  obtain ⟨g, hg⟩ := AttnMath.bot_max_real (AttnMath.greatest_real (fun p : Fin 3 => (val_main_v144 (F := Ideal) x0 x1 x3 : S3x128x8x4.Idx → EReal) (ix4 p b h t)) fun p => ⟨_, hl p⟩)
  rw [v161_at]
  refine (AttnMath.combined_softmax (fun p j => a (place t p j)) g _ _ _ (fun p j => (val_main_v5 (F := Ideal) x2 x4 : S128x2052x8x64.Idx → EReal) (ix4 b (place t p j) h d))
    hl (fun p => by rw [v151_at, v145_at, hg]) ho).trans ?_
  rw [AttnMath.counted_total (place t) a]
  refine AttnMath.counted_eq (place t) a (fun n => (val_main_v5 (F := Ideal) x2 x4 : S128x2052x8x64.Idx → EReal) (ix4 b n h d)) _ ?_
  rw [← AttnMath.counted_total (place t) a]
  exact Finset.sum_pos (fun p _ => Finset.sum_pos (fun j _ => Real.exp_pos _) ⟨0, Finset.mem_univ _⟩) ⟨0, Finset.mem_univ _⟩

end Cert.AttnRef

end
-- ==== Proof.AttnTable.lean ====
/- The counts the attention call is given as constants: how often each key, so far back, is looked at by the three patterns. -/
module

public import proofs.«01_k».proof.AttnIdeal

@[expose] public section

set_option maxRecDepth 16384

namespace Cert.AttnTable

open Cert.AttnIdeal Idealize.ShloMosaic

/-- How often a key so far back is looked at. -/
def times (δ : ℕ) : ℕ :=
  (if δ ≤ 128 then 1 else 0) + (if δ % 4 = 0 ∧ δ / 4 ≤ 128 then 1 else 0) + (if δ % 16 = 0 ∧ δ / 16 ≤ 128 then 1 else 0)

/-- The bits of a small count. -/
def bitsOf : ℕ → BitVec 32
  | 0 => 0x00000000#32
  | 1 => 0x3F800000#32
  | 2 => 0x40000000#32
  | _ => 0x40400000#32

/-- The table of the cached keys' counts. -/
theorem lit0_eq : ∀ (t : Fin 4) (n : Fin 2048),
    lit0 (⟨t.val * 2048 + n.val, by omega⟩ : Fin 8192) = bitsOf (times (2048 + t.val - n.val)) := by
  decide +kernel

/-- The table of the new keys' counts: a later key is not looked at. -/
theorem lit1_eq : ∀ (t n : Fin 4), lit1 (⟨t.val * 4 + n.val, by omega⟩ : Fin 16)
    = bitsOf (if n.val ≤ t.val then times (t.val - n.val) else 0) := by
  decide +kernel

end Cert.AttnTable
-- ==== Proof.AttnCount.lean ====
/- How often the attention's patterns look at each key, and the scores as the kernel and its reference state them. -/
module

public import proofs.«01_k».proof.Proof.AttnRef
public import proofs.«01_k».proof.Proof.AttnTable

@[expose] public section

set_option maxRecDepth 16384

noncomputable section

namespace Cert.AttnCount

open Cert.AttnRefIdeal Cert.AttnRefIdeal.Read Idealize.ShloMosaic Idealize.ShloMosaic.TcCoe Idealize.ShloMosaic.Tactic Cert.AttnTable

/-- Evenly spaced places meet a key once, if they meet it. -/
theorem spaced (T d : ℕ) (hd : 0 < d) (hT : d * 128 ≤ T) (hN : T < 2052) (n : Fin 2052) :
    (∑ j : Fin 129, if (⟨T - d * j.val, by omega⟩ : Fin 2052) = n then 1 else 0)
      = if n.val ≤ T ∧ (T - n.val) % d = 0 ∧ (T - n.val) / d ≤ 128 then 1 else 0 := by
  have hle : ∀ j : Fin 129, d * j.val ≤ T := fun j => (Nat.mul_le_mul_left d (by have := j.isLt; omega)).trans hT
  by_cases h : n.val ≤ T ∧ (T - n.val) % d = 0 ∧ (T - n.val) / d ≤ 128
  · obtain ⟨h1, h2, h3⟩ := h
    have h4 : d * ((T - n.val) / d) = T - n.val := Nat.mul_div_cancel' (Nat.dvd_of_mod_eq_zero h2)
    rw [if_pos ⟨h1, h2, h3⟩, Finset.sum_eq_single (⟨(T - n.val) / d, by omega⟩ : Fin 129)]
    · rw [if_pos]
      apply Fin.ext
      show T - d * ((T - n.val) / d) = n.val
      omega
    · intro j _ hj
      rw [if_neg]
      intro e
      apply hj
      apply Fin.ext
      show j.val = (T - n.val) / d
      have e' : T - d * j.val = n.val := congrArg Fin.val e
      have := hle j
      have e2 : T - n.val = d * j.val := by omega
      rw [e2, Nat.mul_div_cancel_left _ hd]
    · intro hj
      exact absurd (Finset.mem_univ _) hj
  · rw [if_neg h]
    refine Finset.sum_eq_zero fun j _ => ?_
    rw [if_neg]
    intro e
    apply h
    have e' : T - d * j.val = n.val := congrArg Fin.val e
    have := hle j
    have e2 : T - n.val = d * j.val := by omega
    have := j.isLt
    refine ⟨by omega, ?_, ?_⟩
    · rw [e2, Nat.mul_mod_right]
    · rw [e2, Nat.mul_div_cancel_left _ hd]
      omega

theorem count_at (t : Fin 4) (n : Fin 2052) :
    AttnMath.count (AttnRef.place t) n = if n.val ≤ 2048 + t.val then times (2048 + t.val - n.val) else 0 := by
  have ht := t.isLt
  unfold AttnMath.count
  rw [Fin.sum_univ_three]
  have e0 := spaced (2048 + t.val) 1 (by omega) (by omega) (by omega) n
  have e1 := spaced (2048 + t.val) 4 (by omega) (by omega) (by omega) n
  have e2 := spaced (2048 + t.val) 16 (by omega) (by omega) (by omega) n
  refine (congrArg₂ _ (congrArg₂ _ e0 e1) e2).trans ?_
  unfold times
  by_cases h : n.val ≤ 2048 + t.val
  · simp only [h, true_and, if_true, Nat.mod_one, Nat.div_one]
  · simp only [h, false_and, if_false]

/-- A kept key's place among all the keys. -/
def old (n : Fin 2048) : Fin 2052 := ⟨n.val, by omega⟩

/-- A new key's place among all the keys. -/
def fresh (n : Fin 4) : Fin 2052 := ⟨2048 + n.val, by omega⟩

theorem split {A : Type} [AddCommMonoid A] (f : Fin 2052 → A) : ∑ n, f n = ∑ n, f (old n) + ∑ n, f (fresh n) :=
  Fin.sum_univ_add (a := 2048) (b := 4) f

/-- How often a kept key is looked at. -/
def kept (t : Fin 4) (n : Fin 2048) : ℕ := times (2048 + t.val - n.val)

/-- How often a new key is looked at. -/
def added (t n : Fin 4) : ℕ := if n.val ≤ t.val then times (t.val - n.val) else 0

theorem count_old (t : Fin 4) (n : Fin 2048) : AttnMath.count (AttnRef.place t) (old n) = kept t n := by
  rw [count_at, if_pos (by show n.val ≤ 2048 + t.val; omega)]
  rfl

theorem count_fresh (t n : Fin 4) : AttnMath.count (AttnRef.place t) (fresh n) = added t n := by
  rw [count_at]
  unfold added
  show (if 2048 + n.val ≤ 2048 + t.val then times (2048 + t.val - (2048 + n.val)) else 0) = _
  by_cases h : n.val ≤ t.val
  · rw [if_pos h, if_pos (by omega)]
    congr 1
    omega
  · rw [if_neg h, if_neg (by omega)]

theorem times_le (δ : ℕ) : times δ ≤ 3 := by
  unfold times
  split_ifs <;> omega

/-- The number the bits of a small count stand for. -/
theorem bits_value (k : ℕ) (hk : k ≤ 3) : Ideal.ofBits .f32 (bitsOf k) = ((k : ℝ) : EReal) := by
  have h : k = 0 ∨ k = 1 ∨ k = 2 ∨ k = 3 := by omega
  rcases h with rfl | rfl | rfl | rfl
  · show Ideal.ofBits .f32 0x00000000#32 = _
    simp [Ideal.ofBits, Ideal.ieee]
  · show Ideal.ofBits .f32 0x3F800000#32 = _
    simp [Ideal.ofBits, Ideal.ieee]
    rw [← EReal.coe_mul]
    norm_num
  · show Ideal.ofBits .f32 0x40000000#32 = _
    simp [Ideal.ofBits, Ideal.ieee]
    rw [← EReal.coe_mul]
    norm_num
  · show Ideal.ofBits .f32 0x40400000#32 = _
    simp [Ideal.ofBits, Ideal.ieee]
    rw [← EReal.coe_mul]
    norm_num

theorem kept_value (t : Fin 4) (n : Fin 2048) : Ideal.ofBits .f32 (bitsOf (times (2048 + t.val - n.val))) = ((kept t n : ℝ) : EReal) :=
  bits_value _ (times_le _)

theorem added_value (t n : Fin 4) : Ideal.ofBits .f32 (bitsOf (if n.val ≤ t.val then times (t.val - n.val) else 0)) = ((added t n : ℝ) : EReal) :=
  bits_value _ (by split_ifs; exacts [times_le _, by omega])

/-- The score's scale. -/
theorem scale_value : Ideal.ofBits .f32 0x3E000000#32 = ((1 / 8 : ℝ) : EReal) := by
  simp [Ideal.ofBits, Ideal.ieee]
  rw [← EReal.coe_mul]
  norm_num

/-- The score of a key not looked at is a real. -/
theorem mask_value : ∃ r : ℝ, Ideal.ofBits .f32 0xF149F2CA#32 = r := by
  refine ⟨-13234890 * 2 ^ (76 : ℤ), ?_⟩
  simp [Ideal.ofBits, Ideal.ieee]

/-- A score of real keys and queries is a real, and scaling the query first gives the same one. -/
theorem scaled (f g : Fin 64 → EReal) (hf : ∀ x, ∃ r : ℝ, f x = r) (hg : ∀ x, ∃ r : ℝ, g x = r) :
    ∃ r : ℝ, (∑ x, f x * g x) * Ideal.ofBits .f32 0x3E000000#32 = r ∧ ∑ x, g x * (f x * Ideal.ofBits .f32 0x3E000000#32) = r := by
  choose f' hf using hf
  choose g' hg using hg
  refine ⟨(∑ x, f' x * g' x) * (1 / 8), ?_, ?_⟩
  · rw [scale_value, AttnMath.sum_real _ _ (fun x => f' x * g' x) fun x => by rw [hf, hg, ← EReal.coe_mul], ← EReal.coe_mul]
  · rw [scale_value, AttnMath.sum_real _ _ (fun x => g' x * (f' x * (1 / 8))) fun x => by rw [hf, hg, ← EReal.coe_mul, ← EReal.coe_mul], Finset.sum_mul]
    congr 1
    exact Finset.sum_congr rfl fun x _ => by ring

theorem v4_old (x1 : (⟨S128x4x8x64, .f32⟩ : BufTy).Contents (Elt Ideal)) (x3 : (⟨S2x128x2048x8x64, .f32⟩ : BufTy).Contents (Elt Ideal)) (b : Fin 128) (n : Fin 2048) (h : Fin 8) (d : Fin 64) :
    (val_main_v4 (F := Ideal) x1 x3 : S128x2052x8x64.Idx → EReal) (ix4 b (old n) h d) = x3 (ix5 1 b n h d) := by
  unfold old
  pointwise [val_main_v0, val_main_v1, val_main_v4]
theorem v4_fresh (x1 : (⟨S128x4x8x64, .f32⟩ : BufTy).Contents (Elt Ideal)) (x3 : (⟨S2x128x2048x8x64, .f32⟩ : BufTy).Contents (Elt Ideal)) (b : Fin 128) (n : Fin 4) (h : Fin 8) (d : Fin 64) :
    (val_main_v4 (F := Ideal) x1 x3 : S128x2052x8x64.Idx → EReal) (ix4 b (fresh n) h d) = x1 (ix4 b n h d) := by
  unfold fresh
  pointwise [val_main_v0, val_main_v1, val_main_v4]

theorem v5_old (x2 : (⟨S128x4x8x64, .f32⟩ : BufTy).Contents (Elt Ideal)) (x4 : (⟨S2x128x2048x8x64, .f32⟩ : BufTy).Contents (Elt Ideal)) (b : Fin 128) (n : Fin 2048) (h : Fin 8) (d : Fin 64) :
    (val_main_v5 (F := Ideal) x2 x4 : S128x2052x8x64.Idx → EReal) (ix4 b (old n) h d) = x4 (ix5 1 b n h d) := by
  unfold old
  pointwise [val_main_v2, val_main_v3, val_main_v5]
theorem v5_fresh (x2 : (⟨S128x4x8x64, .f32⟩ : BufTy).Contents (Elt Ideal)) (x4 : (⟨S2x128x2048x8x64, .f32⟩ : BufTy).Contents (Elt Ideal)) (b : Fin 128) (n : Fin 4) (h : Fin 8) (d : Fin 64) :
    (val_main_v5 (F := Ideal) x2 x4 : S128x2052x8x64.Idx → EReal) (ix4 b (fresh n) h d) = x2 (ix4 b n h d) := by
  unfold fresh
  pointwise [val_main_v2, val_main_v3, val_main_v5]

end Cert.AttnCount

end
-- ==== Proof.AttnEq.lean ====
/- The attention call: its kernel's heads, step by step, against its reference. -/
module

public import proofs.«01_k».proof.Proof.Gen.AttnIdeal.Value
public import proofs.«01_k».proof.Proof.Gen.AttnRefIdeal.Read
public import Idealize.ShloMosaic.Lib.Pointwise
public import Idealize.ShloMosaic.Lib.StableHlo.Run
public import proofs.«01_k».proof.Proof.AttnCount
public import proofs.«01_k».proof.Proof.MoeEq
public import proofs.«01_k».proof.Pre_finite_attention

@[expose] public section

set_option maxRecDepth 16384

noncomputable section

namespace Cert.AttnEq

open Cert.AttnRefIdeal.Read Cert.AttnCount Cert.AttnTable Cert.AttnIdeal Cert.AttnIdeal.Gen Cert.AttnIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- What a point's weights of the kept keys are, from its queries, counts and keys. -/
def keptWeights (q : Vec Ideal S1x1x8x64x1 .f32) (cc : Vec Ideal S1x2048 .f32) (cn : Vec Ideal S1x4 .f32) (K : Vec Ideal S1x1x8x64x2048 .f32) (Kn : Vec Ideal S1x8x64x4 .f32) : FVec Ideal S8x2048 .f32 :=
  k0_pay11 cc (k0_pay3 q cc K) cn (k0_pay4 q cn Kn) (k0_pay5 q cc K) (k0_pay6 q cn Kn)

/-- What a point's weights of the new keys are. -/
def newWeights (q : Vec Ideal S1x1x8x64x1 .f32) (cc : Vec Ideal S1x2048 .f32) (cn : Vec Ideal S1x4 .f32) (K : Vec Ideal S1x1x8x64x2048 .f32) (Kn : Vec Ideal S1x8x64x4 .f32) : FVec Ideal S8x4 .f32 :=
  k0_pay12 cc (k0_pay3 q cc K) cn (k0_pay4 q cn Kn) (k0_pay5 q cc K) (k0_pay6 q cn Kn)

/-- One head's column: its values by its row of the weights. -/
def column (h : ℕ) (s1 : S8x2048.Slices ![h, 0] S1x2048) (s2 : S8x4.Slices ![h, 0] S1x4) (p : FVec Ideal S8x2048 .f32) (q : FVec Ideal S8x4 .f32)
    (v : Vec Ideal S1x1x1x64x2048 .f32) (w : Vec Ideal S1x1x64x4 .f32) : FVec Ideal S1x1x1x64x1 .f32 :=
  shapeCast S1x1x1x64x1
    (addf
      (addf (broadcast S64x1 (Scalar.ofBits .f32 0x00000000#32 : Ideal .f32))
        (shapeCast S64x1
          (multiReduction .add [1] S64
            (mulf (shapeCast S64x2048 v shapeCasts_S1x1x1x64x2048_S64x2048 : FVec Ideal S64x2048 .f32)
              (broadcastTo S64x2048 (extractStridedSlice S1x2048 ![h, 0] p s1) broadcasts_S1x2048_S64x2048))
            0x00000000#32 reduces_S64x2048_S64 (.inl rfl) rfl)
          shapeCasts_S64_S64x1))
      (shapeCast S64x1
        (multiReduction .add [1] S64
          (mulf (shapeCast S64x4 w shapeCasts_S1x1x64x4_S64x4 : FVec Ideal S64x4 .f32)
            (broadcastTo S64x4 (extractStridedSlice S1x4 ![h, 0] q s2) broadcasts_S1x4_S64x4))
          0x00000000#32 reduces_S64x4_S64 (.inl rfl) rfl)
        shapeCasts_S64_S64x1))
    shapeCasts_S64x1_S1x1x1x64x1

theorem column0_at (p : FVec Ideal S8x2048 .f32) (q : FVec Ideal S8x4 .f32) (v : Vec Ideal S1x1x1x64x2048 .f32) (w : Vec Ideal S1x1x64x4 .f32) (d : Fin 64) :
    column 0 slices_S8x2048_o0_0_S1x2048 slices_S8x4_o0_0_S1x4 p q v w (ix5 0 0 0 d 0)
      = ∑ x, v (ix5 0 0 0 d x) * p (ix2 0 x) + ∑ x, w (ix4 0 0 d x) * q (ix2 0 x) := by
  pointwise [column]
theorem column1_at (p : FVec Ideal S8x2048 .f32) (q : FVec Ideal S8x4 .f32) (v : Vec Ideal S1x1x1x64x2048 .f32) (w : Vec Ideal S1x1x64x4 .f32) (d : Fin 64) :
    column 1 slices_S8x2048_o1_0_S1x2048 slices_S8x4_o1_0_S1x4 p q v w (ix5 0 0 0 d 0)
      = ∑ x, v (ix5 0 0 0 d x) * p (ix2 1 x) + ∑ x, w (ix4 0 0 d x) * q (ix2 1 x) := by
  pointwise [column]
theorem column2_at (p : FVec Ideal S8x2048 .f32) (q : FVec Ideal S8x4 .f32) (v : Vec Ideal S1x1x1x64x2048 .f32) (w : Vec Ideal S1x1x64x4 .f32) (d : Fin 64) :
    column 2 slices_S8x2048_o2_0_S1x2048 slices_S8x4_o2_0_S1x4 p q v w (ix5 0 0 0 d 0)
      = ∑ x, v (ix5 0 0 0 d x) * p (ix2 2 x) + ∑ x, w (ix4 0 0 d x) * q (ix2 2 x) := by
  pointwise [column]
theorem column3_at (p : FVec Ideal S8x2048 .f32) (q : FVec Ideal S8x4 .f32) (v : Vec Ideal S1x1x1x64x2048 .f32) (w : Vec Ideal S1x1x64x4 .f32) (d : Fin 64) :
    column 3 slices_S8x2048_o3_0_S1x2048 slices_S8x4_o3_0_S1x4 p q v w (ix5 0 0 0 d 0)
      = ∑ x, v (ix5 0 0 0 d x) * p (ix2 3 x) + ∑ x, w (ix4 0 0 d x) * q (ix2 3 x) := by
  pointwise [column]
theorem column4_at (p : FVec Ideal S8x2048 .f32) (q : FVec Ideal S8x4 .f32) (v : Vec Ideal S1x1x1x64x2048 .f32) (w : Vec Ideal S1x1x64x4 .f32) (d : Fin 64) :
    column 4 slices_S8x2048_o4_0_S1x2048 slices_S8x4_o4_0_S1x4 p q v w (ix5 0 0 0 d 0)
      = ∑ x, v (ix5 0 0 0 d x) * p (ix2 4 x) + ∑ x, w (ix4 0 0 d x) * q (ix2 4 x) := by
  pointwise [column]
theorem column5_at (p : FVec Ideal S8x2048 .f32) (q : FVec Ideal S8x4 .f32) (v : Vec Ideal S1x1x1x64x2048 .f32) (w : Vec Ideal S1x1x64x4 .f32) (d : Fin 64) :
    column 5 slices_S8x2048_o5_0_S1x2048 slices_S8x4_o5_0_S1x4 p q v w (ix5 0 0 0 d 0)
      = ∑ x, v (ix5 0 0 0 d x) * p (ix2 5 x) + ∑ x, w (ix4 0 0 d x) * q (ix2 5 x) := by
  pointwise [column]
theorem column6_at (p : FVec Ideal S8x2048 .f32) (q : FVec Ideal S8x4 .f32) (v : Vec Ideal S1x1x1x64x2048 .f32) (w : Vec Ideal S1x1x64x4 .f32) (d : Fin 64) :
    column 6 slices_S8x2048_o6_0_S1x2048 slices_S8x4_o6_0_S1x4 p q v w (ix5 0 0 0 d 0)
      = ∑ x, v (ix5 0 0 0 d x) * p (ix2 6 x) + ∑ x, w (ix4 0 0 d x) * q (ix2 6 x) := by
  pointwise [column]
theorem column7_at (p : FVec Ideal S8x2048 .f32) (q : FVec Ideal S8x4 .f32) (v : Vec Ideal S1x1x1x64x2048 .f32) (w : Vec Ideal S1x1x64x4 .f32) (d : Fin 64) :
    column 7 slices_S8x2048_o7_0_S1x2048 slices_S8x4_o7_0_S1x4 p q v w (ix5 0 0 0 d 0)
      = ∑ x, v (ix5 0 0 0 d x) * p (ix2 7 x) + ∑ x, w (ix4 0 0 d x) * q (ix2 7 x) := by
  pointwise [column]

/-- A kept key's score in the kernel. -/
theorem old_score (q : Vec Ideal S1x1x8x64x1 .f32) (cc : Vec Ideal S1x2048 .f32) (K : Vec Ideal S1x1x8x64x2048 .f32) (h : Fin 8) (n : Fin 2048) :
    (k0_pay3 q cc K : FVec Ideal S8x2048 .f32) (ix2 h n) = if 0 < cc (ix2 0 n) then ∑ x, K (ix5 0 0 h x n) * (q (ix5 0 0 h x 0) * Ideal.ofBits .f32 0x3E000000#32) else Ideal.ofBits .f32 0xF149F2CA#32 := by
  pointwise [k0_pay3, k0_pay2]

/-- A new key's score in the kernel. -/
theorem fresh_score (q : Vec Ideal S1x1x8x64x1 .f32) (cn : Vec Ideal S1x4 .f32) (Kn : Vec Ideal S1x8x64x4 .f32) (h : Fin 8) (n : Fin 4) :
    (k0_pay4 q cn Kn : FVec Ideal S8x4 .f32) (ix2 h n) = if 0 < cn (ix2 0 n) then ∑ x, Kn (ix4 0 h x n) * (q (ix5 0 0 h x 0) * Ideal.ofBits .f32 0x3E000000#32) else Ideal.ofBits .f32 0xF149F2CA#32 := by
  pointwise [k0_pay4, k0_pay2]

theorem old_top (q : Vec Ideal S1x1x8x64x1 .f32) (cc : Vec Ideal S1x2048 .f32) (K : Vec Ideal S1x1x8x64x2048 .f32) (h : Fin 8) :
    (k0_pay5 q cc K : FVec Ideal S8x1 .f32) (ix2 h 0) = Finset.univ.fold max ⊥ fun n => (k0_pay3 q cc K : FVec Ideal S8x2048 .f32) (ix2 h n) := by
  rw [← AttnRef.bot_bits]
  pointwise [k0_pay5]

theorem fresh_top (q : Vec Ideal S1x1x8x64x1 .f32) (cn : Vec Ideal S1x4 .f32) (Kn : Vec Ideal S1x8x64x4 .f32) (h : Fin 8) :
    (k0_pay6 q cn Kn : FVec Ideal S8x1 .f32) (ix2 h 0) = Finset.univ.fold max ⊥ fun n => (k0_pay4 q cn Kn : FVec Ideal S8x4 .f32) (ix2 h n) := by
  rw [← AttnRef.bot_bits]
  pointwise [k0_pay6]

section
variable (cc : Vec Ideal S1x2048 .f32) (s : FVec Ideal S8x2048 .f32) (cn : Vec Ideal S1x4 .f32) (s' : FVec Ideal S8x4 .f32) (m1 m2 : FVec Ideal S8x1 .f32) (h : Fin 8)
theorem old_weight (n : Fin 2048) : (k0_pay8 cc s m1 m2 : FVec Ideal S8x2048 .f32) (ix2 h n) = cc (ix2 0 n) * Ideal.exp (s (ix2 h n) - max (m1 (ix2 h 0)) (m2 (ix2 h 0))) := by
  pointwise [k0_pay8, k0_pay7]
theorem fresh_weight (n : Fin 4) : (k0_pay9 cn s' m1 m2 : FVec Ideal S8x4 .f32) (ix2 h n) = cn (ix2 0 n) * Ideal.exp (s' (ix2 h n) - max (m1 (ix2 h 0)) (m2 (ix2 h 0))) := by
  pointwise [k0_pay9, k0_pay7]
theorem whole_weight : (k0_pay10 cc s cn s' m1 m2 : FVec Ideal S8x1 .f32) (ix2 h 0)
    = ∑ n, (k0_pay8 cc s m1 m2 : FVec Ideal S8x2048 .f32) (ix2 h n) + ∑ n, (k0_pay9 cn s' m1 m2 : FVec Ideal S8x4 .f32) (ix2 h n) := by
  pointwise [k0_pay10]
theorem old_share (n : Fin 2048) : (k0_pay11 cc s cn s' m1 m2 : FVec Ideal S8x2048 .f32) (ix2 h n)
    = Ideal.div ((k0_pay8 cc s m1 m2 : FVec Ideal S8x2048 .f32) (ix2 h n)) ((k0_pay10 cc s cn s' m1 m2 : FVec Ideal S8x1 .f32) (ix2 h 0)) := by
  pointwise [k0_pay11]
theorem fresh_share (n : Fin 4) : (k0_pay12 cc s cn s' m1 m2 : FVec Ideal S8x4 .f32) (ix2 h n)
    = Ideal.div ((k0_pay9 cn s' m1 m2 : FVec Ideal S8x4 .f32) (ix2 h n)) ((k0_pay10 cc s cn s' m1 m2 : FVec Ideal S8x1 .f32) (ix2 h 0)) := by
  pointwise [k0_pay12]
end

/-- A score kept only where the count is not nought is a real, and the key's own where it counts. -/
theorem kept_real (k : ℕ) (c x : EReal) (a : ℝ) (hc : c = ((k : ℝ) : EReal)) (hx : x = a) :
    ∃ r : ℝ, (if 0 < c then x else Ideal.ofBits .f32 0xF149F2CA#32) = (r : EReal) ∧ (k ≠ 0 → r = a) := by
  by_cases h : k = 0
  · obtain ⟨r, hr⟩ := mask_value
    refine ⟨r, ?_, fun h' => absurd h h'⟩
    rw [if_neg, hr]
    rw [hc, h]
    simp
  · refine ⟨a, ?_, fun _ => rfl⟩
    rw [if_pos, hx]
    rw [hc]
    have : 0 < k := Nat.pos_of_ne_zero h
    exact_mod_cast this

/-- The head's values by its weights: the counted softmax of its real scores. -/
theorem head_at (q : Vec Ideal S1x1x8x64x1 .f32) (cc : Vec Ideal S1x2048 .f32) (cn : Vec Ideal S1x4 .f32) (K : Vec Ideal S1x1x8x64x2048 .f32) (Kn : Vec Ideal S1x8x64x4 .f32) (h : Fin 8)
    (kc : Fin 2048 → ℕ) (kn : Fin 4 → ℕ) (hcc : ∀ n, cc (ix2 0 n) = ((kc n : ℝ) : EReal)) (hcn : ∀ n, cn (ix2 0 n) = ((kn n : ℝ) : EReal))
    (a : Fin 2048 → ℝ) (b : Fin 4 → ℝ)
    (ha : ∀ n, ∑ x, K (ix5 0 0 h x n) * (q (ix5 0 0 h x 0) * Ideal.ofBits .f32 0x3E000000#32) = (a n : EReal))
    (hb : ∀ n, ∑ x, Kn (ix4 0 h x n) * (q (ix5 0 0 h x 0) * Ideal.ofBits .f32 0x3E000000#32) = (b n : EReal))
    (hD : AttnMath.total kc kn a b ≠ 0) (V : Fin 2048 → EReal) (W : Fin 4 → EReal) :
    ∑ n, V n * keptWeights q cc cn K Kn (ix2 h n) + ∑ n, W n * newWeights q cc cn K Kn (ix2 h n)
      = (∑ n, (((kc n : ℝ) * (Real.exp (a n) / AttnMath.total kc kn a b) : ℝ) : EReal) * V n)
        + ∑ n, (((kn n : ℝ) * (Real.exp (b n) / AttnMath.total kc kn a b) : ℝ) : EReal) * W n := by
  have hx : ∀ n, ∃ r : ℝ, (k0_pay3 q cc K : FVec Ideal S8x2048 .f32) (ix2 h n) = (r : EReal) ∧ (kc n ≠ 0 → r = a n) := fun n => by
    rw [old_score]
    exact kept_real _ _ _ _ (hcc n) (ha n)
  have hy : ∀ n, ∃ r : ℝ, (k0_pay4 q cn Kn : FVec Ideal S8x4 .f32) (ix2 h n) = (r : EReal) ∧ (kn n ≠ 0 → r = b n) := fun n => by
    rw [fresh_score]
    exact kept_real _ _ _ _ (hcn n) (hb n)
  choose x hx1 hx2 using hx
  choose y hy1 hy2 using hy
  obtain ⟨M, hM⟩ := AttnMath.max_real (AttnMath.greatest_real _ fun n => ⟨_, hx1 n⟩) (AttnMath.greatest_real _ fun n => ⟨_, hy1 n⟩)
  unfold keptWeights newWeights
  simp only [old_share, fresh_share, whole_weight]
  refine AttnMath.counted_softmax kc kn x a y b hx2 hy2 hD M _ _ (fun n => ?_) (fun n => ?_) V W
  · rw [old_weight, old_top, fresh_top, hM, hcc, hx1]
  · rw [fresh_weight, old_top, fresh_top, hM, hcn, hy1]

/-- Every entry of a new array is a real. -/
abbrev New (f : FVec Ideal S128x4x8x64 .f32) : Prop := ∀ i, ∃ r : ℝ, f i = r
/-- Every entry of this layer's kept array is a real. -/
abbrev Kept (f : FVec Ideal S2x128x2048x8x64 .f32) : Prop := ∀ (b : Fin 128) (n : Fin 2048) (h : Fin 8) (d : Fin 64), ∃ r : ℝ, f (ix5 1 b n h d) = r

/-- A head of a new query: the kernel's column is the reference's. -/
theorem query_at (x0 x1 x2 : FVec Ideal S128x4x8x64 .f32) (x3 x4 : FVec Ideal S2x128x2048x8x64 .f32) (f0 : New x0) (f1 : New x1) (f3 : Kept x3) (b : Fin 128) (i : Fin 4) (h : Fin 8) (d : Fin 64)
    (q : Vec Ideal S1x1x8x64x1 .f32) (cc : Vec Ideal S1x2048 .f32) (cn : Vec Ideal S1x4 .f32) (K : Vec Ideal S1x1x8x64x2048 .f32) (Kn : Vec Ideal S1x8x64x4 .f32) (V : Fin 2048 → EReal) (W : Fin 4 → EReal)
    (hq : ∀ x, q (ix5 0 0 h x 0) = x0 (ix4 b i h x)) (hcc : ∀ n, cc (ix2 0 n) = Ideal.ofBits .f32 (bitsOf (times (2048 + i.val - n.val))))
    (hcn : ∀ n, cn (ix2 0 n) = Ideal.ofBits .f32 (bitsOf (if n.val ≤ i.val then times (i.val - n.val) else 0)))
    (hK : ∀ x n, K (ix5 0 0 h x n) = x3 (ix5 1 b n h x)) (hKn : ∀ x n, Kn (ix4 0 h x n) = x1 (ix4 b n h x))
    (hV : ∀ n, V n = x4 (ix5 1 b n h d)) (hW : ∀ n, W n = x2 (ix4 b n h d)) :
    ∑ n, V n * keptWeights q cc cn K Kn (ix2 h n) + ∑ n, W n * newWeights q cc cn K Kn (ix2 h n)
      = (val_main_v161 (F := Ideal) x0 x1 x2 x3 x4 : S128x4x8x64x1.Idx → EReal) (ix5 b i h d 0) := by
  have s1 : ∀ n, ∃ r : ℝ, AttnRef.score x0 x1 x3 b i h (old n) = r ∧ ∑ x, K (ix5 0 0 h x n) * (q (ix5 0 0 h x 0) * Ideal.ofBits .f32 0x3E000000#32) = r := fun n => by
    unfold AttnRef.score
    simp only [v4_old, hq, hK]
    exact scaled (fun x => x0 (ix4 b i h x)) (fun x => x3 (ix5 1 b n h x)) (fun _ => f0 _) (fun _ => f3 _ _ _ _)
  have s2 : ∀ n, ∃ r : ℝ, AttnRef.score x0 x1 x3 b i h (fresh n) = r ∧ ∑ x, Kn (ix4 0 h x n) * (q (ix5 0 0 h x 0) * Ideal.ofBits .f32 0x3E000000#32) = r := fun n => by
    unfold AttnRef.score
    simp only [v4_fresh, hq, hKn]
    exact scaled (fun x => x0 (ix4 b i h x)) (fun x => x1 (ix4 b n h x)) (fun _ => f0 _) (fun _ => f1 _)
  choose u hu1 hu2 using s1
  choose w hw1 hw2 using s2
  have ha : ∀ n : Fin 2052, ∃ r : ℝ, AttnRef.score x0 x1 x3 b i h n = r := by
    intro n
    by_cases hn : n.val < 2048
    · exact ⟨_, hu1 ⟨n.val, hn⟩⟩
    · have e : n = fresh ⟨n.val - 2048, by omega⟩ := Fin.ext (by show n.val = 2048 + (n.val - 2048); omega)
      rw [e]
      exact ⟨_, hw1 _⟩
  choose a ha using ha
  have eu : u = fun n => a (old n) := funext fun n => EReal.coe_injective ((hu1 n).symm.trans (ha _))
  have ew : w = fun n => a (fresh n) := funext fun n => EReal.coe_injective ((hw1 n).symm.trans (ha _))
  have hT : AttnMath.total (kept i) (added i) u w = ∑ n, (AttnMath.count (AttnRef.place i) n : ℝ) * Real.exp (a n) := by
    rw [split, AttnMath.total, eu, ew]
    simp only [count_old, count_fresh]
  have hD : AttnMath.total (kept i) (added i) u w ≠ 0 := by
    rw [hT, ← AttnMath.counted_total]
    exact (Finset.sum_pos (fun p _ => Finset.sum_pos (fun j _ => Real.exp_pos _) ⟨0, Finset.mem_univ _⟩) ⟨0, Finset.mem_univ _⟩).ne'
  rw [AttnRef.result_at x0 x1 x2 x3 x4 b i h d a ha, split, ← hT,
    head_at q cc cn K Kn h (kept i) (added i) (fun n => (hcc n).trans (kept_value i n)) (fun n => (hcn n).trans (added_value i n)) u w hu2 hw2 hD V W]
  refine congrArg₂ _ (Finset.sum_congr rfl fun n _ => ?_) (Finset.sum_congr rfl fun n _ => ?_)
  · rw [count_old, v5_old, hV, eu]
  · rw [count_fresh, v5_fresh, hW, ew]

/-- The arguments as functions of their indices. -/
abbrev A0 : FVec Ideal S128x4x8x64 .f32 := m ((c : Thread nD τ).loc main_arg0)
abbrev A1 : FVec Ideal S128x4x8x64 .f32 := m ((c : Thread nD τ).loc main_arg1)
abbrev A2 : FVec Ideal S128x4x8x64 .f32 := m ((c : Thread nD τ).loc main_arg2)
abbrev A3 : FVec Ideal S2x128x2048x8x64 .f32 := m ((c : Thread nD τ).loc main_arg3)
abbrev A4 : FVec Ideal S2x128x2048x8x64 .f32 := m ((c : Thread nD τ).loc main_arg4)

theorem cst_eq : V m c main_cst = (fun i => FloatOps.ofBits (F := Ideal) .f32 (lit0 (S4x2048.rowMajor i)) : S4x2048.Idx → EReal) := by
  show StableHlo.after hostOps0 _ _ = _
  simp only [hostOps0, List.cons_append, List.nil_append]
  after_results
  rfl
theorem cst_0_eq : V m c main_cst_0 = (fun i => FloatOps.ofBits (F := Ideal) .f32 (lit1 (S4x4.rowMajor i)) : S4x4.Idx → EReal) := by
  show StableHlo.after hostOps0 _ _ = _
  simp only [hostOps0, List.cons_append, List.nil_append]
  after_results
  rfl
theorem v0_eq : V m c main_v0 = (broadcastInDim S128x4x8x64x1 ![0, 1, 2, 3] bcast_S128x4x8x64_S128x4x8x64x1_0_1_2_3 (A0 m c) : Vec Ideal S128x4x8x64x1 .f32) := by
  show StableHlo.after hostOps0 _ _ = _
  simp only [hostOps0, List.cons_append, List.nil_append]
  after_results
theorem v1_eq : V m c main_v1 = (transpose S2x128x8x64x2048 [0, 1, 3, 4, 2] (A3 m c) transposes_S2x128x2048x8x64_S2x128x8x64x2048_0_1_3_4_2 : Vec Ideal S2x128x8x64x2048 .f32) := by
  show StableHlo.after hostOps0 _ _ = _
  simp only [hostOps0, List.cons_append, List.nil_append]
  after_results
theorem v2_eq : V m c main_v2 = (transpose S2x128x8x64x2048 [0, 1, 3, 4, 2] (A4 m c) transposes_S2x128x2048x8x64_S2x128x8x64x2048_0_1_3_4_2 : Vec Ideal S2x128x8x64x2048 .f32) := by
  show StableHlo.after hostOps0 _ _ = _
  simp only [hostOps0, List.cons_append, List.nil_append]
  after_results
theorem v3_eq : V m c main_v3 = (transpose S128x8x64x4 [0, 2, 3, 1] (A1 m c) transposes_S128x4x8x64_S128x8x64x4_0_2_3_1 : Vec Ideal S128x8x64x4 .f32) := by
  show StableHlo.after hostOps0 _ _ = _
  simp only [hostOps0, List.cons_append, List.nil_append]
  after_results
theorem v4_eq : V m c main_v4 = (transpose S128x8x64x4 [0, 2, 3, 1] (A2 m c) transposes_S128x4x8x64_S128x8x64x4_0_2_3_1 : Vec Ideal S128x8x64x4 .f32) := by
  show StableHlo.after hostOps0 _ _ = _
  simp only [hostOps0, List.cons_append, List.nil_append]
  after_results

theorem index0 : ∀ t : Fin grid0.N, win0_0.index t (0 : Fin 5) = t.val ∧ win0_0.index t (1 : Fin 5) = 0 ∧ win0_0.index t (2 : Fin 5) = 0 ∧ win0_0.index t (3 : Fin 5) = 0 ∧ win0_0.index t (4 : Fin 5) = 0 := by decide +kernel
theorem index1 : ∀ t : Fin grid0.N, win0_1.index t (0 : Fin 5) = 1 ∧ win0_1.index t (1 : Fin 5) = t.val ∧ win0_1.index t (2 : Fin 5) = 0 ∧ win0_1.index t (3 : Fin 5) = 0 ∧ win0_1.index t (4 : Fin 5) = 0 := by decide +kernel
theorem index2 : ∀ t : Fin grid0.N, win0_2.index t (0 : Fin 5) = 1 ∧ win0_2.index t (1 : Fin 5) = t.val ∧ win0_2.index t (2 : Fin 5) = 0 ∧ win0_2.index t (3 : Fin 5) = 0 ∧ win0_2.index t (4 : Fin 5) = 0 := by decide +kernel
theorem index3 : ∀ t : Fin grid0.N, win0_3.index t (0 : Fin 4) = t.val ∧ win0_3.index t (1 : Fin 4) = 0 ∧ win0_3.index t (2 : Fin 4) = 0 ∧ win0_3.index t (3 : Fin 4) = 0 := by decide +kernel
theorem index4 : ∀ t : Fin grid0.N, win0_4.index t (0 : Fin 4) = t.val ∧ win0_4.index t (1 : Fin 4) = 0 ∧ win0_4.index t (2 : Fin 4) = 0 ∧ win0_4.index t (3 : Fin 4) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 5) = t.val ∧ win0_7.index t (1 : Fin 5) = 0 ∧ win0_7.index t (2 : Fin 5) = 0 ∧ win0_7.index t (3 : Fin 5) = 0 ∧ win0_7.index t (4 : Fin 5) = 0 := by decide +kernel

/-- The sequence a point works on. -/
def seq (t : Fin cfg0.N) : Fin 128 := ⟨t.val, by have := t.isLt; have h : cfg0.N = 128 := N_0; omega⟩

theorem window0_at (t : Fin cfg0.N) (i : Fin 4) (h : Fin 8) (x : Fin 64) :
    (iblk m c 0 t : Vec Ideal S1x4x8x64x1 .f32) (ix5 0 i h x 0) = A0 m c (ix4 (seq t) i h x) := by
  obtain ⟨h0, h1, h2, h3, h4⟩ := index0 t
  have e : (iblk m c 0 t : Vec Ideal S1x4x8x64x1 .f32) (ix5 0 i h x 0) = V m c main_v0 (ix5 (n0 := 128) (n1 := 4) (n2 := 8) (n3 := 64) (n4 := 1) (seq t) i h x 0) := by
    unfold iblk
    rw [View.read_apply]
    show V m c main_v0 _ = _
    congr 1
    funext a
    apply Fin.ext
    match a with
    | ⟨0, _⟩ => show win0_0.index t 0 * 1 + 1 * 0 = t.val; rw [h0]; omega
    | ⟨1, _⟩ => show win0_0.index t 1 * 4 + 1 * i.val = i.val; rw [h1]; omega
    | ⟨2, _⟩ => show win0_0.index t 2 * 8 + 1 * h.val = h.val; rw [h2]; omega
    | ⟨3, _⟩ => show win0_0.index t 3 * 64 + 1 * x.val = x.val; rw [h3]; omega
    | ⟨4, _⟩ => show win0_0.index t 4 * 1 + 1 * 0 = 0; rw [h4]
  rw [e, v0_eq] <;> pointwise []

theorem window1_at (t : Fin cfg0.N) (h : Fin 8) (x : Fin 64) (n : Fin 2048) :
    (iblk m c 1 t : Vec Ideal S1x1x8x64x2048 .f32) (ix5 0 0 h x n) = A3 m c (ix5 1 (seq t) n h x) := by
  obtain ⟨h0, h1, h2, h3, h4⟩ := index1 t
  have e : (iblk m c 1 t : Vec Ideal S1x1x8x64x2048 .f32) (ix5 0 0 h x n) = V m c main_v1 (ix5 (n0 := 2) (n1 := 128) (n2 := 8) (n3 := 64) (n4 := 2048) 1 (seq t) h x n) := by
    unfold iblk
    rw [View.read_apply]
    show V m c main_v1 _ = _
    congr 1
    funext a
    apply Fin.ext
    match a with
    | ⟨0, _⟩ => show win0_1.index t 0 * 1 + 1 * 0 = 1; rw [h0]
    | ⟨1, _⟩ => show win0_1.index t 1 * 1 + 1 * 0 = t.val; rw [h1]; omega
    | ⟨2, _⟩ => show win0_1.index t 2 * 8 + 1 * h.val = h.val; rw [h2]; omega
    | ⟨3, _⟩ => show win0_1.index t 3 * 64 + 1 * x.val = x.val; rw [h3]; omega
    | ⟨4, _⟩ => show win0_1.index t 4 * 2048 + 1 * n.val = n.val; rw [h4]; omega
  rw [e, v1_eq] <;> pointwise []

theorem window2_at (t : Fin cfg0.N) (h : Fin 8) (x : Fin 64) (n : Fin 2048) :
    (iblk m c 2 t : Vec Ideal S1x1x8x64x2048 .f32) (ix5 0 0 h x n) = A4 m c (ix5 1 (seq t) n h x) := by
  obtain ⟨h0, h1, h2, h3, h4⟩ := index2 t
  have e : (iblk m c 2 t : Vec Ideal S1x1x8x64x2048 .f32) (ix5 0 0 h x n) = V m c main_v2 (ix5 (n0 := 2) (n1 := 128) (n2 := 8) (n3 := 64) (n4 := 2048) 1 (seq t) h x n) := by
    unfold iblk
    rw [View.read_apply]
    show V m c main_v2 _ = _
    congr 1
    funext a
    apply Fin.ext
    match a with
    | ⟨0, _⟩ => show win0_2.index t 0 * 1 + 1 * 0 = 1; rw [h0]
    | ⟨1, _⟩ => show win0_2.index t 1 * 1 + 1 * 0 = t.val; rw [h1]; omega
    | ⟨2, _⟩ => show win0_2.index t 2 * 8 + 1 * h.val = h.val; rw [h2]; omega
    | ⟨3, _⟩ => show win0_2.index t 3 * 64 + 1 * x.val = x.val; rw [h3]; omega
    | ⟨4, _⟩ => show win0_2.index t 4 * 2048 + 1 * n.val = n.val; rw [h4]; omega
  rw [e, v2_eq] <;> pointwise []

theorem window3_at (t : Fin cfg0.N) (h : Fin 8) (x : Fin 64) (n : Fin 4) :
    (iblk m c 3 t : Vec Ideal S1x8x64x4 .f32) (ix4 0 h x n) = A1 m c (ix4 (seq t) n h x) := by
  obtain ⟨h0, h1, h2, h3⟩ := index3 t
  have e : (iblk m c 3 t : Vec Ideal S1x8x64x4 .f32) (ix4 0 h x n) = V m c main_v3 (ix4 (n0 := 128) (n1 := 8) (n2 := 64) (n3 := 4) (seq t) h x n) := by
    unfold iblk
    rw [View.read_apply]
    show V m c main_v3 _ = _
    congr 1
    funext a
    apply Fin.ext
    match a with
    | ⟨0, _⟩ => show win0_3.index t 0 * 1 + 1 * 0 = t.val; rw [h0]; omega
    | ⟨1, _⟩ => show win0_3.index t 1 * 8 + 1 * h.val = h.val; rw [h1]; omega
    | ⟨2, _⟩ => show win0_3.index t 2 * 64 + 1 * x.val = x.val; rw [h2]; omega
    | ⟨3, _⟩ => show win0_3.index t 3 * 4 + 1 * n.val = n.val; rw [h3]; omega
  rw [e, v3_eq] <;> pointwise []

theorem window4_at (t : Fin cfg0.N) (h : Fin 8) (x : Fin 64) (n : Fin 4) :
    (iblk m c 4 t : Vec Ideal S1x8x64x4 .f32) (ix4 0 h x n) = A2 m c (ix4 (seq t) n h x) := by
  obtain ⟨h0, h1, h2, h3⟩ := index4 t
  have e : (iblk m c 4 t : Vec Ideal S1x8x64x4 .f32) (ix4 0 h x n) = V m c main_v4 (ix4 (n0 := 128) (n1 := 8) (n2 := 64) (n3 := 4) (seq t) h x n) := by
    unfold iblk
    rw [View.read_apply]
    show V m c main_v4 _ = _
    congr 1
    funext a
    apply Fin.ext
    match a with
    | ⟨0, _⟩ => show win0_4.index t 0 * 1 + 1 * 0 = t.val; rw [h0]; omega
    | ⟨1, _⟩ => show win0_4.index t 1 * 8 + 1 * h.val = h.val; rw [h1]; omega
    | ⟨2, _⟩ => show win0_4.index t 2 * 64 + 1 * x.val = x.val; rw [h2]; omega
    | ⟨3, _⟩ => show win0_4.index t 3 * 4 + 1 * n.val = n.val; rw [h3]; omega
  rw [e, v4_eq] <;> pointwise []

theorem window5_at (t : Fin cfg0.N) (i : Fin 4) (n : Fin 2048) :
    (iblk m c 5 t : Vec Ideal S4x2048 .f32) (ix2 i n) = Ideal.ofBits .f32 (bitsOf (times (2048 + i.val - n.val))) := by
  obtain ⟨h0, h1⟩ := index5 t
  have e : (iblk m c 5 t : Vec Ideal S4x2048 .f32) (ix2 i n) = V m c main_cst (ix2 (n0 := 4) (n1 := 2048) i n) := by
    unfold iblk
    rw [View.read_apply]
    show V m c main_cst _ = _
    congr 1
    funext a
    apply Fin.ext
    match a with
    | ⟨0, _⟩ => show win0_5.index t 0 * 4 + 1 * i.val = i.val; rw [h0]; omega
    | ⟨1, _⟩ => show win0_5.index t 1 * 2048 + 1 * n.val = n.val; rw [h1]; omega
  rw [e, cst_eq]
  show Ideal.ofBits .f32 (lit0 (S4x2048.rowMajor (ix2 (n0 := 4) (n1 := 2048) i n))) = _
  rw [← lit0_eq i n]
  congr 2
  apply Fin.ext
  rw [Shape.rowMajor_val_two]
  rfl

theorem window6_at (t : Fin cfg0.N) (i : Fin 4) (n : Fin 4) :
    (iblk m c 6 t : Vec Ideal S4x4 .f32) (ix2 i n) = Ideal.ofBits .f32 (bitsOf (if n.val ≤ i.val then times (i.val - n.val) else 0)) := by
  obtain ⟨h0, h1⟩ := index6 t
  have e : (iblk m c 6 t : Vec Ideal S4x4 .f32) (ix2 i n) = V m c main_cst_0 (ix2 (n0 := 4) (n1 := 4) i n) := by
    unfold iblk
    rw [View.read_apply]
    show V m c main_cst_0 _ = _
    congr 1
    funext a
    apply Fin.ext
    match a with
    | ⟨0, _⟩ => show win0_6.index t 0 * 4 + 1 * i.val = i.val; rw [h0]; omega
    | ⟨1, _⟩ => show win0_6.index t 1 * 4 + 1 * n.val = n.val; rw [h1]; omega
  rw [e, cst_0_eq]
  show Ideal.ofBits .f32 (lit1 (S4x4.rowMajor (ix2 (n0 := 4) (n1 := 4) i n))) = _
  rw [← lit1_eq i n]
  congr 2
  apply Fin.ext
  rw [Shape.rowMajor_val_two]
  rfl

section
variable (x0 : Vec Ideal S1x4x8x64x1 .f32) (x1 x2 : Vec Ideal S1x1x8x64x2048 .f32) (x3 x4 : Vec Ideal S1x8x64x4 .f32) (x5 : Vec Ideal S4x2048 .f32) (x6 : Vec Ideal S4x4 .f32)
theorem load_q0 (h : Fin 8) (x : Fin 64) : (View.ld x0 r0_0 : Vec Ideal S1x1x8x64x1 .f32) (ix5 0 0 h x 0) = x0 (ix5 0 0 h x 0) := by
  show x0 _ = x0 _
  congr 1
  funext a
  apply Fin.ext
  match a with
  | ⟨0, _⟩ => show 0 + 1 * 0 = 0; omega
  | ⟨1, _⟩ => show 0 + 1 * 0 = 0; omega
  | ⟨2, _⟩ => show 0 + 1 * h.val = h.val; omega
  | ⟨3, _⟩ => show 0 + 1 * x.val = x.val; omega
  | ⟨4, _⟩ => show 0 + 1 * 0 = 0; omega
theorem load_cc0 (n : Fin 2048) : (View.ld x5 r0_1 : Vec Ideal S1x2048 .f32) (ix2 0 n) = x5 (ix2 0 n) := by
  show x5 _ = x5 _
  congr 1
  funext a
  apply Fin.ext
  match a with
  | ⟨0, _⟩ => show 0 + 1 * 0 = 0; omega
  | ⟨1, _⟩ => show 0 + 1 * n.val = n.val; omega
theorem load_cn0 (n : Fin 4) : (View.ld x6 r0_3 : Vec Ideal S1x4 .f32) (ix2 0 n) = x6 (ix2 0 n) := by
  show x6 _ = x6 _
  congr 1
  funext a
  apply Fin.ext
  match a with
  | ⟨0, _⟩ => show 0 + 1 * 0 = 0; omega
  | ⟨1, _⟩ => show 0 + 1 * n.val = n.val; omega
theorem load_q1 (h : Fin 8) (x : Fin 64) : (View.ld x0 r0_29 : Vec Ideal S1x1x8x64x1 .f32) (ix5 0 0 h x 0) = x0 (ix5 0 1 h x 0) := by
  show x0 _ = x0 _
  congr 1
  funext a
  apply Fin.ext
  match a with
  | ⟨0, _⟩ => show 0 + 1 * 0 = 0; omega
  | ⟨1, _⟩ => show 1 + 1 * 0 = 1; omega
  | ⟨2, _⟩ => show 0 + 1 * h.val = h.val; omega
  | ⟨3, _⟩ => show 0 + 1 * x.val = x.val; omega
  | ⟨4, _⟩ => show 0 + 1 * 0 = 0; omega
theorem load_cc1 (n : Fin 2048) : (View.ld x5 r0_30 : Vec Ideal S1x2048 .f32) (ix2 0 n) = x5 (ix2 1 n) := by
  show x5 _ = x5 _
  congr 1
  funext a
  apply Fin.ext
  match a with
  | ⟨0, _⟩ => show 1 + 1 * 0 = 1; omega
  | ⟨1, _⟩ => show 0 + 1 * n.val = n.val; omega
theorem load_cn1 (n : Fin 4) : (View.ld x6 r0_31 : Vec Ideal S1x4 .f32) (ix2 0 n) = x6 (ix2 1 n) := by
  show x6 _ = x6 _
  congr 1
  funext a
  apply Fin.ext
  match a with
  | ⟨0, _⟩ => show 1 + 1 * 0 = 1; omega
  | ⟨1, _⟩ => show 0 + 1 * n.val = n.val; omega
theorem load_q2 (h : Fin 8) (x : Fin 64) : (View.ld x0 r0_40 : Vec Ideal S1x1x8x64x1 .f32) (ix5 0 0 h x 0) = x0 (ix5 0 2 h x 0) := by
  show x0 _ = x0 _
  congr 1
  funext a
  apply Fin.ext
  match a with
  | ⟨0, _⟩ => show 0 + 1 * 0 = 0; omega
  | ⟨1, _⟩ => show 2 + 1 * 0 = 2; omega
  | ⟨2, _⟩ => show 0 + 1 * h.val = h.val; omega
  | ⟨3, _⟩ => show 0 + 1 * x.val = x.val; omega
  | ⟨4, _⟩ => show 0 + 1 * 0 = 0; omega
theorem load_cc2 (n : Fin 2048) : (View.ld x5 r0_41 : Vec Ideal S1x2048 .f32) (ix2 0 n) = x5 (ix2 2 n) := by
  show x5 _ = x5 _
  congr 1
  funext a
  apply Fin.ext
  match a with
  | ⟨0, _⟩ => show 2 + 1 * 0 = 2; omega
  | ⟨1, _⟩ => show 0 + 1 * n.val = n.val; omega
theorem load_cn2 (n : Fin 4) : (View.ld x6 r0_42 : Vec Ideal S1x4 .f32) (ix2 0 n) = x6 (ix2 2 n) := by
  show x6 _ = x6 _
  congr 1
  funext a
  apply Fin.ext
  match a with
  | ⟨0, _⟩ => show 2 + 1 * 0 = 2; omega
  | ⟨1, _⟩ => show 0 + 1 * n.val = n.val; omega
theorem load_q3 (h : Fin 8) (x : Fin 64) : (View.ld x0 r0_51 : Vec Ideal S1x1x8x64x1 .f32) (ix5 0 0 h x 0) = x0 (ix5 0 3 h x 0) := by
  show x0 _ = x0 _
  congr 1
  funext a
  apply Fin.ext
  match a with
  | ⟨0, _⟩ => show 0 + 1 * 0 = 0; omega
  | ⟨1, _⟩ => show 3 + 1 * 0 = 3; omega
  | ⟨2, _⟩ => show 0 + 1 * h.val = h.val; omega
  | ⟨3, _⟩ => show 0 + 1 * x.val = x.val; omega
  | ⟨4, _⟩ => show 0 + 1 * 0 = 0; omega
theorem load_cc3 (n : Fin 2048) : (View.ld x5 r0_52 : Vec Ideal S1x2048 .f32) (ix2 0 n) = x5 (ix2 3 n) := by
  show x5 _ = x5 _
  congr 1
  funext a
  apply Fin.ext
  match a with
  | ⟨0, _⟩ => show 3 + 1 * 0 = 3; omega
  | ⟨1, _⟩ => show 0 + 1 * n.val = n.val; omega
theorem load_cn3 (n : Fin 4) : (View.ld x6 r0_53 : Vec Ideal S1x4 .f32) (ix2 0 n) = x6 (ix2 3 n) := by
  show x6 _ = x6 _
  congr 1
  funext a
  apply Fin.ext
  match a with
  | ⟨0, _⟩ => show 3 + 1 * 0 = 3; omega
  | ⟨1, _⟩ => show 0 + 1 * n.val = n.val; omega
theorem load_k (h : Fin 8) (x : Fin 64) (n : Fin 2048) : (View.ld x1 r0_2 : Vec Ideal S1x1x8x64x2048 .f32) (ix5 0 0 h x n) = x1 (ix5 0 0 h x n) := by
  show x1 _ = x1 _
  congr 1
  funext a
  apply Fin.ext
  match a with
  | ⟨0, _⟩ => show 0 + 1 * 0 = 0; omega
  | ⟨1, _⟩ => show 0 + 1 * 0 = 0; omega
  | ⟨2, _⟩ => show 0 + 1 * h.val = h.val; omega
  | ⟨3, _⟩ => show 0 + 1 * x.val = x.val; omega
  | ⟨4, _⟩ => show 0 + 1 * n.val = n.val; omega
theorem load_kn (h : Fin 8) (x : Fin 64) (n : Fin 4) : (View.ld x3 r0_4 : Vec Ideal S1x8x64x4 .f32) (ix4 0 h x n) = x3 (ix4 0 h x n) := by
  show x3 _ = x3 _
  congr 1
  funext a
  apply Fin.ext
  match a with
  | ⟨0, _⟩ => show 0 + 1 * 0 = 0; omega
  | ⟨1, _⟩ => show 0 + 1 * h.val = h.val; omega
  | ⟨2, _⟩ => show 0 + 1 * x.val = x.val; omega
  | ⟨3, _⟩ => show 0 + 1 * n.val = n.val; omega
theorem load_v0 (d : Fin 64) (n : Fin 2048) : (View.ld x2 r0_5 : Vec Ideal S1x1x1x64x2048 .f32) (ix5 0 0 0 d n) = x2 (ix5 0 0 0 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 0 + 1 * 0 = 0; omega
  | ⟨3, _⟩ => show 0 + 1 * d.val = d.val; omega
  | ⟨4, _⟩ => show 0 + 1 * n.val = n.val; omega
theorem load_w0 (d : Fin 64) (n : Fin 4) : (View.ld x4 r0_6 : Vec Ideal S1x1x64x4 .f32) (ix4 0 0 d n) = x4 (ix4 0 0 d n) := by
  show x4 _ = x4 _
  congr 1
  funext a
  apply Fin.ext
  match a with
  | ⟨0, _⟩ => show 0 + 1 * 0 = 0; omega
  | ⟨1, _⟩ => show 0 + 1 * 0 = 0; omega
  | ⟨2, _⟩ => show 0 + 1 * d.val = d.val; omega
  | ⟨3, _⟩ => show 0 + 1 * n.val = n.val; omega
theorem load_v1 (d : Fin 64) (n : Fin 2048) : (View.ld x2 r0_8 : Vec Ideal S1x1x1x64x2048 .f32) (ix5 0 0 0 d n) = x2 (ix5 0 0 1 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 1 + 1 * 0 = 1; omega
  | ⟨3, _⟩ => show 0 + 1 * d.val = d.val; omega
  | ⟨4, _⟩ => show 0 + 1 * n.val = n.val; omega
theorem load_w1 (d : Fin 64) (n : Fin 4) : (View.ld x4 r0_9 : Vec Ideal S1x1x64x4 .f32) (ix4 0 0 d n) = x4 (ix4 0 1 d n) := by
  show x4 _ = x4 _
  congr 1
  funext a
  apply Fin.ext
  match a with
  | ⟨0, _⟩ => show 0 + 1 * 0 = 0; omega
  | ⟨1, _⟩ => show 1 + 1 * 0 = 1; omega
  | ⟨2, _⟩ => show 0 + 1 * d.val = d.val; omega
  | ⟨3, _⟩ => show 0 + 1 * n.val = n.val; omega
theorem load_v2 (d : Fin 64) (n : Fin 2048) : (View.ld x2 r0_11 : Vec Ideal S1x1x1x64x2048 .f32) (ix5 0 0 0 d n) = x2 (ix5 0 0 2 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 2 + 1 * 0 = 2; omega
  | ⟨3, _⟩ => show 0 + 1 * d.val = d.val; omega
  | ⟨4, _⟩ => show 0 + 1 * n.val = n.val; omega
theorem load_w2 (d : Fin 64) (n : Fin 4) : (View.ld x4 r0_12 : Vec Ideal S1x1x64x4 .f32) (ix4 0 0 d n) = x4 (ix4 0 2 d n) := by
  show x4 _ = x4 _
  congr 1
  funext a
  apply Fin.ext
  match a with
  | ⟨0, _⟩ => show 0 + 1 * 0 = 0; omega
  | ⟨1, _⟩ => show 2 + 1 * 0 = 2; omega
  | ⟨2, _⟩ => show 0 + 1 * d.val = d.val; omega
  | ⟨3, _⟩ => show 0 + 1 * n.val = n.val; omega
theorem load_v3 (d : Fin 64) (n : Fin 2048) : (View.ld x2 r0_14 : Vec Ideal S1x1x1x64x2048 .f32) (ix5 0 0 0 d n) = x2 (ix5 0 0 3 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 3 + 1 * 0 = 3; omega
  | ⟨3, _⟩ => show 0 + 1 * d.val = d.val; omega
  | ⟨4, _⟩ => show 0 + 1 * n.val = n.val; omega
theorem load_w3 (d : Fin 64) (n : Fin 4) : (View.ld x4 r0_15 : Vec Ideal S1x1x64x4 .f32) (ix4 0 0 d n) = x4 (ix4 0 3 d n) := by
  show x4 _ = x4 _
  congr 1
  funext a
  apply Fin.ext
  match a with
  | ⟨0, _⟩ => show 0 + 1 * 0 = 0; omega
  | ⟨1, _⟩ => show 3 + 1 * 0 = 3; omega
  | ⟨2, _⟩ => show 0 + 1 * d.val = d.val; omega
  | ⟨3, _⟩ => show 0 + 1 * n.val = n.val; omega
theorem load_v4 (d : Fin 64) (n : Fin 2048) : (View.ld x2 r0_17 : Vec Ideal S1x1x1x64x2048 .f32) (ix5 0 0 0 d n) = x2 (ix5 0 0 4 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 4 + 1 * 0 = 4; omega
  | ⟨3, _⟩ => show 0 + 1 * d.val = d.val; omega
  | ⟨4, _⟩ => show 0 + 1 * n.val = n.val; omega
theorem load_w4 (d : Fin 64) (n : Fin 4) : (View.ld x4 r0_18 : Vec Ideal S1x1x64x4 .f32) (ix4 0 0 d n) = x4 (ix4 0 4 d n) := by
  show x4 _ = x4 _
  congr 1
  funext a
  apply Fin.ext
  match a with
  | ⟨0, _⟩ => show 0 + 1 * 0 = 0; omega
  | ⟨1, _⟩ => show 4 + 1 * 0 = 4; omega
  | ⟨2, _⟩ => show 0 + 1 * d.val = d.val; omega
  | ⟨3, _⟩ => show 0 + 1 * n.val = n.val; omega
theorem load_v5 (d : Fin 64) (n : Fin 2048) : (View.ld x2 r0_20 : Vec Ideal S1x1x1x64x2048 .f32) (ix5 0 0 0 d n) = x2 (ix5 0 0 5 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 5 + 1 * 0 = 5; omega
  | ⟨3, _⟩ => show 0 + 1 * d.val = d.val; omega
  | ⟨4, _⟩ => show 0 + 1 * n.val = n.val; omega
theorem load_w5 (d : Fin 64) (n : Fin 4) : (View.ld x4 r0_21 : Vec Ideal S1x1x64x4 .f32) (ix4 0 0 d n) = x4 (ix4 0 5 d n) := by
  show x4 _ = x4 _
  congr 1
  funext a
  apply Fin.ext
  match a with
  | ⟨0, _⟩ => show 0 + 1 * 0 = 0; omega
  | ⟨1, _⟩ => show 5 + 1 * 0 = 5; omega
  | ⟨2, _⟩ => show 0 + 1 * d.val = d.val; omega
  | ⟨3, _⟩ => show 0 + 1 * n.val = n.val; omega
theorem load_v6 (d : Fin 64) (n : Fin 2048) : (View.ld x2 r0_23 : Vec Ideal S1x1x1x64x2048 .f32) (ix5 0 0 0 d n) = x2 (ix5 0 0 6 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 6 + 1 * 0 = 6; omega
  | ⟨3, _⟩ => show 0 + 1 * d.val = d.val; omega
  | ⟨4, _⟩ => show 0 + 1 * n.val = n.val; omega
theorem load_w6 (d : Fin 64) (n : Fin 4) : (View.ld x4 r0_24 : Vec Ideal S1x1x64x4 .f32) (ix4 0 0 d n) = x4 (ix4 0 6 d n) := by
  show x4 _ = x4 _
  congr 1
  funext a
  apply Fin.ext
  match a with
  | ⟨0, _⟩ => show 0 + 1 * 0 = 0; omega
  | ⟨1, _⟩ => show 6 + 1 * 0 = 6; omega
  | ⟨2, _⟩ => show 0 + 1 * d.val = d.val; omega
  | ⟨3, _⟩ => show 0 + 1 * n.val = n.val; omega
theorem load_v7 (d : Fin 64) (n : Fin 2048) : (View.ld x2 r0_26 : Vec Ideal S1x1x1x64x2048 .f32) (ix5 0 0 0 d n) = x2 (ix5 0 0 7 d n) := by
  show x2 _ = x2 _
  congr 1
  funext a
  apply Fin.ext
  match a with
  | ⟨0, _⟩ => show 0 + 1 * 0 = 0; omega
  | ⟨1, _⟩ => show 0 + 1 * 0 = 0; omega
  | ⟨2, _⟩ => show 7 + 1 * 0 = 7; omega
  | ⟨3, _⟩ => show 0 + 1 * d.val = d.val; omega
  | ⟨4, _⟩ => show 0 + 1 * n.val = n.val; omega
theorem load_w7 (d : Fin 64) (n : Fin 4) : (View.ld x4 r0_27 : Vec Ideal S1x1x64x4 .f32) (ix4 0 0 d n) = x4 (ix4 0 7 d n) := by
  show x4 _ = x4 _
  congr 1
  funext a
  apply Fin.ext
  match a with
  | ⟨0, _⟩ => show 0 + 1 * 0 = 0; omega
  | ⟨1, _⟩ => show 7 + 1 * 0 = 7; omega
  | ⟨2, _⟩ => show 0 + 1 * d.val = d.val; omega
  | ⟨3, _⟩ => show 0 + 1 * n.val = n.val; omega

/-- A point's result, a head of a query at a time. -/
theorem out7 : out0_7 x0 x1 x2 x3 x4 x5 x6 = View.canon [⟨r0_61, column 7 slices_S8x2048_o7_0_S1x2048 slices_S8x4_o7_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_26) (View.ld x4 r0_27)⟩,
    ⟨r0_60, column 6 slices_S8x2048_o6_0_S1x2048 slices_S8x4_o6_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_23) (View.ld x4 r0_24)⟩,
    ⟨r0_59, column 5 slices_S8x2048_o5_0_S1x2048 slices_S8x4_o5_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_20) (View.ld x4 r0_21)⟩,
    ⟨r0_58, column 4 slices_S8x2048_o4_0_S1x2048 slices_S8x4_o4_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_17) (View.ld x4 r0_18)⟩,
    ⟨r0_57, column 3 slices_S8x2048_o3_0_S1x2048 slices_S8x4_o3_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_14) (View.ld x4 r0_15)⟩,
    ⟨r0_56, column 2 slices_S8x2048_o2_0_S1x2048 slices_S8x4_o2_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_11) (View.ld x4 r0_12)⟩,
    ⟨r0_55, column 1 slices_S8x2048_o1_0_S1x2048 slices_S8x4_o1_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_8) (View.ld x4 r0_9)⟩,
    ⟨r0_54, column 0 slices_S8x2048_o0_0_S1x2048 slices_S8x4_o0_0_S1x4 (keptWeights (View.ld x0 r0_51) (View.ld x5 r0_52) (View.ld x6 r0_53) (View.ld x1 r0_2) (View.ld x3 r0_4)) (newWeights (View.ld x0 r0_51) (View.ld x5 r0_52) (View.ld x6 r0_53) (View.ld x1 r0_2) (View.ld x3 r0_4)) (View.ld x2 r0_5) (View.ld x4 r0_6)⟩,
    ⟨r0_50, column 7 slices_S8x2048_o7_0_S1x2048 slices_S8x4_o7_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_26) (View.ld x4 r0_27)⟩,
    ⟨r0_49, column 6 slices_S8x2048_o6_0_S1x2048 slices_S8x4_o6_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_23) (View.ld x4 r0_24)⟩,
    ⟨r0_48, column 5 slices_S8x2048_o5_0_S1x2048 slices_S8x4_o5_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_20) (View.ld x4 r0_21)⟩,
    ⟨r0_47, column 4 slices_S8x2048_o4_0_S1x2048 slices_S8x4_o4_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_17) (View.ld x4 r0_18)⟩,
    ⟨r0_46, column 3 slices_S8x2048_o3_0_S1x2048 slices_S8x4_o3_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_14) (View.ld x4 r0_15)⟩,
    ⟨r0_45, column 2 slices_S8x2048_o2_0_S1x2048 slices_S8x4_o2_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_11) (View.ld x4 r0_12)⟩,
    ⟨r0_44, column 1 slices_S8x2048_o1_0_S1x2048 slices_S8x4_o1_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_8) (View.ld x4 r0_9)⟩,
    ⟨r0_43, column 0 slices_S8x2048_o0_0_S1x2048 slices_S8x4_o0_0_S1x4 (keptWeights (View.ld x0 r0_40) (View.ld x5 r0_41) (View.ld x6 r0_42) (View.ld x1 r0_2) (View.ld x3 r0_4)) (newWeights (View.ld x0 r0_40) (View.ld x5 r0_41) (View.ld x6 r0_42) (View.ld x1 r0_2) (View.ld x3 r0_4)) (View.ld x2 r0_5) (View.ld x4 r0_6)⟩,
    ⟨r0_39, column 7 slices_S8x2048_o7_0_S1x2048 slices_S8x4_o7_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_26) (View.ld x4 r0_27)⟩,
    ⟨r0_38, column 6 slices_S8x2048_o6_0_S1x2048 slices_S8x4_o6_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_23) (View.ld x4 r0_24)⟩,
    ⟨r0_37, column 5 slices_S8x2048_o5_0_S1x2048 slices_S8x4_o5_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_20) (View.ld x4 r0_21)⟩,
    ⟨r0_36, column 4 slices_S8x2048_o4_0_S1x2048 slices_S8x4_o4_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_17) (View.ld x4 r0_18)⟩,
    ⟨r0_35, column 3 slices_S8x2048_o3_0_S1x2048 slices_S8x4_o3_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_14) (View.ld x4 r0_15)⟩,
    ⟨r0_34, column 2 slices_S8x2048_o2_0_S1x2048 slices_S8x4_o2_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_11) (View.ld x4 r0_12)⟩,
    ⟨r0_33, column 1 slices_S8x2048_o1_0_S1x2048 slices_S8x4_o1_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_8) (View.ld x4 r0_9)⟩,
    ⟨r0_32, column 0 slices_S8x2048_o0_0_S1x2048 slices_S8x4_o0_0_S1x4 (keptWeights (View.ld x0 r0_29) (View.ld x5 r0_30) (View.ld x6 r0_31) (View.ld x1 r0_2) (View.ld x3 r0_4)) (newWeights (View.ld x0 r0_29) (View.ld x5 r0_30) (View.ld x6 r0_31) (View.ld x1 r0_2) (View.ld x3 r0_4)) (View.ld x2 r0_5) (View.ld x4 r0_6)⟩,
    ⟨r0_28, column 7 slices_S8x2048_o7_0_S1x2048 slices_S8x4_o7_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_26) (View.ld x4 r0_27)⟩,
    ⟨r0_25, column 6 slices_S8x2048_o6_0_S1x2048 slices_S8x4_o6_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_23) (View.ld x4 r0_24)⟩,
    ⟨r0_22, column 5 slices_S8x2048_o5_0_S1x2048 slices_S8x4_o5_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_20) (View.ld x4 r0_21)⟩,
    ⟨r0_19, column 4 slices_S8x2048_o4_0_S1x2048 slices_S8x4_o4_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_17) (View.ld x4 r0_18)⟩,
    ⟨r0_16, column 3 slices_S8x2048_o3_0_S1x2048 slices_S8x4_o3_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_14) (View.ld x4 r0_15)⟩,
    ⟨r0_13, column 2 slices_S8x2048_o2_0_S1x2048 slices_S8x4_o2_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_11) (View.ld x4 r0_12)⟩,
    ⟨r0_10, column 1 slices_S8x2048_o1_0_S1x2048 slices_S8x4_o1_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_8) (View.ld x4 r0_9)⟩,
    ⟨r0_7, column 0 slices_S8x2048_o0_0_S1x2048 slices_S8x4_o0_0_S1x4 (keptWeights (View.ld x0 r0_0) (View.ld x5 r0_1) (View.ld x6 r0_3) (View.ld x1 r0_2) (View.ld x3 r0_4)) (newWeights (View.ld x0 r0_0) (View.ld x5 r0_1) (View.ld x6 r0_3) (View.ld x1 r0_2) (View.ld x3 r0_4)) (View.ld x2 r0_5) (View.ld x4 r0_6)⟩] := rfl
end

theorem first5 (x : S1x1x1x64x1.Idx) : ∃ d : Fin 64, x = ix5 (n0 := 1) (n1 := 1) (n2 := 1) (n4 := 1) 0 0 0 d 0 := by
  refine ⟨x 3, ?_⟩
  funext a
  match a with
  | ⟨0, _⟩ => exact Fin.ext (by have := (x 0).isLt; change (x 0).val < 1 at this; show (x 0).val = 0; omega)
  | ⟨1, _⟩ => exact Fin.ext (by have := (x 1).isLt; change (x 1).val < 1 at this; show (x 1).val = 0; omega)
  | ⟨2, _⟩ => exact Fin.ext (by have := (x 2).isLt; change (x 2).val < 1 at this; show (x 2).val = 0; omega)
  | ⟨3, _⟩ => rfl
  | ⟨4, _⟩ => exact Fin.ext (by have := (x 4).isLt; change (x 4).val < 1 at this; show (x 4).val = 0; omega)

/-- What the reference leaves in a point's block. -/
def blockOut (t : Fin cfg0.N) (y : S1x4x8x64x1.Idx) : EReal :=
  (val_main_v161 (F := Ideal) (A0 m c) (A1 m c) (A2 m c) (A3 m c) (A4 m c) : S128x4x8x64x1.Idx → EReal) (ix5 (seq t) ⟨(y 1).val, (y 1).isLt⟩ ⟨(y 2).val, (y 2).isLt⟩ ⟨(y 3).val, (y 3).isLt⟩ 0)

theorem blockOut_at (t : Fin cfg0.N) (y : S1x4x8x64x1.Idx) (i : Fin 4) (h : Fin 8) (d : Fin 64) (e1 : (y 1).val = i.val) (e2 : (y 2).val = h.val) (e3 : (y 3).val = d.val) :
    blockOut m c t y = (val_main_v161 (F := Ideal) (A0 m c) (A1 m c) (A2 m c) (A3 m c) (A4 m c) : S128x4x8x64x1.Idx → EReal) (ix5 (seq t) i h d 0) := by
  have h1 : (⟨(y 1).val, (y 1).isLt⟩ : Fin 4) = i := Fin.ext e1
  have h2 : (⟨(y 2).val, (y 2).isLt⟩ : Fin 8) = h := Fin.ext e2
  have h3 : (⟨(y 3).val, (y 3).isLt⟩ : Fin 64) = d := Fin.ext e3
  unfold blockOut
  rw [h1, h2, h3]

theorem piece00 (f0 : New (A0 m c)) (f1 : New (A1 m c)) (f3 : Kept (A3 m c)) (t : Fin cfg0.N) (d : Fin 64) :
    column 0 slices_S8x2048_o0_0_S1x2048 slices_S8x4_o0_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_5) (View.ld (iblk m c 4 t) r0_6) (ix5 0 0 0 d 0) = (val_main_v161 (F := Ideal) (A0 m c) (A1 m c) (A2 m c) (A3 m c) (A4 m c) : S128x4x8x64x1.Idx → EReal) (ix5 (seq t) 0 0 d 0) := by
  rw [column0_at]
  exact query_at _ _ _ _ _ f0 f1 f3 (seq t) 0 0 d _ _ _ _ _ _ _
    (fun x => (load_q0 _ 0 x).trans (window0_at m c t 0 0 x)) (fun n => (load_cc0 _ n).trans (window5_at m c t 0 n)) (fun n => (load_cn0 _ n).trans (window6_at m c t 0 n))
    (fun x n => (load_k _ 0 x n).trans (window1_at m c t 0 x n)) (fun x n => (load_kn _ 0 x n).trans (window3_at m c t 0 x n))
    (fun n => (load_v0 _ d n).trans (window2_at m c t 0 d n)) (fun n => (load_w0 _ d n).trans (window4_at m c t 0 d n))
theorem piece01 (f0 : New (A0 m c)) (f1 : New (A1 m c)) (f3 : Kept (A3 m c)) (t : Fin cfg0.N) (d : Fin 64) :
    column 1 slices_S8x2048_o1_0_S1x2048 slices_S8x4_o1_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_8) (View.ld (iblk m c 4 t) r0_9) (ix5 0 0 0 d 0) = (val_main_v161 (F := Ideal) (A0 m c) (A1 m c) (A2 m c) (A3 m c) (A4 m c) : S128x4x8x64x1.Idx → EReal) (ix5 (seq t) 0 1 d 0) := by
  rw [column1_at]
  exact query_at _ _ _ _ _ f0 f1 f3 (seq t) 0 1 d _ _ _ _ _ _ _
    (fun x => (load_q0 _ 1 x).trans (window0_at m c t 0 1 x)) (fun n => (load_cc0 _ n).trans (window5_at m c t 0 n)) (fun n => (load_cn0 _ n).trans (window6_at m c t 0 n))
    (fun x n => (load_k _ 1 x n).trans (window1_at m c t 1 x n)) (fun x n => (load_kn _ 1 x n).trans (window3_at m c t 1 x n))
    (fun n => (load_v1 _ d n).trans (window2_at m c t 1 d n)) (fun n => (load_w1 _ d n).trans (window4_at m c t 1 d n))
theorem piece02 (f0 : New (A0 m c)) (f1 : New (A1 m c)) (f3 : Kept (A3 m c)) (t : Fin cfg0.N) (d : Fin 64) :
    column 2 slices_S8x2048_o2_0_S1x2048 slices_S8x4_o2_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_11) (View.ld (iblk m c 4 t) r0_12) (ix5 0 0 0 d 0) = (val_main_v161 (F := Ideal) (A0 m c) (A1 m c) (A2 m c) (A3 m c) (A4 m c) : S128x4x8x64x1.Idx → EReal) (ix5 (seq t) 0 2 d 0) := by
  rw [column2_at]
  exact query_at _ _ _ _ _ f0 f1 f3 (seq t) 0 2 d _ _ _ _ _ _ _
    (fun x => (load_q0 _ 2 x).trans (window0_at m c t 0 2 x)) (fun n => (load_cc0 _ n).trans (window5_at m c t 0 n)) (fun n => (load_cn0 _ n).trans (window6_at m c t 0 n))
    (fun x n => (load_k _ 2 x n).trans (window1_at m c t 2 x n)) (fun x n => (load_kn _ 2 x n).trans (window3_at m c t 2 x n))
    (fun n => (load_v2 _ d n).trans (window2_at m c t 2 d n)) (fun n => (load_w2 _ d n).trans (window4_at m c t 2 d n))
theorem piece03 (f0 : New (A0 m c)) (f1 : New (A1 m c)) (f3 : Kept (A3 m c)) (t : Fin cfg0.N) (d : Fin 64) :
    column 3 slices_S8x2048_o3_0_S1x2048 slices_S8x4_o3_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_14) (View.ld (iblk m c 4 t) r0_15) (ix5 0 0 0 d 0) = (val_main_v161 (F := Ideal) (A0 m c) (A1 m c) (A2 m c) (A3 m c) (A4 m c) : S128x4x8x64x1.Idx → EReal) (ix5 (seq t) 0 3 d 0) := by
  rw [column3_at]
  exact query_at _ _ _ _ _ f0 f1 f3 (seq t) 0 3 d _ _ _ _ _ _ _
    (fun x => (load_q0 _ 3 x).trans (window0_at m c t 0 3 x)) (fun n => (load_cc0 _ n).trans (window5_at m c t 0 n)) (fun n => (load_cn0 _ n).trans (window6_at m c t 0 n))
    (fun x n => (load_k _ 3 x n).trans (window1_at m c t 3 x n)) (fun x n => (load_kn _ 3 x n).trans (window3_at m c t 3 x n))
    (fun n => (load_v3 _ d n).trans (window2_at m c t 3 d n)) (fun n => (load_w3 _ d n).trans (window4_at m c t 3 d n))
theorem piece04 (f0 : New (A0 m c)) (f1 : New (A1 m c)) (f3 : Kept (A3 m c)) (t : Fin cfg0.N) (d : Fin 64) :
    column 4 slices_S8x2048_o4_0_S1x2048 slices_S8x4_o4_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_17) (View.ld (iblk m c 4 t) r0_18) (ix5 0 0 0 d 0) = (val_main_v161 (F := Ideal) (A0 m c) (A1 m c) (A2 m c) (A3 m c) (A4 m c) : S128x4x8x64x1.Idx → EReal) (ix5 (seq t) 0 4 d 0) := by
  rw [column4_at]
  exact query_at _ _ _ _ _ f0 f1 f3 (seq t) 0 4 d _ _ _ _ _ _ _
    (fun x => (load_q0 _ 4 x).trans (window0_at m c t 0 4 x)) (fun n => (load_cc0 _ n).trans (window5_at m c t 0 n)) (fun n => (load_cn0 _ n).trans (window6_at m c t 0 n))
    (fun x n => (load_k _ 4 x n).trans (window1_at m c t 4 x n)) (fun x n => (load_kn _ 4 x n).trans (window3_at m c t 4 x n))
    (fun n => (load_v4 _ d n).trans (window2_at m c t 4 d n)) (fun n => (load_w4 _ d n).trans (window4_at m c t 4 d n))
theorem piece05 (f0 : New (A0 m c)) (f1 : New (A1 m c)) (f3 : Kept (A3 m c)) (t : Fin cfg0.N) (d : Fin 64) :
    column 5 slices_S8x2048_o5_0_S1x2048 slices_S8x4_o5_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_20) (View.ld (iblk m c 4 t) r0_21) (ix5 0 0 0 d 0) = (val_main_v161 (F := Ideal) (A0 m c) (A1 m c) (A2 m c) (A3 m c) (A4 m c) : S128x4x8x64x1.Idx → EReal) (ix5 (seq t) 0 5 d 0) := by
  rw [column5_at]
  exact query_at _ _ _ _ _ f0 f1 f3 (seq t) 0 5 d _ _ _ _ _ _ _
    (fun x => (load_q0 _ 5 x).trans (window0_at m c t 0 5 x)) (fun n => (load_cc0 _ n).trans (window5_at m c t 0 n)) (fun n => (load_cn0 _ n).trans (window6_at m c t 0 n))
    (fun x n => (load_k _ 5 x n).trans (window1_at m c t 5 x n)) (fun x n => (load_kn _ 5 x n).trans (window3_at m c t 5 x n))
    (fun n => (load_v5 _ d n).trans (window2_at m c t 5 d n)) (fun n => (load_w5 _ d n).trans (window4_at m c t 5 d n))
theorem piece06 (f0 : New (A0 m c)) (f1 : New (A1 m c)) (f3 : Kept (A3 m c)) (t : Fin cfg0.N) (d : Fin 64) :
    column 6 slices_S8x2048_o6_0_S1x2048 slices_S8x4_o6_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_23) (View.ld (iblk m c 4 t) r0_24) (ix5 0 0 0 d 0) = (val_main_v161 (F := Ideal) (A0 m c) (A1 m c) (A2 m c) (A3 m c) (A4 m c) : S128x4x8x64x1.Idx → EReal) (ix5 (seq t) 0 6 d 0) := by
  rw [column6_at]
  exact query_at _ _ _ _ _ f0 f1 f3 (seq t) 0 6 d _ _ _ _ _ _ _
    (fun x => (load_q0 _ 6 x).trans (window0_at m c t 0 6 x)) (fun n => (load_cc0 _ n).trans (window5_at m c t 0 n)) (fun n => (load_cn0 _ n).trans (window6_at m c t 0 n))
    (fun x n => (load_k _ 6 x n).trans (window1_at m c t 6 x n)) (fun x n => (load_kn _ 6 x n).trans (window3_at m c t 6 x n))
    (fun n => (load_v6 _ d n).trans (window2_at m c t 6 d n)) (fun n => (load_w6 _ d n).trans (window4_at m c t 6 d n))
theorem piece07 (f0 : New (A0 m c)) (f1 : New (A1 m c)) (f3 : Kept (A3 m c)) (t : Fin cfg0.N) (d : Fin 64) :
    column 7 slices_S8x2048_o7_0_S1x2048 slices_S8x4_o7_0_S1x4 (keptWeights (View.ld (iblk m c 0 t) r0_0) (View.ld (iblk m c 5 t) r0_1) (View.ld (iblk m c 6 t) r0_3) (View.ld (iblk m c 1 t) r0_2) (View.ld (iblk m c 3 t) r0_4)) (newWeights (View.ld (iblk m c 0 t) r0_0) (View.ld (iblk m c 5 t) r0_1) (View.ld (iblk m c 6 t) r0_3) (View.ld (iblk m c 1 t) r0_2) (View.ld (iblk m c 3 t) r0_4)) (View.ld (iblk m c 2 t) r0_26) (View.ld (iblk m c 4 t) r0_27) (ix5 0 0 0 d 0) = (val_main_v161 (F := Ideal) (A0 m c) (A1 m c) (A2 m c) (A3 m c) (A4 m c) : S128x4x8x64x1.Idx → EReal) (ix5 (seq t) 0 7 d 0) := by
  rw [column7_at]
  exact query_at _ _ _ _ _ f0 f1 f3 (seq t) 0 7 d _ _ _ _ _ _ _
    (fun x => (load_q0 _ 7 x).trans (window0_at m c t 0 7 x)) (fun n => (load_cc0 _ n).trans (window5_at m c t 0 n)) (fun n => (load_cn0 _ n).trans (window6_at m c t 0 n))
    (fun x n => (load_k _ 7 x n).trans (window1_at m c t 7 x n)) (fun x n => (load_kn _ 7 x n).trans (window3_at m c t 7 x n))
    (fun n => (load_v7 _ d n).trans (window2_at m c t 7 d n)) (fun n => (load_w7 _ d n).trans (window4_at m c t 7 d n))
theorem piece10 (f0 : New (A0 m c)) (f1 : New (A1 m c)) (f3 : Kept (A3 m c)) (t : Fin cfg0.N) (d : Fin 64) :
    column 0 slices_S8x2048_o0_0_S1x2048 slices_S8x4_o0_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_5) (View.ld (iblk m c 4 t) r0_6) (ix5 0 0 0 d 0) = (val_main_v161 (F := Ideal) (A0 m c) (A1 m c) (A2 m c) (A3 m c) (A4 m c) : S128x4x8x64x1.Idx → EReal) (ix5 (seq t) 1 0 d 0) := by
  rw [column0_at]
  exact query_at _ _ _ _ _ f0 f1 f3 (seq t) 1 0 d _ _ _ _ _ _ _
    (fun x => (load_q1 _ 0 x).trans (window0_at m c t 1 0 x)) (fun n => (load_cc1 _ n).trans (window5_at m c t 1 n)) (fun n => (load_cn1 _ n).trans (window6_at m c t 1 n))
    (fun x n => (load_k _ 0 x n).trans (window1_at m c t 0 x n)) (fun x n => (load_kn _ 0 x n).trans (window3_at m c t 0 x n))
    (fun n => (load_v0 _ d n).trans (window2_at m c t 0 d n)) (fun n => (load_w0 _ d n).trans (window4_at m c t 0 d n))
theorem piece11 (f0 : New (A0 m c)) (f1 : New (A1 m c)) (f3 : Kept (A3 m c)) (t : Fin cfg0.N) (d : Fin 64) :
    column 1 slices_S8x2048_o1_0_S1x2048 slices_S8x4_o1_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_8) (View.ld (iblk m c 4 t) r0_9) (ix5 0 0 0 d 0) = (val_main_v161 (F := Ideal) (A0 m c) (A1 m c) (A2 m c) (A3 m c) (A4 m c) : S128x4x8x64x1.Idx → EReal) (ix5 (seq t) 1 1 d 0) := by
  rw [column1_at]
  exact query_at _ _ _ _ _ f0 f1 f3 (seq t) 1 1 d _ _ _ _ _ _ _
    (fun x => (load_q1 _ 1 x).trans (window0_at m c t 1 1 x)) (fun n => (load_cc1 _ n).trans (window5_at m c t 1 n)) (fun n => (load_cn1 _ n).trans (window6_at m c t 1 n))
    (fun x n => (load_k _ 1 x n).trans (window1_at m c t 1 x n)) (fun x n => (load_kn _ 1 x n).trans (window3_at m c t 1 x n))
    (fun n => (load_v1 _ d n).trans (window2_at m c t 1 d n)) (fun n => (load_w1 _ d n).trans (window4_at m c t 1 d n))
theorem piece12 (f0 : New (A0 m c)) (f1 : New (A1 m c)) (f3 : Kept (A3 m c)) (t : Fin cfg0.N) (d : Fin 64) :
    column 2 slices_S8x2048_o2_0_S1x2048 slices_S8x4_o2_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_11) (View.ld (iblk m c 4 t) r0_12) (ix5 0 0 0 d 0) = (val_main_v161 (F := Ideal) (A0 m c) (A1 m c) (A2 m c) (A3 m c) (A4 m c) : S128x4x8x64x1.Idx → EReal) (ix5 (seq t) 1 2 d 0) := by
  rw [column2_at]
  exact query_at _ _ _ _ _ f0 f1 f3 (seq t) 1 2 d _ _ _ _ _ _ _
    (fun x => (load_q1 _ 2 x).trans (window0_at m c t 1 2 x)) (fun n => (load_cc1 _ n).trans (window5_at m c t 1 n)) (fun n => (load_cn1 _ n).trans (window6_at m c t 1 n))
    (fun x n => (load_k _ 2 x n).trans (window1_at m c t 2 x n)) (fun x n => (load_kn _ 2 x n).trans (window3_at m c t 2 x n))
    (fun n => (load_v2 _ d n).trans (window2_at m c t 2 d n)) (fun n => (load_w2 _ d n).trans (window4_at m c t 2 d n))
theorem piece13 (f0 : New (A0 m c)) (f1 : New (A1 m c)) (f3 : Kept (A3 m c)) (t : Fin cfg0.N) (d : Fin 64) :
    column 3 slices_S8x2048_o3_0_S1x2048 slices_S8x4_o3_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_14) (View.ld (iblk m c 4 t) r0_15) (ix5 0 0 0 d 0) = (val_main_v161 (F := Ideal) (A0 m c) (A1 m c) (A2 m c) (A3 m c) (A4 m c) : S128x4x8x64x1.Idx → EReal) (ix5 (seq t) 1 3 d 0) := by
  rw [column3_at]
  exact query_at _ _ _ _ _ f0 f1 f3 (seq t) 1 3 d _ _ _ _ _ _ _
    (fun x => (load_q1 _ 3 x).trans (window0_at m c t 1 3 x)) (fun n => (load_cc1 _ n).trans (window5_at m c t 1 n)) (fun n => (load_cn1 _ n).trans (window6_at m c t 1 n))
    (fun x n => (load_k _ 3 x n).trans (window1_at m c t 3 x n)) (fun x n => (load_kn _ 3 x n).trans (window3_at m c t 3 x n))
    (fun n => (load_v3 _ d n).trans (window2_at m c t 3 d n)) (fun n => (load_w3 _ d n).trans (window4_at m c t 3 d n))
theorem piece14 (f0 : New (A0 m c)) (f1 : New (A1 m c)) (f3 : Kept (A3 m c)) (t : Fin cfg0.N) (d : Fin 64) :
    column 4 slices_S8x2048_o4_0_S1x2048 slices_S8x4_o4_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_17) (View.ld (iblk m c 4 t) r0_18) (ix5 0 0 0 d 0) = (val_main_v161 (F := Ideal) (A0 m c) (A1 m c) (A2 m c) (A3 m c) (A4 m c) : S128x4x8x64x1.Idx → EReal) (ix5 (seq t) 1 4 d 0) := by
  rw [column4_at]
  exact query_at _ _ _ _ _ f0 f1 f3 (seq t) 1 4 d _ _ _ _ _ _ _
    (fun x => (load_q1 _ 4 x).trans (window0_at m c t 1 4 x)) (fun n => (load_cc1 _ n).trans (window5_at m c t 1 n)) (fun n => (load_cn1 _ n).trans (window6_at m c t 1 n))
    (fun x n => (load_k _ 4 x n).trans (window1_at m c t 4 x n)) (fun x n => (load_kn _ 4 x n).trans (window3_at m c t 4 x n))
    (fun n => (load_v4 _ d n).trans (window2_at m c t 4 d n)) (fun n => (load_w4 _ d n).trans (window4_at m c t 4 d n))
theorem piece15 (f0 : New (A0 m c)) (f1 : New (A1 m c)) (f3 : Kept (A3 m c)) (t : Fin cfg0.N) (d : Fin 64) :
    column 5 slices_S8x2048_o5_0_S1x2048 slices_S8x4_o5_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_20) (View.ld (iblk m c 4 t) r0_21) (ix5 0 0 0 d 0) = (val_main_v161 (F := Ideal) (A0 m c) (A1 m c) (A2 m c) (A3 m c) (A4 m c) : S128x4x8x64x1.Idx → EReal) (ix5 (seq t) 1 5 d 0) := by
  rw [column5_at]
  exact query_at _ _ _ _ _ f0 f1 f3 (seq t) 1 5 d _ _ _ _ _ _ _
    (fun x => (load_q1 _ 5 x).trans (window0_at m c t 1 5 x)) (fun n => (load_cc1 _ n).trans (window5_at m c t 1 n)) (fun n => (load_cn1 _ n).trans (window6_at m c t 1 n))
    (fun x n => (load_k _ 5 x n).trans (window1_at m c t 5 x n)) (fun x n => (load_kn _ 5 x n).trans (window3_at m c t 5 x n))
    (fun n => (load_v5 _ d n).trans (window2_at m c t 5 d n)) (fun n => (load_w5 _ d n).trans (window4_at m c t 5 d n))
theorem piece16 (f0 : New (A0 m c)) (f1 : New (A1 m c)) (f3 : Kept (A3 m c)) (t : Fin cfg0.N) (d : Fin 64) :
    column 6 slices_S8x2048_o6_0_S1x2048 slices_S8x4_o6_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_23) (View.ld (iblk m c 4 t) r0_24) (ix5 0 0 0 d 0) = (val_main_v161 (F := Ideal) (A0 m c) (A1 m c) (A2 m c) (A3 m c) (A4 m c) : S128x4x8x64x1.Idx → EReal) (ix5 (seq t) 1 6 d 0) := by
  rw [column6_at]
  exact query_at _ _ _ _ _ f0 f1 f3 (seq t) 1 6 d _ _ _ _ _ _ _
    (fun x => (load_q1 _ 6 x).trans (window0_at m c t 1 6 x)) (fun n => (load_cc1 _ n).trans (window5_at m c t 1 n)) (fun n => (load_cn1 _ n).trans (window6_at m c t 1 n))
    (fun x n => (load_k _ 6 x n).trans (window1_at m c t 6 x n)) (fun x n => (load_kn _ 6 x n).trans (window3_at m c t 6 x n))
    (fun n => (load_v6 _ d n).trans (window2_at m c t 6 d n)) (fun n => (load_w6 _ d n).trans (window4_at m c t 6 d n))
theorem piece17 (f0 : New (A0 m c)) (f1 : New (A1 m c)) (f3 : Kept (A3 m c)) (t : Fin cfg0.N) (d : Fin 64) :
    column 7 slices_S8x2048_o7_0_S1x2048 slices_S8x4_o7_0_S1x4 (keptWeights (View.ld (iblk m c 0 t) r0_29) (View.ld (iblk m c 5 t) r0_30) (View.ld (iblk m c 6 t) r0_31) (View.ld (iblk m c 1 t) r0_2) (View.ld (iblk m c 3 t) r0_4)) (newWeights (View.ld (iblk m c 0 t) r0_29) (View.ld (iblk m c 5 t) r0_30) (View.ld (iblk m c 6 t) r0_31) (View.ld (iblk m c 1 t) r0_2) (View.ld (iblk m c 3 t) r0_4)) (View.ld (iblk m c 2 t) r0_26) (View.ld (iblk m c 4 t) r0_27) (ix5 0 0 0 d 0) = (val_main_v161 (F := Ideal) (A0 m c) (A1 m c) (A2 m c) (A3 m c) (A4 m c) : S128x4x8x64x1.Idx → EReal) (ix5 (seq t) 1 7 d 0) := by
  rw [column7_at]
  exact query_at _ _ _ _ _ f0 f1 f3 (seq t) 1 7 d _ _ _ _ _ _ _
    (fun x => (load_q1 _ 7 x).trans (window0_at m c t 1 7 x)) (fun n => (load_cc1 _ n).trans (window5_at m c t 1 n)) (fun n => (load_cn1 _ n).trans (window6_at m c t 1 n))
    (fun x n => (load_k _ 7 x n).trans (window1_at m c t 7 x n)) (fun x n => (load_kn _ 7 x n).trans (window3_at m c t 7 x n))
    (fun n => (load_v7 _ d n).trans (window2_at m c t 7 d n)) (fun n => (load_w7 _ d n).trans (window4_at m c t 7 d n))
theorem piece20 (f0 : New (A0 m c)) (f1 : New (A1 m c)) (f3 : Kept (A3 m c)) (t : Fin cfg0.N) (d : Fin 64) :
    column 0 slices_S8x2048_o0_0_S1x2048 slices_S8x4_o0_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_5) (View.ld (iblk m c 4 t) r0_6) (ix5 0 0 0 d 0) = (val_main_v161 (F := Ideal) (A0 m c) (A1 m c) (A2 m c) (A3 m c) (A4 m c) : S128x4x8x64x1.Idx → EReal) (ix5 (seq t) 2 0 d 0) := by
  rw [column0_at]
  exact query_at _ _ _ _ _ f0 f1 f3 (seq t) 2 0 d _ _ _ _ _ _ _
    (fun x => (load_q2 _ 0 x).trans (window0_at m c t 2 0 x)) (fun n => (load_cc2 _ n).trans (window5_at m c t 2 n)) (fun n => (load_cn2 _ n).trans (window6_at m c t 2 n))
    (fun x n => (load_k _ 0 x n).trans (window1_at m c t 0 x n)) (fun x n => (load_kn _ 0 x n).trans (window3_at m c t 0 x n))
    (fun n => (load_v0 _ d n).trans (window2_at m c t 0 d n)) (fun n => (load_w0 _ d n).trans (window4_at m c t 0 d n))
theorem piece21 (f0 : New (A0 m c)) (f1 : New (A1 m c)) (f3 : Kept (A3 m c)) (t : Fin cfg0.N) (d : Fin 64) :
    column 1 slices_S8x2048_o1_0_S1x2048 slices_S8x4_o1_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_8) (View.ld (iblk m c 4 t) r0_9) (ix5 0 0 0 d 0) = (val_main_v161 (F := Ideal) (A0 m c) (A1 m c) (A2 m c) (A3 m c) (A4 m c) : S128x4x8x64x1.Idx → EReal) (ix5 (seq t) 2 1 d 0) := by
  rw [column1_at]
  exact query_at _ _ _ _ _ f0 f1 f3 (seq t) 2 1 d _ _ _ _ _ _ _
    (fun x => (load_q2 _ 1 x).trans (window0_at m c t 2 1 x)) (fun n => (load_cc2 _ n).trans (window5_at m c t 2 n)) (fun n => (load_cn2 _ n).trans (window6_at m c t 2 n))
    (fun x n => (load_k _ 1 x n).trans (window1_at m c t 1 x n)) (fun x n => (load_kn _ 1 x n).trans (window3_at m c t 1 x n))
    (fun n => (load_v1 _ d n).trans (window2_at m c t 1 d n)) (fun n => (load_w1 _ d n).trans (window4_at m c t 1 d n))
theorem piece22 (f0 : New (A0 m c)) (f1 : New (A1 m c)) (f3 : Kept (A3 m c)) (t : Fin cfg0.N) (d : Fin 64) :
    column 2 slices_S8x2048_o2_0_S1x2048 slices_S8x4_o2_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_11) (View.ld (iblk m c 4 t) r0_12) (ix5 0 0 0 d 0) = (val_main_v161 (F := Ideal) (A0 m c) (A1 m c) (A2 m c) (A3 m c) (A4 m c) : S128x4x8x64x1.Idx → EReal) (ix5 (seq t) 2 2 d 0) := by
  rw [column2_at]
  exact query_at _ _ _ _ _ f0 f1 f3 (seq t) 2 2 d _ _ _ _ _ _ _
    (fun x => (load_q2 _ 2 x).trans (window0_at m c t 2 2 x)) (fun n => (load_cc2 _ n).trans (window5_at m c t 2 n)) (fun n => (load_cn2 _ n).trans (window6_at m c t 2 n))
    (fun x n => (load_k _ 2 x n).trans (window1_at m c t 2 x n)) (fun x n => (load_kn _ 2 x n).trans (window3_at m c t 2 x n))
    (fun n => (load_v2 _ d n).trans (window2_at m c t 2 d n)) (fun n => (load_w2 _ d n).trans (window4_at m c t 2 d n))
theorem piece23 (f0 : New (A0 m c)) (f1 : New (A1 m c)) (f3 : Kept (A3 m c)) (t : Fin cfg0.N) (d : Fin 64) :
    column 3 slices_S8x2048_o3_0_S1x2048 slices_S8x4_o3_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_14) (View.ld (iblk m c 4 t) r0_15) (ix5 0 0 0 d 0) = (val_main_v161 (F := Ideal) (A0 m c) (A1 m c) (A2 m c) (A3 m c) (A4 m c) : S128x4x8x64x1.Idx → EReal) (ix5 (seq t) 2 3 d 0) := by
  rw [column3_at]
  exact query_at _ _ _ _ _ f0 f1 f3 (seq t) 2 3 d _ _ _ _ _ _ _
    (fun x => (load_q2 _ 3 x).trans (window0_at m c t 2 3 x)) (fun n => (load_cc2 _ n).trans (window5_at m c t 2 n)) (fun n => (load_cn2 _ n).trans (window6_at m c t 2 n))
    (fun x n => (load_k _ 3 x n).trans (window1_at m c t 3 x n)) (fun x n => (load_kn _ 3 x n).trans (window3_at m c t 3 x n))
    (fun n => (load_v3 _ d n).trans (window2_at m c t 3 d n)) (fun n => (load_w3 _ d n).trans (window4_at m c t 3 d n))
theorem piece24 (f0 : New (A0 m c)) (f1 : New (A1 m c)) (f3 : Kept (A3 m c)) (t : Fin cfg0.N) (d : Fin 64) :
    column 4 slices_S8x2048_o4_0_S1x2048 slices_S8x4_o4_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_17) (View.ld (iblk m c 4 t) r0_18) (ix5 0 0 0 d 0) = (val_main_v161 (F := Ideal) (A0 m c) (A1 m c) (A2 m c) (A3 m c) (A4 m c) : S128x4x8x64x1.Idx → EReal) (ix5 (seq t) 2 4 d 0) := by
  rw [column4_at]
  exact query_at _ _ _ _ _ f0 f1 f3 (seq t) 2 4 d _ _ _ _ _ _ _
    (fun x => (load_q2 _ 4 x).trans (window0_at m c t 2 4 x)) (fun n => (load_cc2 _ n).trans (window5_at m c t 2 n)) (fun n => (load_cn2 _ n).trans (window6_at m c t 2 n))
    (fun x n => (load_k _ 4 x n).trans (window1_at m c t 4 x n)) (fun x n => (load_kn _ 4 x n).trans (window3_at m c t 4 x n))
    (fun n => (load_v4 _ d n).trans (window2_at m c t 4 d n)) (fun n => (load_w4 _ d n).trans (window4_at m c t 4 d n))
theorem piece25 (f0 : New (A0 m c)) (f1 : New (A1 m c)) (f3 : Kept (A3 m c)) (t : Fin cfg0.N) (d : Fin 64) :
    column 5 slices_S8x2048_o5_0_S1x2048 slices_S8x4_o5_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_20) (View.ld (iblk m c 4 t) r0_21) (ix5 0 0 0 d 0) = (val_main_v161 (F := Ideal) (A0 m c) (A1 m c) (A2 m c) (A3 m c) (A4 m c) : S128x4x8x64x1.Idx → EReal) (ix5 (seq t) 2 5 d 0) := by
  rw [column5_at]
  exact query_at _ _ _ _ _ f0 f1 f3 (seq t) 2 5 d _ _ _ _ _ _ _
    (fun x => (load_q2 _ 5 x).trans (window0_at m c t 2 5 x)) (fun n => (load_cc2 _ n).trans (window5_at m c t 2 n)) (fun n => (load_cn2 _ n).trans (window6_at m c t 2 n))
    (fun x n => (load_k _ 5 x n).trans (window1_at m c t 5 x n)) (fun x n => (load_kn _ 5 x n).trans (window3_at m c t 5 x n))
    (fun n => (load_v5 _ d n).trans (window2_at m c t 5 d n)) (fun n => (load_w5 _ d n).trans (window4_at m c t 5 d n))
theorem piece26 (f0 : New (A0 m c)) (f1 : New (A1 m c)) (f3 : Kept (A3 m c)) (t : Fin cfg0.N) (d : Fin 64) :
    column 6 slices_S8x2048_o6_0_S1x2048 slices_S8x4_o6_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_23) (View.ld (iblk m c 4 t) r0_24) (ix5 0 0 0 d 0) = (val_main_v161 (F := Ideal) (A0 m c) (A1 m c) (A2 m c) (A3 m c) (A4 m c) : S128x4x8x64x1.Idx → EReal) (ix5 (seq t) 2 6 d 0) := by
  rw [column6_at]
  exact query_at _ _ _ _ _ f0 f1 f3 (seq t) 2 6 d _ _ _ _ _ _ _
    (fun x => (load_q2 _ 6 x).trans (window0_at m c t 2 6 x)) (fun n => (load_cc2 _ n).trans (window5_at m c t 2 n)) (fun n => (load_cn2 _ n).trans (window6_at m c t 2 n))
    (fun x n => (load_k _ 6 x n).trans (window1_at m c t 6 x n)) (fun x n => (load_kn _ 6 x n).trans (window3_at m c t 6 x n))
    (fun n => (load_v6 _ d n).trans (window2_at m c t 6 d n)) (fun n => (load_w6 _ d n).trans (window4_at m c t 6 d n))
theorem piece27 (f0 : New (A0 m c)) (f1 : New (A1 m c)) (f3 : Kept (A3 m c)) (t : Fin cfg0.N) (d : Fin 64) :
    column 7 slices_S8x2048_o7_0_S1x2048 slices_S8x4_o7_0_S1x4 (keptWeights (View.ld (iblk m c 0 t) r0_40) (View.ld (iblk m c 5 t) r0_41) (View.ld (iblk m c 6 t) r0_42) (View.ld (iblk m c 1 t) r0_2) (View.ld (iblk m c 3 t) r0_4)) (newWeights (View.ld (iblk m c 0 t) r0_40) (View.ld (iblk m c 5 t) r0_41) (View.ld (iblk m c 6 t) r0_42) (View.ld (iblk m c 1 t) r0_2) (View.ld (iblk m c 3 t) r0_4)) (View.ld (iblk m c 2 t) r0_26) (View.ld (iblk m c 4 t) r0_27) (ix5 0 0 0 d 0) = (val_main_v161 (F := Ideal) (A0 m c) (A1 m c) (A2 m c) (A3 m c) (A4 m c) : S128x4x8x64x1.Idx → EReal) (ix5 (seq t) 2 7 d 0) := by
  rw [column7_at]
  exact query_at _ _ _ _ _ f0 f1 f3 (seq t) 2 7 d _ _ _ _ _ _ _
    (fun x => (load_q2 _ 7 x).trans (window0_at m c t 2 7 x)) (fun n => (load_cc2 _ n).trans (window5_at m c t 2 n)) (fun n => (load_cn2 _ n).trans (window6_at m c t 2 n))
    (fun x n => (load_k _ 7 x n).trans (window1_at m c t 7 x n)) (fun x n => (load_kn _ 7 x n).trans (window3_at m c t 7 x n))
    (fun n => (load_v7 _ d n).trans (window2_at m c t 7 d n)) (fun n => (load_w7 _ d n).trans (window4_at m c t 7 d n))
theorem piece30 (f0 : New (A0 m c)) (f1 : New (A1 m c)) (f3 : Kept (A3 m c)) (t : Fin cfg0.N) (d : Fin 64) :
    column 0 slices_S8x2048_o0_0_S1x2048 slices_S8x4_o0_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_5) (View.ld (iblk m c 4 t) r0_6) (ix5 0 0 0 d 0) = (val_main_v161 (F := Ideal) (A0 m c) (A1 m c) (A2 m c) (A3 m c) (A4 m c) : S128x4x8x64x1.Idx → EReal) (ix5 (seq t) 3 0 d 0) := by
  rw [column0_at]
  exact query_at _ _ _ _ _ f0 f1 f3 (seq t) 3 0 d _ _ _ _ _ _ _
    (fun x => (load_q3 _ 0 x).trans (window0_at m c t 3 0 x)) (fun n => (load_cc3 _ n).trans (window5_at m c t 3 n)) (fun n => (load_cn3 _ n).trans (window6_at m c t 3 n))
    (fun x n => (load_k _ 0 x n).trans (window1_at m c t 0 x n)) (fun x n => (load_kn _ 0 x n).trans (window3_at m c t 0 x n))
    (fun n => (load_v0 _ d n).trans (window2_at m c t 0 d n)) (fun n => (load_w0 _ d n).trans (window4_at m c t 0 d n))
theorem piece31 (f0 : New (A0 m c)) (f1 : New (A1 m c)) (f3 : Kept (A3 m c)) (t : Fin cfg0.N) (d : Fin 64) :
    column 1 slices_S8x2048_o1_0_S1x2048 slices_S8x4_o1_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_8) (View.ld (iblk m c 4 t) r0_9) (ix5 0 0 0 d 0) = (val_main_v161 (F := Ideal) (A0 m c) (A1 m c) (A2 m c) (A3 m c) (A4 m c) : S128x4x8x64x1.Idx → EReal) (ix5 (seq t) 3 1 d 0) := by
  rw [column1_at]
  exact query_at _ _ _ _ _ f0 f1 f3 (seq t) 3 1 d _ _ _ _ _ _ _
    (fun x => (load_q3 _ 1 x).trans (window0_at m c t 3 1 x)) (fun n => (load_cc3 _ n).trans (window5_at m c t 3 n)) (fun n => (load_cn3 _ n).trans (window6_at m c t 3 n))
    (fun x n => (load_k _ 1 x n).trans (window1_at m c t 1 x n)) (fun x n => (load_kn _ 1 x n).trans (window3_at m c t 1 x n))
    (fun n => (load_v1 _ d n).trans (window2_at m c t 1 d n)) (fun n => (load_w1 _ d n).trans (window4_at m c t 1 d n))
theorem piece32 (f0 : New (A0 m c)) (f1 : New (A1 m c)) (f3 : Kept (A3 m c)) (t : Fin cfg0.N) (d : Fin 64) :
    column 2 slices_S8x2048_o2_0_S1x2048 slices_S8x4_o2_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_11) (View.ld (iblk m c 4 t) r0_12) (ix5 0 0 0 d 0) = (val_main_v161 (F := Ideal) (A0 m c) (A1 m c) (A2 m c) (A3 m c) (A4 m c) : S128x4x8x64x1.Idx → EReal) (ix5 (seq t) 3 2 d 0) := by
  rw [column2_at]
  exact query_at _ _ _ _ _ f0 f1 f3 (seq t) 3 2 d _ _ _ _ _ _ _
    (fun x => (load_q3 _ 2 x).trans (window0_at m c t 3 2 x)) (fun n => (load_cc3 _ n).trans (window5_at m c t 3 n)) (fun n => (load_cn3 _ n).trans (window6_at m c t 3 n))
    (fun x n => (load_k _ 2 x n).trans (window1_at m c t 2 x n)) (fun x n => (load_kn _ 2 x n).trans (window3_at m c t 2 x n))
    (fun n => (load_v2 _ d n).trans (window2_at m c t 2 d n)) (fun n => (load_w2 _ d n).trans (window4_at m c t 2 d n))
theorem piece33 (f0 : New (A0 m c)) (f1 : New (A1 m c)) (f3 : Kept (A3 m c)) (t : Fin cfg0.N) (d : Fin 64) :
    column 3 slices_S8x2048_o3_0_S1x2048 slices_S8x4_o3_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_14) (View.ld (iblk m c 4 t) r0_15) (ix5 0 0 0 d 0) = (val_main_v161 (F := Ideal) (A0 m c) (A1 m c) (A2 m c) (A3 m c) (A4 m c) : S128x4x8x64x1.Idx → EReal) (ix5 (seq t) 3 3 d 0) := by
  rw [column3_at]
  exact query_at _ _ _ _ _ f0 f1 f3 (seq t) 3 3 d _ _ _ _ _ _ _
    (fun x => (load_q3 _ 3 x).trans (window0_at m c t 3 3 x)) (fun n => (load_cc3 _ n).trans (window5_at m c t 3 n)) (fun n => (load_cn3 _ n).trans (window6_at m c t 3 n))
    (fun x n => (load_k _ 3 x n).trans (window1_at m c t 3 x n)) (fun x n => (load_kn _ 3 x n).trans (window3_at m c t 3 x n))
    (fun n => (load_v3 _ d n).trans (window2_at m c t 3 d n)) (fun n => (load_w3 _ d n).trans (window4_at m c t 3 d n))
theorem piece34 (f0 : New (A0 m c)) (f1 : New (A1 m c)) (f3 : Kept (A3 m c)) (t : Fin cfg0.N) (d : Fin 64) :
    column 4 slices_S8x2048_o4_0_S1x2048 slices_S8x4_o4_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_17) (View.ld (iblk m c 4 t) r0_18) (ix5 0 0 0 d 0) = (val_main_v161 (F := Ideal) (A0 m c) (A1 m c) (A2 m c) (A3 m c) (A4 m c) : S128x4x8x64x1.Idx → EReal) (ix5 (seq t) 3 4 d 0) := by
  rw [column4_at]
  exact query_at _ _ _ _ _ f0 f1 f3 (seq t) 3 4 d _ _ _ _ _ _ _
    (fun x => (load_q3 _ 4 x).trans (window0_at m c t 3 4 x)) (fun n => (load_cc3 _ n).trans (window5_at m c t 3 n)) (fun n => (load_cn3 _ n).trans (window6_at m c t 3 n))
    (fun x n => (load_k _ 4 x n).trans (window1_at m c t 4 x n)) (fun x n => (load_kn _ 4 x n).trans (window3_at m c t 4 x n))
    (fun n => (load_v4 _ d n).trans (window2_at m c t 4 d n)) (fun n => (load_w4 _ d n).trans (window4_at m c t 4 d n))
theorem piece35 (f0 : New (A0 m c)) (f1 : New (A1 m c)) (f3 : Kept (A3 m c)) (t : Fin cfg0.N) (d : Fin 64) :
    column 5 slices_S8x2048_o5_0_S1x2048 slices_S8x4_o5_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_20) (View.ld (iblk m c 4 t) r0_21) (ix5 0 0 0 d 0) = (val_main_v161 (F := Ideal) (A0 m c) (A1 m c) (A2 m c) (A3 m c) (A4 m c) : S128x4x8x64x1.Idx → EReal) (ix5 (seq t) 3 5 d 0) := by
  rw [column5_at]
  exact query_at _ _ _ _ _ f0 f1 f3 (seq t) 3 5 d _ _ _ _ _ _ _
    (fun x => (load_q3 _ 5 x).trans (window0_at m c t 3 5 x)) (fun n => (load_cc3 _ n).trans (window5_at m c t 3 n)) (fun n => (load_cn3 _ n).trans (window6_at m c t 3 n))
    (fun x n => (load_k _ 5 x n).trans (window1_at m c t 5 x n)) (fun x n => (load_kn _ 5 x n).trans (window3_at m c t 5 x n))
    (fun n => (load_v5 _ d n).trans (window2_at m c t 5 d n)) (fun n => (load_w5 _ d n).trans (window4_at m c t 5 d n))
theorem piece36 (f0 : New (A0 m c)) (f1 : New (A1 m c)) (f3 : Kept (A3 m c)) (t : Fin cfg0.N) (d : Fin 64) :
    column 6 slices_S8x2048_o6_0_S1x2048 slices_S8x4_o6_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_23) (View.ld (iblk m c 4 t) r0_24) (ix5 0 0 0 d 0) = (val_main_v161 (F := Ideal) (A0 m c) (A1 m c) (A2 m c) (A3 m c) (A4 m c) : S128x4x8x64x1.Idx → EReal) (ix5 (seq t) 3 6 d 0) := by
  rw [column6_at]
  exact query_at _ _ _ _ _ f0 f1 f3 (seq t) 3 6 d _ _ _ _ _ _ _
    (fun x => (load_q3 _ 6 x).trans (window0_at m c t 3 6 x)) (fun n => (load_cc3 _ n).trans (window5_at m c t 3 n)) (fun n => (load_cn3 _ n).trans (window6_at m c t 3 n))
    (fun x n => (load_k _ 6 x n).trans (window1_at m c t 6 x n)) (fun x n => (load_kn _ 6 x n).trans (window3_at m c t 6 x n))
    (fun n => (load_v6 _ d n).trans (window2_at m c t 6 d n)) (fun n => (load_w6 _ d n).trans (window4_at m c t 6 d n))
theorem piece37 (f0 : New (A0 m c)) (f1 : New (A1 m c)) (f3 : Kept (A3 m c)) (t : Fin cfg0.N) (d : Fin 64) :
    column 7 slices_S8x2048_o7_0_S1x2048 slices_S8x4_o7_0_S1x4 (keptWeights (View.ld (iblk m c 0 t) r0_51) (View.ld (iblk m c 5 t) r0_52) (View.ld (iblk m c 6 t) r0_53) (View.ld (iblk m c 1 t) r0_2) (View.ld (iblk m c 3 t) r0_4)) (newWeights (View.ld (iblk m c 0 t) r0_51) (View.ld (iblk m c 5 t) r0_52) (View.ld (iblk m c 6 t) r0_53) (View.ld (iblk m c 1 t) r0_2) (View.ld (iblk m c 3 t) r0_4)) (View.ld (iblk m c 2 t) r0_26) (View.ld (iblk m c 4 t) r0_27) (ix5 0 0 0 d 0) = (val_main_v161 (F := Ideal) (A0 m c) (A1 m c) (A2 m c) (A3 m c) (A4 m c) : S128x4x8x64x1.Idx → EReal) (ix5 (seq t) 3 7 d 0) := by
  rw [column7_at]
  exact query_at _ _ _ _ _ f0 f1 f3 (seq t) 3 7 d _ _ _ _ _ _ _
    (fun x => (load_q3 _ 7 x).trans (window0_at m c t 3 7 x)) (fun n => (load_cc3 _ n).trans (window5_at m c t 3 n)) (fun n => (load_cn3 _ n).trans (window6_at m c t 3 n))
    (fun x n => (load_k _ 7 x n).trans (window1_at m c t 7 x n)) (fun x n => (load_kn _ 7 x n).trans (window3_at m c t 7 x n))
    (fun n => (load_v7 _ d n).trans (window2_at m c t 7 d n)) (fun n => (load_w7 _ d n).trans (window4_at m c t 7 d n))

theorem out7_at (f0 : New (A0 m c)) (f1 : New (A1 m c)) (f3 : Kept (A3 m c)) (t : Fin cfg0.N) (y : S1x4x8x64x1.Idx) : out0_7 (iblk m c 0 t) (iblk m c 1 t) (iblk m c 2 t) (iblk m c 3 t) (iblk m c 4 t) (iblk m c 5 t) (iblk m c 6 t) y = blockOut m c t y := by
  rw [out7]
  refine View.canon_apply_of_pieces (S := S1x4x8x64x1) (e := .f32) (Val := Elt Ideal) (blockOut m c t) _ ?_ y (cover0_7 _ _ _ _ _ _ _ _ _ _ _ _ _ _ _ _ _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro (x : S1x1x1x64x1.Idx)
    obtain ⟨d, rfl⟩ := first5 x
    refine (piece37 m c f0 f1 f3 t d).trans (blockOut_at m c t _ 3 7 d rfl rfl ?_).symm
    show 0 + 1 * d.val = d.val; omega
  · intro (x : S1x1x1x64x1.Idx)
    obtain ⟨d, rfl⟩ := first5 x
    refine (piece36 m c f0 f1 f3 t d).trans (blockOut_at m c t _ 3 6 d rfl rfl ?_).symm
    show 0 + 1 * d.val = d.val; omega
  · intro (x : S1x1x1x64x1.Idx)
    obtain ⟨d, rfl⟩ := first5 x
    refine (piece35 m c f0 f1 f3 t d).trans (blockOut_at m c t _ 3 5 d rfl rfl ?_).symm
    show 0 + 1 * d.val = d.val; omega
  · intro (x : S1x1x1x64x1.Idx)
    obtain ⟨d, rfl⟩ := first5 x
    refine (piece34 m c f0 f1 f3 t d).trans (blockOut_at m c t _ 3 4 d rfl rfl ?_).symm
    show 0 + 1 * d.val = d.val; omega
  · intro (x : S1x1x1x64x1.Idx)
    obtain ⟨d, rfl⟩ := first5 x
    refine (piece33 m c f0 f1 f3 t d).trans (blockOut_at m c t _ 3 3 d rfl rfl ?_).symm
    show 0 + 1 * d.val = d.val; omega
  · intro (x : S1x1x1x64x1.Idx)
    obtain ⟨d, rfl⟩ := first5 x
    refine (piece32 m c f0 f1 f3 t d).trans (blockOut_at m c t _ 3 2 d rfl rfl ?_).symm
    show 0 + 1 * d.val = d.val; omega
  · intro (x : S1x1x1x64x1.Idx)
    obtain ⟨d, rfl⟩ := first5 x
    refine (piece31 m c f0 f1 f3 t d).trans (blockOut_at m c t _ 3 1 d rfl rfl ?_).symm
    show 0 + 1 * d.val = d.val; omega
  · intro (x : S1x1x1x64x1.Idx)
    obtain ⟨d, rfl⟩ := first5 x
    refine (piece30 m c f0 f1 f3 t d).trans (blockOut_at m c t _ 3 0 d rfl rfl ?_).symm
    show 0 + 1 * d.val = d.val; omega
  · intro (x : S1x1x1x64x1.Idx)
    obtain ⟨d, rfl⟩ := first5 x
    refine (piece27 m c f0 f1 f3 t d).trans (blockOut_at m c t _ 2 7 d rfl rfl ?_).symm
    show 0 + 1 * d.val = d.val; omega
  · intro (x : S1x1x1x64x1.Idx)
    obtain ⟨d, rfl⟩ := first5 x
    refine (piece26 m c f0 f1 f3 t d).trans (blockOut_at m c t _ 2 6 d rfl rfl ?_).symm
    show 0 + 1 * d.val = d.val; omega
  · intro (x : S1x1x1x64x1.Idx)
    obtain ⟨d, rfl⟩ := first5 x
    refine (piece25 m c f0 f1 f3 t d).trans (blockOut_at m c t _ 2 5 d rfl rfl ?_).symm
    show 0 + 1 * d.val = d.val; omega
  · intro (x : S1x1x1x64x1.Idx)
    obtain ⟨d, rfl⟩ := first5 x
    refine (piece24 m c f0 f1 f3 t d).trans (blockOut_at m c t _ 2 4 d rfl rfl ?_).symm
    show 0 + 1 * d.val = d.val; omega
  · intro (x : S1x1x1x64x1.Idx)
    obtain ⟨d, rfl⟩ := first5 x
    refine (piece23 m c f0 f1 f3 t d).trans (blockOut_at m c t _ 2 3 d rfl rfl ?_).symm
    show 0 + 1 * d.val = d.val; omega
  · intro (x : S1x1x1x64x1.Idx)
    obtain ⟨d, rfl⟩ := first5 x
    refine (piece22 m c f0 f1 f3 t d).trans (blockOut_at m c t _ 2 2 d rfl rfl ?_).symm
    show 0 + 1 * d.val = d.val; omega
  · intro (x : S1x1x1x64x1.Idx)
    obtain ⟨d, rfl⟩ := first5 x
    refine (piece21 m c f0 f1 f3 t d).trans (blockOut_at m c t _ 2 1 d rfl rfl ?_).symm
    show 0 + 1 * d.val = d.val; omega
  · intro (x : S1x1x1x64x1.Idx)
    obtain ⟨d, rfl⟩ := first5 x
    refine (piece20 m c f0 f1 f3 t d).trans (blockOut_at m c t _ 2 0 d rfl rfl ?_).symm
    show 0 + 1 * d.val = d.val; omega
  · intro (x : S1x1x1x64x1.Idx)
    obtain ⟨d, rfl⟩ := first5 x
    refine (piece17 m c f0 f1 f3 t d).trans (blockOut_at m c t _ 1 7 d rfl rfl ?_).symm
    show 0 + 1 * d.val = d.val; omega
  · intro (x : S1x1x1x64x1.Idx)
    obtain ⟨d, rfl⟩ := first5 x
    refine (piece16 m c f0 f1 f3 t d).trans (blockOut_at m c t _ 1 6 d rfl rfl ?_).symm
    show 0 + 1 * d.val = d.val; omega
  · intro (x : S1x1x1x64x1.Idx)
    obtain ⟨d, rfl⟩ := first5 x
    refine (piece15 m c f0 f1 f3 t d).trans (blockOut_at m c t _ 1 5 d rfl rfl ?_).symm
    show 0 + 1 * d.val = d.val; omega
  · intro (x : S1x1x1x64x1.Idx)
    obtain ⟨d, rfl⟩ := first5 x
    refine (piece14 m c f0 f1 f3 t d).trans (blockOut_at m c t _ 1 4 d rfl rfl ?_).symm
    show 0 + 1 * d.val = d.val; omega
  · intro (x : S1x1x1x64x1.Idx)
    obtain ⟨d, rfl⟩ := first5 x
    refine (piece13 m c f0 f1 f3 t d).trans (blockOut_at m c t _ 1 3 d rfl rfl ?_).symm
    show 0 + 1 * d.val = d.val; omega
  · intro (x : S1x1x1x64x1.Idx)
    obtain ⟨d, rfl⟩ := first5 x
    refine (piece12 m c f0 f1 f3 t d).trans (blockOut_at m c t _ 1 2 d rfl rfl ?_).symm
    show 0 + 1 * d.val = d.val; omega
  · intro (x : S1x1x1x64x1.Idx)
    obtain ⟨d, rfl⟩ := first5 x
    refine (piece11 m c f0 f1 f3 t d).trans (blockOut_at m c t _ 1 1 d rfl rfl ?_).symm
    show 0 + 1 * d.val = d.val; omega
  · intro (x : S1x1x1x64x1.Idx)
    obtain ⟨d, rfl⟩ := first5 x
    refine (piece10 m c f0 f1 f3 t d).trans (blockOut_at m c t _ 1 0 d rfl rfl ?_).symm
    show 0 + 1 * d.val = d.val; omega
  · intro (x : S1x1x1x64x1.Idx)
    obtain ⟨d, rfl⟩ := first5 x
    refine (piece07 m c f0 f1 f3 t d).trans (blockOut_at m c t _ 0 7 d rfl rfl ?_).symm
    show 0 + 1 * d.val = d.val; omega
  · intro (x : S1x1x1x64x1.Idx)
    obtain ⟨d, rfl⟩ := first5 x
    refine (piece06 m c f0 f1 f3 t d).trans (blockOut_at m c t _ 0 6 d rfl rfl ?_).symm
    show 0 + 1 * d.val = d.val; omega
  · intro (x : S1x1x1x64x1.Idx)
    obtain ⟨d, rfl⟩ := first5 x
    refine (piece05 m c f0 f1 f3 t d).trans (blockOut_at m c t _ 0 5 d rfl rfl ?_).symm
    show 0 + 1 * d.val = d.val; omega
  · intro (x : S1x1x1x64x1.Idx)
    obtain ⟨d, rfl⟩ := first5 x
    refine (piece04 m c f0 f1 f3 t d).trans (blockOut_at m c t _ 0 4 d rfl rfl ?_).symm
    show 0 + 1 * d.val = d.val; omega
  · intro (x : S1x1x1x64x1.Idx)
    obtain ⟨d, rfl⟩ := first5 x
    refine (piece03 m c f0 f1 f3 t d).trans (blockOut_at m c t _ 0 3 d rfl rfl ?_).symm
    show 0 + 1 * d.val = d.val; omega
  · intro (x : S1x1x1x64x1.Idx)
    obtain ⟨d, rfl⟩ := first5 x
    refine (piece02 m c f0 f1 f3 t d).trans (blockOut_at m c t _ 0 2 d rfl rfl ?_).symm
    show 0 + 1 * d.val = d.val; omega
  · intro (x : S1x1x1x64x1.Idx)
    obtain ⟨d, rfl⟩ := first5 x
    refine (piece01 m c f0 f1 f3 t d).trans (blockOut_at m c t _ 0 1 d rfl rfl ?_).symm
    show 0 + 1 * d.val = d.val; omega
  · intro (x : S1x1x1x64x1.Idx)
    obtain ⟨d, rfl⟩ := first5 x
    refine (piece00 m c f0 f1 f3 t d).trans (blockOut_at m c t _ 0 0 d rfl rfl ?_).symm
    show 0 + 1 * d.val = d.val; omega

theorem array7_at (t : Fin cfg0.N) (i : Fin 4) (h : Fin 8) (d : Fin 64) :
    ((dats m 0 c).arrAt 7 cfg0.N : S128x4x8x64x1.Idx → EReal) (ix5 (seq t) i h d 0) = out0_7 (iblk m c 0 t) (iblk m c 1 t) (iblk m c 2 t) (iblk m c 3 t) (iblk m c 4 t) (iblk m c 5 t) (iblk m c 6 t) (ix5 0 i h d 0) := by
  obtain ⟨h0, h1, h2, h3, h4⟩ := index7 t
  have hf : ∀ t : Fin grid0.N, win0_7.flush t = true := by decide +kernel
  have e := congrFun ((blocks7 m c t (hf t)).trans (flushed7 m c t)) (ix5 (n0 := 1) (n1 := 4) (n2 := 8) (n3 := 64) (n4 := 1) 0 i h d 0)
  rw [View.read_apply] at e
  refine Eq.trans (congrArg _ ?_) e
  funext a
  apply Fin.ext
  match a with
  | ⟨0, _⟩ => show t.val = win0_7.index t 0 * 1 + 1 * 0; rw [h0]; omega
  | ⟨1, _⟩ => show i.val = win0_7.index t 1 * 4 + 1 * i.val; rw [h1]; omega
  | ⟨2, _⟩ => show h.val = win0_7.index t 2 * 8 + 1 * h.val; rw [h2]; omega
  | ⟨3, _⟩ => show d.val = win0_7.index t 3 * 64 + 1 * d.val; rw [h3]; omega
  | ⟨4, _⟩ => show 0 = win0_7.index t 4 * 1 + 1 * 0; rw [h4]

/-- The attention the call leaves is the reference's. -/
theorem out_eq (f0 : New (A0 m c)) (f1 : New (A1 m c)) (f3 : Kept (A3 m c)) : (dats m 0 c).arrAt 7 cfg0.N = (val_main_v161 (F := Ideal) (A0 m c) (A1 m c) (A2 m c) (A3 m c) (A4 m c)) := by
  refine funext fun (j : S128x4x8x64x1.Idx) => ?_
  obtain ⟨T, i, h, d, z, rfl⟩ : ∃ (T : Fin 128) (i : Fin 4) (h : Fin 8) (d : Fin 64) (z : Fin 1), j = ix5 T i h d z := ⟨j 0, j 1, j 2, j 3, j 4, (ix5_eta j).symm⟩
  obtain rfl : z = 0 := Subsingleton.elim _ _
  obtain ⟨t, rfl⟩ : ∃ t : Fin cfg0.N, T = seq t := ⟨⟨T.val, by have hN : cfg0.N = 128 := N_0; omega⟩, rfl⟩
  exact (array7_at m c t i h d).trans ((out7_at m c f0 f1 f3 t _).trans (blockOut_at m c t _ i h d rfl rfl rfl))

/-- What the precondition's text asks of its shapes. -/
theorem pre_facts : Cert.Pre_finite_attention.Facts :=
  ⟨by decide, by decide, by decide, by decide⟩

/-- A kept key, a new key and a query, each in the precondition's list. -/
theorem pre_kept [Cert.Pre_finite_attention.Facts] (x0 x1 x2 : FVec Ideal S128x4x8x64 .f32) (x3 x4 : FVec Ideal S2x128x2048x8x64 .f32) (b : Fin 128) (n : Fin 2048) (h : Fin 8) (d : Fin 64) :
    Cert.Pre_finite_attention.fn (F := Ideal) x0 x1 x2 x3 x4 (ix4 b ⟨n.val, by omega⟩ h d)
      = Ideal.cmp .olt (max (x3 (ix5 1 b n h d)) (-x3 (ix5 1 b n h d))) (Ideal.ofBits .f32 0x7F800000#32) := by
  pointwise [Cert.Pre_finite_attention.fn]
  rfl
theorem pre_new [Cert.Pre_finite_attention.Facts] (x0 x1 x2 : FVec Ideal S128x4x8x64 .f32) (x3 x4 : FVec Ideal S2x128x2048x8x64 .f32) (b : Fin 128) (n : Fin 4) (h : Fin 8) (d : Fin 64) :
    Cert.Pre_finite_attention.fn (F := Ideal) x0 x1 x2 x3 x4 (ix4 b ⟨2048 + n.val, by omega⟩ h d)
      = Ideal.cmp .olt (max (x1 (ix4 b n h d)) (-x1 (ix4 b n h d))) (Ideal.ofBits .f32 0x7F800000#32) := by
  pointwise [Cert.Pre_finite_attention.fn]
  rfl
theorem pre_query [Cert.Pre_finite_attention.Facts] (x0 x1 x2 : FVec Ideal S128x4x8x64 .f32) (x3 x4 : FVec Ideal S2x128x2048x8x64 .f32) (b : Fin 128) (n : Fin 4) (h : Fin 8) (d : Fin 64) :
    Cert.Pre_finite_attention.fn (F := Ideal) x0 x1 x2 x3 x4 (ix4 b ⟨2052 + n.val, by omega⟩ h d)
      = Ideal.cmp .olt (max (x0 (ix4 b n h d)) (-x0 (ix4 b n h d))) (Ideal.ofBits .f32 0x7F800000#32) := by
  pointwise [Cert.Pre_finite_attention.fn]
  have e : (⟨2052 + n.val - 2048 - 4, by omega⟩ : Fin 4) = n := Fin.ext (by show 2052 + n.val - 2048 - 4 = n.val; omega)
  rw [dif_neg (by omega), dif_neg (by omega), e]
  rfl

/-- The precondition says that the queries and the keys, new and kept, are real. -/
theorem pre_real [Cert.Pre_finite_attention.Facts] (x0 x1 x2 : FVec Ideal S128x4x8x64 .f32) (x3 x4 : FVec Ideal S2x128x2048x8x64 .f32)
    (hp : ∀ i, Cert.Pre_finite_attention.fn (F := Ideal) x0 x1 x2 x3 x4 i = 1#1) : New x0 ∧ New x1 ∧ Kept x3 := by
  refine ⟨fun j => ?_, fun j => ?_, fun b n h d => Cert.MoeEq.real_of_abs _ ((pre_kept x0 x1 x2 x3 x4 b n h d).symm.trans (hp _))⟩
  · obtain ⟨b, n, h, d, rfl⟩ : ∃ (b : Fin 128) (n : Fin 4) (h : Fin 8) (d : Fin 64), j = ix4 b n h d := ⟨j 0, j 1, j 2, j 3, (ix4_eta j).symm⟩
    exact Cert.MoeEq.real_of_abs _ ((pre_query x0 x1 x2 x3 x4 b n h d).symm.trans (hp _))
  · obtain ⟨b, n, h, d, rfl⟩ : ∃ (b : Fin 128) (n : Fin 4) (h : Fin 8) (d : Fin 64), j = ix4 b n h d := ⟨j 0, j 1, j 2, j 3, (ix4_eta j).symm⟩
    exact Cert.MoeEq.real_of_abs _ ((pre_new x0 x1 x2 x3 x4 b n h d).symm.trans (hp _))

end Cert.AttnEq

end
-- ==== Proof.InprojTable.lean ====
/- The projection's table of heads: which lanes' squares a lane's norm sums. -/
module

public import proofs.«01_k».proof.InprojIdeal

@[expose] public section

set_option maxRecDepth 16384

noncomputable section

namespace Cert.InprojTable

open Cert.InprojIdeal

/-- Two lanes are of one head when they are of one half of the 128. -/
theorem lit0_eq : ∀ (x l : Fin 128), lit0 (⟨x.val * 128 + l.val, by omega⟩ : Fin 16384)
    = if x.val / 64 = l.val / 64 then 0x3F800000#32 else 0x00000000#32 := by
  decide +kernel

end Cert.InprojTable

end
-- ==== Proof.InprojEq.lean ====
/- The attention's input projection: its kernel's norms and rotations against its reference's. -/
module

public import proofs.«01_k».proof.Proof.Gen.InprojIdeal.Value
public import proofs.«01_k».proof.Proof.Gen.InprojRefIdeal.Read
public import Idealize.ShloMosaic.Lib.Pointwise
public import Idealize.ShloMosaic.Lib.StableHlo.Run
public import proofs.«01_k».proof.Proof.InprojTable

@[expose] public section

set_option maxRecDepth 16384

noncomputable section

namespace Cert.InprojEq

open Cert.InprojRefIdeal.Read Cert.InprojTable Cert.InprojIdeal Cert.InprojIdeal.Gen Cert.InprojIdeal.Value Idealize.ShloMosaic Idealize.ShloMosaic.TcCoe Idealize.ShloMosaic.Tactic

theorem sixtyfour : Ideal.ofBits .f32 0x42800000#32 = ((64 : ℝ) : EReal) := by
  simp [Ideal.ofBits, Ideal.ieee]
  rw [← EReal.coe_mul]
  norm_num
theorem sixtyfourth : Ideal.ofBits .f32 0x3C800000#32 = ((1 / 64 : ℝ) : EReal) := by
  simp [Ideal.ofBits, Ideal.ieee]
  rw [← EReal.coe_mul]
  norm_num
theorem one_bits : Ideal.ofBits .f32 0x3F800000#32 = 1 := by
  simp [Ideal.ofBits, Ideal.ieee]
  rw [← EReal.coe_mul]
  norm_num
theorem nought_bits : Ideal.ofBits .f32 0x00000000#32 = 0 := by
  simp [Ideal.ofBits, Ideal.ieee]

theorem mean_eq (x : EReal) : x * Ideal.ofBits .f32 0x3C800000#32 = Ideal.div x (Ideal.ofBits .f32 0x42800000#32) := by
  rw [sixtyfour, Ideal.div_coe (by norm_num), sixtyfourth]

/-- A head's norm. -/
def unit (z g : Fin 64 → EReal) (e : Fin 64) : EReal :=
  z e * Ideal.rsqrt (Ideal.div (∑ x, z x * z x) (Ideal.ofBits .f32 0x42800000#32) + Ideal.ofBits .f32 0x358637BD#32) * g e

/-- A head's rotation by the angles of its place. -/
def turned (n : Fin 64 → EReal) (co si : Fin 32 → EReal) (e : Fin 64) : EReal :=
  if h : e.val < 32 then n e * co ⟨e.val, h⟩ - n ⟨32 + e.val, by omega⟩ * si ⟨e.val, h⟩
  else n ⟨e.val - 32, by omega⟩ * si ⟨e.val - 32, by omega⟩ + n ⟨32 + (e.val - 32), by omega⟩ * co ⟨e.val - 32, by omega⟩

/-- A lane of the two heads side by side. -/
def lane (q : Fin 2) (e : Fin 64) : Fin 128 := ⟨64 * q.val + e.val, by omega⟩

theorem lane_split (l : Fin 128) : ∃ (q : Fin 2) (e : Fin 64), l = lane q e :=
  ⟨⟨l.val / 64, by omega⟩, ⟨l.val % 64, by omega⟩, Fin.ext (by show l.val = 64 * (l.val / 64) + l.val % 64; omega)⟩

/-- A sum over the lanes of one head, written over all lanes with a factor of one or nought. -/
theorem half_sum (f o : Fin 128 → EReal) (q : Fin 2) (ho : ∀ x, o x = if x.val / 64 = q.val then 1 else 0) :
    ∑ x, f x * o x = ∑ e, f (lane q e) := by
  refine (Fin.sum_univ_add (a := 64) (b := 64) fun x => f x * o x).trans ?_
  have lo : ∀ e : Fin 64, o (Fin.castAdd 64 e) = if 0 = q.val then 1 else 0 := fun e => by
    rw [ho]
    have : (Fin.castAdd 64 e).val / 64 = 0 := by show e.val / 64 = 0; omega
    rw [this]
  have hi : ∀ e : Fin 64, o (Fin.natAdd 64 e) = if 1 = q.val then 1 else 0 := fun e => by
    rw [ho]
    have : (Fin.natAdd 64 e).val / 64 = 1 := by show (64 + e.val) / 64 = 1; omega
    rw [this]
  simp only [lo, hi]
  fin_cases q
  · simp
    exact Finset.sum_congr rfl fun e _ => congrArg f (Fin.ext (by show e.val = 64 * 0 + e.val; omega))
  · simp
    exact Finset.sum_congr rfl fun e _ => congrArg f (Fin.ext (by show e.val + 64 = 64 * 1 + e.val; omega))

/-- A lane's norm as the kernel takes it. -/
def laneNorm (t : Fin 128 → EReal) (o : Fin 128 → Fin 128 → EReal) (g : Fin 128 → EReal) (l : Fin 128) : EReal :=
  t l * Ideal.rsqrt ((∑ x, t x * t x * o x l) * Ideal.ofBits .f32 0x3C800000#32 + Ideal.ofBits .f32 0x358637BD#32) * g l

theorem laneNorm_at (t : Fin 128 → EReal) (o : Fin 128 → Fin 128 → EReal) (g : Fin 128 → EReal)
    (ho : ∀ x l, o x l = if x.val / 64 = l.val / 64 then 1 else 0) (q : Fin 2) (e : Fin 64) :
    laneNorm t o g (lane q e) = unit (fun e => t (lane q e)) (fun e => g (lane q e)) e := by
  unfold laneNorm unit
  rw [half_sum (fun x => t x * t x) (fun x => o x (lane q e)) q fun x => ?_, mean_eq]
  rw [ho]
  have : (lane q e).val / 64 = q.val := by show (64 * q.val + e.val) / 64 = q.val; omega
  rw [this]

/-- A lane's rotation as the kernel takes it. -/
def laneTurn (n : Fin 128 → EReal) (b : BitVec 1) (c s : EReal) (l : Fin 128) : EReal :=
  n l * c + Scalar.select b (n ⟨(l.val + 128 - 96) % 128, by omega⟩) (n ⟨(l.val + 128 - 32) % 128, by omega⟩) * s

theorem laneTurn_at (n : Fin 128 → EReal) (b : BitVec 1) (c s : EReal) (co si : Fin 32 → EReal) (q : Fin 2) (e : Fin 64)
    (hb : b = if e.val < 32 then 1#1 else 0#1) (hc : c = if h : e.val < 32 then co ⟨e.val, h⟩ else co ⟨e.val - 32, by omega⟩)
    (hs : s = if h : e.val < 32 then -(si ⟨e.val, h⟩) else si ⟨e.val - 32, by omega⟩) :
    laneTurn n b c s (lane q e) = turned (fun e => n (lane q e)) co si e := by
  unfold laneTurn turned
  by_cases h : e.val < 32
  · rw [dif_pos h] at hc hs
    rw [if_pos h] at hb
    rw [dif_pos h, hb, hc, hs, mul_neg, sub_eq_add_neg]
    have e1 : (⟨((lane q e).val + 128 - 96) % 128, by omega⟩ : Fin 128) = lane q ⟨32 + e.val, by omega⟩ :=
      Fin.ext (by show (64 * q.val + e.val + 128 - 96) % 128 = 64 * q.val + (32 + e.val); omega)
    rw [e1]
    rfl
  · rw [dif_neg h] at hc hs
    rw [if_neg h] at hb
    rw [dif_neg h, hb, hc, hs, add_comm]
    have e1 : (⟨((lane q e).val + 128 - 32) % 128, by omega⟩ : Fin 128) = lane q ⟨e.val - 32, by omega⟩ :=
      Fin.ext (by show (64 * q.val + e.val + 128 - 32) % 128 = 64 * q.val + (e.val - 32); omega)
    have e2 : (⟨32 + (e.val - 32), by omega⟩ : Fin 64) = e := Fin.ext (by show 32 + (e.val - 32) = e.val; omega)
    rw [e1, e2]
    rfl

/-- What the kernel does with a slab of 128 columns of the projection. -/
def slab (off : ℕ) (hs : S512x1536.Slices ![0, off] S512x128) (z : FVec Ideal S512x1536 .f32) (co si : FVec Ideal S512x128 .f32) (mask : IVec S512x128 1)
    (ones : Vec Ideal S128x128 .f32) (g : FVec Ideal S1x128 .f32) : FVec Ideal S512x128 .f32 :=
  have t : FVec Ideal S512x128 .f32 := extractStridedSlice S512x128 ![0, off] z hs
  have s : FVec Ideal S512x128 .f32 := matmul (φ₂ := .f32) dot_S512x128_S128x128_S512x128_1_0_0_1_n_n (some .fp32) (mulf t t) ones (constant S512x128 .f32 0x00000000#32)
  have d : FVec Ideal S512x128 .f32 := addf (mulf s (broadcast S512x128 (Scalar.ofBits .f32 0x3C800000#32 : Ideal .f32))) (broadcast S512x128 (Scalar.ofBits .f32 0x358637BD#32 : Ideal .f32))
  have n : FVec Ideal S512x128 .f32 := mulf (mulf t (rsqrt d)) (broadcastTo S512x128 g broadcasts_S1x128_S512x128)
  addf (mulf n co) (mulf (select mask (dynamicRotate 1 96#32 none n rotates_S512x128_d1) (dynamicRotate 1 32#32 none n rotates_S512x128_d1)) si)

theorem slab0_at (z : FVec Ideal S512x1536 .f32) (co si : FVec Ideal S512x128 .f32) (mask : IVec S512x128 1) (ones : Vec Ideal S128x128 .f32) (g : FVec Ideal S1x128 .f32) (r : Fin 512) (l : Fin 128) :
    slab 0 slices_S512x1536_o0_0_S512x128 z co si mask ones g (ix2 r l)
      = laneTurn (laneNorm (fun x => z (ix2 r ⟨0 + x.val, by omega⟩)) (fun x l => ones (ix2 x l)) (fun l => g (ix2 0 l))) (mask (ix2 r l)) (co (ix2 r l)) (si (ix2 r l)) l := by
  unfold laneTurn laneNorm
  pointwise [slab]
theorem slab128_at (z : FVec Ideal S512x1536 .f32) (co si : FVec Ideal S512x128 .f32) (mask : IVec S512x128 1) (ones : Vec Ideal S128x128 .f32) (g : FVec Ideal S1x128 .f32) (r : Fin 512) (l : Fin 128) :
    slab 128 slices_S512x1536_o0_128_S512x128 z co si mask ones g (ix2 r l)
      = laneTurn (laneNorm (fun x => z (ix2 r ⟨128 + x.val, by omega⟩)) (fun x l => ones (ix2 x l)) (fun l => g (ix2 0 l))) (mask (ix2 r l)) (co (ix2 r l)) (si (ix2 r l)) l := by
  unfold laneTurn laneNorm
  pointwise [slab]
theorem slab256_at (z : FVec Ideal S512x1536 .f32) (co si : FVec Ideal S512x128 .f32) (mask : IVec S512x128 1) (ones : Vec Ideal S128x128 .f32) (g : FVec Ideal S1x128 .f32) (r : Fin 512) (l : Fin 128) :
    slab 256 slices_S512x1536_o0_256_S512x128 z co si mask ones g (ix2 r l)
      = laneTurn (laneNorm (fun x => z (ix2 r ⟨256 + x.val, by omega⟩)) (fun x l => ones (ix2 x l)) (fun l => g (ix2 0 l))) (mask (ix2 r l)) (co (ix2 r l)) (si (ix2 r l)) l := by
  unfold laneTurn laneNorm
  pointwise [slab]
theorem slab384_at (z : FVec Ideal S512x1536 .f32) (co si : FVec Ideal S512x128 .f32) (mask : IVec S512x128 1) (ones : Vec Ideal S128x128 .f32) (g : FVec Ideal S1x128 .f32) (r : Fin 512) (l : Fin 128) :
    slab 384 slices_S512x1536_o0_384_S512x128 z co si mask ones g (ix2 r l)
      = laneTurn (laneNorm (fun x => z (ix2 r ⟨384 + x.val, by omega⟩)) (fun x l => ones (ix2 x l)) (fun l => g (ix2 0 l))) (mask (ix2 r l)) (co (ix2 r l)) (si (ix2 r l)) l := by
  unfold laneTurn laneNorm
  pointwise [slab]
theorem slab512_at (z : FVec Ideal S512x1536 .f32) (co si : FVec Ideal S512x128 .f32) (mask : IVec S512x128 1) (ones : Vec Ideal S128x128 .f32) (g : FVec Ideal S1x128 .f32) (r : Fin 512) (l : Fin 128) :
    slab 512 slices_S512x1536_o0_512_S512x128 z co si mask ones g (ix2 r l)
      = laneTurn (laneNorm (fun x => z (ix2 r ⟨512 + x.val, by omega⟩)) (fun x l => ones (ix2 x l)) (fun l => g (ix2 0 l))) (mask (ix2 r l)) (co (ix2 r l)) (si (ix2 r l)) l := by
  unfold laneTurn laneNorm
  pointwise [slab]
theorem slab640_at (z : FVec Ideal S512x1536 .f32) (co si : FVec Ideal S512x128 .f32) (mask : IVec S512x128 1) (ones : Vec Ideal S128x128 .f32) (g : FVec Ideal S1x128 .f32) (r : Fin 512) (l : Fin 128) :
    slab 640 slices_S512x1536_o0_640_S512x128 z co si mask ones g (ix2 r l)
      = laneTurn (laneNorm (fun x => z (ix2 r ⟨640 + x.val, by omega⟩)) (fun x l => ones (ix2 x l)) (fun l => g (ix2 0 l))) (mask (ix2 r l)) (co (ix2 r l)) (si (ix2 r l)) l := by
  unfold laneTurn laneNorm
  pointwise [slab]
theorem slab768_at (z : FVec Ideal S512x1536 .f32) (co si : FVec Ideal S512x128 .f32) (mask : IVec S512x128 1) (ones : Vec Ideal S128x128 .f32) (g : FVec Ideal S1x128 .f32) (r : Fin 512) (l : Fin 128) :
    slab 768 slices_S512x1536_o0_768_S512x128 z co si mask ones g (ix2 r l)
      = laneTurn (laneNorm (fun x => z (ix2 r ⟨768 + x.val, by omega⟩)) (fun x l => ones (ix2 x l)) (fun l => g (ix2 0 l))) (mask (ix2 r l)) (co (ix2 r l)) (si (ix2 r l)) l := by
  unfold laneTurn laneNorm
  pointwise [slab]
theorem slab896_at (z : FVec Ideal S512x1536 .f32) (co si : FVec Ideal S512x128 .f32) (mask : IVec S512x128 1) (ones : Vec Ideal S128x128 .f32) (g : FVec Ideal S1x128 .f32) (r : Fin 512) (l : Fin 128) :
    slab 896 slices_S512x1536_o0_896_S512x128 z co si mask ones g (ix2 r l)
      = laneTurn (laneNorm (fun x => z (ix2 r ⟨896 + x.val, by omega⟩)) (fun x l => ones (ix2 x l)) (fun l => g (ix2 0 l))) (mask (ix2 r l)) (co (ix2 r l)) (si (ix2 r l)) l := by
  unfold laneTurn laneNorm
  pointwise [slab]

/-- The lanes whose partner is the one 32 further on. -/
theorem mask_at (r : Fin 512) (l : Fin 128) : (k0_pay10 k0_pay7 k0_pay8 k0_pay9 : IVec S512x128 1) (ix2 r l) = if l.val % 64 < 32 then 1#1 else 0#1 := by
  pointwise [k0_pay10, k0_pay7, k0_pay8, k0_pay9]
  revert l
  decide +kernel

/-- The angle of a place and a pair of lanes. -/
def angle (s : Fin 8192) (j : Fin 32) : EReal :=
  FloatOps.sitofp (F := Ideal) FTy.f32 (BitVec.ofNat 32 s.val) * Ideal.div 1 (Ideal.pow (Ideal.ofBits FTy.f32 0x461C4000#32) (Ideal.div (FloatOps.sitofp (F := Ideal) FTy.f32 (BitVec.ofNat 32 j.val)) (Ideal.ofBits FTy.f32 0x42000000#32)))

/-- The projection of a normed row onto a column. -/
def proj (x0 : FVec Ideal S16384x1024 .f32) (x1 : FVec Ideal S1024 .f32) (x2 : FVec Ideal S1024x7456 .f32) (T : Fin 16384) (c : Fin 1536) : EReal :=
  ∑ k, x0 (ix2 T k) * Ideal.rsqrt (Ideal.div (∑ k, x0 (ix2 T k) * x0 (ix2 T k)) (Ideal.ofBits .f32 0x44800000#32) + Ideal.ofBits .f32 0x358637BD#32) * x1 (ix1 k) * x2 (ix2 k ⟨c.val, by omega⟩)

def rowOf (b : Fin 2) (s : Fin 8192) : Fin 16384 := ⟨8192 * b.val + s.val, by omega⟩
def colOf (h : Fin 8) (e : Fin 64) : Fin 512 := ⟨64 * h.val + e.val, by omega⟩

section
variable (x0 : FVec Ideal S16384x1024 .f32) (x1 : FVec Ideal S1024 .f32) (x2 : FVec Ideal S1024x7456 .f32)
theorem v14_at (T : Fin 16384) (c : Fin 1536) : (val_main_v14 (F := Ideal) x0 x1 x2 : Cert.InprojRefIdeal.S16384x1536.Idx → EReal) (ix2 T c) = proj x0 x1 x2 T c := by
  unfold proj
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
theorem v18_at (b : Fin 2) (s : Fin 8192) (h : Fin 8) (e : Fin 64) :
    (val_main_v18 (F := Ideal) x0 x1 x2 : Cert.InprojRefIdeal.S2x8192x8x64.Idx → EReal) (ix4 b s h e) = proj x0 x1 x2 (rowOf b s) ⟨0 + (colOf h e).val, by omega⟩ := by
  unfold val_main_v18
  rw [shapeCast_apply _ _ _ (ix2 (n0 := 16384) (n1 := 512) (rowOf b s) (colOf h e)) (by
    rw [Shape.rowMajor_val_two, Shape.rowMajor_val_four]
    show (8192 * b.val + s.val) * 512 + (64 * h.val + e.val) = ((b.val * 8192 + s.val) * 8 + h.val) * 64 + e.val
    omega)]
  rw [← v14_at]
  pointwise [val_main_v15]
theorem v19_at (b : Fin 2) (s : Fin 8192) (h : Fin 8) (e : Fin 64) :
    (val_main_v19 (F := Ideal) x0 x1 x2 : Cert.InprojRefIdeal.S2x8192x8x64.Idx → EReal) (ix4 b s h e) = proj x0 x1 x2 (rowOf b s) ⟨512 + (colOf h e).val, by omega⟩ := by
  unfold val_main_v19
  rw [shapeCast_apply _ _ _ (ix2 (n0 := 16384) (n1 := 512) (rowOf b s) (colOf h e)) (by
    rw [Shape.rowMajor_val_two, Shape.rowMajor_val_four]
    show (8192 * b.val + s.val) * 512 + (64 * h.val + e.val) = ((b.val * 8192 + s.val) * 8 + h.val) * 64 + e.val
    omega)]
  rw [← v14_at]
  pointwise [val_main_v16]
theorem v20_at (b : Fin 2) (s : Fin 8192) (h : Fin 8) (e : Fin 64) :
    (val_main_v20 (F := Ideal) x0 x1 x2 : Cert.InprojRefIdeal.S2x8192x8x64.Idx → EReal) (ix4 b s h e) = proj x0 x1 x2 (rowOf b s) ⟨1024 + (colOf h e).val, by omega⟩ := by
  unfold val_main_v20
  rw [shapeCast_apply _ _ _ (ix2 (n0 := 16384) (n1 := 512) (rowOf b s) (colOf h e)) (by
    rw [Shape.rowMajor_val_two, Shape.rowMajor_val_four]
    show (8192 * b.val + s.val) * 512 + (64 * h.val + e.val) = ((b.val * 8192 + s.val) * 8 + h.val) * 64 + e.val
    omega)]
  rw [← v14_at]
  pointwise [val_main_v17]
end

theorem v47_at (s : Fin 8192) (j : Fin 32) : (val_main_v47 (F := Ideal) : Cert.InprojRefIdeal.S8192x32.Idx → EReal) (ix2 s j) = angle s j := by
  unfold angle
  pointwise [val_main_v21, val_main_v35, val_main_v36, val_main_v37, val_main_v38, val_main_v39, val_main_v40, val_main_v41, val_main_v42, val_main_v43, val_main_v44, val_main_v45, val_main_v46, val_main_v47, val_main_cst_5, val_main_cst_6, val_main_cst_7]
theorem v34_at (x0 : FVec Ideal S16384x1024 .f32) (x1 : FVec Ideal S1024 .f32) (x2 : FVec Ideal S1024x7456 .f32) (x3 : FVec Ideal S64 .f32) (b : Fin 2) (s : Fin 8192) (h : Fin 8) (e : Fin 64) :
    (val_main_v34 (F := Ideal) x0 x1 x2 x3 : Cert.InprojRefIdeal.S2x8192x8x64.Idx → EReal) (ix4 b s h e)
      = unit (fun e => (val_main_v18 (F := Ideal) x0 x1 x2 : Cert.InprojRefIdeal.S2x8192x8x64.Idx → EReal) (ix4 b s h e)) (fun e => x3 (ix1 e)) e := by
  unfold unit
  pointwise [val_main_v22, val_main_v23, val_main_v24, val_main_v25, val_main_v26, val_main_v27, val_main_v28, val_main_v29, val_main_v30, val_main_v31, val_main_v32, val_main_v33, val_main_v34, val_main_cst_2, val_main_cst_3, val_main_cst_4]
/-- The reference's heads: normed, then turned. -/
theorem v116_at (x0 : FVec Ideal S16384x1024 .f32) (x1 : FVec Ideal S1024 .f32) (x2 : FVec Ideal S1024x7456 .f32) (x3 : FVec Ideal S64 .f32) (b : Fin 2) (s : Fin 8192) (h : Fin 8) (e : Fin 64) :
    (val_main_v116 (F := Ideal) x0 x1 x2 x3 : Cert.InprojRefIdeal.S16384x512.Idx → EReal) (ix2 (rowOf b s) (colOf h e))
      = turned (unit (fun e => (val_main_v18 (F := Ideal) x0 x1 x2 : Cert.InprojRefIdeal.S2x8192x8x64.Idx → EReal) (ix4 b s h e)) (fun e => x3 (ix1 e)))
          (fun j => Ideal.cos (angle s j)) (fun j => Ideal.sin (angle s j)) e := by
  unfold val_main_v116
  rw [shapeCast_apply _ _ _ (ix4 (n0 := 2) (n1 := 8192) (n2 := 8) (n3 := 64) b s h e) (by
    rw [Shape.rowMajor_val_two, Shape.rowMajor_val_four]
    show ((b.val * 8192 + s.val) * 8 + h.val) * 64 + e.val = (8192 * b.val + s.val) * 512 + (64 * h.val + e.val)
    omega)]
  unfold turned
  pointwise [val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68]
  simp only [v34_at, v47_at]

theorem v94_at (s : Fin 8192) (j : Fin 32) : (val_main_v94 (F := Ideal) : Cert.InprojRefIdeal.S8192x32.Idx → EReal) (ix2 s j) = angle s j := by
  unfold angle
  pointwise [val_main_v21, val_main_v82, val_main_v83, val_main_v84, val_main_v85, val_main_v86, val_main_v87, val_main_v88, val_main_v89, val_main_v90, val_main_v91, val_main_v92, val_main_v93, val_main_v94, val_main_cst_11, val_main_cst_12, val_main_cst_13]
theorem v81_at (x0 : FVec Ideal S16384x1024 .f32) (x1 : FVec Ideal S1024 .f32) (x2 : FVec Ideal S1024x7456 .f32) (x4 : FVec Ideal S64 .f32) (b : Fin 2) (s : Fin 8192) (h : Fin 8) (e : Fin 64) :
    (val_main_v81 (F := Ideal) x0 x1 x2 x4 : Cert.InprojRefIdeal.S2x8192x8x64.Idx → EReal) (ix4 b s h e)
      = unit (fun e => (val_main_v19 (F := Ideal) x0 x1 x2 : Cert.InprojRefIdeal.S2x8192x8x64.Idx → EReal) (ix4 b s h e)) (fun e => x4 (ix1 e)) e := by
  unfold unit
  pointwise [val_main_v69, val_main_v70, val_main_v71, val_main_v72, val_main_v73, val_main_v74, val_main_v75, val_main_v76, val_main_v77, val_main_v78, val_main_v79, val_main_v80, val_main_v81, val_main_cst_8, val_main_cst_9, val_main_cst_10]
/-- The reference's heads: normed, then turned. -/
theorem v117_at (x0 : FVec Ideal S16384x1024 .f32) (x1 : FVec Ideal S1024 .f32) (x2 : FVec Ideal S1024x7456 .f32) (x4 : FVec Ideal S64 .f32) (b : Fin 2) (s : Fin 8192) (h : Fin 8) (e : Fin 64) :
    (val_main_v117 (F := Ideal) x0 x1 x2 x4 : Cert.InprojRefIdeal.S16384x512.Idx → EReal) (ix2 (rowOf b s) (colOf h e))
      = turned (unit (fun e => (val_main_v19 (F := Ideal) x0 x1 x2 : Cert.InprojRefIdeal.S2x8192x8x64.Idx → EReal) (ix4 b s h e)) (fun e => x4 (ix1 e)))
          (fun j => Ideal.cos (angle s j)) (fun j => Ideal.sin (angle s j)) e := by
  unfold val_main_v117
  rw [shapeCast_apply _ _ _ (ix4 (n0 := 2) (n1 := 8192) (n2 := 8) (n3 := 64) b s h e) (by
    rw [Shape.rowMajor_val_two, Shape.rowMajor_val_four]
    show ((b.val * 8192 + s.val) * 8 + h.val) * 64 + e.val = (8192 * b.val + s.val) * 512 + (64 * h.val + e.val)
    omega)]
  unfold turned
  pointwise [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115]
  simp only [v81_at, v94_at]

theorem v118_at (x0 : FVec Ideal S16384x1024 .f32) (x1 : FVec Ideal S1024 .f32) (x2 : FVec Ideal S1024x7456 .f32) (b : Fin 2) (s : Fin 8192) (h : Fin 8) (e : Fin 64) :
    (val_main_v118 (F := Ideal) x0 x1 x2 : Cert.InprojRefIdeal.S16384x512.Idx → EReal) (ix2 (rowOf b s) (colOf h e)) = proj x0 x1 x2 (rowOf b s) ⟨1024 + (colOf h e).val, by omega⟩ := by
  unfold val_main_v118
  rw [shapeCast_apply _ _ _ (ix4 (n0 := 2) (n1 := 8192) (n2 := 8) (n3 := 64) b s h e) (by
    rw [Shape.rowMajor_val_two, Shape.rowMajor_val_four]
    show ((b.val * 8192 + s.val) * 8 + h.val) * 64 + e.val = (8192 * b.val + s.val) * 512 + (64 * h.val + e.val)
    omega)]
  exact v20_at x0 x1 x2 b s h e

/-- The angles as the kernel's host part lays them out, a row for every row of both prompts. -/
def angles : FVec Ideal S16384x32 .f32 :=
  mulf (broadcastInDim S16384x32 ![0, 1] bcast_S16384x1_S16384x32_0_1 (broadcastInDim S16384x1 ![0] bcast_S16384_S16384x1_0
      (sitofp .f32 (shapeCast S16384 (broadcastInDim S2x8192 ![0, 1] bcast_S1x8192_S2x8192_0_1 (shapeCast S1x8192 (iotaInDim S8192 32 0 : IVec S8192 32) shapeCasts_S8192_S1x8192)) shapeCasts_S2x8192_S16384))))
    (broadcastInDim S16384x32 ![0, 1] bcast_S1x32_S16384x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

/-- Two half heads side by side, and the head twice over. -/
def twice (a b : FVec Ideal S16384x32 .f32) : FVec Ideal S16384x128 .f32 :=
  shapeCast S16384x128 (broadcastInDim S1x16384x2x64 ![0, 1, 2, 3] bcast_S1x16384x1x64_S1x16384x2x64_0_1_2_3
    (shapeCast S1x16384x1x64 (concatenate S16384x64 1 [⟨S16384x32, a⟩, ⟨S16384x32, b⟩] concatenates_S16384x32_S16384x32_S16384x64_d1) shapeCasts_S16384x64_S1x16384x1x64)) shapeCasts_S1x16384x2x64_S16384x128

/-- A gain twice over. -/
def gains (a : FVec Ideal S64 .f32) : FVec Ideal S1x128 .f32 :=
  shapeCast S1x128 (shapeCast S128 (broadcastInDim S2x64 ![0, 1] bcast_S1x64_S2x64_0_1 (shapeCast S1x64 a shapeCasts_S64_S1x64)) shapeCasts_S2x64_S128) shapeCasts_S128_S1x128

theorem angles_at (b : Fin 2) (s : Fin 8192) (j : Fin 32) : angles (ix2 (rowOf b s) j) = angle s j := by
  have e : (rowOf b s).val % 8192 = s.val := by show (8192 * b.val + s.val) % 8192 = s.val; omega
  unfold angle
  rw [← e]
  pointwise [angles]
theorem twice_at (a b : FVec Ideal S16384x32 .f32) (T : Fin 16384) (q : Fin 2) (e : Fin 64) :
    twice a b (ix2 T (lane q e)) = if h : e.val < 32 then a (ix2 T ⟨e.val, h⟩) else b (ix2 T ⟨e.val - 32, by omega⟩) := by
  have e1 : (lane q e).val % 64 = e.val := by show (64 * q.val + e.val) % 64 = e.val; omega
  have h : ∀ l : Fin 128, twice a b (ix2 T l) = if h : l.val % 64 < 32 then a (ix2 T ⟨l.val % 64, h⟩) else b (ix2 T ⟨l.val % 64 - 32, by omega⟩) := fun l => by
    pointwise [twice]
  rw [h]
  simp only [e1]
theorem gains_at (a : FVec Ideal S64 .f32) (q : Fin 2) (e : Fin 64) : gains a (ix2 0 (lane q e)) = a (ix1 e) := by
  have e1 : (⟨(lane q e).val % 64, by omega⟩ : Fin 64) = e := Fin.ext (by show (64 * q.val + e.val) % 64 = e.val; omega)
  have h : ∀ l : Fin 128, gains a (ix2 0 l) = a (ix1 ⟨l.val % 64, by omega⟩) := fun l => by
    pointwise [gains]
  rw [h, e1]

variable (m : (ℓ : Loc nD τ sig) → Buf (Elt Ideal) ℓ) (c : Dev nD)

theorem zeros2 : (![0, 0] : Fin 2 → Nat) = fun _ => 0 := funext fun a => by fin_cases a <;> rfl

/-- The arguments as functions of their indices. -/
abbrev A0 : FVec Ideal S16384x1024 .f32 := m ((c : Thread nD τ).loc main_arg0)
abbrev A1 : FVec Ideal S1024 .f32 := m ((c : Thread nD τ).loc main_arg1)
abbrev A2 : FVec Ideal S1024x7456 .f32 := m ((c : Thread nD τ).loc main_arg2)
abbrev A3 : FVec Ideal S64 .f32 := m ((c : Thread nD τ).loc main_arg3)
abbrev A4 : FVec Ideal S64 .f32 := m ((c : Thread nD τ).loc main_arg4)

theorem norm_eq : V m c main_v28 = (shapeCast S1x1024 (A1 m c) shapeCasts_S1024_S1x1024 : Vec Ideal S1x1024 .f32) := by
  show StableHlo.after hostOps0 _ _ = _
  simp only [hostOps0, List.cons_append, List.nil_append]
  after_results
  rfl
theorem weights_eq : V m c main_v30 = (truncf (F := Ideal) .bf16 (extractStridedSlice S1024x1536 ![0, 0] (A2 m c) slices_S1024x7456_S1024x1536_0_0 : FVec Ideal S1024x1536 .f32) bitsLt_bf16_f32 : Vec Ideal S1024x1536 .bf16) := by
  show StableHlo.after hostOps0 _ _ = _
  simp only [hostOps0, List.cons_append, List.nil_append]
  after_results
theorem cosines_eq : V m c main_v22 = (twice (Host.cos angles) (Host.cos angles)) := by
  show StableHlo.after hostOps0 _ _ = _
  simp only [hostOps0, List.cons_append, List.nil_append]
  after_results
  rfl
theorem sines_eq : V m c main_v27 = (twice (Host.negf (Host.sin angles)) (Host.sin angles)) := by
  show StableHlo.after hostOps0 _ _ = _
  simp only [hostOps0, List.cons_append, List.nil_append]
  after_results
  rfl
theorem qgain_eq : V m c main_v34 = (gains (A3 m c)) := by
  show StableHlo.after hostOps0 _ _ = _
  simp only [hostOps0, List.cons_append, List.nil_append]
  after_results
  rfl
theorem kgain_eq : V m c main_v38 = (gains (A4 m c)) := by
  show StableHlo.after hostOps0 _ _ = _
  simp only [hostOps0, List.cons_append, List.nil_append]
  after_results
  rfl
theorem ones_eq : V m c main_cst = ((fun i => FloatOps.ofBits (F := Ideal) .f32 (lit0 (S128x128.rowMajor i)) : S128x128.Idx → EReal)) := by
  show StableHlo.after hostOps0 _ _ = _
  simp only [hostOps0, List.cons_append, List.nil_append]
  after_results
  rfl

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = 0 ∧ win0_4.index t (1 : Fin 2) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 2) = 0 ∧ win0_7.index t (1 : Fin 2) = 0 := by decide +kernel
theorem index8 : ∀ t : Fin grid0.N, win0_8.index t (0 : Fin 2) = t.val ∧ win0_8.index t (1 : Fin 2) = 0 := by decide +kernel
theorem index9 : ∀ t : Fin grid0.N, win0_9.index t (0 : Fin 2) = t.val ∧ win0_9.index t (1 : Fin 2) = 0 := by decide +kernel
theorem index10 : ∀ t : Fin grid0.N, win0_10.index t (0 : Fin 2) = t.val ∧ win0_10.index t (1 : Fin 2) = 0 := by decide +kernel

/-- The row of the input that row `r` of point `t`'s block is. -/
def rowAt (t : Fin cfg0.N) (r : Fin 512) : Fin 16384 :=
  ⟨512 * t.val + r.val, by have := t.isLt; have h : cfg0.N = 32 := N_0; omega⟩

theorem block0 (t : Fin cfg0.N) (r : Fin 512) (k : Fin 1024) : (iblk m c 0 t : Vec Ideal S512x1024 .f32) (ix2 r k) = V m c main_arg0 (ix2 (n0 := 16384) (n1 := 1024) (rowAt t r) k) := by
  obtain ⟨h0, h1⟩ := index0 t
  unfold iblk
  rw [View.read_apply]
  show V m c main_arg0 _ = _
  congr 1
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega
theorem block1 (t : Fin cfg0.N) (r : Fin 512) (k : Fin 128) : (iblk m c 1 t : Vec Ideal S512x128 .f32) (ix2 r k) = V m c main_v22 (ix2 (n0 := 16384) (n1 := 128) (rowAt t r) k) := by
  obtain ⟨h0, h1⟩ := index1 t
  unfold iblk
  rw [View.read_apply]
  show V m c main_v22 _ = _
  congr 1
  funext a
  apply Fin.ext
  match a with
  | ⟨0, _⟩ => show win0_1.index t 0 * 512 + 1 * r.val = 512 * t.val + r.val; rw [h0]; omega
  | ⟨1, _⟩ => show win0_1.index t 1 * 128 + 1 * k.val = k.val; rw [h1]; omega
theorem block2 (t : Fin cfg0.N) (r : Fin 512) (k : Fin 128) : (iblk m c 2 t : Vec Ideal S512x128 .f32) (ix2 r k) = V m c main_v27 (ix2 (n0 := 16384) (n1 := 128) (rowAt t r) k) := by
  obtain ⟨h0, h1⟩ := index2 t
  unfold iblk
  rw [View.read_apply]
  show V m c main_v27 _ = _
  congr 1
  funext a
  apply Fin.ext
  match a with
  | ⟨0, _⟩ => show win0_2.index t 0 * 512 + 1 * r.val = 512 * t.val + r.val; rw [h0]; omega
  | ⟨1, _⟩ => show win0_2.index t 1 * 128 + 1 * k.val = k.val; rw [h1]; omega
theorem block3 (t : Fin cfg0.N) (k : Fin 1024) : (iblk m c 3 t : Vec Ideal S1x1024 .f32) (ix2 0 k) = V m c main_v28 (ix2 (n0 := 1) (n1 := 1024) 0 k) := by
  obtain ⟨h0, h1⟩ := index3 t
  unfold iblk
  rw [View.read_apply]
  show V m c main_v28 _ = _
  congr 1
  funext a
  apply Fin.ext
  match a with
  | ⟨0, _⟩ => show win0_3.index t 0 * 1 + 1 * 0 = 0; rw [h0]
  | ⟨1, _⟩ => show win0_3.index t 1 * 1024 + 1 * k.val = k.val; rw [h1]; omega
theorem block4 (t : Fin cfg0.N) (r : Fin 1024) (k : Fin 1536) : (iblk m c 4 t : Vec Ideal S1024x1536 .bf16) (ix2 r k) = V m c main_v30 (ix2 (n0 := 1024) (n1 := 1536) r k) := by
  obtain ⟨h0, h1⟩ := index4 t
  unfold iblk
  rw [View.read_apply]
  show V m c main_v30 _ = _
  congr 1
  funext a
  apply Fin.ext
  match a with
  | ⟨0, _⟩ => show win0_4.index t 0 * 1024 + 1 * r.val = r.val; rw [h0]; omega
  | ⟨1, _⟩ => show win0_4.index t 1 * 1536 + 1 * k.val = k.val; rw [h1]; omega
theorem block5 (t : Fin cfg0.N) (k : Fin 128) : (iblk m c 5 t : Vec Ideal S1x128 .f32) (ix2 0 k) = V m c main_v34 (ix2 (n0 := 1) (n1 := 128) 0 k) := by
  obtain ⟨h0, h1⟩ := index5 t
  unfold iblk
  rw [View.read_apply]
  show V m c main_v34 _ = _
  congr 1
  funext a
  apply Fin.ext
  match a with
  | ⟨0, _⟩ => show win0_5.index t 0 * 1 + 1 * 0 = 0; rw [h0]
  | ⟨1, _⟩ => show win0_5.index t 1 * 128 + 1 * k.val = k.val; rw [h1]; omega
theorem block6 (t : Fin cfg0.N) (k : Fin 128) : (iblk m c 6 t : Vec Ideal S1x128 .f32) (ix2 0 k) = V m c main_v38 (ix2 (n0 := 1) (n1 := 128) 0 k) := by
  obtain ⟨h0, h1⟩ := index6 t
  unfold iblk
  rw [View.read_apply]
  show V m c main_v38 _ = _
  congr 1
  funext a
  apply Fin.ext
  match a with
  | ⟨0, _⟩ => show win0_6.index t 0 * 1 + 1 * 0 = 0; rw [h0]
  | ⟨1, _⟩ => show win0_6.index t 1 * 128 + 1 * k.val = k.val; rw [h1]; omega
theorem block7 (t : Fin cfg0.N) (r : Fin 128) (k : Fin 128) : (iblk m c 7 t : Vec Ideal S128x128 .f32) (ix2 r k) = V m c main_cst (ix2 (n0 := 128) (n1 := 128) r k) := by
  obtain ⟨h0, h1⟩ := index7 t
  unfold iblk
  rw [View.read_apply]
  show V m c main_cst _ = _
  congr 1
  funext a
  apply Fin.ext
  match a with
  | ⟨0, _⟩ => show win0_7.index t 0 * 128 + 1 * r.val = r.val; rw [h0]; omega
  | ⟨1, _⟩ => show win0_7.index t 1 * 128 + 1 * k.val = k.val; rw [h1]; omega

theorem row_at (t : Fin cfg0.N) (r : Fin 512) (k : Fin 1024) : (iblk m c 0 t : Vec Ideal S512x1024 .f32) (ix2 r k) = A0 m c (ix2 (rowAt t r) k) := by
  rw [block0, V_main_arg0]
theorem norm_at (t : Fin cfg0.N) (k : Fin 1024) : (iblk m c 3 t : Vec Ideal S1x1024 .f32) (ix2 0 k) = A1 m c (ix1 k) := by
  rw [block3, norm_eq] <;> pointwise []
theorem weights_at (t : Fin cfg0.N) (k : Fin 1024) (j : Fin 1536) : (iblk m c 4 t : Vec Ideal S1024x1536 .bf16) (ix2 k j) = A2 m c (ix2 k ⟨j.val, by omega⟩) := by
  rw [block4, weights_eq] <;> pointwise []
theorem ones_at (t : Fin cfg0.N) (x l : Fin 128) : (iblk m c 7 t : Vec Ideal S128x128 .f32) (ix2 x l) = if x.val / 64 = l.val / 64 then (1 : EReal) else (0 : EReal) := by
  rw [block7, ones_eq]
  show Ideal.ofBits .f32 (lit0 (S128x128.rowMajor (ix2 (n0 := 128) (n1 := 128) x l))) = _
  have e : S128x128.rowMajor (ix2 (n0 := 128) (n1 := 128) x l) = (⟨x.val * 128 + l.val, by omega⟩ : Fin 16384) := by
    apply Fin.ext
    rw [Shape.rowMajor_val_two]
    rfl
  rw [e, lit0_eq x l]
  split_ifs
  exacts [one_bits, nought_bits]
theorem cos_at (t : Fin cfg0.N) (r : Fin 512) (b : Fin 2) (s : Fin 8192) (hT : rowAt t r = rowOf b s) (q : Fin 2) (e : Fin 64) :
    (iblk m c 1 t : Vec Ideal S512x128 .f32) (ix2 r (lane q e)) = if h : e.val < 32 then Ideal.cos (angle s ⟨e.val, h⟩) else Ideal.cos (angle s ⟨e.val - 32, by omega⟩) := by
  rw [block1, cosines_eq, hT, twice_at]
  simp only [← angles_at b s]
  rfl
theorem sin_at (t : Fin cfg0.N) (r : Fin 512) (b : Fin 2) (s : Fin 8192) (hT : rowAt t r = rowOf b s) (q : Fin 2) (e : Fin 64) :
    (iblk m c 2 t : Vec Ideal S512x128 .f32) (ix2 r (lane q e)) = if h : e.val < 32 then -(Ideal.sin (angle s ⟨e.val, h⟩)) else Ideal.sin (angle s ⟨e.val - 32, by omega⟩) := by
  rw [block2, sines_eq, hT, twice_at]
  simp only [← angles_at b s]
  rfl
theorem qgain_at (t : Fin cfg0.N) (q : Fin 2) (e : Fin 64) : (iblk m c 5 t : Vec Ideal S1x128 .f32) (ix2 0 (lane q e)) = A3 m c (ix1 e) := by
  rw [block5, qgain_eq, gains_at]
theorem kgain_at (t : Fin cfg0.N) (q : Fin 2) (e : Fin 64) : (iblk m c 6 t : Vec Ideal S1x128 .f32) (ix2 0 (lane q e)) = A4 m c (ix1 e) := by
  rw [block6, kgain_eq, gains_at]

/-- A point's projection of its rows. -/
abbrev zrows (x0 : Vec Ideal S512x1024 .f32) (x3 : Vec Ideal S1x1024 .f32) (x4 : Vec Ideal S1024x1536 .bf16) : FVec Ideal S512x1536 .f32 :=
  k0_pay4 (View.ld x0 r0_0) (View.ld x3 r0_1) (View.ld x4 r0_2)

theorem zrows_eq (x0 : Vec Ideal S512x1024 .f32) (x3 : Vec Ideal S1x1024 .f32) (x4 : Vec Ideal S1024x1536 .bf16) : zrows x0 x3 x4 = k0_pay4 x0 x3 x4 := by
  have e0 : View.ld x0 r0_0 = x0 := View.ld_unit_zero (S := S512x1024) zeros2 _ _
  have e1 : View.ld x3 r0_1 = x3 := View.ld_unit_zero (S := S1x1024) zeros2 _ _
  have e2 : View.ld x4 r0_2 = x4 := View.ld_unit_zero (S := S1024x1536) zeros2 _ _
  unfold zrows
  rw [e0, e1, e2]

theorem zrows_at (t : Fin cfg0.N) (r : Fin 512) (j : Fin 1536) :
    zrows (iblk m c 0 t) (iblk m c 3 t) (iblk m c 4 t) (ix2 r j) = proj (A0 m c) (A1 m c) (A2 m c) (rowAt t r) j := by
  rw [zrows_eq]
  unfold proj
  simp only [← row_at m c t, ← norm_at m c t, ← weights_at m c t]
  pointwise [k0_pay4]

/-- The place of a row. -/
theorem row_place (T : Fin 16384) : ∃ (b : Fin 2) (s : Fin 8192), T = rowOf b s :=
  ⟨⟨T.val / 8192, by omega⟩, ⟨T.val % 8192, by omega⟩, Fin.ext (by show T.val = 8192 * (T.val / 8192) + T.val % 8192; omega)⟩

/-- A point's queries, a slab of columns at a time. -/
theorem out8 (x0 : Vec Ideal S512x1024 .f32) (x1 x2 : Vec Ideal S512x128 .f32) (x3 : Vec Ideal S1x1024 .f32) (x4 : Vec Ideal S1024x1536 .bf16) (x5 x6 : Vec Ideal S1x128 .f32) (x7 : Vec Ideal S128x128 .f32) : out0_8 x0 x1 x2 x3 x4 x5 x6 x7 = View.canon [⟨r0_9, slab 384 slices_S512x1536_o0_384_S512x128 (zrows x0 x3 x4) (k0_pay5 (View.ld x1 r0_3)) (k0_pay6 (View.ld x2 r0_3)) (k0_pay10 k0_pay7 k0_pay8 k0_pay9) (View.ld x7 r0_4) (k0_pay11 (View.ld x5 r0_5))⟩,
    ⟨r0_8, slab 256 slices_S512x1536_o0_256_S512x128 (zrows x0 x3 x4) (k0_pay5 (View.ld x1 r0_3)) (k0_pay6 (View.ld x2 r0_3)) (k0_pay10 k0_pay7 k0_pay8 k0_pay9) (View.ld x7 r0_4) (k0_pay11 (View.ld x5 r0_5))⟩,
    ⟨r0_7, slab 128 slices_S512x1536_o0_128_S512x128 (zrows x0 x3 x4) (k0_pay5 (View.ld x1 r0_3)) (k0_pay6 (View.ld x2 r0_3)) (k0_pay10 k0_pay7 k0_pay8 k0_pay9) (View.ld x7 r0_4) (k0_pay11 (View.ld x5 r0_5))⟩,
    ⟨r0_6, slab 0 slices_S512x1536_o0_0_S512x128 (zrows x0 x3 x4) (k0_pay5 (View.ld x1 r0_3)) (k0_pay6 (View.ld x2 r0_3)) (k0_pay10 k0_pay7 k0_pay8 k0_pay9) (View.ld x7 r0_4) (k0_pay11 (View.ld x5 r0_5))⟩] := rfl

/-- One lane of a slab is the reference's. -/
theorem qlane (off : ℕ) (j : Fin 4) (hoff : off = 0 + 128 * j.val) (hx : ∀ x : Fin 128, off + x.val < 1536) (t : Fin cfg0.N) (r : Fin 512) (l : Fin 128) (C : Fin 512) (hC : C.val = 128 * j.val + l.val) :
    laneTurn (laneNorm (fun x => zrows (iblk m c 0 t) (iblk m c 3 t) (iblk m c 4 t) (ix2 r ⟨off + x.val, hx x⟩)) (fun x l => (View.ld (iblk m c 7 t) r0_4 : Vec Ideal S128x128 .f32) (ix2 x l)) (fun l => (k0_pay11 (View.ld (iblk m c 5 t) r0_5) : FVec Ideal S1x128 .f32) (ix2 0 l)))
      ((k0_pay10 k0_pay7 k0_pay8 k0_pay9 : IVec S512x128 1) (ix2 r l)) ((k0_pay5 (View.ld (iblk m c 1 t) r0_3) : FVec Ideal S512x128 .f32) (ix2 r l)) ((k0_pay6 (View.ld (iblk m c 2 t) r0_3) : FVec Ideal S512x128 .f32) (ix2 r l)) l
      = (val_main_v116 (F := Ideal) (A0 m c) (A1 m c) (A2 m c) (A3 m c) : Cert.InprojRefIdeal.S16384x512.Idx → EReal) (ix2 (rowAt t r) C) := by
  have e7 : (View.ld (iblk m c 7 t) r0_4 : Vec Ideal S128x128 .f32) = iblk m c 7 t := View.ld_unit_zero (S := S128x128) zeros2 _ _
  have eg : (View.ld (iblk m c 5 t) r0_5 : Vec Ideal S1x128 .f32) = iblk m c 5 t := View.ld_unit_zero (S := S1x128) zeros2 _ _
  have e1 : (View.ld (iblk m c 1 t) r0_3 : Vec Ideal S512x128 .f32) = iblk m c 1 t := View.ld_unit_zero (S := S512x128) zeros2 _ _
  have e2 : (View.ld (iblk m c 2 t) r0_3 : Vec Ideal S512x128 .f32) = iblk m c 2 t := View.ld_unit_zero (S := S512x128) zeros2 _ _
  rw [e7, eg, e1, e2]
  obtain ⟨q, e, rfl⟩ := lane_split l
  obtain ⟨b, s, hT⟩ := row_place (rowAt t r)
  have hl : (lane q e).val = 64 * q.val + e.val := rfl
  have hh : C = colOf ⟨2 * j.val + q.val, by omega⟩ e := Fin.ext (by show C.val = 64 * (2 * j.val + q.val) + e.val; omega)
  have p1 : (k0_pay5 (iblk m c 1 t) : FVec Ideal S512x128 .f32) (ix2 r (lane q e)) = (iblk m c 1 t : Vec Ideal S512x128 .f32) (ix2 r (lane q e)) := by
    generalize lane q e = l
    pointwise [k0_pay5]
  have p2 : (k0_pay6 (iblk m c 2 t) : FVec Ideal S512x128 .f32) (ix2 r (lane q e)) = (iblk m c 2 t : Vec Ideal S512x128 .f32) (ix2 r (lane q e)) := by
    generalize lane q e = l
    pointwise [k0_pay6]
  have pg : ∀ l : Fin 128, (k0_pay11 (iblk m c 5 t) : FVec Ideal S1x128 .f32) (ix2 0 l) = (iblk m c 5 t : Vec Ideal S1x128 .f32) (ix2 0 l) := fun l => by
    pointwise [k0_pay11]
  refine (laneTurn_at _ _ _ _ (fun j => Ideal.cos (angle s j)) (fun j => Ideal.sin (angle s j)) q e ?_ (p1.trans (cos_at m c t r b s hT q e)) (p2.trans (sin_at m c t r b s hT q e))).trans ?_
  · rw [mask_at]
    have e3 : (lane q e).val % 64 = e.val := by rw [hl]; omega
    rw [e3]
  · rw [hT, hh, v116_at]
    refine congrArg (fun n => turned n (fun j => Ideal.cos (angle s j)) (fun j => Ideal.sin (angle s j)) e) (funext fun e' => ?_)
    refine (laneNorm_at _ _ _ (fun x l => ones_at m c t x l) q e').trans ?_
    refine congrFun (congr (congrArg unit (funext fun e'' => ?_)) (funext fun e'' => ?_)) e'
    · rw [v18_at]
      refine (zrows_at m c t r _).trans ?_
      rw [hT]
      refine congrArg (proj _ _ _ _) (Fin.ext ?_)
      show off + (64 * q.val + e''.val) = 0 + (64 * (2 * j.val + q.val) + e''.val)
      omega
    · exact (pg (lane q e'')).trans (qgain_at m c t q e'')

/-- What the reference leaves in a point's block. -/
def blockq (t : Fin cfg0.N) (y : S512x512.Idx) : EReal :=
  (val_main_v116 (F := Ideal) (A0 m c) (A1 m c) (A2 m c) (A3 m c) : Cert.InprojRefIdeal.S16384x512.Idx → EReal) (ix2 (rowAt t ⟨(y 0).val, (y 0).isLt⟩) ⟨(y 1).val, (y 1).isLt⟩)

theorem blockq_at (t : Fin cfg0.N) (y : S512x512.Idx) (r C : Fin 512) (e0 : (y 0).val = r.val) (e1 : (y 1).val = C.val) : blockq m c t y = (val_main_v116 (F := Ideal) (A0 m c) (A1 m c) (A2 m c) (A3 m c) : Cert.InprojRefIdeal.S16384x512.Idx → EReal) (ix2 (rowAt t r) C) := by
  have h0 : (⟨(y 0).val, (y 0).isLt⟩ : Fin 512) = r := Fin.ext e0
  have h1 : (⟨(y 1).val, (y 1).isLt⟩ : Fin 512) = C := Fin.ext e1
  unfold blockq
  rw [h0, h1]

theorem out8_at (t : Fin cfg0.N) (y : S512x512.Idx) : out0_8 (iblk m c 0 t) (iblk m c 1 t) (iblk m c 2 t) (iblk m c 3 t) (iblk m c 4 t) (iblk m c 5 t) (iblk m c 6 t) (iblk m c 7 t) y = blockq m c t y := by
  rw [out8]
  refine View.canon_apply_of_pieces (S := S512x512) (e := .f32) (Val := Elt Ideal) (blockq m c t) _ ?_ y (cover0_8 _ _ _ _ y)
  intro p hp
  simp only [List.mem_cons, List.not_mem_nil, or_false] at hp
  rcases hp with rfl | rfl | rfl | rfl
  · intro (x : S512x128.Idx)
    obtain ⟨r, l, rfl⟩ : ∃ (r : Fin 512) (l : Fin 128), x = ix2 r l := ⟨x 0, x 1, (ix2_eta x).symm⟩
    refine ((slab384_at _ _ _ _ _ _ r l).trans (qlane m c 384 3 rfl (fun x => by omega) t r l ⟨384 + l.val, by omega⟩ rfl)).trans (blockq_at m c t _ r _ ?_ ?_).symm
    · show 0 + 1 * r.val = r.val; omega
    · show 384 + 1 * l.val = 384 + l.val; omega
  · intro (x : S512x128.Idx)
    obtain ⟨r, l, rfl⟩ : ∃ (r : Fin 512) (l : Fin 128), x = ix2 r l := ⟨x 0, x 1, (ix2_eta x).symm⟩
    refine ((slab256_at _ _ _ _ _ _ r l).trans (qlane m c 256 2 rfl (fun x => by omega) t r l ⟨256 + l.val, by omega⟩ rfl)).trans (blockq_at m c t _ r _ ?_ ?_).symm
    · show 0 + 1 * r.val = r.val; omega
    · show 256 + 1 * l.val = 256 + l.val; omega
  · intro (x : S512x128.Idx)
    obtain ⟨r, l, rfl⟩ : ∃ (r : Fin 512) (l : Fin 128), x = ix2 r l := ⟨x 0, x 1, (ix2_eta x).symm⟩
    refine ((slab128_at _ _ _ _ _ _ r l).trans (qlane m c 128 1 rfl (fun x => by omega) t r l ⟨128 + l.val, by omega⟩ rfl)).trans (blockq_at m c t _ r _ ?_ ?_).symm
    · show 0 + 1 * r.val = r.val; omega
    · show 128 + 1 * l.val = 128 + l.val; omega
  · intro (x : S512x128.Idx)
    obtain ⟨r, l, rfl⟩ : ∃ (r : Fin 512) (l : Fin 128), x = ix2 r l := ⟨x 0, x 1, (ix2_eta x).symm⟩
    refine ((slab0_at _ _ _ _ _ _ r l).trans (qlane m c 0 0 rfl (fun x => by omega) t r l ⟨0 + l.val, by omega⟩ rfl)).trans (blockq_at m c t _ r _ ?_ ?_).symm
    · show 0 + 1 * r.val = r.val; omega
    · show 0 + 1 * l.val = 0 + l.val; omega

/-- A point's keys, a slab of columns at a time. -/
theorem out9 (x0 : Vec Ideal S512x1024 .f32) (x1 x2 : Vec Ideal S512x128 .f32) (x3 : Vec Ideal S1x1024 .f32) (x4 : Vec Ideal S1024x1536 .bf16) (x5 x6 : Vec Ideal S1x128 .f32) (x7 : Vec Ideal S128x128 .f32) : out0_9 x0 x1 x2 x3 x4 x5 x6 x7 = View.canon [⟨r0_9, slab 896 slices_S512x1536_o0_896_S512x128 (zrows x0 x3 x4) (k0_pay5 (View.ld x1 r0_3)) (k0_pay6 (View.ld x2 r0_3)) (k0_pay10 k0_pay7 k0_pay8 k0_pay9) (View.ld x7 r0_4) (k0_pay16 (View.ld x6 r0_5))⟩,
    ⟨r0_8, slab 768 slices_S512x1536_o0_768_S512x128 (zrows x0 x3 x4) (k0_pay5 (View.ld x1 r0_3)) (k0_pay6 (View.ld x2 r0_3)) (k0_pay10 k0_pay7 k0_pay8 k0_pay9) (View.ld x7 r0_4) (k0_pay16 (View.ld x6 r0_5))⟩,
    ⟨r0_7, slab 640 slices_S512x1536_o0_640_S512x128 (zrows x0 x3 x4) (k0_pay5 (View.ld x1 r0_3)) (k0_pay6 (View.ld x2 r0_3)) (k0_pay10 k0_pay7 k0_pay8 k0_pay9) (View.ld x7 r0_4) (k0_pay16 (View.ld x6 r0_5))⟩,
    ⟨r0_6, slab 512 slices_S512x1536_o0_512_S512x128 (zrows x0 x3 x4) (k0_pay5 (View.ld x1 r0_3)) (k0_pay6 (View.ld x2 r0_3)) (k0_pay10 k0_pay7 k0_pay8 k0_pay9) (View.ld x7 r0_4) (k0_pay16 (View.ld x6 r0_5))⟩] := rfl

/-- One lane of a slab is the reference's. -/
theorem klane (off : ℕ) (j : Fin 4) (hoff : off = 512 + 128 * j.val) (hx : ∀ x : Fin 128, off + x.val < 1536) (t : Fin cfg0.N) (r : Fin 512) (l : Fin 128) (C : Fin 512) (hC : C.val = 128 * j.val + l.val) :
    laneTurn (laneNorm (fun x => zrows (iblk m c 0 t) (iblk m c 3 t) (iblk m c 4 t) (ix2 r ⟨off + x.val, hx x⟩)) (fun x l => (View.ld (iblk m c 7 t) r0_4 : Vec Ideal S128x128 .f32) (ix2 x l)) (fun l => (k0_pay16 (View.ld (iblk m c 6 t) r0_5) : FVec Ideal S1x128 .f32) (ix2 0 l)))
      ((k0_pay10 k0_pay7 k0_pay8 k0_pay9 : IVec S512x128 1) (ix2 r l)) ((k0_pay5 (View.ld (iblk m c 1 t) r0_3) : FVec Ideal S512x128 .f32) (ix2 r l)) ((k0_pay6 (View.ld (iblk m c 2 t) r0_3) : FVec Ideal S512x128 .f32) (ix2 r l)) l
      = (val_main_v117 (F := Ideal) (A0 m c) (A1 m c) (A2 m c) (A4 m c) : Cert.InprojRefIdeal.S16384x512.Idx → EReal) (ix2 (rowAt t r) C) := by
  have e7 : (View.ld (iblk m c 7 t) r0_4 : Vec Ideal S128x128 .f32) = iblk m c 7 t := View.ld_unit_zero (S := S128x128) zeros2 _ _
  have eg : (View.ld (iblk m c 6 t) r0_5 : Vec Ideal S1x128 .f32) = iblk m c 6 t := View.ld_unit_zero (S := S1x128) zeros2 _ _
  have e1 : (View.ld (iblk m c 1 t) r0_3 : Vec Ideal S512x128 .f32) = iblk m c 1 t := View.ld_unit_zero (S := S512x128) zeros2 _ _
  have e2 : (View.ld (iblk m c 2 t) r0_3 : Vec Ideal S512x128 .f32) = iblk m c 2 t := View.ld_unit_zero (S := S512x128) zeros2 _ _
  rw [e7, eg, e1, e2]
  obtain ⟨q, e, rfl⟩ := lane_split l
  obtain ⟨b, s, hT⟩ := row_place (rowAt t r)
  have hl : (lane q e).val = 64 * q.val + e.val := rfl
  have hh : C = colOf ⟨2 * j.val + q.val, by omega⟩ e := Fin.ext (by show C.val = 64 * (2 * j.val + q.val) + e.val; omega)
  have p1 : (k0_pay5 (iblk m c 1 t) : FVec Ideal S512x128 .f32) (ix2 r (lane q e)) = (iblk m c 1 t : Vec Ideal S512x128 .f32) (ix2 r (lane q e)) := by
    generalize lane q e = l
    pointwise [k0_pay5]
  have p2 : (k0_pay6 (iblk m c 2 t) : FVec Ideal S512x128 .f32) (ix2 r (lane q e)) = (iblk m c 2 t : Vec Ideal S512x128 .f32) (ix2 r (lane q e)) := by
    generalize lane q e = l
    pointwise [k0_pay6]
  have pg : ∀ l : Fin 128, (k0_pay16 (iblk m c 6 t) : FVec Ideal S1x128 .f32) (ix2 0 l) = (iblk m c 6 t : Vec Ideal S1x128 .f32) (ix2 0 l) := fun l => by
    pointwise [k0_pay16]
  refine (laneTurn_at _ _ _ _ (fun j => Ideal.cos (angle s j)) (fun j => Ideal.sin (angle s j)) q e ?_ (p1.trans (cos_at m c t r b s hT q e)) (p2.trans (sin_at m c t r b s hT q e))).trans ?_
  · rw [mask_at]
    have e3 : (lane q e).val % 64 = e.val := by rw [hl]; omega
    rw [e3]
  · rw [hT, hh, v117_at]
    refine congrArg (fun n => turned n (fun j => Ideal.cos (angle s j)) (fun j => Ideal.sin (angle s j)) e) (funext fun e' => ?_)
    refine (laneNorm_at _ _ _ (fun x l => ones_at m c t x l) q e').trans ?_
    refine congrFun (congr (congrArg unit (funext fun e'' => ?_)) (funext fun e'' => ?_)) e'
    · rw [v19_at]
      refine (zrows_at m c t r _).trans ?_
      rw [hT]
      refine congrArg (proj _ _ _ _) (Fin.ext ?_)
      show off + (64 * q.val + e''.val) = 512 + (64 * (2 * j.val + q.val) + e''.val)
      omega
    · exact (pg (lane q e'')).trans (kgain_at m c t q e'')

/-- What the reference leaves in a point's block. -/
def blockk (t : Fin cfg0.N) (y : S512x512.Idx) : EReal :=
  (val_main_v117 (F := Ideal) (A0 m c) (A1 m c) (A2 m c) (A4 m c) : Cert.InprojRefIdeal.S16384x512.Idx → EReal) (ix2 (rowAt t ⟨(y 0).val, (y 0).isLt⟩) ⟨(y 1).val, (y 1).isLt⟩)

theorem blockk_at (t : Fin cfg0.N) (y : S512x512.Idx) (r C : Fin 512) (e0 : (y 0).val = r.val) (e1 : (y 1).val = C.val) : blockk m c t y = (val_main_v117 (F := Ideal) (A0 m c) (A1 m c) (A2 m c) (A4 m c) : Cert.InprojRefIdeal.S16384x512.Idx → EReal) (ix2 (rowAt t r) C) := by
  have h0 : (⟨(y 0).val, (y 0).isLt⟩ : Fin 512) = r := Fin.ext e0
  have h1 : (⟨(y 1).val, (y 1).isLt⟩ : Fin 512) = C := Fin.ext e1
  unfold blockk
  rw [h0, h1]

theorem out9_at (t : Fin cfg0.N) (y : S512x512.Idx) : out0_9 (iblk m c 0 t) (iblk m c 1 t) (iblk m c 2 t) (iblk m c 3 t) (iblk m c 4 t) (iblk m c 5 t) (iblk m c 6 t) (iblk m c 7 t) y = blockk m c t y := by
  rw [out9]
  refine View.canon_apply_of_pieces (S := S512x512) (e := .f32) (Val := Elt Ideal) (blockk m c t) _ ?_ y (cover0_9 _ _ _ _ y)
  intro p hp
  simp only [List.mem_cons, List.not_mem_nil, or_false] at hp
  rcases hp with rfl | rfl | rfl | rfl
  · intro (x : S512x128.Idx)
    obtain ⟨r, l, rfl⟩ : ∃ (r : Fin 512) (l : Fin 128), x = ix2 r l := ⟨x 0, x 1, (ix2_eta x).symm⟩
    refine ((slab896_at _ _ _ _ _ _ r l).trans (klane m c 896 3 rfl (fun x => by omega) t r l ⟨384 + l.val, by omega⟩ rfl)).trans (blockk_at m c t _ r _ ?_ ?_).symm
    · show 0 + 1 * r.val = r.val; omega
    · show 384 + 1 * l.val = 384 + l.val; omega
  · intro (x : S512x128.Idx)
    obtain ⟨r, l, rfl⟩ : ∃ (r : Fin 512) (l : Fin 128), x = ix2 r l := ⟨x 0, x 1, (ix2_eta x).symm⟩
    refine ((slab768_at _ _ _ _ _ _ r l).trans (klane m c 768 2 rfl (fun x => by omega) t r l ⟨256 + l.val, by omega⟩ rfl)).trans (blockk_at m c t _ r _ ?_ ?_).symm
    · show 0 + 1 * r.val = r.val; omega
    · show 256 + 1 * l.val = 256 + l.val; omega
  · intro (x : S512x128.Idx)
    obtain ⟨r, l, rfl⟩ : ∃ (r : Fin 512) (l : Fin 128), x = ix2 r l := ⟨x 0, x 1, (ix2_eta x).symm⟩
    refine ((slab640_at _ _ _ _ _ _ r l).trans (klane m c 640 1 rfl (fun x => by omega) t r l ⟨128 + l.val, by omega⟩ rfl)).trans (blockk_at m c t _ r _ ?_ ?_).symm
    · show 0 + 1 * r.val = r.val; omega
    · show 128 + 1 * l.val = 128 + l.val; omega
  · intro (x : S512x128.Idx)
    obtain ⟨r, l, rfl⟩ : ∃ (r : Fin 512) (l : Fin 128), x = ix2 r l := ⟨x 0, x 1, (ix2_eta x).symm⟩
    refine ((slab512_at _ _ _ _ _ _ r l).trans (klane m c 512 0 rfl (fun x => by omega) t r l ⟨0 + l.val, by omega⟩ rfl)).trans (blockk_at m c t _ r _ ?_ ?_).symm
    · show 0 + 1 * r.val = r.val; omega
    · show 0 + 1 * l.val = 0 + l.val; omega

theorem out10_at (t : Fin cfg0.N) (r C : Fin 512) : out0_10 (iblk m c 0 t) (iblk m c 1 t) (iblk m c 2 t) (iblk m c 3 t) (iblk m c 4 t) (iblk m c 5 t) (iblk m c 6 t) (iblk m c 7 t) (ix2 r C) = (val_main_v118 (F := Ideal) (A0 m c) (A1 m c) (A2 m c) : Cert.InprojRefIdeal.S16384x512.Idx → EReal) (ix2 (rowAt t r) C) := by
  have e : out0_10 (iblk m c 0 t) (iblk m c 1 t) (iblk m c 2 t) (iblk m c 3 t) (iblk m c 4 t) (iblk m c 5 t) (iblk m c 6 t) (iblk m c 7 t) = k0_pay3 (zrows (iblk m c 0 t) (iblk m c 3 t) (iblk m c 4 t)) := View.canon_unit_zero (S := S512x512) zeros2 _ _
  have p : (k0_pay3 (zrows (iblk m c 0 t) (iblk m c 3 t) (iblk m c 4 t)) : FVec Ideal S512x512 .f32) (ix2 r C) = zrows (iblk m c 0 t) (iblk m c 3 t) (iblk m c 4 t) (ix2 r ⟨1024 + C.val, by omega⟩) := by
    generalize zrows (iblk m c 0 t) (iblk m c 3 t) (iblk m c 4 t) = z
    pointwise [k0_pay3]
  obtain ⟨b, s, hT⟩ := row_place (rowAt t r)
  obtain ⟨h, e', rfl⟩ : ∃ (h : Fin 8) (e : Fin 64), C = colOf h e :=
    ⟨⟨C.val / 64, by omega⟩, ⟨C.val % 64, by omega⟩, Fin.ext (by show C.val = 64 * (C.val / 64) + C.val % 64; omega)⟩
  rw [e, p, zrows_at, hT, v118_at]

theorem row_split (T : Fin 16384) : ∃ (t : Fin cfg0.N) (r : Fin 512), T = rowAt t r := by
  have hN : cfg0.N = 32 := N_0
  exact ⟨⟨T.val / 512, by rw [hN]; omega⟩, ⟨T.val % 512, by omega⟩, Fin.ext (by show T.val = 512 * (T.val / 512) + T.val % 512; omega)⟩

theorem array8_at (t : Fin cfg0.N) (r C : Fin 512) : ((dats m 0 c).arrAt 8 cfg0.N : S16384x512.Idx → EReal) (ix2 (rowAt t r) C) = out0_8 (iblk m c 0 t) (iblk m c 1 t) (iblk m c 2 t) (iblk m c 3 t) (iblk m c 4 t) (iblk m c 5 t) (iblk m c 6 t) (iblk m c 7 t) (ix2 r C) := by
  obtain ⟨h0, h1⟩ := index8 t
  have hf : ∀ t : Fin grid0.N, win0_8.flush t = true := by decide +kernel
  have e := congrFun ((blocks8 m c t (hf t)).trans (flushed8 m c t)) (ix2 (n0 := 512) (n1 := 512) r C)
  rw [View.read_apply] at e
  refine Eq.trans (congrArg _ ?_) e
  funext a
  apply Fin.ext
  match a with
  | ⟨0, _⟩ => show 512 * t.val + r.val = win0_8.index t 0 * 512 + 1 * r.val; rw [h0]; omega
  | ⟨1, _⟩ => show C.val = win0_8.index t 1 * 512 + 1 * C.val; rw [h1]; omega

/-- The queries the call leaves are the reference's. -/
theorem queries_eq : (dats m 0 c).arrAt 8 cfg0.N = (val_main_v116 (F := Ideal) (A0 m c) (A1 m c) (A2 m c) (A3 m c)) := by
  refine funext fun (i : S16384x512.Idx) => ?_
  obtain ⟨T, C, rfl⟩ : ∃ (T : Fin 16384) (C : Fin 512), i = ix2 T C := ⟨i 0, i 1, (ix2_eta i).symm⟩
  obtain ⟨t, r, rfl⟩ := row_split T
  exact (array8_at m c t r C).trans ((out8_at m c t _).trans (blockq_at m c t _ r C rfl rfl))

theorem array9_at (t : Fin cfg0.N) (r C : Fin 512) : ((dats m 0 c).arrAt 9 cfg0.N : S16384x512.Idx → EReal) (ix2 (rowAt t r) C) = out0_9 (iblk m c 0 t) (iblk m c 1 t) (iblk m c 2 t) (iblk m c 3 t) (iblk m c 4 t) (iblk m c 5 t) (iblk m c 6 t) (iblk m c 7 t) (ix2 r C) := by
  obtain ⟨h0, h1⟩ := index9 t
  have hf : ∀ t : Fin grid0.N, win0_9.flush t = true := by decide +kernel
  have e := congrFun ((blocks9 m c t (hf t)).trans (flushed9 m c t)) (ix2 (n0 := 512) (n1 := 512) r C)
  rw [View.read_apply] at e
  refine Eq.trans (congrArg _ ?_) e
  funext a
  apply Fin.ext
  match a with
  | ⟨0, _⟩ => show 512 * t.val + r.val = win0_9.index t 0 * 512 + 1 * r.val; rw [h0]; omega
  | ⟨1, _⟩ => show C.val = win0_9.index t 1 * 512 + 1 * C.val; rw [h1]; omega

/-- The keys the call leaves are the reference's. -/
theorem keys_eq : (dats m 0 c).arrAt 9 cfg0.N = (val_main_v117 (F := Ideal) (A0 m c) (A1 m c) (A2 m c) (A4 m c)) := by
  refine funext fun (i : S16384x512.Idx) => ?_
  obtain ⟨T, C, rfl⟩ : ∃ (T : Fin 16384) (C : Fin 512), i = ix2 T C := ⟨i 0, i 1, (ix2_eta i).symm⟩
  obtain ⟨t, r, rfl⟩ := row_split T
  exact (array9_at m c t r C).trans ((out9_at m c t _).trans (blockk_at m c t _ r C rfl rfl))

theorem array10_at (t : Fin cfg0.N) (r C : Fin 512) : ((dats m 0 c).arrAt 10 cfg0.N : S16384x512.Idx → EReal) (ix2 (rowAt t r) C) = out0_10 (iblk m c 0 t) (iblk m c 1 t) (iblk m c 2 t) (iblk m c 3 t) (iblk m c 4 t) (iblk m c 5 t) (iblk m c 6 t) (iblk m c 7 t) (ix2 r C) := by
  obtain ⟨h0, h1⟩ := index10 t
  have hf : ∀ t : Fin grid0.N, win0_10.flush t = true := by decide +kernel
  have e := congrFun ((blocks10 m c t (hf t)).trans (flushed10 m c t)) (ix2 (n0 := 512) (n1 := 512) r C)
  rw [View.read_apply] at e
  refine Eq.trans (congrArg _ ?_) e
  funext a
  apply Fin.ext
  match a with
  | ⟨0, _⟩ => show 512 * t.val + r.val = win0_10.index t 0 * 512 + 1 * r.val; rw [h0]; omega
  | ⟨1, _⟩ => show C.val = win0_10.index t 1 * 512 + 1 * C.val; rw [h1]; omega

/-- The values the call leaves are the reference's. -/
theorem values_eq : (dats m 0 c).arrAt 10 cfg0.N = (val_main_v118 (F := Ideal) (A0 m c) (A1 m c) (A2 m c)) := by
  refine funext fun (i : S16384x512.Idx) => ?_
  obtain ⟨T, C, rfl⟩ : ∃ (T : Fin 16384) (C : Fin 512), i = ix2 T C := ⟨i 0, i 1, (ix2_eta i).symm⟩
  obtain ⟨t, r, rfl⟩ := row_split T
  exact (array10_at m c t r C).trans (out10_at m c t r C)

end Cert.InprojEq

end
-- ==== Proof.InprojSEq.lean ====
/- The sample's input projection of the attention: its kernel's norms and rotations against its reference's. -/
module

public import proofs.«01_k».proof.Proof.Gen.InprojSIdeal.Value
public import proofs.«01_k».proof.Proof.Gen.InprojSRefIdeal.Read
public import Idealize.ShloMosaic.Lib.Pointwise
public import Idealize.ShloMosaic.Lib.StableHlo.Run
public import proofs.«01_k».proof.Proof.InprojEq
public import proofs.«01_k».proof.Proof.MoeEq
public import proofs.«01_k».proof.Pre_finite_projection

@[expose] public section

set_option maxRecDepth 16384

noncomputable section

namespace Cert.InprojSEq

open Cert.InprojEq (unit turned lane lane_split laneNorm laneNorm_at laneTurn laneTurn_at one_bits nought_bits)
open Cert.InprojSRefIdeal.Read Cert.InprojSIdeal Cert.InprojSIdeal.Gen Cert.InprojSIdeal.Value Idealize.ShloMosaic Idealize.ShloMosaic.TcCoe Idealize.ShloMosaic.Tactic

theorem lit0_same : (lit0 : Fin 16384 → BitVec 32) = Cert.InprojIdeal.lit0 := rfl

theorem kilo : Ideal.ofBits .f32 0x44800000#32 = ((1024 : ℝ) : EReal) := by
  simp [Ideal.ofBits, Ideal.ieee]
  rw [← EReal.coe_mul]
  norm_num
theorem tiny : Ideal.ofBits .f32 0x358637BD#32 = ((8796093 / 8796093022208 : ℝ) : EReal) := by
  simp [Ideal.ofBits, Ideal.ieee]
  rw [← EReal.coe_mul]
  norm_num

/-- The norm of a finite row is finite. -/
theorem rms_real (x g : Fin 1024 → EReal) (hx : ∀ k, ∃ a : ℝ, x k = a) (hg : ∀ k, ∃ a : ℝ, g k = a) (k : Fin 1024) :
    ∃ a : ℝ, x k * Ideal.rsqrt (Ideal.div (∑ k, x k * x k) (Ideal.ofBits .f32 0x44800000#32) + Ideal.ofBits .f32 0x358637BD#32) * g k = a := by
  choose a ha using hx
  obtain ⟨b, hb⟩ := hg k
  have hs : ∑ k, x k * x k = ((∑ k, a k * a k : ℝ) : EReal) := by
    simp only [ha, ← EReal.coe_mul]
    exact (map_sum (⟨⟨fun r : ℝ => (r : EReal), EReal.coe_zero⟩, fun p q => EReal.coe_add p q⟩ : ℝ →+ EReal) _ _).symm
  have hp : 0 ≤ ∑ k, a k * a k := Finset.sum_nonneg fun k _ => mul_self_nonneg _
  rw [hs, kilo, tiny, Ideal.div_coe (by norm_num), ← EReal.coe_mul, ← EReal.coe_add, Ideal.rsqrt_coe,
    if_neg (by have := mul_nonneg hp (by norm_num : (0 : ℝ) ≤ 1 / 1024); intro h; linarith),
    if_neg (by have := mul_nonneg hp (by norm_num : (0 : ℝ) ≤ 1 / 1024); intro h; linarith), ha, hb, ← EReal.coe_mul, ← EReal.coe_mul]
  exact ⟨_, rfl⟩

/-- A product in three parts, where the low parts of finite numbers are nought. -/
theorem dot3 (a w : Fin 1024 → EReal) (ha : ∀ k, ∃ r : ℝ, a k = r) (hw : ∀ k, ∃ r : ℝ, w k = r) :
    ∑ k, a k * w k + (∑ k, a k * (w k - w k) + ∑ k, (a k - a k) * w k) = ∑ k, a k * w k := by
  have h1 : ∀ k, a k * (w k - w k) = 0 := fun k => by
    obtain ⟨r, hr⟩ := hw k
    rw [hr, ← EReal.coe_sub, sub_self, EReal.coe_zero, mul_zero]
  have h2 : ∀ k, (a k - a k) * w k = 0 := fun k => by
    obtain ⟨r, hr⟩ := ha k
    rw [hr, ← EReal.coe_sub, sub_self, EReal.coe_zero, zero_mul]
  simp only [h1, h2, Finset.sum_const_zero, add_zero]

/-- What the kernel does with a slab of 128 columns of the projection. -/
def slab (off : ℕ) (hs : S512x1536.Slices ![0, off] S512x128) (z : FVec Ideal S512x1536 .f32) (co si : FVec Ideal S512x128 .f32) (mask : IVec S512x128 1)
    (ones : Vec Ideal S128x128 .f32) (g : FVec Ideal S1x128 .f32) : FVec Ideal S512x128 .f32 :=
  have t : FVec Ideal S512x128 .f32 := extractStridedSlice S512x128 ![0, off] z hs
  have s : FVec Ideal S512x128 .f32 := matmul (φ₂ := .f32) dot_S512x128_S128x128_S512x128_1_0_0_1_n_n (some .fp32) (mulf t t) ones (constant S512x128 .f32 0x00000000#32)
  have d : FVec Ideal S512x128 .f32 := addf (mulf s (broadcast S512x128 (Scalar.ofBits .f32 0x3C800000#32 : Ideal .f32))) (broadcast S512x128 (Scalar.ofBits .f32 0x358637BD#32 : Ideal .f32))
  have n : FVec Ideal S512x128 .f32 := mulf (mulf t (rsqrt d)) (broadcastTo S512x128 g broadcasts_S1x128_S512x128)
  addf (mulf n co) (mulf (select mask (dynamicRotate 1 96#32 none n rotates_S512x128_d1) (dynamicRotate 1 32#32 none n rotates_S512x128_d1)) si)

theorem slab0_at (z : FVec Ideal S512x1536 .f32) (co si : FVec Ideal S512x128 .f32) (mask : IVec S512x128 1) (ones : Vec Ideal S128x128 .f32) (g : FVec Ideal S1x128 .f32) (r : Fin 512) (l : Fin 128) :
    slab 0 slices_S512x1536_o0_0_S512x128 z co si mask ones g (ix2 r l)
      = laneTurn (laneNorm (fun x => z (ix2 r ⟨0 + x.val, by omega⟩)) (fun x l => ones (ix2 x l)) (fun l => g (ix2 0 l))) (mask (ix2 r l)) (co (ix2 r l)) (si (ix2 r l)) l := by
  unfold laneTurn laneNorm
  pointwise [slab]
theorem slab128_at (z : FVec Ideal S512x1536 .f32) (co si : FVec Ideal S512x128 .f32) (mask : IVec S512x128 1) (ones : Vec Ideal S128x128 .f32) (g : FVec Ideal S1x128 .f32) (r : Fin 512) (l : Fin 128) :
    slab 128 slices_S512x1536_o0_128_S512x128 z co si mask ones g (ix2 r l)
      = laneTurn (laneNorm (fun x => z (ix2 r ⟨128 + x.val, by omega⟩)) (fun x l => ones (ix2 x l)) (fun l => g (ix2 0 l))) (mask (ix2 r l)) (co (ix2 r l)) (si (ix2 r l)) l := by
  unfold laneTurn laneNorm
  pointwise [slab]
theorem slab256_at (z : FVec Ideal S512x1536 .f32) (co si : FVec Ideal S512x128 .f32) (mask : IVec S512x128 1) (ones : Vec Ideal S128x128 .f32) (g : FVec Ideal S1x128 .f32) (r : Fin 512) (l : Fin 128) :
    slab 256 slices_S512x1536_o0_256_S512x128 z co si mask ones g (ix2 r l)
      = laneTurn (laneNorm (fun x => z (ix2 r ⟨256 + x.val, by omega⟩)) (fun x l => ones (ix2 x l)) (fun l => g (ix2 0 l))) (mask (ix2 r l)) (co (ix2 r l)) (si (ix2 r l)) l := by
  unfold laneTurn laneNorm
  pointwise [slab]
theorem slab384_at (z : FVec Ideal S512x1536 .f32) (co si : FVec Ideal S512x128 .f32) (mask : IVec S512x128 1) (ones : Vec Ideal S128x128 .f32) (g : FVec Ideal S1x128 .f32) (r : Fin 512) (l : Fin 128) :
    slab 384 slices_S512x1536_o0_384_S512x128 z co si mask ones g (ix2 r l)
      = laneTurn (laneNorm (fun x => z (ix2 r ⟨384 + x.val, by omega⟩)) (fun x l => ones (ix2 x l)) (fun l => g (ix2 0 l))) (mask (ix2 r l)) (co (ix2 r l)) (si (ix2 r l)) l := by
  unfold laneTurn laneNorm
  pointwise [slab]
theorem slab512_at (z : FVec Ideal S512x1536 .f32) (co si : FVec Ideal S512x128 .f32) (mask : IVec S512x128 1) (ones : Vec Ideal S128x128 .f32) (g : FVec Ideal S1x128 .f32) (r : Fin 512) (l : Fin 128) :
    slab 512 slices_S512x1536_o0_512_S512x128 z co si mask ones g (ix2 r l)
      = laneTurn (laneNorm (fun x => z (ix2 r ⟨512 + x.val, by omega⟩)) (fun x l => ones (ix2 x l)) (fun l => g (ix2 0 l))) (mask (ix2 r l)) (co (ix2 r l)) (si (ix2 r l)) l := by
  unfold laneTurn laneNorm
  pointwise [slab]
theorem slab640_at (z : FVec Ideal S512x1536 .f32) (co si : FVec Ideal S512x128 .f32) (mask : IVec S512x128 1) (ones : Vec Ideal S128x128 .f32) (g : FVec Ideal S1x128 .f32) (r : Fin 512) (l : Fin 128) :
    slab 640 slices_S512x1536_o0_640_S512x128 z co si mask ones g (ix2 r l)
      = laneTurn (laneNorm (fun x => z (ix2 r ⟨640 + x.val, by omega⟩)) (fun x l => ones (ix2 x l)) (fun l => g (ix2 0 l))) (mask (ix2 r l)) (co (ix2 r l)) (si (ix2 r l)) l := by
  unfold laneTurn laneNorm
  pointwise [slab]
theorem slab768_at (z : FVec Ideal S512x1536 .f32) (co si : FVec Ideal S512x128 .f32) (mask : IVec S512x128 1) (ones : Vec Ideal S128x128 .f32) (g : FVec Ideal S1x128 .f32) (r : Fin 512) (l : Fin 128) :
    slab 768 slices_S512x1536_o0_768_S512x128 z co si mask ones g (ix2 r l)
      = laneTurn (laneNorm (fun x => z (ix2 r ⟨768 + x.val, by omega⟩)) (fun x l => ones (ix2 x l)) (fun l => g (ix2 0 l))) (mask (ix2 r l)) (co (ix2 r l)) (si (ix2 r l)) l := by
  unfold laneTurn laneNorm
  pointwise [slab]
theorem slab896_at (z : FVec Ideal S512x1536 .f32) (co si : FVec Ideal S512x128 .f32) (mask : IVec S512x128 1) (ones : Vec Ideal S128x128 .f32) (g : FVec Ideal S1x128 .f32) (r : Fin 512) (l : Fin 128) :
    slab 896 slices_S512x1536_o0_896_S512x128 z co si mask ones g (ix2 r l)
      = laneTurn (laneNorm (fun x => z (ix2 r ⟨896 + x.val, by omega⟩)) (fun x l => ones (ix2 x l)) (fun l => g (ix2 0 l))) (mask (ix2 r l)) (co (ix2 r l)) (si (ix2 r l)) l := by
  unfold laneTurn laneNorm
  pointwise [slab]

/-- The lanes whose partner is the one 32 further on. -/
theorem mask_at (r : Fin 512) (l : Fin 128) : (k0_pay5 (Scalar.select (Scalar.cmpi .eq 64#32 0#32) 1#32 64#32) k0_pay4 0#32 : IVec S512x128 1) (ix2 r l) = if l.val % 64 < 32 then 1#1 else 0#1 := by
  pointwise [k0_pay5, k0_pay4]
  revert l
  decide +kernel

/-- The angle of a place and a pair of lanes. -/
def angle (s : Fin 4) (j : Fin 32) : EReal :=
  FloatOps.sitofp (F := Ideal) FTy.f32 (IntOp.addi 2048#32 (BitVec.ofNat 32 s.val)) * Ideal.div 1 (Ideal.pow (Ideal.ofBits FTy.f32 0x461C4000#32) (Ideal.div (FloatOps.sitofp (F := Ideal) FTy.f32 (BitVec.ofNat 32 j.val)) (Ideal.ofBits FTy.f32 0x42000000#32)))

/-- The projection of a normed row onto a column. -/
def proj (x0 : FVec Ideal S512x1024 .f32) (x1 : FVec Ideal S1024 .f32) (x2 : FVec Ideal S1024x7456 .f32) (T : Fin 512) (c : Fin 1536) : EReal :=
  ∑ k, x0 (ix2 T k) * Ideal.rsqrt (Ideal.div (∑ k, x0 (ix2 T k) * x0 (ix2 T k)) (Ideal.ofBits .f32 0x44800000#32) + Ideal.ofBits .f32 0x358637BD#32) * x1 (ix1 k) * x2 (ix2 k ⟨c.val, by omega⟩)

def rowOf (b : Fin 128) (s : Fin 4) : Fin 512 := ⟨4 * b.val + s.val, by omega⟩
def colOf (h : Fin 8) (e : Fin 64) : Fin 512 := ⟨64 * h.val + e.val, by omega⟩

section
variable (x0 : FVec Ideal S512x1024 .f32) (x1 : FVec Ideal S1024 .f32) (x2 : FVec Ideal S1024x7456 .f32)
theorem v14_at (T : Fin 512) (c : Fin 1536) : (val_main_v14 (F := Ideal) x0 x1 x2 : Cert.InprojSRefIdeal.S512x1536.Idx → EReal) (ix2 T c) = proj x0 x1 x2 T c := by
  unfold proj
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]
theorem v18_at (b : Fin 128) (s : Fin 4) (h : Fin 8) (e : Fin 64) :
    (val_main_v18 (F := Ideal) x0 x1 x2 : Cert.InprojSRefIdeal.S128x4x8x64.Idx → EReal) (ix4 b s h e) = proj x0 x1 x2 (rowOf b s) ⟨0 + (colOf h e).val, by omega⟩ := by
  unfold val_main_v18
  rw [shapeCast_apply _ _ _ (ix2 (n0 := 512) (n1 := 512) (rowOf b s) (colOf h e)) (by
    rw [Shape.rowMajor_val_two, Shape.rowMajor_val_four]
    show (4 * b.val + s.val) * 512 + (64 * h.val + e.val) = ((b.val * 4 + s.val) * 8 + h.val) * 64 + e.val
    omega)]
  rw [← v14_at]
  pointwise [val_main_v15]
theorem v19_at (b : Fin 128) (s : Fin 4) (h : Fin 8) (e : Fin 64) :
    (val_main_v19 (F := Ideal) x0 x1 x2 : Cert.InprojSRefIdeal.S128x4x8x64.Idx → EReal) (ix4 b s h e) = proj x0 x1 x2 (rowOf b s) ⟨512 + (colOf h e).val, by omega⟩ := by
  unfold val_main_v19
  rw [shapeCast_apply _ _ _ (ix2 (n0 := 512) (n1 := 512) (rowOf b s) (colOf h e)) (by
    rw [Shape.rowMajor_val_two, Shape.rowMajor_val_four]
    show (4 * b.val + s.val) * 512 + (64 * h.val + e.val) = ((b.val * 4 + s.val) * 8 + h.val) * 64 + e.val
    omega)]
  rw [← v14_at]
  pointwise [val_main_v16]
theorem v20_at (b : Fin 128) (s : Fin 4) (h : Fin 8) (e : Fin 64) :
    (val_main_v20 (F := Ideal) x0 x1 x2 : Cert.InprojSRefIdeal.S128x4x8x64.Idx → EReal) (ix4 b s h e) = proj x0 x1 x2 (rowOf b s) ⟨1024 + (colOf h e).val, by omega⟩ := by
  unfold val_main_v20
  rw [shapeCast_apply _ _ _ (ix2 (n0 := 512) (n1 := 512) (rowOf b s) (colOf h e)) (by
    rw [Shape.rowMajor_val_two, Shape.rowMajor_val_four]
    show (4 * b.val + s.val) * 512 + (64 * h.val + e.val) = ((b.val * 4 + s.val) * 8 + h.val) * 64 + e.val
    omega)]
  rw [← v14_at]
  pointwise [val_main_v17]
end

theorem v49_at (s : Fin 4) (j : Fin 32) : (val_main_v49 (F := Ideal) : Cert.InprojSRefIdeal.S4x32.Idx → EReal) (ix2 s j) = angle s j := by
  unfold angle
  pointwise [val_main_v21, val_main_v22, val_main_v23, val_main_c, val_main_v37, val_main_v38, val_main_v39, val_main_v40, val_main_v41, val_main_v42, val_main_v43, val_main_v44, val_main_v45, val_main_v46, val_main_v47, val_main_v48, val_main_v49, val_main_cst_5, val_main_cst_6, val_main_cst_7]
theorem v36_at (x0 : FVec Ideal S512x1024 .f32) (x1 : FVec Ideal S1024 .f32) (x2 : FVec Ideal S1024x7456 .f32) (x3 : FVec Ideal S64 .f32) (b : Fin 128) (s : Fin 4) (h : Fin 8) (e : Fin 64) :
    (val_main_v36 (F := Ideal) x0 x1 x2 x3 : Cert.InprojSRefIdeal.S128x4x8x64.Idx → EReal) (ix4 b s h e)
      = unit (fun e => (val_main_v18 (F := Ideal) x0 x1 x2 : Cert.InprojSRefIdeal.S128x4x8x64.Idx → EReal) (ix4 b s h e)) (fun e => x3 (ix1 e)) e := by
  unfold unit
  pointwise [val_main_v24, val_main_v25, val_main_v26, val_main_v27, val_main_v28, val_main_v29, val_main_v30, val_main_v31, val_main_v32, val_main_v33, val_main_v34, val_main_v35, val_main_v36, val_main_cst_2, val_main_cst_3, val_main_cst_4]
/-- The reference's heads: normed, then turned. -/
theorem v118_at (x0 : FVec Ideal S512x1024 .f32) (x1 : FVec Ideal S1024 .f32) (x2 : FVec Ideal S1024x7456 .f32) (x3 : FVec Ideal S64 .f32) (b : Fin 128) (s : Fin 4) (h : Fin 8) (e : Fin 64) :
    (val_main_v118 (F := Ideal) x0 x1 x2 x3 : Cert.InprojSRefIdeal.S512x512.Idx → EReal) (ix2 (rowOf b s) (colOf h e))
      = turned (unit (fun e => (val_main_v18 (F := Ideal) x0 x1 x2 : Cert.InprojSRefIdeal.S128x4x8x64.Idx → EReal) (ix4 b s h e)) (fun e => x3 (ix1 e)))
          (fun j => Ideal.cos (angle s j)) (fun j => Ideal.sin (angle s j)) e := by
  unfold val_main_v118
  rw [shapeCast_apply _ _ _ (ix4 (n0 := 128) (n1 := 4) (n2 := 8) (n3 := 64) b s h e) (by
    rw [Shape.rowMajor_val_two, Shape.rowMajor_val_four]
    show ((b.val * 4 + s.val) * 8 + h.val) * 64 + e.val = (4 * b.val + s.val) * 512 + (64 * h.val + e.val)
    omega)]
  unfold turned
  pointwise [val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70]
  simp only [v36_at, v49_at]

theorem v96_at (s : Fin 4) (j : Fin 32) : (val_main_v96 (F := Ideal) : Cert.InprojSRefIdeal.S4x32.Idx → EReal) (ix2 s j) = angle s j := by
  unfold angle
  pointwise [val_main_v21, val_main_v22, val_main_v23, val_main_c, val_main_v84, val_main_v85, val_main_v86, val_main_v87, val_main_v88, val_main_v89, val_main_v90, val_main_v91, val_main_v92, val_main_v93, val_main_v94, val_main_v95, val_main_v96, val_main_cst_11, val_main_cst_12, val_main_cst_13]
theorem v83_at (x0 : FVec Ideal S512x1024 .f32) (x1 : FVec Ideal S1024 .f32) (x2 : FVec Ideal S1024x7456 .f32) (x4 : FVec Ideal S64 .f32) (b : Fin 128) (s : Fin 4) (h : Fin 8) (e : Fin 64) :
    (val_main_v83 (F := Ideal) x0 x1 x2 x4 : Cert.InprojSRefIdeal.S128x4x8x64.Idx → EReal) (ix4 b s h e)
      = unit (fun e => (val_main_v19 (F := Ideal) x0 x1 x2 : Cert.InprojSRefIdeal.S128x4x8x64.Idx → EReal) (ix4 b s h e)) (fun e => x4 (ix1 e)) e := by
  unfold unit
  pointwise [val_main_v71, val_main_v72, val_main_v73, val_main_v74, val_main_v75, val_main_v76, val_main_v77, val_main_v78, val_main_v79, val_main_v80, val_main_v81, val_main_v82, val_main_v83, val_main_cst_8, val_main_cst_9, val_main_cst_10]
/-- The reference's heads: normed, then turned. -/
theorem v119_at (x0 : FVec Ideal S512x1024 .f32) (x1 : FVec Ideal S1024 .f32) (x2 : FVec Ideal S1024x7456 .f32) (x4 : FVec Ideal S64 .f32) (b : Fin 128) (s : Fin 4) (h : Fin 8) (e : Fin 64) :
    (val_main_v119 (F := Ideal) x0 x1 x2 x4 : Cert.InprojSRefIdeal.S512x512.Idx → EReal) (ix2 (rowOf b s) (colOf h e))
      = turned (unit (fun e => (val_main_v19 (F := Ideal) x0 x1 x2 : Cert.InprojSRefIdeal.S128x4x8x64.Idx → EReal) (ix4 b s h e)) (fun e => x4 (ix1 e)))
          (fun j => Ideal.cos (angle s j)) (fun j => Ideal.sin (angle s j)) e := by
  unfold val_main_v119
  rw [shapeCast_apply _ _ _ (ix4 (n0 := 128) (n1 := 4) (n2 := 8) (n3 := 64) b s h e) (by
    rw [Shape.rowMajor_val_two, Shape.rowMajor_val_four]
    show ((b.val * 4 + s.val) * 8 + h.val) * 64 + e.val = (4 * b.val + s.val) * 512 + (64 * h.val + e.val)
    omega)]
  unfold turned
  pointwise [val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117]
  simp only [v83_at, v96_at]

theorem v120_at (x0 : FVec Ideal S512x1024 .f32) (x1 : FVec Ideal S1024 .f32) (x2 : FVec Ideal S1024x7456 .f32) (b : Fin 128) (s : Fin 4) (h : Fin 8) (e : Fin 64) :
    (val_main_v120 (F := Ideal) x0 x1 x2 : Cert.InprojSRefIdeal.S512x512.Idx → EReal) (ix2 (rowOf b s) (colOf h e)) = proj x0 x1 x2 (rowOf b s) ⟨1024 + (colOf h e).val, by omega⟩ := by
  unfold val_main_v120
  rw [shapeCast_apply _ _ _ (ix4 (n0 := 128) (n1 := 4) (n2 := 8) (n3 := 64) b s h e) (by
    rw [Shape.rowMajor_val_two, Shape.rowMajor_val_four]
    show ((b.val * 4 + s.val) * 8 + h.val) * 64 + e.val = (4 * b.val + s.val) * 512 + (64 * h.val + e.val)
    omega)]
  exact v20_at x0 x1 x2 b s h e

/-- The angles as the kernel's host part lays them out, a row for every row of both prompts. -/
def angles : FVec Ideal S512x32 .f32 :=
  mulf (broadcastInDim S512x32 ![0, 1] bcast_S512x1_S512x32_0_1 (broadcastInDim S512x1 ![0] bcast_S512_S512x1_0
      (sitofp .f32 (shapeCast S512 (broadcastInDim S128x4 ![0, 1] bcast_S1x4_S128x4_0_1 (shapeCast S1x4 (addi (broadcastInDim S4 ![] bcast_S_S4 (constantI S_ 32 2048#32 : IVec S_ 32)) (iotaInDim S4 32 0) : IVec S4 32) shapeCasts_S4_S1x4)) shapeCasts_S128x4_S512))))
    (broadcastInDim S512x32 ![0, 1] bcast_S1x32_S512x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (iotaInDim S32 32 0)) (broadcastInDim S32 ![] bcast_S_S32 (constant S_ .f32 0x42000000#32)))))))

/-- Two half heads side by side, and the head twice over. -/
def twice (a b : FVec Ideal S512x32 .f32) : FVec Ideal S512x128 .f32 :=
  shapeCast S512x128 (broadcastInDim S1x512x2x64 ![0, 1, 2, 3] bcast_S1x512x1x64_S1x512x2x64_0_1_2_3
    (shapeCast S1x512x1x64 (concatenate S512x64 1 [⟨S512x32, a⟩, ⟨S512x32, b⟩] concatenates_S512x32_S512x32_S512x64_d1) shapeCasts_S512x64_S1x512x1x64)) shapeCasts_S1x512x2x64_S512x128

/-- A gain twice over. -/
def gains (a : FVec Ideal S64 .f32) : FVec Ideal S1x128 .f32 :=
  shapeCast S1x128 (shapeCast S128 (broadcastInDim S2x64 ![0, 1] bcast_S1x64_S2x64_0_1 (shapeCast S1x64 a shapeCasts_S64_S1x64)) shapeCasts_S2x64_S128) shapeCasts_S128_S1x128

theorem angles_at (b : Fin 128) (s : Fin 4) (j : Fin 32) : angles (ix2 (rowOf b s) j) = angle s j := by
  have e : (rowOf b s).val % 4 = s.val := by show (4 * b.val + s.val) % 4 = s.val; omega
  unfold angle
  rw [← e]
  pointwise [angles]
theorem twice_at (a b : FVec Ideal S512x32 .f32) (T : Fin 512) (q : Fin 2) (e : Fin 64) :
    twice a b (ix2 T (lane q e)) = if h : e.val < 32 then a (ix2 T ⟨e.val, h⟩) else b (ix2 T ⟨e.val - 32, by omega⟩) := by
  have e1 : (lane q e).val % 64 = e.val := by show (64 * q.val + e.val) % 64 = e.val; omega
  have h : ∀ l : Fin 128, twice a b (ix2 T l) = if h : l.val % 64 < 32 then a (ix2 T ⟨l.val % 64, h⟩) else b (ix2 T ⟨l.val % 64 - 32, by omega⟩) := fun l => by
    pointwise [twice]
  rw [h]
  simp only [e1]
theorem gains_at (a : FVec Ideal S64 .f32) (q : Fin 2) (e : Fin 64) : gains a (ix2 0 (lane q e)) = a (ix1 e) := by
  have e1 : (⟨(lane q e).val % 64, by omega⟩ : Fin 64) = e := Fin.ext (by show (64 * q.val + e.val) % 64 = e.val; omega)
  have h : ∀ l : Fin 128, gains a (ix2 0 l) = a (ix1 ⟨l.val % 64, by omega⟩) := fun l => by
    pointwise [gains]
  rw [h, e1]

variable (m : (ℓ : Loc nD τ sig) → Buf (Elt Ideal) ℓ) (c : Dev nD)

theorem zeros2 : (![0, 0] : Fin 2 → Nat) = fun _ => 0 := funext fun a => by fin_cases a <;> rfl

/-- The arguments as functions of their indices. -/
abbrev A0 : FVec Ideal S512x1024 .f32 := m ((c : Thread nD τ).loc main_arg0)
abbrev A1 : FVec Ideal S1024 .f32 := m ((c : Thread nD τ).loc main_arg1)
abbrev A2 : FVec Ideal S1024x7456 .f32 := m ((c : Thread nD τ).loc main_arg2)
abbrev A3 : FVec Ideal S64 .f32 := m ((c : Thread nD τ).loc main_arg3)
abbrev A4 : FVec Ideal S64 .f32 := m ((c : Thread nD τ).loc main_arg4)

theorem norm_eq : V m c main_v30 = (shapeCast S1x1024 (A1 m c) shapeCasts_S1024_S1x1024 : Vec Ideal S1x1024 .f32) := by
  show StableHlo.after hostOps0 _ _ = _
  simp only [hostOps0, List.cons_append, List.nil_append]
  after_results
  rfl
theorem weights_eq : V m c main_v31 = (extractStridedSlice S1024x1536 ![0, 0] (A2 m c) slices_S1024x7456_S1024x1536_0_0 : FVec Ideal S1024x1536 .f32) := by
  show StableHlo.after hostOps0 _ _ = _
  simp only [hostOps0, List.cons_append, List.nil_append]
  after_results
theorem cosines_eq : V m c main_v24 = (twice (Host.cos angles) (Host.cos angles)) := by
  show StableHlo.after hostOps0 _ _ = _
  simp only [hostOps0, List.cons_append, List.nil_append]
  after_results
  rfl
theorem sines_eq : V m c main_v29 = (twice (Host.negf (Host.sin angles)) (Host.sin angles)) := by
  show StableHlo.after hostOps0 _ _ = _
  simp only [hostOps0, List.cons_append, List.nil_append]
  after_results
  rfl
theorem qgain_eq : V m c main_v35 = (gains (A3 m c)) := by
  show StableHlo.after hostOps0 _ _ = _
  simp only [hostOps0, List.cons_append, List.nil_append]
  after_results
  rfl
theorem kgain_eq : V m c main_v39 = (gains (A4 m c)) := by
  show StableHlo.after hostOps0 _ _ = _
  simp only [hostOps0, List.cons_append, List.nil_append]
  after_results
  rfl
theorem ones_eq : V m c main_cst = ((fun i => FloatOps.ofBits (F := Ideal) .f32 (lit0 (S128x128.rowMajor i)) : S128x128.Idx → EReal)) := by
  show StableHlo.after hostOps0 _ _ = _
  simp only [hostOps0, List.cons_append, List.nil_append]
  after_results
  rfl

theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 0 := by decide +kernel
theorem index3 : ∀ t : Fin grid0.N, win0_3.index t (0 : Fin 2) = 0 ∧ win0_3.index t (1 : Fin 2) = 0 := by decide +kernel
theorem index4 : ∀ t : Fin grid0.N, win0_4.index t (0 : Fin 2) = 0 ∧ win0_4.index t (1 : Fin 2) = 0 := by decide +kernel
theorem index5 : ∀ t : Fin grid0.N, win0_5.index t (0 : Fin 2) = 0 ∧ win0_5.index t (1 : Fin 2) = 0 := by decide +kernel
theorem index6 : ∀ t : Fin grid0.N, win0_6.index t (0 : Fin 2) = 0 ∧ win0_6.index t (1 : Fin 2) = 0 := by decide +kernel
theorem index7 : ∀ t : Fin grid0.N, win0_7.index t (0 : Fin 2) = 0 ∧ win0_7.index t (1 : Fin 2) = 0 := by decide +kernel
theorem index8 : ∀ t : Fin grid0.N, win0_8.index t (0 : Fin 2) = t.val ∧ win0_8.index t (1 : Fin 2) = 0 := by decide +kernel
theorem index9 : ∀ t : Fin grid0.N, win0_9.index t (0 : Fin 2) = t.val ∧ win0_9.index t (1 : Fin 2) = 0 := by decide +kernel
theorem index10 : ∀ t : Fin grid0.N, win0_10.index t (0 : Fin 2) = t.val ∧ win0_10.index t (1 : Fin 2) = 0 := by decide +kernel

/-- The row of the input that row `r` of point `t`'s block is. -/
def rowAt (t : Fin cfg0.N) (r : Fin 512) : Fin 512 :=
  ⟨512 * t.val + r.val, by have := t.isLt; have h : cfg0.N = 1 := N_0; omega⟩

theorem block0 (t : Fin cfg0.N) (r : Fin 512) (k : Fin 1024) : (iblk m c 0 t : Vec Ideal S512x1024 .f32) (ix2 r k) = V m c main_arg0 (ix2 (n0 := 512) (n1 := 1024) (rowAt t r) k) := by
  obtain ⟨h0, h1⟩ := index0 t
  unfold iblk
  rw [View.read_apply]
  show V m c main_arg0 _ = _
  congr 1
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega
theorem block1 (t : Fin cfg0.N) (r : Fin 512) (k : Fin 128) : (iblk m c 1 t : Vec Ideal S512x128 .f32) (ix2 r k) = V m c main_v24 (ix2 (n0 := 512) (n1 := 128) (rowAt t r) k) := by
  obtain ⟨h0, h1⟩ := index1 t
  unfold iblk
  rw [View.read_apply]
  show V m c main_v24 _ = _
  congr 1
  funext a
  apply Fin.ext
  match a with
  | ⟨0, _⟩ => show win0_1.index t 0 * 512 + 1 * r.val = 512 * t.val + r.val; rw [h0]; omega
  | ⟨1, _⟩ => show win0_1.index t 1 * 128 + 1 * k.val = k.val; rw [h1]; omega
theorem block2 (t : Fin cfg0.N) (r : Fin 512) (k : Fin 128) : (iblk m c 2 t : Vec Ideal S512x128 .f32) (ix2 r k) = V m c main_v29 (ix2 (n0 := 512) (n1 := 128) (rowAt t r) k) := by
  obtain ⟨h0, h1⟩ := index2 t
  unfold iblk
  rw [View.read_apply]
  show V m c main_v29 _ = _
  congr 1
  funext a
  apply Fin.ext
  match a with
  | ⟨0, _⟩ => show win0_2.index t 0 * 512 + 1 * r.val = 512 * t.val + r.val; rw [h0]; omega
  | ⟨1, _⟩ => show win0_2.index t 1 * 128 + 1 * k.val = k.val; rw [h1]; omega
theorem block3 (t : Fin cfg0.N) (k : Fin 1024) : (iblk m c 3 t : Vec Ideal S1x1024 .f32) (ix2 0 k) = V m c main_v30 (ix2 (n0 := 1) (n1 := 1024) 0 k) := by
  obtain ⟨h0, h1⟩ := index3 t
  unfold iblk
  rw [View.read_apply]
  show V m c main_v30 _ = _
  congr 1
  funext a
  apply Fin.ext
  match a with
  | ⟨0, _⟩ => show win0_3.index t 0 * 1 + 1 * 0 = 0; rw [h0]
  | ⟨1, _⟩ => show win0_3.index t 1 * 1024 + 1 * k.val = k.val; rw [h1]; omega
theorem block4 (t : Fin cfg0.N) (r : Fin 1024) (k : Fin 1536) : (iblk m c 4 t : Vec Ideal S1024x1536 .f32) (ix2 r k) = V m c main_v31 (ix2 (n0 := 1024) (n1 := 1536) r k) := by
  obtain ⟨h0, h1⟩ := index4 t
  unfold iblk
  rw [View.read_apply]
  show V m c main_v31 _ = _
  congr 1
  funext a
  apply Fin.ext
  match a with
  | ⟨0, _⟩ => show win0_4.index t 0 * 1024 + 1 * r.val = r.val; rw [h0]; omega
  | ⟨1, _⟩ => show win0_4.index t 1 * 1536 + 1 * k.val = k.val; rw [h1]; omega
theorem block5 (t : Fin cfg0.N) (k : Fin 128) : (iblk m c 5 t : Vec Ideal S1x128 .f32) (ix2 0 k) = V m c main_v35 (ix2 (n0 := 1) (n1 := 128) 0 k) := by
  obtain ⟨h0, h1⟩ := index5 t
  unfold iblk
  rw [View.read_apply]
  show V m c main_v35 _ = _
  congr 1
  funext a
  apply Fin.ext
  match a with
  | ⟨0, _⟩ => show win0_5.index t 0 * 1 + 1 * 0 = 0; rw [h0]
  | ⟨1, _⟩ => show win0_5.index t 1 * 128 + 1 * k.val = k.val; rw [h1]; omega
theorem block6 (t : Fin cfg0.N) (k : Fin 128) : (iblk m c 6 t : Vec Ideal S1x128 .f32) (ix2 0 k) = V m c main_v39 (ix2 (n0 := 1) (n1 := 128) 0 k) := by
  obtain ⟨h0, h1⟩ := index6 t
  unfold iblk
  rw [View.read_apply]
  show V m c main_v39 _ = _
  congr 1
  funext a
  apply Fin.ext
  match a with
  | ⟨0, _⟩ => show win0_6.index t 0 * 1 + 1 * 0 = 0; rw [h0]
  | ⟨1, _⟩ => show win0_6.index t 1 * 128 + 1 * k.val = k.val; rw [h1]; omega
theorem block7 (t : Fin cfg0.N) (r : Fin 128) (k : Fin 128) : (iblk m c 7 t : Vec Ideal S128x128 .f32) (ix2 r k) = V m c main_cst (ix2 (n0 := 128) (n1 := 128) r k) := by
  obtain ⟨h0, h1⟩ := index7 t
  unfold iblk
  rw [View.read_apply]
  show V m c main_cst _ = _
  congr 1
  funext a
  apply Fin.ext
  match a with
  | ⟨0, _⟩ => show win0_7.index t 0 * 128 + 1 * r.val = r.val; rw [h0]; omega
  | ⟨1, _⟩ => show win0_7.index t 1 * 128 + 1 * k.val = k.val; rw [h1]; omega

theorem row_at (t : Fin cfg0.N) (r : Fin 512) (k : Fin 1024) : (iblk m c 0 t : Vec Ideal S512x1024 .f32) (ix2 r k) = A0 m c (ix2 (rowAt t r) k) := by
  rw [block0, V_main_arg0]
theorem norm_at (t : Fin cfg0.N) (k : Fin 1024) : (iblk m c 3 t : Vec Ideal S1x1024 .f32) (ix2 0 k) = A1 m c (ix1 k) := by
  rw [block3, norm_eq] <;> pointwise []
theorem weights_at (t : Fin cfg0.N) (k : Fin 1024) (j : Fin 1536) : (iblk m c 4 t : Vec Ideal S1024x1536 .f32) (ix2 k j) = A2 m c (ix2 k ⟨j.val, by omega⟩) := by
  rw [block4, weights_eq] <;> pointwise []
theorem ones_at (t : Fin cfg0.N) (x l : Fin 128) : (iblk m c 7 t : Vec Ideal S128x128 .f32) (ix2 x l) = if x.val / 64 = l.val / 64 then (1 : EReal) else (0 : EReal) := by
  rw [block7, ones_eq]
  show Ideal.ofBits .f32 (lit0 (S128x128.rowMajor (ix2 (n0 := 128) (n1 := 128) x l))) = _
  have e : S128x128.rowMajor (ix2 (n0 := 128) (n1 := 128) x l) = (⟨x.val * 128 + l.val, by omega⟩ : Fin 16384) := by
    apply Fin.ext
    rw [Shape.rowMajor_val_two]
    rfl
  rw [e, lit0_same, Cert.InprojTable.lit0_eq x l]
  split_ifs
  exacts [one_bits, nought_bits]
theorem cos_at (t : Fin cfg0.N) (r : Fin 512) (b : Fin 128) (s : Fin 4) (hT : rowAt t r = rowOf b s) (q : Fin 2) (e : Fin 64) :
    (iblk m c 1 t : Vec Ideal S512x128 .f32) (ix2 r (lane q e)) = if h : e.val < 32 then Ideal.cos (angle s ⟨e.val, h⟩) else Ideal.cos (angle s ⟨e.val - 32, by omega⟩) := by
  rw [block1, cosines_eq, hT, twice_at]
  simp only [← angles_at b s]
  rfl
theorem sin_at (t : Fin cfg0.N) (r : Fin 512) (b : Fin 128) (s : Fin 4) (hT : rowAt t r = rowOf b s) (q : Fin 2) (e : Fin 64) :
    (iblk m c 2 t : Vec Ideal S512x128 .f32) (ix2 r (lane q e)) = if h : e.val < 32 then -(Ideal.sin (angle s ⟨e.val, h⟩)) else Ideal.sin (angle s ⟨e.val - 32, by omega⟩) := by
  rw [block2, sines_eq, hT, twice_at]
  simp only [← angles_at b s]
  rfl
theorem qgain_at (t : Fin cfg0.N) (q : Fin 2) (e : Fin 64) : (iblk m c 5 t : Vec Ideal S1x128 .f32) (ix2 0 (lane q e)) = A3 m c (ix1 e) := by
  rw [block5, qgain_eq, gains_at]
theorem kgain_at (t : Fin cfg0.N) (q : Fin 2) (e : Fin 64) : (iblk m c 6 t : Vec Ideal S1x128 .f32) (ix2 0 (lane q e)) = A4 m c (ix1 e) := by
  rw [block6, kgain_eq, gains_at]

/-- The rows, the gain and the projection's columns are finite. -/
def Real (x0 : FVec Ideal S512x1024 .f32) (x1 : FVec Ideal S1024 .f32) (x2 : FVec Ideal S1024x7456 .f32) : Prop :=
  (∀ (r : Fin 512) (k : Fin 1024), ∃ a : ℝ, x0 (ix2 r k) = a) ∧ (∀ k : Fin 1024, ∃ a : ℝ, x1 (ix1 k) = a) ∧ ∀ (k : Fin 1024) (j : Fin 1536), ∃ a : ℝ, x2 (ix2 k ⟨j.val, by omega⟩) = a

/-- A point's projection of its rows. -/
abbrev zrows (x0 : Vec Ideal S512x1024 .f32) (x3 : Vec Ideal S1x1024 .f32) (x4 : Vec Ideal S1024x1536 .f32) : FVec Ideal S512x1536 .f32 :=
  k0_pay1 (View.ld x0 r0_0) (View.ld x3 r0_1) (View.ld x4 r0_2)

theorem zrows_eq (x0 : Vec Ideal S512x1024 .f32) (x3 : Vec Ideal S1x1024 .f32) (x4 : Vec Ideal S1024x1536 .f32) : zrows x0 x3 x4 = k0_pay1 x0 x3 x4 := by
  have e0 : View.ld x0 r0_0 = x0 := View.ld_unit_zero (S := S512x1024) zeros2 _ _
  have e1 : View.ld x3 r0_1 = x3 := View.ld_unit_zero (S := S1x1024) zeros2 _ _
  have e2 : View.ld x4 r0_2 = x4 := View.ld_unit_zero (S := S1024x1536) zeros2 _ _
  unfold zrows
  rw [e0, e1, e2]

theorem zrows_at (hf : Real (A0 m c) (A1 m c) (A2 m c)) (t : Fin cfg0.N) (r : Fin 512) (j : Fin 1536) :
    zrows (iblk m c 0 t) (iblk m c 3 t) (iblk m c 4 t) (ix2 r j) = proj (A0 m c) (A1 m c) (A2 m c) (rowAt t r) j := by
  rw [zrows_eq]
  unfold proj
  rw [← dot3 _ _ (rms_real (fun k => A0 m c (ix2 (rowAt t r) k)) (fun k => A1 m c (ix1 k)) (fun k => hf.1 _ k) hf.2.1) (fun k => hf.2.2 k j)]
  simp only [← row_at m c t, ← norm_at m c t, ← weights_at m c t]
  pointwise [k0_pay1]

/-- The place of a row. -/
theorem row_place (T : Fin 512) : ∃ (b : Fin 128) (s : Fin 4), T = rowOf b s :=
  ⟨⟨T.val / 4, by omega⟩, ⟨T.val % 4, by omega⟩, Fin.ext (by show T.val = 4 * (T.val / 4) + T.val % 4; omega)⟩

/-- A point's queries, a slab of columns at a time. -/
theorem out8 (x0 : Vec Ideal S512x1024 .f32) (x1 x2 : Vec Ideal S512x128 .f32) (x3 : Vec Ideal S1x1024 .f32) (x4 : Vec Ideal S1024x1536 .f32) (x5 x6 : Vec Ideal S1x128 .f32) (x7 : Vec Ideal S128x128 .f32) : out0_8 x0 x1 x2 x3 x4 x5 x6 x7 = View.canon [⟨r0_9, slab 384 slices_S512x1536_o0_384_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay6 (View.ld x5 r0_5))⟩,
    ⟨r0_8, slab 256 slices_S512x1536_o0_256_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay6 (View.ld x5 r0_5))⟩,
    ⟨r0_7, slab 128 slices_S512x1536_o0_128_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay6 (View.ld x5 r0_5))⟩,
    ⟨r0_6, slab 0 slices_S512x1536_o0_0_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay6 (View.ld x5 r0_5))⟩] := rfl

/-- One lane of a slab is the reference's. -/
theorem qlane (hf : Real (A0 m c) (A1 m c) (A2 m c)) (off : ℕ) (j : Fin 4) (hoff : off = 0 + 128 * j.val) (hx : ∀ x : Fin 128, off + x.val < 1536) (t : Fin cfg0.N) (r : Fin 512) (l : Fin 128) (C : Fin 512) (hC : C.val = 128 * j.val + l.val) :
    laneTurn (laneNorm (fun x => zrows (iblk m c 0 t) (iblk m c 3 t) (iblk m c 4 t) (ix2 r ⟨off + x.val, hx x⟩)) (fun x l => (View.ld (iblk m c 7 t) r0_4 : Vec Ideal S128x128 .f32) (ix2 x l)) (fun l => (k0_pay6 (View.ld (iblk m c 5 t) r0_5) : FVec Ideal S1x128 .f32) (ix2 0 l)))
      ((k0_pay5 (Scalar.select (Scalar.cmpi .eq 64#32 0#32) 1#32 64#32) k0_pay4 0#32 : IVec S512x128 1) (ix2 r l)) ((k0_pay2 (View.ld (iblk m c 1 t) r0_3) : FVec Ideal S512x128 .f32) (ix2 r l)) ((k0_pay3 (View.ld (iblk m c 2 t) r0_3) : FVec Ideal S512x128 .f32) (ix2 r l)) l
      = (val_main_v118 (F := Ideal) (A0 m c) (A1 m c) (A2 m c) (A3 m c) : Cert.InprojSRefIdeal.S512x512.Idx → EReal) (ix2 (rowAt t r) C) := by
  have e7 : (View.ld (iblk m c 7 t) r0_4 : Vec Ideal S128x128 .f32) = iblk m c 7 t := View.ld_unit_zero (S := S128x128) zeros2 _ _
  have eg : (View.ld (iblk m c 5 t) r0_5 : Vec Ideal S1x128 .f32) = iblk m c 5 t := View.ld_unit_zero (S := S1x128) zeros2 _ _
  have e1 : (View.ld (iblk m c 1 t) r0_3 : Vec Ideal S512x128 .f32) = iblk m c 1 t := View.ld_unit_zero (S := S512x128) zeros2 _ _
  have e2 : (View.ld (iblk m c 2 t) r0_3 : Vec Ideal S512x128 .f32) = iblk m c 2 t := View.ld_unit_zero (S := S512x128) zeros2 _ _
  rw [e7, eg, e1, e2]
  obtain ⟨q, e, rfl⟩ := lane_split l
  obtain ⟨b, s, hT⟩ := row_place (rowAt t r)
  have hl : (lane q e).val = 64 * q.val + e.val := rfl
  have hh : C = colOf ⟨2 * j.val + q.val, by omega⟩ e := Fin.ext (by show C.val = 64 * (2 * j.val + q.val) + e.val; omega)
  have p1 : (k0_pay2 (iblk m c 1 t) : FVec Ideal S512x128 .f32) (ix2 r (lane q e)) = (iblk m c 1 t : Vec Ideal S512x128 .f32) (ix2 r (lane q e)) := by
    generalize lane q e = l
    pointwise [k0_pay2]
  have p2 : (k0_pay3 (iblk m c 2 t) : FVec Ideal S512x128 .f32) (ix2 r (lane q e)) = (iblk m c 2 t : Vec Ideal S512x128 .f32) (ix2 r (lane q e)) := by
    generalize lane q e = l
    pointwise [k0_pay3]
  have pg : ∀ l : Fin 128, (k0_pay6 (iblk m c 5 t) : FVec Ideal S1x128 .f32) (ix2 0 l) = (iblk m c 5 t : Vec Ideal S1x128 .f32) (ix2 0 l) := fun l => by
    pointwise [k0_pay6]
  refine (laneTurn_at _ _ _ _ (fun j => Ideal.cos (angle s j)) (fun j => Ideal.sin (angle s j)) q e ?_ (p1.trans (cos_at m c t r b s hT q e)) (p2.trans (sin_at m c t r b s hT q e))).trans ?_
  · rw [mask_at]
    have e3 : (lane q e).val % 64 = e.val := by rw [hl]; omega
    rw [e3]
  · rw [hT, hh, v118_at]
    refine congrArg (fun n => turned n (fun j => Ideal.cos (angle s j)) (fun j => Ideal.sin (angle s j)) e) (funext fun e' => ?_)
    refine (laneNorm_at _ _ _ (fun x l => ones_at m c t x l) q e').trans ?_
    refine congrFun (congr (congrArg unit (funext fun e'' => ?_)) (funext fun e'' => ?_)) e'
    · rw [v18_at]
      refine (zrows_at m c hf t r _).trans ?_
      rw [hT]
      refine congrArg (proj _ _ _ _) (Fin.ext ?_)
      show off + (64 * q.val + e''.val) = 0 + (64 * (2 * j.val + q.val) + e''.val)
      omega
    · exact (pg (lane q e'')).trans (qgain_at m c t q e'')

/-- What the reference leaves in a point's block. -/
def blockq (t : Fin cfg0.N) (y : S512x512.Idx) : EReal :=
  (val_main_v118 (F := Ideal) (A0 m c) (A1 m c) (A2 m c) (A3 m c) : Cert.InprojSRefIdeal.S512x512.Idx → EReal) (ix2 (rowAt t ⟨(y 0).val, (y 0).isLt⟩) ⟨(y 1).val, (y 1).isLt⟩)

theorem blockq_at (t : Fin cfg0.N) (y : S512x512.Idx) (r C : Fin 512) (e0 : (y 0).val = r.val) (e1 : (y 1).val = C.val) : blockq m c t y = (val_main_v118 (F := Ideal) (A0 m c) (A1 m c) (A2 m c) (A3 m c) : Cert.InprojSRefIdeal.S512x512.Idx → EReal) (ix2 (rowAt t r) C) := by
  have h0 : (⟨(y 0).val, (y 0).isLt⟩ : Fin 512) = r := Fin.ext e0
  have h1 : (⟨(y 1).val, (y 1).isLt⟩ : Fin 512) = C := Fin.ext e1
  unfold blockq
  rw [h0, h1]

theorem out8_at (hf : Real (A0 m c) (A1 m c) (A2 m c)) (t : Fin cfg0.N) (y : S512x512.Idx) : out0_8 (iblk m c 0 t) (iblk m c 1 t) (iblk m c 2 t) (iblk m c 3 t) (iblk m c 4 t) (iblk m c 5 t) (iblk m c 6 t) (iblk m c 7 t) y = blockq m c t y := by
  rw [out8]
  refine View.canon_apply_of_pieces (S := S512x512) (e := .f32) (Val := Elt Ideal) (blockq m c t) _ ?_ y (cover0_8 _ _ _ _ y)
  intro p hp
  simp only [List.mem_cons, List.not_mem_nil, or_false] at hp
  rcases hp with rfl | rfl | rfl | rfl
  · intro (x : S512x128.Idx)
    obtain ⟨r, l, rfl⟩ : ∃ (r : Fin 512) (l : Fin 128), x = ix2 r l := ⟨x 0, x 1, (ix2_eta x).symm⟩
    refine ((slab384_at _ _ _ _ _ _ r l).trans (qlane m c hf 384 3 rfl (fun x => by omega) t r l ⟨384 + l.val, by omega⟩ rfl)).trans (blockq_at m c t _ r _ ?_ ?_).symm
    · show 0 + 1 * r.val = r.val; omega
    · show 384 + 1 * l.val = 384 + l.val; omega
  · intro (x : S512x128.Idx)
    obtain ⟨r, l, rfl⟩ : ∃ (r : Fin 512) (l : Fin 128), x = ix2 r l := ⟨x 0, x 1, (ix2_eta x).symm⟩
    refine ((slab256_at _ _ _ _ _ _ r l).trans (qlane m c hf 256 2 rfl (fun x => by omega) t r l ⟨256 + l.val, by omega⟩ rfl)).trans (blockq_at m c t _ r _ ?_ ?_).symm
    · show 0 + 1 * r.val = r.val; omega
    · show 256 + 1 * l.val = 256 + l.val; omega
  · intro (x : S512x128.Idx)
    obtain ⟨r, l, rfl⟩ : ∃ (r : Fin 512) (l : Fin 128), x = ix2 r l := ⟨x 0, x 1, (ix2_eta x).symm⟩
    refine ((slab128_at _ _ _ _ _ _ r l).trans (qlane m c hf 128 1 rfl (fun x => by omega) t r l ⟨128 + l.val, by omega⟩ rfl)).trans (blockq_at m c t _ r _ ?_ ?_).symm
    · show 0 + 1 * r.val = r.val; omega
    · show 128 + 1 * l.val = 128 + l.val; omega
  · intro (x : S512x128.Idx)
    obtain ⟨r, l, rfl⟩ : ∃ (r : Fin 512) (l : Fin 128), x = ix2 r l := ⟨x 0, x 1, (ix2_eta x).symm⟩
    refine ((slab0_at _ _ _ _ _ _ r l).trans (qlane m c hf 0 0 rfl (fun x => by omega) t r l ⟨0 + l.val, by omega⟩ rfl)).trans (blockq_at m c t _ r _ ?_ ?_).symm
    · show 0 + 1 * r.val = r.val; omega
    · show 0 + 1 * l.val = 0 + l.val; omega

/-- A point's keys, a slab of columns at a time. -/
theorem out9 (x0 : Vec Ideal S512x1024 .f32) (x1 x2 : Vec Ideal S512x128 .f32) (x3 : Vec Ideal S1x1024 .f32) (x4 : Vec Ideal S1024x1536 .f32) (x5 x6 : Vec Ideal S1x128 .f32) (x7 : Vec Ideal S128x128 .f32) : out0_9 x0 x1 x2 x3 x4 x5 x6 x7 = View.canon [⟨r0_9, slab 896 slices_S512x1536_o0_896_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay16 (View.ld x6 r0_5))⟩,
    ⟨r0_8, slab 768 slices_S512x1536_o0_768_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay16 (View.ld x6 r0_5))⟩,
    ⟨r0_7, slab 640 slices_S512x1536_o0_640_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay16 (View.ld x6 r0_5))⟩,
    ⟨r0_6, slab 512 slices_S512x1536_o0_512_S512x128 (zrows x0 x3 x4) (k0_pay2 (View.ld x1 r0_3)) (k0_pay3 (View.ld x2 r0_3)) (k0_pay5 (Scalar.select (Scalar.cmpi .eq 64#32 0#32) 1#32 64#32) k0_pay4 0#32) (View.ld x7 r0_4) (k0_pay16 (View.ld x6 r0_5))⟩] := rfl

/-- One lane of a slab is the reference's. -/
theorem klane (hf : Real (A0 m c) (A1 m c) (A2 m c)) (off : ℕ) (j : Fin 4) (hoff : off = 512 + 128 * j.val) (hx : ∀ x : Fin 128, off + x.val < 1536) (t : Fin cfg0.N) (r : Fin 512) (l : Fin 128) (C : Fin 512) (hC : C.val = 128 * j.val + l.val) :
    laneTurn (laneNorm (fun x => zrows (iblk m c 0 t) (iblk m c 3 t) (iblk m c 4 t) (ix2 r ⟨off + x.val, hx x⟩)) (fun x l => (View.ld (iblk m c 7 t) r0_4 : Vec Ideal S128x128 .f32) (ix2 x l)) (fun l => (k0_pay16 (View.ld (iblk m c 6 t) r0_5) : FVec Ideal S1x128 .f32) (ix2 0 l)))
      ((k0_pay5 (Scalar.select (Scalar.cmpi .eq 64#32 0#32) 1#32 64#32) k0_pay4 0#32 : IVec S512x128 1) (ix2 r l)) ((k0_pay2 (View.ld (iblk m c 1 t) r0_3) : FVec Ideal S512x128 .f32) (ix2 r l)) ((k0_pay3 (View.ld (iblk m c 2 t) r0_3) : FVec Ideal S512x128 .f32) (ix2 r l)) l
      = (val_main_v119 (F := Ideal) (A0 m c) (A1 m c) (A2 m c) (A4 m c) : Cert.InprojSRefIdeal.S512x512.Idx → EReal) (ix2 (rowAt t r) C) := by
  have e7 : (View.ld (iblk m c 7 t) r0_4 : Vec Ideal S128x128 .f32) = iblk m c 7 t := View.ld_unit_zero (S := S128x128) zeros2 _ _
  have eg : (View.ld (iblk m c 6 t) r0_5 : Vec Ideal S1x128 .f32) = iblk m c 6 t := View.ld_unit_zero (S := S1x128) zeros2 _ _
  have e1 : (View.ld (iblk m c 1 t) r0_3 : Vec Ideal S512x128 .f32) = iblk m c 1 t := View.ld_unit_zero (S := S512x128) zeros2 _ _
  have e2 : (View.ld (iblk m c 2 t) r0_3 : Vec Ideal S512x128 .f32) = iblk m c 2 t := View.ld_unit_zero (S := S512x128) zeros2 _ _
  rw [e7, eg, e1, e2]
  obtain ⟨q, e, rfl⟩ := lane_split l
  obtain ⟨b, s, hT⟩ := row_place (rowAt t r)
  have hl : (lane q e).val = 64 * q.val + e.val := rfl
  have hh : C = colOf ⟨2 * j.val + q.val, by omega⟩ e := Fin.ext (by show C.val = 64 * (2 * j.val + q.val) + e.val; omega)
  have p1 : (k0_pay2 (iblk m c 1 t) : FVec Ideal S512x128 .f32) (ix2 r (lane q e)) = (iblk m c 1 t : Vec Ideal S512x128 .f32) (ix2 r (lane q e)) := by
    generalize lane q e = l
    pointwise [k0_pay2]
  have p2 : (k0_pay3 (iblk m c 2 t) : FVec Ideal S512x128 .f32) (ix2 r (lane q e)) = (iblk m c 2 t : Vec Ideal S512x128 .f32) (ix2 r (lane q e)) := by
    generalize lane q e = l
    pointwise [k0_pay3]
  have pg : ∀ l : Fin 128, (k0_pay16 (iblk m c 6 t) : FVec Ideal S1x128 .f32) (ix2 0 l) = (iblk m c 6 t : Vec Ideal S1x128 .f32) (ix2 0 l) := fun l => by
    pointwise [k0_pay16]
  refine (laneTurn_at _ _ _ _ (fun j => Ideal.cos (angle s j)) (fun j => Ideal.sin (angle s j)) q e ?_ (p1.trans (cos_at m c t r b s hT q e)) (p2.trans (sin_at m c t r b s hT q e))).trans ?_
  · rw [mask_at]
    have e3 : (lane q e).val % 64 = e.val := by rw [hl]; omega
    rw [e3]
  · rw [hT, hh, v119_at]
    refine congrArg (fun n => turned n (fun j => Ideal.cos (angle s j)) (fun j => Ideal.sin (angle s j)) e) (funext fun e' => ?_)
    refine (laneNorm_at _ _ _ (fun x l => ones_at m c t x l) q e').trans ?_
    refine congrFun (congr (congrArg unit (funext fun e'' => ?_)) (funext fun e'' => ?_)) e'
    · rw [v19_at]
      refine (zrows_at m c hf t r _).trans ?_
      rw [hT]
      refine congrArg (proj _ _ _ _) (Fin.ext ?_)
      show off + (64 * q.val + e''.val) = 512 + (64 * (2 * j.val + q.val) + e''.val)
      omega
    · exact (pg (lane q e'')).trans (kgain_at m c t q e'')

/-- What the reference leaves in a point's block. -/
def blockk (t : Fin cfg0.N) (y : S512x512.Idx) : EReal :=
  (val_main_v119 (F := Ideal) (A0 m c) (A1 m c) (A2 m c) (A4 m c) : Cert.InprojSRefIdeal.S512x512.Idx → EReal) (ix2 (rowAt t ⟨(y 0).val, (y 0).isLt⟩) ⟨(y 1).val, (y 1).isLt⟩)

theorem blockk_at (t : Fin cfg0.N) (y : S512x512.Idx) (r C : Fin 512) (e0 : (y 0).val = r.val) (e1 : (y 1).val = C.val) : blockk m c t y = (val_main_v119 (F := Ideal) (A0 m c) (A1 m c) (A2 m c) (A4 m c) : Cert.InprojSRefIdeal.S512x512.Idx → EReal) (ix2 (rowAt t r) C) := by
  have h0 : (⟨(y 0).val, (y 0).isLt⟩ : Fin 512) = r := Fin.ext e0
  have h1 : (⟨(y 1).val, (y 1).isLt⟩ : Fin 512) = C := Fin.ext e1
  unfold blockk
  rw [h0, h1]

theorem out9_at (hf : Real (A0 m c) (A1 m c) (A2 m c)) (t : Fin cfg0.N) (y : S512x512.Idx) : out0_9 (iblk m c 0 t) (iblk m c 1 t) (iblk m c 2 t) (iblk m c 3 t) (iblk m c 4 t) (iblk m c 5 t) (iblk m c 6 t) (iblk m c 7 t) y = blockk m c t y := by
  rw [out9]
  refine View.canon_apply_of_pieces (S := S512x512) (e := .f32) (Val := Elt Ideal) (blockk m c t) _ ?_ y (cover0_9 _ _ _ _ y)
  intro p hp
  simp only [List.mem_cons, List.not_mem_nil, or_false] at hp
  rcases hp with rfl | rfl | rfl | rfl
  · intro (x : S512x128.Idx)
    obtain ⟨r, l, rfl⟩ : ∃ (r : Fin 512) (l : Fin 128), x = ix2 r l := ⟨x 0, x 1, (ix2_eta x).symm⟩
    refine ((slab896_at _ _ _ _ _ _ r l).trans (klane m c hf 896 3 rfl (fun x => by omega) t r l ⟨384 + l.val, by omega⟩ rfl)).trans (blockk_at m c t _ r _ ?_ ?_).symm
    · show 0 + 1 * r.val = r.val; omega
    · show 384 + 1 * l.val = 384 + l.val; omega
  · intro (x : S512x128.Idx)
    obtain ⟨r, l, rfl⟩ : ∃ (r : Fin 512) (l : Fin 128), x = ix2 r l := ⟨x 0, x 1, (ix2_eta x).symm⟩
    refine ((slab768_at _ _ _ _ _ _ r l).trans (klane m c hf 768 2 rfl (fun x => by omega) t r l ⟨256 + l.val, by omega⟩ rfl)).trans (blockk_at m c t _ r _ ?_ ?_).symm
    · show 0 + 1 * r.val = r.val; omega
    · show 256 + 1 * l.val = 256 + l.val; omega
  · intro (x : S512x128.Idx)
    obtain ⟨r, l, rfl⟩ : ∃ (r : Fin 512) (l : Fin 128), x = ix2 r l := ⟨x 0, x 1, (ix2_eta x).symm⟩
    refine ((slab640_at _ _ _ _ _ _ r l).trans (klane m c hf 640 1 rfl (fun x => by omega) t r l ⟨128 + l.val, by omega⟩ rfl)).trans (blockk_at m c t _ r _ ?_ ?_).symm
    · show 0 + 1 * r.val = r.val; omega
    · show 128 + 1 * l.val = 128 + l.val; omega
  · intro (x : S512x128.Idx)
    obtain ⟨r, l, rfl⟩ : ∃ (r : Fin 512) (l : Fin 128), x = ix2 r l := ⟨x 0, x 1, (ix2_eta x).symm⟩
    refine ((slab512_at _ _ _ _ _ _ r l).trans (klane m c hf 512 0 rfl (fun x => by omega) t r l ⟨0 + l.val, by omega⟩ rfl)).trans (blockk_at m c t _ r _ ?_ ?_).symm
    · show 0 + 1 * r.val = r.val; omega
    · show 0 + 1 * l.val = 0 + l.val; omega

theorem out10_at (hf : Real (A0 m c) (A1 m c) (A2 m c)) (t : Fin cfg0.N) (r C : Fin 512) : out0_10 (iblk m c 0 t) (iblk m c 1 t) (iblk m c 2 t) (iblk m c 3 t) (iblk m c 4 t) (iblk m c 5 t) (iblk m c 6 t) (iblk m c 7 t) (ix2 r C) = (val_main_v120 (F := Ideal) (A0 m c) (A1 m c) (A2 m c) : Cert.InprojSRefIdeal.S512x512.Idx → EReal) (ix2 (rowAt t r) C) := by
  have e : out0_10 (iblk m c 0 t) (iblk m c 1 t) (iblk m c 2 t) (iblk m c 3 t) (iblk m c 4 t) (iblk m c 5 t) (iblk m c 6 t) (iblk m c 7 t) = k0_pay21 (zrows (iblk m c 0 t) (iblk m c 3 t) (iblk m c 4 t)) := View.canon_unit_zero (S := S512x512) zeros2 _ _
  have p : (k0_pay21 (zrows (iblk m c 0 t) (iblk m c 3 t) (iblk m c 4 t)) : FVec Ideal S512x512 .f32) (ix2 r C) = zrows (iblk m c 0 t) (iblk m c 3 t) (iblk m c 4 t) (ix2 r ⟨1024 + C.val, by omega⟩) := by
    generalize zrows (iblk m c 0 t) (iblk m c 3 t) (iblk m c 4 t) = z
    pointwise [k0_pay21]
  obtain ⟨b, s, hT⟩ := row_place (rowAt t r)
  obtain ⟨h, e', rfl⟩ : ∃ (h : Fin 8) (e : Fin 64), C = colOf h e :=
    ⟨⟨C.val / 64, by omega⟩, ⟨C.val % 64, by omega⟩, Fin.ext (by show C.val = 64 * (C.val / 64) + C.val % 64; omega)⟩
  rw [e, p, zrows_at m c hf, hT, v120_at]

theorem row_split (T : Fin 512) : ∃ (t : Fin cfg0.N) (r : Fin 512), T = rowAt t r := by
  have hN : cfg0.N = 1 := N_0
  exact ⟨⟨T.val / 512, by rw [hN]; omega⟩, ⟨T.val % 512, by omega⟩, Fin.ext (by show T.val = 512 * (T.val / 512) + T.val % 512; omega)⟩

theorem array8_at (t : Fin cfg0.N) (r C : Fin 512) : ((dats m 0 c).arrAt 8 cfg0.N : S512x512.Idx → EReal) (ix2 (rowAt t r) C) = out0_8 (iblk m c 0 t) (iblk m c 1 t) (iblk m c 2 t) (iblk m c 3 t) (iblk m c 4 t) (iblk m c 5 t) (iblk m c 6 t) (iblk m c 7 t) (ix2 r C) := by
  obtain ⟨h0, h1⟩ := index8 t
  have hf : ∀ t : Fin grid0.N, win0_8.flush t = true := by decide +kernel
  have e := congrFun ((blocks8 m c t (hf t)).trans (flushed8 m c t)) (ix2 (n0 := 512) (n1 := 512) r C)
  rw [View.read_apply] at e
  refine Eq.trans (congrArg _ ?_) e
  funext a
  apply Fin.ext
  match a with
  | ⟨0, _⟩ => show 512 * t.val + r.val = win0_8.index t 0 * 512 + 1 * r.val; rw [h0]; omega
  | ⟨1, _⟩ => show C.val = win0_8.index t 1 * 512 + 1 * C.val; rw [h1]; omega

/-- The queries the call leaves are the reference's. -/
theorem queries_eq (hf : Real (A0 m c) (A1 m c) (A2 m c)) : (dats m 0 c).arrAt 8 cfg0.N = (val_main_v118 (F := Ideal) (A0 m c) (A1 m c) (A2 m c) (A3 m c)) := by
  refine funext fun (i : S512x512.Idx) => ?_
  obtain ⟨T, C, rfl⟩ : ∃ (T : Fin 512) (C : Fin 512), i = ix2 T C := ⟨i 0, i 1, (ix2_eta i).symm⟩
  obtain ⟨t, r, rfl⟩ := row_split T
  exact (array8_at m c t r C).trans ((out8_at m c hf t _).trans (blockq_at m c t _ r C rfl rfl))

theorem array9_at (t : Fin cfg0.N) (r C : Fin 512) : ((dats m 0 c).arrAt 9 cfg0.N : S512x512.Idx → EReal) (ix2 (rowAt t r) C) = out0_9 (iblk m c 0 t) (iblk m c 1 t) (iblk m c 2 t) (iblk m c 3 t) (iblk m c 4 t) (iblk m c 5 t) (iblk m c 6 t) (iblk m c 7 t) (ix2 r C) := by
  obtain ⟨h0, h1⟩ := index9 t
  have hf : ∀ t : Fin grid0.N, win0_9.flush t = true := by decide +kernel
  have e := congrFun ((blocks9 m c t (hf t)).trans (flushed9 m c t)) (ix2 (n0 := 512) (n1 := 512) r C)
  rw [View.read_apply] at e
  refine Eq.trans (congrArg _ ?_) e
  funext a
  apply Fin.ext
  match a with
  | ⟨0, _⟩ => show 512 * t.val + r.val = win0_9.index t 0 * 512 + 1 * r.val; rw [h0]; omega
  | ⟨1, _⟩ => show C.val = win0_9.index t 1 * 512 + 1 * C.val; rw [h1]; omega

/-- The keys the call leaves are the reference's. -/
theorem keys_eq (hf : Real (A0 m c) (A1 m c) (A2 m c)) : (dats m 0 c).arrAt 9 cfg0.N = (val_main_v119 (F := Ideal) (A0 m c) (A1 m c) (A2 m c) (A4 m c)) := by
  refine funext fun (i : S512x512.Idx) => ?_
  obtain ⟨T, C, rfl⟩ : ∃ (T : Fin 512) (C : Fin 512), i = ix2 T C := ⟨i 0, i 1, (ix2_eta i).symm⟩
  obtain ⟨t, r, rfl⟩ := row_split T
  exact (array9_at m c t r C).trans ((out9_at m c hf t _).trans (blockk_at m c t _ r C rfl rfl))

theorem array10_at (t : Fin cfg0.N) (r C : Fin 512) : ((dats m 0 c).arrAt 10 cfg0.N : S512x512.Idx → EReal) (ix2 (rowAt t r) C) = out0_10 (iblk m c 0 t) (iblk m c 1 t) (iblk m c 2 t) (iblk m c 3 t) (iblk m c 4 t) (iblk m c 5 t) (iblk m c 6 t) (iblk m c 7 t) (ix2 r C) := by
  obtain ⟨h0, h1⟩ := index10 t
  have hf : ∀ t : Fin grid0.N, win0_10.flush t = true := by decide +kernel
  have e := congrFun ((blocks10 m c t (hf t)).trans (flushed10 m c t)) (ix2 (n0 := 512) (n1 := 512) r C)
  rw [View.read_apply] at e
  refine Eq.trans (congrArg _ ?_) e
  funext a
  apply Fin.ext
  match a with
  | ⟨0, _⟩ => show 512 * t.val + r.val = win0_10.index t 0 * 512 + 1 * r.val; rw [h0]; omega
  | ⟨1, _⟩ => show C.val = win0_10.index t 1 * 512 + 1 * C.val; rw [h1]; omega

/-- The values the call leaves are the reference's. -/
theorem values_eq (hf : Real (A0 m c) (A1 m c) (A2 m c)) : (dats m 0 c).arrAt 10 cfg0.N = (val_main_v120 (F := Ideal) (A0 m c) (A1 m c) (A2 m c)) := by
  refine funext fun (i : S512x512.Idx) => ?_
  obtain ⟨T, C, rfl⟩ : ∃ (T : Fin 512) (C : Fin 512), i = ix2 T C := ⟨i 0, i 1, (ix2_eta i).symm⟩
  obtain ⟨t, r, rfl⟩ := row_split T
  exact (array10_at m c t r C).trans (out10_at m c hf t r C)

/-- What the precondition's text asks of its shapes. -/
theorem pre_facts : Cert.Pre_finite_projection.Facts := ⟨by decide, by decide, by decide, by decide, by decide⟩

/-- A row, a gain and a column, each in the precondition's list. -/
theorem pre_row [Cert.Pre_finite_projection.Facts] (x0 : FVec Ideal S512x1024 .f32) (x1 : FVec Ideal S1024 .f32) (x2 : FVec Ideal S1024x7456 .f32) (x3 x4 : FVec Ideal S64 .f32) (r : Fin 512) (k : Fin 1024) :
    Cert.Pre_finite_projection.fn (F := Ideal) x0 x1 x2 x3 x4 (ix2 ⟨r.val, by omega⟩ k) = Ideal.cmp .olt (max (x0 (ix2 r k)) (-(x0 (ix2 r k)))) (Ideal.ofBits .f32 0x7F800000#32) := by
  pointwise [Cert.Pre_finite_projection.fn]
  rfl
theorem pre_gain [Cert.Pre_finite_projection.Facts] (x0 : FVec Ideal S512x1024 .f32) (x1 : FVec Ideal S1024 .f32) (x2 : FVec Ideal S1024x7456 .f32) (x3 x4 : FVec Ideal S64 .f32) (k : Fin 1024) :
    Cert.Pre_finite_projection.fn (F := Ideal) x0 x1 x2 x3 x4 (ix2 ⟨512, by omega⟩ k) = Ideal.cmp .olt (max (x1 (ix1 k)) (-(x1 (ix1 k)))) (Ideal.ofBits .f32 0x7F800000#32) := by
  pointwise [Cert.Pre_finite_projection.fn]
  rfl
theorem pre_column [Cert.Pre_finite_projection.Facts] (x0 : FVec Ideal S512x1024 .f32) (x1 : FVec Ideal S1024 .f32) (x2 : FVec Ideal S1024x7456 .f32) (x3 x4 : FVec Ideal S64 .f32) (k : Fin 1024) (j : Fin 1536) :
    Cert.Pre_finite_projection.fn (F := Ideal) x0 x1 x2 x3 x4 (ix2 ⟨513 + j.val, by omega⟩ k) = Ideal.cmp .olt (max (x2 (ix2 k ⟨j.val, by omega⟩)) (-(x2 (ix2 k ⟨j.val, by omega⟩)))) (Ideal.ofBits .f32 0x7F800000#32) := by
  pointwise [Cert.Pre_finite_projection.fn]
  rw [dif_neg (by omega), dif_neg (by omega)]
  have e : 513 + j.val - 512 - 1 = j.val := by omega
  simp only [e]
  rfl

/-- The precondition, read as the finiteness of the rows, the gain and the projection's columns. -/
theorem pre_real [Cert.Pre_finite_projection.Facts] (x0 : FVec Ideal S512x1024 .f32) (x1 : FVec Ideal S1024 .f32) (x2 : FVec Ideal S1024x7456 .f32) (x3 x4 : FVec Ideal S64 .f32) (hp : ∀ i, Cert.Pre_finite_projection.fn (F := Ideal) x0 x1 x2 x3 x4 i = 1#1) : Real x0 x1 x2 :=
  ⟨fun r k => Cert.MoeEq.real_of_abs _ ((pre_row x0 x1 x2 x3 x4 r k).symm.trans (hp _)), fun k => Cert.MoeEq.real_of_abs _ ((pre_gain x0 x1 x2 x3 x4 k).symm.trans (hp _)),
    fun k j => Cert.MoeEq.real_of_abs _ ((pre_column x0 x1 x2 x3 x4 k j).symm.trans (hp _))⟩

end Cert.InprojSEq

end
-- ==== Proof.GmlpSEq.lean ====
/- The sample's chunked spatial gating call: its two result arrays and its reference's are the same functions of the arguments. -/
module

public import proofs.«01_k».proof.Proof.Gen.GmlpSIdeal.Value
public import proofs.«01_k».proof.Proof.Gen.GmlpSRefIdeal.Read
public import Idealize.ShloMosaic.Lib.Pointwise
public import Idealize.ShloMosaic.Lib.StableHlo.Run
public import proofs.«01_k».proof.Proof.MoeEq
public import proofs.«01_k».proof.Proof.InprojSEq
public import proofs.«01_k».proof.Pre_finite_gating

@[expose] public section

set_option maxRecDepth 16384

noncomputable section

namespace Cert.GmlpSEq

open Cert.GmlpSIdeal Cert.GmlpSIdeal.Gen Cert.GmlpSIdeal.Value Idealize.ShloMosaic Idealize.ShloMosaic.TcCoe Idealize.ShloMosaic.Tactic

variable (m : (ℓ : Loc nD τ sig) → Buf (Elt Ideal) ℓ) (c : Dev nD)

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The arguments as functions of their indices. -/
abbrev X : FVec Ideal S512x1024 .f32 := m ((c : Thread nD τ).loc main_arg0)
abbrev G : FVec Ideal S1024 .f32 := m ((c : Thread nD τ).loc main_arg1)
abbrev Wi : FVec Ideal S1024x7456 .f32 := m ((c : Thread nD τ).loc main_arg2)
abbrev Gn : FVec Ideal S512 .f32 := m ((c : Thread nD τ).loc main_arg3)
abbrev Ws : FVec Ideal S4x128x128 .f32 := m ((c : Thread nD τ).loc main_arg4)
abbrev Bs : FVec Ideal S4x128 .f32 := m ((c : Thread nD τ).loc main_arg5)

/-- Finite numbers are closed under what the call does with them. -/
theorem mul_real (x y : EReal) (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩
theorem add_real (x y : EReal) (hx : ∃ a : ℝ, x = a) (hy : ∃ a : ℝ, y = a) : ∃ a : ℝ, x + y = a := by
  obtain ⟨a, rfl⟩ := hx
  obtain ⟨b, rfl⟩ := hy
  exact ⟨a + b, (EReal.coe_add a b).symm⟩
theorem tanh_real (x : EReal) (hx : ∃ a : ℝ, x = a) : ∃ a : ℝ, Ideal.tanh x = a := by
  obtain ⟨a, rfl⟩ := hx
  exact ⟨Real.tanh a, rfl⟩
theorem sum_real {n : ℕ} (f : Fin n → EReal) (hf : ∀ k, ∃ a : ℝ, f k = a) : ∃ a : ℝ, ∑ k, f k = a := by
  choose a ha using hf
  exact ⟨∑ k, a k, by simp only [ha]; exact (Cert.MoeSpec.coe_sum _ _).symm⟩
theorem one_real : ∃ a : ℝ, (1 : EReal) = a := ⟨1, EReal.coe_one.symm⟩
theorem half_real : ∃ a : ℝ, Ideal.ofBits .f32 0x3F000000#32 = a := by
  simp only [Ideal.ofBits, Ideal.ieee]
  exact ⟨_, rfl⟩
theorem cubic_real : ∃ a : ℝ, Ideal.ofBits .f32 0x3D372713#32 = a := by
  simp only [Ideal.ofBits, Ideal.ieee]
  exact ⟨_, rfl⟩
theorem slope_real : ∃ a : ℝ, Ideal.ofBits .f32 0x3F4C422A#32 = a := by
  simp only [Ideal.ofBits, Ideal.ieee]
  exact ⟨_, rfl⟩
theorem five_twelve : Ideal.ofBits .f32 0x44000000#32 = ((512 : ℝ) : EReal) := by
  simp [Ideal.ofBits, Ideal.ieee]
  rw [← EReal.coe_mul]
  norm_num

/-- The norm of a finite row of 512 is finite. -/
theorem rms_real (x g : Fin 512 → EReal) (hx : ∀ k, ∃ a : ℝ, x k = a) (hg : ∀ k, ∃ a : ℝ, g k = a) (k : Fin 512) :
    ∃ a : ℝ, x k * Ideal.rsqrt (Ideal.div (∑ k, x k * x k) (Ideal.ofBits .f32 0x44000000#32) + Ideal.ofBits .f32 0x358637BD#32) * g k = a := by
  choose a ha using hx
  obtain ⟨b, hb⟩ := hg k
  have hs : ∑ k, x k * x k = ((∑ k, a k * a k : ℝ) : EReal) := by
    simp only [ha, ← EReal.coe_mul]
    exact (Cert.MoeSpec.coe_sum _ _).symm
  have hp : 0 ≤ ∑ k, a k * a k := Finset.sum_nonneg fun k _ => mul_self_nonneg _
  rw [hs, five_twelve, Cert.InprojSEq.tiny, Ideal.div_coe (by norm_num), ← EReal.coe_mul, ← EReal.coe_add, Ideal.rsqrt_coe,
    if_neg (by have := mul_nonneg hp (by norm_num : (0 : ℝ) ≤ 1 / 512); intro h; linarith),
    if_neg (by have := mul_nonneg hp (by norm_num : (0 : ℝ) ≤ 1 / 512); intro h; linarith), ha, hb, ← EReal.coe_mul, ← EReal.coe_mul]
  exact ⟨_, rfl⟩

/-- A product in three parts, where the low parts of finite numbers are nought. -/
theorem dot3 {n : ℕ} (a w : Fin n → EReal) (ha : ∀ k, ∃ r : ℝ, a k = r) (hw : ∀ k, ∃ r : ℝ, w k = r) :
    ∑ k, a k * w k + (∑ k, a k * (w k - w k) + ∑ k, (a k - a k) * w k) = ∑ k, a k * w k := by
  have h1 : ∀ k, a k * (w k - w k) = 0 := fun k => by
    obtain ⟨r, hr⟩ := hw k
    rw [hr, ← EReal.coe_sub, sub_self, EReal.coe_zero, mul_zero]
  have h2 : ∀ k, (a k - a k) * w k = 0 := fun k => by
    obtain ⟨r, hr⟩ := ha k
    rw [hr, ← EReal.coe_sub, sub_self, EReal.coe_zero, zero_mul]
  simp only [h1, h2, Finset.sum_const_zero, add_zero]

theorem gain_eq : V m c main_v25 = (shapeCast S1x1024 (G m c) shapeCasts_S1024_S1x1024 : FVec Ideal S1x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem gates_eq : V m c main_v26 = (extractStridedSlice S1024x1024 ![0, 1536] (Wi m c) slices_S1024x7456_S1024x1024_0_1536 : FVec Ideal S1024x1024 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results

theorem norm_eq : V m c main_v27 = (shapeCast S1x512 (Gn m c) shapeCasts_S512_S1x512 : FVec Ideal S1x512 .f32) := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-- The mixing weights of a chunk of four rows: below and on the diagonal the weights, above it zero. -/
def small (w : FVec Ideal S4x128x128 .f32) (g s e : Fin 4) : EReal :=
  Scalar.select (IntOp.cmpi .sge (BitVec.ofNat 32 s.val) (BitVec.ofNat 32 e.val)) (w (ix3 g ⟨s.val, by omega⟩ ⟨e.val, by omega⟩)) (0 : EReal)

/-- The reference's mask, written twice, and the precondition's, are the one comparison. -/
theorem small_eq (w : FVec Ideal S4x128x128 .f32) (g s e : Fin 4) :
    Scalar.select (Scalar.select (IntOp.cmpi CmpIPredicate.sge (IntOp.addi (BitVec.ofNat 32 s.val) 0#32) (BitVec.ofNat 32 e.val)) 1#1 0#1)
      (w (ix3 g ⟨s.val, by omega⟩ ⟨e.val, by omega⟩)) (FloatOps.sitofp (F := Ideal) FTy.f32 0#32) = small w g s e := by
  unfold small
  show Scalar.select (Scalar.select (IntOp.cmpi CmpIPredicate.sge (BitVec.ofNat 32 s.val + 0#32) (BitVec.ofNat 32 e.val)) 1#1 0#1) _ (((0#32 : BitVec 32).toInt : ℝ) : EReal) = _
  rw [BitVec.add_zero]
  generalize IntOp.cmpi CmpIPredicate.sge (BitVec.ofNat 32 s.val) (BitVec.ofNat 32 e.val) = b
  have hb : b = 0#1 ∨ b = 1#1 := by revert b; decide
  rcases hb with rfl | rfl
  · show (((0#32 : BitVec 32).toInt : ℝ) : EReal) = 0
    norm_num
  · rfl

/-- The lane of row `s` of chunk `b`. -/
def lane (b : Fin 32) (s : Fin 4) : Fin 128 := ⟨4 * b.val + s.val, by omega⟩

theorem eye_bits : ∀ b d : Fin 32, IntOp.cmpi .eq (IntOp.addi (BitVec.ofNat 32 b.val) 0#32) (BitVec.ofNat 32 d.val) = if b = d then 1#1 else 0#1 := by decide

/-- The mixing matrices the kernel is handed: the four rows' weights on the diagonal of 32 chunks. -/
theorem mix_eq (g : Fin 4) (b d : Fin 32) (s e : Fin 4) : (V m c main_v17 : S4x128x128.Idx → EReal) (ix3 g (lane b s) (lane d e)) = if b = d then small (Ws m c) g s e else 0 := by
  show StableHlo.after (List.flatten [hostOps0, hostOps0_1, hostOps0_2]) _ _ _ = _
  simp only [hostOps0, hostOps0_1, hostOps0_2, List.flatten_cons, List.flatten_nil, List.append_nil, List.cons_append, List.nil_append]
  after_results
  simp only [StableHlo.TRef.ofBuf_toBuf]
  unfold lane
  pointwise []
  rw [eye_bits]
  have h3 : ∀ w : EReal, FloatOps.mulf (F := Ideal) (φ := .f32) w (Scalar.select (IntOp.cmpi CmpIPredicate.sge (IntOp.addi (BitVec.ofNat 32 s.val) 0#32) (BitVec.ofNat 32 e.val)) (Ideal.ofBits .f32 1065353216#32) (Ideal.ofBits .f32 0#32)) = Scalar.select (IntOp.cmpi .sge (BitVec.ofNat 32 s.val) (BitVec.ofNat 32 e.val)) w (0 : EReal) := fun w => by
    show w * Scalar.select (IntOp.cmpi CmpIPredicate.sge (BitVec.ofNat 32 s.val + 0#32) (BitVec.ofNat 32 e.val)) (Ideal.ofBits .f32 1065353216#32) (Ideal.ofBits .f32 0#32) = _
    rw [BitVec.add_zero, Ideal.ofBits_one_f32, Ideal.ofBits_zero]
    unfold Scalar.select
    split_ifs
    · exact mul_one _
    · exact mul_zero _
  unfold small
  split_ifs with hbd
  · refine Eq.trans ?_ (h3 _)
    refine Eq.trans (b := (1 : EReal) * _) (congrArg (· * _) ?_) (one_mul _)
    show (((1#1 : BitVec 1).toNat : ℝ) : EReal) = 1
    norm_num
  · refine Eq.trans (b := (0 : EReal) * _) (congrArg (· * _) ?_) (zero_mul _)
    show (((0#1 : BitVec 1).toNat : ℝ) : EReal) = 0
    norm_num

theorem bias_eq (b : Fin 32) (s : Fin 4) (k : Fin 512) : (V m c main_v24 : S128x512.Idx → EReal) (ix2 (lane b s) k) = Bs m c (ix2 ⟨k.val / 128, by omega⟩ ⟨s.val, by omega⟩) := by
  show StableHlo.after (List.flatten [hostOps0, hostOps0_1, hostOps0_2]) _ _ _ = _
  simp only [hostOps0, hostOps0_1, hostOps0_2, List.flatten_cons, List.flatten_nil, List.append_nil, List.cons_append, List.nil_append]
  after_results
  unfold lane
  pointwise []

theorem planes (x : Vec Ideal S4x128x128 .f32) (q k : Fin 128) :
    (View.ld x r0_6 : Vec Ideal S1x128x128 .f32) (ix3 0 q k) = x (ix3 0 q k)
    ∧ (View.ld x r0_7 : Vec Ideal S1x128x128 .f32) (ix3 0 q k) = x (ix3 1 q k)
    ∧ (View.ld x r0_8 : Vec Ideal S1x128x128 .f32) (ix3 0 q k) = x (ix3 2 q k)
    ∧ (View.ld x r0_9 : Vec Ideal S1x128x128 .f32) (ix3 0 q k) = x (ix3 3 q k) := by
  refine ⟨?_, ?_, ?_, ?_⟩ <;>
  · show x _ = x _
    congr 1
    funext a
    apply Fin.ext
    match a with
    | ⟨0, _⟩ => rfl
    | ⟨1, _⟩ => show 0 + 1 * q.val = q.val; omega
    | ⟨2, _⟩ => show 0 + 1 * k.val = k.val; omega

/-- A mixing matrix times a block of rows, in the kernel's three products. -/
def plane (w : Vec Ideal S1x128x128 .f32) (v : FVec Ideal S128x128 .f32) : FVec Ideal S128x128 .f32 :=
  have a : FVec Ideal S128x128 .f32 := shapeCast S128x128 w shapeCasts_S1x128x128_S128x128
  have ah : FVec Ideal S128x128 .bf16 := truncf .bf16 a bitsLt_bf16_f32
  have al : FVec Ideal S128x128 .bf16 := truncf .bf16 (subf a (extf .f32 ah bitsLt_bf16_f32)) bitsLt_bf16_f32
  have vh : FVec Ideal S128x128 .bf16 := truncf .bf16 v bitsLt_bf16_f32
  have vl : FVec Ideal S128x128 .bf16 := truncf .bf16 (subf v (extf .f32 vh bitsLt_bf16_f32)) bitsLt_bf16_f32
  have z : FVec Ideal S128x128 .f32 := constant S128x128 .f32 0x00000000#32
  addf (matmul dot_S128x128_S128x128_S128x128_1_0_0_1_n_n none ah vh z)
    (addf (matmul dot_S128x128_S128x128_S128x128_1_0_0_1_n_n none ah vl z) (matmul dot_S128x128_S128x128_S128x128_1_0_0_1_n_n none al vh z))

theorem plane_at (w : Vec Ideal S1x128x128 .f32) (v : FVec Ideal S128x128 .f32) (i j : Fin 128) (hw : ∀ x : Fin 128, ∃ a : ℝ, w (ix3 0 i x) = a) (hv : ∀ x : Fin 128, ∃ a : ℝ, v (ix2 x j) = a) :
    plane w v (ix2 i j) = ∑ x : Fin 128, w (ix3 0 i x) * v (ix2 x j) := by
  rw [← dot3 (fun x : Fin 128 => w (ix3 0 i x)) (fun x : Fin 128 => v (ix2 x j)) hw hv]
  pointwise [plane]

/-- The gate times four blocks of columns side by side plus the bias. -/
def join (u : FVec Ideal S128x512 .f32) (b : FVec Ideal S128x512 .f32) (q0 q1 q2 q3 : FVec Ideal S128x128 .f32) : FVec Ideal S128x512 .f32 :=
  mulf u (addf (concatenate S128x512 1 [⟨S128x128, q0⟩, ⟨S128x128, q1⟩, ⟨S128x128, q2⟩, ⟨S128x128, q3⟩] concatenates_S128x128_S128x128_S128x128_S128x128_S128x512_d1) b)

/-- Column `j` of block `g`. -/
def col (g : Fin 4) (j : Fin 128) : Fin 512 := ⟨128 * g.val + j.val, by omega⟩

theorem join0 (u b : FVec Ideal S128x512 .f32) (q0 q1 q2 q3 : FVec Ideal S128x128 .f32) (i j : Fin 128) :
    join u b q0 q1 q2 q3 (ix2 i (col 0 j)) = u (ix2 i (col 0 j)) * (q0 (ix2 i j) + b (ix2 i (col 0 j))) := by
  refine Eq.trans (by pointwise [join]; rfl) ?_
  change _ * (dite ((col 0 j).val < 128) _ (fun _ => dite ((col 0 j).val - 128 < 128) _ (fun _ => dite ((col 0 j).val - 128 - 128 < 128) _ _)) + _) = _
  rw [dif_pos (by show 128 * 0 + j.val < 128; omega)]
  have e : ∀ p, (⟨(col 0 j).val, p⟩ : Fin 128) = j := fun _ => Fin.ext (by show 128 * 0 + j.val = j.val; omega)
  rw [e]

theorem join1 (u b : FVec Ideal S128x512 .f32) (q0 q1 q2 q3 : FVec Ideal S128x128 .f32) (i j : Fin 128) :
    join u b q0 q1 q2 q3 (ix2 i (col 1 j)) = u (ix2 i (col 1 j)) * (q1 (ix2 i j) + b (ix2 i (col 1 j))) := by
  refine Eq.trans (by pointwise [join]; rfl) ?_
  change _ * (dite ((col 1 j).val < 128) _ (fun _ => dite ((col 1 j).val - 128 < 128) _ (fun _ => dite ((col 1 j).val - 128 - 128 < 128) _ _)) + _) = _
  rw [dif_neg (by show ¬ (128 * 1 + j.val < 128); omega)]
  rw [dif_pos (by show 128 * 1 + j.val - 128 < 128; omega)]
  have e : ∀ p, (⟨(col 1 j).val - 128, p⟩ : Fin 128) = j := fun _ => Fin.ext (by show 128 * 1 + j.val - 128 = j.val; omega)
  rw [e]

theorem join2 (u b : FVec Ideal S128x512 .f32) (q0 q1 q2 q3 : FVec Ideal S128x128 .f32) (i j : Fin 128) :
    join u b q0 q1 q2 q3 (ix2 i (col 2 j)) = u (ix2 i (col 2 j)) * (q2 (ix2 i j) + b (ix2 i (col 2 j))) := by
  refine Eq.trans (by pointwise [join]; rfl) ?_
  change _ * (dite ((col 2 j).val < 128) _ (fun _ => dite ((col 2 j).val - 128 < 128) _ (fun _ => dite ((col 2 j).val - 128 - 128 < 128) _ _)) + _) = _
  rw [dif_neg (by show ¬ (128 * 2 + j.val < 128); omega)]
  rw [dif_neg (by show ¬ (128 * 2 + j.val - 128 < 128); omega)]
  rw [dif_pos (by show 128 * 2 + j.val - 128 - 128 < 128; omega)]
  have e : ∀ p, (⟨(col 2 j).val - 128 - 128, p⟩ : Fin 128) = j := fun _ => Fin.ext (by show 128 * 2 + j.val - 128 - 128 = j.val; omega)
  rw [e]

theorem join3 (u b : FVec Ideal S128x512 .f32) (q0 q1 q2 q3 : FVec Ideal S128x128 .f32) (i j : Fin 128) :
    join u b q0 q1 q2 q3 (ix2 i (col 3 j)) = u (ix2 i (col 3 j)) * (q3 (ix2 i j) + b (ix2 i (col 3 j))) := by
  refine Eq.trans (by pointwise [join]; rfl) ?_
  change _ * (dite ((col 3 j).val < 128) _ (fun _ => dite ((col 3 j).val - 128 < 128) _ (fun _ => dite ((col 3 j).val - 128 - 128 < 128) _ _)) + _) = _
  rw [dif_neg (by show ¬ (128 * 3 + j.val < 128); omega)]
  rw [dif_neg (by show ¬ (128 * 3 + j.val - 128 < 128); omega)]
  rw [dif_neg (by show ¬ (128 * 3 + j.val - 128 - 128 < 128); omega)]
  have e : ∀ p, (⟨(col 3 j).val - 128 - 128 - 128, p⟩ : Fin 128) = j := fun _ => Fin.ext (by show 128 * 3 + j.val - 128 - 128 - 128 = j.val; omega)
  rw [e]

/-- A chunk of 128 rows as the kernel gates it. -/
def tile (o : ℕ) (hu : S512x512.Slices ![o, 0] S128x512) (h0 : S512x512.Slices ![o, 0] S128x128) (h1 : S512x512.Slices ![o, 128] S128x128) (h2 : S512x512.Slices ![o, 256] S128x128)
    (h3 : S512x512.Slices ![o, 384] S128x128) (u v : FVec Ideal S512x512 .f32) (b : FVec Ideal S128x512 .f32) (w0 w1 w2 w3 : Vec Ideal S1x128x128 .f32) : FVec Ideal S128x512 .f32 :=
  join (extractStridedSlice S128x512 ![o, 0] u hu) b (plane w0 (extractStridedSlice S128x128 ![o, 0] v h0)) (plane w1 (extractStridedSlice S128x128 ![o, 128] v h1))
    (plane w2 (extractStridedSlice S128x128 ![o, 256] v h2)) (plane w3 (extractStridedSlice S128x128 ![o, 384] v h3))

/-- A chunk's gated rows: the gate times the mixed normalised rows plus the bias. -/
def gated (u v : Fin 512 → Fin 512 → EReal) (b : FVec Ideal S128x512 .f32) (w : Vec Ideal S4x128x128 .f32) (o : Fin 4) (i : Fin 128) (g : Fin 4) (j : Fin 128) : EReal :=
  u ⟨128 * o.val + i.val, by omega⟩ (col g j) * ((∑ x : Fin 128, w (ix3 g i x) * v ⟨128 * o.val + x.val, by omega⟩ (col g j)) + b (ix2 i (col g j)))

theorem cut_at (o c : ℕ) (hs : S512x512.Slices ![o, c] S128x128) (v : FVec Ideal S512x512 .f32) (x j : Fin 128) (R C : Fin 512) (hR : R.val = o + x.val) (hC : C.val = c + j.val) :
    extractStridedSlice S128x128 ![o, c] v hs (ix2 x j) = v (ix2 R C) := by
  show v _ = v _
  refine congrArg v (funext fun a => Fin.ext ?_)
  match a with
  | ⟨0, _⟩ => exact hR.symm
  | ⟨1, _⟩ => exact hC.symm

theorem gate_at (o : ℕ) (hs : S512x512.Slices ![o, 0] S128x512) (u : FVec Ideal S512x512 .f32) (x : Fin 128) (k R : Fin 512) (hR : R.val = o + x.val) :
    extractStridedSlice S128x512 ![o, 0] u hs (ix2 x k) = u (ix2 R k) := by
  show u _ = u _
  refine congrArg u (funext fun a => Fin.ext ?_)
  match a with
  | ⟨0, _⟩ => exact hR.symm
  | ⟨1, _⟩ => show 0 + k.val = k.val; omega

theorem tile_at (n : ℕ) (o : Fin 4) (ho : n = 128 * o.val) (hu : S512x512.Slices ![n, 0] S128x512) (h0 : S512x512.Slices ![n, 0] S128x128) (h1 : S512x512.Slices ![n, 128] S128x128) (h2 : S512x512.Slices ![n, 256] S128x128)
    (h3 : S512x512.Slices ![n, 384] S128x128) (u v : FVec Ideal S512x512 .f32) (b : FVec Ideal S128x512 .f32) (w : Vec Ideal S4x128x128 .f32)
    (hw : ∀ (g : Fin 4) (i x : Fin 128), ∃ a : ℝ, w (ix3 g i x) = a) (hv : ∀ r k : Fin 512, ∃ a : ℝ, v (ix2 r k) = a) (i : Fin 128) (g : Fin 4) (j : Fin 128) :
    tile n hu h0 h1 h2 h3 u v b (View.ld w r0_6) (View.ld w r0_7) (View.ld w r0_8) (View.ld w r0_9) (ix2 i (col g j)) = gated (fun r k => u (ix2 r k)) (fun r k => v (ix2 r k)) b w o i g j := by
  unfold tile gated
  have hg : g = 0 ∨ g = 1 ∨ g = 2 ∨ g = 3 := by revert g; decide
  rcases hg with rfl | rfl | rfl | rfl
  · have hc : ∀ x : Fin 128, extractStridedSlice S128x128 ![n, 0] v h0 (ix2 x j) = v (ix2 ⟨128 * o.val + x.val, by omega⟩ (col 0 j)) := fun x => cut_at _ _ _ v x j _ _ (by show 128 * o.val + x.val = n + x.val; omega) (by show 128 * 0 + j.val = 0 + j.val; omega)
    have hp : ∀ x : Fin 128, (View.ld w r0_6 : Vec Ideal S1x128x128 .f32) (ix3 0 i x) = w (ix3 0 i x) := fun x => (planes w i x).1
    rw [join0, plane_at _ _ _ _ (fun x => by rw [hp]; exact hw _ _ _) (fun x => by rw [hc]; exact hv _ _), gate_at n hu u i (col 0 j) ⟨128 * o.val + i.val, by omega⟩ (by show 128 * o.val + i.val = n + i.val; omega)]
    simp only [hp, hc]
  · have hc : ∀ x : Fin 128, extractStridedSlice S128x128 ![n, 128] v h1 (ix2 x j) = v (ix2 ⟨128 * o.val + x.val, by omega⟩ (col 1 j)) := fun x => cut_at _ _ _ v x j _ _ (by show 128 * o.val + x.val = n + x.val; omega) (by show 128 * 1 + j.val = 128 + j.val; omega)
    have hp : ∀ x : Fin 128, (View.ld w r0_7 : Vec Ideal S1x128x128 .f32) (ix3 0 i x) = w (ix3 1 i x) := fun x => (planes w i x).2.1
    rw [join1, plane_at _ _ _ _ (fun x => by rw [hp]; exact hw _ _ _) (fun x => by rw [hc]; exact hv _ _), gate_at n hu u i (col 1 j) ⟨128 * o.val + i.val, by omega⟩ (by show 128 * o.val + i.val = n + i.val; omega)]
    simp only [hp, hc]
  · have hc : ∀ x : Fin 128, extractStridedSlice S128x128 ![n, 256] v h2 (ix2 x j) = v (ix2 ⟨128 * o.val + x.val, by omega⟩ (col 2 j)) := fun x => cut_at _ _ _ v x j _ _ (by show 128 * o.val + x.val = n + x.val; omega) (by show 128 * 2 + j.val = 256 + j.val; omega)
    have hp : ∀ x : Fin 128, (View.ld w r0_8 : Vec Ideal S1x128x128 .f32) (ix3 0 i x) = w (ix3 2 i x) := fun x => (planes w i x).2.2.1
    rw [join2, plane_at _ _ _ _ (fun x => by rw [hp]; exact hw _ _ _) (fun x => by rw [hc]; exact hv _ _), gate_at n hu u i (col 2 j) ⟨128 * o.val + i.val, by omega⟩ (by show 128 * o.val + i.val = n + i.val; omega)]
    simp only [hp, hc]
  · have hc : ∀ x : Fin 128, extractStridedSlice S128x128 ![n, 384] v h3 (ix2 x j) = v (ix2 ⟨128 * o.val + x.val, by omega⟩ (col 3 j)) := fun x => cut_at _ _ _ v x j _ _ (by show 128 * o.val + x.val = n + x.val; omega) (by show 128 * 3 + j.val = 384 + j.val; omega)
    have hp : ∀ x : Fin 128, (View.ld w r0_9 : Vec Ideal S1x128x128 .f32) (ix3 0 i x) = w (ix3 3 i x) := fun x => (planes w i x).2.2.2
    rw [join3, plane_at _ _ _ _ (fun x => by rw [hp]; exact hw _ _ _) (fun x => by rw [hc]; exact hv _ _), gate_at n hu u i (col 3 j) ⟨128 * o.val + i.val, by omega⟩ (by show 128 * o.val + i.val = n + i.val; omega)]
    simp only [hp, hc]

theorem index0 : ∀ t : Fin grid0.N, win0_0.index t (0 : Fin 2) = t.val ∧ win0_0.index t (1 : Fin 2) = 0 := by decide +kernel
theorem index6 : ∀ t : Fin grid0.N, win0_6.index t (0 : Fin 2) = t.val ∧ win0_6.index t (1 : Fin 2) = 0 := by decide +kernel
theorem index7 : ∀ t : Fin grid0.N, win0_7.index t (0 : Fin 2) = t.val ∧ win0_7.index t (1 : Fin 2) = 0 := by decide +kernel
theorem index1 : ∀ t : Fin grid0.N, win0_1.index t (0 : Fin 2) = 0 ∧ win0_1.index t (1 : Fin 2) = 0 := by decide +kernel
theorem index2 : ∀ t : Fin grid0.N, win0_2.index t (0 : Fin 2) = 0 ∧ win0_2.index t (1 : Fin 2) = 0 := by decide +kernel
theorem index3 : ∀ t : Fin grid0.N, win0_3.index t (0 : Fin 2) = 0 ∧ win0_3.index t (1 : Fin 2) = 0 := by decide +kernel
theorem index5 : ∀ t : Fin grid0.N, win0_5.index t (0 : Fin 2) = 0 ∧ win0_5.index t (1 : Fin 2) = 0 := by decide +kernel
theorem index4 : ∀ t : Fin grid0.N, win0_4.index t (0 : Fin 3) = 0 ∧ win0_4.index t (1 : Fin 3) = 0 ∧ win0_4.index t (2 : Fin 3) = 0 := by decide +kernel

/-- The row of the input that row `r` of point `t`'s block is. -/
def rowAt (t : Fin cfg0.N) (r : Fin 512) : Fin 512 :=
  ⟨512 * t.val + r.val, by have := t.isLt; have h : cfg0.N = 1 := N_0; omega⟩

theorem x_at (t : Fin cfg0.N) (r : Fin 512) (k : Fin 1024) :
    (iblk m c 0 t : Vec Ideal S512x1024 .f32) (ix2 r k) = X m c (ix2 (rowAt t r) k) := by
  obtain ⟨h0, h1⟩ := index0 t
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [h0]; omega
  | ⟨1, _⟩ => show win0_0.index t 1 * 1024 + 1 * k.val = k.val; rw [h1]; omega

theorem gain_at (t : Fin cfg0.N) (k : Fin 1024) :
    (iblk m c 1 t : Vec Ideal S1x1024 .f32) (ix2 0 k) = G m c (ix1 k) := by
  obtain ⟨h0, h1⟩ := index1 t
  have e : (iblk m c 1 t : Vec Ideal S1x1024 .f32) (ix2 0 k) = V m c main_v25 (ix2 (n0 := 1) (n1 := 1024) 0 k) := by
    unfold iblk
    rw [View.read_apply]
    show V m c main_v25 _ = _
    congr 1
    funext a
    apply Fin.ext
    match a with
    | ⟨0, _⟩ => show win0_1.index t 0 * 1 + 1 * 0 = 0; rw [h0]
    | ⟨1, _⟩ => show win0_1.index t 1 * 1024 + 1 * k.val = k.val; rw [h1]; omega
  rw [e, gain_eq] <;> pointwise []

theorem gates_at (t : Fin cfg0.N) (q : Fin 1024) (k : Fin 1024) :
    (iblk m c 2 t : Vec Ideal S1024x1024 .f32) (ix2 q k) = Wi m c (ix2 q ⟨1536 + k.val, by omega⟩) := by
  obtain ⟨h0, h1⟩ := index2 t
  have e : (iblk m c 2 t : Vec Ideal S1024x1024 .f32) (ix2 q k) = V m c main_v26 (ix2 (n0 := 1024) (n1 := 1024) q k) := by
    unfold iblk
    rw [View.read_apply]
    show V m c main_v26 _ = _
    congr 1
    funext a
    apply Fin.ext
    match a with
    | ⟨0, _⟩ => show win0_2.index t 0 * 1024 + 1 * q.val = q.val; rw [h0]; omega
    | ⟨1, _⟩ => show win0_2.index t 1 * 1024 + 1 * k.val = k.val; rw [h1]; omega
  rw [e, gates_eq] <;> pointwise []

theorem norm_at (t : Fin cfg0.N) (k : Fin 512) :
    (iblk m c 3 t : Vec Ideal S1x512 .f32) (ix2 0 k) = Gn m c (ix1 k) := by
  obtain ⟨h0, h1⟩ := index3 t
  have e : (iblk m c 3 t : Vec Ideal S1x512 .f32) (ix2 0 k) = V m c main_v27 (ix2 (n0 := 1) (n1 := 512) 0 k) := by
    unfold iblk
    rw [View.read_apply]
    show V m c main_v27 _ = _
    congr 1
    funext a
    apply Fin.ext
    match a with
    | ⟨0, _⟩ => show win0_3.index t 0 * 1 + 1 * 0 = 0; rw [h0]
    | ⟨1, _⟩ => show win0_3.index t 1 * 512 + 1 * k.val = k.val; rw [h1]; omega
  rw [e, norm_eq] <;> pointwise []

theorem block4_at (t : Fin cfg0.N) (g : Fin 4) (i : Fin 128) (j : Fin 128) :
    (iblk m c 4 t : Vec Ideal S4x128x128 .f32) (ix3 g i j) = V m c main_v17 (ix3 (n0 := 4) (n1 := 128) (n2 := 128) g i j) := by
  obtain ⟨h0, h1, h2⟩ := index4 t
  unfold iblk
  rw [View.read_apply]
  show V m c main_v17 _ = _
  congr 1
  funext a
  apply Fin.ext
  match a with
  | ⟨0, _⟩ => show win0_4.index t 0 * 4 + 1 * g.val = g.val; rw [h0]; omega
  | ⟨1, _⟩ => show win0_4.index t 1 * 128 + 1 * i.val = i.val; rw [h1]; omega
  | ⟨2, _⟩ => show win0_4.index t 2 * 128 + 1 * j.val = j.val; rw [h2]; omega

theorem block5_at (t : Fin cfg0.N) (i : Fin 128) (k : Fin 512) :
    (iblk m c 5 t : Vec Ideal S128x512 .f32) (ix2 i k) = V m c main_v24 (ix2 (n0 := 128) (n1 := 512) i k) := by
  obtain ⟨h0, h1⟩ := index5 t
  unfold iblk
  rw [View.read_apply]
  show V m c main_v24 _ = _
  congr 1
  funext a
  apply Fin.ext
  match a with
  | ⟨0, _⟩ => show win0_5.index t 0 * 128 + 1 * i.val = i.val; rw [h0]; omega
  | ⟨1, _⟩ => show win0_5.index t 1 * 512 + 1 * k.val = k.val; rw [h1]; omega

theorem mix_at (t : Fin cfg0.N) (g : Fin 4) (b d : Fin 32) (s e : Fin 4) : (iblk m c 4 t : Vec Ideal S4x128x128 .f32) (ix3 g (lane b s) (lane d e)) = if b = d then small (Ws m c) g s e else 0 := by
  rw [block4_at, mix_eq]
theorem bias_at (t : Fin cfg0.N) (b : Fin 32) (s : Fin 4) (k : Fin 512) : (iblk m c 5 t : Vec Ideal S128x512 .f32) (ix2 (lane b s) k) = Bs m c (ix2 ⟨k.val / 128, by omega⟩ ⟨s.val, by omega⟩) := by
  rw [block5_at, bias_eq]

/-- The rows, the gains, the gating's columns and the mixing weights that are used are finite. -/
structure Real (x0 : FVec Ideal S512x1024 .f32) (x1 : FVec Ideal S1024 .f32) (x2 : FVec Ideal S1024x7456 .f32) (x3 : FVec Ideal S512 .f32) (x4 : FVec Ideal S4x128x128 .f32) : Prop where
  row : ∀ (r : Fin 512) (k : Fin 1024), ∃ a : ℝ, x0 (ix2 r k) = a
  gain : ∀ k : Fin 1024, ∃ a : ℝ, x1 (ix1 k) = a
  column : ∀ (k j : Fin 1024), ∃ a : ℝ, x2 (ix2 k ⟨1536 + j.val, by omega⟩) = a
  norm : ∀ k : Fin 512, ∃ a : ℝ, x3 (ix1 k) = a
  weight : ∀ g s e : Fin 4, ∃ a : ℝ, small x4 g s e = a

/-- A row's projection onto a column of the gating. -/
def proj (x0 : FVec Ideal S512x1024 .f32) (x1 : FVec Ideal S1024 .f32) (x2 : FVec Ideal S1024x7456 .f32) (T : Fin 512) (j : Fin 1024) : EReal :=
  ∑ k : Fin 1024, x0 (ix2 T k) * Ideal.rsqrt (Ideal.div (∑ k, x0 (ix2 T k) * x0 (ix2 T k)) (Ideal.ofBits .f32 0x44800000#32) + Ideal.ofBits .f32 0x358637BD#32) * x1 (ix1 k) * x2 (ix2 k ⟨1536 + j.val, by omega⟩)

/-- The gelu of a number, as the reference writes it. -/
def gelu (z : EReal) : EReal :=
  z * (Ideal.ofBits .f32 0x3F000000#32 * (1 + Ideal.tanh (Ideal.ofBits .f32 0x3F4C422A#32 * (z + Ideal.ofBits .f32 0x3D372713#32 * (z * z * z)))))

theorem proj_real {x0 : FVec Ideal S512x1024 .f32} {x1 : FVec Ideal S1024 .f32} {x2 : FVec Ideal S1024x7456 .f32} {x3 : FVec Ideal S512 .f32} {x4 : FVec Ideal S4x128x128 .f32} (hf : Real x0 x1 x2 x3 x4) (T : Fin 512) (j : Fin 1024) :
    ∃ a : ℝ, proj x0 x1 x2 T j = a :=
  sum_real _ fun k => mul_real _ _ (Cert.InprojSEq.rms_real (fun k => x0 (ix2 T k)) (fun k => x1 (ix1 k)) (fun k => hf.row T k) hf.gain k) (hf.column k j)

theorem gelu_real (z : EReal) (hz : ∃ a : ℝ, z = a) : ∃ a : ℝ, gelu z = a :=
  mul_real _ _ hz (mul_real _ _ half_real (add_real _ _ one_real (tanh_real _ (mul_real _ _ slope_real (add_real _ _ hz (mul_real _ _ cubic_real (mul_real _ _ (mul_real _ _ hz hz) hz)))))))

/-- One half moved past the value it scales. -/
theorem half_move (z w : EReal) : Ideal.ofBits .f32 0x3F000000#32 * z * w = z * (Ideal.ofBits .f32 0x3F000000#32 * w) := by
  rw [mul_comm (Ideal.ofBits .f32 0x3F000000#32) z, mul_assoc]

section
variable (x0 : FVec Ideal S512x1024 .f32) (x1 : FVec Ideal S1024 .f32) (x2 : FVec Ideal S1024x7456 .f32) (x3 : FVec Ideal S512 .f32) (x4 : FVec Ideal S4x128x128 .f32) (x5 : FVec Ideal S4x128 .f32)

theorem v14_at (T : Fin 512) (j : Fin 1024) : (Cert.GmlpSRefIdeal.Read.val_main_v14 (F := Ideal) x0 x1 x2 : Cert.GmlpSRefIdeal.S512x1024.Idx → EReal) (ix2 T j) = proj x0 x1 x2 T j := by
  unfold proj
  pointwise [Cert.GmlpSRefIdeal.Read.val_main_v0, Cert.GmlpSRefIdeal.Read.val_main_cst, Cert.GmlpSRefIdeal.Read.val_main_v1, Cert.GmlpSRefIdeal.Read.val_main_v2, Cert.GmlpSRefIdeal.Read.val_main_cst_0, Cert.GmlpSRefIdeal.Read.val_main_v3, Cert.GmlpSRefIdeal.Read.val_main_v4, Cert.GmlpSRefIdeal.Read.val_main_cst_1, Cert.GmlpSRefIdeal.Read.val_main_v5, Cert.GmlpSRefIdeal.Read.val_main_v6, Cert.GmlpSRefIdeal.Read.val_main_v7, Cert.GmlpSRefIdeal.Read.val_main_v8, Cert.GmlpSRefIdeal.Read.val_main_v9, Cert.GmlpSRefIdeal.Read.val_main_v10, Cert.GmlpSRefIdeal.Read.val_main_v11, Cert.GmlpSRefIdeal.Read.val_main_v12, Cert.GmlpSRefIdeal.Read.val_main_v13, Cert.GmlpSRefIdeal.Read.val_main_v14]

theorem v27_at (T : Fin 512) (j : Fin 1024) : (Cert.GmlpSRefIdeal.Read.val_main_v27 (F := Ideal) x0 x1 x2 : Cert.GmlpSRefIdeal.S512x1024.Idx → EReal) (ix2 T j) = gelu (proj x0 x1 x2 T j) := by
  refine Eq.trans (by
    pointwise [Cert.GmlpSRefIdeal.Read.val_main_v15, Cert.GmlpSRefIdeal.Read.val_main_v16, Cert.GmlpSRefIdeal.Read.val_main_cst_2, Cert.GmlpSRefIdeal.Read.val_main_v17, Cert.GmlpSRefIdeal.Read.val_main_v18, Cert.GmlpSRefIdeal.Read.val_main_v19, Cert.GmlpSRefIdeal.Read.val_main_cst_3, Cert.GmlpSRefIdeal.Read.val_main_v20, Cert.GmlpSRefIdeal.Read.val_main_v21, Cert.GmlpSRefIdeal.Read.val_main_v22, Cert.GmlpSRefIdeal.Read.val_main_cst_4, Cert.GmlpSRefIdeal.Read.val_main_v23, Cert.GmlpSRefIdeal.Read.val_main_v24, Cert.GmlpSRefIdeal.Read.val_main_cst_5, Cert.GmlpSRefIdeal.Read.val_main_v25, Cert.GmlpSRefIdeal.Read.val_main_v26, Cert.GmlpSRefIdeal.Read.val_main_v27]
    rfl) (congrArg gelu (v14_at x0 x1 x2 T j))

theorem v28_at (T k : Fin 512) : (Cert.GmlpSRefIdeal.Read.val_main_v28 (F := Ideal) x0 x1 x2 : Cert.GmlpSRefIdeal.S512x512.Idx → EReal) (ix2 T k) = gelu (proj x0 x1 x2 T ⟨k.val, by omega⟩) := by
  have e : (Cert.GmlpSRefIdeal.Read.val_main_v28 (F := Ideal) x0 x1 x2 : Cert.GmlpSRefIdeal.S512x512.Idx → EReal) (ix2 T k) = (Cert.GmlpSRefIdeal.Read.val_main_v27 (F := Ideal) x0 x1 x2 : Cert.GmlpSRefIdeal.S512x1024.Idx → EReal) (ix2 T ⟨k.val, by omega⟩) := by
    pointwise [Cert.GmlpSRefIdeal.Read.val_main_v28]
  exact e.trans (v27_at x0 x1 x2 T ⟨k.val, by omega⟩)

theorem v29_at (T k : Fin 512) : (Cert.GmlpSRefIdeal.Read.val_main_v29 (F := Ideal) x0 x1 x2 : Cert.GmlpSRefIdeal.S512x512.Idx → EReal) (ix2 T k) = gelu (proj x0 x1 x2 T ⟨512 + k.val, by omega⟩) := by
  have e : (Cert.GmlpSRefIdeal.Read.val_main_v29 (F := Ideal) x0 x1 x2 : Cert.GmlpSRefIdeal.S512x512.Idx → EReal) (ix2 T k) = (Cert.GmlpSRefIdeal.Read.val_main_v27 (F := Ideal) x0 x1 x2 : Cert.GmlpSRefIdeal.S512x1024.Idx → EReal) (ix2 T ⟨512 + k.val, by omega⟩) := by
    pointwise [Cert.GmlpSRefIdeal.Read.val_main_v29]
  exact e.trans (v27_at x0 x1 x2 T ⟨512 + k.val, by omega⟩)

theorem v42_at (T k : Fin 512) : (Cert.GmlpSRefIdeal.Read.val_main_v42 (F := Ideal) x0 x1 x2 x3 : Cert.GmlpSRefIdeal.S512x512.Idx → EReal) (ix2 T k)
    = gelu (proj x0 x1 x2 T ⟨512 + k.val, by omega⟩) * Ideal.rsqrt (Ideal.div (∑ k : Fin 512, gelu (proj x0 x1 x2 T ⟨512 + k.val, by omega⟩) * gelu (proj x0 x1 x2 T ⟨512 + k.val, by omega⟩)) (Ideal.ofBits .f32 0x44000000#32) + Ideal.ofBits .f32 0x358637BD#32) * x3 (ix1 k) := by
  simp only [← v29_at x0 x1 x2 T]
  pointwise [Cert.GmlpSRefIdeal.Read.val_main_v30, Cert.GmlpSRefIdeal.Read.val_main_cst_6, Cert.GmlpSRefIdeal.Read.val_main_v31, Cert.GmlpSRefIdeal.Read.val_main_v32, Cert.GmlpSRefIdeal.Read.val_main_cst_7, Cert.GmlpSRefIdeal.Read.val_main_v33, Cert.GmlpSRefIdeal.Read.val_main_v34, Cert.GmlpSRefIdeal.Read.val_main_cst_8, Cert.GmlpSRefIdeal.Read.val_main_v35, Cert.GmlpSRefIdeal.Read.val_main_v36, Cert.GmlpSRefIdeal.Read.val_main_v37, Cert.GmlpSRefIdeal.Read.val_main_v38, Cert.GmlpSRefIdeal.Read.val_main_v39, Cert.GmlpSRefIdeal.Read.val_main_v40, Cert.GmlpSRefIdeal.Read.val_main_v41, Cert.GmlpSRefIdeal.Read.val_main_v42]

theorem v42_real (hf : Real x0 x1 x2 x3 x4) (T k : Fin 512) : ∃ a : ℝ, (Cert.GmlpSRefIdeal.Read.val_main_v42 (F := Ideal) x0 x1 x2 x3 : Cert.GmlpSRefIdeal.S512x512.Idx → EReal) (ix2 T k) = a := by
  rw [v42_at]
  exact rms_real (fun k => gelu (proj x0 x1 x2 T ⟨512 + k.val, by omega⟩)) (fun k => x3 (ix1 k)) (fun k => gelu_real _ (proj_real hf _ _)) hf.norm k

/-- Row `s` of the sample's chunk `q`. -/
def rowOf (q : Fin 128) (s : Fin 4) : Fin 512 := ⟨4 * q.val + s.val, by omega⟩

/-- The reference's gated value at position `s` of chunk `q`. -/
theorem ref_at (q : Fin 128) (s : Fin 4) (k : Fin 512) :
    (Cert.GmlpSRefIdeal.Read.val_main_v59 (F := Ideal) x0 x1 x2 x3 x4 x5 : Cert.GmlpSRefIdeal.S512x512.Idx → EReal) (ix2 (rowOf q s) k)
      = Cert.GmlpSRefIdeal.Read.val_main_v28 (F := Ideal) x0 x1 x2 (ix2 (rowOf q s) k) *
        ((∑ x : Fin 4, small x4 ⟨k.val / 128, by omega⟩ s x * Cert.GmlpSRefIdeal.Read.val_main_v42 (F := Ideal) x0 x1 x2 x3 (ix2 (rowOf q x) k)) + x5 (ix2 ⟨k.val / 128, by omega⟩ ⟨s.val, by omega⟩)) := by
  unfold rowOf
  refine Eq.trans (by
    pointwise [Cert.GmlpSRefIdeal.Read.val_main_v43, Cert.GmlpSRefIdeal.Read.val_main_v44, Cert.GmlpSRefIdeal.Read.val_main_v45, Cert.GmlpSRefIdeal.Read.val_main_c, Cert.GmlpSRefIdeal.Read.val_main_v46, Cert.GmlpSRefIdeal.Read.val_main_call0_v0, Cert.GmlpSRefIdeal.Read.val_main_call0_c, Cert.GmlpSRefIdeal.Read.val_main_call0_v1, Cert.GmlpSRefIdeal.Read.val_main_call0_v2, Cert.GmlpSRefIdeal.Read.val_main_call0_v3, Cert.GmlpSRefIdeal.Read.val_main_call0_v4, Cert.GmlpSRefIdeal.Read.val_main_call0_c_0, Cert.GmlpSRefIdeal.Read.val_main_call0_v5, Cert.GmlpSRefIdeal.Read.val_main_v47, Cert.GmlpSRefIdeal.Read.val_main_v48, Cert.GmlpSRefIdeal.Read.val_main_c_9, Cert.GmlpSRefIdeal.Read.val_main_call1_v0, Cert.GmlpSRefIdeal.Read.val_main_call1_v1, Cert.GmlpSRefIdeal.Read.val_main_call1_v2, Cert.GmlpSRefIdeal.Read.val_main_v49, Cert.GmlpSRefIdeal.Read.val_main_v50, Cert.GmlpSRefIdeal.Read.val_main_v51, Cert.GmlpSRefIdeal.Read.val_main_v52, Cert.GmlpSRefIdeal.Read.val_main_v53, Cert.GmlpSRefIdeal.Read.val_main_v54, Cert.GmlpSRefIdeal.Read.val_main_v55, Cert.GmlpSRefIdeal.Read.val_main_v56, Cert.GmlpSRefIdeal.Read.val_main_v57, Cert.GmlpSRefIdeal.Read.val_main_v58, Cert.GmlpSRefIdeal.Read.val_main_v59]
    rfl) ?_
  have h1 : (4 * q.val + s.val) / 4 = q.val := by omega
  have h2 : (4 * q.val + s.val) % 4 = s.val := by omega
  simp only [h1, h2]
  simp only [mul_comm q.val 4]
  refine congrArg₂ (· * ·) rfl (congrArg₂ (· + ·) (Finset.sum_congr rfl fun x _ => ?_) rfl)
  rw [mul_comm]
  exact congrArg₂ (· * ·) (small_eq x4 ⟨k.val / 128, by omega⟩ s x) rfl
end

theorem gelu_at (hf : Real (X m c) (G m c) (Wi m c) (Gn m c) (Ws m c)) (t : Fin cfg0.N) (r : Fin 512) (j : Fin 1024) :
    k0_pay1 (iblk m c 0 t) (iblk m c 1 t) (iblk m c 2 t) (ix2 r j) = gelu (proj (X m c) (G m c) (Wi m c) (rowAt t r) j) := by
  have hd := dot3 _ _ (Cert.InprojSEq.rms_real (fun k => X m c (ix2 (rowAt t r) k)) (fun k => G m c (ix1 k)) (fun k => hf.row _ k) hf.gain) (fun k => hf.column k j)
  unfold gelu proj
  rw [← half_move, ← hd]
  simp only [← x_at m c t, ← gain_at m c t, ← gates_at m c t]
  pointwise [k0_pay1]

theorem gelu_eq (x0 : Vec Ideal S512x1024 .f32) (x1 : Vec Ideal S1x1024 .f32) (x2 : Vec Ideal S1024x1024 .f32) (x3 : Vec Ideal S1x512 .f32) (x4 : Vec Ideal S4x128x128 .f32) (x5 : Vec Ideal S128x512 .f32) : k0_pay46 x0 x1 x2 x3 x4 x5 = k0_pay1 x0 x1 x2 := by
  have e0 : View.ld x0 r0_0 = x0 := View.ld_unit_zero (S := S512x1024) zeros2 _ _
  have e1 : View.ld x1 r0_1 = x1 := View.ld_unit_zero (S := S1x1024) zeros2 _ _
  have e2 : View.ld x2 r0_2 = x2 := View.ld_unit_zero (S := S1024x1024) zeros2 _ _
  unfold k0_pay46
  rw [e0, e1, e2]

theorem u_at (hf : Real (X m c) (G m c) (Wi m c) (Gn m c) (Ws m c)) (t : Fin cfg0.N) (r k : Fin 512) :
    k0_pay47 (iblk m c 0 t) (iblk m c 1 t) (iblk m c 2 t) (iblk m c 3 t) (iblk m c 4 t) (iblk m c 5 t) (ix2 r k) = Cert.GmlpSRefIdeal.Read.val_main_v28 (F := Ideal) (X m c) (G m c) (Wi m c) (ix2 (rowAt t r) k) := by
  have e : k0_pay47 (iblk m c 0 t) (iblk m c 1 t) (iblk m c 2 t) (iblk m c 3 t) (iblk m c 4 t) (iblk m c 5 t) = k0_pay2 (k0_pay46 (iblk m c 0 t) (iblk m c 1 t) (iblk m c 2 t) (iblk m c 3 t) (iblk m c 4 t) (iblk m c 5 t)) := rfl
  have p : ∀ z : FVec Ideal S512x1024 .f32, k0_pay2 z (ix2 r k) = z (ix2 r ⟨k.val, by omega⟩) := fun z => by pointwise [k0_pay2]
  rw [e, p, gelu_eq, gelu_at m c hf, v28_at]

theorem vb_at (hf : Real (X m c) (G m c) (Wi m c) (Gn m c) (Ws m c)) (t : Fin cfg0.N) (r k : Fin 512) :
    k0_pay48 (iblk m c 0 t) (iblk m c 1 t) (iblk m c 2 t) (iblk m c 3 t) (iblk m c 4 t) (iblk m c 5 t) (ix2 r k) = Cert.GmlpSRefIdeal.Read.val_main_v42 (F := Ideal) (X m c) (G m c) (Wi m c) (Gn m c) (ix2 (rowAt t r) k) := by
  have e : k0_pay48 (iblk m c 0 t) (iblk m c 1 t) (iblk m c 2 t) (iblk m c 3 t) (iblk m c 4 t) (iblk m c 5 t) = k0_pay3 (k0_pay46 (iblk m c 0 t) (iblk m c 1 t) (iblk m c 2 t) (iblk m c 3 t) (iblk m c 4 t) (iblk m c 5 t)) (View.ld (iblk m c 3 t : Vec Ideal S1x512 .f32) r0_3) := rfl
  have e3 : View.ld (iblk m c 3 t : Vec Ideal S1x512 .f32) r0_3 = (iblk m c 3 t : Vec Ideal S1x512 .f32) := View.ld_unit_zero (S := S1x512) zeros2 _ _
  rw [e, e3, gelu_eq, v42_at]
  have hg : ∀ k : Fin 512, gelu (proj (X m c) (G m c) (Wi m c) (rowAt t r) ⟨512 + k.val, by omega⟩) = k0_pay1 (iblk m c 0 t) (iblk m c 1 t) (iblk m c 2 t) (ix2 r ⟨512 + k.val, by omega⟩) := fun k => (gelu_at m c hf t r _).symm
  simp only [hg, ← norm_at m c t]
  generalize (k0_pay1 (iblk m c 0 t) (iblk m c 1 t) (iblk m c 2 t) : FVec Ideal S512x1024 .f32) = z
  pointwise [k0_pay3]

theorem out6 (x0 : Vec Ideal S512x1024 .f32) (x1 : Vec Ideal S1x1024 .f32) (x2 : Vec Ideal S1024x1024 .f32) (x3 : Vec Ideal S1x512 .f32) (x4 : Vec Ideal S4x128x128 .f32) (x5 : Vec Ideal S128x512 .f32) :
    out0_6 x0 x1 x2 x3 x4 x5 = View.canon [
      ⟨r0_13, tile 384 slices_S512x512_o384_0_S128x512 slices_S512x512_o384_0_S128x128 slices_S512x512_o384_128_S128x128 slices_S512x512_o384_256_S128x128 slices_S512x512_o384_384_S128x128 (k0_pay47 x0 x1 x2 x3 x4 x5) (k0_pay48 x0 x1 x2 x3 x4 x5) (k0_pay49 x0 x1 x2 x3 x4 x5) (View.ld x4 r0_6) (View.ld x4 r0_7) (View.ld x4 r0_8) (View.ld x4 r0_9)⟩,
      ⟨r0_12, tile 256 slices_S512x512_o256_0_S128x512 slices_S512x512_o256_0_S128x128 slices_S512x512_o256_128_S128x128 slices_S512x512_o256_256_S128x128 slices_S512x512_o256_384_S128x128 (k0_pay47 x0 x1 x2 x3 x4 x5) (k0_pay48 x0 x1 x2 x3 x4 x5) (k0_pay49 x0 x1 x2 x3 x4 x5) (View.ld x4 r0_6) (View.ld x4 r0_7) (View.ld x4 r0_8) (View.ld x4 r0_9)⟩,
      ⟨r0_11, tile 128 slices_S512x512_o128_0_S128x512 slices_S512x512_o128_0_S128x128 slices_S512x512_o128_128_S128x128 slices_S512x512_o128_256_S128x128 slices_S512x512_o128_384_S128x128 (k0_pay47 x0 x1 x2 x3 x4 x5) (k0_pay48 x0 x1 x2 x3 x4 x5) (k0_pay49 x0 x1 x2 x3 x4 x5) (View.ld x4 r0_6) (View.ld x4 r0_7) (View.ld x4 r0_8) (View.ld x4 r0_9)⟩,
      ⟨r0_10, tile 0 slices_S512x512_o0_0_S128x512 slices_S512x512_o0_0_S128x128 slices_S512x512_o0_128_S128x128 slices_S512x512_o0_256_S128x128 slices_S512x512_o0_384_S128x128 (k0_pay47 x0 x1 x2 x3 x4 x5) (k0_pay48 x0 x1 x2 x3 x4 x5) (k0_pay49 x0 x1 x2 x3 x4 x5) (View.ld x4 r0_6) (View.ld x4 r0_7) (View.ld x4 r0_8) (View.ld x4 r0_9)⟩] := rfl

/-- A block's gated value at its row `r`: the chunk is `r / 128`, the position in it `r % 128`. -/
def whole (u v : Fin 512 → Fin 512 → EReal) (b : FVec Ideal S128x512 .f32) (w : Vec Ideal S4x128x128 .f32) (y : S512x512.Idx) : EReal :=
  gated u v b w ⟨(y 0).val / 128, by have h : (y 0).val < 512 := (y 0).isLt; omega⟩ ⟨(y 0).val % 128, by omega⟩ ⟨(y 1).val / 128, by have h : (y 1).val < 512 := (y 1).isLt; omega⟩ ⟨(y 1).val % 128, by omega⟩

theorem whole_slab (u v : Fin 512 → Fin 512 → EReal) (b : FVec Ideal S128x512 .f32) (w : Vec Ideal S4x128x128 .f32) (y : S512x512.Idx) (o : Fin 4) (i : Fin 128) (g : Fin 4) (j : Fin 128)
    (h0 : (y 0).val = 128 * o.val + i.val) (h1 : (y 1).val = 128 * g.val + j.val) : whole u v b w y = gated u v b w o i g j := by
  unfold whole
  have e0 : ∀ p, (⟨(y 0).val / 128, p⟩ : Fin 4) = o := fun _ => Fin.ext (by show (y 0).val / 128 = o.val; omega)
  have e1 : ∀ p, (⟨(y 0).val % 128, p⟩ : Fin 128) = i := fun _ => Fin.ext (by show (y 0).val % 128 = i.val; omega)
  have e2 : ∀ p, (⟨(y 1).val / 128, p⟩ : Fin 4) = g := fun _ => Fin.ext (by show (y 1).val / 128 = g.val; omega)
  have e3 : ∀ p, (⟨(y 1).val % 128, p⟩ : Fin 128) = j := fun _ => Fin.ext (by show (y 1).val % 128 = j.val; omega)
  rw [e0, e1, e2, e3]

theorem col_split (k : Fin 512) : ∃ (g : Fin 4) (j : Fin 128), k = col g j :=
  ⟨⟨k.val / 128, by omega⟩, ⟨k.val % 128, by omega⟩, Fin.ext (by show k.val = 128 * (k.val / 128) + k.val % 128; omega)⟩

theorem out6_at (x0 : Vec Ideal S512x1024 .f32) (x1 : Vec Ideal S1x1024 .f32) (x2 : Vec Ideal S1024x1024 .f32) (x3 : Vec Ideal S1x512 .f32) (x4 : Vec Ideal S4x128x128 .f32) (x5 : Vec Ideal S128x512 .f32)
    (hw : ∀ (g : Fin 4) (i x : Fin 128), ∃ a : ℝ, x4 (ix3 g i x) = a) (hv : ∀ r k : Fin 512, ∃ a : ℝ, k0_pay48 x0 x1 x2 x3 x4 x5 (ix2 r k) = a) (y : S512x512.Idx) :
    out0_6 x0 x1 x2 x3 x4 x5 y = whole (fun r k => k0_pay47 x0 x1 x2 x3 x4 x5 (ix2 r k)) (fun r k => k0_pay48 x0 x1 x2 x3 x4 x5 (ix2 r k)) x5 x4 y := by
  have hb : (View.ld x5 r0_5 : Vec Ideal S128x512 .f32) = x5 := View.ld_unit_zero (S := S128x512) zeros2 _ _
  have hb' : k0_pay49 x0 x1 x2 x3 x4 x5 = x5 := by
    show k0_pay4 (View.ld x5 r0_5) = x5
    rw [hb]
    refine funext fun (y : S128x512.Idx) => ?_
    obtain ⟨i, k, rfl⟩ : ∃ (i : Fin 128) (k : Fin 512), y = ix2 i k := ⟨y 0, y 1, (ix2_eta y).symm⟩
    pointwise [k0_pay4]
  rw [out6, hb']
  refine View.canon_apply_of_pieces (S := S512x512) (e := .f32) (Val := Elt Ideal) (whole (fun r k => k0_pay47 x0 x1 x2 x3 x4 x5 (ix2 r k)) (fun r k => k0_pay48 x0 x1 x2 x3 x4 x5 (ix2 r k)) x5 x4) _ ?_ y (cover0_6 _ _ _ _ y)
  intro p hp
  simp only [List.mem_cons, List.not_mem_nil, or_false] at hp
  rcases hp with rfl | rfl | rfl | rfl
  · intro (x : S128x512.Idx)
    obtain ⟨i, k, rfl⟩ : ∃ (i : Fin 128) (k : Fin 512), x = ix2 i k := ⟨x 0, x 1, (ix2_eta x).symm⟩
    obtain ⟨g, j, rfl⟩ := col_split k
    refine (tile_at 384 3 rfl _ _ _ _ _ _ _ _ x4 hw hv i g j).trans (whole_slab _ _ _ _ _ 3 i g j ?_ ?_).symm
    · show 384 + 1 * i.val = 128 * 3 + i.val; omega
    · show 0 + 1 * (128 * g.val + j.val) = 128 * g.val + j.val; omega
  · intro (x : S128x512.Idx)
    obtain ⟨i, k, rfl⟩ : ∃ (i : Fin 128) (k : Fin 512), x = ix2 i k := ⟨x 0, x 1, (ix2_eta x).symm⟩
    obtain ⟨g, j, rfl⟩ := col_split k
    refine (tile_at 256 2 rfl _ _ _ _ _ _ _ _ x4 hw hv i g j).trans (whole_slab _ _ _ _ _ 2 i g j ?_ ?_).symm
    · show 256 + 1 * i.val = 128 * 2 + i.val; omega
    · show 0 + 1 * (128 * g.val + j.val) = 128 * g.val + j.val; omega
  · intro (x : S128x512.Idx)
    obtain ⟨i, k, rfl⟩ : ∃ (i : Fin 128) (k : Fin 512), x = ix2 i k := ⟨x 0, x 1, (ix2_eta x).symm⟩
    obtain ⟨g, j, rfl⟩ := col_split k
    refine (tile_at 128 1 rfl _ _ _ _ _ _ _ _ x4 hw hv i g j).trans (whole_slab _ _ _ _ _ 1 i g j ?_ ?_).symm
    · show 128 + 1 * i.val = 128 * 1 + i.val; omega
    · show 0 + 1 * (128 * g.val + j.val) = 128 * g.val + j.val; omega
  · intro (x : S128x512.Idx)
    obtain ⟨i, k, rfl⟩ : ∃ (i : Fin 128) (k : Fin 512), x = ix2 i k := ⟨x 0, x 1, (ix2_eta x).symm⟩
    obtain ⟨g, j, rfl⟩ := col_split k
    refine (tile_at 0 0 rfl _ _ _ _ _ _ _ _ x4 hw hv i g j).trans (whole_slab _ _ _ _ _ 0 i g j ?_ ?_).symm
    · show 0 + 1 * i.val = 128 * 0 + i.val; omega
    · show 0 + 1 * (128 * g.val + j.val) = 128 * g.val + j.val; omega

theorem array6_at (t : Fin cfg0.N) (r k : Fin 512) :
    ((dats m 0 c).arrAt 6 cfg0.N : S512x512.Idx → EReal) (ix2 (rowAt t r) k) = out0_6 (iblk m c 0 t) (iblk m c 1 t) (iblk m c 2 t) (iblk m c 3 t) (iblk m c 4 t) (iblk m c 5 t) (ix2 r k) := by
  obtain ⟨h0, h1⟩ := index6 t
  have hf : ∀ t : Fin grid0.N, win0_6.flush t = true := by decide +kernel
  have e := congrFun ((blocks6 m c t (hf t)).trans (flushed6 m c t)) (ix2 (n0 := 512) (n1 := 512) r k)
  rw [View.read_apply] at e
  refine Eq.trans (congrArg _ ?_) e
  funext a
  apply Fin.ext
  match a with
  | ⟨0, _⟩ => show 512 * t.val + r.val = win0_6.index t 0 * 512 + 1 * r.val; rw [h0]; omega
  | ⟨1, _⟩ => show k.val = win0_6.index t 1 * 512 + 1 * k.val; rw [h1]; omega

theorem array7_at (t : Fin cfg0.N) (r k : Fin 512) :
    ((dats m 0 c).arrAt 7 cfg0.N : S512x512.Idx → EReal) (ix2 (rowAt t r) k) = out0_7 (iblk m c 0 t) (iblk m c 1 t) (iblk m c 2 t) (iblk m c 3 t) (iblk m c 4 t) (iblk m c 5 t) (ix2 r k) := by
  obtain ⟨h0, h1⟩ := index7 t
  have hf : ∀ t : Fin grid0.N, win0_7.flush t = true := by decide +kernel
  have e := congrFun ((blocks7 m c t (hf t)).trans (flushed7 m c t)) (ix2 (n0 := 512) (n1 := 512) r k)
  rw [View.read_apply] at e
  refine Eq.trans (congrArg _ ?_) e
  funext a
  apply Fin.ext
  match a with
  | ⟨0, _⟩ => show 512 * t.val + r.val = win0_7.index t 0 * 512 + 1 * r.val; rw [h0]; omega
  | ⟨1, _⟩ => show k.val = win0_7.index t 1 * 512 + 1 * k.val; rw [h1]; omega

theorem row_split (T : Fin 512) : ∃ (t : Fin cfg0.N) (r : Fin 512), T = rowAt t r := by
  have hN : cfg0.N = 1 := N_0
  exact ⟨⟨T.val / 512, by rw [hN]; omega⟩, ⟨T.val % 512, by omega⟩, Fin.ext (by show T.val = 512 * (T.val / 512) + T.val % 512; omega)⟩

/-- The normalised second half the call leaves is the reference's. -/
theorem normed_eq (hf : Real (X m c) (G m c) (Wi m c) (Gn m c) (Ws m c)) : (dats m 0 c).arrAt 7 cfg0.N = Cert.GmlpSRefIdeal.Read.val_main_v42 (F := Ideal) (X m c) (G m c) (Wi m c) (Gn m c) := by
  refine funext fun (i : S512x512.Idx) => ?_
  obtain ⟨T, k, rfl⟩ : ∃ (T : Fin 512) (k : Fin 512), i = ix2 T k := ⟨i 0, i 1, (ix2_eta i).symm⟩
  obtain ⟨t, r, rfl⟩ := row_split T
  refine (array7_at m c t r k).trans (Eq.trans ?_ (vb_at m c hf t r k))
  unfold out0_7
  rw [View.canon_unit_zero zeros2]
  rfl

theorem lane_split (i : Fin 128) : ∃ (b : Fin 32) (s : Fin 4), i = lane b s :=
  ⟨⟨i.val / 4, by omega⟩, ⟨i.val % 4, by omega⟩, Fin.ext (by show i.val = 4 * (i.val / 4) + i.val % 4; omega)⟩

/-- A sum over the 128 lanes, chunk by chunk of four. -/
theorem lane_sum (f : Fin 128 → EReal) : ∑ x, f x = ∑ d : Fin 32, ∑ e : Fin 4, f (lane d e) := by
  rw [← Fintype.sum_prod_type']
  refine (Equiv.sum_comp (finProdFinEquiv (m := 32) (n := 4)) f).symm.trans (Finset.sum_congr rfl fun p _ => congrArg f (Fin.ext ?_))
  show p.2.val + 4 * p.1.val = 4 * p.1.val + p.2.val
  omega

/-- The mixing matrices of a point. -/
def mixes (t : Fin cfg0.N) : S4x128x128.Idx → EReal := iblk m c 4 t

theorem mixes_at (t : Fin cfg0.N) (g : Fin 4) (b d : Fin 32) (s e : Fin 4) : mixes m c t (ix3 g (lane b s) (lane d e)) = if b = d then small (Ws m c) g s e else 0 := mix_at m c t g b d s e

theorem mix_sum (t : Fin cfg0.N) (g : Fin 4) (b : Fin 32) (s : Fin 4) (v : Fin 128 → EReal) :
    ∑ x : Fin 128, mixes m c t (ix3 g (lane b s) x) * v x = ∑ e : Fin 4, small (Ws m c) g s e * v (lane b e) := by
  rw [lane_sum, Finset.sum_eq_single b]
  · refine Finset.sum_congr rfl fun e _ => ?_
    rw [mixes_at, if_pos rfl]
  · intro d _ hd
    refine Finset.sum_eq_zero fun e _ => ?_
    rw [mixes_at, if_neg (fun h => hd h.symm), zero_mul]
  · intro h
    exact absurd (Finset.mem_univ b) h

theorem mix_real (hf : Real (X m c) (G m c) (Wi m c) (Gn m c) (Ws m c)) (t : Fin cfg0.N) (g : Fin 4) (i x : Fin 128) : ∃ a : ℝ, mixes m c t (ix3 g i x) = a := by
  obtain ⟨b, s, rfl⟩ := lane_split i
  obtain ⟨d, e, rfl⟩ := lane_split x
  rw [mixes_at]
  split_ifs
  · exact hf.weight g s e
  · exact ⟨0, EReal.coe_zero.symm⟩

/-- The gated array the call leaves is the reference's. -/
theorem gated_eq (hf : Real (X m c) (G m c) (Wi m c) (Gn m c) (Ws m c)) : (dats m 0 c).arrAt 6 cfg0.N = Cert.GmlpSRefIdeal.Read.val_main_v59 (F := Ideal) (X m c) (G m c) (Wi m c) (Gn m c) (Ws m c) (Bs m c) := by
  refine funext fun (i : S512x512.Idx) => ?_
  obtain ⟨T, k, rfl⟩ : ∃ (T : Fin 512) (k : Fin 512), i = ix2 T k := ⟨i 0, i 1, (ix2_eta i).symm⟩
  obtain ⟨t, r, rfl⟩ := row_split T
  obtain ⟨g, j, rfl⟩ := col_split k
  refine (array6_at m c t r _).trans ((out6_at _ _ _ _ _ _ (mix_real m c hf t) (fun r k => (v42_real _ _ _ _ _ hf _ _).imp fun _ h => (vb_at m c hf t r k).trans h) _).trans ?_)
  obtain ⟨o, i, rfl⟩ : ∃ (o : Fin 4) (i : Fin 128), r = ⟨128 * o.val + i.val, by omega⟩ :=
    ⟨⟨r.val / 128, by omega⟩, ⟨r.val % 128, by omega⟩, Fin.ext (by show r.val = 128 * (r.val / 128) + r.val % 128; omega)⟩
  obtain ⟨b, s, rfl⟩ := lane_split i
  rw [whole_slab _ _ _ _ _ o (lane b s) g j rfl rfl]
  have hN : cfg0.N = 1 := N_0
  have hq : 32 * o.val + b.val < 128 := by omega
  have hrow : ∀ e : Fin 4, rowAt t ⟨128 * o.val + (lane b e).val, by omega⟩ = rowOf ⟨32 * o.val + b.val, hq⟩ e :=
    fun e => Fin.ext (by have := t.isLt; show 512 * t.val + (128 * o.val + (4 * b.val + e.val)) = 4 * (32 * o.val + b.val) + e.val; omega)
  have hg : (⟨(col g j).val / 128, by omega⟩ : Fin 4) = g := Fin.ext (by show (128 * g.val + j.val) / 128 = g.val; omega)
  unfold gated
  have hu : ∀ r k : Fin 512, k0_pay47 (iblk m c 0 t) (iblk m c 1 t) (iblk m c 2 t) (iblk m c 3 t) (mixes m c t) (iblk m c 5 t) (ix2 r k) = _ := u_at m c hf t
  have hv : ∀ r k : Fin 512, k0_pay48 (iblk m c 0 t) (iblk m c 1 t) (iblk m c 2 t) (iblk m c 3 t) (mixes m c t) (iblk m c 5 t) (ix2 r k) = _ := vb_at m c hf t
  rw [mix_sum]
  simp only [hu, hv, bias_at, hrow]
  rw [ref_at, hg]

/-- What the precondition's text asks of its shapes. -/
theorem pre_facts : Cert.Pre_finite_gating.Facts := ⟨by decide, by decide, by decide, by decide, by decide, by decide, by decide, by decide, by decide, by decide, by decide, by decide⟩

section
variable [Cert.Pre_finite_gating.Facts] (x0 : FVec Ideal S512x1024 .f32) (x1 : FVec Ideal S1024 .f32) (x2 : FVec Ideal S1024x7456 .f32) (x3 : FVec Ideal S512 .f32) (x4 : FVec Ideal S4x128x128 .f32) (x5 : FVec Ideal S4x128 .f32)

/-- Each number the precondition lists. -/
theorem pre_row (r : Fin 512) (k : Fin 1024) : Cert.Pre_finite_gating.fn (F := Ideal) x0 x1 x2 x3 x4 x5 (ix2 ⟨r.val, by omega⟩ k) = Ideal.cmp .olt (max (x0 (ix2 r k)) (-(x0 (ix2 r k)))) (Ideal.ofBits .f32 0x7F800000#32) := by
  pointwise [Cert.Pre_finite_gating.fn]
  rfl
theorem pre_gain (k : Fin 1024) : Cert.Pre_finite_gating.fn (F := Ideal) x0 x1 x2 x3 x4 x5 (ix2 ⟨512, by omega⟩ k) = Ideal.cmp .olt (max (x1 (ix1 k)) (-(x1 (ix1 k)))) (Ideal.ofBits .f32 0x7F800000#32) := by
  pointwise [Cert.Pre_finite_gating.fn]
  rfl
theorem pre_column (k j : Fin 1024) : Cert.Pre_finite_gating.fn (F := Ideal) x0 x1 x2 x3 x4 x5 (ix2 ⟨513 + j.val, by omega⟩ k) = Ideal.cmp .olt (max (x2 (ix2 k ⟨1536 + j.val, by omega⟩)) (-(x2 (ix2 k ⟨1536 + j.val, by omega⟩)))) (Ideal.ofBits .f32 0x7F800000#32) := by
  pointwise [Cert.Pre_finite_gating.fn]
  rw [dif_neg (by omega), dif_neg (by omega), dif_pos (by omega)]
  have e : 513 + j.val - 512 - 1 = j.val := by omega
  simp only [e]
  rfl
theorem pre_norm (k : Fin 512) : Cert.Pre_finite_gating.fn (F := Ideal) x0 x1 x2 x3 x4 x5 (ix2 ⟨1537, by omega⟩ ⟨k.val, by omega⟩) = Ideal.cmp .olt (max (x3 (ix1 k)) (-(x3 (ix1 k)))) (Ideal.ofBits .f32 0x7F800000#32) := by
  pointwise [Cert.Pre_finite_gating.fn]
  rfl
theorem pre_weight (g s e : Fin 4) : Cert.Pre_finite_gating.fn (F := Ideal) x0 x1 x2 x3 x4 x5 (ix2 ⟨1537, by omega⟩ ⟨512 + (16 * g.val + 4 * s.val + e.val), by omega⟩) = Ideal.cmp .olt (max (small x4 g s e) (-(small x4 g s e))) (Ideal.ofBits .f32 0x7F800000#32) := by
  pointwise [Cert.Pre_finite_gating.fn, Cert.Pre_finite_gating.fn_tril, Cert.Pre_finite_gating.fn_where]
  rw [dif_pos (by omega)]
  exact congrArg (fun w : EReal => BitVec.ofBool (decide (max w (-w) < Ideal.ofBits .f32 0x7F800000#32))) (small_eq x4 g s e)

/-- The precondition, read as the finiteness of what the call multiplies. -/
theorem pre_real (hp : ∀ i, Cert.Pre_finite_gating.fn (F := Ideal) x0 x1 x2 x3 x4 x5 i = 1#1) : Real x0 x1 x2 x3 x4 :=
  ⟨fun r k => Cert.MoeEq.real_of_abs _ ((pre_row x0 x1 x2 x3 x4 x5 r k).symm.trans (hp _)), fun k => Cert.MoeEq.real_of_abs _ ((pre_gain x0 x1 x2 x3 x4 x5 k).symm.trans (hp _)),
    fun k j => Cert.MoeEq.real_of_abs _ ((pre_column x0 x1 x2 x3 x4 x5 k j).symm.trans (hp _)), fun k => Cert.MoeEq.real_of_abs _ ((pre_norm x0 x1 x2 x3 x4 x5 k).symm.trans (hp _)),
    fun g s e => Cert.MoeEq.real_of_abs _ ((pre_weight x0 x1 x2 x3 x4 x5 g s e).symm.trans (hp _))⟩
end

end Cert.GmlpSEq

end
-- ==== Proof.lean ====
/- The proof of the claims about the mixture-of-experts, merge, dense feed-forward and per-layer-embedding calls.  The frames are the programs' runs read for their
   arguments and their semaphores alone; the value claim puts the kernel's result array beside the reference's. -/
module

public import proofs.«01_k».proof.Defs
public import proofs.«01_k».proof.Proof.Gen.Moe.Frame
public import proofs.«01_k».proof.Proof.Gen.MoeIdeal.Value
public import proofs.«01_k».proof.Proof.Gen.MoeRefIdeal.Run
public import proofs.«01_k».proof.Proof.Gen.MoeRefIdeal.Read
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Dense.Frame
public import proofs.«01_k».proof.Proof.Gen.DenseIdeal.Value
public import proofs.«01_k».proof.Proof.Gen.DenseRefIdeal.Run
public import proofs.«01_k».proof.Proof.Gen.DenseRefIdeal.Read
public import proofs.«01_k».proof.Proof.Gen.Ple.Frame
public import proofs.«01_k».proof.Proof.Gen.PleIdeal.Value
public import proofs.«01_k».proof.Proof.Gen.PleRefIdeal.Run
public import proofs.«01_k».proof.Proof.Gen.PleRefIdeal.Read
public import proofs.«01_k».proof.Proof.MoeEq
public import proofs.«01_k».proof.Proof.MergeEq
public import proofs.«01_k».proof.Proof.DenseEq
public import proofs.«01_k».proof.Proof.PleEq
public import Idealize.ShloMosaic.Adequacy
public import Idealize.ShloMosaic.Init
public import Idealize.ShloMosaic.Lib.Quiescent
public import proofs.«01_k».proof.Proof.Gen.Gmlp.Frame
public import proofs.«01_k».proof.Proof.Gen.GmlpIdeal.Value
public import proofs.«01_k».proof.Proof.Gen.GmlpRefIdeal.Run
public import proofs.«01_k».proof.Proof.Gen.GmlpRefIdeal.Read
public import proofs.«01_k».proof.Proof.GmlpEq
public import proofs.«01_k».proof.Proof.Gen.Steps.Frame
public import proofs.«01_k».proof.Proof.Gen.StepsIdeal.Value
public import proofs.«01_k».proof.Proof.Gen.StepsRefIdeal.Run
public import proofs.«01_k».proof.Proof.Gen.StepsRefIdeal.Read
public import proofs.«01_k».proof.Proof.StepsEq
public import proofs.«01_k».proof.Proof.Gen.Attn.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnEq
public import proofs.«01_k».proof.Proof.Gen.Inproj.Frame
public import proofs.«01_k».proof.Proof.Gen.InprojIdeal.Value
public import proofs.«01_k».proof.Proof.Gen.InprojRefIdeal.Run
public import proofs.«01_k».proof.Proof.Gen.InprojRefIdeal.Read
public import proofs.«01_k».proof.Proof.InprojEq
public import proofs.«01_k».proof.Proof.Gen.InprojS.Frame
public import proofs.«01_k».proof.Proof.Gen.InprojSIdeal.Value
public import proofs.«01_k».proof.Proof.Gen.InprojSRefIdeal.Run
public import proofs.«01_k».proof.Proof.Gen.InprojSRefIdeal.Read
public import proofs.«01_k».proof.Proof.InprojSEq
public import proofs.«01_k».proof.Proof.Gen.GmlpS.Frame
public import proofs.«01_k».proof.Proof.Gen.GmlpSIdeal.Value
public import proofs.«01_k».proof.Proof.Gen.GmlpSRefIdeal.Run
public import proofs.«01_k».proof.Proof.Gen.GmlpSRefIdeal.Read
public import proofs.«01_k».proof.Proof.GmlpSEq

@[expose] public section

set_option maxRecDepth 16384

noncomputable section

namespace Cert.Proof

open Idealize.ShloMosaic Idealize.SL.Sem Idealize.ShloMosaic.TcCoe

section Moe

/-- The reference runs, keeps its arguments and leaves every semaphore at zero. -/
theorem moe_ref_quiet : Cert.quiescent_MoeRefIdeal := fun m ρ _ =>
  (θ_run Cert.MoeRefIdeal.defs _ _).mono
    (fun r h => ⟨fun c => (h c).2, sem_eq_zero_of_no_sems (by decide) r.2⟩)
    (Cert.MoeRefIdeal.Value.run (F := Ideal) m ρ)

/-- From equal arguments with a finite gain and router both programs end with the same array. -/
theorem moe_equal [Cert.Pre_finite_routing.Facts] :
    Cert.algebraic_MoeIdeal_MoeRefIdeal_pre_finite_routing := by
  intro m ρ m' ρ' hpre hagree
  refine ⟨_, Cert.MoeIdeal.Value.run (F := Ideal) m ρ, ?_⟩
  refine (θ_run Cert.MoeRefIdeal.defs _ _).mono (fun _ h c => ⟨?_, (h c).2⟩)
    (Cert.MoeRefIdeal.Value.run (F := Ideal) m' ρ')
  have hp := Cert.MoeEq.pre_real _ _ _ _ _ _ (fun i => congrFun (hpre c) i)
  refine Eq.trans ?_ (Cert.MoeEq.eq_ref m c hp.1 hp.2).symm
  refine ((h c).1.trans (Cert.MoeRefIdeal.Read.val_main_v148_eq _)).trans ?_
  obtain ⟨h0, h1, h2, h3, h4, h5⟩ := hagree c
  exact congr (congr (congr (congr (congr (congrArg (Cert.MoeRefIdeal.Read.val_main_v148 (F := Ideal)) h0) h1) h2) h3) h4) h5

end Moe

section Merge

/-- The reference of the merge call runs, keeps its arguments and leaves every semaphore at zero. -/
theorem merge_ref_quiet : Cert.quiescent_MergeRefIdeal := fun m ρ _ =>
  (θ_run Cert.MergeRefIdeal.defs _ _).mono
    (fun r h => ⟨fun c => (h c).2, sem_eq_zero_of_no_sems (by decide) r.2⟩)
    (Cert.MergeRefIdeal.Value.run (F := Ideal) m ρ)

/-- From equal arguments the merge call and its reference end with the same array. -/
theorem merge_equal : Cert.algebraic_MergeIdeal_MergeRefIdeal := by
  intro m ρ m' ρ' _ hagree
  refine ⟨_, Cert.MergeIdeal.Value.run_blocks (F := Ideal) m ρ, ?_⟩
  refine (θ_run Cert.MergeRefIdeal.defs _ _).mono (fun _ h c => ⟨?_, (h c).2⟩)
    (Cert.MergeRefIdeal.Value.run (F := Ideal) m' ρ')
  refine Eq.trans ?_ (Cert.MergeEq.eq_ref m c).symm
  refine ((h c).1.trans (Cert.MergeRefIdeal.Read.val_main_v29_eq _ _ _ _ _ _ _ _)).trans ?_
  obtain ⟨h0, h1, h2, h3, h4, h5, h6, h7⟩ := hagree c
  exact congr (congr (congr (congr (congr (congr (congr (congrArg (Cert.MergeRefIdeal.Read.val_main_v29 (F := Ideal)) h0) h1) h2) h3) h4) h5) h6) h7

end Merge

section Dense

/-- The reference of the dense feed-forward call runs, keeps its arguments and leaves every semaphore at zero. -/
theorem dense_ref_quiet : Cert.quiescent_DenseRefIdeal := fun m ρ _ =>
  (θ_run Cert.DenseRefIdeal.defs _ _).mono
    (fun r h => ⟨fun c => (h c).2, sem_eq_zero_of_no_sems (by decide) r.2⟩)
    (Cert.DenseRefIdeal.Value.run (F := Ideal) m ρ)

/-- From equal arguments the dense feed-forward call and its reference end with the same array. -/
theorem dense_equal : Cert.algebraic_DenseIdeal_DenseRefIdeal := by
  intro m ρ m' ρ' _ hagree
  refine ⟨_, Cert.DenseIdeal.Value.run (F := Ideal) m ρ, ?_⟩
  refine (θ_run Cert.DenseRefIdeal.defs _ _).mono (fun _ h c => ⟨?_, (h c).2⟩)
    (Cert.DenseRefIdeal.Value.run (F := Ideal) m' ρ')
  refine Eq.trans ?_ (Cert.DenseEq.eq_ref m c).symm
  refine ((h c).1.trans (Cert.DenseRefIdeal.Read.val_main_v18_eq _ _ _ _ _)).trans ?_
  obtain ⟨h0, h1, h2, h3, h4⟩ := hagree c
  exact congr (congr (congr (congr (congrArg (Cert.DenseRefIdeal.Read.val_main_v18 (F := Ideal)) h0) h1) h2) h3) h4

end Dense

section Ple

/-- The reference of the per-layer-embedding call runs, keeps its arguments and leaves every semaphore at zero. -/
theorem ple_ref_quiet : Cert.quiescent_PleRefIdeal := fun m ρ _ =>
  (θ_run Cert.PleRefIdeal.defs _ _).mono
    (fun r h => ⟨fun c => (h c).2, sem_eq_zero_of_no_sems (by decide) r.2⟩)
    (Cert.PleRefIdeal.Value.run (F := Ideal) m ρ)

/-- From equal arguments the per-layer-embedding call and its reference end with the same array. -/
theorem ple_equal : Cert.algebraic_PleIdeal_PleRefIdeal := by
  intro m ρ m' ρ' _ hagree
  refine ⟨_, Cert.PleIdeal.Value.run_blocks (F := Ideal) m ρ, ?_⟩
  refine (θ_run Cert.PleRefIdeal.defs _ _).mono (fun _ h c => ⟨?_, (h c).2⟩)
    (Cert.PleRefIdeal.Value.run (F := Ideal) m' ρ')
  refine Eq.trans ?_ (Cert.PleEq.eq_ref m c).symm
  refine ((h c).1.trans (Cert.PleRefIdeal.Read.val_main_v22_eq _ _ _ _ _)).trans ?_
  obtain ⟨h0, h1, h2, h3, h4⟩ := hagree c
  exact congr (congr (congr (congr (congrArg (Cert.PleRefIdeal.Read.val_main_v22 (F := Ideal)) h0) h1) h2) h3) h4

end Ple

section Gmlp

/-- The reference's gating call ends quietly with its arguments as they were. -/
theorem gmlp_ref_quiet : Cert.quiescent_GmlpRefIdeal := fun m ρ _ =>
  (θ_run Cert.GmlpRefIdeal.defs _ _).mono
    (fun r h => ⟨fun c => (h c).2.2, sem_eq_zero_of_no_sems (by decide) r.2⟩)
    (Cert.GmlpRefIdeal.Value.run (F := Ideal) m ρ)

/-- From equal arguments the gating call and its reference end with the same arrays. -/
theorem gmlp_equal : Cert.algebraic_GmlpIdeal_GmlpRefIdeal := by
  intro m ρ m' ρ' _ hagree
  refine ⟨_, _, Cert.GmlpIdeal.Value.run_blocks (F := Ideal) m ρ, ?_⟩
  refine (θ_run Cert.GmlpRefIdeal.defs _ _).mono (fun _ h c => ?_)
    (Cert.GmlpRefIdeal.Value.run (F := Ideal) m' ρ')
  obtain ⟨h0, h1, h2, h3, h4, h5⟩ := hagree c
  refine ⟨?_, ?_, (h c).2.2⟩
  · refine Eq.trans ?_ (Cert.GmlpEq.gated_eq m c).symm
    refine ((h c).1.trans (Cert.GmlpRefIdeal.Read.val_main_v57_eq _ _)).trans ?_
    exact congr (congr (congr (congr (congr (congrArg (Cert.GmlpRefIdeal.Read.val_main_v57 (F := Ideal)) h0) h1) h2) h3) h4) h5
  · refine Eq.trans ?_ (Cert.GmlpEq.normed_eq m c).symm
    refine ((h c).2.1.trans (Cert.GmlpRefIdeal.Read.val_main_v42_eq _ _)).trans ?_
    exact congr (congr (congr (congrArg (Cert.GmlpRefIdeal.Read.val_main_v42 (F := Ideal)) h0) h1) h2) h3

end Gmlp

section Steps

/-- The reference's recurrence ends quietly with its arguments as they were. -/
theorem steps_ref_quiet : Cert.quiescent_StepsRefIdeal := fun m ρ _ =>
  (θ_run Cert.StepsRefIdeal.defs _ _).mono
    (fun r h => ⟨fun c => (h c).2.2, sem_eq_zero_of_no_sems (by decide) r.2⟩)
    (Cert.StepsRefIdeal.Value.run (F := Ideal) m ρ)

/-- From equal arguments the recurrence and its reference end with the same arrays. -/
theorem steps_equal [Cert.Pre_finite_steps.Facts] : Cert.algebraic_StepsIdeal_StepsRefIdeal_pre_finite_steps := by
  intro m ρ m' ρ' hpre hagree
  refine ⟨_, _, Cert.StepsIdeal.Value.run_blocks (F := Ideal) m ρ, ?_⟩
  refine (θ_run Cert.StepsRefIdeal.defs _ _).mono (fun _ h c => ?_)
    (Cert.StepsRefIdeal.Value.run (F := Ideal) m' ρ')
  obtain ⟨f1, f2, f3, f4, f5, f10⟩ := Cert.StepsEq.pre_real _ _ _ _ _ _ _ _ _ _ _ (fun i => congrFun (hpre c) i)
  obtain ⟨h0, h1, h2, h3, h4, h5, h6, h7, h8, h9, h10⟩ := hagree c
  refine ⟨?_, ?_, (h c).2.2⟩
  · refine Eq.trans ?_ (Cert.StepsEq.out_eq m c f1 f2 f3 f4 f5 f10).symm
    refine ((h c).1.trans (Cert.StepsRefIdeal.Read.val_main_v180_eq _)).trans ?_
    exact congr (congr (congr (congr (congr (congr (congr (congr (congr (congr (congrArg (Cert.StepsRefIdeal.Read.val_main_v180 (F := Ideal)) h0) h1) h2) h3) h4) h5) h6) h7) h8) h9) h10
  · refine Eq.trans ?_ (Cert.StepsEq.states_eq m c f1 f2 f3 f4 f5 f10).symm
    refine ((h c).2.1.trans (Cert.StepsRefIdeal.Read.val_main_v135_eq _)).trans ?_
    exact congr (congr (congr (congr (congr (congrArg (Cert.StepsRefIdeal.Read.val_main_v135 (F := Ideal)) h1) h2) h3) h4) h5) h10

end Steps

section Attn

/-- The reference's attention ends quietly with its arguments as they were. -/
theorem attns_ref_quiet : Cert.quiescent_AttnRefIdeal := fun m ρ _ =>
  (θ_run Cert.AttnRefIdeal.defs _ _).mono
    (fun r h => ⟨fun c => (h c).2, sem_eq_zero_of_no_sems (by decide) r.2⟩)
    (Cert.AttnRefIdeal.Value.run (F := Ideal) m ρ)

/-- From equal arguments the attention and its reference end with the same arrays. -/
theorem attns_equal [Cert.Pre_finite_attention.Facts] : Cert.algebraic_AttnIdeal_AttnRefIdeal_pre_finite_attention := by
  intro m ρ m' ρ' hpre hagree
  refine ⟨_, Cert.AttnIdeal.Value.run_blocks (F := Ideal) m ρ, ?_⟩
  refine (θ_run Cert.AttnRefIdeal.defs _ _).mono (fun _ h c => ?_)
    (Cert.AttnRefIdeal.Value.run (F := Ideal) m' ρ')
  obtain ⟨f0, f1, f3⟩ := Cert.AttnEq.pre_real _ _ _ _ _ (fun i => congrFun (hpre c) i)
  obtain ⟨h0, h1, h2, h3, h4⟩ := hagree c
  refine ⟨?_, (h c).2⟩
  · refine Eq.trans ?_ (Cert.AttnEq.out_eq m c f0 f1 f3).symm
    refine ((h c).1.trans (Cert.AttnRefIdeal.Read.val_main_v161_eq _)).trans ?_
    exact congr (congr (congr (congr (congrArg (Cert.AttnRefIdeal.Read.val_main_v161 (F := Ideal)) h0) h1) h2) h3) h4

end Attn

section Inproj

/-- The reference's projection in front of the attention ends quietly with its arguments as they were. -/
theorem inproj_ref_quiet : Cert.quiescent_InprojRefIdeal := fun m ρ _ =>
  (θ_run Cert.InprojRefIdeal.defs _ _).mono
    (fun r h => ⟨fun c => (h c).2.2.2, sem_eq_zero_of_no_sems (by decide) r.2⟩)
    (Cert.InprojRefIdeal.Value.run (F := Ideal) m ρ)

/-- From equal arguments the projection in front of the attention and its reference end with the same arrays. -/
theorem inproj_equal : Cert.algebraic_InprojIdeal_InprojRefIdeal := by
  intro m ρ m' ρ' _ hagree
  refine ⟨_, _, _, Cert.InprojIdeal.Value.run_blocks (F := Ideal) m ρ, ?_⟩
  refine (θ_run Cert.InprojRefIdeal.defs _ _).mono (fun _ h c => ?_)
    (Cert.InprojRefIdeal.Value.run (F := Ideal) m' ρ')
  obtain ⟨h0, h1, h2, h3, h4⟩ := hagree c
  refine ⟨?_, ?_, ?_, (h c).2.2.2⟩
  · refine Eq.trans ?_ (Cert.InprojEq.queries_eq m c).symm
    refine ((h c).1.trans (Cert.InprojRefIdeal.Read.val_main_v116_eq _ _)).trans ?_
    exact congr (congr (congr (congrArg (Cert.InprojRefIdeal.Read.val_main_v116 (F := Ideal)) h0) h1) h2) h3
  · refine Eq.trans ?_ (Cert.InprojEq.keys_eq m c).symm
    refine ((h c).2.1.trans (Cert.InprojRefIdeal.Read.val_main_v117_eq _ _)).trans ?_
    exact congr (congr (congr (congrArg (Cert.InprojRefIdeal.Read.val_main_v117 (F := Ideal)) h0) h1) h2) h4
  · refine Eq.trans ?_ (Cert.InprojEq.values_eq m c).symm
    refine ((h c).2.2.1.trans (Cert.InprojRefIdeal.Read.val_main_v118_eq _ _ _)).trans ?_
    exact congr (congr (congrArg (Cert.InprojRefIdeal.Read.val_main_v118 (F := Ideal)) h0) h1) h2

end Inproj

section InprojS

/-- The reference's sample projection in front of the attention ends quietly with its arguments as they were. -/
theorem inprojs_ref_quiet : Cert.quiescent_InprojSRefIdeal := fun m ρ _ =>
  (θ_run Cert.InprojSRefIdeal.defs _ _).mono
    (fun r h => ⟨fun c => (h c).2.2.2, sem_eq_zero_of_no_sems (by decide) r.2⟩)
    (Cert.InprojSRefIdeal.Value.run (F := Ideal) m ρ)

/-- From equal arguments the sample projection in front of the attention and its reference end with the same arrays. -/
theorem inprojs_equal [Cert.Pre_finite_projection.Facts] : Cert.algebraic_InprojSIdeal_InprojSRefIdeal_pre_finite_projection := by
  intro m ρ m' ρ' hpre hagree
  refine ⟨_, _, _, Cert.InprojSIdeal.Value.run_blocks (F := Ideal) m ρ, ?_⟩
  refine (θ_run Cert.InprojSRefIdeal.defs _ _).mono (fun _ h c => ?_)
    (Cert.InprojSRefIdeal.Value.run (F := Ideal) m' ρ')
  have hf := Cert.InprojSEq.pre_real _ _ _ _ _ (fun i => congrFun (hpre c) i)
  obtain ⟨h0, h1, h2, h3, h4⟩ := hagree c
  refine ⟨?_, ?_, ?_, (h c).2.2.2⟩
  · refine Eq.trans ?_ (Cert.InprojSEq.queries_eq m c hf).symm
    refine ((h c).1.trans (Cert.InprojSRefIdeal.Read.val_main_v118_eq _ _)).trans ?_
    exact congr (congr (congr (congrArg (Cert.InprojSRefIdeal.Read.val_main_v118 (F := Ideal)) h0) h1) h2) h3
  · refine Eq.trans ?_ (Cert.InprojSEq.keys_eq m c hf).symm
    refine ((h c).2.1.trans (Cert.InprojSRefIdeal.Read.val_main_v119_eq _ _)).trans ?_
    exact congr (congr (congr (congrArg (Cert.InprojSRefIdeal.Read.val_main_v119 (F := Ideal)) h0) h1) h2) h4
  · refine Eq.trans ?_ (Cert.InprojSEq.values_eq m c hf).symm
    refine ((h c).2.2.1.trans (Cert.InprojSRefIdeal.Read.val_main_v120_eq _ _ _)).trans ?_
    exact congr (congr (congrArg (Cert.InprojSRefIdeal.Read.val_main_v120 (F := Ideal)) h0) h1) h2

end InprojS

section GmlpS

/-- The reference's sample gating call ends quietly with its arguments as they were. -/
theorem gmlps_ref_quiet : Cert.quiescent_GmlpSRefIdeal := fun m ρ _ =>
  (θ_run Cert.GmlpSRefIdeal.defs _ _).mono
    (fun r h => ⟨fun c => (h c).2.2, sem_eq_zero_of_no_sems (by decide) r.2⟩)
    (Cert.GmlpSRefIdeal.Value.run (F := Ideal) m ρ)

/-- From equal arguments the sample gating call and its reference end with the same arrays. -/
theorem gmlps_equal [Cert.Pre_finite_gating.Facts] : Cert.algebraic_GmlpSIdeal_GmlpSRefIdeal_pre_finite_gating := by
  intro m ρ m' ρ' hpre hagree
  refine ⟨_, _, Cert.GmlpSIdeal.Value.run_blocks (F := Ideal) m ρ, ?_⟩
  refine (θ_run Cert.GmlpSRefIdeal.defs _ _).mono (fun _ h c => ?_)
    (Cert.GmlpSRefIdeal.Value.run (F := Ideal) m' ρ')
  have hf := Cert.GmlpSEq.pre_real _ _ _ _ _ _ (fun i => congrFun (hpre c) i)
  obtain ⟨h0, h1, h2, h3, h4, h5⟩ := hagree c
  refine ⟨?_, ?_, (h c).2.2⟩
  · refine Eq.trans ?_ (Cert.GmlpSEq.gated_eq m c hf).symm
    refine ((h c).1.trans (Cert.GmlpSRefIdeal.Read.val_main_v59_eq _ _)).trans ?_
    exact congr (congr (congr (congr (congr (congrArg (Cert.GmlpSRefIdeal.Read.val_main_v59 (F := Ideal)) h0) h1) h2) h3) h4) h5
  · refine Eq.trans ?_ (Cert.GmlpSEq.normed_eq m c hf).symm
    refine ((h c).2.1.trans (Cert.GmlpSRefIdeal.Read.val_main_v42_eq _ _)).trans ?_
    exact congr (congr (congr (congrArg (Cert.GmlpSRefIdeal.Read.val_main_v42 (F := Ideal)) h0) h1) h2) h3

end GmlpS

/-- Every claim, in the certificate's order. -/
theorem claim : Cert.Claim :=
  ⟨Cert.Moe.Gen.facts, Cert.MoeIdeal.Gen.facts, Cert.MoeRefIdeal.Gen.facts,
    Cert.Merge.Gen.facts, Cert.MergeIdeal.Gen.facts, Cert.MergeRefIdeal.Gen.facts,
    Cert.Dense.Gen.facts, Cert.DenseIdeal.Gen.facts, Cert.DenseRefIdeal.Gen.facts,
    Cert.Ple.Gen.facts, Cert.PleIdeal.Gen.facts, Cert.PleRefIdeal.Gen.facts,
    Cert.Gmlp.Gen.facts, Cert.GmlpIdeal.Gen.facts, Cert.GmlpRefIdeal.Gen.facts,
    Cert.Steps.Gen.facts, Cert.StepsIdeal.Gen.facts, Cert.StepsRefIdeal.Gen.facts,
    Cert.Attn.Gen.facts, Cert.AttnIdeal.Gen.facts, Cert.AttnRefIdeal.Gen.facts,
    Cert.Inproj.Gen.facts, Cert.InprojIdeal.Gen.facts, Cert.InprojRefIdeal.Gen.facts,
    Cert.InprojS.Gen.facts, Cert.InprojSIdeal.Gen.facts, Cert.InprojSRefIdeal.Gen.facts,
    Cert.GmlpS.Gen.facts, Cert.GmlpSIdeal.Gen.facts, Cert.GmlpSRefIdeal.Gen.facts,
    Cert.MoeEq.pre_facts, Cert.StepsEq.pre_facts, Cert.AttnEq.pre_facts, Cert.InprojSEq.pre_facts, Cert.GmlpSEq.pre_facts,
    fun m ρ _ => Cert.Moe.Gen.frame m ρ, fun m ρ _ => Cert.MoeIdeal.Gen.frame m ρ,
    fun m ρ _ => Cert.MoeIdeal.Gen.frame m ρ, moe_ref_quiet, fun m ρ _ => moe_ref_quiet m ρ trivial,
    fun m ρ _ => Cert.Merge.Gen.frame m ρ, fun m ρ _ => Cert.MergeIdeal.Gen.frame m ρ, merge_ref_quiet,
    fun m ρ _ => Cert.Dense.Gen.frame m ρ, fun m ρ _ => Cert.DenseIdeal.Gen.frame m ρ, dense_ref_quiet,
    fun m ρ _ => Cert.Ple.Gen.frame m ρ, fun m ρ _ => Cert.PleIdeal.Gen.frame m ρ, ple_ref_quiet,
    fun m ρ _ => Cert.Gmlp.Gen.frame m ρ, fun m ρ _ => Cert.GmlpIdeal.Gen.frame m ρ, gmlp_ref_quiet,
    fun m ρ _ => Cert.Steps.Gen.frame m ρ, fun m ρ _ => Cert.StepsIdeal.Gen.frame m ρ, fun m ρ _ => Cert.StepsIdeal.Gen.frame m ρ, steps_ref_quiet, fun m ρ _ => steps_ref_quiet m ρ trivial,
    fun m ρ _ => Cert.Attn.Gen.frame m ρ, fun m ρ _ => Cert.AttnIdeal.Gen.frame m ρ, fun m ρ _ => Cert.AttnIdeal.Gen.frame m ρ, attns_ref_quiet, fun m ρ _ => attns_ref_quiet m ρ trivial,
    fun m ρ _ => Cert.Inproj.Gen.frame m ρ, fun m ρ _ => Cert.InprojIdeal.Gen.frame m ρ, inproj_ref_quiet,
    fun m ρ _ => Cert.InprojS.Gen.frame m ρ, fun m ρ _ => Cert.InprojSIdeal.Gen.frame m ρ, fun m ρ _ => Cert.InprojSIdeal.Gen.frame m ρ, inprojs_ref_quiet, fun m ρ _ => inprojs_ref_quiet m ρ trivial,
    fun m ρ _ => Cert.GmlpS.Gen.frame m ρ, fun m ρ _ => Cert.GmlpSIdeal.Gen.frame m ρ, fun m ρ _ => Cert.GmlpSIdeal.Gen.frame m ρ, gmlps_ref_quiet, fun m ρ _ => gmlps_ref_quiet m ρ trivial,
    (trivial : Cert.preserves_Moe_MoeIdeal), @moe_equal Cert.MoeEq.pre_facts,
    (trivial : Cert.preserves_Merge_MergeIdeal), merge_equal,
    (trivial : Cert.preserves_Dense_DenseIdeal), dense_equal,
    (trivial : Cert.preserves_Ple_PleIdeal), ple_equal,
    (trivial : Cert.preserves_Gmlp_GmlpIdeal), gmlp_equal,
    (trivial : Cert.preserves_Steps_StepsIdeal), @steps_equal Cert.StepsEq.pre_facts,
    (trivial : Cert.preserves_Attn_AttnIdeal), @attns_equal Cert.AttnEq.pre_facts,
    (trivial : Cert.preserves_Inproj_InprojIdeal), inproj_equal,
    (trivial : Cert.preserves_InprojS_InprojSIdeal), @inprojs_equal Cert.InprojSEq.pre_facts,
    (trivial : Cert.preserves_GmlpS_GmlpSIdeal), @gmlps_equal Cert.GmlpSEq.pre_facts⟩

end Cert.Proof

end
